-- ==== Defs.lean ====
def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInRefIdeal (m : (ℓ : Loc Cert.UpdateInRefIdeal.nD Cert.UpdateInRefIdeal.τ Cert.UpdateInRefIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutRefIdeal (m : (ℓ : Loc Cert.UpdateOutRefIdeal.nD Cert.UpdateOutRefIdeal.τ Cert.UpdateOutRefIdeal.sig) → Buf (Elt Ideal) ℓ) : Prop :=
  True

def Pre_UpdateGate (m : (ℓ : Loc Cert.UpdateGate.nD Cert.UpdateGate.τ Cert.UpdateGate.sig) → Buf (Elt Bits) ℓ) : Prop :=
  True

def Pre_UpdateGateIdeal (m : (ℓ : Loc Cert.UpdateGateIdeal.nD Cert.UpdateGateIdeal.τ Cert.UpdateGateIdeal.sig) → Buf (Elt Ideal) ℓ) : Prop :=
  True

def Pre_UpdateGateRefIdeal (m : (ℓ : Loc Cert.UpdateGateRefIdeal.nD Cert.UpdateGateRefIdeal.τ Cert.UpdateGateRefIdeal.sig) → Buf (Elt Ideal) ℓ) : Prop :=
  True

def Pre_UpdateDown (m : (ℓ : Loc Cert.UpdateDown.nD Cert.UpdateDown.τ Cert.UpdateDown.sig) → Buf (Elt Bits) ℓ) : Prop :=
  True

def Pre_UpdateDownIdeal (m : (ℓ : Loc Cert.UpdateDownIdeal.nD Cert.UpdateDownIdeal.τ Cert.UpdateDownIdeal.sig) → Buf (Elt Ideal) ℓ) : Prop :=
  True

def Pre_UpdateDownRefIdeal (m : (ℓ : Loc Cert.UpdateDownRefIdeal.nD Cert.UpdateDownRefIdeal.τ Cert.UpdateDownRefIdeal.sig) → Buf (Elt Ideal) ℓ) : Prop :=
  True

def Pre_UpdateNorm (m : (ℓ : Loc Cert.UpdateNorm.nD Cert.UpdateNorm.τ Cert.UpdateNorm.sig) → Buf (Elt Bits) ℓ) : Prop :=
  True

def Pre_UpdateNormIdeal (m : (ℓ : Loc Cert.UpdateNormIdeal.nD Cert.UpdateNormIdeal.τ Cert.UpdateNormIdeal.sig) → Buf (Elt Ideal) ℓ) : Prop :=
  True

def Pre_UpdateNormRefIdeal (m : (ℓ : Loc Cert.UpdateNormRefIdeal.nD Cert.UpdateNormRefIdeal.τ Cert.UpdateNormRefIdeal.sig) → Buf (Elt Ideal) ℓ) : Prop :=
  True

def Pre_UpdateConv (m : (ℓ : Loc Cert.UpdateConv.nD Cert.UpdateConv.τ Cert.UpdateConv.sig) → Buf (Elt Bits) ℓ) : Prop :=
  True

def Pre_UpdateConvIdeal (m : (ℓ : Loc Cert.UpdateConvIdeal.nD Cert.UpdateConvIdeal.τ Cert.UpdateConvIdeal.sig) → Buf (Elt Ideal) ℓ) : Prop :=
  True

def Pre_UpdateConvRefIdeal (m : (ℓ : Loc Cert.UpdateConvRefIdeal.nD Cert.UpdateConvRefIdeal.τ Cert.UpdateConvRefIdeal.sig) → Buf (Elt Ideal) ℓ) : Prop :=
  True

def Pre_UpdateGdn (m : (ℓ : Loc Cert.UpdateGdn.nD Cert.UpdateGdn.τ Cert.UpdateGdn.sig) → Buf (Elt Bits) ℓ) : Prop :=
  True

def Pre_UpdateGdnIdeal (m : (ℓ : Loc Cert.UpdateGdnIdeal.nD Cert.UpdateGdnIdeal.τ Cert.UpdateGdnIdeal.sig) → Buf (Elt Ideal) ℓ) : Prop :=
  True

def Pre_UpdateGdnRefIdeal (m : (ℓ : Loc Cert.UpdateGdnRefIdeal.nD Cert.UpdateGdnRefIdeal.τ Cert.UpdateGdnRefIdeal.sig) → Buf (Elt Ideal) ℓ) : Prop :=
  True

def Pre_UpdateHeads (m : (ℓ : Loc Cert.UpdateHeads.nD Cert.UpdateHeads.τ Cert.UpdateHeads.sig) → Buf (Elt Bits) ℓ) : Prop :=
  True

def Pre_UpdateHeadsIdeal (m : (ℓ : Loc Cert.UpdateHeadsIdeal.nD Cert.UpdateHeadsIdeal.τ Cert.UpdateHeadsIdeal.sig) → Buf (Elt Ideal) ℓ) : Prop :=
  True

def Pre_UpdateHeadsRefIdeal (m : (ℓ : Loc Cert.UpdateHeadsRefIdeal.nD Cert.UpdateHeadsRefIdeal.τ Cert.UpdateHeadsRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumGate (m : (ℓ : Loc Cert.SumGate.nD Cert.SumGate.τ Cert.SumGate.sig) → Buf (Elt Bits) ℓ) : Prop :=
  True

def Pre_SumGateIdeal (m : (ℓ : Loc Cert.SumGateIdeal.nD Cert.SumGateIdeal.τ Cert.SumGateIdeal.sig) → Buf (Elt Ideal) ℓ) : Prop :=
  True

def Pre_SumGateRefIdeal (m : (ℓ : Loc Cert.SumGateRefIdeal.nD Cert.SumGateRefIdeal.τ Cert.SumGateRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_SwigluBack (m : (ℓ : Loc Cert.SwigluBack.nD Cert.SwigluBack.τ Cert.SwigluBack.sig) → Buf (Elt Bits) ℓ) : Prop :=
  True

def Pre_SwigluBackIdeal (m : (ℓ : Loc Cert.SwigluBackIdeal.nD Cert.SwigluBackIdeal.τ Cert.SwigluBackIdeal.sig) → Buf (Elt Ideal) ℓ) : Prop :=
  True

def Pre_SwigluBackRefIdeal (m : (ℓ : Loc Cert.SwigluBackRefIdeal.nD Cert.SwigluBackRefIdeal.τ Cert.SwigluBackRefIdeal.sig) → Buf (Elt Ideal) ℓ) : Prop :=
  True

def Pre_MmProj (m : (ℓ : Loc Cert.MmProj.nD Cert.MmProj.τ Cert.MmProj.sig) → Buf (Elt Bits) ℓ) : Prop :=
  True

def Pre_MmProjIdeal (m : (ℓ : Loc Cert.MmProjIdeal.nD Cert.MmProjIdeal.τ Cert.MmProjIdeal.sig) → Buf (Elt Ideal) ℓ) : Prop :=
  True

def Pre_MmProjRefIdeal (m : (ℓ : Loc Cert.MmProjRefIdeal.nD Cert.MmProjRefIdeal.τ Cert.MmProjRefIdeal.sig) → Buf (Elt Ideal) ℓ) : Prop :=
  True

def Pre_MmProjSmall (m : (ℓ : Loc Cert.MmProjSmall.nD Cert.MmProjSmall.τ Cert.MmProjSmall.sig) → Buf (Elt Bits) ℓ) : Prop :=
  True

def Pre_MmProjSmallIdeal (m : (ℓ : Loc Cert.MmProjSmallIdeal.nD Cert.MmProjSmallIdeal.τ Cert.MmProjSmallIdeal.sig) → Buf (Elt Ideal) ℓ) : Prop :=
  True

def Pre_MmProjSmallRefIdeal (m : (ℓ : Loc Cert.MmProjSmallRefIdeal.nD Cert.MmProjSmallRefIdeal.τ Cert.MmProjSmallRefIdeal.sig) → Buf (Elt Ideal) ℓ) : Prop :=
  True

def Pre_MmGate (m : (ℓ : Loc Cert.MmGate.nD Cert.MmGate.τ Cert.MmGate.sig) → Buf (Elt Bits) ℓ) : Prop :=
  True

def Pre_MmGateIdeal (m : (ℓ : Loc Cert.MmGateIdeal.nD Cert.MmGateIdeal.τ Cert.MmGateIdeal.sig) → Buf (Elt Ideal) ℓ) : Prop :=
  True

def Pre_MmGateRefIdeal (m : (ℓ : Loc Cert.MmGateRefIdeal.nD Cert.MmGateRefIdeal.τ Cert.MmGateRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_MmDact (m : (ℓ : Loc Cert.MmDact.nD Cert.MmDact.τ Cert.MmDact.sig) → Buf (Elt Bits) ℓ) : Prop :=
  True

def Pre_MmDactIdeal (m : (ℓ : Loc Cert.MmDactIdeal.nD Cert.MmDactIdeal.τ Cert.MmDactIdeal.sig) → Buf (Elt Ideal) ℓ) : Prop :=
  True

def Pre_MmDactRefIdeal (m : (ℓ : Loc Cert.MmDactRefIdeal.nD Cert.MmDactRefIdeal.τ Cert.MmDactRefIdeal.sig) → Buf (Elt Ideal) ℓ) : Prop :=
  True

def Pre_MmHnGate (m : (ℓ : Loc Cert.MmHnGate.nD Cert.MmHnGate.τ Cert.MmHnGate.sig) → Buf (Elt Bits) ℓ) : Prop :=
  True

def Pre_MmHnGateIdeal (m : (ℓ : Loc Cert.MmHnGateIdeal.nD Cert.MmHnGateIdeal.τ Cert.MmHnGateIdeal.sig) → Buf (Elt Ideal) ℓ) : Prop :=
  True

def Pre_MmHnGateRefIdeal (m : (ℓ : Loc Cert.MmHnGateRefIdeal.nD Cert.MmHnGateRefIdeal.τ Cert.MmHnGateRefIdeal.sig) → Buf (Elt Ideal) ℓ) : Prop :=
  True

def Pre_MmMix (m : (ℓ : Loc Cert.MmMix.nD Cert.MmMix.τ Cert.MmMix.sig) → Buf (Elt Bits) ℓ) : Prop :=
  True

def Pre_MmMixIdeal (m : (ℓ : Loc Cert.MmMixIdeal.nD Cert.MmMixIdeal.τ Cert.MmMixIdeal.sig) → Buf (Elt Ideal) ℓ) : Prop :=
  True

def Pre_MmMixRefIdeal (m : (ℓ : Loc Cert.MmMixRefIdeal.nD Cert.MmMixRefIdeal.τ Cert.MmMixRefIdeal.sig) → Buf (Elt Ideal) ℓ) : Prop :=
  True

def Pre_MmDu (m : (ℓ : Loc Cert.MmDu.nD Cert.MmDu.τ Cert.MmDu.sig) → Buf (Elt Bits) ℓ) : Prop :=
  True

def Pre_MmDuIdeal (m : (ℓ : Loc Cert.MmDuIdeal.nD Cert.MmDuIdeal.τ Cert.MmDuIdeal.sig) → Buf (Elt Ideal) ℓ) : Prop :=
  True

def Pre_MmDuRefIdeal (m : (ℓ : Loc Cert.MmDuRefIdeal.nD Cert.MmDuRefIdeal.τ Cert.MmDuRefIdeal.sig) → Buf (Elt Ideal) ℓ) : Prop :=
  True

def Pre_MmHnUp (m : (ℓ : Loc Cert.MmHnUp.nD Cert.MmHnUp.τ Cert.MmHnUp.sig) → Buf (Elt Bits) ℓ) : Prop :=
  True

def Pre_MmHnUpIdeal (m : (ℓ : Loc Cert.MmHnUpIdeal.nD Cert.MmHnUpIdeal.τ Cert.MmHnUpIdeal.sig) → Buf (Elt Ideal) ℓ) : Prop :=
  True

def Pre_MmHnUpRefIdeal (m : (ℓ : Loc Cert.MmHnUpRefIdeal.nD Cert.MmHnUpRefIdeal.τ Cert.MmHnUpRefIdeal.sig) → Buf (Elt Ideal) ℓ) : Prop :=
  True

def Pre_MmDuSmall (m : (ℓ : Loc Cert.MmDuSmall.nD Cert.MmDuSmall.τ Cert.MmDuSmall.sig) → Buf (Elt Bits) ℓ) : Prop :=
  True

def Pre_MmDuSmallIdeal (m : (ℓ : Loc Cert.MmDuSmallIdeal.nD Cert.MmDuSmallIdeal.τ Cert.MmDuSmallIdeal.sig) → Buf (Elt Ideal) ℓ) : Prop :=
  True

def Pre_MmDuSmallRefIdeal (m : (ℓ : Loc Cert.MmDuSmallRefIdeal.nD Cert.MmDuSmallRefIdeal.τ Cert.MmDuSmallRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwInSmall (m : (ℓ : Loc Cert.DwInSmall.nD Cert.DwInSmall.τ Cert.DwInSmall.sig) → Buf (Elt Bits) ℓ) : Prop :=
  True

def Pre_DwInSmallIdeal (m : (ℓ : Loc Cert.DwInSmallIdeal.nD Cert.DwInSmallIdeal.τ Cert.DwInSmallIdeal.sig) → Buf (Elt Ideal) ℓ) : Prop :=
  True

def Pre_DwInSmallRefIdeal (m : (ℓ : Loc Cert.DwInSmallRefIdeal.nD Cert.DwInSmallRefIdeal.τ Cert.DwInSmallRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_RmsBack (m : (ℓ : Loc Cert.RmsBack.nD Cert.RmsBack.τ Cert.RmsBack.sig) → Buf (Elt Bits) ℓ) : Prop :=
  True

def Pre_RmsBackIdeal (m : (ℓ : Loc Cert.RmsBackIdeal.nD Cert.RmsBackIdeal.τ Cert.RmsBackIdeal.sig) → Buf (Elt Ideal) ℓ) : Prop :=
  True

def Pre_RmsBackRefIdeal (m : (ℓ : Loc Cert.RmsBackRefIdeal.nD Cert.RmsBackRefIdeal.τ Cert.RmsBackRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_GatesBack (m : (ℓ : Loc Cert.GatesBack.nD Cert.GatesBack.τ Cert.GatesBack.sig) → Buf (Elt Bits) ℓ) : Prop :=
  True

def Pre_GatesBackIdeal (m : (ℓ : Loc Cert.GatesBackIdeal.nD Cert.GatesBackIdeal.τ Cert.GatesBackIdeal.sig) → Buf (Elt Ideal) ℓ) : Prop :=
  True

def Pre_GatesBackRefIdeal (m : (ℓ : Loc Cert.GatesBackRefIdeal.nD Cert.GatesBackRefIdeal.τ Cert.GatesBackRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBack (m : (ℓ : Loc Cert.MergeBack.nD Cert.MergeBack.τ Cert.MergeBack.sig) → Buf (Elt Bits) ℓ) : Prop :=
  True

def Pre_MergeBackIdeal (m : (ℓ : Loc Cert.MergeBackIdeal.nD Cert.MergeBackIdeal.τ Cert.MergeBackIdeal.sig) → Buf (Elt Ideal) ℓ) : Prop :=
  True

def Pre_MergeBackRefIdeal (m : (ℓ : Loc Cert.MergeBackRefIdeal.nD Cert.MergeBackRefIdeal.τ Cert.MergeBackRefIdeal.sig) → Buf (Elt Ideal) ℓ) : Prop :=
  True

def Pre_ConvPre (m : (ℓ : Loc Cert.ConvPre.nD Cert.ConvPre.τ Cert.ConvPre.sig) → Buf (Elt Bits) ℓ) : Prop :=
  True

def Pre_ConvPreIdeal (m : (ℓ : Loc Cert.ConvPreIdeal.nD Cert.ConvPreIdeal.τ Cert.ConvPreIdeal.sig) → Buf (Elt Ideal) ℓ) : Prop :=
  True

def Pre_ConvPreRefIdeal (m : (ℓ : Loc Cert.ConvPreRefIdeal.nD Cert.ConvPreRefIdeal.τ Cert.ConvPreRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_PairOut [hPre_a_core : Cert.Pre_a_core.Facts] (m : (ℓ : Loc Cert.PairOut.nD Cert.PairOut.τ Cert.PairOut.sig) → Buf (Elt Bits) ℓ) : Prop :=
  ∀ c : Dev Cert.PairOut.nD,
    (Cert.Pre_a_core.fn (F := Bits) (m ((c.tc : Thread Cert.PairOut.nD Cert.PairOut.τ).loc Cert.PairOut.main_arg0)) (m ((c.tc : Thread Cert.PairOut.nD Cert.PairOut.τ).loc Cert.PairOut.main_arg1)) (m ((c.tc : Thread Cert.PairOut.nD Cert.PairOut.τ).loc Cert.PairOut.main_arg2))) = (fun _ => 1#1)

def Pre_PairOutIdeal [hPre_a_core : Cert.Pre_a_core.Facts] (m : (ℓ : Loc Cert.PairOutIdeal.nD Cert.PairOutIdeal.τ Cert.PairOutIdeal.sig) → Buf (Elt Ideal) ℓ) : Prop :=
  ∀ c : Dev Cert.PairOutIdeal.nD,
    (Cert.Pre_a_core.fn (F := Ideal) (m ((c.tc : Thread Cert.PairOutIdeal.nD Cert.PairOutIdeal.τ).loc Cert.PairOutIdeal.main_arg0)) (m ((c.tc : Thread Cert.PairOutIdeal.nD Cert.PairOutIdeal.τ).loc Cert.PairOutIdeal.main_arg1)) (m ((c.tc : Thread Cert.PairOutIdeal.nD Cert.PairOutIdeal.τ).loc Cert.PairOutIdeal.main_arg2))) = (fun _ => 1#1)

def Pre_PairOutRefIdeal (m : (ℓ : Loc Cert.PairOutRefIdeal.nD Cert.PairOutRefIdeal.τ Cert.PairOutRefIdeal.sig) → Buf (Elt Ideal) ℓ) : Prop :=
  True

def Pre_PairOutRefIdeal_a_core [hPre_a_core : Cert.Pre_a_core.Facts] (m : (ℓ : Loc Cert.PairOutRefIdeal.nD Cert.PairOutRefIdeal.τ Cert.PairOutRefIdeal.sig) → Buf (Elt Ideal) ℓ) : Prop :=
  ∀ c : Dev Cert.PairOutRefIdeal.nD,
    (Cert.Pre_a_core.fn (F := Ideal) (m ((c.tc : Thread Cert.PairOutRefIdeal.nD Cert.PairOutRefIdeal.τ).loc Cert.PairOutRefIdeal.main_arg0)) (m ((c.tc : Thread Cert.PairOutRefIdeal.nD Cert.PairOutRefIdeal.τ).loc Cert.PairOutRefIdeal.main_arg1)) (m ((c.tc : Thread Cert.PairOutRefIdeal.nD Cert.PairOutRefIdeal.τ).loc Cert.PairOutRefIdeal.main_arg2))) = (fun _ => 1#1)

def Pre_PairIn [hPre_a_core_in : Cert.Pre_a_core_in.Facts] (m : (ℓ : Loc Cert.PairIn.nD Cert.PairIn.τ Cert.PairIn.sig) → Buf (Elt Bits) ℓ) : Prop :=
  ∀ c : Dev Cert.PairIn.nD,
    (Cert.Pre_a_core_in.fn (F := Bits) (m ((c.tc : Thread Cert.PairIn.nD Cert.PairIn.τ).loc Cert.PairIn.main_arg0)) (m ((c.tc : Thread Cert.PairIn.nD Cert.PairIn.τ).loc Cert.PairIn.main_arg1)) (m ((c.tc : Thread Cert.PairIn.nD Cert.PairIn.τ).loc Cert.PairIn.main_arg2))) = (fun _ => 1#1)

def Pre_PairInIdeal [hPre_a_core_in : Cert.Pre_a_core_in.Facts] (m : (ℓ : Loc Cert.PairInIdeal.nD Cert.PairInIdeal.τ Cert.PairInIdeal.sig) → Buf (Elt Ideal) ℓ) : Prop :=
  ∀ c : Dev Cert.PairInIdeal.nD,
    (Cert.Pre_a_core_in.fn (F := Ideal) (m ((c.tc : Thread Cert.PairInIdeal.nD Cert.PairInIdeal.τ).loc Cert.PairInIdeal.main_arg0)) (m ((c.tc : Thread Cert.PairInIdeal.nD Cert.PairInIdeal.τ).loc Cert.PairInIdeal.main_arg1)) (m ((c.tc : Thread Cert.PairInIdeal.nD Cert.PairInIdeal.τ).loc Cert.PairInIdeal.main_arg2))) = (fun _ => 1#1)

def Pre_PairInRefIdeal (m : (ℓ : Loc Cert.PairInRefIdeal.nD Cert.PairInRefIdeal.τ Cert.PairInRefIdeal.sig) → Buf (Elt Ideal) ℓ) : Prop :=
  True

def Pre_PairInRefIdeal_a_core_in [hPre_a_core_in : Cert.Pre_a_core_in.Facts] (m : (ℓ : Loc Cert.PairInRefIdeal.nD Cert.PairInRefIdeal.τ Cert.PairInRefIdeal.sig) → Buf (Elt Ideal) ℓ) : Prop :=
  ∀ c : Dev Cert.PairInRefIdeal.nD,
    (Cert.Pre_a_core_in.fn (F := Ideal) (m ((c.tc : Thread Cert.PairInRefIdeal.nD Cert.PairInRefIdeal.τ).loc Cert.PairInRefIdeal.main_arg0)) (m ((c.tc : Thread Cert.PairInRefIdeal.nD Cert.PairInRefIdeal.τ).loc Cert.PairInRefIdeal.main_arg1)) (m ((c.tc : Thread Cert.PairInRefIdeal.nD Cert.PairInRefIdeal.τ).loc Cert.PairInRefIdeal.main_arg2))) = (fun _ => 1#1)

def Pre_PairGate [hPre_a_core_gate : Cert.Pre_a_core_gate.Facts] (m : (ℓ : Loc Cert.PairGate.nD Cert.PairGate.τ Cert.PairGate.sig) → Buf (Elt Bits) ℓ) : Prop :=
  ∀ c : Dev Cert.PairGate.nD,
    (Cert.Pre_a_core_gate.fn (F := Bits) (m ((c.tc : Thread Cert.PairGate.nD Cert.PairGate.τ).loc Cert.PairGate.main_arg0)) (m ((c.tc : Thread Cert.PairGate.nD Cert.PairGate.τ).loc Cert.PairGate.main_arg1)) (m ((c.tc : Thread Cert.PairGate.nD Cert.PairGate.τ).loc Cert.PairGate.main_arg2))) = (fun _ => 1#1)

def Pre_PairGateIdeal [hPre_a_core_gate : Cert.Pre_a_core_gate.Facts] (m : (ℓ : Loc Cert.PairGateIdeal.nD Cert.PairGateIdeal.τ Cert.PairGateIdeal.sig) → Buf (Elt Ideal) ℓ) : Prop :=
  ∀ c : Dev Cert.PairGateIdeal.nD,
    (Cert.Pre_a_core_gate.fn (F := Ideal) (m ((c.tc : Thread Cert.PairGateIdeal.nD Cert.PairGateIdeal.τ).loc Cert.PairGateIdeal.main_arg0)) (m ((c.tc : Thread Cert.PairGateIdeal.nD Cert.PairGateIdeal.τ).loc Cert.PairGateIdeal.main_arg1)) (m ((c.tc : Thread Cert.PairGateIdeal.nD Cert.PairGateIdeal.τ).loc Cert.PairGateIdeal.main_arg2))) = (fun _ => 1#1)

def Pre_PairGateRefIdeal (m : (ℓ : Loc Cert.PairGateRefIdeal.nD Cert.PairGateRefIdeal.τ Cert.PairGateRefIdeal.sig) → Buf (Elt Ideal) ℓ) : Prop :=
  True

def Pre_PairGateRefIdeal_a_core_gate [hPre_a_core_gate : Cert.Pre_a_core_gate.Facts] (m : (ℓ : Loc Cert.PairGateRefIdeal.nD Cert.PairGateRefIdeal.τ Cert.PairGateRefIdeal.sig) → Buf (Elt Ideal) ℓ) : Prop :=
  ∀ c : Dev Cert.PairGateRefIdeal.nD,
    (Cert.Pre_a_core_gate.fn (F := Ideal) (m ((c.tc : Thread Cert.PairGateRefIdeal.nD Cert.PairGateRefIdeal.τ).loc Cert.PairGateRefIdeal.main_arg0)) (m ((c.tc : Thread Cert.PairGateRefIdeal.nD Cert.PairGateRefIdeal.τ).loc Cert.PairGateRefIdeal.main_arg1)) (m ((c.tc : Thread Cert.PairGateRefIdeal.nD Cert.PairGateRefIdeal.τ).loc Cert.PairGateRefIdeal.main_arg2))) = (fun _ => 1#1)

def Pre_PairDown [hPre_a_core_down : Cert.Pre_a_core_down.Facts] (m : (ℓ : Loc Cert.PairDown.nD Cert.PairDown.τ Cert.PairDown.sig) → Buf (Elt Bits) ℓ) : Prop :=
  ∀ c : Dev Cert.PairDown.nD,
    (Cert.Pre_a_core_down.fn (F := Bits) (m ((c.tc : Thread Cert.PairDown.nD Cert.PairDown.τ).loc Cert.PairDown.main_arg0)) (m ((c.tc : Thread Cert.PairDown.nD Cert.PairDown.τ).loc Cert.PairDown.main_arg1)) (m ((c.tc : Thread Cert.PairDown.nD Cert.PairDown.τ).loc Cert.PairDown.main_arg2))) = (fun _ => 1#1)

def Pre_PairDownIdeal [hPre_a_core_down : Cert.Pre_a_core_down.Facts] (m : (ℓ : Loc Cert.PairDownIdeal.nD Cert.PairDownIdeal.τ Cert.PairDownIdeal.sig) → Buf (Elt Ideal) ℓ) : Prop :=
  ∀ c : Dev Cert.PairDownIdeal.nD,
    (Cert.Pre_a_core_down.fn (F := Ideal) (m ((c.tc : Thread Cert.PairDownIdeal.nD Cert.PairDownIdeal.τ).loc Cert.PairDownIdeal.main_arg0)) (m ((c.tc : Thread Cert.PairDownIdeal.nD Cert.PairDownIdeal.τ).loc Cert.PairDownIdeal.main_arg1)) (m ((c.tc : Thread Cert.PairDownIdeal.nD Cert.PairDownIdeal.τ).loc Cert.PairDownIdeal.main_arg2))) = (fun _ => 1#1)

def Pre_PairDownRefIdeal (m : (ℓ : Loc Cert.PairDownRefIdeal.nD Cert.PairDownRefIdeal.τ Cert.PairDownRefIdeal.sig) → Buf (Elt Ideal) ℓ) : Prop :=
  True

def Pre_PairDownRefIdeal_a_core_down [hPre_a_core_down : Cert.Pre_a_core_down.Facts] (m : (ℓ : Loc Cert.PairDownRefIdeal.nD Cert.PairDownRefIdeal.τ Cert.PairDownRefIdeal.sig) → Buf (Elt Ideal) ℓ) : Prop :=
  ∀ c : Dev Cert.PairDownRefIdeal.nD,
    (Cert.Pre_a_core_down.fn (F := Ideal) (m ((c.tc : Thread Cert.PairDownRefIdeal.nD Cert.PairDownRefIdeal.τ).loc Cert.PairDownRefIdeal.main_arg0)) (m ((c.tc : Thread Cert.PairDownRefIdeal.nD Cert.PairDownRefIdeal.τ).loc Cert.PairDownRefIdeal.main_arg1)) (m ((c.tc : Thread Cert.PairDownRefIdeal.nD Cert.PairDownRefIdeal.τ).loc Cert.PairDownRefIdeal.main_arg2))) = (fun _ => 1#1)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1)
      ∧ r.2.mem ((c.tc : Thread Cert.Exchange.nD Cert.Exchange.τ).loc Cert.Exchange.main_arg2) = m ((c.tc : Thread Cert.Exchange.nD Cert.Exchange.τ).loc Cert.Exchange.main_arg2)
      ∧ r.2.mem ((c.tc : Thread Cert.Exchange.nD Cert.Exchange.τ).loc Cert.Exchange.main_arg3) = m ((c.tc : Thread Cert.Exchange.nD Cert.Exchange.τ).loc Cert.Exchange.main_arg3)
      ∧ r.2.mem ((c.tc : Thread Cert.Exchange.nD Cert.Exchange.τ).loc Cert.Exchange.main_arg4) = m ((c.tc : Thread Cert.Exchange.nD Cert.Exchange.τ).loc Cert.Exchange.main_arg4))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
      ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
      ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
      ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0)
      ∧ r.2.mem ((c.tc : Thread Cert.ExchangeRefIdeal.nD Cert.ExchangeRefIdeal.τ).loc Cert.ExchangeRefIdeal.main_arg1) = m ((c.tc : Thread Cert.ExchangeRefIdeal.nD Cert.ExchangeRefIdeal.τ).loc Cert.ExchangeRefIdeal.main_arg1)
      ∧ r.2.mem ((c.tc : Thread Cert.ExchangeRefIdeal.nD Cert.ExchangeRefIdeal.τ).loc Cert.ExchangeRefIdeal.main_arg2) = m ((c.tc : Thread Cert.ExchangeRefIdeal.nD Cert.ExchangeRefIdeal.τ).loc Cert.ExchangeRefIdeal.main_arg2)
      ∧ r.2.mem ((c.tc : Thread Cert.ExchangeRefIdeal.nD Cert.ExchangeRefIdeal.τ).loc Cert.ExchangeRefIdeal.main_arg3) = m ((c.tc : Thread Cert.ExchangeRefIdeal.nD Cert.ExchangeRefIdeal.τ).loc Cert.ExchangeRefIdeal.main_arg3)
      ∧ r.2.mem ((c.tc : Thread Cert.ExchangeRefIdeal.nD Cert.ExchangeRefIdeal.τ).loc Cert.ExchangeRefIdeal.main_arg4) = m ((c.tc : Thread Cert.ExchangeRefIdeal.nD Cert.ExchangeRefIdeal.τ).loc Cert.ExchangeRefIdeal.main_arg4))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0)
      ∧ r.2.mem ((c.tc : Thread Cert.ExchangeRef.nD Cert.ExchangeRef.τ).loc Cert.ExchangeRef.main_arg1) = m ((c.tc : Thread Cert.ExchangeRef.nD Cert.ExchangeRef.τ).loc Cert.ExchangeRef.main_arg1)
      ∧ r.2.mem ((c.tc : Thread Cert.ExchangeRef.nD Cert.ExchangeRef.τ).loc Cert.ExchangeRef.main_arg2) = m ((c.tc : Thread Cert.ExchangeRef.nD Cert.ExchangeRef.τ).loc Cert.ExchangeRef.main_arg2)
      ∧ r.2.mem ((c.tc : Thread Cert.ExchangeRef.nD Cert.ExchangeRef.τ).loc Cert.ExchangeRef.main_arg3) = m ((c.tc : Thread Cert.ExchangeRef.nD Cert.ExchangeRef.τ).loc Cert.ExchangeRef.main_arg3)
      ∧ r.2.mem ((c.tc : Thread Cert.ExchangeRef.nD Cert.ExchangeRef.τ).loc Cert.ExchangeRef.main_arg4) = m ((c.tc : Thread Cert.ExchangeRef.nD Cert.ExchangeRef.τ).loc Cert.ExchangeRef.main_arg4))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3)
      ∧ r.2.mem ((c.tc : Thread Cert.Scatter.nD Cert.Scatter.τ).loc Cert.Scatter.main_arg4) = m ((c.tc : Thread Cert.Scatter.nD Cert.Scatter.τ).loc Cert.Scatter.main_arg4))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
      ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3)
      ∧ r.2.mem ((c.tc : Thread Cert.ScatterRefIdeal.nD Cert.ScatterRefIdeal.τ).loc Cert.ScatterRefIdeal.main_arg4) = m ((c.tc : Thread Cert.ScatterRefIdeal.nD Cert.ScatterRefIdeal.τ).loc Cert.ScatterRefIdeal.main_arg4))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0)
      ∧ r.2.mem ((c.tc : Thread Cert.ScatterRef.nD Cert.ScatterRef.τ).loc Cert.ScatterRef.main_arg1) = m ((c.tc : Thread Cert.ScatterRef.nD Cert.ScatterRef.τ).loc Cert.ScatterRef.main_arg1)
      ∧ r.2.mem ((c.tc : Thread Cert.ScatterRef.nD Cert.ScatterRef.τ).loc Cert.ScatterRef.main_arg2) = m ((c.tc : Thread Cert.ScatterRef.nD Cert.ScatterRef.τ).loc Cert.ScatterRef.main_arg2)
      ∧ r.2.mem ((c.tc : Thread Cert.ScatterRef.nD Cert.ScatterRef.τ).loc Cert.ScatterRef.main_arg3) = m ((c.tc : Thread Cert.ScatterRef.nD Cert.ScatterRef.τ).loc Cert.ScatterRef.main_arg3)
      ∧ r.2.mem ((c.tc : Thread Cert.ScatterRef.nD Cert.ScatterRef.τ).loc Cert.ScatterRef.main_arg4) = m ((c.tc : Thread Cert.ScatterRef.nD Cert.ScatterRef.τ).loc Cert.ScatterRef.main_arg4))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0)
      ∧ r.2.mem ((c.tc : Thread Cert.Share.nD Cert.Share.τ).loc Cert.Share.main_arg1) = m ((c.tc : Thread Cert.Share.nD Cert.Share.τ).loc Cert.Share.main_arg1)
      ∧ r.2.mem ((c.tc : Thread Cert.Share.nD Cert.Share.τ).loc Cert.Share.main_arg2) = m ((c.tc : Thread Cert.Share.nD Cert.Share.τ).loc Cert.Share.main_arg2)
      ∧ r.2.mem ((c.tc : Thread Cert.Share.nD Cert.Share.τ).loc Cert.Share.main_arg3) = m ((c.tc : Thread Cert.Share.nD Cert.Share.τ).loc Cert.Share.main_arg3)
      ∧ r.2.mem ((c.tc : Thread Cert.Share.nD Cert.Share.τ).loc Cert.Share.main_arg4) = m ((c.tc : Thread Cert.Share.nD Cert.Share.τ).loc Cert.Share.main_arg4))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
      ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
      ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
      ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
      ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0)
      ∧ r.2.mem ((c.tc : Thread Cert.ShareRefIdeal.nD Cert.ShareRefIdeal.τ).loc Cert.ShareRefIdeal.main_arg1) = m ((c.tc : Thread Cert.ShareRefIdeal.nD Cert.ShareRefIdeal.τ).loc Cert.ShareRefIdeal.main_arg1)
      ∧ r.2.mem ((c.tc : Thread Cert.ShareRefIdeal.nD Cert.ShareRefIdeal.τ).loc Cert.ShareRefIdeal.main_arg2) = m ((c.tc : Thread Cert.ShareRefIdeal.nD Cert.ShareRefIdeal.τ).loc Cert.ShareRefIdeal.main_arg2)
      ∧ r.2.mem ((c.tc : Thread Cert.ShareRefIdeal.nD Cert.ShareRefIdeal.τ).loc Cert.ShareRefIdeal.main_arg3) = m ((c.tc : Thread Cert.ShareRefIdeal.nD Cert.ShareRefIdeal.τ).loc Cert.ShareRefIdeal.main_arg3)
      ∧ r.2.mem ((c.tc : Thread Cert.ShareRefIdeal.nD Cert.ShareRefIdeal.τ).loc Cert.ShareRefIdeal.main_arg4) = m ((c.tc : Thread Cert.ShareRefIdeal.nD Cert.ShareRefIdeal.τ).loc Cert.ShareRefIdeal.main_arg4))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0)
      ∧ r.2.mem ((c.tc : Thread Cert.ShareRef.nD Cert.ShareRef.τ).loc Cert.ShareRef.main_arg1) = m ((c.tc : Thread Cert.ShareRef.nD Cert.ShareRef.τ).loc Cert.ShareRef.main_arg1)
      ∧ r.2.mem ((c.tc : Thread Cert.ShareRef.nD Cert.ShareRef.τ).loc Cert.ShareRef.main_arg2) = m ((c.tc : Thread Cert.ShareRef.nD Cert.ShareRef.τ).loc Cert.ShareRef.main_arg2)
      ∧ r.2.mem ((c.tc : Thread Cert.ShareRef.nD Cert.ShareRef.τ).loc Cert.ShareRef.main_arg3) = m ((c.tc : Thread Cert.ShareRef.nD Cert.ShareRef.τ).loc Cert.ShareRef.main_arg3)
      ∧ r.2.mem ((c.tc : Thread Cert.ShareRef.nD Cert.ShareRef.τ).loc Cert.ShareRef.main_arg4) = m ((c.tc : Thread Cert.ShareRef.nD Cert.ShareRef.τ).loc Cert.ShareRef.main_arg4))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdateInRefIdeal [hUpdateInRefIdeal : Cert.UpdateInRefIdeal.Facts] : Prop :=
  ∀ (m : (ℓ : Loc Cert.UpdateInRefIdeal.nD Cert.UpdateInRefIdeal.τ Cert.UpdateInRefIdeal.sig) → Buf (Elt Ideal) ℓ) (g : Dev Cert.UpdateInRefIdeal.nD → PrngReg), Pre_UpdateInRefIdeal m →
    θ_run (Cert.UpdateInRefIdeal.defs (F := Ideal)) (onTc (τ := Cert.UpdateInRefIdeal.τ) (Cert.UpdateInRefIdeal.main (F := Ideal))) ⟨m, fun _ => 0, g⟩ (fun r => (∀ c : Dev Cert.UpdateInRefIdeal.nD,
      r.2.mem ((c.tc : Thread Cert.UpdateInRefIdeal.nD Cert.UpdateInRefIdeal.τ).loc Cert.UpdateInRefIdeal.main_arg0) = m ((c.tc : Thread Cert.UpdateInRefIdeal.nD Cert.UpdateInRefIdeal.τ).loc Cert.UpdateInRefIdeal.main_arg0)
      ∧ r.2.mem ((c.tc : Thread Cert.UpdateInRefIdeal.nD Cert.UpdateInRefIdeal.τ).loc Cert.UpdateInRefIdeal.main_arg1) = m ((c.tc : Thread Cert.UpdateInRefIdeal.nD Cert.UpdateInRefIdeal.τ).loc Cert.UpdateInRefIdeal.main_arg1)
      ∧ r.2.mem ((c.tc : Thread Cert.UpdateInRefIdeal.nD Cert.UpdateInRefIdeal.τ).loc Cert.UpdateInRefIdeal.main_arg2) = m ((c.tc : Thread Cert.UpdateInRefIdeal.nD Cert.UpdateInRefIdeal.τ).loc Cert.UpdateInRefIdeal.main_arg2)
      ∧ r.2.mem ((c.tc : Thread Cert.UpdateInRefIdeal.nD Cert.UpdateInRefIdeal.τ).loc Cert.UpdateInRefIdeal.main_arg3) = m ((c.tc : Thread Cert.UpdateInRefIdeal.nD Cert.UpdateInRefIdeal.τ).loc Cert.UpdateInRefIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutRefIdeal [hUpdateOutRefIdeal : Cert.UpdateOutRefIdeal.Facts] : Prop :=
  ∀ (m : (ℓ : Loc Cert.UpdateOutRefIdeal.nD Cert.UpdateOutRefIdeal.τ Cert.UpdateOutRefIdeal.sig) → Buf (Elt Ideal) ℓ) (g : Dev Cert.UpdateOutRefIdeal.nD → PrngReg), Pre_UpdateOutRefIdeal m →
    θ_run (Cert.UpdateOutRefIdeal.defs (F := Ideal)) (onTc (τ := Cert.UpdateOutRefIdeal.τ) (Cert.UpdateOutRefIdeal.main (F := Ideal))) ⟨m, fun _ => 0, g⟩ (fun r => (∀ c : Dev Cert.UpdateOutRefIdeal.nD,
      r.2.mem ((c.tc : Thread Cert.UpdateOutRefIdeal.nD Cert.UpdateOutRefIdeal.τ).loc Cert.UpdateOutRefIdeal.main_arg0) = m ((c.tc : Thread Cert.UpdateOutRefIdeal.nD Cert.UpdateOutRefIdeal.τ).loc Cert.UpdateOutRefIdeal.main_arg0)
      ∧ r.2.mem ((c.tc : Thread Cert.UpdateOutRefIdeal.nD Cert.UpdateOutRefIdeal.τ).loc Cert.UpdateOutRefIdeal.main_arg1) = m ((c.tc : Thread Cert.UpdateOutRefIdeal.nD Cert.UpdateOutRefIdeal.τ).loc Cert.UpdateOutRefIdeal.main_arg1)
      ∧ r.2.mem ((c.tc : Thread Cert.UpdateOutRefIdeal.nD Cert.UpdateOutRefIdeal.τ).loc Cert.UpdateOutRefIdeal.main_arg2) = m ((c.tc : Thread Cert.UpdateOutRefIdeal.nD Cert.UpdateOutRefIdeal.τ).loc Cert.UpdateOutRefIdeal.main_arg2)
      ∧ r.2.mem ((c.tc : Thread Cert.UpdateOutRefIdeal.nD Cert.UpdateOutRefIdeal.τ).loc Cert.UpdateOutRefIdeal.main_arg3) = m ((c.tc : Thread Cert.UpdateOutRefIdeal.nD Cert.UpdateOutRefIdeal.τ).loc Cert.UpdateOutRefIdeal.main_arg3))
      ∧ r.2.sem = fun _ => 0)

def quiescent_UpdateGate [hUpdateGate : Cert.UpdateGate.Facts] : Prop :=
  ∀ (m : (ℓ : Loc Cert.UpdateGate.nD Cert.UpdateGate.τ Cert.UpdateGate.sig) → Buf (Elt Bits) ℓ) (g : Dev Cert.UpdateGate.nD → PrngReg), Pre_UpdateGate m →
    θ_run (Cert.UpdateGate.defs (F := Bits)) (onTc (τ := Cert.UpdateGate.τ) (Cert.UpdateGate.main (F := Bits))) ⟨m, fun _ => 0, g⟩ (fun r => (∀ c : Dev Cert.UpdateGate.nD,
      r.2.mem ((c.tc : Thread Cert.UpdateGate.nD Cert.UpdateGate.τ).loc Cert.UpdateGate.main_arg0) = m ((c.tc : Thread Cert.UpdateGate.nD Cert.UpdateGate.τ).loc Cert.UpdateGate.main_arg0)
      ∧ r.2.mem ((c.tc : Thread Cert.UpdateGate.nD Cert.UpdateGate.τ).loc Cert.UpdateGate.main_arg1) = m ((c.tc : Thread Cert.UpdateGate.nD Cert.UpdateGate.τ).loc Cert.UpdateGate.main_arg1)
      ∧ r.2.mem ((c.tc : Thread Cert.UpdateGate.nD Cert.UpdateGate.τ).loc Cert.UpdateGate.main_arg2) = m ((c.tc : Thread Cert.UpdateGate.nD Cert.UpdateGate.τ).loc Cert.UpdateGate.main_arg2)
      ∧ r.2.mem ((c.tc : Thread Cert.UpdateGate.nD Cert.UpdateGate.τ).loc Cert.UpdateGate.main_arg3) = m ((c.tc : Thread Cert.UpdateGate.nD Cert.UpdateGate.τ).loc Cert.UpdateGate.main_arg3))
      ∧ r.2.sem = fun _ => 0)

def quiescent_UpdateGateIdeal [hUpdateGateIdeal : Cert.UpdateGateIdeal.Facts] : Prop :=
  ∀ (m : (ℓ : Loc Cert.UpdateGateIdeal.nD Cert.UpdateGateIdeal.τ Cert.UpdateGateIdeal.sig) → Buf (Elt Ideal) ℓ) (g : Dev Cert.UpdateGateIdeal.nD → PrngReg), Pre_UpdateGateIdeal m →
    θ_run (Cert.UpdateGateIdeal.defs (F := Ideal)) (onTc (τ := Cert.UpdateGateIdeal.τ) (Cert.UpdateGateIdeal.main (F := Ideal))) ⟨m, fun _ => 0, g⟩ (fun r => (∀ c : Dev Cert.UpdateGateIdeal.nD,
      r.2.mem ((c.tc : Thread Cert.UpdateGateIdeal.nD Cert.UpdateGateIdeal.τ).loc Cert.UpdateGateIdeal.main_arg0) = m ((c.tc : Thread Cert.UpdateGateIdeal.nD Cert.UpdateGateIdeal.τ).loc Cert.UpdateGateIdeal.main_arg0)
      ∧ r.2.mem ((c.tc : Thread Cert.UpdateGateIdeal.nD Cert.UpdateGateIdeal.τ).loc Cert.UpdateGateIdeal.main_arg1) = m ((c.tc : Thread Cert.UpdateGateIdeal.nD Cert.UpdateGateIdeal.τ).loc Cert.UpdateGateIdeal.main_arg1)
      ∧ r.2.mem ((c.tc : Thread Cert.UpdateGateIdeal.nD Cert.UpdateGateIdeal.τ).loc Cert.UpdateGateIdeal.main_arg2) = m ((c.tc : Thread Cert.UpdateGateIdeal.nD Cert.UpdateGateIdeal.τ).loc Cert.UpdateGateIdeal.main_arg2)
      ∧ r.2.mem ((c.tc : Thread Cert.UpdateGateIdeal.nD Cert.UpdateGateIdeal.τ).loc Cert.UpdateGateIdeal.main_arg3) = m ((c.tc : Thread Cert.UpdateGateIdeal.nD Cert.UpdateGateIdeal.τ).loc Cert.UpdateGateIdeal.main_arg3))
      ∧ r.2.sem = fun _ => 0)

def quiescent_UpdateGateRefIdeal [hUpdateGateRefIdeal : Cert.UpdateGateRefIdeal.Facts] : Prop :=
  ∀ (m : (ℓ : Loc Cert.UpdateGateRefIdeal.nD Cert.UpdateGateRefIdeal.τ Cert.UpdateGateRefIdeal.sig) → Buf (Elt Ideal) ℓ) (g : Dev Cert.UpdateGateRefIdeal.nD → PrngReg), Pre_UpdateGateRefIdeal m →
    θ_run (Cert.UpdateGateRefIdeal.defs (F := Ideal)) (onTc (τ := Cert.UpdateGateRefIdeal.τ) (Cert.UpdateGateRefIdeal.main (F := Ideal))) ⟨m, fun _ => 0, g⟩ (fun r => (∀ c : Dev Cert.UpdateGateRefIdeal.nD,
      r.2.mem ((c.tc : Thread Cert.UpdateGateRefIdeal.nD Cert.UpdateGateRefIdeal.τ).loc Cert.UpdateGateRefIdeal.main_arg0) = m ((c.tc : Thread Cert.UpdateGateRefIdeal.nD Cert.UpdateGateRefIdeal.τ).loc Cert.UpdateGateRefIdeal.main_arg0)
      ∧ r.2.mem ((c.tc : Thread Cert.UpdateGateRefIdeal.nD Cert.UpdateGateRefIdeal.τ).loc Cert.UpdateGateRefIdeal.main_arg1) = m ((c.tc : Thread Cert.UpdateGateRefIdeal.nD Cert.UpdateGateRefIdeal.τ).loc Cert.UpdateGateRefIdeal.main_arg1)
      ∧ r.2.mem ((c.tc : Thread Cert.UpdateGateRefIdeal.nD Cert.UpdateGateRefIdeal.τ).loc Cert.UpdateGateRefIdeal.main_arg2) = m ((c.tc : Thread Cert.UpdateGateRefIdeal.nD Cert.UpdateGateRefIdeal.τ).loc Cert.UpdateGateRefIdeal.main_arg2)
      ∧ r.2.mem ((c.tc : Thread Cert.UpdateGateRefIdeal.nD Cert.UpdateGateRefIdeal.τ).loc Cert.UpdateGateRefIdeal.main_arg3) = m ((c.tc : Thread Cert.UpdateGateRefIdeal.nD Cert.UpdateGateRefIdeal.τ).loc Cert.UpdateGateRefIdeal.main_arg3))
      ∧ r.2.sem = fun _ => 0)

def quiescent_UpdateDown [hUpdateDown : Cert.UpdateDown.Facts] : Prop :=
  ∀ (m : (ℓ : Loc Cert.UpdateDown.nD Cert.UpdateDown.τ Cert.UpdateDown.sig) → Buf (Elt Bits) ℓ) (g : Dev Cert.UpdateDown.nD → PrngReg), Pre_UpdateDown m →
    θ_run (Cert.UpdateDown.defs (F := Bits)) (onTc (τ := Cert.UpdateDown.τ) (Cert.UpdateDown.main (F := Bits))) ⟨m, fun _ => 0, g⟩ (fun r => (∀ c : Dev Cert.UpdateDown.nD,
      r.2.mem ((c.tc : Thread Cert.UpdateDown.nD Cert.UpdateDown.τ).loc Cert.UpdateDown.main_arg0) = m ((c.tc : Thread Cert.UpdateDown.nD Cert.UpdateDown.τ).loc Cert.UpdateDown.main_arg0)
      ∧ r.2.mem ((c.tc : Thread Cert.UpdateDown.nD Cert.UpdateDown.τ).loc Cert.UpdateDown.main_arg1) = m ((c.tc : Thread Cert.UpdateDown.nD Cert.UpdateDown.τ).loc Cert.UpdateDown.main_arg1)
      ∧ r.2.mem ((c.tc : Thread Cert.UpdateDown.nD Cert.UpdateDown.τ).loc Cert.UpdateDown.main_arg2) = m ((c.tc : Thread Cert.UpdateDown.nD Cert.UpdateDown.τ).loc Cert.UpdateDown.main_arg2)
      ∧ r.2.mem ((c.tc : Thread Cert.UpdateDown.nD Cert.UpdateDown.τ).loc Cert.UpdateDown.main_arg3) = m ((c.tc : Thread Cert.UpdateDown.nD Cert.UpdateDown.τ).loc Cert.UpdateDown.main_arg3))
      ∧ r.2.sem = fun _ => 0)

def quiescent_UpdateDownIdeal [hUpdateDownIdeal : Cert.UpdateDownIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg), Pre_UpdateDownIdeal m →
    θ_run (Cert.UpdateDownIdeal.defs (F := Ideal)) (onTc (τ := Cert.UpdateDownIdeal.τ) (Cert.UpdateDownIdeal.main (F := Ideal))) ⟨m, fun _ => 0, g⟩ (fun r => (∀ c : Dev Cert.UpdateDownIdeal.nD,
      r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
      ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
      ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
      ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3))
      ∧ r.2.sem = fun _ => 0)

def quiescent_UpdateDownRefIdeal [hUpdateDownRefIdeal : Cert.UpdateDownRefIdeal.Facts] : Prop :=
  ∀ (m : (ℓ : Loc Cert.UpdateDownRefIdeal.nD Cert.UpdateDownRefIdeal.τ Cert.UpdateDownRefIdeal.sig) → Buf (Elt Ideal) ℓ) (g : Dev Cert.UpdateDownRefIdeal.nD → PrngReg), Pre_UpdateDownRefIdeal m →
    θ_run (Cert.UpdateDownRefIdeal.defs (F := Ideal)) (onTc (τ := Cert.UpdateDownRefIdeal.τ) (Cert.UpdateDownRefIdeal.main (F := Ideal))) ⟨m, fun _ => 0, g⟩ (fun r => (∀ c : Dev Cert.UpdateDownRefIdeal.nD,
      r.2.mem ((c.tc : Thread Cert.UpdateDownRefIdeal.nD Cert.UpdateDownRefIdeal.τ).loc Cert.UpdateDownRefIdeal.main_arg0) = m ((c.tc : Thread Cert.UpdateDownRefIdeal.nD Cert.UpdateDownRefIdeal.τ).loc Cert.UpdateDownRefIdeal.main_arg0)
      ∧ r.2.mem ((c.tc : Thread Cert.UpdateDownRefIdeal.nD Cert.UpdateDownRefIdeal.τ).loc Cert.UpdateDownRefIdeal.main_arg1) = m ((c.tc : Thread Cert.UpdateDownRefIdeal.nD Cert.UpdateDownRefIdeal.τ).loc Cert.UpdateDownRefIdeal.main_arg1)
      ∧ r.2.mem ((c.tc : Thread Cert.UpdateDownRefIdeal.nD Cert.UpdateDownRefIdeal.τ).loc Cert.UpdateDownRefIdeal.main_arg2) = m ((c.tc : Thread Cert.UpdateDownRefIdeal.nD Cert.UpdateDownRefIdeal.τ).loc Cert.UpdateDownRefIdeal.main_arg2)
      ∧ r.2.mem ((c.tc : Thread Cert.UpdateDownRefIdeal.nD Cert.UpdateDownRefIdeal.τ).loc Cert.UpdateDownRefIdeal.main_arg3) = m ((c.tc : Thread Cert.UpdateDownRefIdeal.nD Cert.UpdateDownRefIdeal.τ).loc Cert.UpdateDownRefIdeal.main_arg3))
      ∧ r.2.sem = fun _ => 0)

def quiescent_UpdateNorm [hUpdateNorm : Cert.UpdateNorm.Facts] : Prop :=
  ∀ (m : (ℓ : Loc Cert.UpdateNorm.nD Cert.UpdateNorm.τ Cert.UpdateNorm.sig) → Buf (Elt Bits) ℓ) (g : Dev Cert.UpdateNorm.nD → PrngReg), Pre_UpdateNorm m →
    θ_run (Cert.UpdateNorm.defs (F := Bits)) (onTc (τ := Cert.UpdateNorm.τ) (Cert.UpdateNorm.main (F := Bits))) ⟨m, fun _ => 0, g⟩ (fun r => (∀ c : Dev Cert.UpdateNorm.nD,
      r.2.mem ((c.tc : Thread Cert.UpdateNorm.nD Cert.UpdateNorm.τ).loc Cert.UpdateNorm.main_arg0) = m ((c.tc : Thread Cert.UpdateNorm.nD Cert.UpdateNorm.τ).loc Cert.UpdateNorm.main_arg0)
      ∧ r.2.mem ((c.tc : Thread Cert.UpdateNorm.nD Cert.UpdateNorm.τ).loc Cert.UpdateNorm.main_arg1) = m ((c.tc : Thread Cert.UpdateNorm.nD Cert.UpdateNorm.τ).loc Cert.UpdateNorm.main_arg1)
      ∧ r.2.mem ((c.tc : Thread Cert.UpdateNorm.nD Cert.UpdateNorm.τ).loc Cert.UpdateNorm.main_arg2) = m ((c.tc : Thread Cert.UpdateNorm.nD Cert.UpdateNorm.τ).loc Cert.UpdateNorm.main_arg2)
      ∧ r.2.mem ((c.tc : Thread Cert.UpdateNorm.nD Cert.UpdateNorm.τ).loc Cert.UpdateNorm.main_arg3) = m ((c.tc : Thread Cert.UpdateNorm.nD Cert.UpdateNorm.τ).loc Cert.UpdateNorm.main_arg3))
      ∧ r.2.sem = fun _ => 0)

def quiescent_UpdateNormIdeal [hUpdateNormIdeal : Cert.UpdateNormIdeal.Facts] : Prop :=
  ∀ (m : (ℓ : Loc Cert.UpdateNormIdeal.nD Cert.UpdateNormIdeal.τ Cert.UpdateNormIdeal.sig) → Buf (Elt Ideal) ℓ) (g : Dev Cert.UpdateNormIdeal.nD → PrngReg), Pre_UpdateNormIdeal m →
    θ_run (Cert.UpdateNormIdeal.defs (F := Ideal)) (onTc (τ := Cert.UpdateNormIdeal.τ) (Cert.UpdateNormIdeal.main (F := Ideal))) ⟨m, fun _ => 0, g⟩ (fun r => (∀ c : Dev Cert.UpdateNormIdeal.nD,
      r.2.mem ((c.tc : Thread Cert.UpdateNormIdeal.nD Cert.UpdateNormIdeal.τ).loc Cert.UpdateNormIdeal.main_arg0) = m ((c.tc : Thread Cert.UpdateNormIdeal.nD Cert.UpdateNormIdeal.τ).loc Cert.UpdateNormIdeal.main_arg0)
      ∧ r.2.mem ((c.tc : Thread Cert.UpdateNormIdeal.nD Cert.UpdateNormIdeal.τ).loc Cert.UpdateNormIdeal.main_arg1) = m ((c.tc : Thread Cert.UpdateNormIdeal.nD Cert.UpdateNormIdeal.τ).loc Cert.UpdateNormIdeal.main_arg1)
      ∧ r.2.mem ((c.tc : Thread Cert.UpdateNormIdeal.nD Cert.UpdateNormIdeal.τ).loc Cert.UpdateNormIdeal.main_arg2) = m ((c.tc : Thread Cert.UpdateNormIdeal.nD Cert.UpdateNormIdeal.τ).loc Cert.UpdateNormIdeal.main_arg2)
      ∧ r.2.mem ((c.tc : Thread Cert.UpdateNormIdeal.nD Cert.UpdateNormIdeal.τ).loc Cert.UpdateNormIdeal.main_arg3) = m ((c.tc : Thread Cert.UpdateNormIdeal.nD Cert.UpdateNormIdeal.τ).loc Cert.UpdateNormIdeal.main_arg3))
      ∧ r.2.sem = fun _ => 0)

def quiescent_UpdateNormRefIdeal [hUpdateNormRefIdeal : Cert.UpdateNormRefIdeal.Facts] : Prop :=
  ∀ (m : (ℓ : Loc Cert.UpdateNormRefIdeal.nD Cert.UpdateNormRefIdeal.τ Cert.UpdateNormRefIdeal.sig) → Buf (Elt Ideal) ℓ) (g : Dev Cert.UpdateNormRefIdeal.nD → PrngReg), Pre_UpdateNormRefIdeal m →
    θ_run (Cert.UpdateNormRefIdeal.defs (F := Ideal)) (onTc (τ := Cert.UpdateNormRefIdeal.τ) (Cert.UpdateNormRefIdeal.main (F := Ideal))) ⟨m, fun _ => 0, g⟩ (fun r => (∀ c : Dev Cert.UpdateNormRefIdeal.nD,
      r.2.mem ((c.tc : Thread Cert.UpdateNormRefIdeal.nD Cert.UpdateNormRefIdeal.τ).loc Cert.UpdateNormRefIdeal.main_arg0) = m ((c.tc : Thread Cert.UpdateNormRefIdeal.nD Cert.UpdateNormRefIdeal.τ).loc Cert.UpdateNormRefIdeal.main_arg0)
      ∧ r.2.mem ((c.tc : Thread Cert.UpdateNormRefIdeal.nD Cert.UpdateNormRefIdeal.τ).loc Cert.UpdateNormRefIdeal.main_arg1) = m ((c.tc : Thread Cert.UpdateNormRefIdeal.nD Cert.UpdateNormRefIdeal.τ).loc Cert.UpdateNormRefIdeal.main_arg1)
      ∧ r.2.mem ((c.tc : Thread Cert.UpdateNormRefIdeal.nD Cert.UpdateNormRefIdeal.τ).loc Cert.UpdateNormRefIdeal.main_arg2) = m ((c.tc : Thread Cert.UpdateNormRefIdeal.nD Cert.UpdateNormRefIdeal.τ).loc Cert.UpdateNormRefIdeal.main_arg2)
      ∧ r.2.mem ((c.tc : Thread Cert.UpdateNormRefIdeal.nD Cert.UpdateNormRefIdeal.τ).loc Cert.UpdateNormRefIdeal.main_arg3) = m ((c.tc : Thread Cert.UpdateNormRefIdeal.nD Cert.UpdateNormRefIdeal.τ).loc Cert.UpdateNormRefIdeal.main_arg3))
      ∧ r.2.sem = fun _ => 0)

def quiescent_UpdateConv [hUpdateConv : Cert.UpdateConv.Facts] : Prop :=
  ∀ (m : (ℓ : Loc Cert.UpdateConv.nD Cert.UpdateConv.τ Cert.UpdateConv.sig) → Buf (Elt Bits) ℓ) (g : Dev Cert.UpdateConv.nD → PrngReg), Pre_UpdateConv m →
    θ_run (Cert.UpdateConv.defs (F := Bits)) (onTc (τ := Cert.UpdateConv.τ) (Cert.UpdateConv.main (F := Bits))) ⟨m, fun _ => 0, g⟩ (fun r => (∀ c : Dev Cert.UpdateConv.nD,
      r.2.mem ((c.tc : Thread Cert.UpdateConv.nD Cert.UpdateConv.τ).loc Cert.UpdateConv.main_arg0) = m ((c.tc : Thread Cert.UpdateConv.nD Cert.UpdateConv.τ).loc Cert.UpdateConv.main_arg0)
      ∧ r.2.mem ((c.tc : Thread Cert.UpdateConv.nD Cert.UpdateConv.τ).loc Cert.UpdateConv.main_arg1) = m ((c.tc : Thread Cert.UpdateConv.nD Cert.UpdateConv.τ).loc Cert.UpdateConv.main_arg1)
      ∧ r.2.mem ((c.tc : Thread Cert.UpdateConv.nD Cert.UpdateConv.τ).loc Cert.UpdateConv.main_arg2) = m ((c.tc : Thread Cert.UpdateConv.nD Cert.UpdateConv.τ).loc Cert.UpdateConv.main_arg2)
      ∧ r.2.mem ((c.tc : Thread Cert.UpdateConv.nD Cert.UpdateConv.τ).loc Cert.UpdateConv.main_arg3) = m ((c.tc : Thread Cert.UpdateConv.nD Cert.UpdateConv.τ).loc Cert.UpdateConv.main_arg3))
      ∧ r.2.sem = fun _ => 0)

def quiescent_UpdateConvIdeal [hUpdateConvIdeal : Cert.UpdateConvIdeal.Facts] : Prop :=
  ∀ (m : (ℓ : Loc Cert.UpdateConvIdeal.nD Cert.UpdateConvIdeal.τ Cert.UpdateConvIdeal.sig) → Buf (Elt Ideal) ℓ) (g : Dev Cert.UpdateConvIdeal.nD → PrngReg), Pre_UpdateConvIdeal m →
    θ_run (Cert.UpdateConvIdeal.defs (F := Ideal)) (onTc (τ := Cert.UpdateConvIdeal.τ) (Cert.UpdateConvIdeal.main (F := Ideal))) ⟨m, fun _ => 0, g⟩ (fun r => (∀ c : Dev Cert.UpdateConvIdeal.nD,
      r.2.mem ((c.tc : Thread Cert.UpdateConvIdeal.nD Cert.UpdateConvIdeal.τ).loc Cert.UpdateConvIdeal.main_arg0) = m ((c.tc : Thread Cert.UpdateConvIdeal.nD Cert.UpdateConvIdeal.τ).loc Cert.UpdateConvIdeal.main_arg0)
      ∧ r.2.mem ((c.tc : Thread Cert.UpdateConvIdeal.nD Cert.UpdateConvIdeal.τ).loc Cert.UpdateConvIdeal.main_arg1) = m ((c.tc : Thread Cert.UpdateConvIdeal.nD Cert.UpdateConvIdeal.τ).loc Cert.UpdateConvIdeal.main_arg1)
      ∧ r.2.mem ((c.tc : Thread Cert.UpdateConvIdeal.nD Cert.UpdateConvIdeal.τ).loc Cert.UpdateConvIdeal.main_arg2) = m ((c.tc : Thread Cert.UpdateConvIdeal.nD Cert.UpdateConvIdeal.τ).loc Cert.UpdateConvIdeal.main_arg2)
      ∧ r.2.mem ((c.tc : Thread Cert.UpdateConvIdeal.nD Cert.UpdateConvIdeal.τ).loc Cert.UpdateConvIdeal.main_arg3) = m ((c.tc : Thread Cert.UpdateConvIdeal.nD Cert.UpdateConvIdeal.τ).loc Cert.UpdateConvIdeal.main_arg3))
      ∧ r.2.sem = fun _ => 0)

def quiescent_UpdateConvRefIdeal [hUpdateConvRefIdeal : Cert.UpdateConvRefIdeal.Facts] : Prop :=
  ∀ (m : (ℓ : Loc Cert.UpdateConvRefIdeal.nD Cert.UpdateConvRefIdeal.τ Cert.UpdateConvRefIdeal.sig) → Buf (Elt Ideal) ℓ) (g : Dev Cert.UpdateConvRefIdeal.nD → PrngReg), Pre_UpdateConvRefIdeal m →
    θ_run (Cert.UpdateConvRefIdeal.defs (F := Ideal)) (onTc (τ := Cert.UpdateConvRefIdeal.τ) (Cert.UpdateConvRefIdeal.main (F := Ideal))) ⟨m, fun _ => 0, g⟩ (fun r => (∀ c : Dev Cert.UpdateConvRefIdeal.nD,
      r.2.mem ((c.tc : Thread Cert.UpdateConvRefIdeal.nD Cert.UpdateConvRefIdeal.τ).loc Cert.UpdateConvRefIdeal.main_arg0) = m ((c.tc : Thread Cert.UpdateConvRefIdeal.nD Cert.UpdateConvRefIdeal.τ).loc Cert.UpdateConvRefIdeal.main_arg0)
      ∧ r.2.mem ((c.tc : Thread Cert.UpdateConvRefIdeal.nD Cert.UpdateConvRefIdeal.τ).loc Cert.UpdateConvRefIdeal.main_arg1) = m ((c.tc : Thread Cert.UpdateConvRefIdeal.nD Cert.UpdateConvRefIdeal.τ).loc Cert.UpdateConvRefIdeal.main_arg1)
      ∧ r.2.mem ((c.tc : Thread Cert.UpdateConvRefIdeal.nD Cert.UpdateConvRefIdeal.τ).loc Cert.UpdateConvRefIdeal.main_arg2) = m ((c.tc : Thread Cert.UpdateConvRefIdeal.nD Cert.UpdateConvRefIdeal.τ).loc Cert.UpdateConvRefIdeal.main_arg2)
      ∧ r.2.mem ((c.tc : Thread Cert.UpdateConvRefIdeal.nD Cert.UpdateConvRefIdeal.τ).loc Cert.UpdateConvRefIdeal.main_arg3) = m ((c.tc : Thread Cert.UpdateConvRefIdeal.nD Cert.UpdateConvRefIdeal.τ).loc Cert.UpdateConvRefIdeal.main_arg3))
      ∧ r.2.sem = fun _ => 0)

def quiescent_UpdateGdn [hUpdateGdn : Cert.UpdateGdn.Facts] : Prop :=
  ∀ (m : (ℓ : Loc Cert.UpdateGdn.nD Cert.UpdateGdn.τ Cert.UpdateGdn.sig) → Buf (Elt Bits) ℓ) (g : Dev Cert.UpdateGdn.nD → PrngReg), Pre_UpdateGdn m →
    θ_run (Cert.UpdateGdn.defs (F := Bits)) (onTc (τ := Cert.UpdateGdn.τ) (Cert.UpdateGdn.main (F := Bits))) ⟨m, fun _ => 0, g⟩ (fun r => (∀ c : Dev Cert.UpdateGdn.nD,
      r.2.mem ((c.tc : Thread Cert.UpdateGdn.nD Cert.UpdateGdn.τ).loc Cert.UpdateGdn.main_arg0) = m ((c.tc : Thread Cert.UpdateGdn.nD Cert.UpdateGdn.τ).loc Cert.UpdateGdn.main_arg0)
      ∧ r.2.mem ((c.tc : Thread Cert.UpdateGdn.nD Cert.UpdateGdn.τ).loc Cert.UpdateGdn.main_arg1) = m ((c.tc : Thread Cert.UpdateGdn.nD Cert.UpdateGdn.τ).loc Cert.UpdateGdn.main_arg1)
      ∧ r.2.mem ((c.tc : Thread Cert.UpdateGdn.nD Cert.UpdateGdn.τ).loc Cert.UpdateGdn.main_arg2) = m ((c.tc : Thread Cert.UpdateGdn.nD Cert.UpdateGdn.τ).loc Cert.UpdateGdn.main_arg2)
      ∧ r.2.mem ((c.tc : Thread Cert.UpdateGdn.nD Cert.UpdateGdn.τ).loc Cert.UpdateGdn.main_arg3) = m ((c.tc : Thread Cert.UpdateGdn.nD Cert.UpdateGdn.τ).loc Cert.UpdateGdn.main_arg3))
      ∧ r.2.sem = fun _ => 0)

def quiescent_UpdateGdnIdeal [hUpdateGdnIdeal : Cert.UpdateGdnIdeal.Facts] : Prop :=
  ∀ (m : (ℓ : Loc Cert.UpdateGdnIdeal.nD Cert.UpdateGdnIdeal.τ Cert.UpdateGdnIdeal.sig) → Buf (Elt Ideal) ℓ) (g : Dev Cert.UpdateGdnIdeal.nD → PrngReg), Pre_UpdateGdnIdeal m →
    θ_run (Cert.UpdateGdnIdeal.defs (F := Ideal)) (onTc (τ := Cert.UpdateGdnIdeal.τ) (Cert.UpdateGdnIdeal.main (F := Ideal))) ⟨m, fun _ => 0, g⟩ (fun r => (∀ c : Dev Cert.UpdateGdnIdeal.nD,
      r.2.mem ((c.tc : Thread Cert.UpdateGdnIdeal.nD Cert.UpdateGdnIdeal.τ).loc Cert.UpdateGdnIdeal.main_arg0) = m ((c.tc : Thread Cert.UpdateGdnIdeal.nD Cert.UpdateGdnIdeal.τ).loc Cert.UpdateGdnIdeal.main_arg0)
      ∧ r.2.mem ((c.tc : Thread Cert.UpdateGdnIdeal.nD Cert.UpdateGdnIdeal.τ).loc Cert.UpdateGdnIdeal.main_arg1) = m ((c.tc : Thread Cert.UpdateGdnIdeal.nD Cert.UpdateGdnIdeal.τ).loc Cert.UpdateGdnIdeal.main_arg1)
      ∧ r.2.mem ((c.tc : Thread Cert.UpdateGdnIdeal.nD Cert.UpdateGdnIdeal.τ).loc Cert.UpdateGdnIdeal.main_arg2) = m ((c.tc : Thread Cert.UpdateGdnIdeal.nD Cert.UpdateGdnIdeal.τ).loc Cert.UpdateGdnIdeal.main_arg2)
      ∧ r.2.mem ((c.tc : Thread Cert.UpdateGdnIdeal.nD Cert.UpdateGdnIdeal.τ).loc Cert.UpdateGdnIdeal.main_arg3) = m ((c.tc : Thread Cert.UpdateGdnIdeal.nD Cert.UpdateGdnIdeal.τ).loc Cert.UpdateGdnIdeal.main_arg3))
      ∧ r.2.sem = fun _ => 0)

def quiescent_UpdateGdnRefIdeal [hUpdateGdnRefIdeal : Cert.UpdateGdnRefIdeal.Facts] : Prop :=
  ∀ (m : (ℓ : Loc Cert.UpdateGdnRefIdeal.nD Cert.UpdateGdnRefIdeal.τ Cert.UpdateGdnRefIdeal.sig) → Buf (Elt Ideal) ℓ) (g : Dev Cert.UpdateGdnRefIdeal.nD → PrngReg), Pre_UpdateGdnRefIdeal m →
    θ_run (Cert.UpdateGdnRefIdeal.defs (F := Ideal)) (onTc (τ := Cert.UpdateGdnRefIdeal.τ) (Cert.UpdateGdnRefIdeal.main (F := Ideal))) ⟨m, fun _ => 0, g⟩ (fun r => (∀ c : Dev Cert.UpdateGdnRefIdeal.nD,
      r.2.mem ((c.tc : Thread Cert.UpdateGdnRefIdeal.nD Cert.UpdateGdnRefIdeal.τ).loc Cert.UpdateGdnRefIdeal.main_arg0) = m ((c.tc : Thread Cert.UpdateGdnRefIdeal.nD Cert.UpdateGdnRefIdeal.τ).loc Cert.UpdateGdnRefIdeal.main_arg0)
      ∧ r.2.mem ((c.tc : Thread Cert.UpdateGdnRefIdeal.nD Cert.UpdateGdnRefIdeal.τ).loc Cert.UpdateGdnRefIdeal.main_arg1) = m ((c.tc : Thread Cert.UpdateGdnRefIdeal.nD Cert.UpdateGdnRefIdeal.τ).loc Cert.UpdateGdnRefIdeal.main_arg1)
      ∧ r.2.mem ((c.tc : Thread Cert.UpdateGdnRefIdeal.nD Cert.UpdateGdnRefIdeal.τ).loc Cert.UpdateGdnRefIdeal.main_arg2) = m ((c.tc : Thread Cert.UpdateGdnRefIdeal.nD Cert.UpdateGdnRefIdeal.τ).loc Cert.UpdateGdnRefIdeal.main_arg2)
      ∧ r.2.mem ((c.tc : Thread Cert.UpdateGdnRefIdeal.nD Cert.UpdateGdnRefIdeal.τ).loc Cert.UpdateGdnRefIdeal.main_arg3) = m ((c.tc : Thread Cert.UpdateGdnRefIdeal.nD Cert.UpdateGdnRefIdeal.τ).loc Cert.UpdateGdnRefIdeal.main_arg3))
      ∧ r.2.sem = fun _ => 0)

def quiescent_UpdateHeads [hUpdateHeads : Cert.UpdateHeads.Facts] : Prop :=
  ∀ (m : (ℓ : Loc Cert.UpdateHeads.nD Cert.UpdateHeads.τ Cert.UpdateHeads.sig) → Buf (Elt Bits) ℓ) (g : Dev Cert.UpdateHeads.nD → PrngReg), Pre_UpdateHeads m →
    θ_run (Cert.UpdateHeads.defs (F := Bits)) (onTc (τ := Cert.UpdateHeads.τ) (Cert.UpdateHeads.main (F := Bits))) ⟨m, fun _ => 0, g⟩ (fun r => (∀ c : Dev Cert.UpdateHeads.nD,
      r.2.mem ((c.tc : Thread Cert.UpdateHeads.nD Cert.UpdateHeads.τ).loc Cert.UpdateHeads.main_arg0) = m ((c.tc : Thread Cert.UpdateHeads.nD Cert.UpdateHeads.τ).loc Cert.UpdateHeads.main_arg0)
      ∧ r.2.mem ((c.tc : Thread Cert.UpdateHeads.nD Cert.UpdateHeads.τ).loc Cert.UpdateHeads.main_arg1) = m ((c.tc : Thread Cert.UpdateHeads.nD Cert.UpdateHeads.τ).loc Cert.UpdateHeads.main_arg1)
      ∧ r.2.mem ((c.tc : Thread Cert.UpdateHeads.nD Cert.UpdateHeads.τ).loc Cert.UpdateHeads.main_arg2) = m ((c.tc : Thread Cert.UpdateHeads.nD Cert.UpdateHeads.τ).loc Cert.UpdateHeads.main_arg2)
      ∧ r.2.mem ((c.tc : Thread Cert.UpdateHeads.nD Cert.UpdateHeads.τ).loc Cert.UpdateHeads.main_arg3) = m ((c.tc : Thread Cert.UpdateHeads.nD Cert.UpdateHeads.τ).loc Cert.UpdateHeads.main_arg3))
      ∧ r.2.sem = fun _ => 0)

def quiescent_UpdateHeadsIdeal [hUpdateHeadsIdeal : Cert.UpdateHeadsIdeal.Facts] : Prop :=
  ∀ (m : (ℓ : Loc Cert.UpdateHeadsIdeal.nD Cert.UpdateHeadsIdeal.τ Cert.UpdateHeadsIdeal.sig) → Buf (Elt Ideal) ℓ) (g : Dev Cert.UpdateHeadsIdeal.nD → PrngReg), Pre_UpdateHeadsIdeal m →
    θ_run (Cert.UpdateHeadsIdeal.defs (F := Ideal)) (onTc (τ := Cert.UpdateHeadsIdeal.τ) (Cert.UpdateHeadsIdeal.main (F := Ideal))) ⟨m, fun _ => 0, g⟩ (fun r => (∀ c : Dev Cert.UpdateHeadsIdeal.nD,
      r.2.mem ((c.tc : Thread Cert.UpdateHeadsIdeal.nD Cert.UpdateHeadsIdeal.τ).loc Cert.UpdateHeadsIdeal.main_arg0) = m ((c.tc : Thread Cert.UpdateHeadsIdeal.nD Cert.UpdateHeadsIdeal.τ).loc Cert.UpdateHeadsIdeal.main_arg0)
      ∧ r.2.mem ((c.tc : Thread Cert.UpdateHeadsIdeal.nD Cert.UpdateHeadsIdeal.τ).loc Cert.UpdateHeadsIdeal.main_arg1) = m ((c.tc : Thread Cert.UpdateHeadsIdeal.nD Cert.UpdateHeadsIdeal.τ).loc Cert.UpdateHeadsIdeal.main_arg1)
      ∧ r.2.mem ((c.tc : Thread Cert.UpdateHeadsIdeal.nD Cert.UpdateHeadsIdeal.τ).loc Cert.UpdateHeadsIdeal.main_arg2) = m ((c.tc : Thread Cert.UpdateHeadsIdeal.nD Cert.UpdateHeadsIdeal.τ).loc Cert.UpdateHeadsIdeal.main_arg2)
      ∧ r.2.mem ((c.tc : Thread Cert.UpdateHeadsIdeal.nD Cert.UpdateHeadsIdeal.τ).loc Cert.UpdateHeadsIdeal.main_arg3) = m ((c.tc : Thread Cert.UpdateHeadsIdeal.nD Cert.UpdateHeadsIdeal.τ).loc Cert.UpdateHeadsIdeal.main_arg3))
      ∧ r.2.sem = fun _ => 0)

def quiescent_UpdateHeadsRefIdeal [hUpdateHeadsRefIdeal : Cert.UpdateHeadsRefIdeal.Facts] : Prop :=
  ∀ (m : (ℓ : Loc Cert.UpdateHeadsRefIdeal.nD Cert.UpdateHeadsRefIdeal.τ Cert.UpdateHeadsRefIdeal.sig) → Buf (Elt Ideal) ℓ) (g : Dev Cert.UpdateHeadsRefIdeal.nD → PrngReg), Pre_UpdateHeadsRefIdeal m →
    θ_run (Cert.UpdateHeadsRefIdeal.defs (F := Ideal)) (onTc (τ := Cert.UpdateHeadsRefIdeal.τ) (Cert.UpdateHeadsRefIdeal.main (F := Ideal))) ⟨m, fun _ => 0, g⟩ (fun r => (∀ c : Dev Cert.UpdateHeadsRefIdeal.nD,
      r.2.mem ((c.tc : Thread Cert.UpdateHeadsRefIdeal.nD Cert.UpdateHeadsRefIdeal.τ).loc Cert.UpdateHeadsRefIdeal.main_arg0) = m ((c.tc : Thread Cert.UpdateHeadsRefIdeal.nD Cert.UpdateHeadsRefIdeal.τ).loc Cert.UpdateHeadsRefIdeal.main_arg0)
      ∧ r.2.mem ((c.tc : Thread Cert.UpdateHeadsRefIdeal.nD Cert.UpdateHeadsRefIdeal.τ).loc Cert.UpdateHeadsRefIdeal.main_arg1) = m ((c.tc : Thread Cert.UpdateHeadsRefIdeal.nD Cert.UpdateHeadsRefIdeal.τ).loc Cert.UpdateHeadsRefIdeal.main_arg1)
      ∧ r.2.mem ((c.tc : Thread Cert.UpdateHeadsRefIdeal.nD Cert.UpdateHeadsRefIdeal.τ).loc Cert.UpdateHeadsRefIdeal.main_arg2) = m ((c.tc : Thread Cert.UpdateHeadsRefIdeal.nD Cert.UpdateHeadsRefIdeal.τ).loc Cert.UpdateHeadsRefIdeal.main_arg2)
      ∧ r.2.mem ((c.tc : Thread Cert.UpdateHeadsRefIdeal.nD Cert.UpdateHeadsRefIdeal.τ).loc Cert.UpdateHeadsRefIdeal.main_arg3) = m ((c.tc : Thread Cert.UpdateHeadsRefIdeal.nD Cert.UpdateHeadsRefIdeal.τ).loc Cert.UpdateHeadsRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumGate [hSumGate : Cert.SumGate.Facts] : Prop :=
  ∀ (m : (ℓ : Loc Cert.SumGate.nD Cert.SumGate.τ Cert.SumGate.sig) → Buf (Elt Bits) ℓ) (g : Dev Cert.SumGate.nD → PrngReg), Pre_SumGate m →
    θ_run (Cert.SumGate.defs (F := Bits)) (onTc (τ := Cert.SumGate.τ) (Cert.SumGate.main (F := Bits))) ⟨m, fun _ => 0, g⟩ (fun r => (∀ c : Dev Cert.SumGate.nD,
      r.2.mem ((c.tc : Thread Cert.SumGate.nD Cert.SumGate.τ).loc Cert.SumGate.main_arg0) = m ((c.tc : Thread Cert.SumGate.nD Cert.SumGate.τ).loc Cert.SumGate.main_arg0))
      ∧ r.2.sem = fun _ => 0)

def quiescent_SumGateIdeal [hSumGateIdeal : Cert.SumGateIdeal.Facts] : Prop :=
  ∀ (m : (ℓ : Loc Cert.SumGateIdeal.nD Cert.SumGateIdeal.τ Cert.SumGateIdeal.sig) → Buf (Elt Ideal) ℓ) (g : Dev Cert.SumGateIdeal.nD → PrngReg), Pre_SumGateIdeal m →
    θ_run (Cert.SumGateIdeal.defs (F := Ideal)) (onTc (τ := Cert.SumGateIdeal.τ) (Cert.SumGateIdeal.main (F := Ideal))) ⟨m, fun _ => 0, g⟩ (fun r => (∀ c : Dev Cert.SumGateIdeal.nD,
      r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0))
      ∧ r.2.sem = fun _ => 0)

def quiescent_SumGateRefIdeal [hSumGateRefIdeal : Cert.SumGateRefIdeal.Facts] : Prop :=
  ∀ (m : (ℓ : Loc Cert.SumGateRefIdeal.nD Cert.SumGateRefIdeal.τ Cert.SumGateRefIdeal.sig) → Buf (Elt Ideal) ℓ) (g : Dev Cert.SumGateRefIdeal.nD → PrngReg), Pre_SumGateRefIdeal m →
    θ_run (Cert.SumGateRefIdeal.defs (F := Ideal)) (onTc (τ := Cert.SumGateRefIdeal.τ) (Cert.SumGateRefIdeal.main (F := Ideal))) ⟨m, fun _ => 0, g⟩ (fun r => (∀ c : Dev Cert.SumGateRefIdeal.nD,
      r.2.mem ((c.tc : Thread Cert.SumGateRefIdeal.nD Cert.SumGateRefIdeal.τ).loc Cert.SumGateRefIdeal.main_arg0) = m ((c.tc : Thread Cert.SumGateRefIdeal.nD Cert.SumGateRefIdeal.τ).loc Cert.SumGateRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_SwigluBack [hSwigluBack : Cert.SwigluBack.Facts] : Prop :=
  ∀ (m : (ℓ : Loc Cert.SwigluBack.nD Cert.SwigluBack.τ Cert.SwigluBack.sig) → Buf (Elt Bits) ℓ) (g : Dev Cert.SwigluBack.nD → PrngReg), Pre_SwigluBack m →
    θ_run (Cert.SwigluBack.defs (F := Bits)) (onTc (τ := Cert.SwigluBack.τ) (Cert.SwigluBack.main (F := Bits))) ⟨m, fun _ => 0, g⟩ (fun r => (∀ c : Dev Cert.SwigluBack.nD,
      r.2.mem ((c.tc : Thread Cert.SwigluBack.nD Cert.SwigluBack.τ).loc Cert.SwigluBack.main_arg0) = m ((c.tc : Thread Cert.SwigluBack.nD Cert.SwigluBack.τ).loc Cert.SwigluBack.main_arg0)
      ∧ r.2.mem ((c.tc : Thread Cert.SwigluBack.nD Cert.SwigluBack.τ).loc Cert.SwigluBack.main_arg1) = m ((c.tc : Thread Cert.SwigluBack.nD Cert.SwigluBack.τ).loc Cert.SwigluBack.main_arg1)
      ∧ r.2.mem ((c.tc : Thread Cert.SwigluBack.nD Cert.SwigluBack.τ).loc Cert.SwigluBack.main_arg2) = m ((c.tc : Thread Cert.SwigluBack.nD Cert.SwigluBack.τ).loc Cert.SwigluBack.main_arg2))
      ∧ r.2.sem = fun _ => 0)

def quiescent_SwigluBackIdeal [hSwigluBackIdeal : Cert.SwigluBackIdeal.Facts] : Prop :=
  ∀ (m : (ℓ : Loc Cert.SwigluBackIdeal.nD Cert.SwigluBackIdeal.τ Cert.SwigluBackIdeal.sig) → Buf (Elt Ideal) ℓ) (g : Dev Cert.SwigluBackIdeal.nD → PrngReg), Pre_SwigluBackIdeal m →
    θ_run (Cert.SwigluBackIdeal.defs (F := Ideal)) (onTc (τ := Cert.SwigluBackIdeal.τ) (Cert.SwigluBackIdeal.main (F := Ideal))) ⟨m, fun _ => 0, g⟩ (fun r => (∀ c : Dev Cert.SwigluBackIdeal.nD,
      r.2.mem ((c.tc : Thread Cert.SwigluBackIdeal.nD Cert.SwigluBackIdeal.τ).loc Cert.SwigluBackIdeal.main_arg0) = m ((c.tc : Thread Cert.SwigluBackIdeal.nD Cert.SwigluBackIdeal.τ).loc Cert.SwigluBackIdeal.main_arg0)
      ∧ r.2.mem ((c.tc : Thread Cert.SwigluBackIdeal.nD Cert.SwigluBackIdeal.τ).loc Cert.SwigluBackIdeal.main_arg1) = m ((c.tc : Thread Cert.SwigluBackIdeal.nD Cert.SwigluBackIdeal.τ).loc Cert.SwigluBackIdeal.main_arg1)
      ∧ r.2.mem ((c.tc : Thread Cert.SwigluBackIdeal.nD Cert.SwigluBackIdeal.τ).loc Cert.SwigluBackIdeal.main_arg2) = m ((c.tc : Thread Cert.SwigluBackIdeal.nD Cert.SwigluBackIdeal.τ).loc Cert.SwigluBackIdeal.main_arg2))
      ∧ r.2.sem = fun _ => 0)

def quiescent_SwigluBackRefIdeal [hSwigluBackRefIdeal : Cert.SwigluBackRefIdeal.Facts] : Prop :=
  ∀ (m : (ℓ : Loc Cert.SwigluBackRefIdeal.nD Cert.SwigluBackRefIdeal.τ Cert.SwigluBackRefIdeal.sig) → Buf (Elt Ideal) ℓ) (g : Dev Cert.SwigluBackRefIdeal.nD → PrngReg), Pre_SwigluBackRefIdeal m →
    θ_run (Cert.SwigluBackRefIdeal.defs (F := Ideal)) (onTc (τ := Cert.SwigluBackRefIdeal.τ) (Cert.SwigluBackRefIdeal.main (F := Ideal))) ⟨m, fun _ => 0, g⟩ (fun r => (∀ c : Dev Cert.SwigluBackRefIdeal.nD,
      r.2.mem ((c.tc : Thread Cert.SwigluBackRefIdeal.nD Cert.SwigluBackRefIdeal.τ).loc Cert.SwigluBackRefIdeal.main_arg0) = m ((c.tc : Thread Cert.SwigluBackRefIdeal.nD Cert.SwigluBackRefIdeal.τ).loc Cert.SwigluBackRefIdeal.main_arg0)
      ∧ r.2.mem ((c.tc : Thread Cert.SwigluBackRefIdeal.nD Cert.SwigluBackRefIdeal.τ).loc Cert.SwigluBackRefIdeal.main_arg1) = m ((c.tc : Thread Cert.SwigluBackRefIdeal.nD Cert.SwigluBackRefIdeal.τ).loc Cert.SwigluBackRefIdeal.main_arg1)
      ∧ r.2.mem ((c.tc : Thread Cert.SwigluBackRefIdeal.nD Cert.SwigluBackRefIdeal.τ).loc Cert.SwigluBackRefIdeal.main_arg2) = m ((c.tc : Thread Cert.SwigluBackRefIdeal.nD Cert.SwigluBackRefIdeal.τ).loc Cert.SwigluBackRefIdeal.main_arg2))
      ∧ r.2.sem = fun _ => 0)

def quiescent_MmProj [hMmProj : Cert.MmProj.Facts] : Prop :=
  ∀ (m : (ℓ : Loc Cert.MmProj.nD Cert.MmProj.τ Cert.MmProj.sig) → Buf (Elt Bits) ℓ) (g : Dev Cert.MmProj.nD → PrngReg), Pre_MmProj m →
    θ_run (Cert.MmProj.defs (F := Bits)) (onTc (τ := Cert.MmProj.τ) (Cert.MmProj.main (F := Bits))) ⟨m, fun _ => 0, g⟩ (fun r => (∀ c : Dev Cert.MmProj.nD,
      r.2.mem ((c.tc : Thread Cert.MmProj.nD Cert.MmProj.τ).loc Cert.MmProj.main_arg0) = m ((c.tc : Thread Cert.MmProj.nD Cert.MmProj.τ).loc Cert.MmProj.main_arg0)
      ∧ r.2.mem ((c.tc : Thread Cert.MmProj.nD Cert.MmProj.τ).loc Cert.MmProj.main_arg1) = m ((c.tc : Thread Cert.MmProj.nD Cert.MmProj.τ).loc Cert.MmProj.main_arg1))
      ∧ r.2.sem = fun _ => 0)

def quiescent_MmProjIdeal [hMmProjIdeal : Cert.MmProjIdeal.Facts] : Prop :=
  ∀ (m : (ℓ : Loc Cert.MmProjIdeal.nD Cert.MmProjIdeal.τ Cert.MmProjIdeal.sig) → Buf (Elt Ideal) ℓ) (g : Dev Cert.MmProjIdeal.nD → PrngReg), Pre_MmProjIdeal m →
    θ_run (Cert.MmProjIdeal.defs (F := Ideal)) (onTc (τ := Cert.MmProjIdeal.τ) (Cert.MmProjIdeal.main (F := Ideal))) ⟨m, fun _ => 0, g⟩ (fun r => (∀ c : Dev Cert.MmProjIdeal.nD,
      r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
      ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ r.2.sem = fun _ => 0)

def quiescent_MmProjRefIdeal [hMmProjRefIdeal : Cert.MmProjRefIdeal.Facts] : Prop :=
  ∀ (m : (ℓ : Loc Cert.MmProjRefIdeal.nD Cert.MmProjRefIdeal.τ Cert.MmProjRefIdeal.sig) → Buf (Elt Ideal) ℓ) (g : Dev Cert.MmProjRefIdeal.nD → PrngReg), Pre_MmProjRefIdeal m →
    θ_run (Cert.MmProjRefIdeal.defs (F := Ideal)) (onTc (τ := Cert.MmProjRefIdeal.τ) (Cert.MmProjRefIdeal.main (F := Ideal))) ⟨m, fun _ => 0, g⟩ (fun r => (∀ c : Dev Cert.MmProjRefIdeal.nD,
      r.2.mem ((c.tc : Thread Cert.MmProjRefIdeal.nD Cert.MmProjRefIdeal.τ).loc Cert.MmProjRefIdeal.main_arg0) = m ((c.tc : Thread Cert.MmProjRefIdeal.nD Cert.MmProjRefIdeal.τ).loc Cert.MmProjRefIdeal.main_arg0)
      ∧ r.2.mem ((c.tc : Thread Cert.MmProjRefIdeal.nD Cert.MmProjRefIdeal.τ).loc Cert.MmProjRefIdeal.main_arg1) = m ((c.tc : Thread Cert.MmProjRefIdeal.nD Cert.MmProjRefIdeal.τ).loc Cert.MmProjRefIdeal.main_arg1))
      ∧ r.2.sem = fun _ => 0)

def quiescent_MmProjSmall [hMmProjSmall : Cert.MmProjSmall.Facts] : Prop :=
  ∀ (m : (ℓ : Loc Cert.MmProjSmall.nD Cert.MmProjSmall.τ Cert.MmProjSmall.sig) → Buf (Elt Bits) ℓ) (g : Dev Cert.MmProjSmall.nD → PrngReg), Pre_MmProjSmall m →
    θ_run (Cert.MmProjSmall.defs (F := Bits)) (onTc (τ := Cert.MmProjSmall.τ) (Cert.MmProjSmall.main (F := Bits))) ⟨m, fun _ => 0, g⟩ (fun r => (∀ c : Dev Cert.MmProjSmall.nD,
      r.2.mem ((c.tc : Thread Cert.MmProjSmall.nD Cert.MmProjSmall.τ).loc Cert.MmProjSmall.main_arg0) = m ((c.tc : Thread Cert.MmProjSmall.nD Cert.MmProjSmall.τ).loc Cert.MmProjSmall.main_arg0)
      ∧ r.2.mem ((c.tc : Thread Cert.MmProjSmall.nD Cert.MmProjSmall.τ).loc Cert.MmProjSmall.main_arg1) = m ((c.tc : Thread Cert.MmProjSmall.nD Cert.MmProjSmall.τ).loc Cert.MmProjSmall.main_arg1))
      ∧ r.2.sem = fun _ => 0)

def quiescent_MmProjSmallIdeal [hMmProjSmallIdeal : Cert.MmProjSmallIdeal.Facts] : Prop :=
  ∀ (m : (ℓ : Loc Cert.MmProjSmallIdeal.nD Cert.MmProjSmallIdeal.τ Cert.MmProjSmallIdeal.sig) → Buf (Elt Ideal) ℓ) (g : Dev Cert.MmProjSmallIdeal.nD → PrngReg), Pre_MmProjSmallIdeal m →
    θ_run (Cert.MmProjSmallIdeal.defs (F := Ideal)) (onTc (τ := Cert.MmProjSmallIdeal.τ) (Cert.MmProjSmallIdeal.main (F := Ideal))) ⟨m, fun _ => 0, g⟩ (fun r => (∀ c : Dev Cert.MmProjSmallIdeal.nD,
      r.2.mem ((c.tc : Thread Cert.MmProjSmallIdeal.nD Cert.MmProjSmallIdeal.τ).loc Cert.MmProjSmallIdeal.main_arg0) = m ((c.tc : Thread Cert.MmProjSmallIdeal.nD Cert.MmProjSmallIdeal.τ).loc Cert.MmProjSmallIdeal.main_arg0)
      ∧ r.2.mem ((c.tc : Thread Cert.MmProjSmallIdeal.nD Cert.MmProjSmallIdeal.τ).loc Cert.MmProjSmallIdeal.main_arg1) = m ((c.tc : Thread Cert.MmProjSmallIdeal.nD Cert.MmProjSmallIdeal.τ).loc Cert.MmProjSmallIdeal.main_arg1))
      ∧ r.2.sem = fun _ => 0)

def quiescent_MmProjSmallRefIdeal [hMmProjSmallRefIdeal : Cert.MmProjSmallRefIdeal.Facts] : Prop :=
  ∀ (m : (ℓ : Loc Cert.MmProjSmallRefIdeal.nD Cert.MmProjSmallRefIdeal.τ Cert.MmProjSmallRefIdeal.sig) → Buf (Elt Ideal) ℓ) (g : Dev Cert.MmProjSmallRefIdeal.nD → PrngReg), Pre_MmProjSmallRefIdeal m →
    θ_run (Cert.MmProjSmallRefIdeal.defs (F := Ideal)) (onTc (τ := Cert.MmProjSmallRefIdeal.τ) (Cert.MmProjSmallRefIdeal.main (F := Ideal))) ⟨m, fun _ => 0, g⟩ (fun r => (∀ c : Dev Cert.MmProjSmallRefIdeal.nD,
      r.2.mem ((c.tc : Thread Cert.MmProjSmallRefIdeal.nD Cert.MmProjSmallRefIdeal.τ).loc Cert.MmProjSmallRefIdeal.main_arg0) = m ((c.tc : Thread Cert.MmProjSmallRefIdeal.nD Cert.MmProjSmallRefIdeal.τ).loc Cert.MmProjSmallRefIdeal.main_arg0)
      ∧ r.2.mem ((c.tc : Thread Cert.MmProjSmallRefIdeal.nD Cert.MmProjSmallRefIdeal.τ).loc Cert.MmProjSmallRefIdeal.main_arg1) = m ((c.tc : Thread Cert.MmProjSmallRefIdeal.nD Cert.MmProjSmallRefIdeal.τ).loc Cert.MmProjSmallRefIdeal.main_arg1))
      ∧ r.2.sem = fun _ => 0)

def quiescent_MmGate [hMmGate : Cert.MmGate.Facts] : Prop :=
  ∀ (m : (ℓ : Loc Cert.MmGate.nD Cert.MmGate.τ Cert.MmGate.sig) → Buf (Elt Bits) ℓ) (g : Dev Cert.MmGate.nD → PrngReg), Pre_MmGate m →
    θ_run (Cert.MmGate.defs (F := Bits)) (onTc (τ := Cert.MmGate.τ) (Cert.MmGate.main (F := Bits))) ⟨m, fun _ => 0, g⟩ (fun r => (∀ c : Dev Cert.MmGate.nD,
      r.2.mem ((c.tc : Thread Cert.MmGate.nD Cert.MmGate.τ).loc Cert.MmGate.main_arg0) = m ((c.tc : Thread Cert.MmGate.nD Cert.MmGate.τ).loc Cert.MmGate.main_arg0)
      ∧ r.2.mem ((c.tc : Thread Cert.MmGate.nD Cert.MmGate.τ).loc Cert.MmGate.main_arg1) = m ((c.tc : Thread Cert.MmGate.nD Cert.MmGate.τ).loc Cert.MmGate.main_arg1))
      ∧ r.2.sem = fun _ => 0)

def quiescent_MmGateIdeal [hMmGateIdeal : Cert.MmGateIdeal.Facts] : Prop :=
  ∀ (m : (ℓ : Loc Cert.MmGateIdeal.nD Cert.MmGateIdeal.τ Cert.MmGateIdeal.sig) → Buf (Elt Ideal) ℓ) (g : Dev Cert.MmGateIdeal.nD → PrngReg), Pre_MmGateIdeal m →
    θ_run (Cert.MmGateIdeal.defs (F := Ideal)) (onTc (τ := Cert.MmGateIdeal.τ) (Cert.MmGateIdeal.main (F := Ideal))) ⟨m, fun _ => 0, g⟩ (fun r => (∀ c : Dev Cert.MmGateIdeal.nD,
      r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
      ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ r.2.sem = fun _ => 0)

def quiescent_MmGateRefIdeal [hMmGateRefIdeal : Cert.MmGateRefIdeal.Facts] : Prop :=
  ∀ (m : (ℓ : Loc Cert.MmGateRefIdeal.nD Cert.MmGateRefIdeal.τ Cert.MmGateRefIdeal.sig) → Buf (Elt Ideal) ℓ) (g : Dev Cert.MmGateRefIdeal.nD → PrngReg), Pre_MmGateRefIdeal m →
    θ_run (Cert.MmGateRefIdeal.defs (F := Ideal)) (onTc (τ := Cert.MmGateRefIdeal.τ) (Cert.MmGateRefIdeal.main (F := Ideal))) ⟨m, fun _ => 0, g⟩ (fun r => (∀ c : Dev Cert.MmGateRefIdeal.nD,
      r.2.mem ((c.tc : Thread Cert.MmGateRefIdeal.nD Cert.MmGateRefIdeal.τ).loc Cert.MmGateRefIdeal.main_arg0) = m ((c.tc : Thread Cert.MmGateRefIdeal.nD Cert.MmGateRefIdeal.τ).loc Cert.MmGateRefIdeal.main_arg0)
      ∧ r.2.mem ((c.tc : Thread Cert.MmGateRefIdeal.nD Cert.MmGateRefIdeal.τ).loc Cert.MmGateRefIdeal.main_arg1) = m ((c.tc : Thread Cert.MmGateRefIdeal.nD Cert.MmGateRefIdeal.τ).loc Cert.MmGateRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1)
      ∧ r.2.mem ((c.tc : Thread Cert.MmOutRefIdeal.nD Cert.MmOutRefIdeal.τ).loc Cert.MmOutRefIdeal.main_arg2) = m ((c.tc : Thread Cert.MmOutRefIdeal.nD Cert.MmOutRefIdeal.τ).loc Cert.MmOutRefIdeal.main_arg2))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1)
      ∧ r.2.mem ((c.tc : Thread Cert.MmDownRefIdeal.nD Cert.MmDownRefIdeal.τ).loc Cert.MmDownRefIdeal.main_arg2) = m ((c.tc : Thread Cert.MmDownRefIdeal.nD Cert.MmDownRefIdeal.τ).loc Cert.MmDownRefIdeal.main_arg2))
      ∧ r.2.sem = fun _ => 0)

def quiescent_MmDact [hMmDact : Cert.MmDact.Facts] : Prop :=
  ∀ (m : (ℓ : Loc Cert.MmDact.nD Cert.MmDact.τ Cert.MmDact.sig) → Buf (Elt Bits) ℓ) (g : Dev Cert.MmDact.nD → PrngReg), Pre_MmDact m →
    θ_run (Cert.MmDact.defs (F := Bits)) (onTc (τ := Cert.MmDact.τ) (Cert.MmDact.main (F := Bits))) ⟨m, fun _ => 0, g⟩ (fun r => (∀ c : Dev Cert.MmDact.nD,
      r.2.mem ((c.tc : Thread Cert.MmDact.nD Cert.MmDact.τ).loc Cert.MmDact.main_arg0) = m ((c.tc : Thread Cert.MmDact.nD Cert.MmDact.τ).loc Cert.MmDact.main_arg0)
      ∧ r.2.mem ((c.tc : Thread Cert.MmDact.nD Cert.MmDact.τ).loc Cert.MmDact.main_arg1) = m ((c.tc : Thread Cert.MmDact.nD Cert.MmDact.τ).loc Cert.MmDact.main_arg1))
      ∧ r.2.sem = fun _ => 0)

def quiescent_MmDactIdeal [hMmDactIdeal : Cert.MmDactIdeal.Facts] : Prop :=
  ∀ (m : (ℓ : Loc Cert.MmDactIdeal.nD Cert.MmDactIdeal.τ Cert.MmDactIdeal.sig) → Buf (Elt Ideal) ℓ) (g : Dev Cert.MmDactIdeal.nD → PrngReg), Pre_MmDactIdeal m →
    θ_run (Cert.MmDactIdeal.defs (F := Ideal)) (onTc (τ := Cert.MmDactIdeal.τ) (Cert.MmDactIdeal.main (F := Ideal))) ⟨m, fun _ => 0, g⟩ (fun r => (∀ c : Dev Cert.MmDactIdeal.nD,
      r.2.mem ((c.tc : Thread Cert.MmDactIdeal.nD Cert.MmDactIdeal.τ).loc Cert.MmDactIdeal.main_arg0) = m ((c.tc : Thread Cert.MmDactIdeal.nD Cert.MmDactIdeal.τ).loc Cert.MmDactIdeal.main_arg0)
      ∧ r.2.mem ((c.tc : Thread Cert.MmDactIdeal.nD Cert.MmDactIdeal.τ).loc Cert.MmDactIdeal.main_arg1) = m ((c.tc : Thread Cert.MmDactIdeal.nD Cert.MmDactIdeal.τ).loc Cert.MmDactIdeal.main_arg1))
      ∧ r.2.sem = fun _ => 0)

def quiescent_MmDactRefIdeal [hMmDactRefIdeal : Cert.MmDactRefIdeal.Facts] : Prop :=
  ∀ (m : (ℓ : Loc Cert.MmDactRefIdeal.nD Cert.MmDactRefIdeal.τ Cert.MmDactRefIdeal.sig) → Buf (Elt Ideal) ℓ) (g : Dev Cert.MmDactRefIdeal.nD → PrngReg), Pre_MmDactRefIdeal m →
    θ_run (Cert.MmDactRefIdeal.defs (F := Ideal)) (onTc (τ := Cert.MmDactRefIdeal.τ) (Cert.MmDactRefIdeal.main (F := Ideal))) ⟨m, fun _ => 0, g⟩ (fun r => (∀ c : Dev Cert.MmDactRefIdeal.nD,
      r.2.mem ((c.tc : Thread Cert.MmDactRefIdeal.nD Cert.MmDactRefIdeal.τ).loc Cert.MmDactRefIdeal.main_arg0) = m ((c.tc : Thread Cert.MmDactRefIdeal.nD Cert.MmDactRefIdeal.τ).loc Cert.MmDactRefIdeal.main_arg0)
      ∧ r.2.mem ((c.tc : Thread Cert.MmDactRefIdeal.nD Cert.MmDactRefIdeal.τ).loc Cert.MmDactRefIdeal.main_arg1) = m ((c.tc : Thread Cert.MmDactRefIdeal.nD Cert.MmDactRefIdeal.τ).loc Cert.MmDactRefIdeal.main_arg1))
      ∧ r.2.sem = fun _ => 0)

def quiescent_MmHnGate [hMmHnGate : Cert.MmHnGate.Facts] : Prop :=
  ∀ (m : (ℓ : Loc Cert.MmHnGate.nD Cert.MmHnGate.τ Cert.MmHnGate.sig) → Buf (Elt Bits) ℓ) (g : Dev Cert.MmHnGate.nD → PrngReg), Pre_MmHnGate m →
    θ_run (Cert.MmHnGate.defs (F := Bits)) (onTc (τ := Cert.MmHnGate.τ) (Cert.MmHnGate.main (F := Bits))) ⟨m, fun _ => 0, g⟩ (fun r => (∀ c : Dev Cert.MmHnGate.nD,
      r.2.mem ((c.tc : Thread Cert.MmHnGate.nD Cert.MmHnGate.τ).loc Cert.MmHnGate.main_arg0) = m ((c.tc : Thread Cert.MmHnGate.nD Cert.MmHnGate.τ).loc Cert.MmHnGate.main_arg0)
      ∧ r.2.mem ((c.tc : Thread Cert.MmHnGate.nD Cert.MmHnGate.τ).loc Cert.MmHnGate.main_arg1) = m ((c.tc : Thread Cert.MmHnGate.nD Cert.MmHnGate.τ).loc Cert.MmHnGate.main_arg1))
      ∧ r.2.sem = fun _ => 0)

def quiescent_MmHnGateIdeal [hMmHnGateIdeal : Cert.MmHnGateIdeal.Facts] : Prop :=
  ∀ (m : (ℓ : Loc Cert.MmHnGateIdeal.nD Cert.MmHnGateIdeal.τ Cert.MmHnGateIdeal.sig) → Buf (Elt Ideal) ℓ) (g : Dev Cert.MmHnGateIdeal.nD → PrngReg), Pre_MmHnGateIdeal m →
    θ_run (Cert.MmHnGateIdeal.defs (F := Ideal)) (onTc (τ := Cert.MmHnGateIdeal.τ) (Cert.MmHnGateIdeal.main (F := Ideal))) ⟨m, fun _ => 0, g⟩ (fun r => (∀ c : Dev Cert.MmHnGateIdeal.nD,
      r.2.mem ((c.tc : Thread Cert.MmHnGateIdeal.nD Cert.MmHnGateIdeal.τ).loc Cert.MmHnGateIdeal.main_arg0) = m ((c.tc : Thread Cert.MmHnGateIdeal.nD Cert.MmHnGateIdeal.τ).loc Cert.MmHnGateIdeal.main_arg0)
      ∧ r.2.mem ((c.tc : Thread Cert.MmHnGateIdeal.nD Cert.MmHnGateIdeal.τ).loc Cert.MmHnGateIdeal.main_arg1) = m ((c.tc : Thread Cert.MmHnGateIdeal.nD Cert.MmHnGateIdeal.τ).loc Cert.MmHnGateIdeal.main_arg1))
      ∧ r.2.sem = fun _ => 0)

def quiescent_MmHnGateRefIdeal [hMmHnGateRefIdeal : Cert.MmHnGateRefIdeal.Facts] : Prop :=
  ∀ (m : (ℓ : Loc Cert.MmHnGateRefIdeal.nD Cert.MmHnGateRefIdeal.τ Cert.MmHnGateRefIdeal.sig) → Buf (Elt Ideal) ℓ) (g : Dev Cert.MmHnGateRefIdeal.nD → PrngReg), Pre_MmHnGateRefIdeal m →
    θ_run (Cert.MmHnGateRefIdeal.defs (F := Ideal)) (onTc (τ := Cert.MmHnGateRefIdeal.τ) (Cert.MmHnGateRefIdeal.main (F := Ideal))) ⟨m, fun _ => 0, g⟩ (fun r => (∀ c : Dev Cert.MmHnGateRefIdeal.nD,
      r.2.mem ((c.tc : Thread Cert.MmHnGateRefIdeal.nD Cert.MmHnGateRefIdeal.τ).loc Cert.MmHnGateRefIdeal.main_arg0) = m ((c.tc : Thread Cert.MmHnGateRefIdeal.nD Cert.MmHnGateRefIdeal.τ).loc Cert.MmHnGateRefIdeal.main_arg0)
      ∧ r.2.mem ((c.tc : Thread Cert.MmHnGateRefIdeal.nD Cert.MmHnGateRefIdeal.τ).loc Cert.MmHnGateRefIdeal.main_arg1) = m ((c.tc : Thread Cert.MmHnGateRefIdeal.nD Cert.MmHnGateRefIdeal.τ).loc Cert.MmHnGateRefIdeal.main_arg1))
      ∧ r.2.sem = fun _ => 0)

def quiescent_MmMix [hMmMix : Cert.MmMix.Facts] : Prop :=
  ∀ (m : (ℓ : Loc Cert.MmMix.nD Cert.MmMix.τ Cert.MmMix.sig) → Buf (Elt Bits) ℓ) (g : Dev Cert.MmMix.nD → PrngReg), Pre_MmMix m →
    θ_run (Cert.MmMix.defs (F := Bits)) (onTc (τ := Cert.MmMix.τ) (Cert.MmMix.main (F := Bits))) ⟨m, fun _ => 0, g⟩ (fun r => (∀ c : Dev Cert.MmMix.nD,
      r.2.mem ((c.tc : Thread Cert.MmMix.nD Cert.MmMix.τ).loc Cert.MmMix.main_arg0) = m ((c.tc : Thread Cert.MmMix.nD Cert.MmMix.τ).loc Cert.MmMix.main_arg0)
      ∧ r.2.mem ((c.tc : Thread Cert.MmMix.nD Cert.MmMix.τ).loc Cert.MmMix.main_arg1) = m ((c.tc : Thread Cert.MmMix.nD Cert.MmMix.τ).loc Cert.MmMix.main_arg1))
      ∧ r.2.sem = fun _ => 0)

def quiescent_MmMixIdeal [hMmMixIdeal : Cert.MmMixIdeal.Facts] : Prop :=
  ∀ (m : (ℓ : Loc Cert.MmMixIdeal.nD Cert.MmMixIdeal.τ Cert.MmMixIdeal.sig) → Buf (Elt Ideal) ℓ) (g : Dev Cert.MmMixIdeal.nD → PrngReg), Pre_MmMixIdeal m →
    θ_run (Cert.MmMixIdeal.defs (F := Ideal)) (onTc (τ := Cert.MmMixIdeal.τ) (Cert.MmMixIdeal.main (F := Ideal))) ⟨m, fun _ => 0, g⟩ (fun r => (∀ c : Dev Cert.MmMixIdeal.nD,
      r.2.mem ((c.tc : Thread Cert.MmMixIdeal.nD Cert.MmMixIdeal.τ).loc Cert.MmMixIdeal.main_arg0) = m ((c.tc : Thread Cert.MmMixIdeal.nD Cert.MmMixIdeal.τ).loc Cert.MmMixIdeal.main_arg0)
      ∧ r.2.mem ((c.tc : Thread Cert.MmMixIdeal.nD Cert.MmMixIdeal.τ).loc Cert.MmMixIdeal.main_arg1) = m ((c.tc : Thread Cert.MmMixIdeal.nD Cert.MmMixIdeal.τ).loc Cert.MmMixIdeal.main_arg1))
      ∧ r.2.sem = fun _ => 0)

def quiescent_MmMixRefIdeal [hMmMixRefIdeal : Cert.MmMixRefIdeal.Facts] : Prop :=
  ∀ (m : (ℓ : Loc Cert.MmMixRefIdeal.nD Cert.MmMixRefIdeal.τ Cert.MmMixRefIdeal.sig) → Buf (Elt Ideal) ℓ) (g : Dev Cert.MmMixRefIdeal.nD → PrngReg), Pre_MmMixRefIdeal m →
    θ_run (Cert.MmMixRefIdeal.defs (F := Ideal)) (onTc (τ := Cert.MmMixRefIdeal.τ) (Cert.MmMixRefIdeal.main (F := Ideal))) ⟨m, fun _ => 0, g⟩ (fun r => (∀ c : Dev Cert.MmMixRefIdeal.nD,
      r.2.mem ((c.tc : Thread Cert.MmMixRefIdeal.nD Cert.MmMixRefIdeal.τ).loc Cert.MmMixRefIdeal.main_arg0) = m ((c.tc : Thread Cert.MmMixRefIdeal.nD Cert.MmMixRefIdeal.τ).loc Cert.MmMixRefIdeal.main_arg0)
      ∧ r.2.mem ((c.tc : Thread Cert.MmMixRefIdeal.nD Cert.MmMixRefIdeal.τ).loc Cert.MmMixRefIdeal.main_arg1) = m ((c.tc : Thread Cert.MmMixRefIdeal.nD Cert.MmMixRefIdeal.τ).loc Cert.MmMixRefIdeal.main_arg1))
      ∧ r.2.sem = fun _ => 0)

def quiescent_MmDu [hMmDu : Cert.MmDu.Facts] : Prop :=
  ∀ (m : (ℓ : Loc Cert.MmDu.nD Cert.MmDu.τ Cert.MmDu.sig) → Buf (Elt Bits) ℓ) (g : Dev Cert.MmDu.nD → PrngReg), Pre_MmDu m →
    θ_run (Cert.MmDu.defs (F := Bits)) (onTc (τ := Cert.MmDu.τ) (Cert.MmDu.main (F := Bits))) ⟨m, fun _ => 0, g⟩ (fun r => (∀ c : Dev Cert.MmDu.nD,
      r.2.mem ((c.tc : Thread Cert.MmDu.nD Cert.MmDu.τ).loc Cert.MmDu.main_arg0) = m ((c.tc : Thread Cert.MmDu.nD Cert.MmDu.τ).loc Cert.MmDu.main_arg0)
      ∧ r.2.mem ((c.tc : Thread Cert.MmDu.nD Cert.MmDu.τ).loc Cert.MmDu.main_arg1) = m ((c.tc : Thread Cert.MmDu.nD Cert.MmDu.τ).loc Cert.MmDu.main_arg1))
      ∧ r.2.sem = fun _ => 0)

def quiescent_MmDuIdeal [hMmDuIdeal : Cert.MmDuIdeal.Facts] : Prop :=
  ∀ (m : (ℓ : Loc Cert.MmDuIdeal.nD Cert.MmDuIdeal.τ Cert.MmDuIdeal.sig) → Buf (Elt Ideal) ℓ) (g : Dev Cert.MmDuIdeal.nD → PrngReg), Pre_MmDuIdeal m →
    θ_run (Cert.MmDuIdeal.defs (F := Ideal)) (onTc (τ := Cert.MmDuIdeal.τ) (Cert.MmDuIdeal.main (F := Ideal))) ⟨m, fun _ => 0, g⟩ (fun r => (∀ c : Dev Cert.MmDuIdeal.nD,
      r.2.mem ((c.tc : Thread Cert.MmDuIdeal.nD Cert.MmDuIdeal.τ).loc Cert.MmDuIdeal.main_arg0) = m ((c.tc : Thread Cert.MmDuIdeal.nD Cert.MmDuIdeal.τ).loc Cert.MmDuIdeal.main_arg0)
      ∧ r.2.mem ((c.tc : Thread Cert.MmDuIdeal.nD Cert.MmDuIdeal.τ).loc Cert.MmDuIdeal.main_arg1) = m ((c.tc : Thread Cert.MmDuIdeal.nD Cert.MmDuIdeal.τ).loc Cert.MmDuIdeal.main_arg1))
      ∧ r.2.sem = fun _ => 0)

def quiescent_MmDuRefIdeal [hMmDuRefIdeal : Cert.MmDuRefIdeal.Facts] : Prop :=
  ∀ (m : (ℓ : Loc Cert.MmDuRefIdeal.nD Cert.MmDuRefIdeal.τ Cert.MmDuRefIdeal.sig) → Buf (Elt Ideal) ℓ) (g : Dev Cert.MmDuRefIdeal.nD → PrngReg), Pre_MmDuRefIdeal m →
    θ_run (Cert.MmDuRefIdeal.defs (F := Ideal)) (onTc (τ := Cert.MmDuRefIdeal.τ) (Cert.MmDuRefIdeal.main (F := Ideal))) ⟨m, fun _ => 0, g⟩ (fun r => (∀ c : Dev Cert.MmDuRefIdeal.nD,
      r.2.mem ((c.tc : Thread Cert.MmDuRefIdeal.nD Cert.MmDuRefIdeal.τ).loc Cert.MmDuRefIdeal.main_arg0) = m ((c.tc : Thread Cert.MmDuRefIdeal.nD Cert.MmDuRefIdeal.τ).loc Cert.MmDuRefIdeal.main_arg0)
      ∧ r.2.mem ((c.tc : Thread Cert.MmDuRefIdeal.nD Cert.MmDuRefIdeal.τ).loc Cert.MmDuRefIdeal.main_arg1) = m ((c.tc : Thread Cert.MmDuRefIdeal.nD Cert.MmDuRefIdeal.τ).loc Cert.MmDuRefIdeal.main_arg1))
      ∧ r.2.sem = fun _ => 0)

def quiescent_MmHnUp [hMmHnUp : Cert.MmHnUp.Facts] : Prop :=
  ∀ (m : (ℓ : Loc Cert.MmHnUp.nD Cert.MmHnUp.τ Cert.MmHnUp.sig) → Buf (Elt Bits) ℓ) (g : Dev Cert.MmHnUp.nD → PrngReg), Pre_MmHnUp m →
    θ_run (Cert.MmHnUp.defs (F := Bits)) (onTc (τ := Cert.MmHnUp.τ) (Cert.MmHnUp.main (F := Bits))) ⟨m, fun _ => 0, g⟩ (fun r => (∀ c : Dev Cert.MmHnUp.nD,
      r.2.mem ((c.tc : Thread Cert.MmHnUp.nD Cert.MmHnUp.τ).loc Cert.MmHnUp.main_arg0) = m ((c.tc : Thread Cert.MmHnUp.nD Cert.MmHnUp.τ).loc Cert.MmHnUp.main_arg0)
      ∧ r.2.mem ((c.tc : Thread Cert.MmHnUp.nD Cert.MmHnUp.τ).loc Cert.MmHnUp.main_arg1) = m ((c.tc : Thread Cert.MmHnUp.nD Cert.MmHnUp.τ).loc Cert.MmHnUp.main_arg1)
      ∧ r.2.mem ((c.tc : Thread Cert.MmHnUp.nD Cert.MmHnUp.τ).loc Cert.MmHnUp.main_arg2) = m ((c.tc : Thread Cert.MmHnUp.nD Cert.MmHnUp.τ).loc Cert.MmHnUp.main_arg2))
      ∧ r.2.sem = fun _ => 0)

def quiescent_MmHnUpIdeal [hMmHnUpIdeal : Cert.MmHnUpIdeal.Facts] : Prop :=
  ∀ (m : (ℓ : Loc Cert.MmHnUpIdeal.nD Cert.MmHnUpIdeal.τ Cert.MmHnUpIdeal.sig) → Buf (Elt Ideal) ℓ) (g : Dev Cert.MmHnUpIdeal.nD → PrngReg), Pre_MmHnUpIdeal m →
    θ_run (Cert.MmHnUpIdeal.defs (F := Ideal)) (onTc (τ := Cert.MmHnUpIdeal.τ) (Cert.MmHnUpIdeal.main (F := Ideal))) ⟨m, fun _ => 0, g⟩ (fun r => (∀ c : Dev Cert.MmHnUpIdeal.nD,
      r.2.mem ((c.tc : Thread Cert.MmHnUpIdeal.nD Cert.MmHnUpIdeal.τ).loc Cert.MmHnUpIdeal.main_arg0) = m ((c.tc : Thread Cert.MmHnUpIdeal.nD Cert.MmHnUpIdeal.τ).loc Cert.MmHnUpIdeal.main_arg0)
      ∧ r.2.mem ((c.tc : Thread Cert.MmHnUpIdeal.nD Cert.MmHnUpIdeal.τ).loc Cert.MmHnUpIdeal.main_arg1) = m ((c.tc : Thread Cert.MmHnUpIdeal.nD Cert.MmHnUpIdeal.τ).loc Cert.MmHnUpIdeal.main_arg1)
      ∧ r.2.mem ((c.tc : Thread Cert.MmHnUpIdeal.nD Cert.MmHnUpIdeal.τ).loc Cert.MmHnUpIdeal.main_arg2) = m ((c.tc : Thread Cert.MmHnUpIdeal.nD Cert.MmHnUpIdeal.τ).loc Cert.MmHnUpIdeal.main_arg2))
      ∧ r.2.sem = fun _ => 0)

def quiescent_MmHnUpRefIdeal [hMmHnUpRefIdeal : Cert.MmHnUpRefIdeal.Facts] : Prop :=
  ∀ (m : (ℓ : Loc Cert.MmHnUpRefIdeal.nD Cert.MmHnUpRefIdeal.τ Cert.MmHnUpRefIdeal.sig) → Buf (Elt Ideal) ℓ) (g : Dev Cert.MmHnUpRefIdeal.nD → PrngReg), Pre_MmHnUpRefIdeal m →
    θ_run (Cert.MmHnUpRefIdeal.defs (F := Ideal)) (onTc (τ := Cert.MmHnUpRefIdeal.τ) (Cert.MmHnUpRefIdeal.main (F := Ideal))) ⟨m, fun _ => 0, g⟩ (fun r => (∀ c : Dev Cert.MmHnUpRefIdeal.nD,
      r.2.mem ((c.tc : Thread Cert.MmHnUpRefIdeal.nD Cert.MmHnUpRefIdeal.τ).loc Cert.MmHnUpRefIdeal.main_arg0) = m ((c.tc : Thread Cert.MmHnUpRefIdeal.nD Cert.MmHnUpRefIdeal.τ).loc Cert.MmHnUpRefIdeal.main_arg0)
      ∧ r.2.mem ((c.tc : Thread Cert.MmHnUpRefIdeal.nD Cert.MmHnUpRefIdeal.τ).loc Cert.MmHnUpRefIdeal.main_arg1) = m ((c.tc : Thread Cert.MmHnUpRefIdeal.nD Cert.MmHnUpRefIdeal.τ).loc Cert.MmHnUpRefIdeal.main_arg1)
      ∧ r.2.mem ((c.tc : Thread Cert.MmHnUpRefIdeal.nD Cert.MmHnUpRefIdeal.τ).loc Cert.MmHnUpRefIdeal.main_arg2) = m ((c.tc : Thread Cert.MmHnUpRefIdeal.nD Cert.MmHnUpRefIdeal.τ).loc Cert.MmHnUpRefIdeal.main_arg2))
      ∧ r.2.sem = fun _ => 0)

def quiescent_MmDuSmall [hMmDuSmall : Cert.MmDuSmall.Facts] : Prop :=
  ∀ (m : (ℓ : Loc Cert.MmDuSmall.nD Cert.MmDuSmall.τ Cert.MmDuSmall.sig) → Buf (Elt Bits) ℓ) (g : Dev Cert.MmDuSmall.nD → PrngReg), Pre_MmDuSmall m →
    θ_run (Cert.MmDuSmall.defs (F := Bits)) (onTc (τ := Cert.MmDuSmall.τ) (Cert.MmDuSmall.main (F := Bits))) ⟨m, fun _ => 0, g⟩ (fun r => (∀ c : Dev Cert.MmDuSmall.nD,
      r.2.mem ((c.tc : Thread Cert.MmDuSmall.nD Cert.MmDuSmall.τ).loc Cert.MmDuSmall.main_arg0) = m ((c.tc : Thread Cert.MmDuSmall.nD Cert.MmDuSmall.τ).loc Cert.MmDuSmall.main_arg0)
      ∧ r.2.mem ((c.tc : Thread Cert.MmDuSmall.nD Cert.MmDuSmall.τ).loc Cert.MmDuSmall.main_arg1) = m ((c.tc : Thread Cert.MmDuSmall.nD Cert.MmDuSmall.τ).loc Cert.MmDuSmall.main_arg1)
      ∧ r.2.mem ((c.tc : Thread Cert.MmDuSmall.nD Cert.MmDuSmall.τ).loc Cert.MmDuSmall.main_arg2) = m ((c.tc : Thread Cert.MmDuSmall.nD Cert.MmDuSmall.τ).loc Cert.MmDuSmall.main_arg2))
      ∧ r.2.sem = fun _ => 0)

def quiescent_MmDuSmallIdeal [hMmDuSmallIdeal : Cert.MmDuSmallIdeal.Facts] : Prop :=
  ∀ (m : (ℓ : Loc Cert.MmDuSmallIdeal.nD Cert.MmDuSmallIdeal.τ Cert.MmDuSmallIdeal.sig) → Buf (Elt Ideal) ℓ) (g : Dev Cert.MmDuSmallIdeal.nD → PrngReg), Pre_MmDuSmallIdeal m →
    θ_run (Cert.MmDuSmallIdeal.defs (F := Ideal)) (onTc (τ := Cert.MmDuSmallIdeal.τ) (Cert.MmDuSmallIdeal.main (F := Ideal))) ⟨m, fun _ => 0, g⟩ (fun r => (∀ c : Dev Cert.MmDuSmallIdeal.nD,
      r.2.mem ((c.tc : Thread Cert.MmDuSmallIdeal.nD Cert.MmDuSmallIdeal.τ).loc Cert.MmDuSmallIdeal.main_arg0) = m ((c.tc : Thread Cert.MmDuSmallIdeal.nD Cert.MmDuSmallIdeal.τ).loc Cert.MmDuSmallIdeal.main_arg0)
      ∧ r.2.mem ((c.tc : Thread Cert.MmDuSmallIdeal.nD Cert.MmDuSmallIdeal.τ).loc Cert.MmDuSmallIdeal.main_arg1) = m ((c.tc : Thread Cert.MmDuSmallIdeal.nD Cert.MmDuSmallIdeal.τ).loc Cert.MmDuSmallIdeal.main_arg1)
      ∧ r.2.mem ((c.tc : Thread Cert.MmDuSmallIdeal.nD Cert.MmDuSmallIdeal.τ).loc Cert.MmDuSmallIdeal.main_arg2) = m ((c.tc : Thread Cert.MmDuSmallIdeal.nD Cert.MmDuSmallIdeal.τ).loc Cert.MmDuSmallIdeal.main_arg2))
      ∧ r.2.sem = fun _ => 0)

def quiescent_MmDuSmallRefIdeal [hMmDuSmallRefIdeal : Cert.MmDuSmallRefIdeal.Facts] : Prop :=
  ∀ (m : (ℓ : Loc Cert.MmDuSmallRefIdeal.nD Cert.MmDuSmallRefIdeal.τ Cert.MmDuSmallRefIdeal.sig) → Buf (Elt Ideal) ℓ) (g : Dev Cert.MmDuSmallRefIdeal.nD → PrngReg), Pre_MmDuSmallRefIdeal m →
    θ_run (Cert.MmDuSmallRefIdeal.defs (F := Ideal)) (onTc (τ := Cert.MmDuSmallRefIdeal.τ) (Cert.MmDuSmallRefIdeal.main (F := Ideal))) ⟨m, fun _ => 0, g⟩ (fun r => (∀ c : Dev Cert.MmDuSmallRefIdeal.nD,
      r.2.mem ((c.tc : Thread Cert.MmDuSmallRefIdeal.nD Cert.MmDuSmallRefIdeal.τ).loc Cert.MmDuSmallRefIdeal.main_arg0) = m ((c.tc : Thread Cert.MmDuSmallRefIdeal.nD Cert.MmDuSmallRefIdeal.τ).loc Cert.MmDuSmallRefIdeal.main_arg0)
      ∧ r.2.mem ((c.tc : Thread Cert.MmDuSmallRefIdeal.nD Cert.MmDuSmallRefIdeal.τ).loc Cert.MmDuSmallRefIdeal.main_arg1) = m ((c.tc : Thread Cert.MmDuSmallRefIdeal.nD Cert.MmDuSmallRefIdeal.τ).loc Cert.MmDuSmallRefIdeal.main_arg1)
      ∧ r.2.mem ((c.tc : Thread Cert.MmDuSmallRefIdeal.nD Cert.MmDuSmallRefIdeal.τ).loc Cert.MmDuSmallRefIdeal.main_arg2) = m ((c.tc : Thread Cert.MmDuSmallRefIdeal.nD Cert.MmDuSmallRefIdeal.τ).loc Cert.MmDuSmallRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwInSmall [hDwInSmall : Cert.DwInSmall.Facts] : Prop :=
  ∀ (m : (ℓ : Loc Cert.DwInSmall.nD Cert.DwInSmall.τ Cert.DwInSmall.sig) → Buf (Elt Bits) ℓ) (g : Dev Cert.DwInSmall.nD → PrngReg), Pre_DwInSmall m →
    θ_run (Cert.DwInSmall.defs (F := Bits)) (onTc (τ := Cert.DwInSmall.τ) (Cert.DwInSmall.main (F := Bits))) ⟨m, fun _ => 0, g⟩ (fun r => (∀ c : Dev Cert.DwInSmall.nD,
      r.2.mem ((c.tc : Thread Cert.DwInSmall.nD Cert.DwInSmall.τ).loc Cert.DwInSmall.main_arg0) = m ((c.tc : Thread Cert.DwInSmall.nD Cert.DwInSmall.τ).loc Cert.DwInSmall.main_arg0)
      ∧ r.2.mem ((c.tc : Thread Cert.DwInSmall.nD Cert.DwInSmall.τ).loc Cert.DwInSmall.main_arg1) = m ((c.tc : Thread Cert.DwInSmall.nD Cert.DwInSmall.τ).loc Cert.DwInSmall.main_arg1))
      ∧ r.2.sem = fun _ => 0)

def quiescent_DwInSmallIdeal [hDwInSmallIdeal : Cert.DwInSmallIdeal.Facts] : Prop :=
  ∀ (m : (ℓ : Loc Cert.DwInSmallIdeal.nD Cert.DwInSmallIdeal.τ Cert.DwInSmallIdeal.sig) → Buf (Elt Ideal) ℓ) (g : Dev Cert.DwInSmallIdeal.nD → PrngReg), Pre_DwInSmallIdeal m →
    θ_run (Cert.DwInSmallIdeal.defs (F := Ideal)) (onTc (τ := Cert.DwInSmallIdeal.τ) (Cert.DwInSmallIdeal.main (F := Ideal))) ⟨m, fun _ => 0, g⟩ (fun r => (∀ c : Dev Cert.DwInSmallIdeal.nD,
      r.2.mem ((c.tc : Thread Cert.DwInSmallIdeal.nD Cert.DwInSmallIdeal.τ).loc Cert.DwInSmallIdeal.main_arg0) = m ((c.tc : Thread Cert.DwInSmallIdeal.nD Cert.DwInSmallIdeal.τ).loc Cert.DwInSmallIdeal.main_arg0)
      ∧ r.2.mem ((c.tc : Thread Cert.DwInSmallIdeal.nD Cert.DwInSmallIdeal.τ).loc Cert.DwInSmallIdeal.main_arg1) = m ((c.tc : Thread Cert.DwInSmallIdeal.nD Cert.DwInSmallIdeal.τ).loc Cert.DwInSmallIdeal.main_arg1))
      ∧ r.2.sem = fun _ => 0)

def quiescent_DwInSmallRefIdeal [hDwInSmallRefIdeal : Cert.DwInSmallRefIdeal.Facts] : Prop :=
  ∀ (m : (ℓ : Loc Cert.DwInSmallRefIdeal.nD Cert.DwInSmallRefIdeal.τ Cert.DwInSmallRefIdeal.sig) → Buf (Elt Ideal) ℓ) (g : Dev Cert.DwInSmallRefIdeal.nD → PrngReg), Pre_DwInSmallRefIdeal m →
    θ_run (Cert.DwInSmallRefIdeal.defs (F := Ideal)) (onTc (τ := Cert.DwInSmallRefIdeal.τ) (Cert.DwInSmallRefIdeal.main (F := Ideal))) ⟨m, fun _ => 0, g⟩ (fun r => (∀ c : Dev Cert.DwInSmallRefIdeal.nD,
      r.2.mem ((c.tc : Thread Cert.DwInSmallRefIdeal.nD Cert.DwInSmallRefIdeal.τ).loc Cert.DwInSmallRefIdeal.main_arg0) = m ((c.tc : Thread Cert.DwInSmallRefIdeal.nD Cert.DwInSmallRefIdeal.τ).loc Cert.DwInSmallRefIdeal.main_arg0)
      ∧ r.2.mem ((c.tc : Thread Cert.DwInSmallRefIdeal.nD Cert.DwInSmallRefIdeal.τ).loc Cert.DwInSmallRefIdeal.main_arg1) = m ((c.tc : Thread Cert.DwInSmallRefIdeal.nD Cert.DwInSmallRefIdeal.τ).loc Cert.DwInSmallRefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_RmsBack [hRmsBack : Cert.RmsBack.Facts] : Prop :=
  ∀ (m : (ℓ : Loc Cert.RmsBack.nD Cert.RmsBack.τ Cert.RmsBack.sig) → Buf (Elt Bits) ℓ) (g : Dev Cert.RmsBack.nD → PrngReg), Pre_RmsBack m →
    θ_run (Cert.RmsBack.defs (F := Bits)) (onTc (τ := Cert.RmsBack.τ) (Cert.RmsBack.main (F := Bits))) ⟨m, fun _ => 0, g⟩ (fun r => (∀ c : Dev Cert.RmsBack.nD,
      r.2.mem ((c.tc : Thread Cert.RmsBack.nD Cert.RmsBack.τ).loc Cert.RmsBack.main_arg0) = m ((c.tc : Thread Cert.RmsBack.nD Cert.RmsBack.τ).loc Cert.RmsBack.main_arg0)
      ∧ r.2.mem ((c.tc : Thread Cert.RmsBack.nD Cert.RmsBack.τ).loc Cert.RmsBack.main_arg1) = m ((c.tc : Thread Cert.RmsBack.nD Cert.RmsBack.τ).loc Cert.RmsBack.main_arg1)
      ∧ r.2.mem ((c.tc : Thread Cert.RmsBack.nD Cert.RmsBack.τ).loc Cert.RmsBack.main_arg2) = m ((c.tc : Thread Cert.RmsBack.nD Cert.RmsBack.τ).loc Cert.RmsBack.main_arg2)
      ∧ r.2.mem ((c.tc : Thread Cert.RmsBack.nD Cert.RmsBack.τ).loc Cert.RmsBack.main_arg3) = m ((c.tc : Thread Cert.RmsBack.nD Cert.RmsBack.τ).loc Cert.RmsBack.main_arg3))
      ∧ r.2.sem = fun _ => 0)

def quiescent_RmsBackIdeal [hRmsBackIdeal : Cert.RmsBackIdeal.Facts] : Prop :=
  ∀ (m : (ℓ : Loc Cert.RmsBackIdeal.nD Cert.RmsBackIdeal.τ Cert.RmsBackIdeal.sig) → Buf (Elt Ideal) ℓ) (g : Dev Cert.RmsBackIdeal.nD → PrngReg), Pre_RmsBackIdeal m →
    θ_run (Cert.RmsBackIdeal.defs (F := Ideal)) (onTc (τ := Cert.RmsBackIdeal.τ) (Cert.RmsBackIdeal.main (F := Ideal))) ⟨m, fun _ => 0, g⟩ (fun r => (∀ c : Dev Cert.RmsBackIdeal.nD,
      r.2.mem ((c.tc : Thread Cert.RmsBackIdeal.nD Cert.RmsBackIdeal.τ).loc Cert.RmsBackIdeal.main_arg0) = m ((c.tc : Thread Cert.RmsBackIdeal.nD Cert.RmsBackIdeal.τ).loc Cert.RmsBackIdeal.main_arg0)
      ∧ r.2.mem ((c.tc : Thread Cert.RmsBackIdeal.nD Cert.RmsBackIdeal.τ).loc Cert.RmsBackIdeal.main_arg1) = m ((c.tc : Thread Cert.RmsBackIdeal.nD Cert.RmsBackIdeal.τ).loc Cert.RmsBackIdeal.main_arg1)
      ∧ r.2.mem ((c.tc : Thread Cert.RmsBackIdeal.nD Cert.RmsBackIdeal.τ).loc Cert.RmsBackIdeal.main_arg2) = m ((c.tc : Thread Cert.RmsBackIdeal.nD Cert.RmsBackIdeal.τ).loc Cert.RmsBackIdeal.main_arg2)
      ∧ r.2.mem ((c.tc : Thread Cert.RmsBackIdeal.nD Cert.RmsBackIdeal.τ).loc Cert.RmsBackIdeal.main_arg3) = m ((c.tc : Thread Cert.RmsBackIdeal.nD Cert.RmsBackIdeal.τ).loc Cert.RmsBackIdeal.main_arg3))
      ∧ r.2.sem = fun _ => 0)

def quiescent_RmsBackRefIdeal [hRmsBackRefIdeal : Cert.RmsBackRefIdeal.Facts] : Prop :=
  ∀ (m : (ℓ : Loc Cert.RmsBackRefIdeal.nD Cert.RmsBackRefIdeal.τ Cert.RmsBackRefIdeal.sig) → Buf (Elt Ideal) ℓ) (g : Dev Cert.RmsBackRefIdeal.nD → PrngReg), Pre_RmsBackRefIdeal m →
    θ_run (Cert.RmsBackRefIdeal.defs (F := Ideal)) (onTc (τ := Cert.RmsBackRefIdeal.τ) (Cert.RmsBackRefIdeal.main (F := Ideal))) ⟨m, fun _ => 0, g⟩ (fun r => (∀ c : Dev Cert.RmsBackRefIdeal.nD,
      r.2.mem ((c.tc : Thread Cert.RmsBackRefIdeal.nD Cert.RmsBackRefIdeal.τ).loc Cert.RmsBackRefIdeal.main_arg0) = m ((c.tc : Thread Cert.RmsBackRefIdeal.nD Cert.RmsBackRefIdeal.τ).loc Cert.RmsBackRefIdeal.main_arg0)
      ∧ r.2.mem ((c.tc : Thread Cert.RmsBackRefIdeal.nD Cert.RmsBackRefIdeal.τ).loc Cert.RmsBackRefIdeal.main_arg1) = m ((c.tc : Thread Cert.RmsBackRefIdeal.nD Cert.RmsBackRefIdeal.τ).loc Cert.RmsBackRefIdeal.main_arg1)
      ∧ r.2.mem ((c.tc : Thread Cert.RmsBackRefIdeal.nD Cert.RmsBackRefIdeal.τ).loc Cert.RmsBackRefIdeal.main_arg2) = m ((c.tc : Thread Cert.RmsBackRefIdeal.nD Cert.RmsBackRefIdeal.τ).loc Cert.RmsBackRefIdeal.main_arg2)
      ∧ r.2.mem ((c.tc : Thread Cert.RmsBackRefIdeal.nD Cert.RmsBackRefIdeal.τ).loc Cert.RmsBackRefIdeal.main_arg3) = m ((c.tc : Thread Cert.RmsBackRefIdeal.nD Cert.RmsBackRefIdeal.τ).loc Cert.RmsBackRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_GatesBack [hGatesBack : Cert.GatesBack.Facts] : Prop :=
  ∀ (m : (ℓ : Loc Cert.GatesBack.nD Cert.GatesBack.τ Cert.GatesBack.sig) → Buf (Elt Bits) ℓ) (g : Dev Cert.GatesBack.nD → PrngReg), Pre_GatesBack m →
    θ_run (Cert.GatesBack.defs (F := Bits)) (onTc (τ := Cert.GatesBack.τ) (Cert.GatesBack.main (F := Bits))) ⟨m, fun _ => 0, g⟩ (fun r => (∀ c : Dev Cert.GatesBack.nD,
      r.2.mem ((c.tc : Thread Cert.GatesBack.nD Cert.GatesBack.τ).loc Cert.GatesBack.main_arg0) = m ((c.tc : Thread Cert.GatesBack.nD Cert.GatesBack.τ).loc Cert.GatesBack.main_arg0)
      ∧ r.2.mem ((c.tc : Thread Cert.GatesBack.nD Cert.GatesBack.τ).loc Cert.GatesBack.main_arg1) = m ((c.tc : Thread Cert.GatesBack.nD Cert.GatesBack.τ).loc Cert.GatesBack.main_arg1)
      ∧ r.2.mem ((c.tc : Thread Cert.GatesBack.nD Cert.GatesBack.τ).loc Cert.GatesBack.main_arg2) = m ((c.tc : Thread Cert.GatesBack.nD Cert.GatesBack.τ).loc Cert.GatesBack.main_arg2)
      ∧ r.2.mem ((c.tc : Thread Cert.GatesBack.nD Cert.GatesBack.τ).loc Cert.GatesBack.main_arg3) = m ((c.tc : Thread Cert.GatesBack.nD Cert.GatesBack.τ).loc Cert.GatesBack.main_arg3))
      ∧ r.2.sem = fun _ => 0)

def quiescent_GatesBackIdeal [hGatesBackIdeal : Cert.GatesBackIdeal.Facts] : Prop :=
  ∀ (m : (ℓ : Loc Cert.GatesBackIdeal.nD Cert.GatesBackIdeal.τ Cert.GatesBackIdeal.sig) → Buf (Elt Ideal) ℓ) (g : Dev Cert.GatesBackIdeal.nD → PrngReg), Pre_GatesBackIdeal m →
    θ_run (Cert.GatesBackIdeal.defs (F := Ideal)) (onTc (τ := Cert.GatesBackIdeal.τ) (Cert.GatesBackIdeal.main (F := Ideal))) ⟨m, fun _ => 0, g⟩ (fun r => (∀ c : Dev Cert.GatesBackIdeal.nD,
      r.2.mem ((c.tc : Thread Cert.GatesBackIdeal.nD Cert.GatesBackIdeal.τ).loc Cert.GatesBackIdeal.main_arg0) = m ((c.tc : Thread Cert.GatesBackIdeal.nD Cert.GatesBackIdeal.τ).loc Cert.GatesBackIdeal.main_arg0)
      ∧ r.2.mem ((c.tc : Thread Cert.GatesBackIdeal.nD Cert.GatesBackIdeal.τ).loc Cert.GatesBackIdeal.main_arg1) = m ((c.tc : Thread Cert.GatesBackIdeal.nD Cert.GatesBackIdeal.τ).loc Cert.GatesBackIdeal.main_arg1)
      ∧ r.2.mem ((c.tc : Thread Cert.GatesBackIdeal.nD Cert.GatesBackIdeal.τ).loc Cert.GatesBackIdeal.main_arg2) = m ((c.tc : Thread Cert.GatesBackIdeal.nD Cert.GatesBackIdeal.τ).loc Cert.GatesBackIdeal.main_arg2)
      ∧ r.2.mem ((c.tc : Thread Cert.GatesBackIdeal.nD Cert.GatesBackIdeal.τ).loc Cert.GatesBackIdeal.main_arg3) = m ((c.tc : Thread Cert.GatesBackIdeal.nD Cert.GatesBackIdeal.τ).loc Cert.GatesBackIdeal.main_arg3))
      ∧ r.2.sem = fun _ => 0)

def quiescent_GatesBackRefIdeal [hGatesBackRefIdeal : Cert.GatesBackRefIdeal.Facts] : Prop :=
  ∀ (m : (ℓ : Loc Cert.GatesBackRefIdeal.nD Cert.GatesBackRefIdeal.τ Cert.GatesBackRefIdeal.sig) → Buf (Elt Ideal) ℓ) (g : Dev Cert.GatesBackRefIdeal.nD → PrngReg), Pre_GatesBackRefIdeal m →
    θ_run (Cert.GatesBackRefIdeal.defs (F := Ideal)) (onTc (τ := Cert.GatesBackRefIdeal.τ) (Cert.GatesBackRefIdeal.main (F := Ideal))) ⟨m, fun _ => 0, g⟩ (fun r => (∀ c : Dev Cert.GatesBackRefIdeal.nD,
      r.2.mem ((c.tc : Thread Cert.GatesBackRefIdeal.nD Cert.GatesBackRefIdeal.τ).loc Cert.GatesBackRefIdeal.main_arg0) = m ((c.tc : Thread Cert.GatesBackRefIdeal.nD Cert.GatesBackRefIdeal.τ).loc Cert.GatesBackRefIdeal.main_arg0)
      ∧ r.2.mem ((c.tc : Thread Cert.GatesBackRefIdeal.nD Cert.GatesBackRefIdeal.τ).loc Cert.GatesBackRefIdeal.main_arg1) = m ((c.tc : Thread Cert.GatesBackRefIdeal.nD Cert.GatesBackRefIdeal.τ).loc Cert.GatesBackRefIdeal.main_arg1)
      ∧ r.2.mem ((c.tc : Thread Cert.GatesBackRefIdeal.nD Cert.GatesBackRefIdeal.τ).loc Cert.GatesBackRefIdeal.main_arg2) = m ((c.tc : Thread Cert.GatesBackRefIdeal.nD Cert.GatesBackRefIdeal.τ).loc Cert.GatesBackRefIdeal.main_arg2)
      ∧ r.2.mem ((c.tc : Thread Cert.GatesBackRefIdeal.nD Cert.GatesBackRefIdeal.τ).loc Cert.GatesBackRefIdeal.main_arg3) = m ((c.tc : Thread Cert.GatesBackRefIdeal.nD Cert.GatesBackRefIdeal.τ).loc Cert.GatesBackRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_MergeBack [hMergeBack : Cert.MergeBack.Facts] : Prop :=
  ∀ (m : (ℓ : Loc Cert.MergeBack.nD Cert.MergeBack.τ Cert.MergeBack.sig) → Buf (Elt Bits) ℓ) (g : Dev Cert.MergeBack.nD → PrngReg), Pre_MergeBack m →
    θ_run (Cert.MergeBack.defs (F := Bits)) (onTc (τ := Cert.MergeBack.τ) (Cert.MergeBack.main (F := Bits))) ⟨m, fun _ => 0, g⟩ (fun r => (∀ c : Dev Cert.MergeBack.nD,
      r.2.mem ((c.tc : Thread Cert.MergeBack.nD Cert.MergeBack.τ).loc Cert.MergeBack.main_arg0) = m ((c.tc : Thread Cert.MergeBack.nD Cert.MergeBack.τ).loc Cert.MergeBack.main_arg0)
      ∧ r.2.mem ((c.tc : Thread Cert.MergeBack.nD Cert.MergeBack.τ).loc Cert.MergeBack.main_arg1) = m ((c.tc : Thread Cert.MergeBack.nD Cert.MergeBack.τ).loc Cert.MergeBack.main_arg1)
      ∧ r.2.mem ((c.tc : Thread Cert.MergeBack.nD Cert.MergeBack.τ).loc Cert.MergeBack.main_arg2) = m ((c.tc : Thread Cert.MergeBack.nD Cert.MergeBack.τ).loc Cert.MergeBack.main_arg2)
      ∧ r.2.mem ((c.tc : Thread Cert.MergeBack.nD Cert.MergeBack.τ).loc Cert.MergeBack.main_arg3) = m ((c.tc : Thread Cert.MergeBack.nD Cert.MergeBack.τ).loc Cert.MergeBack.main_arg3)
      ∧ r.2.mem ((c.tc : Thread Cert.MergeBack.nD Cert.MergeBack.τ).loc Cert.MergeBack.main_arg4) = m ((c.tc : Thread Cert.MergeBack.nD Cert.MergeBack.τ).loc Cert.MergeBack.main_arg4)
      ∧ r.2.mem ((c.tc : Thread Cert.MergeBack.nD Cert.MergeBack.τ).loc Cert.MergeBack.main_arg5) = m ((c.tc : Thread Cert.MergeBack.nD Cert.MergeBack.τ).loc Cert.MergeBack.main_arg5))
      ∧ r.2.sem = fun _ => 0)

def quiescent_MergeBackIdeal [hMergeBackIdeal : Cert.MergeBackIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg), Pre_MergeBackIdeal m →
    θ_run (Cert.MergeBackIdeal.defs (F := Ideal)) (onTc (τ := Cert.MergeBackIdeal.τ) (Cert.MergeBackIdeal.main (F := Ideal))) ⟨m, fun _ => 0, g⟩ (fun r => (∀ c : Dev Cert.MergeBackIdeal.nD,
      r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
      ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
      ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
      ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3)
      ∧ r.2.mem ((c.tc : Thread Cert.MergeBackIdeal.nD Cert.MergeBackIdeal.τ).loc Cert.MergeBackIdeal.main_arg4) = m ((c.tc : Thread Cert.MergeBackIdeal.nD Cert.MergeBackIdeal.τ).loc Cert.MergeBackIdeal.main_arg4)
      ∧ r.2.mem ((c.tc : Thread Cert.MergeBackIdeal.nD Cert.MergeBackIdeal.τ).loc Cert.MergeBackIdeal.main_arg5) = m ((c.tc : Thread Cert.MergeBackIdeal.nD Cert.MergeBackIdeal.τ).loc Cert.MergeBackIdeal.main_arg5))
      ∧ r.2.sem = fun _ => 0)

def quiescent_MergeBackRefIdeal [hMergeBackRefIdeal : Cert.MergeBackRefIdeal.Facts] : Prop :=
  ∀ (m : (ℓ : Loc Cert.MergeBackRefIdeal.nD Cert.MergeBackRefIdeal.τ Cert.MergeBackRefIdeal.sig) → Buf (Elt Ideal) ℓ) (g : Dev Cert.MergeBackRefIdeal.nD → PrngReg), Pre_MergeBackRefIdeal m →
    θ_run (Cert.MergeBackRefIdeal.defs (F := Ideal)) (onTc (τ := Cert.MergeBackRefIdeal.τ) (Cert.MergeBackRefIdeal.main (F := Ideal))) ⟨m, fun _ => 0, g⟩ (fun r => (∀ c : Dev Cert.MergeBackRefIdeal.nD,
      r.2.mem ((c.tc : Thread Cert.MergeBackRefIdeal.nD Cert.MergeBackRefIdeal.τ).loc Cert.MergeBackRefIdeal.main_arg0) = m ((c.tc : Thread Cert.MergeBackRefIdeal.nD Cert.MergeBackRefIdeal.τ).loc Cert.MergeBackRefIdeal.main_arg0)
      ∧ r.2.mem ((c.tc : Thread Cert.MergeBackRefIdeal.nD Cert.MergeBackRefIdeal.τ).loc Cert.MergeBackRefIdeal.main_arg1) = m ((c.tc : Thread Cert.MergeBackRefIdeal.nD Cert.MergeBackRefIdeal.τ).loc Cert.MergeBackRefIdeal.main_arg1)
      ∧ r.2.mem ((c.tc : Thread Cert.MergeBackRefIdeal.nD Cert.MergeBackRefIdeal.τ).loc Cert.MergeBackRefIdeal.main_arg2) = m ((c.tc : Thread Cert.MergeBackRefIdeal.nD Cert.MergeBackRefIdeal.τ).loc Cert.MergeBackRefIdeal.main_arg2)
      ∧ r.2.mem ((c.tc : Thread Cert.MergeBackRefIdeal.nD Cert.MergeBackRefIdeal.τ).loc Cert.MergeBackRefIdeal.main_arg3) = m ((c.tc : Thread Cert.MergeBackRefIdeal.nD Cert.MergeBackRefIdeal.τ).loc Cert.MergeBackRefIdeal.main_arg3)
      ∧ r.2.mem ((c.tc : Thread Cert.MergeBackRefIdeal.nD Cert.MergeBackRefIdeal.τ).loc Cert.MergeBackRefIdeal.main_arg4) = m ((c.tc : Thread Cert.MergeBackRefIdeal.nD Cert.MergeBackRefIdeal.τ).loc Cert.MergeBackRefIdeal.main_arg4)
      ∧ r.2.mem ((c.tc : Thread Cert.MergeBackRefIdeal.nD Cert.MergeBackRefIdeal.τ).loc Cert.MergeBackRefIdeal.main_arg5) = m ((c.tc : Thread Cert.MergeBackRefIdeal.nD Cert.MergeBackRefIdeal.τ).loc Cert.MergeBackRefIdeal.main_arg5))
      ∧ r.2.sem = fun _ => 0)

def quiescent_ConvPre [hConvPre : Cert.ConvPre.Facts] : Prop :=
  ∀ (m : (ℓ : Loc Cert.ConvPre.nD Cert.ConvPre.τ Cert.ConvPre.sig) → Buf (Elt Bits) ℓ) (g : Dev Cert.ConvPre.nD → PrngReg), Pre_ConvPre m →
    θ_run (Cert.ConvPre.defs (F := Bits)) (onTc (τ := Cert.ConvPre.τ) (Cert.ConvPre.main (F := Bits))) ⟨m, fun _ => 0, g⟩ (fun r => (∀ c : Dev Cert.ConvPre.nD,
      r.2.mem ((c.tc : Thread Cert.ConvPre.nD Cert.ConvPre.τ).loc Cert.ConvPre.main_arg0) = m ((c.tc : Thread Cert.ConvPre.nD Cert.ConvPre.τ).loc Cert.ConvPre.main_arg0)
      ∧ r.2.mem ((c.tc : Thread Cert.ConvPre.nD Cert.ConvPre.τ).loc Cert.ConvPre.main_arg1) = m ((c.tc : Thread Cert.ConvPre.nD Cert.ConvPre.τ).loc Cert.ConvPre.main_arg1)
      ∧ r.2.mem ((c.tc : Thread Cert.ConvPre.nD Cert.ConvPre.τ).loc Cert.ConvPre.main_arg2) = m ((c.tc : Thread Cert.ConvPre.nD Cert.ConvPre.τ).loc Cert.ConvPre.main_arg2)
      ∧ r.2.mem ((c.tc : Thread Cert.ConvPre.nD Cert.ConvPre.τ).loc Cert.ConvPre.main_arg3) = m ((c.tc : Thread Cert.ConvPre.nD Cert.ConvPre.τ).loc Cert.ConvPre.main_arg3)
      ∧ r.2.mem ((c.tc : Thread Cert.ConvPre.nD Cert.ConvPre.τ).loc Cert.ConvPre.main_arg4) = m ((c.tc : Thread Cert.ConvPre.nD Cert.ConvPre.τ).loc Cert.ConvPre.main_arg4))
      ∧ r.2.sem = fun _ => 0)

def quiescent_ConvPreIdeal [hConvPreIdeal : Cert.ConvPreIdeal.Facts] : Prop :=
  ∀ (m : (ℓ : Loc Cert.ConvPreIdeal.nD Cert.ConvPreIdeal.τ Cert.ConvPreIdeal.sig) → Buf (Elt Ideal) ℓ) (g : Dev Cert.ConvPreIdeal.nD → PrngReg), Pre_ConvPreIdeal m →
    θ_run (Cert.ConvPreIdeal.defs (F := Ideal)) (onTc (τ := Cert.ConvPreIdeal.τ) (Cert.ConvPreIdeal.main (F := Ideal))) ⟨m, fun _ => 0, g⟩ (fun r => (∀ c : Dev Cert.ConvPreIdeal.nD,
      r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
      ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
      ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
      ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3)
      ∧ r.2.mem ((c.tc : Thread Cert.ConvPreIdeal.nD Cert.ConvPreIdeal.τ).loc Cert.ConvPreIdeal.main_arg4) = m ((c.tc : Thread Cert.ConvPreIdeal.nD Cert.ConvPreIdeal.τ).loc Cert.ConvPreIdeal.main_arg4))
      ∧ r.2.sem = fun _ => 0)

def quiescent_ConvPreRefIdeal [hConvPreRefIdeal : Cert.ConvPreRefIdeal.Facts] : Prop :=
  ∀ (m : (ℓ : Loc Cert.ConvPreRefIdeal.nD Cert.ConvPreRefIdeal.τ Cert.ConvPreRefIdeal.sig) → Buf (Elt Ideal) ℓ) (g : Dev Cert.ConvPreRefIdeal.nD → PrngReg), Pre_ConvPreRefIdeal m →
    θ_run (Cert.ConvPreRefIdeal.defs (F := Ideal)) (onTc (τ := Cert.ConvPreRefIdeal.τ) (Cert.ConvPreRefIdeal.main (F := Ideal))) ⟨m, fun _ => 0, g⟩ (fun r => (∀ c : Dev Cert.ConvPreRefIdeal.nD,
      r.2.mem ((c.tc : Thread Cert.ConvPreRefIdeal.nD Cert.ConvPreRefIdeal.τ).loc Cert.ConvPreRefIdeal.main_arg0) = m ((c.tc : Thread Cert.ConvPreRefIdeal.nD Cert.ConvPreRefIdeal.τ).loc Cert.ConvPreRefIdeal.main_arg0)
      ∧ r.2.mem ((c.tc : Thread Cert.ConvPreRefIdeal.nD Cert.ConvPreRefIdeal.τ).loc Cert.ConvPreRefIdeal.main_arg1) = m ((c.tc : Thread Cert.ConvPreRefIdeal.nD Cert.ConvPreRefIdeal.τ).loc Cert.ConvPreRefIdeal.main_arg1)
      ∧ r.2.mem ((c.tc : Thread Cert.ConvPreRefIdeal.nD Cert.ConvPreRefIdeal.τ).loc Cert.ConvPreRefIdeal.main_arg2) = m ((c.tc : Thread Cert.ConvPreRefIdeal.nD Cert.ConvPreRefIdeal.τ).loc Cert.ConvPreRefIdeal.main_arg2)
      ∧ r.2.mem ((c.tc : Thread Cert.ConvPreRefIdeal.nD Cert.ConvPreRefIdeal.τ).loc Cert.ConvPreRefIdeal.main_arg3) = m ((c.tc : Thread Cert.ConvPreRefIdeal.nD Cert.ConvPreRefIdeal.τ).loc Cert.ConvPreRefIdeal.main_arg3)
      ∧ r.2.mem ((c.tc : Thread Cert.ConvPreRefIdeal.nD Cert.ConvPreRefIdeal.τ).loc Cert.ConvPreRefIdeal.main_arg4) = m ((c.tc : Thread Cert.ConvPreRefIdeal.nD Cert.ConvPreRefIdeal.τ).loc Cert.ConvPreRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_PairOut [hPairOut : Cert.PairOut.Facts] [hPre_a_core : Cert.Pre_a_core.Facts] : Prop :=
  ∀ (m : (ℓ : Loc Cert.PairOut.nD Cert.PairOut.τ Cert.PairOut.sig) → Buf (Elt Bits) ℓ) (g : Dev Cert.PairOut.nD → PrngReg), Pre_PairOut m →
    θ_run (Cert.PairOut.defs (F := Bits)) (onTc (τ := Cert.PairOut.τ) (Cert.PairOut.main (F := Bits))) ⟨m, fun _ => 0, g⟩ (fun r => (∀ c : Dev Cert.PairOut.nD,
      r.2.mem ((c.tc : Thread Cert.PairOut.nD Cert.PairOut.τ).loc Cert.PairOut.main_arg0) = m ((c.tc : Thread Cert.PairOut.nD Cert.PairOut.τ).loc Cert.PairOut.main_arg0)
      ∧ r.2.mem ((c.tc : Thread Cert.PairOut.nD Cert.PairOut.τ).loc Cert.PairOut.main_arg1) = m ((c.tc : Thread Cert.PairOut.nD Cert.PairOut.τ).loc Cert.PairOut.main_arg1)
      ∧ r.2.mem ((c.tc : Thread Cert.PairOut.nD Cert.PairOut.τ).loc Cert.PairOut.main_arg2) = m ((c.tc : Thread Cert.PairOut.nD Cert.PairOut.τ).loc Cert.PairOut.main_arg2))
      ∧ r.2.sem = fun _ => 0)

def quiescent_PairOutIdeal [hPairOutIdeal : Cert.PairOutIdeal.Facts] [hPre_a_core : Cert.Pre_a_core.Facts] : Prop :=
  ∀ (m : (ℓ : Loc Cert.PairOutIdeal.nD Cert.PairOutIdeal.τ Cert.PairOutIdeal.sig) → Buf (Elt Ideal) ℓ) (g : Dev Cert.PairOutIdeal.nD → PrngReg), Pre_PairOutIdeal m →
    θ_run (Cert.PairOutIdeal.defs (F := Ideal)) (onTc (τ := Cert.PairOutIdeal.τ) (Cert.PairOutIdeal.main (F := Ideal))) ⟨m, fun _ => 0, g⟩ (fun r => (∀ c : Dev Cert.PairOutIdeal.nD,
      r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
      ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1)
      ∧ r.2.mem ((c.tc : Thread Cert.PairOutIdeal.nD Cert.PairOutIdeal.τ).loc Cert.PairOutIdeal.main_arg2) = m ((c.tc : Thread Cert.PairOutIdeal.nD Cert.PairOutIdeal.τ).loc Cert.PairOutIdeal.main_arg2))
      ∧ r.2.sem = fun _ => 0)

def quiescent_PairOutRefIdeal [hPairOutRefIdeal : Cert.PairOutRefIdeal.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0)
      ∧ r.2.mem ((c.tc : Thread Cert.PairOutRefIdeal.nD Cert.PairOutRefIdeal.τ).loc Cert.PairOutRefIdeal.main_arg1) = m ((c.tc : Thread Cert.PairOutRefIdeal.nD Cert.PairOutRefIdeal.τ).loc Cert.PairOutRefIdeal.main_arg1)
      ∧ r.2.mem ((c.tc : Thread Cert.PairOutRefIdeal.nD Cert.PairOutRefIdeal.τ).loc Cert.PairOutRefIdeal.main_arg2) = m ((c.tc : Thread Cert.PairOutRefIdeal.nD Cert.PairOutRefIdeal.τ).loc Cert.PairOutRefIdeal.main_arg2))
      ∧ r.2.sem = fun _ => 0)

def quiescent_PairOutRefIdeal_pre_a_core [hPairOutRefIdeal : Cert.PairOutRefIdeal.Facts] [hPre_a_core : Cert.Pre_a_core.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal_a_core m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0)
      ∧ r.2.mem ((c.tc : Thread Cert.PairOutRefIdeal.nD Cert.PairOutRefIdeal.τ).loc Cert.PairOutRefIdeal.main_arg1) = m ((c.tc : Thread Cert.PairOutRefIdeal.nD Cert.PairOutRefIdeal.τ).loc Cert.PairOutRefIdeal.main_arg1)
      ∧ r.2.mem ((c.tc : Thread Cert.PairOutRefIdeal.nD Cert.PairOutRefIdeal.τ).loc Cert.PairOutRefIdeal.main_arg2) = m ((c.tc : Thread Cert.PairOutRefIdeal.nD Cert.PairOutRefIdeal.τ).loc Cert.PairOutRefIdeal.main_arg2))
      ∧ r.2.sem = fun _ => 0)

def quiescent_PairIn [hPairIn : Cert.PairIn.Facts] [hPre_a_core_in : Cert.Pre_a_core_in.Facts] : Prop :=
  ∀ (m : (ℓ : Loc Cert.PairIn.nD Cert.PairIn.τ Cert.PairIn.sig) → Buf (Elt Bits) ℓ) (g : Dev Cert.PairIn.nD → PrngReg), Pre_PairIn m →
    θ_run (Cert.PairIn.defs (F := Bits)) (onTc (τ := Cert.PairIn.τ) (Cert.PairIn.main (F := Bits))) ⟨m, fun _ => 0, g⟩ (fun r => (∀ c : Dev Cert.PairIn.nD,
      r.2.mem ((c.tc : Thread Cert.PairIn.nD Cert.PairIn.τ).loc Cert.PairIn.main_arg0) = m ((c.tc : Thread Cert.PairIn.nD Cert.PairIn.τ).loc Cert.PairIn.main_arg0)
      ∧ r.2.mem ((c.tc : Thread Cert.PairIn.nD Cert.PairIn.τ).loc Cert.PairIn.main_arg1) = m ((c.tc : Thread Cert.PairIn.nD Cert.PairIn.τ).loc Cert.PairIn.main_arg1)
      ∧ r.2.mem ((c.tc : Thread Cert.PairIn.nD Cert.PairIn.τ).loc Cert.PairIn.main_arg2) = m ((c.tc : Thread Cert.PairIn.nD Cert.PairIn.τ).loc Cert.PairIn.main_arg2))
      ∧ r.2.sem = fun _ => 0)

def quiescent_PairInIdeal [hPairInIdeal : Cert.PairInIdeal.Facts] [hPre_a_core_in : Cert.Pre_a_core_in.Facts] : Prop :=
  ∀ (m : (ℓ : Loc Cert.PairInIdeal.nD Cert.PairInIdeal.τ Cert.PairInIdeal.sig) → Buf (Elt Ideal) ℓ) (g : Dev Cert.PairInIdeal.nD → PrngReg), Pre_PairInIdeal m →
    θ_run (Cert.PairInIdeal.defs (F := Ideal)) (onTc (τ := Cert.PairInIdeal.τ) (Cert.PairInIdeal.main (F := Ideal))) ⟨m, fun _ => 0, g⟩ (fun r => (∀ c : Dev Cert.PairInIdeal.nD,
      r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
      ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1)
      ∧ r.2.mem ((c.tc : Thread Cert.PairInIdeal.nD Cert.PairInIdeal.τ).loc Cert.PairInIdeal.main_arg2) = m ((c.tc : Thread Cert.PairInIdeal.nD Cert.PairInIdeal.τ).loc Cert.PairInIdeal.main_arg2))
      ∧ r.2.sem = fun _ => 0)

def quiescent_PairInRefIdeal [hPairInRefIdeal : Cert.PairInRefIdeal.Facts] : Prop :=
  ∀ (m : (ℓ : Loc Cert.PairInRefIdeal.nD Cert.PairInRefIdeal.τ Cert.PairInRefIdeal.sig) → Buf (Elt Ideal) ℓ) (g : Dev Cert.PairInRefIdeal.nD → PrngReg), Pre_PairInRefIdeal m →
    θ_run (Cert.PairInRefIdeal.defs (F := Ideal)) (onTc (τ := Cert.PairInRefIdeal.τ) (Cert.PairInRefIdeal.main (F := Ideal))) ⟨m, fun _ => 0, g⟩ (fun r => (∀ c : Dev Cert.PairInRefIdeal.nD,
      r.2.mem ((c.tc : Thread Cert.PairInRefIdeal.nD Cert.PairInRefIdeal.τ).loc Cert.PairInRefIdeal.main_arg0) = m ((c.tc : Thread Cert.PairInRefIdeal.nD Cert.PairInRefIdeal.τ).loc Cert.PairInRefIdeal.main_arg0)
      ∧ r.2.mem ((c.tc : Thread Cert.PairInRefIdeal.nD Cert.PairInRefIdeal.τ).loc Cert.PairInRefIdeal.main_arg1) = m ((c.tc : Thread Cert.PairInRefIdeal.nD Cert.PairInRefIdeal.τ).loc Cert.PairInRefIdeal.main_arg1)
      ∧ r.2.mem ((c.tc : Thread Cert.PairInRefIdeal.nD Cert.PairInRefIdeal.τ).loc Cert.PairInRefIdeal.main_arg2) = m ((c.tc : Thread Cert.PairInRefIdeal.nD Cert.PairInRefIdeal.τ).loc Cert.PairInRefIdeal.main_arg2))
      ∧ r.2.sem = fun _ => 0)

def quiescent_PairInRefIdeal_pre_a_core_in [hPairInRefIdeal : Cert.PairInRefIdeal.Facts] [hPre_a_core_in : Cert.Pre_a_core_in.Facts] : Prop :=
  ∀ (m : (ℓ : Loc Cert.PairInRefIdeal.nD Cert.PairInRefIdeal.τ Cert.PairInRefIdeal.sig) → Buf (Elt Ideal) ℓ) (g : Dev Cert.PairInRefIdeal.nD → PrngReg), Pre_PairInRefIdeal_a_core_in m →
    θ_run (Cert.PairInRefIdeal.defs (F := Ideal)) (onTc (τ := Cert.PairInRefIdeal.τ) (Cert.PairInRefIdeal.main (F := Ideal))) ⟨m, fun _ => 0, g⟩ (fun r => (∀ c : Dev Cert.PairInRefIdeal.nD,
      r.2.mem ((c.tc : Thread Cert.PairInRefIdeal.nD Cert.PairInRefIdeal.τ).loc Cert.PairInRefIdeal.main_arg0) = m ((c.tc : Thread Cert.PairInRefIdeal.nD Cert.PairInRefIdeal.τ).loc Cert.PairInRefIdeal.main_arg0)
      ∧ r.2.mem ((c.tc : Thread Cert.PairInRefIdeal.nD Cert.PairInRefIdeal.τ).loc Cert.PairInRefIdeal.main_arg1) = m ((c.tc : Thread Cert.PairInRefIdeal.nD Cert.PairInRefIdeal.τ).loc Cert.PairInRefIdeal.main_arg1)
      ∧ r.2.mem ((c.tc : Thread Cert.PairInRefIdeal.nD Cert.PairInRefIdeal.τ).loc Cert.PairInRefIdeal.main_arg2) = m ((c.tc : Thread Cert.PairInRefIdeal.nD Cert.PairInRefIdeal.τ).loc Cert.PairInRefIdeal.main_arg2))
      ∧ r.2.sem = fun _ => 0)

def quiescent_PairGate [hPairGate : Cert.PairGate.Facts] [hPre_a_core_gate : Cert.Pre_a_core_gate.Facts] : Prop :=
  ∀ (m : (ℓ : Loc Cert.PairGate.nD Cert.PairGate.τ Cert.PairGate.sig) → Buf (Elt Bits) ℓ) (g : Dev Cert.PairGate.nD → PrngReg), Pre_PairGate m →
    θ_run (Cert.PairGate.defs (F := Bits)) (onTc (τ := Cert.PairGate.τ) (Cert.PairGate.main (F := Bits))) ⟨m, fun _ => 0, g⟩ (fun r => (∀ c : Dev Cert.PairGate.nD,
      r.2.mem ((c.tc : Thread Cert.PairGate.nD Cert.PairGate.τ).loc Cert.PairGate.main_arg0) = m ((c.tc : Thread Cert.PairGate.nD Cert.PairGate.τ).loc Cert.PairGate.main_arg0)
      ∧ r.2.mem ((c.tc : Thread Cert.PairGate.nD Cert.PairGate.τ).loc Cert.PairGate.main_arg1) = m ((c.tc : Thread Cert.PairGate.nD Cert.PairGate.τ).loc Cert.PairGate.main_arg1)
      ∧ r.2.mem ((c.tc : Thread Cert.PairGate.nD Cert.PairGate.τ).loc Cert.PairGate.main_arg2) = m ((c.tc : Thread Cert.PairGate.nD Cert.PairGate.τ).loc Cert.PairGate.main_arg2))
      ∧ r.2.sem = fun _ => 0)

def quiescent_PairGateIdeal [hPairGateIdeal : Cert.PairGateIdeal.Facts] [hPre_a_core_gate : Cert.Pre_a_core_gate.Facts] : Prop :=
  ∀ (m : (ℓ : Loc Cert.PairGateIdeal.nD Cert.PairGateIdeal.τ Cert.PairGateIdeal.sig) → Buf (Elt Ideal) ℓ) (g : Dev Cert.PairGateIdeal.nD → PrngReg), Pre_PairGateIdeal m →
    θ_run (Cert.PairGateIdeal.defs (F := Ideal)) (onTc (τ := Cert.PairGateIdeal.τ) (Cert.PairGateIdeal.main (F := Ideal))) ⟨m, fun _ => 0, g⟩ (fun r => (∀ c : Dev Cert.PairGateIdeal.nD,
      r.2.mem ((c.tc : Thread Cert.PairGateIdeal.nD Cert.PairGateIdeal.τ).loc Cert.PairGateIdeal.main_arg0) = m ((c.tc : Thread Cert.PairGateIdeal.nD Cert.PairGateIdeal.τ).loc Cert.PairGateIdeal.main_arg0)
      ∧ r.2.mem ((c.tc : Thread Cert.PairGateIdeal.nD Cert.PairGateIdeal.τ).loc Cert.PairGateIdeal.main_arg1) = m ((c.tc : Thread Cert.PairGateIdeal.nD Cert.PairGateIdeal.τ).loc Cert.PairGateIdeal.main_arg1)
      ∧ r.2.mem ((c.tc : Thread Cert.PairGateIdeal.nD Cert.PairGateIdeal.τ).loc Cert.PairGateIdeal.main_arg2) = m ((c.tc : Thread Cert.PairGateIdeal.nD Cert.PairGateIdeal.τ).loc Cert.PairGateIdeal.main_arg2))
      ∧ r.2.sem = fun _ => 0)

def quiescent_PairGateRefIdeal [hPairGateRefIdeal : Cert.PairGateRefIdeal.Facts] : Prop :=
  ∀ (m : (ℓ : Loc Cert.PairGateRefIdeal.nD Cert.PairGateRefIdeal.τ Cert.PairGateRefIdeal.sig) → Buf (Elt Ideal) ℓ) (g : Dev Cert.PairGateRefIdeal.nD → PrngReg), Pre_PairGateRefIdeal m →
    θ_run (Cert.PairGateRefIdeal.defs (F := Ideal)) (onTc (τ := Cert.PairGateRefIdeal.τ) (Cert.PairGateRefIdeal.main (F := Ideal))) ⟨m, fun _ => 0, g⟩ (fun r => (∀ c : Dev Cert.PairGateRefIdeal.nD,
      r.2.mem ((c.tc : Thread Cert.PairGateRefIdeal.nD Cert.PairGateRefIdeal.τ).loc Cert.PairGateRefIdeal.main_arg0) = m ((c.tc : Thread Cert.PairGateRefIdeal.nD Cert.PairGateRefIdeal.τ).loc Cert.PairGateRefIdeal.main_arg0)
      ∧ r.2.mem ((c.tc : Thread Cert.PairGateRefIdeal.nD Cert.PairGateRefIdeal.τ).loc Cert.PairGateRefIdeal.main_arg1) = m ((c.tc : Thread Cert.PairGateRefIdeal.nD Cert.PairGateRefIdeal.τ).loc Cert.PairGateRefIdeal.main_arg1)
      ∧ r.2.mem ((c.tc : Thread Cert.PairGateRefIdeal.nD Cert.PairGateRefIdeal.τ).loc Cert.PairGateRefIdeal.main_arg2) = m ((c.tc : Thread Cert.PairGateRefIdeal.nD Cert.PairGateRefIdeal.τ).loc Cert.PairGateRefIdeal.main_arg2))
      ∧ r.2.sem = fun _ => 0)

def quiescent_PairGateRefIdeal_pre_a_core_gate [hPairGateRefIdeal : Cert.PairGateRefIdeal.Facts] [hPre_a_core_gate : Cert.Pre_a_core_gate.Facts] : Prop :=
  ∀ (m : (ℓ : Loc Cert.PairGateRefIdeal.nD Cert.PairGateRefIdeal.τ Cert.PairGateRefIdeal.sig) → Buf (Elt Ideal) ℓ) (g : Dev Cert.PairGateRefIdeal.nD → PrngReg), Pre_PairGateRefIdeal_a_core_gate m →
    θ_run (Cert.PairGateRefIdeal.defs (F := Ideal)) (onTc (τ := Cert.PairGateRefIdeal.τ) (Cert.PairGateRefIdeal.main (F := Ideal))) ⟨m, fun _ => 0, g⟩ (fun r => (∀ c : Dev Cert.PairGateRefIdeal.nD,
      r.2.mem ((c.tc : Thread Cert.PairGateRefIdeal.nD Cert.PairGateRefIdeal.τ).loc Cert.PairGateRefIdeal.main_arg0) = m ((c.tc : Thread Cert.PairGateRefIdeal.nD Cert.PairGateRefIdeal.τ).loc Cert.PairGateRefIdeal.main_arg0)
      ∧ r.2.mem ((c.tc : Thread Cert.PairGateRefIdeal.nD Cert.PairGateRefIdeal.τ).loc Cert.PairGateRefIdeal.main_arg1) = m ((c.tc : Thread Cert.PairGateRefIdeal.nD Cert.PairGateRefIdeal.τ).loc Cert.PairGateRefIdeal.main_arg1)
      ∧ r.2.mem ((c.tc : Thread Cert.PairGateRefIdeal.nD Cert.PairGateRefIdeal.τ).loc Cert.PairGateRefIdeal.main_arg2) = m ((c.tc : Thread Cert.PairGateRefIdeal.nD Cert.PairGateRefIdeal.τ).loc Cert.PairGateRefIdeal.main_arg2))
      ∧ r.2.sem = fun _ => 0)

def quiescent_PairDown [hPairDown : Cert.PairDown.Facts] [hPre_a_core_down : Cert.Pre_a_core_down.Facts] : Prop :=
  ∀ (m : (ℓ : Loc Cert.PairDown.nD Cert.PairDown.τ Cert.PairDown.sig) → Buf (Elt Bits) ℓ) (g : Dev Cert.PairDown.nD → PrngReg), Pre_PairDown m →
    θ_run (Cert.PairDown.defs (F := Bits)) (onTc (τ := Cert.PairDown.τ) (Cert.PairDown.main (F := Bits))) ⟨m, fun _ => 0, g⟩ (fun r => (∀ c : Dev Cert.PairDown.nD,
      r.2.mem ((c.tc : Thread Cert.PairDown.nD Cert.PairDown.τ).loc Cert.PairDown.main_arg0) = m ((c.tc : Thread Cert.PairDown.nD Cert.PairDown.τ).loc Cert.PairDown.main_arg0)
      ∧ r.2.mem ((c.tc : Thread Cert.PairDown.nD Cert.PairDown.τ).loc Cert.PairDown.main_arg1) = m ((c.tc : Thread Cert.PairDown.nD Cert.PairDown.τ).loc Cert.PairDown.main_arg1)
      ∧ r.2.mem ((c.tc : Thread Cert.PairDown.nD Cert.PairDown.τ).loc Cert.PairDown.main_arg2) = m ((c.tc : Thread Cert.PairDown.nD Cert.PairDown.τ).loc Cert.PairDown.main_arg2))
      ∧ r.2.sem = fun _ => 0)

def quiescent_PairDownIdeal [hPairDownIdeal : Cert.PairDownIdeal.Facts] [hPre_a_core_down : Cert.Pre_a_core_down.Facts] : Prop :=
  ∀ (m : (ℓ : Loc Cert.PairDownIdeal.nD Cert.PairDownIdeal.τ Cert.PairDownIdeal.sig) → Buf (Elt Ideal) ℓ) (g : Dev Cert.PairDownIdeal.nD → PrngReg), Pre_PairDownIdeal m →
    θ_run (Cert.PairDownIdeal.defs (F := Ideal)) (onTc (τ := Cert.PairDownIdeal.τ) (Cert.PairDownIdeal.main (F := Ideal))) ⟨m, fun _ => 0, g⟩ (fun r => (∀ c : Dev Cert.PairDownIdeal.nD,
      r.2.mem ((c.tc : Thread Cert.PairDownIdeal.nD Cert.PairDownIdeal.τ).loc Cert.PairDownIdeal.main_arg0) = m ((c.tc : Thread Cert.PairDownIdeal.nD Cert.PairDownIdeal.τ).loc Cert.PairDownIdeal.main_arg0)
      ∧ r.2.mem ((c.tc : Thread Cert.PairDownIdeal.nD Cert.PairDownIdeal.τ).loc Cert.PairDownIdeal.main_arg1) = m ((c.tc : Thread Cert.PairDownIdeal.nD Cert.PairDownIdeal.τ).loc Cert.PairDownIdeal.main_arg1)
      ∧ r.2.mem ((c.tc : Thread Cert.PairDownIdeal.nD Cert.PairDownIdeal.τ).loc Cert.PairDownIdeal.main_arg2) = m ((c.tc : Thread Cert.PairDownIdeal.nD Cert.PairDownIdeal.τ).loc Cert.PairDownIdeal.main_arg2))
      ∧ r.2.sem = fun _ => 0)

def quiescent_PairDownRefIdeal [hPairDownRefIdeal : Cert.PairDownRefIdeal.Facts] : Prop :=
  ∀ (m : (ℓ : Loc Cert.PairDownRefIdeal.nD Cert.PairDownRefIdeal.τ Cert.PairDownRefIdeal.sig) → Buf (Elt Ideal) ℓ) (g : Dev Cert.PairDownRefIdeal.nD → PrngReg), Pre_PairDownRefIdeal m →
    θ_run (Cert.PairDownRefIdeal.defs (F := Ideal)) (onTc (τ := Cert.PairDownRefIdeal.τ) (Cert.PairDownRefIdeal.main (F := Ideal))) ⟨m, fun _ => 0, g⟩ (fun r => (∀ c : Dev Cert.PairDownRefIdeal.nD,
      r.2.mem ((c.tc : Thread Cert.PairDownRefIdeal.nD Cert.PairDownRefIdeal.τ).loc Cert.PairDownRefIdeal.main_arg0) = m ((c.tc : Thread Cert.PairDownRefIdeal.nD Cert.PairDownRefIdeal.τ).loc Cert.PairDownRefIdeal.main_arg0)
      ∧ r.2.mem ((c.tc : Thread Cert.PairDownRefIdeal.nD Cert.PairDownRefIdeal.τ).loc Cert.PairDownRefIdeal.main_arg1) = m ((c.tc : Thread Cert.PairDownRefIdeal.nD Cert.PairDownRefIdeal.τ).loc Cert.PairDownRefIdeal.main_arg1)
      ∧ r.2.mem ((c.tc : Thread Cert.PairDownRefIdeal.nD Cert.PairDownRefIdeal.τ).loc Cert.PairDownRefIdeal.main_arg2) = m ((c.tc : Thread Cert.PairDownRefIdeal.nD Cert.PairDownRefIdeal.τ).loc Cert.PairDownRefIdeal.main_arg2))
      ∧ r.2.sem = fun _ => 0)

def quiescent_PairDownRefIdeal_pre_a_core_down [hPairDownRefIdeal : Cert.PairDownRefIdeal.Facts] [hPre_a_core_down : Cert.Pre_a_core_down.Facts] : Prop :=
  ∀ (m : (ℓ : Loc Cert.PairDownRefIdeal.nD Cert.PairDownRefIdeal.τ Cert.PairDownRefIdeal.sig) → Buf (Elt Ideal) ℓ) (g : Dev Cert.PairDownRefIdeal.nD → PrngReg), Pre_PairDownRefIdeal_a_core_down m →
    θ_run (Cert.PairDownRefIdeal.defs (F := Ideal)) (onTc (τ := Cert.PairDownRefIdeal.τ) (Cert.PairDownRefIdeal.main (F := Ideal))) ⟨m, fun _ => 0, g⟩ (fun r => (∀ c : Dev Cert.PairDownRefIdeal.nD,
      r.2.mem ((c.tc : Thread Cert.PairDownRefIdeal.nD Cert.PairDownRefIdeal.τ).loc Cert.PairDownRefIdeal.main_arg0) = m ((c.tc : Thread Cert.PairDownRefIdeal.nD Cert.PairDownRefIdeal.τ).loc Cert.PairDownRefIdeal.main_arg0)
      ∧ r.2.mem ((c.tc : Thread Cert.PairDownRefIdeal.nD Cert.PairDownRefIdeal.τ).loc Cert.PairDownRefIdeal.main_arg1) = m ((c.tc : Thread Cert.PairDownRefIdeal.nD Cert.PairDownRefIdeal.τ).loc Cert.PairDownRefIdeal.main_arg1)
      ∧ r.2.mem ((c.tc : Thread Cert.PairDownRefIdeal.nD Cert.PairDownRefIdeal.τ).loc Cert.PairDownRefIdeal.main_arg2) = m ((c.tc : Thread Cert.PairDownRefIdeal.nD Cert.PairDownRefIdeal.τ).loc Cert.PairDownRefIdeal.main_arg2))
      ∧ r.2.sem = fun _ => 0)

def preserves_Exchange_ExchangeIdeal : Prop :=
  True

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.block ⟨4, ![4, 2, 1024, 4100]⟩ ⟨4, ![32, 2, 1024, 4100]⟩ 0 8 c (m' (((0 : Dev Cert.ExchangeRef.nD).tc : Thread Cert.ExchangeRef.nD Cert.ExchangeRef.τ).loc Cert.ExchangeRef.main_arg0))
      ∧ m ((c.tc : Thread Cert.Exchange.nD Cert.Exchange.τ).loc Cert.Exchange.main_arg1) = Layout.block ⟨4, ![4, 2, 256, 2048]⟩ ⟨4, ![32, 2, 256, 2048]⟩ 0 8 c (m' (((0 : Dev Cert.ExchangeRef.nD).tc : Thread Cert.ExchangeRef.nD Cert.ExchangeRef.τ).loc Cert.ExchangeRef.main_arg1))
      ∧ m ((c.tc : Thread Cert.Exchange.nD Cert.Exchange.τ).loc Cert.Exchange.main_arg2) = Layout.block ⟨4, ![4, 2, 1024, 1408]⟩ ⟨4, ![32, 2, 1024, 1408]⟩ 0 8 c (m' (((0 : Dev Cert.ExchangeRef.nD).tc : Thread Cert.ExchangeRef.nD Cert.ExchangeRef.τ).loc Cert.ExchangeRef.main_arg2))
      ∧ m ((c.tc : Thread Cert.Exchange.nD Cert.Exchange.τ).loc Cert.Exchange.main_arg3) = Layout.block ⟨4, ![4, 2, 1024, 1408]⟩ ⟨4, ![32, 2, 1024, 1408]⟩ 0 8 c (m' (((0 : Dev Cert.ExchangeRef.nD).tc : Thread Cert.ExchangeRef.nD Cert.ExchangeRef.τ).loc Cert.ExchangeRef.main_arg3))
      ∧ m ((c.tc : Thread Cert.Exchange.nD Cert.Exchange.τ).loc Cert.Exchange.main_arg4) = Layout.block ⟨4, ![4, 2, 704, 2048]⟩ ⟨4, ![32, 2, 704, 2048]⟩ 0 8 c (m' (((0 : Dev Cert.ExchangeRef.nD).tc : Thread Cert.ExchangeRef.nD Cert.ExchangeRef.τ).loc Cert.ExchangeRef.main_arg4))) →
    ∃ (v0 : Buf (Elt Bits) (((0 : Dev Cert.ExchangeRef.nD).tc : Thread Cert.ExchangeRef.nD Cert.ExchangeRef.τ).loc Cert.ExchangeRef.main_v8)) (v1 : Buf (Elt Bits) (((0 : Dev Cert.ExchangeRef.nD).tc : Thread Cert.ExchangeRef.nD Cert.ExchangeRef.τ).loc Cert.ExchangeRef.main_v17)) (v2 : Buf (Elt Bits) (((0 : Dev Cert.ExchangeRef.nD).tc : Thread Cert.ExchangeRef.nD Cert.ExchangeRef.τ).loc Cert.ExchangeRef.main_v26)) (v3 : Buf (Elt Bits) (((0 : Dev Cert.ExchangeRef.nD).tc : Thread Cert.ExchangeRef.nD Cert.ExchangeRef.τ).loc Cert.ExchangeRef.main_v35)) (v4 : Buf (Elt Bits) (((0 : Dev Cert.ExchangeRef.nD).tc : Thread Cert.ExchangeRef.nD Cert.ExchangeRef.τ).loc Cert.ExchangeRef.main_v44)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1_0) = Layout.block ⟨3, ![4, 1024, 4100]⟩ ⟨3, ![32, 1024, 4100]⟩ 0 8 c v0
          ∧ r.2.mem ((c.tc : Thread Cert.Exchange.nD Cert.Exchange.τ).loc Cert.Exchange.main_v1_1) = Layout.block ⟨3, ![4, 256, 2048]⟩ ⟨3, ![32, 256, 2048]⟩ 0 8 c v1
          ∧ r.2.mem ((c.tc : Thread Cert.Exchange.nD Cert.Exchange.τ).loc Cert.Exchange.main_v1_2) = Layout.block ⟨3, ![4, 1024, 1408]⟩ ⟨3, ![32, 1024, 1408]⟩ 0 8 c v2
          ∧ r.2.mem ((c.tc : Thread Cert.Exchange.nD Cert.Exchange.τ).loc Cert.Exchange.main_v1_3) = Layout.block ⟨3, ![4, 1024, 1408]⟩ ⟨3, ![32, 1024, 1408]⟩ 0 8 c v3
          ∧ r.2.mem ((c.tc : Thread Cert.Exchange.nD Cert.Exchange.τ).loc Cert.Exchange.main_v1_4) = Layout.block ⟨3, ![4, 704, 2048]⟩ ⟨3, ![32, 704, 2048]⟩ 0 8 c v4
          ∧ r.2.mem ((c.tc : Thread Cert.Exchange.nD Cert.Exchange.τ).loc Cert.Exchange.main_arg0) = m ((c.tc : Thread Cert.Exchange.nD Cert.Exchange.τ).loc Cert.Exchange.main_arg0)
          ∧ r.2.mem ((c.tc : Thread Cert.Exchange.nD Cert.Exchange.τ).loc Cert.Exchange.main_arg1) = m ((c.tc : Thread Cert.Exchange.nD Cert.Exchange.τ).loc Cert.Exchange.main_arg1)
          ∧ r.2.mem ((c.tc : Thread Cert.Exchange.nD Cert.Exchange.τ).loc Cert.Exchange.main_arg2) = m ((c.tc : Thread Cert.Exchange.nD Cert.Exchange.τ).loc Cert.Exchange.main_arg2)
          ∧ r.2.mem ((c.tc : Thread Cert.Exchange.nD Cert.Exchange.τ).loc Cert.Exchange.main_arg3) = m ((c.tc : Thread Cert.Exchange.nD Cert.Exchange.τ).loc Cert.Exchange.main_arg3)
          ∧ r.2.mem ((c.tc : Thread Cert.Exchange.nD Cert.Exchange.τ).loc Cert.Exchange.main_arg4) = m ((c.tc : Thread Cert.Exchange.nD Cert.Exchange.τ).loc Cert.Exchange.main_arg4))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v8) = v0
          ∧ r.2.mem (((0 : Dev Cert.ExchangeRef.nD).tc : Thread Cert.ExchangeRef.nD Cert.ExchangeRef.τ).loc Cert.ExchangeRef.main_v17) = v1
          ∧ r.2.mem (((0 : Dev Cert.ExchangeRef.nD).tc : Thread Cert.ExchangeRef.nD Cert.ExchangeRef.τ).loc Cert.ExchangeRef.main_v26) = v2
          ∧ r.2.mem (((0 : Dev Cert.ExchangeRef.nD).tc : Thread Cert.ExchangeRef.nD Cert.ExchangeRef.τ).loc Cert.ExchangeRef.main_v35) = v3
          ∧ r.2.mem (((0 : Dev Cert.ExchangeRef.nD).tc : Thread Cert.ExchangeRef.nD Cert.ExchangeRef.τ).loc Cert.ExchangeRef.main_v44) = v4
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0)
          ∧ r.2.mem (((0 : Dev Cert.ExchangeRef.nD).tc : Thread Cert.ExchangeRef.nD Cert.ExchangeRef.τ).loc Cert.ExchangeRef.main_arg1) = m' (((0 : Dev Cert.ExchangeRef.nD).tc : Thread Cert.ExchangeRef.nD Cert.ExchangeRef.τ).loc Cert.ExchangeRef.main_arg1)
          ∧ r.2.mem (((0 : Dev Cert.ExchangeRef.nD).tc : Thread Cert.ExchangeRef.nD Cert.ExchangeRef.τ).loc Cert.ExchangeRef.main_arg2) = m' (((0 : Dev Cert.ExchangeRef.nD).tc : Thread Cert.ExchangeRef.nD Cert.ExchangeRef.τ).loc Cert.ExchangeRef.main_arg2)
          ∧ r.2.mem (((0 : Dev Cert.ExchangeRef.nD).tc : Thread Cert.ExchangeRef.nD Cert.ExchangeRef.τ).loc Cert.ExchangeRef.main_arg3) = m' (((0 : Dev Cert.ExchangeRef.nD).tc : Thread Cert.ExchangeRef.nD Cert.ExchangeRef.τ).loc Cert.ExchangeRef.main_arg3)
          ∧ r.2.mem (((0 : Dev Cert.ExchangeRef.nD).tc : Thread Cert.ExchangeRef.nD Cert.ExchangeRef.τ).loc Cert.ExchangeRef.main_arg4) = m' (((0 : Dev Cert.ExchangeRef.nD).tc : Thread Cert.ExchangeRef.nD Cert.ExchangeRef.τ).loc Cert.ExchangeRef.main_arg4))

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨4, ![4, 2, 1024, 4100]⟩ ⟨4, ![32, 2, 1024, 4100]⟩ 0 8 c (m' (((0 : Dev Cert.ExchangeRefIdeal.nD).tc : Thread Cert.ExchangeRefIdeal.nD Cert.ExchangeRefIdeal.τ).loc Cert.ExchangeRefIdeal.main_arg0))
      ∧ m ((c.tc : Thread Cert.ExchangeIdeal.nD Cert.ExchangeIdeal.τ).loc Cert.ExchangeIdeal.main_arg1) = Layout.block ⟨4, ![4, 2, 256, 2048]⟩ ⟨4, ![32, 2, 256, 2048]⟩ 0 8 c (m' (((0 : Dev Cert.ExchangeRefIdeal.nD).tc : Thread Cert.ExchangeRefIdeal.nD Cert.ExchangeRefIdeal.τ).loc Cert.ExchangeRefIdeal.main_arg1))
      ∧ m ((c.tc : Thread Cert.ExchangeIdeal.nD Cert.ExchangeIdeal.τ).loc Cert.ExchangeIdeal.main_arg2) = Layout.block ⟨4, ![4, 2, 1024, 1408]⟩ ⟨4, ![32, 2, 1024, 1408]⟩ 0 8 c (m' (((0 : Dev Cert.ExchangeRefIdeal.nD).tc : Thread Cert.ExchangeRefIdeal.nD Cert.ExchangeRefIdeal.τ).loc Cert.ExchangeRefIdeal.main_arg2))
      ∧ m ((c.tc : Thread Cert.ExchangeIdeal.nD Cert.ExchangeIdeal.τ).loc Cert.ExchangeIdeal.main_arg3) = Layout.block ⟨4, ![4, 2, 1024, 1408]⟩ ⟨4, ![32, 2, 1024, 1408]⟩ 0 8 c (m' (((0 : Dev Cert.ExchangeRefIdeal.nD).tc : Thread Cert.ExchangeRefIdeal.nD Cert.ExchangeRefIdeal.τ).loc Cert.ExchangeRefIdeal.main_arg3))
      ∧ m ((c.tc : Thread Cert.ExchangeIdeal.nD Cert.ExchangeIdeal.τ).loc Cert.ExchangeIdeal.main_arg4) = Layout.block ⟨4, ![4, 2, 704, 2048]⟩ ⟨4, ![32, 2, 704, 2048]⟩ 0 8 c (m' (((0 : Dev Cert.ExchangeRefIdeal.nD).tc : Thread Cert.ExchangeRefIdeal.nD Cert.ExchangeRefIdeal.τ).loc Cert.ExchangeRefIdeal.main_arg4))) →
    ∃ (v0 : Buf (Elt Ideal) (((0 : Dev Cert.ExchangeRefIdeal.nD).tc : Thread Cert.ExchangeRefIdeal.nD Cert.ExchangeRefIdeal.τ).loc Cert.ExchangeRefIdeal.main_v8)) (v1 : Buf (Elt Ideal) (((0 : Dev Cert.ExchangeRefIdeal.nD).tc : Thread Cert.ExchangeRefIdeal.nD Cert.ExchangeRefIdeal.τ).loc Cert.ExchangeRefIdeal.main_v17)) (v2 : Buf (Elt Ideal) (((0 : Dev Cert.ExchangeRefIdeal.nD).tc : Thread Cert.ExchangeRefIdeal.nD Cert.ExchangeRefIdeal.τ).loc Cert.ExchangeRefIdeal.main_v26)) (v3 : Buf (Elt Ideal) (((0 : Dev Cert.ExchangeRefIdeal.nD).tc : Thread Cert.ExchangeRefIdeal.nD Cert.ExchangeRefIdeal.τ).loc Cert.ExchangeRefIdeal.main_v35)) (v4 : Buf (Elt Ideal) (((0 : Dev Cert.ExchangeRefIdeal.nD).tc : Thread Cert.ExchangeRefIdeal.nD Cert.ExchangeRefIdeal.τ).loc Cert.ExchangeRefIdeal.main_v44)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.block ⟨3, ![4, 1024, 4100]⟩ ⟨3, ![32, 1024, 4100]⟩ 0 8 c v0
          ∧ r.2.mem ((c.tc : Thread Cert.ExchangeIdeal.nD Cert.ExchangeIdeal.τ).loc Cert.ExchangeIdeal.main_v1_1) = Layout.block ⟨3, ![4, 256, 2048]⟩ ⟨3, ![32, 256, 2048]⟩ 0 8 c v1
          ∧ r.2.mem ((c.tc : Thread Cert.ExchangeIdeal.nD Cert.ExchangeIdeal.τ).loc Cert.ExchangeIdeal.main_v1_2) = Layout.block ⟨3, ![4, 1024, 1408]⟩ ⟨3, ![32, 1024, 1408]⟩ 0 8 c v2
          ∧ r.2.mem ((c.tc : Thread Cert.ExchangeIdeal.nD Cert.ExchangeIdeal.τ).loc Cert.ExchangeIdeal.main_v1_3) = Layout.block ⟨3, ![4, 1024, 1408]⟩ ⟨3, ![32, 1024, 1408]⟩ 0 8 c v3
          ∧ r.2.mem ((c.tc : Thread Cert.ExchangeIdeal.nD Cert.ExchangeIdeal.τ).loc Cert.ExchangeIdeal.main_v1_4) = Layout.block ⟨3, ![4, 704, 2048]⟩ ⟨3, ![32, 704, 2048]⟩ 0 8 c v4
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
          ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
          ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
          ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v8) = v0
          ∧ r.2.mem (((0 : Dev Cert.ExchangeRefIdeal.nD).tc : Thread Cert.ExchangeRefIdeal.nD Cert.ExchangeRefIdeal.τ).loc Cert.ExchangeRefIdeal.main_v17) = v1
          ∧ r.2.mem (((0 : Dev Cert.ExchangeRefIdeal.nD).tc : Thread Cert.ExchangeRefIdeal.nD Cert.ExchangeRefIdeal.τ).loc Cert.ExchangeRefIdeal.main_v26) = v2
          ∧ r.2.mem (((0 : Dev Cert.ExchangeRefIdeal.nD).tc : Thread Cert.ExchangeRefIdeal.nD Cert.ExchangeRefIdeal.τ).loc Cert.ExchangeRefIdeal.main_v35) = v3
          ∧ r.2.mem (((0 : Dev Cert.ExchangeRefIdeal.nD).tc : Thread Cert.ExchangeRefIdeal.nD Cert.ExchangeRefIdeal.τ).loc Cert.ExchangeRefIdeal.main_v44) = v4
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0)
          ∧ r.2.mem (((0 : Dev Cert.ExchangeRefIdeal.nD).tc : Thread Cert.ExchangeRefIdeal.nD Cert.ExchangeRefIdeal.τ).loc Cert.ExchangeRefIdeal.main_arg1) = m' (((0 : Dev Cert.ExchangeRefIdeal.nD).tc : Thread Cert.ExchangeRefIdeal.nD Cert.ExchangeRefIdeal.τ).loc Cert.ExchangeRefIdeal.main_arg1)
          ∧ r.2.mem (((0 : Dev Cert.ExchangeRefIdeal.nD).tc : Thread Cert.ExchangeRefIdeal.nD Cert.ExchangeRefIdeal.τ).loc Cert.ExchangeRefIdeal.main_arg2) = m' (((0 : Dev Cert.ExchangeRefIdeal.nD).tc : Thread Cert.ExchangeRefIdeal.nD Cert.ExchangeRefIdeal.τ).loc Cert.ExchangeRefIdeal.main_arg2)
          ∧ r.2.mem (((0 : Dev Cert.ExchangeRefIdeal.nD).tc : Thread Cert.ExchangeRefIdeal.nD Cert.ExchangeRefIdeal.τ).loc Cert.ExchangeRefIdeal.main_arg3) = m' (((0 : Dev Cert.ExchangeRefIdeal.nD).tc : Thread Cert.ExchangeRefIdeal.nD Cert.ExchangeRefIdeal.τ).loc Cert.ExchangeRefIdeal.main_arg3)
          ∧ r.2.mem (((0 : Dev Cert.ExchangeRefIdeal.nD).tc : Thread Cert.ExchangeRefIdeal.nD Cert.ExchangeRefIdeal.τ).loc Cert.ExchangeRefIdeal.main_arg4) = m' (((0 : Dev Cert.ExchangeRefIdeal.nD).tc : Thread Cert.ExchangeRefIdeal.nD Cert.ExchangeRefIdeal.τ).loc Cert.ExchangeRefIdeal.main_arg4))

def preserves_Scatter_ScatterIdeal : Prop :=
  True

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![4, 1024, 4100]⟩ ⟨3, ![32, 1024, 4100]⟩ 0 8 c (m' (((0 : Dev Cert.ScatterRef.nD).tc : Thread Cert.ScatterRef.nD Cert.ScatterRef.τ).loc Cert.ScatterRef.main_arg0))
      ∧ m ((c.tc : Thread Cert.Scatter.nD Cert.Scatter.τ).loc Cert.Scatter.main_arg1) = Layout.block ⟨3, ![4, 256, 2048]⟩ ⟨3, ![32, 256, 2048]⟩ 0 8 c (m' (((0 : Dev Cert.ScatterRef.nD).tc : Thread Cert.ScatterRef.nD Cert.ScatterRef.τ).loc Cert.ScatterRef.main_arg1))
      ∧ m ((c.tc : Thread Cert.Scatter.nD Cert.Scatter.τ).loc Cert.Scatter.main_arg2) = Layout.block ⟨3, ![4, 1024, 1408]⟩ ⟨3, ![32, 1024, 1408]⟩ 0 8 c (m' (((0 : Dev Cert.ScatterRef.nD).tc : Thread Cert.ScatterRef.nD Cert.ScatterRef.τ).loc Cert.ScatterRef.main_arg2))
      ∧ m ((c.tc : Thread Cert.Scatter.nD Cert.Scatter.τ).loc Cert.Scatter.main_arg3) = Layout.block ⟨3, ![4, 1024, 1408]⟩ ⟨3, ![32, 1024, 1408]⟩ 0 8 c (m' (((0 : Dev Cert.ScatterRef.nD).tc : Thread Cert.ScatterRef.nD Cert.ScatterRef.τ).loc Cert.ScatterRef.main_arg3))
      ∧ m ((c.tc : Thread Cert.Scatter.nD Cert.Scatter.τ).loc Cert.Scatter.main_arg4) = Layout.block ⟨3, ![4, 704, 2048]⟩ ⟨3, ![32, 704, 2048]⟩ 0 8 c (m' (((0 : Dev Cert.ScatterRef.nD).tc : Thread Cert.ScatterRef.nD Cert.ScatterRef.τ).loc Cert.ScatterRef.main_arg4))) →
    ∃ (v0 : Buf (Elt Bits) (((0 : Dev Cert.ScatterRef.nD).tc : Thread Cert.ScatterRef.nD Cert.ScatterRef.τ).loc Cert.ScatterRef.main_v2)) (v1 : Buf (Elt Bits) (((0 : Dev Cert.ScatterRef.nD).tc : Thread Cert.ScatterRef.nD Cert.ScatterRef.τ).loc Cert.ScatterRef.main_v5)) (v2 : Buf (Elt Bits) (((0 : Dev Cert.ScatterRef.nD).tc : Thread Cert.ScatterRef.nD Cert.ScatterRef.τ).loc Cert.ScatterRef.main_v8)) (v3 : Buf (Elt Bits) (((0 : Dev Cert.ScatterRef.nD).tc : Thread Cert.ScatterRef.nD Cert.ScatterRef.τ).loc Cert.ScatterRef.main_v11)) (v4 : Buf (Elt Bits) (((0 : Dev Cert.ScatterRef.nD).tc : Thread Cert.ScatterRef.nD Cert.ScatterRef.τ).loc Cert.ScatterRef.main_v14)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1_0) = Layout.block ⟨3, ![4, 1024, 4100]⟩ ⟨3, ![32, 1024, 4100]⟩ 0 8 c v0
          ∧ r.2.mem ((c.tc : Thread Cert.Scatter.nD Cert.Scatter.τ).loc Cert.Scatter.main_v1_1) = Layout.block ⟨3, ![4, 256, 2048]⟩ ⟨3, ![32, 256, 2048]⟩ 0 8 c v1
          ∧ r.2.mem ((c.tc : Thread Cert.Scatter.nD Cert.Scatter.τ).loc Cert.Scatter.main_v1_2) = Layout.block ⟨3, ![4, 1024, 1408]⟩ ⟨3, ![32, 1024, 1408]⟩ 0 8 c v2
          ∧ r.2.mem ((c.tc : Thread Cert.Scatter.nD Cert.Scatter.τ).loc Cert.Scatter.main_v1_3) = Layout.block ⟨3, ![4, 1024, 1408]⟩ ⟨3, ![32, 1024, 1408]⟩ 0 8 c v3
          ∧ r.2.mem ((c.tc : Thread Cert.Scatter.nD Cert.Scatter.τ).loc Cert.Scatter.main_v1_4) = Layout.block ⟨3, ![4, 704, 2048]⟩ ⟨3, ![32, 704, 2048]⟩ 0 8 c v4
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2)
          ∧ r.2.mem ((c.tc : Thread Cert.Scatter.nD Cert.Scatter.τ).loc Cert.Scatter.main_arg3) = m ((c.tc : Thread Cert.Scatter.nD Cert.Scatter.τ).loc Cert.Scatter.main_arg3)
          ∧ r.2.mem ((c.tc : Thread Cert.Scatter.nD Cert.Scatter.τ).loc Cert.Scatter.main_arg4) = m ((c.tc : Thread Cert.Scatter.nD Cert.Scatter.τ).loc Cert.Scatter.main_arg4))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_v5) = v1
          ∧ r.2.mem (((0 : Dev Cert.ScatterRef.nD).tc : Thread Cert.ScatterRef.nD Cert.ScatterRef.τ).loc Cert.ScatterRef.main_v8) = v2
          ∧ r.2.mem (((0 : Dev Cert.ScatterRef.nD).tc : Thread Cert.ScatterRef.nD Cert.ScatterRef.τ).loc Cert.ScatterRef.main_v11) = v3
          ∧ r.2.mem (((0 : Dev Cert.ScatterRef.nD).tc : Thread Cert.ScatterRef.nD Cert.ScatterRef.τ).loc Cert.ScatterRef.main_v14) = v4
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0)
          ∧ r.2.mem (((0 : Dev Cert.ScatterRef.nD).tc : Thread Cert.ScatterRef.nD Cert.ScatterRef.τ).loc Cert.ScatterRef.main_arg1) = m' (((0 : Dev Cert.ScatterRef.nD).tc : Thread Cert.ScatterRef.nD Cert.ScatterRef.τ).loc Cert.ScatterRef.main_arg1)
          ∧ r.2.mem (((0 : Dev Cert.ScatterRef.nD).tc : Thread Cert.ScatterRef.nD Cert.ScatterRef.τ).loc Cert.ScatterRef.main_arg2) = m' (((0 : Dev Cert.ScatterRef.nD).tc : Thread Cert.ScatterRef.nD Cert.ScatterRef.τ).loc Cert.ScatterRef.main_arg2)
          ∧ r.2.mem (((0 : Dev Cert.ScatterRef.nD).tc : Thread Cert.ScatterRef.nD Cert.ScatterRef.τ).loc Cert.ScatterRef.main_arg3) = m' (((0 : Dev Cert.ScatterRef.nD).tc : Thread Cert.ScatterRef.nD Cert.ScatterRef.τ).loc Cert.ScatterRef.main_arg3)
          ∧ r.2.mem (((0 : Dev Cert.ScatterRef.nD).tc : Thread Cert.ScatterRef.nD Cert.ScatterRef.τ).loc Cert.ScatterRef.main_arg4) = m' (((0 : Dev Cert.ScatterRef.nD).tc : Thread Cert.ScatterRef.nD Cert.ScatterRef.τ).loc Cert.ScatterRef.main_arg4))

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 1024, 4100]⟩ ⟨3, ![32, 1024, 4100]⟩ 0 8 c (m' (((0 : Dev Cert.ScatterRefIdeal.nD).tc : Thread Cert.ScatterRefIdeal.nD Cert.ScatterRefIdeal.τ).loc Cert.ScatterRefIdeal.main_arg0))
      ∧ m ((c.tc : Thread Cert.ScatterIdeal.nD Cert.ScatterIdeal.τ).loc Cert.ScatterIdeal.main_arg1) = Layout.block ⟨3, ![4, 256, 2048]⟩ ⟨3, ![32, 256, 2048]⟩ 0 8 c (m' (((0 : Dev Cert.ScatterRefIdeal.nD).tc : Thread Cert.ScatterRefIdeal.nD Cert.ScatterRefIdeal.τ).loc Cert.ScatterRefIdeal.main_arg1))
      ∧ m ((c.tc : Thread Cert.ScatterIdeal.nD Cert.ScatterIdeal.τ).loc Cert.ScatterIdeal.main_arg2) = Layout.block ⟨3, ![4, 1024, 1408]⟩ ⟨3, ![32, 1024, 1408]⟩ 0 8 c (m' (((0 : Dev Cert.ScatterRefIdeal.nD).tc : Thread Cert.ScatterRefIdeal.nD Cert.ScatterRefIdeal.τ).loc Cert.ScatterRefIdeal.main_arg2))
      ∧ m ((c.tc : Thread Cert.ScatterIdeal.nD Cert.ScatterIdeal.τ).loc Cert.ScatterIdeal.main_arg3) = Layout.block ⟨3, ![4, 1024, 1408]⟩ ⟨3, ![32, 1024, 1408]⟩ 0 8 c (m' (((0 : Dev Cert.ScatterRefIdeal.nD).tc : Thread Cert.ScatterRefIdeal.nD Cert.ScatterRefIdeal.τ).loc Cert.ScatterRefIdeal.main_arg3))
      ∧ m ((c.tc : Thread Cert.ScatterIdeal.nD Cert.ScatterIdeal.τ).loc Cert.ScatterIdeal.main_arg4) = Layout.block ⟨3, ![4, 704, 2048]⟩ ⟨3, ![32, 704, 2048]⟩ 0 8 c (m' (((0 : Dev Cert.ScatterRefIdeal.nD).tc : Thread Cert.ScatterRefIdeal.nD Cert.ScatterRefIdeal.τ).loc Cert.ScatterRefIdeal.main_arg4))) →
    ∃ (v0 : Buf (Elt Ideal) (((0 : Dev Cert.ScatterRefIdeal.nD).tc : Thread Cert.ScatterRefIdeal.nD Cert.ScatterRefIdeal.τ).loc Cert.ScatterRefIdeal.main_v2)) (v1 : Buf (Elt Ideal) (((0 : Dev Cert.ScatterRefIdeal.nD).tc : Thread Cert.ScatterRefIdeal.nD Cert.ScatterRefIdeal.τ).loc Cert.ScatterRefIdeal.main_v5)) (v2 : Buf (Elt Ideal) (((0 : Dev Cert.ScatterRefIdeal.nD).tc : Thread Cert.ScatterRefIdeal.nD Cert.ScatterRefIdeal.τ).loc Cert.ScatterRefIdeal.main_v8)) (v3 : Buf (Elt Ideal) (((0 : Dev Cert.ScatterRefIdeal.nD).tc : Thread Cert.ScatterRefIdeal.nD Cert.ScatterRefIdeal.τ).loc Cert.ScatterRefIdeal.main_v11)) (v4 : Buf (Elt Ideal) (((0 : Dev Cert.ScatterRefIdeal.nD).tc : Thread Cert.ScatterRefIdeal.nD Cert.ScatterRefIdeal.τ).loc Cert.ScatterRefIdeal.main_v14)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1_0) = Layout.block ⟨3, ![4, 1024, 4100]⟩ ⟨3, ![32, 1024, 4100]⟩ 0 8 c v0
          ∧ r.2.mem ((c.tc : Thread Cert.ScatterIdeal.nD Cert.ScatterIdeal.τ).loc Cert.ScatterIdeal.main_v1_1) = Layout.block ⟨3, ![4, 256, 2048]⟩ ⟨3, ![32, 256, 2048]⟩ 0 8 c v1
          ∧ r.2.mem ((c.tc : Thread Cert.ScatterIdeal.nD Cert.ScatterIdeal.τ).loc Cert.ScatterIdeal.main_v1_2) = Layout.block ⟨3, ![4, 1024, 1408]⟩ ⟨3, ![32, 1024, 1408]⟩ 0 8 c v2
          ∧ r.2.mem ((c.tc : Thread Cert.ScatterIdeal.nD Cert.ScatterIdeal.τ).loc Cert.ScatterIdeal.main_v1_3) = Layout.block ⟨3, ![4, 1024, 1408]⟩ ⟨3, ![32, 1024, 1408]⟩ 0 8 c v3
          ∧ r.2.mem ((c.tc : Thread Cert.ScatterIdeal.nD Cert.ScatterIdeal.τ).loc Cert.ScatterIdeal.main_v1_4) = Layout.block ⟨3, ![4, 704, 2048]⟩ ⟨3, ![32, 704, 2048]⟩ 0 8 c v4
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
          ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_v5) = v1
          ∧ r.2.mem (((0 : Dev Cert.ScatterRefIdeal.nD).tc : Thread Cert.ScatterRefIdeal.nD Cert.ScatterRefIdeal.τ).loc Cert.ScatterRefIdeal.main_v8) = v2
          ∧ r.2.mem (((0 : Dev Cert.ScatterRefIdeal.nD).tc : Thread Cert.ScatterRefIdeal.nD Cert.ScatterRefIdeal.τ).loc Cert.ScatterRefIdeal.main_v11) = v3
          ∧ r.2.mem (((0 : Dev Cert.ScatterRefIdeal.nD).tc : Thread Cert.ScatterRefIdeal.nD Cert.ScatterRefIdeal.τ).loc Cert.ScatterRefIdeal.main_v14) = v4
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0)
          ∧ r.2.mem (((0 : Dev Cert.ScatterRefIdeal.nD).tc : Thread Cert.ScatterRefIdeal.nD Cert.ScatterRefIdeal.τ).loc Cert.ScatterRefIdeal.main_arg1) = m' (((0 : Dev Cert.ScatterRefIdeal.nD).tc : Thread Cert.ScatterRefIdeal.nD Cert.ScatterRefIdeal.τ).loc Cert.ScatterRefIdeal.main_arg1)
          ∧ r.2.mem (((0 : Dev Cert.ScatterRefIdeal.nD).tc : Thread Cert.ScatterRefIdeal.nD Cert.ScatterRefIdeal.τ).loc Cert.ScatterRefIdeal.main_arg2) = m' (((0 : Dev Cert.ScatterRefIdeal.nD).tc : Thread Cert.ScatterRefIdeal.nD Cert.ScatterRefIdeal.τ).loc Cert.ScatterRefIdeal.main_arg2)
          ∧ r.2.mem (((0 : Dev Cert.ScatterRefIdeal.nD).tc : Thread Cert.ScatterRefIdeal.nD Cert.ScatterRefIdeal.τ).loc Cert.ScatterRefIdeal.main_arg3) = m' (((0 : Dev Cert.ScatterRefIdeal.nD).tc : Thread Cert.ScatterRefIdeal.nD Cert.ScatterRefIdeal.τ).loc Cert.ScatterRefIdeal.main_arg3)
          ∧ r.2.mem (((0 : Dev Cert.ScatterRefIdeal.nD).tc : Thread Cert.ScatterRefIdeal.nD Cert.ScatterRefIdeal.τ).loc Cert.ScatterRefIdeal.main_arg4) = m' (((0 : Dev Cert.ScatterRefIdeal.nD).tc : Thread Cert.ScatterRefIdeal.nD Cert.ScatterRefIdeal.τ).loc Cert.ScatterRefIdeal.main_arg4))

def preserves_Share_ShareIdeal : Prop :=
  True

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.block ⟨2, ![1024, 4100]⟩ ⟨2, ![8192, 4100]⟩ 0 8 c (m' (((0 : Dev Cert.ShareRef.nD).tc : Thread Cert.ShareRef.nD Cert.ShareRef.τ).loc Cert.ShareRef.main_arg0))
      ∧ m ((c.tc : Thread Cert.Share.nD Cert.Share.τ).loc Cert.Share.main_arg1) = Layout.block ⟨2, ![256, 2048]⟩ ⟨2, ![2048, 2048]⟩ 0 8 c (m' (((0 : Dev Cert.ShareRef.nD).tc : Thread Cert.ShareRef.nD Cert.ShareRef.τ).loc Cert.ShareRef.main_arg1))
      ∧ m ((c.tc : Thread Cert.Share.nD Cert.Share.τ).loc Cert.Share.main_arg2) = Layout.block ⟨2, ![1024, 1408]⟩ ⟨2, ![8192, 1408]⟩ 0 8 c (m' (((0 : Dev Cert.ShareRef.nD).tc : Thread Cert.ShareRef.nD Cert.ShareRef.τ).loc Cert.ShareRef.main_arg2))
      ∧ m ((c.tc : Thread Cert.Share.nD Cert.Share.τ).loc Cert.Share.main_arg3) = Layout.block ⟨2, ![1024, 1408]⟩ ⟨2, ![8192, 1408]⟩ 0 8 c (m' (((0 : Dev Cert.ShareRef.nD).tc : Thread Cert.ShareRef.nD Cert.ShareRef.τ).loc Cert.ShareRef.main_arg3))
      ∧ m ((c.tc : Thread Cert.Share.nD Cert.Share.τ).loc Cert.Share.main_arg4) = Layout.block ⟨2, ![704, 2048]⟩ ⟨2, ![5632, 2048]⟩ 0 8 c (m' (((0 : Dev Cert.ShareRef.nD).tc : Thread Cert.ShareRef.nD Cert.ShareRef.τ).loc Cert.ShareRef.main_arg4))) →
    ∃ (v0 : Buf (Elt Bits) (((0 : Dev Cert.ShareRef.nD).tc : Thread Cert.ShareRef.nD Cert.ShareRef.τ).loc Cert.ShareRef.main_v0)) (v1 : Buf (Elt Bits) (((0 : Dev Cert.ShareRef.nD).tc : Thread Cert.ShareRef.nD Cert.ShareRef.τ).loc Cert.ShareRef.main_v1)) (v2 : Buf (Elt Bits) (((0 : Dev Cert.ShareRef.nD).tc : Thread Cert.ShareRef.nD Cert.ShareRef.τ).loc Cert.ShareRef.main_v2)) (v3 : Buf (Elt Bits) (((0 : Dev Cert.ShareRef.nD).tc : Thread Cert.ShareRef.nD Cert.ShareRef.τ).loc Cert.ShareRef.main_v3)) (v4 : Buf (Elt Bits) (((0 : Dev Cert.ShareRef.nD).tc : Thread Cert.ShareRef.nD Cert.ShareRef.τ).loc Cert.ShareRef.main_v4)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1_0) = Layout.blockN ⟨3, ![2, 1024, 4100]⟩ ⟨3, ![8, 1024, 4100]⟩ (Layout.meshBlock [2, 2, 2] ![[0, 1], [], []] c) v0
          ∧ r.2.mem ((c.tc : Thread Cert.Share.nD Cert.Share.τ).loc Cert.Share.main_v1_1) = Layout.blockN ⟨3, ![2, 256, 2048]⟩ ⟨3, ![8, 256, 2048]⟩ (Layout.meshBlock [2, 2, 2] ![[0, 1], [], []] c) v1
          ∧ r.2.mem ((c.tc : Thread Cert.Share.nD Cert.Share.τ).loc Cert.Share.main_v1_2) = Layout.blockN ⟨3, ![2, 1024, 1408]⟩ ⟨3, ![8, 1024, 1408]⟩ (Layout.meshBlock [2, 2, 2] ![[0, 1], [], []] c) v2
          ∧ r.2.mem ((c.tc : Thread Cert.Share.nD Cert.Share.τ).loc Cert.Share.main_v1_3) = Layout.blockN ⟨3, ![2, 1024, 1408]⟩ ⟨3, ![8, 1024, 1408]⟩ (Layout.meshBlock [2, 2, 2] ![[0, 1], [], []] c) v3
          ∧ r.2.mem ((c.tc : Thread Cert.Share.nD Cert.Share.τ).loc Cert.Share.main_v1_4) = Layout.blockN ⟨3, ![2, 704, 2048]⟩ ⟨3, ![8, 704, 2048]⟩ (Layout.meshBlock [2, 2, 2] ![[0, 1], [], []] c) v4
          ∧ r.2.mem ((c.tc : Thread Cert.Share.nD Cert.Share.τ).loc Cert.Share.main_arg0) = m ((c.tc : Thread Cert.Share.nD Cert.Share.τ).loc Cert.Share.main_arg0)
          ∧ r.2.mem ((c.tc : Thread Cert.Share.nD Cert.Share.τ).loc Cert.Share.main_arg1) = m ((c.tc : Thread Cert.Share.nD Cert.Share.τ).loc Cert.Share.main_arg1)
          ∧ r.2.mem ((c.tc : Thread Cert.Share.nD Cert.Share.τ).loc Cert.Share.main_arg2) = m ((c.tc : Thread Cert.Share.nD Cert.Share.τ).loc Cert.Share.main_arg2)
          ∧ r.2.mem ((c.tc : Thread Cert.Share.nD Cert.Share.τ).loc Cert.Share.main_arg3) = m ((c.tc : Thread Cert.Share.nD Cert.Share.τ).loc Cert.Share.main_arg3)
          ∧ r.2.mem ((c.tc : Thread Cert.Share.nD Cert.Share.τ).loc Cert.Share.main_arg4) = m ((c.tc : Thread Cert.Share.nD Cert.Share.τ).loc Cert.Share.main_arg4))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v0) = v0
          ∧ r.2.mem (((0 : Dev Cert.ShareRef.nD).tc : Thread Cert.ShareRef.nD Cert.ShareRef.τ).loc Cert.ShareRef.main_v1) = v1
          ∧ r.2.mem (((0 : Dev Cert.ShareRef.nD).tc : Thread Cert.ShareRef.nD Cert.ShareRef.τ).loc Cert.ShareRef.main_v2) = v2
          ∧ r.2.mem (((0 : Dev Cert.ShareRef.nD).tc : Thread Cert.ShareRef.nD Cert.ShareRef.τ).loc Cert.ShareRef.main_v3) = v3
          ∧ r.2.mem (((0 : Dev Cert.ShareRef.nD).tc : Thread Cert.ShareRef.nD Cert.ShareRef.τ).loc Cert.ShareRef.main_v4) = v4
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0)
          ∧ r.2.mem (((0 : Dev Cert.ShareRef.nD).tc : Thread Cert.ShareRef.nD Cert.ShareRef.τ).loc Cert.ShareRef.main_arg1) = m' (((0 : Dev Cert.ShareRef.nD).tc : Thread Cert.ShareRef.nD Cert.ShareRef.τ).loc Cert.ShareRef.main_arg1)
          ∧ r.2.mem (((0 : Dev Cert.ShareRef.nD).tc : Thread Cert.ShareRef.nD Cert.ShareRef.τ).loc Cert.ShareRef.main_arg2) = m' (((0 : Dev Cert.ShareRef.nD).tc : Thread Cert.ShareRef.nD Cert.ShareRef.τ).loc Cert.ShareRef.main_arg2)
          ∧ r.2.mem (((0 : Dev Cert.ShareRef.nD).tc : Thread Cert.ShareRef.nD Cert.ShareRef.τ).loc Cert.ShareRef.main_arg3) = m' (((0 : Dev Cert.ShareRef.nD).tc : Thread Cert.ShareRef.nD Cert.ShareRef.τ).loc Cert.ShareRef.main_arg3)
          ∧ r.2.mem (((0 : Dev Cert.ShareRef.nD).tc : Thread Cert.ShareRef.nD Cert.ShareRef.τ).loc Cert.ShareRef.main_arg4) = m' (((0 : Dev Cert.ShareRef.nD).tc : Thread Cert.ShareRef.nD Cert.ShareRef.τ).loc Cert.ShareRef.main_arg4))

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![1024, 4100]⟩ ⟨2, ![8192, 4100]⟩ 0 8 c (m' (((0 : Dev Cert.ShareRefIdeal.nD).tc : Thread Cert.ShareRefIdeal.nD Cert.ShareRefIdeal.τ).loc Cert.ShareRefIdeal.main_arg0))
      ∧ m ((c.tc : Thread Cert.ShareIdeal.nD Cert.ShareIdeal.τ).loc Cert.ShareIdeal.main_arg1) = Layout.block ⟨2, ![256, 2048]⟩ ⟨2, ![2048, 2048]⟩ 0 8 c (m' (((0 : Dev Cert.ShareRefIdeal.nD).tc : Thread Cert.ShareRefIdeal.nD Cert.ShareRefIdeal.τ).loc Cert.ShareRefIdeal.main_arg1))
      ∧ m ((c.tc : Thread Cert.ShareIdeal.nD Cert.ShareIdeal.τ).loc Cert.ShareIdeal.main_arg2) = Layout.block ⟨2, ![1024, 1408]⟩ ⟨2, ![8192, 1408]⟩ 0 8 c (m' (((0 : Dev Cert.ShareRefIdeal.nD).tc : Thread Cert.ShareRefIdeal.nD Cert.ShareRefIdeal.τ).loc Cert.ShareRefIdeal.main_arg2))
      ∧ m ((c.tc : Thread Cert.ShareIdeal.nD Cert.ShareIdeal.τ).loc Cert.ShareIdeal.main_arg3) = Layout.block ⟨2, ![1024, 1408]⟩ ⟨2, ![8192, 1408]⟩ 0 8 c (m' (((0 : Dev Cert.ShareRefIdeal.nD).tc : Thread Cert.ShareRefIdeal.nD Cert.ShareRefIdeal.τ).loc Cert.ShareRefIdeal.main_arg3))
      ∧ m ((c.tc : Thread Cert.ShareIdeal.nD Cert.ShareIdeal.τ).loc Cert.ShareIdeal.main_arg4) = Layout.block ⟨2, ![704, 2048]⟩ ⟨2, ![5632, 2048]⟩ 0 8 c (m' (((0 : Dev Cert.ShareRefIdeal.nD).tc : Thread Cert.ShareRefIdeal.nD Cert.ShareRefIdeal.τ).loc Cert.ShareRefIdeal.main_arg4))) →
    ∃ (v0 : Buf (Elt Ideal) (((0 : Dev Cert.ShareRefIdeal.nD).tc : Thread Cert.ShareRefIdeal.nD Cert.ShareRefIdeal.τ).loc Cert.ShareRefIdeal.main_v0)) (v1 : Buf (Elt Ideal) (((0 : Dev Cert.ShareRefIdeal.nD).tc : Thread Cert.ShareRefIdeal.nD Cert.ShareRefIdeal.τ).loc Cert.ShareRefIdeal.main_v1)) (v2 : Buf (Elt Ideal) (((0 : Dev Cert.ShareRefIdeal.nD).tc : Thread Cert.ShareRefIdeal.nD Cert.ShareRefIdeal.τ).loc Cert.ShareRefIdeal.main_v2)) (v3 : Buf (Elt Ideal) (((0 : Dev Cert.ShareRefIdeal.nD).tc : Thread Cert.ShareRefIdeal.nD Cert.ShareRefIdeal.τ).loc Cert.ShareRefIdeal.main_v3)) (v4 : Buf (Elt Ideal) (((0 : Dev Cert.ShareRefIdeal.nD).tc : Thread Cert.ShareRefIdeal.nD Cert.ShareRefIdeal.τ).loc Cert.ShareRefIdeal.main_v4)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1_0) = Layout.blockN ⟨3, ![2, 1024, 4100]⟩ ⟨3, ![8, 1024, 4100]⟩ (Layout.meshBlock [2, 2, 2] ![[0, 1], [], []] c) v0
          ∧ r.2.mem ((c.tc : Thread Cert.ShareIdeal.nD Cert.ShareIdeal.τ).loc Cert.ShareIdeal.main_v1_1) = Layout.blockN ⟨3, ![2, 256, 2048]⟩ ⟨3, ![8, 256, 2048]⟩ (Layout.meshBlock [2, 2, 2] ![[0, 1], [], []] c) v1
          ∧ r.2.mem ((c.tc : Thread Cert.ShareIdeal.nD Cert.ShareIdeal.τ).loc Cert.ShareIdeal.main_v1_2) = Layout.blockN ⟨3, ![2, 1024, 1408]⟩ ⟨3, ![8, 1024, 1408]⟩ (Layout.meshBlock [2, 2, 2] ![[0, 1], [], []] c) v2
          ∧ r.2.mem ((c.tc : Thread Cert.ShareIdeal.nD Cert.ShareIdeal.τ).loc Cert.ShareIdeal.main_v1_3) = Layout.blockN ⟨3, ![2, 1024, 1408]⟩ ⟨3, ![8, 1024, 1408]⟩ (Layout.meshBlock [2, 2, 2] ![[0, 1], [], []] c) v3
          ∧ r.2.mem ((c.tc : Thread Cert.ShareIdeal.nD Cert.ShareIdeal.τ).loc Cert.ShareIdeal.main_v1_4) = Layout.blockN ⟨3, ![2, 704, 2048]⟩ ⟨3, ![8, 704, 2048]⟩ (Layout.meshBlock [2, 2, 2] ![[0, 1], [], []] c) v4
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
          ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
          ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
          ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
          ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_v1) = v1
          ∧ r.2.mem (((0 : Dev Cert.ShareRefIdeal.nD).tc : Thread Cert.ShareRefIdeal.nD Cert.ShareRefIdeal.τ).loc Cert.ShareRefIdeal.main_v2) = v2
          ∧ r.2.mem (((0 : Dev Cert.ShareRefIdeal.nD).tc : Thread Cert.ShareRefIdeal.nD Cert.ShareRefIdeal.τ).loc Cert.ShareRefIdeal.main_v3) = v3
          ∧ r.2.mem (((0 : Dev Cert.ShareRefIdeal.nD).tc : Thread Cert.ShareRefIdeal.nD Cert.ShareRefIdeal.τ).loc Cert.ShareRefIdeal.main_v4) = v4
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0)
          ∧ r.2.mem (((0 : Dev Cert.ShareRefIdeal.nD).tc : Thread Cert.ShareRefIdeal.nD Cert.ShareRefIdeal.τ).loc Cert.ShareRefIdeal.main_arg1) = m' (((0 : Dev Cert.ShareRefIdeal.nD).tc : Thread Cert.ShareRefIdeal.nD Cert.ShareRefIdeal.τ).loc Cert.ShareRefIdeal.main_arg1)
          ∧ r.2.mem (((0 : Dev Cert.ShareRefIdeal.nD).tc : Thread Cert.ShareRefIdeal.nD Cert.ShareRefIdeal.τ).loc Cert.ShareRefIdeal.main_arg2) = m' (((0 : Dev Cert.ShareRefIdeal.nD).tc : Thread Cert.ShareRefIdeal.nD Cert.ShareRefIdeal.τ).loc Cert.ShareRefIdeal.main_arg2)
          ∧ r.2.mem (((0 : Dev Cert.ShareRefIdeal.nD).tc : Thread Cert.ShareRefIdeal.nD Cert.ShareRefIdeal.τ).loc Cert.ShareRefIdeal.main_arg3) = m' (((0 : Dev Cert.ShareRefIdeal.nD).tc : Thread Cert.ShareRefIdeal.nD Cert.ShareRefIdeal.τ).loc Cert.ShareRefIdeal.main_arg3)
          ∧ r.2.mem (((0 : Dev Cert.ShareRefIdeal.nD).tc : Thread Cert.ShareRefIdeal.nD Cert.ShareRefIdeal.τ).loc Cert.ShareRefIdeal.main_arg4) = m' (((0 : Dev Cert.ShareRefIdeal.nD).tc : Thread Cert.ShareRefIdeal.nD Cert.ShareRefIdeal.τ).loc Cert.ShareRefIdeal.main_arg4))

def preserves_Gather_GatherIdeal : Prop :=
  True

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![2048, 4100]⟩ ⟨2, ![2048, 16400]⟩ (Layout.meshBlock [2, 2, 2] ![[], [0, 1]] c) (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.blockN ⟨2, ![512, 2048]⟩ ⟨2, ![2048, 2048]⟩ (Layout.meshBlock [2, 2, 2] ![[0, 1], []] c) (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.blockN ⟨2, ![2048, 1408]⟩ ⟨2, ![2048, 5632]⟩ (Layout.meshBlock [2, 2, 2] ![[], [0, 1]] c) (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.blockN ⟨2, ![2048, 1408]⟩ ⟨2, ![2048, 5632]⟩ (Layout.meshBlock [2, 2, 2] ![[], [0, 1]] c) (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.blockN ⟨2, ![1408, 2048]⟩ ⟨2, ![5632, 2048]⟩ (Layout.meshBlock [2, 2, 2] ![[0, 1], []] c) (m' (((0 : Dev Cert.GatherRef.nD).tc : Thread Cert.GatherRef.nD Cert.GatherRef.τ).loc Cert.GatherRef.main_arg4))) →
    ∃ (v0 : Buf (Elt Bits) (((0 : Dev Cert.GatherRef.nD).tc : Thread Cert.GatherRef.nD Cert.GatherRef.τ).loc Cert.GatherRef.main_v1)) (v1 : Buf (Elt Bits) (((0 : Dev Cert.GatherRef.nD).tc : Thread Cert.GatherRef.nD Cert.GatherRef.τ).loc Cert.GatherRef.main_v2)) (v2 : Buf (Elt Bits) (((0 : Dev Cert.GatherRef.nD).tc : Thread Cert.GatherRef.nD Cert.GatherRef.τ).loc Cert.GatherRef.main_v4)) (v3 : Buf (Elt Bits) (((0 : Dev Cert.GatherRef.nD).tc : Thread Cert.GatherRef.nD Cert.GatherRef.τ).loc Cert.GatherRef.main_v6)) (v4 : Buf (Elt Bits) (((0 : Dev Cert.GatherRef.nD).tc : Thread Cert.GatherRef.nD Cert.GatherRef.τ).loc Cert.GatherRef.main_v7)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v1) = v0
          ∧ r.2.mem (((0 : Dev Cert.GatherRef.nD).tc : Thread Cert.GatherRef.nD Cert.GatherRef.τ).loc Cert.GatherRef.main_v2) = v1
          ∧ r.2.mem (((0 : Dev Cert.GatherRef.nD).tc : Thread Cert.GatherRef.nD Cert.GatherRef.τ).loc Cert.GatherRef.main_v4) = v2
          ∧ r.2.mem (((0 : Dev Cert.GatherRef.nD).tc : Thread Cert.GatherRef.nD Cert.GatherRef.τ).loc Cert.GatherRef.main_v6) = v3
          ∧ r.2.mem (((0 : Dev Cert.GatherRef.nD).tc : Thread Cert.GatherRef.nD Cert.GatherRef.τ).loc Cert.GatherRef.main_v7) = v4
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4))

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![2048, 4100]⟩ ⟨2, ![2048, 16400]⟩ (Layout.meshBlock [2, 2, 2] ![[], [0, 1]] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.blockN ⟨2, ![512, 2048]⟩ ⟨2, ![2048, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.blockN ⟨2, ![2048, 1408]⟩ ⟨2, ![2048, 5632]⟩ (Layout.meshBlock [2, 2, 2] ![[], [0, 1]] c) (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.blockN ⟨2, ![2048, 1408]⟩ ⟨2, ![2048, 5632]⟩ (Layout.meshBlock [2, 2, 2] ![[], [0, 1]] c) (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.blockN ⟨2, ![1408, 2048]⟩ ⟨2, ![5632, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg4))) →
    ∃ (v0 : Buf (Elt Ideal) (((0 : Dev Cert.GatherRefIdeal.nD).tc : Thread Cert.GatherRefIdeal.nD Cert.GatherRefIdeal.τ).loc Cert.GatherRefIdeal.main_v1)) (v1 : Buf (Elt Ideal) (((0 : Dev Cert.GatherRefIdeal.nD).tc : Thread Cert.GatherRefIdeal.nD Cert.GatherRefIdeal.τ).loc Cert.GatherRefIdeal.main_v2)) (v2 : Buf (Elt Ideal) (((0 : Dev Cert.GatherRefIdeal.nD).tc : Thread Cert.GatherRefIdeal.nD Cert.GatherRefIdeal.τ).loc Cert.GatherRefIdeal.main_v4)) (v3 : Buf (Elt Ideal) (((0 : Dev Cert.GatherRefIdeal.nD).tc : Thread Cert.GatherRefIdeal.nD Cert.GatherRefIdeal.τ).loc Cert.GatherRefIdeal.main_v6)) (v4 : Buf (Elt Ideal) (((0 : Dev Cert.GatherRefIdeal.nD).tc : Thread Cert.GatherRefIdeal.nD Cert.GatherRefIdeal.τ).loc Cert.GatherRefIdeal.main_v7)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v1) = v0
          ∧ r.2.mem (((0 : Dev Cert.GatherRefIdeal.nD).tc : Thread Cert.GatherRefIdeal.nD Cert.GatherRefIdeal.τ).loc Cert.GatherRefIdeal.main_v2) = v1
          ∧ r.2.mem (((0 : Dev Cert.GatherRefIdeal.nD).tc : Thread Cert.GatherRefIdeal.nD Cert.GatherRefIdeal.τ).loc Cert.GatherRefIdeal.main_v4) = v2
          ∧ r.2.mem (((0 : Dev Cert.GatherRefIdeal.nD).tc : Thread Cert.GatherRefIdeal.nD Cert.GatherRefIdeal.τ).loc Cert.GatherRefIdeal.main_v6) = v3
          ∧ r.2.mem (((0 : Dev Cert.GatherRefIdeal.nD).tc : Thread Cert.GatherRefIdeal.nD Cert.GatherRefIdeal.τ).loc Cert.GatherRefIdeal.main_v7) = v4
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4))

def preserves_UpdateIn_UpdateInIdeal : Prop :=
  True

def algebraic_UpdateInIdeal_UpdateInRefIdeal [hUpdateInIdeal : Cert.UpdateInIdeal.Facts] [hUpdateInRefIdeal : Cert.UpdateInRefIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInRefIdeal.nD Cert.UpdateInRefIdeal.τ Cert.UpdateInRefIdeal.sig) → Buf (Elt Ideal) ℓ) (g' : Dev Cert.UpdateInRefIdeal.nD → PrngReg), Pre_UpdateInIdeal m →
    (∀ c : Dev Cert.UpdateInIdeal.nD,
      m' ((c.tc : Thread Cert.UpdateInRefIdeal.nD Cert.UpdateInRefIdeal.τ).loc Cert.UpdateInRefIdeal.main_arg0) = m ((c.tc : Thread Cert.UpdateInIdeal.nD Cert.UpdateInIdeal.τ).loc Cert.UpdateInIdeal.main_arg0)
      ∧ m' ((c.tc : Thread Cert.UpdateInRefIdeal.nD Cert.UpdateInRefIdeal.τ).loc Cert.UpdateInRefIdeal.main_arg1) = m ((c.tc : Thread Cert.UpdateInIdeal.nD Cert.UpdateInIdeal.τ).loc Cert.UpdateInIdeal.main_arg1)
      ∧ m' ((c.tc : Thread Cert.UpdateInRefIdeal.nD Cert.UpdateInRefIdeal.τ).loc Cert.UpdateInRefIdeal.main_arg2) = m ((c.tc : Thread Cert.UpdateInIdeal.nD Cert.UpdateInIdeal.τ).loc Cert.UpdateInIdeal.main_arg2)
      ∧ m' ((c.tc : Thread Cert.UpdateInRefIdeal.nD Cert.UpdateInRefIdeal.τ).loc Cert.UpdateInRefIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdateInRefIdeal.defs (F := Ideal)) (onTc (τ := Cert.UpdateInRefIdeal.τ) (Cert.UpdateInRefIdeal.main (F := Ideal))) ⟨m', fun _ => 0, g'⟩ (fun r => ∀ c : Dev Cert.UpdateInRefIdeal.nD,
          r.2.mem ((c.tc : Thread Cert.UpdateInRefIdeal.nD Cert.UpdateInRefIdeal.τ).loc Cert.UpdateInRefIdeal.main_v23) = v0 c
          ∧ r.2.mem ((c.tc : Thread Cert.UpdateInRefIdeal.nD Cert.UpdateInRefIdeal.τ).loc Cert.UpdateInRefIdeal.main_v4) = v1 c
          ∧ r.2.mem ((c.tc : Thread Cert.UpdateInRefIdeal.nD Cert.UpdateInRefIdeal.τ).loc Cert.UpdateInRefIdeal.main_v10) = v2 c
          ∧ r.2.mem ((c.tc : Thread Cert.UpdateInRefIdeal.nD Cert.UpdateInRefIdeal.τ).loc Cert.UpdateInRefIdeal.main_arg0) = m' ((c.tc : Thread Cert.UpdateInRefIdeal.nD Cert.UpdateInRefIdeal.τ).loc Cert.UpdateInRefIdeal.main_arg0)
          ∧ r.2.mem ((c.tc : Thread Cert.UpdateInRefIdeal.nD Cert.UpdateInRefIdeal.τ).loc Cert.UpdateInRefIdeal.main_arg1) = m' ((c.tc : Thread Cert.UpdateInRefIdeal.nD Cert.UpdateInRefIdeal.τ).loc Cert.UpdateInRefIdeal.main_arg1)
          ∧ r.2.mem ((c.tc : Thread Cert.UpdateInRefIdeal.nD Cert.UpdateInRefIdeal.τ).loc Cert.UpdateInRefIdeal.main_arg2) = m' ((c.tc : Thread Cert.UpdateInRefIdeal.nD Cert.UpdateInRefIdeal.τ).loc Cert.UpdateInRefIdeal.main_arg2)
          ∧ r.2.mem ((c.tc : Thread Cert.UpdateInRefIdeal.nD Cert.UpdateInRefIdeal.τ).loc Cert.UpdateInRefIdeal.main_arg3) = m' ((c.tc : Thread Cert.UpdateInRefIdeal.nD Cert.UpdateInRefIdeal.τ).loc Cert.UpdateInRefIdeal.main_arg3))

def preserves_UpdateOut_UpdateOutIdeal : Prop :=
  True

def algebraic_UpdateOutIdeal_UpdateOutRefIdeal [hUpdateOutIdeal : Cert.UpdateOutIdeal.Facts] [hUpdateOutRefIdeal : Cert.UpdateOutRefIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutRefIdeal.nD Cert.UpdateOutRefIdeal.τ Cert.UpdateOutRefIdeal.sig) → Buf (Elt Ideal) ℓ) (g' : Dev Cert.UpdateOutRefIdeal.nD → PrngReg), Pre_UpdateOutIdeal m →
    (∀ c : Dev Cert.UpdateOutIdeal.nD,
      m' ((c.tc : Thread Cert.UpdateOutRefIdeal.nD Cert.UpdateOutRefIdeal.τ).loc Cert.UpdateOutRefIdeal.main_arg0) = m ((c.tc : Thread Cert.UpdateOutIdeal.nD Cert.UpdateOutIdeal.τ).loc Cert.UpdateOutIdeal.main_arg0)
      ∧ m' ((c.tc : Thread Cert.UpdateOutRefIdeal.nD Cert.UpdateOutRefIdeal.τ).loc Cert.UpdateOutRefIdeal.main_arg1) = m ((c.tc : Thread Cert.UpdateOutIdeal.nD Cert.UpdateOutIdeal.τ).loc Cert.UpdateOutIdeal.main_arg1)
      ∧ m' ((c.tc : Thread Cert.UpdateOutRefIdeal.nD Cert.UpdateOutRefIdeal.τ).loc Cert.UpdateOutRefIdeal.main_arg2) = m ((c.tc : Thread Cert.UpdateOutIdeal.nD Cert.UpdateOutIdeal.τ).loc Cert.UpdateOutIdeal.main_arg2)
      ∧ m' ((c.tc : Thread Cert.UpdateOutRefIdeal.nD Cert.UpdateOutRefIdeal.τ).loc Cert.UpdateOutRefIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutRefIdeal.defs (F := Ideal)) (onTc (τ := Cert.UpdateOutRefIdeal.τ) (Cert.UpdateOutRefIdeal.main (F := Ideal))) ⟨m', fun _ => 0, g'⟩ (fun r => ∀ c : Dev Cert.UpdateOutRefIdeal.nD,
          r.2.mem ((c.tc : Thread Cert.UpdateOutRefIdeal.nD Cert.UpdateOutRefIdeal.τ).loc Cert.UpdateOutRefIdeal.main_v23) = v0 c
          ∧ r.2.mem ((c.tc : Thread Cert.UpdateOutRefIdeal.nD Cert.UpdateOutRefIdeal.τ).loc Cert.UpdateOutRefIdeal.main_v4) = v1 c
          ∧ r.2.mem ((c.tc : Thread Cert.UpdateOutRefIdeal.nD Cert.UpdateOutRefIdeal.τ).loc Cert.UpdateOutRefIdeal.main_v10) = v2 c
          ∧ r.2.mem ((c.tc : Thread Cert.UpdateOutRefIdeal.nD Cert.UpdateOutRefIdeal.τ).loc Cert.UpdateOutRefIdeal.main_arg0) = m' ((c.tc : Thread Cert.UpdateOutRefIdeal.nD Cert.UpdateOutRefIdeal.τ).loc Cert.UpdateOutRefIdeal.main_arg0)
          ∧ r.2.mem ((c.tc : Thread Cert.UpdateOutRefIdeal.nD Cert.UpdateOutRefIdeal.τ).loc Cert.UpdateOutRefIdeal.main_arg1) = m' ((c.tc : Thread Cert.UpdateOutRefIdeal.nD Cert.UpdateOutRefIdeal.τ).loc Cert.UpdateOutRefIdeal.main_arg1)
          ∧ r.2.mem ((c.tc : Thread Cert.UpdateOutRefIdeal.nD Cert.UpdateOutRefIdeal.τ).loc Cert.UpdateOutRefIdeal.main_arg2) = m' ((c.tc : Thread Cert.UpdateOutRefIdeal.nD Cert.UpdateOutRefIdeal.τ).loc Cert.UpdateOutRefIdeal.main_arg2)
          ∧ r.2.mem ((c.tc : Thread Cert.UpdateOutRefIdeal.nD Cert.UpdateOutRefIdeal.τ).loc Cert.UpdateOutRefIdeal.main_arg3) = m' ((c.tc : Thread Cert.UpdateOutRefIdeal.nD Cert.UpdateOutRefIdeal.τ).loc Cert.UpdateOutRefIdeal.main_arg3))

def preserves_UpdateGate_UpdateGateIdeal : Prop :=
  True

def algebraic_UpdateGateIdeal_UpdateGateRefIdeal [hUpdateGateIdeal : Cert.UpdateGateIdeal.Facts] [hUpdateGateRefIdeal : Cert.UpdateGateRefIdeal.Facts] : Prop :=
  ∀ (m : (ℓ : Loc Cert.UpdateGateIdeal.nD Cert.UpdateGateIdeal.τ Cert.UpdateGateIdeal.sig) → Buf (Elt Ideal) ℓ) (g : Dev Cert.UpdateGateIdeal.nD → PrngReg)
    (m' : (ℓ : Loc Cert.UpdateGateRefIdeal.nD Cert.UpdateGateRefIdeal.τ Cert.UpdateGateRefIdeal.sig) → Buf (Elt Ideal) ℓ) (g' : Dev Cert.UpdateGateRefIdeal.nD → PrngReg), Pre_UpdateGateIdeal m →
    (∀ c : Dev Cert.UpdateGateIdeal.nD,
      m' ((c.tc : Thread Cert.UpdateGateRefIdeal.nD Cert.UpdateGateRefIdeal.τ).loc Cert.UpdateGateRefIdeal.main_arg0) = m ((c.tc : Thread Cert.UpdateGateIdeal.nD Cert.UpdateGateIdeal.τ).loc Cert.UpdateGateIdeal.main_arg0)
      ∧ m' ((c.tc : Thread Cert.UpdateGateRefIdeal.nD Cert.UpdateGateRefIdeal.τ).loc Cert.UpdateGateRefIdeal.main_arg1) = m ((c.tc : Thread Cert.UpdateGateIdeal.nD Cert.UpdateGateIdeal.τ).loc Cert.UpdateGateIdeal.main_arg1)
      ∧ m' ((c.tc : Thread Cert.UpdateGateRefIdeal.nD Cert.UpdateGateRefIdeal.τ).loc Cert.UpdateGateRefIdeal.main_arg2) = m ((c.tc : Thread Cert.UpdateGateIdeal.nD Cert.UpdateGateIdeal.τ).loc Cert.UpdateGateIdeal.main_arg2)
      ∧ m' ((c.tc : Thread Cert.UpdateGateRefIdeal.nD Cert.UpdateGateRefIdeal.τ).loc Cert.UpdateGateRefIdeal.main_arg3) = m ((c.tc : Thread Cert.UpdateGateIdeal.nD Cert.UpdateGateIdeal.τ).loc Cert.UpdateGateIdeal.main_arg3)) →
    ∃ (v0 : (c : Dev Cert.UpdateGateIdeal.nD) → Buf (Elt Ideal) ((c.tc : Thread Cert.UpdateGateIdeal.nD Cert.UpdateGateIdeal.τ).loc Cert.UpdateGateIdeal.main_v0_0)) (v1 : (c : Dev Cert.UpdateGateIdeal.nD) → Buf (Elt Ideal) ((c.tc : Thread Cert.UpdateGateIdeal.nD Cert.UpdateGateIdeal.τ).loc Cert.UpdateGateIdeal.main_v0_1)) (v2 : (c : Dev Cert.UpdateGateIdeal.nD) → Buf (Elt Ideal) ((c.tc : Thread Cert.UpdateGateIdeal.nD Cert.UpdateGateIdeal.τ).loc Cert.UpdateGateIdeal.main_v0_2)),
      θ_run (Cert.UpdateGateIdeal.defs (F := Ideal)) (onTc (τ := Cert.UpdateGateIdeal.τ) (Cert.UpdateGateIdeal.main (F := Ideal))) ⟨m, fun _ => 0, g⟩ (fun r => ∀ c : Dev Cert.UpdateGateIdeal.nD,
          r.2.mem ((c.tc : Thread Cert.UpdateGateIdeal.nD Cert.UpdateGateIdeal.τ).loc Cert.UpdateGateIdeal.main_v0_0) = v0 c
          ∧ r.2.mem ((c.tc : Thread Cert.UpdateGateIdeal.nD Cert.UpdateGateIdeal.τ).loc Cert.UpdateGateIdeal.main_v0_1) = v1 c
          ∧ r.2.mem ((c.tc : Thread Cert.UpdateGateIdeal.nD Cert.UpdateGateIdeal.τ).loc Cert.UpdateGateIdeal.main_v0_2) = v2 c
          ∧ r.2.mem ((c.tc : Thread Cert.UpdateGateIdeal.nD Cert.UpdateGateIdeal.τ).loc Cert.UpdateGateIdeal.main_arg0) = m ((c.tc : Thread Cert.UpdateGateIdeal.nD Cert.UpdateGateIdeal.τ).loc Cert.UpdateGateIdeal.main_arg0)
          ∧ r.2.mem ((c.tc : Thread Cert.UpdateGateIdeal.nD Cert.UpdateGateIdeal.τ).loc Cert.UpdateGateIdeal.main_arg1) = m ((c.tc : Thread Cert.UpdateGateIdeal.nD Cert.UpdateGateIdeal.τ).loc Cert.UpdateGateIdeal.main_arg1)
          ∧ r.2.mem ((c.tc : Thread Cert.UpdateGateIdeal.nD Cert.UpdateGateIdeal.τ).loc Cert.UpdateGateIdeal.main_arg2) = m ((c.tc : Thread Cert.UpdateGateIdeal.nD Cert.UpdateGateIdeal.τ).loc Cert.UpdateGateIdeal.main_arg2)
          ∧ r.2.mem ((c.tc : Thread Cert.UpdateGateIdeal.nD Cert.UpdateGateIdeal.τ).loc Cert.UpdateGateIdeal.main_arg3) = m ((c.tc : Thread Cert.UpdateGateIdeal.nD Cert.UpdateGateIdeal.τ).loc Cert.UpdateGateIdeal.main_arg3))
      ∧ θ_run (Cert.UpdateGateRefIdeal.defs (F := Ideal)) (onTc (τ := Cert.UpdateGateRefIdeal.τ) (Cert.UpdateGateRefIdeal.main (F := Ideal))) ⟨m', fun _ => 0, g'⟩ (fun r => ∀ c : Dev Cert.UpdateGateRefIdeal.nD,
          r.2.mem ((c.tc : Thread Cert.UpdateGateRefIdeal.nD Cert.UpdateGateRefIdeal.τ).loc Cert.UpdateGateRefIdeal.main_v23) = v0 c
          ∧ r.2.mem ((c.tc : Thread Cert.UpdateGateRefIdeal.nD Cert.UpdateGateRefIdeal.τ).loc Cert.UpdateGateRefIdeal.main_v4) = v1 c
          ∧ r.2.mem ((c.tc : Thread Cert.UpdateGateRefIdeal.nD Cert.UpdateGateRefIdeal.τ).loc Cert.UpdateGateRefIdeal.main_v10) = v2 c
          ∧ r.2.mem ((c.tc : Thread Cert.UpdateGateRefIdeal.nD Cert.UpdateGateRefIdeal.τ).loc Cert.UpdateGateRefIdeal.main_arg0) = m' ((c.tc : Thread Cert.UpdateGateRefIdeal.nD Cert.UpdateGateRefIdeal.τ).loc Cert.UpdateGateRefIdeal.main_arg0)
          ∧ r.2.mem ((c.tc : Thread Cert.UpdateGateRefIdeal.nD Cert.UpdateGateRefIdeal.τ).loc Cert.UpdateGateRefIdeal.main_arg1) = m' ((c.tc : Thread Cert.UpdateGateRefIdeal.nD Cert.UpdateGateRefIdeal.τ).loc Cert.UpdateGateRefIdeal.main_arg1)
          ∧ r.2.mem ((c.tc : Thread Cert.UpdateGateRefIdeal.nD Cert.UpdateGateRefIdeal.τ).loc Cert.UpdateGateRefIdeal.main_arg2) = m' ((c.tc : Thread Cert.UpdateGateRefIdeal.nD Cert.UpdateGateRefIdeal.τ).loc Cert.UpdateGateRefIdeal.main_arg2)
          ∧ r.2.mem ((c.tc : Thread Cert.UpdateGateRefIdeal.nD Cert.UpdateGateRefIdeal.τ).loc Cert.UpdateGateRefIdeal.main_arg3) = m' ((c.tc : Thread Cert.UpdateGateRefIdeal.nD Cert.UpdateGateRefIdeal.τ).loc Cert.UpdateGateRefIdeal.main_arg3))

def preserves_UpdateDown_UpdateDownIdeal : Prop :=
  True

def algebraic_UpdateDownIdeal_UpdateDownRefIdeal [hUpdateDownIdeal : Cert.UpdateDownIdeal.Facts] [hUpdateDownRefIdeal : Cert.UpdateDownRefIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg)
    (m' : (ℓ : Loc Cert.UpdateDownRefIdeal.nD Cert.UpdateDownRefIdeal.τ Cert.UpdateDownRefIdeal.sig) → Buf (Elt Ideal) ℓ) (g' : Dev Cert.UpdateDownRefIdeal.nD → PrngReg), Pre_UpdateDownIdeal m →
    (∀ c : Dev Cert.UpdateDownIdeal.nD,
      m' ((c.tc : Thread Cert.UpdateDownRefIdeal.nD Cert.UpdateDownRefIdeal.τ).loc Cert.UpdateDownRefIdeal.main_arg0) = m ((c.tc : Thread Cert.UpdateDownIdeal.nD Cert.UpdateDownIdeal.τ).loc Cert.UpdateDownIdeal.main_arg0)
      ∧ m' ((c.tc : Thread Cert.UpdateDownRefIdeal.nD Cert.UpdateDownRefIdeal.τ).loc Cert.UpdateDownRefIdeal.main_arg1) = m ((c.tc : Thread Cert.UpdateDownIdeal.nD Cert.UpdateDownIdeal.τ).loc Cert.UpdateDownIdeal.main_arg1)
      ∧ m' ((c.tc : Thread Cert.UpdateDownRefIdeal.nD Cert.UpdateDownRefIdeal.τ).loc Cert.UpdateDownRefIdeal.main_arg2) = m ((c.tc : Thread Cert.UpdateDownIdeal.nD Cert.UpdateDownIdeal.τ).loc Cert.UpdateDownIdeal.main_arg2)
      ∧ m' ((c.tc : Thread Cert.UpdateDownRefIdeal.nD Cert.UpdateDownRefIdeal.τ).loc Cert.UpdateDownRefIdeal.main_arg3) = m ((c.tc : Thread Cert.UpdateDownIdeal.nD Cert.UpdateDownIdeal.τ).loc Cert.UpdateDownIdeal.main_arg3)) →
    ∃ (v0 : (c : Dev Cert.UpdateDownIdeal.nD) → Buf (Elt Ideal) ((c.tc : Thread Cert.UpdateDownIdeal.nD Cert.UpdateDownIdeal.τ).loc Cert.UpdateDownIdeal.main_v0_0)) (v1 : (c : Dev Cert.UpdateDownIdeal.nD) → Buf (Elt Ideal) ((c.tc : Thread Cert.UpdateDownIdeal.nD Cert.UpdateDownIdeal.τ).loc Cert.UpdateDownIdeal.main_v0_1)) (v2 : (c : Dev Cert.UpdateDownIdeal.nD) → Buf (Elt Ideal) ((c.tc : Thread Cert.UpdateDownIdeal.nD Cert.UpdateDownIdeal.τ).loc Cert.UpdateDownIdeal.main_v0_2)),
      θ_run (Cert.UpdateDownIdeal.defs (F := Ideal)) (onTc (τ := Cert.UpdateDownIdeal.τ) (Cert.UpdateDownIdeal.main (F := Ideal))) ⟨m, fun _ => 0, g⟩ (fun r => ∀ c : Dev Cert.UpdateDownIdeal.nD,
          r.2.mem ((c.tc : Thread Cert.UpdateDownIdeal.nD Cert.UpdateDownIdeal.τ).loc Cert.UpdateDownIdeal.main_v0_0) = v0 c
          ∧ r.2.mem ((c.tc : Thread Cert.UpdateDownIdeal.nD Cert.UpdateDownIdeal.τ).loc Cert.UpdateDownIdeal.main_v0_1) = v1 c
          ∧ r.2.mem ((c.tc : Thread Cert.UpdateDownIdeal.nD Cert.UpdateDownIdeal.τ).loc Cert.UpdateDownIdeal.main_v0_2) = v2 c
          ∧ r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
          ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
          ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
          ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3))
      ∧ θ_run (Cert.UpdateDownRefIdeal.defs (F := Ideal)) (onTc (τ := Cert.UpdateDownRefIdeal.τ) (Cert.UpdateDownRefIdeal.main (F := Ideal))) ⟨m', fun _ => 0, g'⟩ (fun r => ∀ c : Dev Cert.UpdateDownRefIdeal.nD,
          r.2.mem ((c.tc : Thread Cert.UpdateDownRefIdeal.nD Cert.UpdateDownRefIdeal.τ).loc Cert.UpdateDownRefIdeal.main_v23) = v0 c
          ∧ r.2.mem ((c.tc : Thread Cert.UpdateDownRefIdeal.nD Cert.UpdateDownRefIdeal.τ).loc Cert.UpdateDownRefIdeal.main_v4) = v1 c
          ∧ r.2.mem ((c.tc : Thread Cert.UpdateDownRefIdeal.nD Cert.UpdateDownRefIdeal.τ).loc Cert.UpdateDownRefIdeal.main_v10) = v2 c
          ∧ r.2.mem ((c.tc : Thread Cert.UpdateDownRefIdeal.nD Cert.UpdateDownRefIdeal.τ).loc Cert.UpdateDownRefIdeal.main_arg0) = m' ((c.tc : Thread Cert.UpdateDownRefIdeal.nD Cert.UpdateDownRefIdeal.τ).loc Cert.UpdateDownRefIdeal.main_arg0)
          ∧ r.2.mem ((c.tc : Thread Cert.UpdateDownRefIdeal.nD Cert.UpdateDownRefIdeal.τ).loc Cert.UpdateDownRefIdeal.main_arg1) = m' ((c.tc : Thread Cert.UpdateDownRefIdeal.nD Cert.UpdateDownRefIdeal.τ).loc Cert.UpdateDownRefIdeal.main_arg1)
          ∧ r.2.mem ((c.tc : Thread Cert.UpdateDownRefIdeal.nD Cert.UpdateDownRefIdeal.τ).loc Cert.UpdateDownRefIdeal.main_arg2) = m' ((c.tc : Thread Cert.UpdateDownRefIdeal.nD Cert.UpdateDownRefIdeal.τ).loc Cert.UpdateDownRefIdeal.main_arg2)
          ∧ r.2.mem ((c.tc : Thread Cert.UpdateDownRefIdeal.nD Cert.UpdateDownRefIdeal.τ).loc Cert.UpdateDownRefIdeal.main_arg3) = m' ((c.tc : Thread Cert.UpdateDownRefIdeal.nD Cert.UpdateDownRefIdeal.τ).loc Cert.UpdateDownRefIdeal.main_arg3))

def preserves_UpdateNorm_UpdateNormIdeal : Prop :=
  True

def algebraic_UpdateNormIdeal_UpdateNormRefIdeal [hUpdateNormIdeal : Cert.UpdateNormIdeal.Facts] [hUpdateNormRefIdeal : Cert.UpdateNormRefIdeal.Facts] : Prop :=
  ∀ (m : (ℓ : Loc Cert.UpdateNormIdeal.nD Cert.UpdateNormIdeal.τ Cert.UpdateNormIdeal.sig) → Buf (Elt Ideal) ℓ) (g : Dev Cert.UpdateNormIdeal.nD → PrngReg)
    (m' : (ℓ : Loc Cert.UpdateNormRefIdeal.nD Cert.UpdateNormRefIdeal.τ Cert.UpdateNormRefIdeal.sig) → Buf (Elt Ideal) ℓ) (g' : Dev Cert.UpdateNormRefIdeal.nD → PrngReg), Pre_UpdateNormIdeal m →
    (∀ c : Dev Cert.UpdateNormIdeal.nD,
      m' ((c.tc : Thread Cert.UpdateNormRefIdeal.nD Cert.UpdateNormRefIdeal.τ).loc Cert.UpdateNormRefIdeal.main_arg0) = m ((c.tc : Thread Cert.UpdateNormIdeal.nD Cert.UpdateNormIdeal.τ).loc Cert.UpdateNormIdeal.main_arg0)
      ∧ m' ((c.tc : Thread Cert.UpdateNormRefIdeal.nD Cert.UpdateNormRefIdeal.τ).loc Cert.UpdateNormRefIdeal.main_arg1) = m ((c.tc : Thread Cert.UpdateNormIdeal.nD Cert.UpdateNormIdeal.τ).loc Cert.UpdateNormIdeal.main_arg1)
      ∧ m' ((c.tc : Thread Cert.UpdateNormRefIdeal.nD Cert.UpdateNormRefIdeal.τ).loc Cert.UpdateNormRefIdeal.main_arg2) = m ((c.tc : Thread Cert.UpdateNormIdeal.nD Cert.UpdateNormIdeal.τ).loc Cert.UpdateNormIdeal.main_arg2)
      ∧ m' ((c.tc : Thread Cert.UpdateNormRefIdeal.nD Cert.UpdateNormRefIdeal.τ).loc Cert.UpdateNormRefIdeal.main_arg3) = m ((c.tc : Thread Cert.UpdateNormIdeal.nD Cert.UpdateNormIdeal.τ).loc Cert.UpdateNormIdeal.main_arg3)) →
    ∃ (v0 : (c : Dev Cert.UpdateNormIdeal.nD) → Buf (Elt Ideal) ((c.tc : Thread Cert.UpdateNormIdeal.nD Cert.UpdateNormIdeal.τ).loc Cert.UpdateNormIdeal.main_v0_0)) (v1 : (c : Dev Cert.UpdateNormIdeal.nD) → Buf (Elt Ideal) ((c.tc : Thread Cert.UpdateNormIdeal.nD Cert.UpdateNormIdeal.τ).loc Cert.UpdateNormIdeal.main_v0_1)) (v2 : (c : Dev Cert.UpdateNormIdeal.nD) → Buf (Elt Ideal) ((c.tc : Thread Cert.UpdateNormIdeal.nD Cert.UpdateNormIdeal.τ).loc Cert.UpdateNormIdeal.main_v0_2)),
      θ_run (Cert.UpdateNormIdeal.defs (F := Ideal)) (onTc (τ := Cert.UpdateNormIdeal.τ) (Cert.UpdateNormIdeal.main (F := Ideal))) ⟨m, fun _ => 0, g⟩ (fun r => ∀ c : Dev Cert.UpdateNormIdeal.nD,
          r.2.mem ((c.tc : Thread Cert.UpdateNormIdeal.nD Cert.UpdateNormIdeal.τ).loc Cert.UpdateNormIdeal.main_v0_0) = v0 c
          ∧ r.2.mem ((c.tc : Thread Cert.UpdateNormIdeal.nD Cert.UpdateNormIdeal.τ).loc Cert.UpdateNormIdeal.main_v0_1) = v1 c
          ∧ r.2.mem ((c.tc : Thread Cert.UpdateNormIdeal.nD Cert.UpdateNormIdeal.τ).loc Cert.UpdateNormIdeal.main_v0_2) = v2 c
          ∧ r.2.mem ((c.tc : Thread Cert.UpdateNormIdeal.nD Cert.UpdateNormIdeal.τ).loc Cert.UpdateNormIdeal.main_arg0) = m ((c.tc : Thread Cert.UpdateNormIdeal.nD Cert.UpdateNormIdeal.τ).loc Cert.UpdateNormIdeal.main_arg0)
          ∧ r.2.mem ((c.tc : Thread Cert.UpdateNormIdeal.nD Cert.UpdateNormIdeal.τ).loc Cert.UpdateNormIdeal.main_arg1) = m ((c.tc : Thread Cert.UpdateNormIdeal.nD Cert.UpdateNormIdeal.τ).loc Cert.UpdateNormIdeal.main_arg1)
          ∧ r.2.mem ((c.tc : Thread Cert.UpdateNormIdeal.nD Cert.UpdateNormIdeal.τ).loc Cert.UpdateNormIdeal.main_arg2) = m ((c.tc : Thread Cert.UpdateNormIdeal.nD Cert.UpdateNormIdeal.τ).loc Cert.UpdateNormIdeal.main_arg2)
          ∧ r.2.mem ((c.tc : Thread Cert.UpdateNormIdeal.nD Cert.UpdateNormIdeal.τ).loc Cert.UpdateNormIdeal.main_arg3) = m ((c.tc : Thread Cert.UpdateNormIdeal.nD Cert.UpdateNormIdeal.τ).loc Cert.UpdateNormIdeal.main_arg3))
      ∧ θ_run (Cert.UpdateNormRefIdeal.defs (F := Ideal)) (onTc (τ := Cert.UpdateNormRefIdeal.τ) (Cert.UpdateNormRefIdeal.main (F := Ideal))) ⟨m', fun _ => 0, g'⟩ (fun r => ∀ c : Dev Cert.UpdateNormRefIdeal.nD,
          r.2.mem ((c.tc : Thread Cert.UpdateNormRefIdeal.nD Cert.UpdateNormRefIdeal.τ).loc Cert.UpdateNormRefIdeal.main_v23) = v0 c
          ∧ r.2.mem ((c.tc : Thread Cert.UpdateNormRefIdeal.nD Cert.UpdateNormRefIdeal.τ).loc Cert.UpdateNormRefIdeal.main_v4) = v1 c
          ∧ r.2.mem ((c.tc : Thread Cert.UpdateNormRefIdeal.nD Cert.UpdateNormRefIdeal.τ).loc Cert.UpdateNormRefIdeal.main_v10) = v2 c
          ∧ r.2.mem ((c.tc : Thread Cert.UpdateNormRefIdeal.nD Cert.UpdateNormRefIdeal.τ).loc Cert.UpdateNormRefIdeal.main_arg0) = m' ((c.tc : Thread Cert.UpdateNormRefIdeal.nD Cert.UpdateNormRefIdeal.τ).loc Cert.UpdateNormRefIdeal.main_arg0)
          ∧ r.2.mem ((c.tc : Thread Cert.UpdateNormRefIdeal.nD Cert.UpdateNormRefIdeal.τ).loc Cert.UpdateNormRefIdeal.main_arg1) = m' ((c.tc : Thread Cert.UpdateNormRefIdeal.nD Cert.UpdateNormRefIdeal.τ).loc Cert.UpdateNormRefIdeal.main_arg1)
          ∧ r.2.mem ((c.tc : Thread Cert.UpdateNormRefIdeal.nD Cert.UpdateNormRefIdeal.τ).loc Cert.UpdateNormRefIdeal.main_arg2) = m' ((c.tc : Thread Cert.UpdateNormRefIdeal.nD Cert.UpdateNormRefIdeal.τ).loc Cert.UpdateNormRefIdeal.main_arg2)
          ∧ r.2.mem ((c.tc : Thread Cert.UpdateNormRefIdeal.nD Cert.UpdateNormRefIdeal.τ).loc Cert.UpdateNormRefIdeal.main_arg3) = m' ((c.tc : Thread Cert.UpdateNormRefIdeal.nD Cert.UpdateNormRefIdeal.τ).loc Cert.UpdateNormRefIdeal.main_arg3))

def preserves_UpdateConv_UpdateConvIdeal : Prop :=
  True

def algebraic_UpdateConvIdeal_UpdateConvRefIdeal [hUpdateConvIdeal : Cert.UpdateConvIdeal.Facts] [hUpdateConvRefIdeal : Cert.UpdateConvRefIdeal.Facts] : Prop :=
  ∀ (m : (ℓ : Loc Cert.UpdateConvIdeal.nD Cert.UpdateConvIdeal.τ Cert.UpdateConvIdeal.sig) → Buf (Elt Ideal) ℓ) (g : Dev Cert.UpdateConvIdeal.nD → PrngReg)
    (m' : (ℓ : Loc Cert.UpdateConvRefIdeal.nD Cert.UpdateConvRefIdeal.τ Cert.UpdateConvRefIdeal.sig) → Buf (Elt Ideal) ℓ) (g' : Dev Cert.UpdateConvRefIdeal.nD → PrngReg), Pre_UpdateConvIdeal m →
    (∀ c : Dev Cert.UpdateConvIdeal.nD,
      m' ((c.tc : Thread Cert.UpdateConvRefIdeal.nD Cert.UpdateConvRefIdeal.τ).loc Cert.UpdateConvRefIdeal.main_arg0) = m ((c.tc : Thread Cert.UpdateConvIdeal.nD Cert.UpdateConvIdeal.τ).loc Cert.UpdateConvIdeal.main_arg0)
      ∧ m' ((c.tc : Thread Cert.UpdateConvRefIdeal.nD Cert.UpdateConvRefIdeal.τ).loc Cert.UpdateConvRefIdeal.main_arg1) = m ((c.tc : Thread Cert.UpdateConvIdeal.nD Cert.UpdateConvIdeal.τ).loc Cert.UpdateConvIdeal.main_arg1)
      ∧ m' ((c.tc : Thread Cert.UpdateConvRefIdeal.nD Cert.UpdateConvRefIdeal.τ).loc Cert.UpdateConvRefIdeal.main_arg2) = m ((c.tc : Thread Cert.UpdateConvIdeal.nD Cert.UpdateConvIdeal.τ).loc Cert.UpdateConvIdeal.main_arg2)
      ∧ m' ((c.tc : Thread Cert.UpdateConvRefIdeal.nD Cert.UpdateConvRefIdeal.τ).loc Cert.UpdateConvRefIdeal.main_arg3) = m ((c.tc : Thread Cert.UpdateConvIdeal.nD Cert.UpdateConvIdeal.τ).loc Cert.UpdateConvIdeal.main_arg3)) →
    ∃ (v0 : (c : Dev Cert.UpdateConvIdeal.nD) → Buf (Elt Ideal) ((c.tc : Thread Cert.UpdateConvIdeal.nD Cert.UpdateConvIdeal.τ).loc Cert.UpdateConvIdeal.main_v0_0)) (v1 : (c : Dev Cert.UpdateConvIdeal.nD) → Buf (Elt Ideal) ((c.tc : Thread Cert.UpdateConvIdeal.nD Cert.UpdateConvIdeal.τ).loc Cert.UpdateConvIdeal.main_v0_1)) (v2 : (c : Dev Cert.UpdateConvIdeal.nD) → Buf (Elt Ideal) ((c.tc : Thread Cert.UpdateConvIdeal.nD Cert.UpdateConvIdeal.τ).loc Cert.UpdateConvIdeal.main_v0_2)),
      θ_run (Cert.UpdateConvIdeal.defs (F := Ideal)) (onTc (τ := Cert.UpdateConvIdeal.τ) (Cert.UpdateConvIdeal.main (F := Ideal))) ⟨m, fun _ => 0, g⟩ (fun r => ∀ c : Dev Cert.UpdateConvIdeal.nD,
          r.2.mem ((c.tc : Thread Cert.UpdateConvIdeal.nD Cert.UpdateConvIdeal.τ).loc Cert.UpdateConvIdeal.main_v0_0) = v0 c
          ∧ r.2.mem ((c.tc : Thread Cert.UpdateConvIdeal.nD Cert.UpdateConvIdeal.τ).loc Cert.UpdateConvIdeal.main_v0_1) = v1 c
          ∧ r.2.mem ((c.tc : Thread Cert.UpdateConvIdeal.nD Cert.UpdateConvIdeal.τ).loc Cert.UpdateConvIdeal.main_v0_2) = v2 c
          ∧ r.2.mem ((c.tc : Thread Cert.UpdateConvIdeal.nD Cert.UpdateConvIdeal.τ).loc Cert.UpdateConvIdeal.main_arg0) = m ((c.tc : Thread Cert.UpdateConvIdeal.nD Cert.UpdateConvIdeal.τ).loc Cert.UpdateConvIdeal.main_arg0)
          ∧ r.2.mem ((c.tc : Thread Cert.UpdateConvIdeal.nD Cert.UpdateConvIdeal.τ).loc Cert.UpdateConvIdeal.main_arg1) = m ((c.tc : Thread Cert.UpdateConvIdeal.nD Cert.UpdateConvIdeal.τ).loc Cert.UpdateConvIdeal.main_arg1)
          ∧ r.2.mem ((c.tc : Thread Cert.UpdateConvIdeal.nD Cert.UpdateConvIdeal.τ).loc Cert.UpdateConvIdeal.main_arg2) = m ((c.tc : Thread Cert.UpdateConvIdeal.nD Cert.UpdateConvIdeal.τ).loc Cert.UpdateConvIdeal.main_arg2)
          ∧ r.2.mem ((c.tc : Thread Cert.UpdateConvIdeal.nD Cert.UpdateConvIdeal.τ).loc Cert.UpdateConvIdeal.main_arg3) = m ((c.tc : Thread Cert.UpdateConvIdeal.nD Cert.UpdateConvIdeal.τ).loc Cert.UpdateConvIdeal.main_arg3))
      ∧ θ_run (Cert.UpdateConvRefIdeal.defs (F := Ideal)) (onTc (τ := Cert.UpdateConvRefIdeal.τ) (Cert.UpdateConvRefIdeal.main (F := Ideal))) ⟨m', fun _ => 0, g'⟩ (fun r => ∀ c : Dev Cert.UpdateConvRefIdeal.nD,
          r.2.mem ((c.tc : Thread Cert.UpdateConvRefIdeal.nD Cert.UpdateConvRefIdeal.τ).loc Cert.UpdateConvRefIdeal.main_v23) = v0 c
          ∧ r.2.mem ((c.tc : Thread Cert.UpdateConvRefIdeal.nD Cert.UpdateConvRefIdeal.τ).loc Cert.UpdateConvRefIdeal.main_v4) = v1 c
          ∧ r.2.mem ((c.tc : Thread Cert.UpdateConvRefIdeal.nD Cert.UpdateConvRefIdeal.τ).loc Cert.UpdateConvRefIdeal.main_v10) = v2 c
          ∧ r.2.mem ((c.tc : Thread Cert.UpdateConvRefIdeal.nD Cert.UpdateConvRefIdeal.τ).loc Cert.UpdateConvRefIdeal.main_arg0) = m' ((c.tc : Thread Cert.UpdateConvRefIdeal.nD Cert.UpdateConvRefIdeal.τ).loc Cert.UpdateConvRefIdeal.main_arg0)
          ∧ r.2.mem ((c.tc : Thread Cert.UpdateConvRefIdeal.nD Cert.UpdateConvRefIdeal.τ).loc Cert.UpdateConvRefIdeal.main_arg1) = m' ((c.tc : Thread Cert.UpdateConvRefIdeal.nD Cert.UpdateConvRefIdeal.τ).loc Cert.UpdateConvRefIdeal.main_arg1)
          ∧ r.2.mem ((c.tc : Thread Cert.UpdateConvRefIdeal.nD Cert.UpdateConvRefIdeal.τ).loc Cert.UpdateConvRefIdeal.main_arg2) = m' ((c.tc : Thread Cert.UpdateConvRefIdeal.nD Cert.UpdateConvRefIdeal.τ).loc Cert.UpdateConvRefIdeal.main_arg2)
          ∧ r.2.mem ((c.tc : Thread Cert.UpdateConvRefIdeal.nD Cert.UpdateConvRefIdeal.τ).loc Cert.UpdateConvRefIdeal.main_arg3) = m' ((c.tc : Thread Cert.UpdateConvRefIdeal.nD Cert.UpdateConvRefIdeal.τ).loc Cert.UpdateConvRefIdeal.main_arg3))

def preserves_UpdateGdn_UpdateGdnIdeal : Prop :=
  True

def algebraic_UpdateGdnIdeal_UpdateGdnRefIdeal [hUpdateGdnIdeal : Cert.UpdateGdnIdeal.Facts] [hUpdateGdnRefIdeal : Cert.UpdateGdnRefIdeal.Facts] : Prop :=
  ∀ (m : (ℓ : Loc Cert.UpdateGdnIdeal.nD Cert.UpdateGdnIdeal.τ Cert.UpdateGdnIdeal.sig) → Buf (Elt Ideal) ℓ) (g : Dev Cert.UpdateGdnIdeal.nD → PrngReg)
    (m' : (ℓ : Loc Cert.UpdateGdnRefIdeal.nD Cert.UpdateGdnRefIdeal.τ Cert.UpdateGdnRefIdeal.sig) → Buf (Elt Ideal) ℓ) (g' : Dev Cert.UpdateGdnRefIdeal.nD → PrngReg), Pre_UpdateGdnIdeal m →
    (∀ c : Dev Cert.UpdateGdnIdeal.nD,
      m' ((c.tc : Thread Cert.UpdateGdnRefIdeal.nD Cert.UpdateGdnRefIdeal.τ).loc Cert.UpdateGdnRefIdeal.main_arg0) = m ((c.tc : Thread Cert.UpdateGdnIdeal.nD Cert.UpdateGdnIdeal.τ).loc Cert.UpdateGdnIdeal.main_arg0)
      ∧ m' ((c.tc : Thread Cert.UpdateGdnRefIdeal.nD Cert.UpdateGdnRefIdeal.τ).loc Cert.UpdateGdnRefIdeal.main_arg1) = m ((c.tc : Thread Cert.UpdateGdnIdeal.nD Cert.UpdateGdnIdeal.τ).loc Cert.UpdateGdnIdeal.main_arg1)
      ∧ m' ((c.tc : Thread Cert.UpdateGdnRefIdeal.nD Cert.UpdateGdnRefIdeal.τ).loc Cert.UpdateGdnRefIdeal.main_arg2) = m ((c.tc : Thread Cert.UpdateGdnIdeal.nD Cert.UpdateGdnIdeal.τ).loc Cert.UpdateGdnIdeal.main_arg2)
      ∧ m' ((c.tc : Thread Cert.UpdateGdnRefIdeal.nD Cert.UpdateGdnRefIdeal.τ).loc Cert.UpdateGdnRefIdeal.main_arg3) = m ((c.tc : Thread Cert.UpdateGdnIdeal.nD Cert.UpdateGdnIdeal.τ).loc Cert.UpdateGdnIdeal.main_arg3)) →
    ∃ (v0 : (c : Dev Cert.UpdateGdnIdeal.nD) → Buf (Elt Ideal) ((c.tc : Thread Cert.UpdateGdnIdeal.nD Cert.UpdateGdnIdeal.τ).loc Cert.UpdateGdnIdeal.main_v0_0)) (v1 : (c : Dev Cert.UpdateGdnIdeal.nD) → Buf (Elt Ideal) ((c.tc : Thread Cert.UpdateGdnIdeal.nD Cert.UpdateGdnIdeal.τ).loc Cert.UpdateGdnIdeal.main_v0_1)) (v2 : (c : Dev Cert.UpdateGdnIdeal.nD) → Buf (Elt Ideal) ((c.tc : Thread Cert.UpdateGdnIdeal.nD Cert.UpdateGdnIdeal.τ).loc Cert.UpdateGdnIdeal.main_v0_2)),
      θ_run (Cert.UpdateGdnIdeal.defs (F := Ideal)) (onTc (τ := Cert.UpdateGdnIdeal.τ) (Cert.UpdateGdnIdeal.main (F := Ideal))) ⟨m, fun _ => 0, g⟩ (fun r => ∀ c : Dev Cert.UpdateGdnIdeal.nD,
          r.2.mem ((c.tc : Thread Cert.UpdateGdnIdeal.nD Cert.UpdateGdnIdeal.τ).loc Cert.UpdateGdnIdeal.main_v0_0) = v0 c
          ∧ r.2.mem ((c.tc : Thread Cert.UpdateGdnIdeal.nD Cert.UpdateGdnIdeal.τ).loc Cert.UpdateGdnIdeal.main_v0_1) = v1 c
          ∧ r.2.mem ((c.tc : Thread Cert.UpdateGdnIdeal.nD Cert.UpdateGdnIdeal.τ).loc Cert.UpdateGdnIdeal.main_v0_2) = v2 c
          ∧ r.2.mem ((c.tc : Thread Cert.UpdateGdnIdeal.nD Cert.UpdateGdnIdeal.τ).loc Cert.UpdateGdnIdeal.main_arg0) = m ((c.tc : Thread Cert.UpdateGdnIdeal.nD Cert.UpdateGdnIdeal.τ).loc Cert.UpdateGdnIdeal.main_arg0)
          ∧ r.2.mem ((c.tc : Thread Cert.UpdateGdnIdeal.nD Cert.UpdateGdnIdeal.τ).loc Cert.UpdateGdnIdeal.main_arg1) = m ((c.tc : Thread Cert.UpdateGdnIdeal.nD Cert.UpdateGdnIdeal.τ).loc Cert.UpdateGdnIdeal.main_arg1)
          ∧ r.2.mem ((c.tc : Thread Cert.UpdateGdnIdeal.nD Cert.UpdateGdnIdeal.τ).loc Cert.UpdateGdnIdeal.main_arg2) = m ((c.tc : Thread Cert.UpdateGdnIdeal.nD Cert.UpdateGdnIdeal.τ).loc Cert.UpdateGdnIdeal.main_arg2)
          ∧ r.2.mem ((c.tc : Thread Cert.UpdateGdnIdeal.nD Cert.UpdateGdnIdeal.τ).loc Cert.UpdateGdnIdeal.main_arg3) = m ((c.tc : Thread Cert.UpdateGdnIdeal.nD Cert.UpdateGdnIdeal.τ).loc Cert.UpdateGdnIdeal.main_arg3))
      ∧ θ_run (Cert.UpdateGdnRefIdeal.defs (F := Ideal)) (onTc (τ := Cert.UpdateGdnRefIdeal.τ) (Cert.UpdateGdnRefIdeal.main (F := Ideal))) ⟨m', fun _ => 0, g'⟩ (fun r => ∀ c : Dev Cert.UpdateGdnRefIdeal.nD,
          r.2.mem ((c.tc : Thread Cert.UpdateGdnRefIdeal.nD Cert.UpdateGdnRefIdeal.τ).loc Cert.UpdateGdnRefIdeal.main_v23) = v0 c
          ∧ r.2.mem ((c.tc : Thread Cert.UpdateGdnRefIdeal.nD Cert.UpdateGdnRefIdeal.τ).loc Cert.UpdateGdnRefIdeal.main_v4) = v1 c
          ∧ r.2.mem ((c.tc : Thread Cert.UpdateGdnRefIdeal.nD Cert.UpdateGdnRefIdeal.τ).loc Cert.UpdateGdnRefIdeal.main_v10) = v2 c
          ∧ r.2.mem ((c.tc : Thread Cert.UpdateGdnRefIdeal.nD Cert.UpdateGdnRefIdeal.τ).loc Cert.UpdateGdnRefIdeal.main_arg0) = m' ((c.tc : Thread Cert.UpdateGdnRefIdeal.nD Cert.UpdateGdnRefIdeal.τ).loc Cert.UpdateGdnRefIdeal.main_arg0)
          ∧ r.2.mem ((c.tc : Thread Cert.UpdateGdnRefIdeal.nD Cert.UpdateGdnRefIdeal.τ).loc Cert.UpdateGdnRefIdeal.main_arg1) = m' ((c.tc : Thread Cert.UpdateGdnRefIdeal.nD Cert.UpdateGdnRefIdeal.τ).loc Cert.UpdateGdnRefIdeal.main_arg1)
          ∧ r.2.mem ((c.tc : Thread Cert.UpdateGdnRefIdeal.nD Cert.UpdateGdnRefIdeal.τ).loc Cert.UpdateGdnRefIdeal.main_arg2) = m' ((c.tc : Thread Cert.UpdateGdnRefIdeal.nD Cert.UpdateGdnRefIdeal.τ).loc Cert.UpdateGdnRefIdeal.main_arg2)
          ∧ r.2.mem ((c.tc : Thread Cert.UpdateGdnRefIdeal.nD Cert.UpdateGdnRefIdeal.τ).loc Cert.UpdateGdnRefIdeal.main_arg3) = m' ((c.tc : Thread Cert.UpdateGdnRefIdeal.nD Cert.UpdateGdnRefIdeal.τ).loc Cert.UpdateGdnRefIdeal.main_arg3))

def preserves_UpdateHeads_UpdateHeadsIdeal : Prop :=
  True

def algebraic_UpdateHeadsIdeal_UpdateHeadsRefIdeal [hUpdateHeadsIdeal : Cert.UpdateHeadsIdeal.Facts] [hUpdateHeadsRefIdeal : Cert.UpdateHeadsRefIdeal.Facts] : Prop :=
  ∀ (m : (ℓ : Loc Cert.UpdateHeadsIdeal.nD Cert.UpdateHeadsIdeal.τ Cert.UpdateHeadsIdeal.sig) → Buf (Elt Ideal) ℓ) (g : Dev Cert.UpdateHeadsIdeal.nD → PrngReg)
    (m' : (ℓ : Loc Cert.UpdateHeadsRefIdeal.nD Cert.UpdateHeadsRefIdeal.τ Cert.UpdateHeadsRefIdeal.sig) → Buf (Elt Ideal) ℓ) (g' : Dev Cert.UpdateHeadsRefIdeal.nD → PrngReg), Pre_UpdateHeadsIdeal m →
    (∀ c : Dev Cert.UpdateHeadsIdeal.nD,
      m' ((c.tc : Thread Cert.UpdateHeadsRefIdeal.nD Cert.UpdateHeadsRefIdeal.τ).loc Cert.UpdateHeadsRefIdeal.main_arg0) = m ((c.tc : Thread Cert.UpdateHeadsIdeal.nD Cert.UpdateHeadsIdeal.τ).loc Cert.UpdateHeadsIdeal.main_arg0)
      ∧ m' ((c.tc : Thread Cert.UpdateHeadsRefIdeal.nD Cert.UpdateHeadsRefIdeal.τ).loc Cert.UpdateHeadsRefIdeal.main_arg1) = m ((c.tc : Thread Cert.UpdateHeadsIdeal.nD Cert.UpdateHeadsIdeal.τ).loc Cert.UpdateHeadsIdeal.main_arg1)
      ∧ m' ((c.tc : Thread Cert.UpdateHeadsRefIdeal.nD Cert.UpdateHeadsRefIdeal.τ).loc Cert.UpdateHeadsRefIdeal.main_arg2) = m ((c.tc : Thread Cert.UpdateHeadsIdeal.nD Cert.UpdateHeadsIdeal.τ).loc Cert.UpdateHeadsIdeal.main_arg2)
      ∧ m' ((c.tc : Thread Cert.UpdateHeadsRefIdeal.nD Cert.UpdateHeadsRefIdeal.τ).loc Cert.UpdateHeadsRefIdeal.main_arg3) = m ((c.tc : Thread Cert.UpdateHeadsIdeal.nD Cert.UpdateHeadsIdeal.τ).loc Cert.UpdateHeadsIdeal.main_arg3)) →
    ∃ (v0 : (c : Dev Cert.UpdateHeadsIdeal.nD) → Buf (Elt Ideal) ((c.tc : Thread Cert.UpdateHeadsIdeal.nD Cert.UpdateHeadsIdeal.τ).loc Cert.UpdateHeadsIdeal.main_v0_0)) (v1 : (c : Dev Cert.UpdateHeadsIdeal.nD) → Buf (Elt Ideal) ((c.tc : Thread Cert.UpdateHeadsIdeal.nD Cert.UpdateHeadsIdeal.τ).loc Cert.UpdateHeadsIdeal.main_v0_1)) (v2 : (c : Dev Cert.UpdateHeadsIdeal.nD) → Buf (Elt Ideal) ((c.tc : Thread Cert.UpdateHeadsIdeal.nD Cert.UpdateHeadsIdeal.τ).loc Cert.UpdateHeadsIdeal.main_v0_2)),
      θ_run (Cert.UpdateHeadsIdeal.defs (F := Ideal)) (onTc (τ := Cert.UpdateHeadsIdeal.τ) (Cert.UpdateHeadsIdeal.main (F := Ideal))) ⟨m, fun _ => 0, g⟩ (fun r => ∀ c : Dev Cert.UpdateHeadsIdeal.nD,
          r.2.mem ((c.tc : Thread Cert.UpdateHeadsIdeal.nD Cert.UpdateHeadsIdeal.τ).loc Cert.UpdateHeadsIdeal.main_v0_0) = v0 c
          ∧ r.2.mem ((c.tc : Thread Cert.UpdateHeadsIdeal.nD Cert.UpdateHeadsIdeal.τ).loc Cert.UpdateHeadsIdeal.main_v0_1) = v1 c
          ∧ r.2.mem ((c.tc : Thread Cert.UpdateHeadsIdeal.nD Cert.UpdateHeadsIdeal.τ).loc Cert.UpdateHeadsIdeal.main_v0_2) = v2 c
          ∧ r.2.mem ((c.tc : Thread Cert.UpdateHeadsIdeal.nD Cert.UpdateHeadsIdeal.τ).loc Cert.UpdateHeadsIdeal.main_arg0) = m ((c.tc : Thread Cert.UpdateHeadsIdeal.nD Cert.UpdateHeadsIdeal.τ).loc Cert.UpdateHeadsIdeal.main_arg0)
          ∧ r.2.mem ((c.tc : Thread Cert.UpdateHeadsIdeal.nD Cert.UpdateHeadsIdeal.τ).loc Cert.UpdateHeadsIdeal.main_arg1) = m ((c.tc : Thread Cert.UpdateHeadsIdeal.nD Cert.UpdateHeadsIdeal.τ).loc Cert.UpdateHeadsIdeal.main_arg1)
          ∧ r.2.mem ((c.tc : Thread Cert.UpdateHeadsIdeal.nD Cert.UpdateHeadsIdeal.τ).loc Cert.UpdateHeadsIdeal.main_arg2) = m ((c.tc : Thread Cert.UpdateHeadsIdeal.nD Cert.UpdateHeadsIdeal.τ).loc Cert.UpdateHeadsIdeal.main_arg2)
          ∧ r.2.mem ((c.tc : Thread Cert.UpdateHeadsIdeal.nD Cert.UpdateHeadsIdeal.τ).loc Cert.UpdateHeadsIdeal.main_arg3) = m ((c.tc : Thread Cert.UpdateHeadsIdeal.nD Cert.UpdateHeadsIdeal.τ).loc Cert.UpdateHeadsIdeal.main_arg3))
      ∧ θ_run (Cert.UpdateHeadsRefIdeal.defs (F := Ideal)) (onTc (τ := Cert.UpdateHeadsRefIdeal.τ) (Cert.UpdateHeadsRefIdeal.main (F := Ideal))) ⟨m', fun _ => 0, g'⟩ (fun r => ∀ c : Dev Cert.UpdateHeadsRefIdeal.nD,
          r.2.mem ((c.tc : Thread Cert.UpdateHeadsRefIdeal.nD Cert.UpdateHeadsRefIdeal.τ).loc Cert.UpdateHeadsRefIdeal.main_v23) = v0 c
          ∧ r.2.mem ((c.tc : Thread Cert.UpdateHeadsRefIdeal.nD Cert.UpdateHeadsRefIdeal.τ).loc Cert.UpdateHeadsRefIdeal.main_v4) = v1 c
          ∧ r.2.mem ((c.tc : Thread Cert.UpdateHeadsRefIdeal.nD Cert.UpdateHeadsRefIdeal.τ).loc Cert.UpdateHeadsRefIdeal.main_v10) = v2 c
          ∧ r.2.mem ((c.tc : Thread Cert.UpdateHeadsRefIdeal.nD Cert.UpdateHeadsRefIdeal.τ).loc Cert.UpdateHeadsRefIdeal.main_arg0) = m' ((c.tc : Thread Cert.UpdateHeadsRefIdeal.nD Cert.UpdateHeadsRefIdeal.τ).loc Cert.UpdateHeadsRefIdeal.main_arg0)
          ∧ r.2.mem ((c.tc : Thread Cert.UpdateHeadsRefIdeal.nD Cert.UpdateHeadsRefIdeal.τ).loc Cert.UpdateHeadsRefIdeal.main_arg1) = m' ((c.tc : Thread Cert.UpdateHeadsRefIdeal.nD Cert.UpdateHeadsRefIdeal.τ).loc Cert.UpdateHeadsRefIdeal.main_arg1)
          ∧ r.2.mem ((c.tc : Thread Cert.UpdateHeadsRefIdeal.nD Cert.UpdateHeadsRefIdeal.τ).loc Cert.UpdateHeadsRefIdeal.main_arg2) = m' ((c.tc : Thread Cert.UpdateHeadsRefIdeal.nD Cert.UpdateHeadsRefIdeal.τ).loc Cert.UpdateHeadsRefIdeal.main_arg2)
          ∧ r.2.mem ((c.tc : Thread Cert.UpdateHeadsRefIdeal.nD Cert.UpdateHeadsRefIdeal.τ).loc Cert.UpdateHeadsRefIdeal.main_arg3) = m' ((c.tc : Thread Cert.UpdateHeadsRefIdeal.nD Cert.UpdateHeadsRefIdeal.τ).loc Cert.UpdateHeadsRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumGate_SumGateIdeal : Prop :=
  True

def algebraic_SumGateIdeal_SumGateRefIdeal [hSumGateIdeal : Cert.SumGateIdeal.Facts] [hSumGateRefIdeal : Cert.SumGateRefIdeal.Facts] : Prop :=
  ∀ (m : (ℓ : Loc Cert.SumGateIdeal.nD Cert.SumGateIdeal.τ Cert.SumGateIdeal.sig) → Buf (Elt Ideal) ℓ) (g : Dev Cert.SumGateIdeal.nD → PrngReg)
    (m' : (ℓ : Loc Cert.SumGateRefIdeal.nD Cert.SumGateRefIdeal.τ Cert.SumGateRefIdeal.sig) → Buf (Elt Ideal) ℓ) (g' : Dev Cert.SumGateRefIdeal.nD → PrngReg), Pre_SumGateIdeal m →
    (∀ c : Dev Cert.SumGateIdeal.nD,
      m' ((c.tc : Thread Cert.SumGateRefIdeal.nD Cert.SumGateRefIdeal.τ).loc Cert.SumGateRefIdeal.main_arg0) = m ((c.tc : Thread Cert.SumGateIdeal.nD Cert.SumGateIdeal.τ).loc Cert.SumGateIdeal.main_arg0)) →
    ∃ (v0 : (c : Dev Cert.SumGateIdeal.nD) → Buf (Elt Ideal) ((c.tc : Thread Cert.SumGateIdeal.nD Cert.SumGateIdeal.τ).loc Cert.SumGateIdeal.main_v0)),
      θ_run (Cert.SumGateIdeal.defs (F := Ideal)) (onTc (τ := Cert.SumGateIdeal.τ) (Cert.SumGateIdeal.main (F := Ideal))) ⟨m, fun _ => 0, g⟩ (fun r => ∀ c : Dev Cert.SumGateIdeal.nD,
          r.2.mem ((c.tc : Thread Cert.SumGateIdeal.nD Cert.SumGateIdeal.τ).loc Cert.SumGateIdeal.main_v0) = v0 c
          ∧ r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0))
      ∧ θ_run (Cert.SumGateRefIdeal.defs (F := Ideal)) (onTc (τ := Cert.SumGateRefIdeal.τ) (Cert.SumGateRefIdeal.main (F := Ideal))) ⟨m', fun _ => 0, g'⟩ (fun r => ∀ c : Dev Cert.SumGateRefIdeal.nD,
          r.2.mem ((c.tc : Thread Cert.SumGateRefIdeal.nD Cert.SumGateRefIdeal.τ).loc Cert.SumGateRefIdeal.main_v1) = v0 c
          ∧ r.2.mem ((c.tc : Thread Cert.SumGateRefIdeal.nD Cert.SumGateRefIdeal.τ).loc Cert.SumGateRefIdeal.main_arg0) = m' ((c.tc : Thread Cert.SumGateRefIdeal.nD Cert.SumGateRefIdeal.τ).loc Cert.SumGateRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v1) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v8) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_SwigluBack_SwigluBackIdeal : Prop :=
  True

def algebraic_SwigluBackIdeal_SwigluBackRefIdeal [hSwigluBackIdeal : Cert.SwigluBackIdeal.Facts] [hSwigluBackRefIdeal : Cert.SwigluBackRefIdeal.Facts] : Prop :=
  ∀ (m : (ℓ : Loc Cert.SwigluBackIdeal.nD Cert.SwigluBackIdeal.τ Cert.SwigluBackIdeal.sig) → Buf (Elt Ideal) ℓ) (g : Dev Cert.SwigluBackIdeal.nD → PrngReg)
    (m' : (ℓ : Loc Cert.SwigluBackRefIdeal.nD Cert.SwigluBackRefIdeal.τ Cert.SwigluBackRefIdeal.sig) → Buf (Elt Ideal) ℓ) (g' : Dev Cert.SwigluBackRefIdeal.nD → PrngReg), Pre_SwigluBackIdeal m →
    (∀ c : Dev Cert.SwigluBackIdeal.nD,
      m' ((c.tc : Thread Cert.SwigluBackRefIdeal.nD Cert.SwigluBackRefIdeal.τ).loc Cert.SwigluBackRefIdeal.main_arg0) = m ((c.tc : Thread Cert.SwigluBackIdeal.nD Cert.SwigluBackIdeal.τ).loc Cert.SwigluBackIdeal.main_arg0)
      ∧ m' ((c.tc : Thread Cert.SwigluBackRefIdeal.nD Cert.SwigluBackRefIdeal.τ).loc Cert.SwigluBackRefIdeal.main_arg1) = m ((c.tc : Thread Cert.SwigluBackIdeal.nD Cert.SwigluBackIdeal.τ).loc Cert.SwigluBackIdeal.main_arg1)
      ∧ m' ((c.tc : Thread Cert.SwigluBackRefIdeal.nD Cert.SwigluBackRefIdeal.τ).loc Cert.SwigluBackRefIdeal.main_arg2) = m ((c.tc : Thread Cert.SwigluBackIdeal.nD Cert.SwigluBackIdeal.τ).loc Cert.SwigluBackIdeal.main_arg2)) →
    ∃ (v0 : (c : Dev Cert.SwigluBackIdeal.nD) → Buf (Elt Ideal) ((c.tc : Thread Cert.SwigluBackIdeal.nD Cert.SwigluBackIdeal.τ).loc Cert.SwigluBackIdeal.main_v0_0)) (v1 : (c : Dev Cert.SwigluBackIdeal.nD) → Buf (Elt Ideal) ((c.tc : Thread Cert.SwigluBackIdeal.nD Cert.SwigluBackIdeal.τ).loc Cert.SwigluBackIdeal.main_v0_1)),
      θ_run (Cert.SwigluBackIdeal.defs (F := Ideal)) (onTc (τ := Cert.SwigluBackIdeal.τ) (Cert.SwigluBackIdeal.main (F := Ideal))) ⟨m, fun _ => 0, g⟩ (fun r => ∀ c : Dev Cert.SwigluBackIdeal.nD,
          r.2.mem ((c.tc : Thread Cert.SwigluBackIdeal.nD Cert.SwigluBackIdeal.τ).loc Cert.SwigluBackIdeal.main_v0_0) = v0 c
          ∧ r.2.mem ((c.tc : Thread Cert.SwigluBackIdeal.nD Cert.SwigluBackIdeal.τ).loc Cert.SwigluBackIdeal.main_v0_1) = v1 c
          ∧ r.2.mem ((c.tc : Thread Cert.SwigluBackIdeal.nD Cert.SwigluBackIdeal.τ).loc Cert.SwigluBackIdeal.main_arg0) = m ((c.tc : Thread Cert.SwigluBackIdeal.nD Cert.SwigluBackIdeal.τ).loc Cert.SwigluBackIdeal.main_arg0)
          ∧ r.2.mem ((c.tc : Thread Cert.SwigluBackIdeal.nD Cert.SwigluBackIdeal.τ).loc Cert.SwigluBackIdeal.main_arg1) = m ((c.tc : Thread Cert.SwigluBackIdeal.nD Cert.SwigluBackIdeal.τ).loc Cert.SwigluBackIdeal.main_arg1)
          ∧ r.2.mem ((c.tc : Thread Cert.SwigluBackIdeal.nD Cert.SwigluBackIdeal.τ).loc Cert.SwigluBackIdeal.main_arg2) = m ((c.tc : Thread Cert.SwigluBackIdeal.nD Cert.SwigluBackIdeal.τ).loc Cert.SwigluBackIdeal.main_arg2))
      ∧ θ_run (Cert.SwigluBackRefIdeal.defs (F := Ideal)) (onTc (τ := Cert.SwigluBackRefIdeal.τ) (Cert.SwigluBackRefIdeal.main (F := Ideal))) ⟨m', fun _ => 0, g'⟩ (fun r => ∀ c : Dev Cert.SwigluBackRefIdeal.nD,
          r.2.mem ((c.tc : Thread Cert.SwigluBackRefIdeal.nD Cert.SwigluBackRefIdeal.τ).loc Cert.SwigluBackRefIdeal.main_v14) = v0 c
          ∧ r.2.mem ((c.tc : Thread Cert.SwigluBackRefIdeal.nD Cert.SwigluBackRefIdeal.τ).loc Cert.SwigluBackRefIdeal.main_v17) = v1 c
          ∧ r.2.mem ((c.tc : Thread Cert.SwigluBackRefIdeal.nD Cert.SwigluBackRefIdeal.τ).loc Cert.SwigluBackRefIdeal.main_arg0) = m' ((c.tc : Thread Cert.SwigluBackRefIdeal.nD Cert.SwigluBackRefIdeal.τ).loc Cert.SwigluBackRefIdeal.main_arg0)
          ∧ r.2.mem ((c.tc : Thread Cert.SwigluBackRefIdeal.nD Cert.SwigluBackRefIdeal.τ).loc Cert.SwigluBackRefIdeal.main_arg1) = m' ((c.tc : Thread Cert.SwigluBackRefIdeal.nD Cert.SwigluBackRefIdeal.τ).loc Cert.SwigluBackRefIdeal.main_arg1)
          ∧ r.2.mem ((c.tc : Thread Cert.SwigluBackRefIdeal.nD Cert.SwigluBackRefIdeal.τ).loc Cert.SwigluBackRefIdeal.main_arg2) = m' ((c.tc : Thread Cert.SwigluBackRefIdeal.nD Cert.SwigluBackRefIdeal.τ).loc Cert.SwigluBackRefIdeal.main_arg2))

def preserves_MmProj_MmProjIdeal : Prop :=
  True

def algebraic_MmProjIdeal_MmProjRefIdeal [hMmProjIdeal : Cert.MmProjIdeal.Facts] [hMmProjRefIdeal : Cert.MmProjRefIdeal.Facts] : Prop :=
  ∀ (m : (ℓ : Loc Cert.MmProjIdeal.nD Cert.MmProjIdeal.τ Cert.MmProjIdeal.sig) → Buf (Elt Ideal) ℓ) (g : Dev Cert.MmProjIdeal.nD → PrngReg)
    (m' : (ℓ : Loc Cert.MmProjRefIdeal.nD Cert.MmProjRefIdeal.τ Cert.MmProjRefIdeal.sig) → Buf (Elt Ideal) ℓ) (g' : Dev Cert.MmProjRefIdeal.nD → PrngReg), Pre_MmProjIdeal m →
    (∀ c : Dev Cert.MmProjIdeal.nD,
      m' ((c.tc : Thread Cert.MmProjRefIdeal.nD Cert.MmProjRefIdeal.τ).loc Cert.MmProjRefIdeal.main_arg0) = m ((c.tc : Thread Cert.MmProjIdeal.nD Cert.MmProjIdeal.τ).loc Cert.MmProjIdeal.main_arg0)
      ∧ m' ((c.tc : Thread Cert.MmProjRefIdeal.nD Cert.MmProjRefIdeal.τ).loc Cert.MmProjRefIdeal.main_arg1) = m ((c.tc : Thread Cert.MmProjIdeal.nD Cert.MmProjIdeal.τ).loc Cert.MmProjIdeal.main_arg1)) →
    ∃ (v0 : (c : Dev Cert.MmProjIdeal.nD) → Buf (Elt Ideal) ((c.tc : Thread Cert.MmProjIdeal.nD Cert.MmProjIdeal.τ).loc Cert.MmProjIdeal.main_v0)),
      θ_run (Cert.MmProjIdeal.defs (F := Ideal)) (onTc (τ := Cert.MmProjIdeal.τ) (Cert.MmProjIdeal.main (F := Ideal))) ⟨m, fun _ => 0, g⟩ (fun r => ∀ c : Dev Cert.MmProjIdeal.nD,
          r.2.mem ((c.tc : Thread Cert.MmProjIdeal.nD Cert.MmProjIdeal.τ).loc Cert.MmProjIdeal.main_v0) = v0 c
          ∧ r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
          ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ θ_run (Cert.MmProjRefIdeal.defs (F := Ideal)) (onTc (τ := Cert.MmProjRefIdeal.τ) (Cert.MmProjRefIdeal.main (F := Ideal))) ⟨m', fun _ => 0, g'⟩ (fun r => ∀ c : Dev Cert.MmProjRefIdeal.nD,
          r.2.mem ((c.tc : Thread Cert.MmProjRefIdeal.nD Cert.MmProjRefIdeal.τ).loc Cert.MmProjRefIdeal.main_v0) = v0 c
          ∧ r.2.mem ((c.tc : Thread Cert.MmProjRefIdeal.nD Cert.MmProjRefIdeal.τ).loc Cert.MmProjRefIdeal.main_arg0) = m' ((c.tc : Thread Cert.MmProjRefIdeal.nD Cert.MmProjRefIdeal.τ).loc Cert.MmProjRefIdeal.main_arg0)
          ∧ r.2.mem ((c.tc : Thread Cert.MmProjRefIdeal.nD Cert.MmProjRefIdeal.τ).loc Cert.MmProjRefIdeal.main_arg1) = m' ((c.tc : Thread Cert.MmProjRefIdeal.nD Cert.MmProjRefIdeal.τ).loc Cert.MmProjRefIdeal.main_arg1))

def preserves_MmProjSmall_MmProjSmallIdeal : Prop :=
  True

def algebraic_MmProjSmallIdeal_MmProjSmallRefIdeal [hMmProjSmallIdeal : Cert.MmProjSmallIdeal.Facts] [hMmProjSmallRefIdeal : Cert.MmProjSmallRefIdeal.Facts] : Prop :=
  ∀ (m : (ℓ : Loc Cert.MmProjSmallIdeal.nD Cert.MmProjSmallIdeal.τ Cert.MmProjSmallIdeal.sig) → Buf (Elt Ideal) ℓ) (g : Dev Cert.MmProjSmallIdeal.nD → PrngReg)
    (m' : (ℓ : Loc Cert.MmProjSmallRefIdeal.nD Cert.MmProjSmallRefIdeal.τ Cert.MmProjSmallRefIdeal.sig) → Buf (Elt Ideal) ℓ) (g' : Dev Cert.MmProjSmallRefIdeal.nD → PrngReg), Pre_MmProjSmallIdeal m →
    (∀ c : Dev Cert.MmProjSmallIdeal.nD,
      m' ((c.tc : Thread Cert.MmProjSmallRefIdeal.nD Cert.MmProjSmallRefIdeal.τ).loc Cert.MmProjSmallRefIdeal.main_arg0) = m ((c.tc : Thread Cert.MmProjSmallIdeal.nD Cert.MmProjSmallIdeal.τ).loc Cert.MmProjSmallIdeal.main_arg0)
      ∧ m' ((c.tc : Thread Cert.MmProjSmallRefIdeal.nD Cert.MmProjSmallRefIdeal.τ).loc Cert.MmProjSmallRefIdeal.main_arg1) = m ((c.tc : Thread Cert.MmProjSmallIdeal.nD Cert.MmProjSmallIdeal.τ).loc Cert.MmProjSmallIdeal.main_arg1)) →
    ∃ (v0 : (c : Dev Cert.MmProjSmallIdeal.nD) → Buf (Elt Ideal) ((c.tc : Thread Cert.MmProjSmallIdeal.nD Cert.MmProjSmallIdeal.τ).loc Cert.MmProjSmallIdeal.main_v0)),
      θ_run (Cert.MmProjSmallIdeal.defs (F := Ideal)) (onTc (τ := Cert.MmProjSmallIdeal.τ) (Cert.MmProjSmallIdeal.main (F := Ideal))) ⟨m, fun _ => 0, g⟩ (fun r => ∀ c : Dev Cert.MmProjSmallIdeal.nD,
          r.2.mem ((c.tc : Thread Cert.MmProjSmallIdeal.nD Cert.MmProjSmallIdeal.τ).loc Cert.MmProjSmallIdeal.main_v0) = v0 c
          ∧ r.2.mem ((c.tc : Thread Cert.MmProjSmallIdeal.nD Cert.MmProjSmallIdeal.τ).loc Cert.MmProjSmallIdeal.main_arg0) = m ((c.tc : Thread Cert.MmProjSmallIdeal.nD Cert.MmProjSmallIdeal.τ).loc Cert.MmProjSmallIdeal.main_arg0)
          ∧ r.2.mem ((c.tc : Thread Cert.MmProjSmallIdeal.nD Cert.MmProjSmallIdeal.τ).loc Cert.MmProjSmallIdeal.main_arg1) = m ((c.tc : Thread Cert.MmProjSmallIdeal.nD Cert.MmProjSmallIdeal.τ).loc Cert.MmProjSmallIdeal.main_arg1))
      ∧ θ_run (Cert.MmProjSmallRefIdeal.defs (F := Ideal)) (onTc (τ := Cert.MmProjSmallRefIdeal.τ) (Cert.MmProjSmallRefIdeal.main (F := Ideal))) ⟨m', fun _ => 0, g'⟩ (fun r => ∀ c : Dev Cert.MmProjSmallRefIdeal.nD,
          r.2.mem ((c.tc : Thread Cert.MmProjSmallRefIdeal.nD Cert.MmProjSmallRefIdeal.τ).loc Cert.MmProjSmallRefIdeal.main_v0) = v0 c
          ∧ r.2.mem ((c.tc : Thread Cert.MmProjSmallRefIdeal.nD Cert.MmProjSmallRefIdeal.τ).loc Cert.MmProjSmallRefIdeal.main_arg0) = m' ((c.tc : Thread Cert.MmProjSmallRefIdeal.nD Cert.MmProjSmallRefIdeal.τ).loc Cert.MmProjSmallRefIdeal.main_arg0)
          ∧ r.2.mem ((c.tc : Thread Cert.MmProjSmallRefIdeal.nD Cert.MmProjSmallRefIdeal.τ).loc Cert.MmProjSmallRefIdeal.main_arg1) = m' ((c.tc : Thread Cert.MmProjSmallRefIdeal.nD Cert.MmProjSmallRefIdeal.τ).loc Cert.MmProjSmallRefIdeal.main_arg1))

def preserves_MmGate_MmGateIdeal : Prop :=
  True

def algebraic_MmGateIdeal_MmGateRefIdeal [hMmGateIdeal : Cert.MmGateIdeal.Facts] [hMmGateRefIdeal : Cert.MmGateRefIdeal.Facts] : Prop :=
  ∀ (m : (ℓ : Loc Cert.MmGateIdeal.nD Cert.MmGateIdeal.τ Cert.MmGateIdeal.sig) → Buf (Elt Ideal) ℓ) (g : Dev Cert.MmGateIdeal.nD → PrngReg)
    (m' : (ℓ : Loc Cert.MmGateRefIdeal.nD Cert.MmGateRefIdeal.τ Cert.MmGateRefIdeal.sig) → Buf (Elt Ideal) ℓ) (g' : Dev Cert.MmGateRefIdeal.nD → PrngReg), Pre_MmGateIdeal m →
    (∀ c : Dev Cert.MmGateIdeal.nD,
      m' ((c.tc : Thread Cert.MmGateRefIdeal.nD Cert.MmGateRefIdeal.τ).loc Cert.MmGateRefIdeal.main_arg0) = m ((c.tc : Thread Cert.MmGateIdeal.nD Cert.MmGateIdeal.τ).loc Cert.MmGateIdeal.main_arg0)
      ∧ m' ((c.tc : Thread Cert.MmGateRefIdeal.nD Cert.MmGateRefIdeal.τ).loc Cert.MmGateRefIdeal.main_arg1) = m ((c.tc : Thread Cert.MmGateIdeal.nD Cert.MmGateIdeal.τ).loc Cert.MmGateIdeal.main_arg1)) →
    ∃ (v0 : (c : Dev Cert.MmGateIdeal.nD) → Buf (Elt Ideal) ((c.tc : Thread Cert.MmGateIdeal.nD Cert.MmGateIdeal.τ).loc Cert.MmGateIdeal.main_v0)),
      θ_run (Cert.MmGateIdeal.defs (F := Ideal)) (onTc (τ := Cert.MmGateIdeal.τ) (Cert.MmGateIdeal.main (F := Ideal))) ⟨m, fun _ => 0, g⟩ (fun r => ∀ c : Dev Cert.MmGateIdeal.nD,
          r.2.mem ((c.tc : Thread Cert.MmGateIdeal.nD Cert.MmGateIdeal.τ).loc Cert.MmGateIdeal.main_v0) = v0 c
          ∧ r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
          ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ θ_run (Cert.MmGateRefIdeal.defs (F := Ideal)) (onTc (τ := Cert.MmGateRefIdeal.τ) (Cert.MmGateRefIdeal.main (F := Ideal))) ⟨m', fun _ => 0, g'⟩ (fun r => ∀ c : Dev Cert.MmGateRefIdeal.nD,
          r.2.mem ((c.tc : Thread Cert.MmGateRefIdeal.nD Cert.MmGateRefIdeal.τ).loc Cert.MmGateRefIdeal.main_v0) = v0 c
          ∧ r.2.mem ((c.tc : Thread Cert.MmGateRefIdeal.nD Cert.MmGateRefIdeal.τ).loc Cert.MmGateRefIdeal.main_arg0) = m' ((c.tc : Thread Cert.MmGateRefIdeal.nD Cert.MmGateRefIdeal.τ).loc Cert.MmGateRefIdeal.main_arg0)
          ∧ r.2.mem ((c.tc : Thread Cert.MmGateRefIdeal.nD Cert.MmGateRefIdeal.τ).loc Cert.MmGateRefIdeal.main_arg1) = m' ((c.tc : Thread Cert.MmGateRefIdeal.nD Cert.MmGateRefIdeal.τ).loc Cert.MmGateRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)
      ∧ m' ((c.tc : Thread Cert.MmOutRefIdeal.nD Cert.MmOutRefIdeal.τ).loc Cert.MmOutRefIdeal.main_arg2) = m ((c.tc : Thread Cert.MmOutIdeal.nD Cert.MmOutIdeal.τ).loc Cert.MmOutIdeal.main_arg2)) →
    ∃ (v0 : (c : Dev Cert.MmOutIdeal.nD) → Buf (Elt Ideal) ((c.tc : Thread Cert.MmOutIdeal.nD Cert.MmOutIdeal.τ).loc Cert.MmOutIdeal.main_v0)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v1) = v0 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1)
          ∧ r.2.mem ((c.tc : Thread Cert.MmOutRefIdeal.nD Cert.MmOutRefIdeal.τ).loc Cert.MmOutRefIdeal.main_arg2) = m' ((c.tc : Thread Cert.MmOutRefIdeal.nD Cert.MmOutRefIdeal.τ).loc Cert.MmOutRefIdeal.main_arg2))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)
      ∧ m' ((c.tc : Thread Cert.MmDownRefIdeal.nD Cert.MmDownRefIdeal.τ).loc Cert.MmDownRefIdeal.main_arg2) = m ((c.tc : Thread Cert.MmDownIdeal.nD Cert.MmDownIdeal.τ).loc Cert.MmDownIdeal.main_arg2)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v1) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1)
          ∧ r.2.mem ((c.tc : Thread Cert.MmDownRefIdeal.nD Cert.MmDownRefIdeal.τ).loc Cert.MmDownRefIdeal.main_arg2) = m' ((c.tc : Thread Cert.MmDownRefIdeal.nD Cert.MmDownRefIdeal.τ).loc Cert.MmDownRefIdeal.main_arg2))

def preserves_MmDact_MmDactIdeal : Prop :=
  True

def algebraic_MmDactIdeal_MmDactRefIdeal [hMmDactIdeal : Cert.MmDactIdeal.Facts] [hMmDactRefIdeal : Cert.MmDactRefIdeal.Facts] : Prop :=
  ∀ (m : (ℓ : Loc Cert.MmDactIdeal.nD Cert.MmDactIdeal.τ Cert.MmDactIdeal.sig) → Buf (Elt Ideal) ℓ) (g : Dev Cert.MmDactIdeal.nD → PrngReg)
    (m' : (ℓ : Loc Cert.MmDactRefIdeal.nD Cert.MmDactRefIdeal.τ Cert.MmDactRefIdeal.sig) → Buf (Elt Ideal) ℓ) (g' : Dev Cert.MmDactRefIdeal.nD → PrngReg), Pre_MmDactIdeal m →
    (∀ c : Dev Cert.MmDactIdeal.nD,
      m' ((c.tc : Thread Cert.MmDactRefIdeal.nD Cert.MmDactRefIdeal.τ).loc Cert.MmDactRefIdeal.main_arg0) = m ((c.tc : Thread Cert.MmDactIdeal.nD Cert.MmDactIdeal.τ).loc Cert.MmDactIdeal.main_arg0)
      ∧ m' ((c.tc : Thread Cert.MmDactRefIdeal.nD Cert.MmDactRefIdeal.τ).loc Cert.MmDactRefIdeal.main_arg1) = m ((c.tc : Thread Cert.MmDactIdeal.nD Cert.MmDactIdeal.τ).loc Cert.MmDactIdeal.main_arg1)) →
    ∃ (v0 : (c : Dev Cert.MmDactIdeal.nD) → Buf (Elt Ideal) ((c.tc : Thread Cert.MmDactIdeal.nD Cert.MmDactIdeal.τ).loc Cert.MmDactIdeal.main_v0)),
      θ_run (Cert.MmDactIdeal.defs (F := Ideal)) (onTc (τ := Cert.MmDactIdeal.τ) (Cert.MmDactIdeal.main (F := Ideal))) ⟨m, fun _ => 0, g⟩ (fun r => ∀ c : Dev Cert.MmDactIdeal.nD,
          r.2.mem ((c.tc : Thread Cert.MmDactIdeal.nD Cert.MmDactIdeal.τ).loc Cert.MmDactIdeal.main_v0) = v0 c
          ∧ r.2.mem ((c.tc : Thread Cert.MmDactIdeal.nD Cert.MmDactIdeal.τ).loc Cert.MmDactIdeal.main_arg0) = m ((c.tc : Thread Cert.MmDactIdeal.nD Cert.MmDactIdeal.τ).loc Cert.MmDactIdeal.main_arg0)
          ∧ r.2.mem ((c.tc : Thread Cert.MmDactIdeal.nD Cert.MmDactIdeal.τ).loc Cert.MmDactIdeal.main_arg1) = m ((c.tc : Thread Cert.MmDactIdeal.nD Cert.MmDactIdeal.τ).loc Cert.MmDactIdeal.main_arg1))
      ∧ θ_run (Cert.MmDactRefIdeal.defs (F := Ideal)) (onTc (τ := Cert.MmDactRefIdeal.τ) (Cert.MmDactRefIdeal.main (F := Ideal))) ⟨m', fun _ => 0, g'⟩ (fun r => ∀ c : Dev Cert.MmDactRefIdeal.nD,
          r.2.mem ((c.tc : Thread Cert.MmDactRefIdeal.nD Cert.MmDactRefIdeal.τ).loc Cert.MmDactRefIdeal.main_v1) = v0 c
          ∧ r.2.mem ((c.tc : Thread Cert.MmDactRefIdeal.nD Cert.MmDactRefIdeal.τ).loc Cert.MmDactRefIdeal.main_arg0) = m' ((c.tc : Thread Cert.MmDactRefIdeal.nD Cert.MmDactRefIdeal.τ).loc Cert.MmDactRefIdeal.main_arg0)
          ∧ r.2.mem ((c.tc : Thread Cert.MmDactRefIdeal.nD Cert.MmDactRefIdeal.τ).loc Cert.MmDactRefIdeal.main_arg1) = m' ((c.tc : Thread Cert.MmDactRefIdeal.nD Cert.MmDactRefIdeal.τ).loc Cert.MmDactRefIdeal.main_arg1))

def preserves_MmHnGate_MmHnGateIdeal : Prop :=
  True

def algebraic_MmHnGateIdeal_MmHnGateRefIdeal [hMmHnGateIdeal : Cert.MmHnGateIdeal.Facts] [hMmHnGateRefIdeal : Cert.MmHnGateRefIdeal.Facts] : Prop :=
  ∀ (m : (ℓ : Loc Cert.MmHnGateIdeal.nD Cert.MmHnGateIdeal.τ Cert.MmHnGateIdeal.sig) → Buf (Elt Ideal) ℓ) (g : Dev Cert.MmHnGateIdeal.nD → PrngReg)
    (m' : (ℓ : Loc Cert.MmHnGateRefIdeal.nD Cert.MmHnGateRefIdeal.τ Cert.MmHnGateRefIdeal.sig) → Buf (Elt Ideal) ℓ) (g' : Dev Cert.MmHnGateRefIdeal.nD → PrngReg), Pre_MmHnGateIdeal m →
    (∀ c : Dev Cert.MmHnGateIdeal.nD,
      m' ((c.tc : Thread Cert.MmHnGateRefIdeal.nD Cert.MmHnGateRefIdeal.τ).loc Cert.MmHnGateRefIdeal.main_arg0) = m ((c.tc : Thread Cert.MmHnGateIdeal.nD Cert.MmHnGateIdeal.τ).loc Cert.MmHnGateIdeal.main_arg0)
      ∧ m' ((c.tc : Thread Cert.MmHnGateRefIdeal.nD Cert.MmHnGateRefIdeal.τ).loc Cert.MmHnGateRefIdeal.main_arg1) = m ((c.tc : Thread Cert.MmHnGateIdeal.nD Cert.MmHnGateIdeal.τ).loc Cert.MmHnGateIdeal.main_arg1)) →
    ∃ (v0 : (c : Dev Cert.MmHnGateIdeal.nD) → Buf (Elt Ideal) ((c.tc : Thread Cert.MmHnGateIdeal.nD Cert.MmHnGateIdeal.τ).loc Cert.MmHnGateIdeal.main_v0)),
      θ_run (Cert.MmHnGateIdeal.defs (F := Ideal)) (onTc (τ := Cert.MmHnGateIdeal.τ) (Cert.MmHnGateIdeal.main (F := Ideal))) ⟨m, fun _ => 0, g⟩ (fun r => ∀ c : Dev Cert.MmHnGateIdeal.nD,
          r.2.mem ((c.tc : Thread Cert.MmHnGateIdeal.nD Cert.MmHnGateIdeal.τ).loc Cert.MmHnGateIdeal.main_v0) = v0 c
          ∧ r.2.mem ((c.tc : Thread Cert.MmHnGateIdeal.nD Cert.MmHnGateIdeal.τ).loc Cert.MmHnGateIdeal.main_arg0) = m ((c.tc : Thread Cert.MmHnGateIdeal.nD Cert.MmHnGateIdeal.τ).loc Cert.MmHnGateIdeal.main_arg0)
          ∧ r.2.mem ((c.tc : Thread Cert.MmHnGateIdeal.nD Cert.MmHnGateIdeal.τ).loc Cert.MmHnGateIdeal.main_arg1) = m ((c.tc : Thread Cert.MmHnGateIdeal.nD Cert.MmHnGateIdeal.τ).loc Cert.MmHnGateIdeal.main_arg1))
      ∧ θ_run (Cert.MmHnGateRefIdeal.defs (F := Ideal)) (onTc (τ := Cert.MmHnGateRefIdeal.τ) (Cert.MmHnGateRefIdeal.main (F := Ideal))) ⟨m', fun _ => 0, g'⟩ (fun r => ∀ c : Dev Cert.MmHnGateRefIdeal.nD,
          r.2.mem ((c.tc : Thread Cert.MmHnGateRefIdeal.nD Cert.MmHnGateRefIdeal.τ).loc Cert.MmHnGateRefIdeal.main_v1) = v0 c
          ∧ r.2.mem ((c.tc : Thread Cert.MmHnGateRefIdeal.nD Cert.MmHnGateRefIdeal.τ).loc Cert.MmHnGateRefIdeal.main_arg0) = m' ((c.tc : Thread Cert.MmHnGateRefIdeal.nD Cert.MmHnGateRefIdeal.τ).loc Cert.MmHnGateRefIdeal.main_arg0)
          ∧ r.2.mem ((c.tc : Thread Cert.MmHnGateRefIdeal.nD Cert.MmHnGateRefIdeal.τ).loc Cert.MmHnGateRefIdeal.main_arg1) = m' ((c.tc : Thread Cert.MmHnGateRefIdeal.nD Cert.MmHnGateRefIdeal.τ).loc Cert.MmHnGateRefIdeal.main_arg1))

def preserves_MmMix_MmMixIdeal : Prop :=
  True

def algebraic_MmMixIdeal_MmMixRefIdeal [hMmMixIdeal : Cert.MmMixIdeal.Facts] [hMmMixRefIdeal : Cert.MmMixRefIdeal.Facts] : Prop :=
  ∀ (m : (ℓ : Loc Cert.MmMixIdeal.nD Cert.MmMixIdeal.τ Cert.MmMixIdeal.sig) → Buf (Elt Ideal) ℓ) (g : Dev Cert.MmMixIdeal.nD → PrngReg)
    (m' : (ℓ : Loc Cert.MmMixRefIdeal.nD Cert.MmMixRefIdeal.τ Cert.MmMixRefIdeal.sig) → Buf (Elt Ideal) ℓ) (g' : Dev Cert.MmMixRefIdeal.nD → PrngReg), Pre_MmMixIdeal m →
    (∀ c : Dev Cert.MmMixIdeal.nD,
      m' ((c.tc : Thread Cert.MmMixRefIdeal.nD Cert.MmMixRefIdeal.τ).loc Cert.MmMixRefIdeal.main_arg0) = m ((c.tc : Thread Cert.MmMixIdeal.nD Cert.MmMixIdeal.τ).loc Cert.MmMixIdeal.main_arg0)
      ∧ m' ((c.tc : Thread Cert.MmMixRefIdeal.nD Cert.MmMixRefIdeal.τ).loc Cert.MmMixRefIdeal.main_arg1) = m ((c.tc : Thread Cert.MmMixIdeal.nD Cert.MmMixIdeal.τ).loc Cert.MmMixIdeal.main_arg1)) →
    ∃ (v0 : (c : Dev Cert.MmMixIdeal.nD) → Buf (Elt Ideal) ((c.tc : Thread Cert.MmMixIdeal.nD Cert.MmMixIdeal.τ).loc Cert.MmMixIdeal.main_v0)),
      θ_run (Cert.MmMixIdeal.defs (F := Ideal)) (onTc (τ := Cert.MmMixIdeal.τ) (Cert.MmMixIdeal.main (F := Ideal))) ⟨m, fun _ => 0, g⟩ (fun r => ∀ c : Dev Cert.MmMixIdeal.nD,
          r.2.mem ((c.tc : Thread Cert.MmMixIdeal.nD Cert.MmMixIdeal.τ).loc Cert.MmMixIdeal.main_v0) = v0 c
          ∧ r.2.mem ((c.tc : Thread Cert.MmMixIdeal.nD Cert.MmMixIdeal.τ).loc Cert.MmMixIdeal.main_arg0) = m ((c.tc : Thread Cert.MmMixIdeal.nD Cert.MmMixIdeal.τ).loc Cert.MmMixIdeal.main_arg0)
          ∧ r.2.mem ((c.tc : Thread Cert.MmMixIdeal.nD Cert.MmMixIdeal.τ).loc Cert.MmMixIdeal.main_arg1) = m ((c.tc : Thread Cert.MmMixIdeal.nD Cert.MmMixIdeal.τ).loc Cert.MmMixIdeal.main_arg1))
      ∧ θ_run (Cert.MmMixRefIdeal.defs (F := Ideal)) (onTc (τ := Cert.MmMixRefIdeal.τ) (Cert.MmMixRefIdeal.main (F := Ideal))) ⟨m', fun _ => 0, g'⟩ (fun r => ∀ c : Dev Cert.MmMixRefIdeal.nD,
          r.2.mem ((c.tc : Thread Cert.MmMixRefIdeal.nD Cert.MmMixRefIdeal.τ).loc Cert.MmMixRefIdeal.main_v1) = v0 c
          ∧ r.2.mem ((c.tc : Thread Cert.MmMixRefIdeal.nD Cert.MmMixRefIdeal.τ).loc Cert.MmMixRefIdeal.main_arg0) = m' ((c.tc : Thread Cert.MmMixRefIdeal.nD Cert.MmMixRefIdeal.τ).loc Cert.MmMixRefIdeal.main_arg0)
          ∧ r.2.mem ((c.tc : Thread Cert.MmMixRefIdeal.nD Cert.MmMixRefIdeal.τ).loc Cert.MmMixRefIdeal.main_arg1) = m' ((c.tc : Thread Cert.MmMixRefIdeal.nD Cert.MmMixRefIdeal.τ).loc Cert.MmMixRefIdeal.main_arg1))

def preserves_MmDu_MmDuIdeal : Prop :=
  True

def algebraic_MmDuIdeal_MmDuRefIdeal [hMmDuIdeal : Cert.MmDuIdeal.Facts] [hMmDuRefIdeal : Cert.MmDuRefIdeal.Facts] : Prop :=
  ∀ (m : (ℓ : Loc Cert.MmDuIdeal.nD Cert.MmDuIdeal.τ Cert.MmDuIdeal.sig) → Buf (Elt Ideal) ℓ) (g : Dev Cert.MmDuIdeal.nD → PrngReg)
    (m' : (ℓ : Loc Cert.MmDuRefIdeal.nD Cert.MmDuRefIdeal.τ Cert.MmDuRefIdeal.sig) → Buf (Elt Ideal) ℓ) (g' : Dev Cert.MmDuRefIdeal.nD → PrngReg), Pre_MmDuIdeal m →
    (∀ c : Dev Cert.MmDuIdeal.nD,
      m' ((c.tc : Thread Cert.MmDuRefIdeal.nD Cert.MmDuRefIdeal.τ).loc Cert.MmDuRefIdeal.main_arg0) = m ((c.tc : Thread Cert.MmDuIdeal.nD Cert.MmDuIdeal.τ).loc Cert.MmDuIdeal.main_arg0)
      ∧ m' ((c.tc : Thread Cert.MmDuRefIdeal.nD Cert.MmDuRefIdeal.τ).loc Cert.MmDuRefIdeal.main_arg1) = m ((c.tc : Thread Cert.MmDuIdeal.nD Cert.MmDuIdeal.τ).loc Cert.MmDuIdeal.main_arg1)) →
    ∃ (v0 : (c : Dev Cert.MmDuIdeal.nD) → Buf (Elt Ideal) ((c.tc : Thread Cert.MmDuIdeal.nD Cert.MmDuIdeal.τ).loc Cert.MmDuIdeal.main_v0)),
      θ_run (Cert.MmDuIdeal.defs (F := Ideal)) (onTc (τ := Cert.MmDuIdeal.τ) (Cert.MmDuIdeal.main (F := Ideal))) ⟨m, fun _ => 0, g⟩ (fun r => ∀ c : Dev Cert.MmDuIdeal.nD,
          r.2.mem ((c.tc : Thread Cert.MmDuIdeal.nD Cert.MmDuIdeal.τ).loc Cert.MmDuIdeal.main_v0) = v0 c
          ∧ r.2.mem ((c.tc : Thread Cert.MmDuIdeal.nD Cert.MmDuIdeal.τ).loc Cert.MmDuIdeal.main_arg0) = m ((c.tc : Thread Cert.MmDuIdeal.nD Cert.MmDuIdeal.τ).loc Cert.MmDuIdeal.main_arg0)
          ∧ r.2.mem ((c.tc : Thread Cert.MmDuIdeal.nD Cert.MmDuIdeal.τ).loc Cert.MmDuIdeal.main_arg1) = m ((c.tc : Thread Cert.MmDuIdeal.nD Cert.MmDuIdeal.τ).loc Cert.MmDuIdeal.main_arg1))
      ∧ θ_run (Cert.MmDuRefIdeal.defs (F := Ideal)) (onTc (τ := Cert.MmDuRefIdeal.τ) (Cert.MmDuRefIdeal.main (F := Ideal))) ⟨m', fun _ => 0, g'⟩ (fun r => ∀ c : Dev Cert.MmDuRefIdeal.nD,
          r.2.mem ((c.tc : Thread Cert.MmDuRefIdeal.nD Cert.MmDuRefIdeal.τ).loc Cert.MmDuRefIdeal.main_v1) = v0 c
          ∧ r.2.mem ((c.tc : Thread Cert.MmDuRefIdeal.nD Cert.MmDuRefIdeal.τ).loc Cert.MmDuRefIdeal.main_arg0) = m' ((c.tc : Thread Cert.MmDuRefIdeal.nD Cert.MmDuRefIdeal.τ).loc Cert.MmDuRefIdeal.main_arg0)
          ∧ r.2.mem ((c.tc : Thread Cert.MmDuRefIdeal.nD Cert.MmDuRefIdeal.τ).loc Cert.MmDuRefIdeal.main_arg1) = m' ((c.tc : Thread Cert.MmDuRefIdeal.nD Cert.MmDuRefIdeal.τ).loc Cert.MmDuRefIdeal.main_arg1))

def preserves_MmHnUp_MmHnUpIdeal : Prop :=
  True

def algebraic_MmHnUpIdeal_MmHnUpRefIdeal [hMmHnUpIdeal : Cert.MmHnUpIdeal.Facts] [hMmHnUpRefIdeal : Cert.MmHnUpRefIdeal.Facts] : Prop :=
  ∀ (m : (ℓ : Loc Cert.MmHnUpIdeal.nD Cert.MmHnUpIdeal.τ Cert.MmHnUpIdeal.sig) → Buf (Elt Ideal) ℓ) (g : Dev Cert.MmHnUpIdeal.nD → PrngReg)
    (m' : (ℓ : Loc Cert.MmHnUpRefIdeal.nD Cert.MmHnUpRefIdeal.τ Cert.MmHnUpRefIdeal.sig) → Buf (Elt Ideal) ℓ) (g' : Dev Cert.MmHnUpRefIdeal.nD → PrngReg), Pre_MmHnUpIdeal m →
    (∀ c : Dev Cert.MmHnUpIdeal.nD,
      m' ((c.tc : Thread Cert.MmHnUpRefIdeal.nD Cert.MmHnUpRefIdeal.τ).loc Cert.MmHnUpRefIdeal.main_arg0) = m ((c.tc : Thread Cert.MmHnUpIdeal.nD Cert.MmHnUpIdeal.τ).loc Cert.MmHnUpIdeal.main_arg0)
      ∧ m' ((c.tc : Thread Cert.MmHnUpRefIdeal.nD Cert.MmHnUpRefIdeal.τ).loc Cert.MmHnUpRefIdeal.main_arg1) = m ((c.tc : Thread Cert.MmHnUpIdeal.nD Cert.MmHnUpIdeal.τ).loc Cert.MmHnUpIdeal.main_arg1)
      ∧ m' ((c.tc : Thread Cert.MmHnUpRefIdeal.nD Cert.MmHnUpRefIdeal.τ).loc Cert.MmHnUpRefIdeal.main_arg2) = m ((c.tc : Thread Cert.MmHnUpIdeal.nD Cert.MmHnUpIdeal.τ).loc Cert.MmHnUpIdeal.main_arg2)) →
    ∃ (v0 : (c : Dev Cert.MmHnUpIdeal.nD) → Buf (Elt Ideal) ((c.tc : Thread Cert.MmHnUpIdeal.nD Cert.MmHnUpIdeal.τ).loc Cert.MmHnUpIdeal.main_v0)),
      θ_run (Cert.MmHnUpIdeal.defs (F := Ideal)) (onTc (τ := Cert.MmHnUpIdeal.τ) (Cert.MmHnUpIdeal.main (F := Ideal))) ⟨m, fun _ => 0, g⟩ (fun r => ∀ c : Dev Cert.MmHnUpIdeal.nD,
          r.2.mem ((c.tc : Thread Cert.MmHnUpIdeal.nD Cert.MmHnUpIdeal.τ).loc Cert.MmHnUpIdeal.main_v0) = v0 c
          ∧ r.2.mem ((c.tc : Thread Cert.MmHnUpIdeal.nD Cert.MmHnUpIdeal.τ).loc Cert.MmHnUpIdeal.main_arg0) = m ((c.tc : Thread Cert.MmHnUpIdeal.nD Cert.MmHnUpIdeal.τ).loc Cert.MmHnUpIdeal.main_arg0)
          ∧ r.2.mem ((c.tc : Thread Cert.MmHnUpIdeal.nD Cert.MmHnUpIdeal.τ).loc Cert.MmHnUpIdeal.main_arg1) = m ((c.tc : Thread Cert.MmHnUpIdeal.nD Cert.MmHnUpIdeal.τ).loc Cert.MmHnUpIdeal.main_arg1)
          ∧ r.2.mem ((c.tc : Thread Cert.MmHnUpIdeal.nD Cert.MmHnUpIdeal.τ).loc Cert.MmHnUpIdeal.main_arg2) = m ((c.tc : Thread Cert.MmHnUpIdeal.nD Cert.MmHnUpIdeal.τ).loc Cert.MmHnUpIdeal.main_arg2))
      ∧ θ_run (Cert.MmHnUpRefIdeal.defs (F := Ideal)) (onTc (τ := Cert.MmHnUpRefIdeal.τ) (Cert.MmHnUpRefIdeal.main (F := Ideal))) ⟨m', fun _ => 0, g'⟩ (fun r => ∀ c : Dev Cert.MmHnUpRefIdeal.nD,
          r.2.mem ((c.tc : Thread Cert.MmHnUpRefIdeal.nD Cert.MmHnUpRefIdeal.τ).loc Cert.MmHnUpRefIdeal.main_v2) = v0 c
          ∧ r.2.mem ((c.tc : Thread Cert.MmHnUpRefIdeal.nD Cert.MmHnUpRefIdeal.τ).loc Cert.MmHnUpRefIdeal.main_arg0) = m' ((c.tc : Thread Cert.MmHnUpRefIdeal.nD Cert.MmHnUpRefIdeal.τ).loc Cert.MmHnUpRefIdeal.main_arg0)
          ∧ r.2.mem ((c.tc : Thread Cert.MmHnUpRefIdeal.nD Cert.MmHnUpRefIdeal.τ).loc Cert.MmHnUpRefIdeal.main_arg1) = m' ((c.tc : Thread Cert.MmHnUpRefIdeal.nD Cert.MmHnUpRefIdeal.τ).loc Cert.MmHnUpRefIdeal.main_arg1)
          ∧ r.2.mem ((c.tc : Thread Cert.MmHnUpRefIdeal.nD Cert.MmHnUpRefIdeal.τ).loc Cert.MmHnUpRefIdeal.main_arg2) = m' ((c.tc : Thread Cert.MmHnUpRefIdeal.nD Cert.MmHnUpRefIdeal.τ).loc Cert.MmHnUpRefIdeal.main_arg2))

def preserves_MmDuSmall_MmDuSmallIdeal : Prop :=
  True

def algebraic_MmDuSmallIdeal_MmDuSmallRefIdeal [hMmDuSmallIdeal : Cert.MmDuSmallIdeal.Facts] [hMmDuSmallRefIdeal : Cert.MmDuSmallRefIdeal.Facts] : Prop :=
  ∀ (m : (ℓ : Loc Cert.MmDuSmallIdeal.nD Cert.MmDuSmallIdeal.τ Cert.MmDuSmallIdeal.sig) → Buf (Elt Ideal) ℓ) (g : Dev Cert.MmDuSmallIdeal.nD → PrngReg)
    (m' : (ℓ : Loc Cert.MmDuSmallRefIdeal.nD Cert.MmDuSmallRefIdeal.τ Cert.MmDuSmallRefIdeal.sig) → Buf (Elt Ideal) ℓ) (g' : Dev Cert.MmDuSmallRefIdeal.nD → PrngReg), Pre_MmDuSmallIdeal m →
    (∀ c : Dev Cert.MmDuSmallIdeal.nD,
      m' ((c.tc : Thread Cert.MmDuSmallRefIdeal.nD Cert.MmDuSmallRefIdeal.τ).loc Cert.MmDuSmallRefIdeal.main_arg0) = m ((c.tc : Thread Cert.MmDuSmallIdeal.nD Cert.MmDuSmallIdeal.τ).loc Cert.MmDuSmallIdeal.main_arg0)
      ∧ m' ((c.tc : Thread Cert.MmDuSmallRefIdeal.nD Cert.MmDuSmallRefIdeal.τ).loc Cert.MmDuSmallRefIdeal.main_arg1) = m ((c.tc : Thread Cert.MmDuSmallIdeal.nD Cert.MmDuSmallIdeal.τ).loc Cert.MmDuSmallIdeal.main_arg1)
      ∧ m' ((c.tc : Thread Cert.MmDuSmallRefIdeal.nD Cert.MmDuSmallRefIdeal.τ).loc Cert.MmDuSmallRefIdeal.main_arg2) = m ((c.tc : Thread Cert.MmDuSmallIdeal.nD Cert.MmDuSmallIdeal.τ).loc Cert.MmDuSmallIdeal.main_arg2)) →
    ∃ (v0 : (c : Dev Cert.MmDuSmallIdeal.nD) → Buf (Elt Ideal) ((c.tc : Thread Cert.MmDuSmallIdeal.nD Cert.MmDuSmallIdeal.τ).loc Cert.MmDuSmallIdeal.main_v0)),
      θ_run (Cert.MmDuSmallIdeal.defs (F := Ideal)) (onTc (τ := Cert.MmDuSmallIdeal.τ) (Cert.MmDuSmallIdeal.main (F := Ideal))) ⟨m, fun _ => 0, g⟩ (fun r => ∀ c : Dev Cert.MmDuSmallIdeal.nD,
          r.2.mem ((c.tc : Thread Cert.MmDuSmallIdeal.nD Cert.MmDuSmallIdeal.τ).loc Cert.MmDuSmallIdeal.main_v0) = v0 c
          ∧ r.2.mem ((c.tc : Thread Cert.MmDuSmallIdeal.nD Cert.MmDuSmallIdeal.τ).loc Cert.MmDuSmallIdeal.main_arg0) = m ((c.tc : Thread Cert.MmDuSmallIdeal.nD Cert.MmDuSmallIdeal.τ).loc Cert.MmDuSmallIdeal.main_arg0)
          ∧ r.2.mem ((c.tc : Thread Cert.MmDuSmallIdeal.nD Cert.MmDuSmallIdeal.τ).loc Cert.MmDuSmallIdeal.main_arg1) = m ((c.tc : Thread Cert.MmDuSmallIdeal.nD Cert.MmDuSmallIdeal.τ).loc Cert.MmDuSmallIdeal.main_arg1)
          ∧ r.2.mem ((c.tc : Thread Cert.MmDuSmallIdeal.nD Cert.MmDuSmallIdeal.τ).loc Cert.MmDuSmallIdeal.main_arg2) = m ((c.tc : Thread Cert.MmDuSmallIdeal.nD Cert.MmDuSmallIdeal.τ).loc Cert.MmDuSmallIdeal.main_arg2))
      ∧ θ_run (Cert.MmDuSmallRefIdeal.defs (F := Ideal)) (onTc (τ := Cert.MmDuSmallRefIdeal.τ) (Cert.MmDuSmallRefIdeal.main (F := Ideal))) ⟨m', fun _ => 0, g'⟩ (fun r => ∀ c : Dev Cert.MmDuSmallRefIdeal.nD,
          r.2.mem ((c.tc : Thread Cert.MmDuSmallRefIdeal.nD Cert.MmDuSmallRefIdeal.τ).loc Cert.MmDuSmallRefIdeal.main_v2) = v0 c
          ∧ r.2.mem ((c.tc : Thread Cert.MmDuSmallRefIdeal.nD Cert.MmDuSmallRefIdeal.τ).loc Cert.MmDuSmallRefIdeal.main_arg0) = m' ((c.tc : Thread Cert.MmDuSmallRefIdeal.nD Cert.MmDuSmallRefIdeal.τ).loc Cert.MmDuSmallRefIdeal.main_arg0)
          ∧ r.2.mem ((c.tc : Thread Cert.MmDuSmallRefIdeal.nD Cert.MmDuSmallRefIdeal.τ).loc Cert.MmDuSmallRefIdeal.main_arg1) = m' ((c.tc : Thread Cert.MmDuSmallRefIdeal.nD Cert.MmDuSmallRefIdeal.τ).loc Cert.MmDuSmallRefIdeal.main_arg1)
          ∧ r.2.mem ((c.tc : Thread Cert.MmDuSmallRefIdeal.nD Cert.MmDuSmallRefIdeal.τ).loc Cert.MmDuSmallRefIdeal.main_arg2) = m' ((c.tc : Thread Cert.MmDuSmallRefIdeal.nD Cert.MmDuSmallRefIdeal.τ).loc Cert.MmDuSmallRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v2) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v2) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v2) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v2) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwInSmall_DwInSmallIdeal : Prop :=
  True

def algebraic_DwInSmallIdeal_DwInSmallRefIdeal [hDwInSmallIdeal : Cert.DwInSmallIdeal.Facts] [hDwInSmallRefIdeal : Cert.DwInSmallRefIdeal.Facts] : Prop :=
  ∀ (m : (ℓ : Loc Cert.DwInSmallIdeal.nD Cert.DwInSmallIdeal.τ Cert.DwInSmallIdeal.sig) → Buf (Elt Ideal) ℓ) (g : Dev Cert.DwInSmallIdeal.nD → PrngReg)
    (m' : (ℓ : Loc Cert.DwInSmallRefIdeal.nD Cert.DwInSmallRefIdeal.τ Cert.DwInSmallRefIdeal.sig) → Buf (Elt Ideal) ℓ) (g' : Dev Cert.DwInSmallRefIdeal.nD → PrngReg), Pre_DwInSmallIdeal m →
    (∀ c : Dev Cert.DwInSmallIdeal.nD,
      m' ((c.tc : Thread Cert.DwInSmallRefIdeal.nD Cert.DwInSmallRefIdeal.τ).loc Cert.DwInSmallRefIdeal.main_arg0) = m ((c.tc : Thread Cert.DwInSmallIdeal.nD Cert.DwInSmallIdeal.τ).loc Cert.DwInSmallIdeal.main_arg0)
      ∧ m' ((c.tc : Thread Cert.DwInSmallRefIdeal.nD Cert.DwInSmallRefIdeal.τ).loc Cert.DwInSmallRefIdeal.main_arg1) = m ((c.tc : Thread Cert.DwInSmallIdeal.nD Cert.DwInSmallIdeal.τ).loc Cert.DwInSmallIdeal.main_arg1)) →
    ∃ (v0 : (c : Dev Cert.DwInSmallIdeal.nD) → Buf (Elt Ideal) ((c.tc : Thread Cert.DwInSmallIdeal.nD Cert.DwInSmallIdeal.τ).loc Cert.DwInSmallIdeal.main_v0)),
      θ_run (Cert.DwInSmallIdeal.defs (F := Ideal)) (onTc (τ := Cert.DwInSmallIdeal.τ) (Cert.DwInSmallIdeal.main (F := Ideal))) ⟨m, fun _ => 0, g⟩ (fun r => ∀ c : Dev Cert.DwInSmallIdeal.nD,
          r.2.mem ((c.tc : Thread Cert.DwInSmallIdeal.nD Cert.DwInSmallIdeal.τ).loc Cert.DwInSmallIdeal.main_v0) = v0 c
          ∧ r.2.mem ((c.tc : Thread Cert.DwInSmallIdeal.nD Cert.DwInSmallIdeal.τ).loc Cert.DwInSmallIdeal.main_arg0) = m ((c.tc : Thread Cert.DwInSmallIdeal.nD Cert.DwInSmallIdeal.τ).loc Cert.DwInSmallIdeal.main_arg0)
          ∧ r.2.mem ((c.tc : Thread Cert.DwInSmallIdeal.nD Cert.DwInSmallIdeal.τ).loc Cert.DwInSmallIdeal.main_arg1) = m ((c.tc : Thread Cert.DwInSmallIdeal.nD Cert.DwInSmallIdeal.τ).loc Cert.DwInSmallIdeal.main_arg1))
      ∧ θ_run (Cert.DwInSmallRefIdeal.defs (F := Ideal)) (onTc (τ := Cert.DwInSmallRefIdeal.τ) (Cert.DwInSmallRefIdeal.main (F := Ideal))) ⟨m', fun _ => 0, g'⟩ (fun r => ∀ c : Dev Cert.DwInSmallRefIdeal.nD,
          r.2.mem ((c.tc : Thread Cert.DwInSmallRefIdeal.nD Cert.DwInSmallRefIdeal.τ).loc Cert.DwInSmallRefIdeal.main_v2) = v0 c
          ∧ r.2.mem ((c.tc : Thread Cert.DwInSmallRefIdeal.nD Cert.DwInSmallRefIdeal.τ).loc Cert.DwInSmallRefIdeal.main_arg0) = m' ((c.tc : Thread Cert.DwInSmallRefIdeal.nD Cert.DwInSmallRefIdeal.τ).loc Cert.DwInSmallRefIdeal.main_arg0)
          ∧ r.2.mem ((c.tc : Thread Cert.DwInSmallRefIdeal.nD Cert.DwInSmallRefIdeal.τ).loc Cert.DwInSmallRefIdeal.main_arg1) = m' ((c.tc : Thread Cert.DwInSmallRefIdeal.nD Cert.DwInSmallRefIdeal.τ).loc Cert.DwInSmallRefIdeal.main_arg1))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v12) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_RmsBack_RmsBackIdeal : Prop :=
  True

def algebraic_RmsBackIdeal_RmsBackRefIdeal [hRmsBackIdeal : Cert.RmsBackIdeal.Facts] [hRmsBackRefIdeal : Cert.RmsBackRefIdeal.Facts] : Prop :=
  ∀ (m : (ℓ : Loc Cert.RmsBackIdeal.nD Cert.RmsBackIdeal.τ Cert.RmsBackIdeal.sig) → Buf (Elt Ideal) ℓ) (g : Dev Cert.RmsBackIdeal.nD → PrngReg)
    (m' : (ℓ : Loc Cert.RmsBackRefIdeal.nD Cert.RmsBackRefIdeal.τ Cert.RmsBackRefIdeal.sig) → Buf (Elt Ideal) ℓ) (g' : Dev Cert.RmsBackRefIdeal.nD → PrngReg), Pre_RmsBackIdeal m →
    (∀ c : Dev Cert.RmsBackIdeal.nD,
      m' ((c.tc : Thread Cert.RmsBackRefIdeal.nD Cert.RmsBackRefIdeal.τ).loc Cert.RmsBackRefIdeal.main_arg0) = m ((c.tc : Thread Cert.RmsBackIdeal.nD Cert.RmsBackIdeal.τ).loc Cert.RmsBackIdeal.main_arg0)
      ∧ m' ((c.tc : Thread Cert.RmsBackRefIdeal.nD Cert.RmsBackRefIdeal.τ).loc Cert.RmsBackRefIdeal.main_arg1) = m ((c.tc : Thread Cert.RmsBackIdeal.nD Cert.RmsBackIdeal.τ).loc Cert.RmsBackIdeal.main_arg1)
      ∧ m' ((c.tc : Thread Cert.RmsBackRefIdeal.nD Cert.RmsBackRefIdeal.τ).loc Cert.RmsBackRefIdeal.main_arg2) = m ((c.tc : Thread Cert.RmsBackIdeal.nD Cert.RmsBackIdeal.τ).loc Cert.RmsBackIdeal.main_arg2)
      ∧ m' ((c.tc : Thread Cert.RmsBackRefIdeal.nD Cert.RmsBackRefIdeal.τ).loc Cert.RmsBackRefIdeal.main_arg3) = m ((c.tc : Thread Cert.RmsBackIdeal.nD Cert.RmsBackIdeal.τ).loc Cert.RmsBackIdeal.main_arg3)) →
    ∃ (v0 : (c : Dev Cert.RmsBackIdeal.nD) → Buf (Elt Ideal) ((c.tc : Thread Cert.RmsBackIdeal.nD Cert.RmsBackIdeal.τ).loc Cert.RmsBackIdeal.main_v0_0)) (v1 : (c : Dev Cert.RmsBackIdeal.nD) → Buf (Elt Ideal) ((c.tc : Thread Cert.RmsBackIdeal.nD Cert.RmsBackIdeal.τ).loc Cert.RmsBackIdeal.main_v0_1)) (v2 : (c : Dev Cert.RmsBackIdeal.nD) → Buf (Elt Ideal) ((c.tc : Thread Cert.RmsBackIdeal.nD Cert.RmsBackIdeal.τ).loc Cert.RmsBackIdeal.main_v0_2)),
      θ_run (Cert.RmsBackIdeal.defs (F := Ideal)) (onTc (τ := Cert.RmsBackIdeal.τ) (Cert.RmsBackIdeal.main (F := Ideal))) ⟨m, fun _ => 0, g⟩ (fun r => ∀ c : Dev Cert.RmsBackIdeal.nD,
          r.2.mem ((c.tc : Thread Cert.RmsBackIdeal.nD Cert.RmsBackIdeal.τ).loc Cert.RmsBackIdeal.main_v0_0) = v0 c
          ∧ r.2.mem ((c.tc : Thread Cert.RmsBackIdeal.nD Cert.RmsBackIdeal.τ).loc Cert.RmsBackIdeal.main_v0_1) = v1 c
          ∧ r.2.mem ((c.tc : Thread Cert.RmsBackIdeal.nD Cert.RmsBackIdeal.τ).loc Cert.RmsBackIdeal.main_v0_2) = v2 c
          ∧ r.2.mem ((c.tc : Thread Cert.RmsBackIdeal.nD Cert.RmsBackIdeal.τ).loc Cert.RmsBackIdeal.main_arg0) = m ((c.tc : Thread Cert.RmsBackIdeal.nD Cert.RmsBackIdeal.τ).loc Cert.RmsBackIdeal.main_arg0)
          ∧ r.2.mem ((c.tc : Thread Cert.RmsBackIdeal.nD Cert.RmsBackIdeal.τ).loc Cert.RmsBackIdeal.main_arg1) = m ((c.tc : Thread Cert.RmsBackIdeal.nD Cert.RmsBackIdeal.τ).loc Cert.RmsBackIdeal.main_arg1)
          ∧ r.2.mem ((c.tc : Thread Cert.RmsBackIdeal.nD Cert.RmsBackIdeal.τ).loc Cert.RmsBackIdeal.main_arg2) = m ((c.tc : Thread Cert.RmsBackIdeal.nD Cert.RmsBackIdeal.τ).loc Cert.RmsBackIdeal.main_arg2)
          ∧ r.2.mem ((c.tc : Thread Cert.RmsBackIdeal.nD Cert.RmsBackIdeal.τ).loc Cert.RmsBackIdeal.main_arg3) = m ((c.tc : Thread Cert.RmsBackIdeal.nD Cert.RmsBackIdeal.τ).loc Cert.RmsBackIdeal.main_arg3))
      ∧ θ_run (Cert.RmsBackRefIdeal.defs (F := Ideal)) (onTc (τ := Cert.RmsBackRefIdeal.τ) (Cert.RmsBackRefIdeal.main (F := Ideal))) ⟨m', fun _ => 0, g'⟩ (fun r => ∀ c : Dev Cert.RmsBackRefIdeal.nD,
          r.2.mem ((c.tc : Thread Cert.RmsBackRefIdeal.nD Cert.RmsBackRefIdeal.τ).loc Cert.RmsBackRefIdeal.main_v22) = v0 c
          ∧ r.2.mem ((c.tc : Thread Cert.RmsBackRefIdeal.nD Cert.RmsBackRefIdeal.τ).loc Cert.RmsBackRefIdeal.main_v23) = v1 c
          ∧ r.2.mem ((c.tc : Thread Cert.RmsBackRefIdeal.nD Cert.RmsBackRefIdeal.τ).loc Cert.RmsBackRefIdeal.main_v26) = v2 c
          ∧ r.2.mem ((c.tc : Thread Cert.RmsBackRefIdeal.nD Cert.RmsBackRefIdeal.τ).loc Cert.RmsBackRefIdeal.main_arg0) = m' ((c.tc : Thread Cert.RmsBackRefIdeal.nD Cert.RmsBackRefIdeal.τ).loc Cert.RmsBackRefIdeal.main_arg0)
          ∧ r.2.mem ((c.tc : Thread Cert.RmsBackRefIdeal.nD Cert.RmsBackRefIdeal.τ).loc Cert.RmsBackRefIdeal.main_arg1) = m' ((c.tc : Thread Cert.RmsBackRefIdeal.nD Cert.RmsBackRefIdeal.τ).loc Cert.RmsBackRefIdeal.main_arg1)
          ∧ r.2.mem ((c.tc : Thread Cert.RmsBackRefIdeal.nD Cert.RmsBackRefIdeal.τ).loc Cert.RmsBackRefIdeal.main_arg2) = m' ((c.tc : Thread Cert.RmsBackRefIdeal.nD Cert.RmsBackRefIdeal.τ).loc Cert.RmsBackRefIdeal.main_arg2)
          ∧ r.2.mem ((c.tc : Thread Cert.RmsBackRefIdeal.nD Cert.RmsBackRefIdeal.τ).loc Cert.RmsBackRefIdeal.main_arg3) = m' ((c.tc : Thread Cert.RmsBackRefIdeal.nD Cert.RmsBackRefIdeal.τ).loc Cert.RmsBackRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v33) = v0 c
          ∧ r.2.mem ((c.tc : Thread Cert.LossRefIdeal.nD Cert.LossRefIdeal.τ).loc Cert.LossRefIdeal.main_v32) = v1 c
          ∧ r.2.mem ((c.tc : Thread Cert.LossRefIdeal.nD Cert.LossRefIdeal.τ).loc Cert.LossRefIdeal.main_v34) = v2 c
          ∧ r.2.mem ((c.tc : Thread Cert.LossRefIdeal.nD Cert.LossRefIdeal.τ).loc Cert.LossRefIdeal.main_v37) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v26) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_GatesBack_GatesBackIdeal : Prop :=
  True

def algebraic_GatesBackIdeal_GatesBackRefIdeal [hGatesBackIdeal : Cert.GatesBackIdeal.Facts] [hGatesBackRefIdeal : Cert.GatesBackRefIdeal.Facts] : Prop :=
  ∀ (m : (ℓ : Loc Cert.GatesBackIdeal.nD Cert.GatesBackIdeal.τ Cert.GatesBackIdeal.sig) → Buf (Elt Ideal) ℓ) (g : Dev Cert.GatesBackIdeal.nD → PrngReg)
    (m' : (ℓ : Loc Cert.GatesBackRefIdeal.nD Cert.GatesBackRefIdeal.τ Cert.GatesBackRefIdeal.sig) → Buf (Elt Ideal) ℓ) (g' : Dev Cert.GatesBackRefIdeal.nD → PrngReg), Pre_GatesBackIdeal m →
    (∀ c : Dev Cert.GatesBackIdeal.nD,
      m' ((c.tc : Thread Cert.GatesBackRefIdeal.nD Cert.GatesBackRefIdeal.τ).loc Cert.GatesBackRefIdeal.main_arg0) = m ((c.tc : Thread Cert.GatesBackIdeal.nD Cert.GatesBackIdeal.τ).loc Cert.GatesBackIdeal.main_arg0)
      ∧ m' ((c.tc : Thread Cert.GatesBackRefIdeal.nD Cert.GatesBackRefIdeal.τ).loc Cert.GatesBackRefIdeal.main_arg1) = m ((c.tc : Thread Cert.GatesBackIdeal.nD Cert.GatesBackIdeal.τ).loc Cert.GatesBackIdeal.main_arg1)
      ∧ m' ((c.tc : Thread Cert.GatesBackRefIdeal.nD Cert.GatesBackRefIdeal.τ).loc Cert.GatesBackRefIdeal.main_arg2) = m ((c.tc : Thread Cert.GatesBackIdeal.nD Cert.GatesBackIdeal.τ).loc Cert.GatesBackIdeal.main_arg2)
      ∧ m' ((c.tc : Thread Cert.GatesBackRefIdeal.nD Cert.GatesBackRefIdeal.τ).loc Cert.GatesBackRefIdeal.main_arg3) = m ((c.tc : Thread Cert.GatesBackIdeal.nD Cert.GatesBackIdeal.τ).loc Cert.GatesBackIdeal.main_arg3)) →
    ∃ (v0 : (c : Dev Cert.GatesBackIdeal.nD) → Buf (Elt Ideal) ((c.tc : Thread Cert.GatesBackIdeal.nD Cert.GatesBackIdeal.τ).loc Cert.GatesBackIdeal.main_v0_0)) (v1 : (c : Dev Cert.GatesBackIdeal.nD) → Buf (Elt Ideal) ((c.tc : Thread Cert.GatesBackIdeal.nD Cert.GatesBackIdeal.τ).loc Cert.GatesBackIdeal.main_v0_1)) (v2 : (c : Dev Cert.GatesBackIdeal.nD) → Buf (Elt Ideal) ((c.tc : Thread Cert.GatesBackIdeal.nD Cert.GatesBackIdeal.τ).loc Cert.GatesBackIdeal.main_v0_2)),
      θ_run (Cert.GatesBackIdeal.defs (F := Ideal)) (onTc (τ := Cert.GatesBackIdeal.τ) (Cert.GatesBackIdeal.main (F := Ideal))) ⟨m, fun _ => 0, g⟩ (fun r => ∀ c : Dev Cert.GatesBackIdeal.nD,
          r.2.mem ((c.tc : Thread Cert.GatesBackIdeal.nD Cert.GatesBackIdeal.τ).loc Cert.GatesBackIdeal.main_v0_0) = v0 c
          ∧ r.2.mem ((c.tc : Thread Cert.GatesBackIdeal.nD Cert.GatesBackIdeal.τ).loc Cert.GatesBackIdeal.main_v0_1) = v1 c
          ∧ r.2.mem ((c.tc : Thread Cert.GatesBackIdeal.nD Cert.GatesBackIdeal.τ).loc Cert.GatesBackIdeal.main_v0_2) = v2 c
          ∧ r.2.mem ((c.tc : Thread Cert.GatesBackIdeal.nD Cert.GatesBackIdeal.τ).loc Cert.GatesBackIdeal.main_arg0) = m ((c.tc : Thread Cert.GatesBackIdeal.nD Cert.GatesBackIdeal.τ).loc Cert.GatesBackIdeal.main_arg0)
          ∧ r.2.mem ((c.tc : Thread Cert.GatesBackIdeal.nD Cert.GatesBackIdeal.τ).loc Cert.GatesBackIdeal.main_arg1) = m ((c.tc : Thread Cert.GatesBackIdeal.nD Cert.GatesBackIdeal.τ).loc Cert.GatesBackIdeal.main_arg1)
          ∧ r.2.mem ((c.tc : Thread Cert.GatesBackIdeal.nD Cert.GatesBackIdeal.τ).loc Cert.GatesBackIdeal.main_arg2) = m ((c.tc : Thread Cert.GatesBackIdeal.nD Cert.GatesBackIdeal.τ).loc Cert.GatesBackIdeal.main_arg2)
          ∧ r.2.mem ((c.tc : Thread Cert.GatesBackIdeal.nD Cert.GatesBackIdeal.τ).loc Cert.GatesBackIdeal.main_arg3) = m ((c.tc : Thread Cert.GatesBackIdeal.nD Cert.GatesBackIdeal.τ).loc Cert.GatesBackIdeal.main_arg3))
      ∧ θ_run (Cert.GatesBackRefIdeal.defs (F := Ideal)) (onTc (τ := Cert.GatesBackRefIdeal.τ) (Cert.GatesBackRefIdeal.main (F := Ideal))) ⟨m', fun _ => 0, g'⟩ (fun r => ∀ c : Dev Cert.GatesBackRefIdeal.nD,
          r.2.mem ((c.tc : Thread Cert.GatesBackRefIdeal.nD Cert.GatesBackRefIdeal.τ).loc Cert.GatesBackRefIdeal.main_v34) = v0 c
          ∧ r.2.mem ((c.tc : Thread Cert.GatesBackRefIdeal.nD Cert.GatesBackRefIdeal.τ).loc Cert.GatesBackRefIdeal.main_v44) = v1 c
          ∧ r.2.mem ((c.tc : Thread Cert.GatesBackRefIdeal.nD Cert.GatesBackRefIdeal.τ).loc Cert.GatesBackRefIdeal.main_v46) = v2 c
          ∧ r.2.mem ((c.tc : Thread Cert.GatesBackRefIdeal.nD Cert.GatesBackRefIdeal.τ).loc Cert.GatesBackRefIdeal.main_arg0) = m' ((c.tc : Thread Cert.GatesBackRefIdeal.nD Cert.GatesBackRefIdeal.τ).loc Cert.GatesBackRefIdeal.main_arg0)
          ∧ r.2.mem ((c.tc : Thread Cert.GatesBackRefIdeal.nD Cert.GatesBackRefIdeal.τ).loc Cert.GatesBackRefIdeal.main_arg1) = m' ((c.tc : Thread Cert.GatesBackRefIdeal.nD Cert.GatesBackRefIdeal.τ).loc Cert.GatesBackRefIdeal.main_arg1)
          ∧ r.2.mem ((c.tc : Thread Cert.GatesBackRefIdeal.nD Cert.GatesBackRefIdeal.τ).loc Cert.GatesBackRefIdeal.main_arg2) = m' ((c.tc : Thread Cert.GatesBackRefIdeal.nD Cert.GatesBackRefIdeal.τ).loc Cert.GatesBackRefIdeal.main_arg2)
          ∧ r.2.mem ((c.tc : Thread Cert.GatesBackRefIdeal.nD Cert.GatesBackRefIdeal.τ).loc Cert.GatesBackRefIdeal.main_arg3) = m' ((c.tc : Thread Cert.GatesBackRefIdeal.nD Cert.GatesBackRefIdeal.τ).loc Cert.GatesBackRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v69) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_MergeBack_MergeBackIdeal : Prop :=
  True

def algebraic_MergeBackIdeal_MergeBackRefIdeal [hMergeBackIdeal : Cert.MergeBackIdeal.Facts] [hMergeBackRefIdeal : Cert.MergeBackRefIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg)
    (m' : (ℓ : Loc Cert.MergeBackRefIdeal.nD Cert.MergeBackRefIdeal.τ Cert.MergeBackRefIdeal.sig) → Buf (Elt Ideal) ℓ) (g' : Dev Cert.MergeBackRefIdeal.nD → PrngReg), Pre_MergeBackIdeal m →
    (∀ c : Dev Cert.MergeBackIdeal.nD,
      m' ((c.tc : Thread Cert.MergeBackRefIdeal.nD Cert.MergeBackRefIdeal.τ).loc Cert.MergeBackRefIdeal.main_arg0) = m ((c.tc : Thread Cert.MergeBackIdeal.nD Cert.MergeBackIdeal.τ).loc Cert.MergeBackIdeal.main_arg0)
      ∧ m' ((c.tc : Thread Cert.MergeBackRefIdeal.nD Cert.MergeBackRefIdeal.τ).loc Cert.MergeBackRefIdeal.main_arg1) = m ((c.tc : Thread Cert.MergeBackIdeal.nD Cert.MergeBackIdeal.τ).loc Cert.MergeBackIdeal.main_arg1)
      ∧ m' ((c.tc : Thread Cert.MergeBackRefIdeal.nD Cert.MergeBackRefIdeal.τ).loc Cert.MergeBackRefIdeal.main_arg2) = m ((c.tc : Thread Cert.MergeBackIdeal.nD Cert.MergeBackIdeal.τ).loc Cert.MergeBackIdeal.main_arg2)
      ∧ m' ((c.tc : Thread Cert.MergeBackRefIdeal.nD Cert.MergeBackRefIdeal.τ).loc Cert.MergeBackRefIdeal.main_arg3) = m ((c.tc : Thread Cert.MergeBackIdeal.nD Cert.MergeBackIdeal.τ).loc Cert.MergeBackIdeal.main_arg3)
      ∧ m' ((c.tc : Thread Cert.MergeBackRefIdeal.nD Cert.MergeBackRefIdeal.τ).loc Cert.MergeBackRefIdeal.main_arg4) = m ((c.tc : Thread Cert.MergeBackIdeal.nD Cert.MergeBackIdeal.τ).loc Cert.MergeBackIdeal.main_arg4)
      ∧ m' ((c.tc : Thread Cert.MergeBackRefIdeal.nD Cert.MergeBackRefIdeal.τ).loc Cert.MergeBackRefIdeal.main_arg5) = m ((c.tc : Thread Cert.MergeBackIdeal.nD Cert.MergeBackIdeal.τ).loc Cert.MergeBackIdeal.main_arg5)) →
    ∃ (v0 : (c : Dev Cert.MergeBackIdeal.nD) → Buf (Elt Ideal) ((c.tc : Thread Cert.MergeBackIdeal.nD Cert.MergeBackIdeal.τ).loc Cert.MergeBackIdeal.main_v0_0)) (v1 : (c : Dev Cert.MergeBackIdeal.nD) → Buf (Elt Ideal) ((c.tc : Thread Cert.MergeBackIdeal.nD Cert.MergeBackIdeal.τ).loc Cert.MergeBackIdeal.main_v0_1)) (v2 : (c : Dev Cert.MergeBackIdeal.nD) → Buf (Elt Ideal) ((c.tc : Thread Cert.MergeBackIdeal.nD Cert.MergeBackIdeal.τ).loc Cert.MergeBackIdeal.main_v0_2)) (v3 : (c : Dev Cert.MergeBackIdeal.nD) → Buf (Elt Ideal) ((c.tc : Thread Cert.MergeBackIdeal.nD Cert.MergeBackIdeal.τ).loc Cert.MergeBackIdeal.main_v0_3)) (v4 : (c : Dev Cert.MergeBackIdeal.nD) → Buf (Elt Ideal) ((c.tc : Thread Cert.MergeBackIdeal.nD Cert.MergeBackIdeal.τ).loc Cert.MergeBackIdeal.main_v0_4)) (v5 : (c : Dev Cert.MergeBackIdeal.nD) → Buf (Elt Ideal) ((c.tc : Thread Cert.MergeBackIdeal.nD Cert.MergeBackIdeal.τ).loc Cert.MergeBackIdeal.main_v0_5)) (v6 : (c : Dev Cert.MergeBackIdeal.nD) → Buf (Elt Ideal) ((c.tc : Thread Cert.MergeBackIdeal.nD Cert.MergeBackIdeal.τ).loc Cert.MergeBackIdeal.main_v0_6)) (v7 : (c : Dev Cert.MergeBackIdeal.nD) → Buf (Elt Ideal) ((c.tc : Thread Cert.MergeBackIdeal.nD Cert.MergeBackIdeal.τ).loc Cert.MergeBackIdeal.main_v0_7)),
      θ_run (Cert.MergeBackIdeal.defs (F := Ideal)) (onTc (τ := Cert.MergeBackIdeal.τ) (Cert.MergeBackIdeal.main (F := Ideal))) ⟨m, fun _ => 0, g⟩ (fun r => ∀ c : Dev Cert.MergeBackIdeal.nD,
          r.2.mem ((c.tc : Thread Cert.MergeBackIdeal.nD Cert.MergeBackIdeal.τ).loc Cert.MergeBackIdeal.main_v0_0) = v0 c
          ∧ r.2.mem ((c.tc : Thread Cert.MergeBackIdeal.nD Cert.MergeBackIdeal.τ).loc Cert.MergeBackIdeal.main_v0_1) = v1 c
          ∧ r.2.mem ((c.tc : Thread Cert.MergeBackIdeal.nD Cert.MergeBackIdeal.τ).loc Cert.MergeBackIdeal.main_v0_2) = v2 c
          ∧ r.2.mem ((c.tc : Thread Cert.MergeBackIdeal.nD Cert.MergeBackIdeal.τ).loc Cert.MergeBackIdeal.main_v0_3) = v3 c
          ∧ r.2.mem ((c.tc : Thread Cert.MergeBackIdeal.nD Cert.MergeBackIdeal.τ).loc Cert.MergeBackIdeal.main_v0_4) = v4 c
          ∧ r.2.mem ((c.tc : Thread Cert.MergeBackIdeal.nD Cert.MergeBackIdeal.τ).loc Cert.MergeBackIdeal.main_v0_5) = v5 c
          ∧ r.2.mem ((c.tc : Thread Cert.MergeBackIdeal.nD Cert.MergeBackIdeal.τ).loc Cert.MergeBackIdeal.main_v0_6) = v6 c
          ∧ r.2.mem ((c.tc : Thread Cert.MergeBackIdeal.nD Cert.MergeBackIdeal.τ).loc Cert.MergeBackIdeal.main_v0_7) = v7 c
          ∧ r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
          ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
          ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
          ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3)
          ∧ r.2.mem ((c.tc : Thread Cert.MergeBackIdeal.nD Cert.MergeBackIdeal.τ).loc Cert.MergeBackIdeal.main_arg4) = m ((c.tc : Thread Cert.MergeBackIdeal.nD Cert.MergeBackIdeal.τ).loc Cert.MergeBackIdeal.main_arg4)
          ∧ r.2.mem ((c.tc : Thread Cert.MergeBackIdeal.nD Cert.MergeBackIdeal.τ).loc Cert.MergeBackIdeal.main_arg5) = m ((c.tc : Thread Cert.MergeBackIdeal.nD Cert.MergeBackIdeal.τ).loc Cert.MergeBackIdeal.main_arg5))
      ∧ θ_run (Cert.MergeBackRefIdeal.defs (F := Ideal)) (onTc (τ := Cert.MergeBackRefIdeal.τ) (Cert.MergeBackRefIdeal.main (F := Ideal))) ⟨m', fun _ => 0, g'⟩ (fun r => ∀ c : Dev Cert.MergeBackRefIdeal.nD,
          r.2.mem ((c.tc : Thread Cert.MergeBackRefIdeal.nD Cert.MergeBackRefIdeal.τ).loc Cert.MergeBackRefIdeal.main_v140) = v0 c
          ∧ r.2.mem ((c.tc : Thread Cert.MergeBackRefIdeal.nD Cert.MergeBackRefIdeal.τ).loc Cert.MergeBackRefIdeal.main_v141) = v1 c
          ∧ r.2.mem ((c.tc : Thread Cert.MergeBackRefIdeal.nD Cert.MergeBackRefIdeal.τ).loc Cert.MergeBackRefIdeal.main_v142) = v2 c
          ∧ r.2.mem ((c.tc : Thread Cert.MergeBackRefIdeal.nD Cert.MergeBackRefIdeal.τ).loc Cert.MergeBackRefIdeal.main_v143) = v3 c
          ∧ r.2.mem ((c.tc : Thread Cert.MergeBackRefIdeal.nD Cert.MergeBackRefIdeal.τ).loc Cert.MergeBackRefIdeal.main_v144) = v4 c
          ∧ r.2.mem ((c.tc : Thread Cert.MergeBackRefIdeal.nD Cert.MergeBackRefIdeal.τ).loc Cert.MergeBackRefIdeal.main_v145) = v5 c
          ∧ r.2.mem ((c.tc : Thread Cert.MergeBackRefIdeal.nD Cert.MergeBackRefIdeal.τ).loc Cert.MergeBackRefIdeal.main_v103) = v6 c
          ∧ r.2.mem ((c.tc : Thread Cert.MergeBackRefIdeal.nD Cert.MergeBackRefIdeal.τ).loc Cert.MergeBackRefIdeal.main_v107) = v7 c
          ∧ r.2.mem ((c.tc : Thread Cert.MergeBackRefIdeal.nD Cert.MergeBackRefIdeal.τ).loc Cert.MergeBackRefIdeal.main_arg0) = m' ((c.tc : Thread Cert.MergeBackRefIdeal.nD Cert.MergeBackRefIdeal.τ).loc Cert.MergeBackRefIdeal.main_arg0)
          ∧ r.2.mem ((c.tc : Thread Cert.MergeBackRefIdeal.nD Cert.MergeBackRefIdeal.τ).loc Cert.MergeBackRefIdeal.main_arg1) = m' ((c.tc : Thread Cert.MergeBackRefIdeal.nD Cert.MergeBackRefIdeal.τ).loc Cert.MergeBackRefIdeal.main_arg1)
          ∧ r.2.mem ((c.tc : Thread Cert.MergeBackRefIdeal.nD Cert.MergeBackRefIdeal.τ).loc Cert.MergeBackRefIdeal.main_arg2) = m' ((c.tc : Thread Cert.MergeBackRefIdeal.nD Cert.MergeBackRefIdeal.τ).loc Cert.MergeBackRefIdeal.main_arg2)
          ∧ r.2.mem ((c.tc : Thread Cert.MergeBackRefIdeal.nD Cert.MergeBackRefIdeal.τ).loc Cert.MergeBackRefIdeal.main_arg3) = m' ((c.tc : Thread Cert.MergeBackRefIdeal.nD Cert.MergeBackRefIdeal.τ).loc Cert.MergeBackRefIdeal.main_arg3)
          ∧ r.2.mem ((c.tc : Thread Cert.MergeBackRefIdeal.nD Cert.MergeBackRefIdeal.τ).loc Cert.MergeBackRefIdeal.main_arg4) = m' ((c.tc : Thread Cert.MergeBackRefIdeal.nD Cert.MergeBackRefIdeal.τ).loc Cert.MergeBackRefIdeal.main_arg4)
          ∧ r.2.mem ((c.tc : Thread Cert.MergeBackRefIdeal.nD Cert.MergeBackRefIdeal.τ).loc Cert.MergeBackRefIdeal.main_arg5) = m' ((c.tc : Thread Cert.MergeBackRefIdeal.nD Cert.MergeBackRefIdeal.τ).loc Cert.MergeBackRefIdeal.main_arg5))

def preserves_ConvPre_ConvPreIdeal : Prop :=
  True

def algebraic_ConvPreIdeal_ConvPreRefIdeal [hConvPreIdeal : Cert.ConvPreIdeal.Facts] [hConvPreRefIdeal : Cert.ConvPreRefIdeal.Facts] : Prop :=
  ∀ (m : (ℓ : Loc Cert.ConvPreIdeal.nD Cert.ConvPreIdeal.τ Cert.ConvPreIdeal.sig) → Buf (Elt Ideal) ℓ) (g : Dev Cert.ConvPreIdeal.nD → PrngReg)
    (m' : (ℓ : Loc Cert.ConvPreRefIdeal.nD Cert.ConvPreRefIdeal.τ Cert.ConvPreRefIdeal.sig) → Buf (Elt Ideal) ℓ) (g' : Dev Cert.ConvPreRefIdeal.nD → PrngReg), Pre_ConvPreIdeal m →
    (∀ c : Dev Cert.ConvPreIdeal.nD,
      m' ((c.tc : Thread Cert.ConvPreRefIdeal.nD Cert.ConvPreRefIdeal.τ).loc Cert.ConvPreRefIdeal.main_arg0) = m ((c.tc : Thread Cert.ConvPreIdeal.nD Cert.ConvPreIdeal.τ).loc Cert.ConvPreIdeal.main_arg0)
      ∧ m' ((c.tc : Thread Cert.ConvPreRefIdeal.nD Cert.ConvPreRefIdeal.τ).loc Cert.ConvPreRefIdeal.main_arg1) = m ((c.tc : Thread Cert.ConvPreIdeal.nD Cert.ConvPreIdeal.τ).loc Cert.ConvPreIdeal.main_arg1)
      ∧ m' ((c.tc : Thread Cert.ConvPreRefIdeal.nD Cert.ConvPreRefIdeal.τ).loc Cert.ConvPreRefIdeal.main_arg2) = m ((c.tc : Thread Cert.ConvPreIdeal.nD Cert.ConvPreIdeal.τ).loc Cert.ConvPreIdeal.main_arg2)
      ∧ m' ((c.tc : Thread Cert.ConvPreRefIdeal.nD Cert.ConvPreRefIdeal.τ).loc Cert.ConvPreRefIdeal.main_arg3) = m ((c.tc : Thread Cert.ConvPreIdeal.nD Cert.ConvPreIdeal.τ).loc Cert.ConvPreIdeal.main_arg3)
      ∧ m' ((c.tc : Thread Cert.ConvPreRefIdeal.nD Cert.ConvPreRefIdeal.τ).loc Cert.ConvPreRefIdeal.main_arg4) = m ((c.tc : Thread Cert.ConvPreIdeal.nD Cert.ConvPreIdeal.τ).loc Cert.ConvPreIdeal.main_arg4)) →
    ∃ (v0 : (c : Dev Cert.ConvPreIdeal.nD) → Buf (Elt Ideal) ((c.tc : Thread Cert.ConvPreIdeal.nD Cert.ConvPreIdeal.τ).loc Cert.ConvPreIdeal.main_v0)),
      θ_run (Cert.ConvPreIdeal.defs (F := Ideal)) (onTc (τ := Cert.ConvPreIdeal.τ) (Cert.ConvPreIdeal.main (F := Ideal))) ⟨m, fun _ => 0, g⟩ (fun r => ∀ c : Dev Cert.ConvPreIdeal.nD,
          r.2.mem ((c.tc : Thread Cert.ConvPreIdeal.nD Cert.ConvPreIdeal.τ).loc Cert.ConvPreIdeal.main_v0) = v0 c
          ∧ r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
          ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
          ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
          ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3)
          ∧ r.2.mem ((c.tc : Thread Cert.ConvPreIdeal.nD Cert.ConvPreIdeal.τ).loc Cert.ConvPreIdeal.main_arg4) = m ((c.tc : Thread Cert.ConvPreIdeal.nD Cert.ConvPreIdeal.τ).loc Cert.ConvPreIdeal.main_arg4))
      ∧ θ_run (Cert.ConvPreRefIdeal.defs (F := Ideal)) (onTc (τ := Cert.ConvPreRefIdeal.τ) (Cert.ConvPreRefIdeal.main (F := Ideal))) ⟨m', fun _ => 0, g'⟩ (fun r => ∀ c : Dev Cert.ConvPreRefIdeal.nD,
          r.2.mem ((c.tc : Thread Cert.ConvPreRefIdeal.nD Cert.ConvPreRefIdeal.τ).loc Cert.ConvPreRefIdeal.main_v72) = v0 c
          ∧ r.2.mem ((c.tc : Thread Cert.ConvPreRefIdeal.nD Cert.ConvPreRefIdeal.τ).loc Cert.ConvPreRefIdeal.main_arg0) = m' ((c.tc : Thread Cert.ConvPreRefIdeal.nD Cert.ConvPreRefIdeal.τ).loc Cert.ConvPreRefIdeal.main_arg0)
          ∧ r.2.mem ((c.tc : Thread Cert.ConvPreRefIdeal.nD Cert.ConvPreRefIdeal.τ).loc Cert.ConvPreRefIdeal.main_arg1) = m' ((c.tc : Thread Cert.ConvPreRefIdeal.nD Cert.ConvPreRefIdeal.τ).loc Cert.ConvPreRefIdeal.main_arg1)
          ∧ r.2.mem ((c.tc : Thread Cert.ConvPreRefIdeal.nD Cert.ConvPreRefIdeal.τ).loc Cert.ConvPreRefIdeal.main_arg2) = m' ((c.tc : Thread Cert.ConvPreRefIdeal.nD Cert.ConvPreRefIdeal.τ).loc Cert.ConvPreRefIdeal.main_arg2)
          ∧ r.2.mem ((c.tc : Thread Cert.ConvPreRefIdeal.nD Cert.ConvPreRefIdeal.τ).loc Cert.ConvPreRefIdeal.main_arg3) = m' ((c.tc : Thread Cert.ConvPreRefIdeal.nD Cert.ConvPreRefIdeal.τ).loc Cert.ConvPreRefIdeal.main_arg3)
          ∧ r.2.mem ((c.tc : Thread Cert.ConvPreRefIdeal.nD Cert.ConvPreRefIdeal.τ).loc Cert.ConvPreRefIdeal.main_arg4) = m' ((c.tc : Thread Cert.ConvPreRefIdeal.nD Cert.ConvPreRefIdeal.τ).loc Cert.ConvPreRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v58) = v0 c
          ∧ r.2.mem ((c.tc : Thread Cert.ConvRefIdeal.nD Cert.ConvRefIdeal.τ).loc Cert.ConvRefIdeal.main_v59) = v1 c
          ∧ r.2.mem ((c.tc : Thread Cert.ConvRefIdeal.nD Cert.ConvRefIdeal.τ).loc Cert.ConvRefIdeal.main_v60) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_PairOut_PairOutIdeal : Prop :=
  True

def algebraic_PairOutIdeal_PairOutRefIdeal [hPairOutIdeal : Cert.PairOutIdeal.Facts] [hPairOutRefIdeal : Cert.PairOutRefIdeal.Facts] [hPre_a_core : Cert.Pre_a_core.Facts] : Prop :=
  ∀ (m : (ℓ : Loc Cert.PairOutIdeal.nD Cert.PairOutIdeal.τ Cert.PairOutIdeal.sig) → Buf (Elt Ideal) ℓ) (g : Dev Cert.PairOutIdeal.nD → PrngReg)
    (m' : (ℓ : Loc Cert.PairOutRefIdeal.nD Cert.PairOutRefIdeal.τ Cert.PairOutRefIdeal.sig) → Buf (Elt Ideal) ℓ) (g' : Dev Cert.PairOutRefIdeal.nD → PrngReg), Pre_PairOutIdeal m →
    (∀ c : Dev Cert.PairOutIdeal.nD,
      m' ((c.tc : Thread Cert.PairOutRefIdeal.nD Cert.PairOutRefIdeal.τ).loc Cert.PairOutRefIdeal.main_arg0) = m ((c.tc : Thread Cert.PairOutIdeal.nD Cert.PairOutIdeal.τ).loc Cert.PairOutIdeal.main_arg0)
      ∧ m' ((c.tc : Thread Cert.PairOutRefIdeal.nD Cert.PairOutRefIdeal.τ).loc Cert.PairOutRefIdeal.main_arg1) = m ((c.tc : Thread Cert.PairOutIdeal.nD Cert.PairOutIdeal.τ).loc Cert.PairOutIdeal.main_arg1)
      ∧ m' ((c.tc : Thread Cert.PairOutRefIdeal.nD Cert.PairOutRefIdeal.τ).loc Cert.PairOutRefIdeal.main_arg2) = m ((c.tc : Thread Cert.PairOutIdeal.nD Cert.PairOutIdeal.τ).loc Cert.PairOutIdeal.main_arg2)) →
    ∃ (v0 : (c : Dev Cert.PairOutIdeal.nD) → Buf (Elt Ideal) ((c.tc : Thread Cert.PairOutIdeal.nD Cert.PairOutIdeal.τ).loc Cert.PairOutIdeal.main_v0)),
      θ_run (Cert.PairOutIdeal.defs (F := Ideal)) (onTc (τ := Cert.PairOutIdeal.τ) (Cert.PairOutIdeal.main (F := Ideal))) ⟨m, fun _ => 0, g⟩ (fun r => ∀ c : Dev Cert.PairOutIdeal.nD,
          r.2.mem ((c.tc : Thread Cert.PairOutIdeal.nD Cert.PairOutIdeal.τ).loc Cert.PairOutIdeal.main_v0) = v0 c
          ∧ r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
          ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1)
          ∧ r.2.mem ((c.tc : Thread Cert.PairOutIdeal.nD Cert.PairOutIdeal.τ).loc Cert.PairOutIdeal.main_arg2) = m ((c.tc : Thread Cert.PairOutIdeal.nD Cert.PairOutIdeal.τ).loc Cert.PairOutIdeal.main_arg2))
      ∧ θ_run (Cert.PairOutRefIdeal.defs (F := Ideal)) (onTc (τ := Cert.PairOutRefIdeal.τ) (Cert.PairOutRefIdeal.main (F := Ideal))) ⟨m', fun _ => 0, g'⟩ (fun r => ∀ c : Dev Cert.PairOutRefIdeal.nD,
          r.2.mem ((c.tc : Thread Cert.PairOutRefIdeal.nD Cert.PairOutRefIdeal.τ).loc Cert.PairOutRefIdeal.main_v11) = v0 c
          ∧ r.2.mem ((c.tc : Thread Cert.PairOutRefIdeal.nD Cert.PairOutRefIdeal.τ).loc Cert.PairOutRefIdeal.main_arg0) = m' ((c.tc : Thread Cert.PairOutRefIdeal.nD Cert.PairOutRefIdeal.τ).loc Cert.PairOutRefIdeal.main_arg0)
          ∧ r.2.mem ((c.tc : Thread Cert.PairOutRefIdeal.nD Cert.PairOutRefIdeal.τ).loc Cert.PairOutRefIdeal.main_arg1) = m' ((c.tc : Thread Cert.PairOutRefIdeal.nD Cert.PairOutRefIdeal.τ).loc Cert.PairOutRefIdeal.main_arg1)
          ∧ r.2.mem ((c.tc : Thread Cert.PairOutRefIdeal.nD Cert.PairOutRefIdeal.τ).loc Cert.PairOutRefIdeal.main_arg2) = m' ((c.tc : Thread Cert.PairOutRefIdeal.nD Cert.PairOutRefIdeal.τ).loc Cert.PairOutRefIdeal.main_arg2))

def preserves_PairIn_PairInIdeal : Prop :=
  True

def algebraic_PairInIdeal_PairInRefIdeal [hPairInIdeal : Cert.PairInIdeal.Facts] [hPairInRefIdeal : Cert.PairInRefIdeal.Facts] [hPre_a_core_in : Cert.Pre_a_core_in.Facts] : Prop :=
  ∀ (m : (ℓ : Loc Cert.PairInIdeal.nD Cert.PairInIdeal.τ Cert.PairInIdeal.sig) → Buf (Elt Ideal) ℓ) (g : Dev Cert.PairInIdeal.nD → PrngReg)
    (m' : (ℓ : Loc Cert.PairInRefIdeal.nD Cert.PairInRefIdeal.τ Cert.PairInRefIdeal.sig) → Buf (Elt Ideal) ℓ) (g' : Dev Cert.PairInRefIdeal.nD → PrngReg), Pre_PairInIdeal m →
    (∀ c : Dev Cert.PairInIdeal.nD,
      m' ((c.tc : Thread Cert.PairInRefIdeal.nD Cert.PairInRefIdeal.τ).loc Cert.PairInRefIdeal.main_arg0) = m ((c.tc : Thread Cert.PairInIdeal.nD Cert.PairInIdeal.τ).loc Cert.PairInIdeal.main_arg0)
      ∧ m' ((c.tc : Thread Cert.PairInRefIdeal.nD Cert.PairInRefIdeal.τ).loc Cert.PairInRefIdeal.main_arg1) = m ((c.tc : Thread Cert.PairInIdeal.nD Cert.PairInIdeal.τ).loc Cert.PairInIdeal.main_arg1)
      ∧ m' ((c.tc : Thread Cert.PairInRefIdeal.nD Cert.PairInRefIdeal.τ).loc Cert.PairInRefIdeal.main_arg2) = m ((c.tc : Thread Cert.PairInIdeal.nD Cert.PairInIdeal.τ).loc Cert.PairInIdeal.main_arg2)) →
    ∃ (v0 : (c : Dev Cert.PairInIdeal.nD) → Buf (Elt Ideal) ((c.tc : Thread Cert.PairInIdeal.nD Cert.PairInIdeal.τ).loc Cert.PairInIdeal.main_v0)),
      θ_run (Cert.PairInIdeal.defs (F := Ideal)) (onTc (τ := Cert.PairInIdeal.τ) (Cert.PairInIdeal.main (F := Ideal))) ⟨m, fun _ => 0, g⟩ (fun r => ∀ c : Dev Cert.PairInIdeal.nD,
          r.2.mem ((c.tc : Thread Cert.PairInIdeal.nD Cert.PairInIdeal.τ).loc Cert.PairInIdeal.main_v0) = v0 c
          ∧ r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
          ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1)
          ∧ r.2.mem ((c.tc : Thread Cert.PairInIdeal.nD Cert.PairInIdeal.τ).loc Cert.PairInIdeal.main_arg2) = m ((c.tc : Thread Cert.PairInIdeal.nD Cert.PairInIdeal.τ).loc Cert.PairInIdeal.main_arg2))
      ∧ θ_run (Cert.PairInRefIdeal.defs (F := Ideal)) (onTc (τ := Cert.PairInRefIdeal.τ) (Cert.PairInRefIdeal.main (F := Ideal))) ⟨m', fun _ => 0, g'⟩ (fun r => ∀ c : Dev Cert.PairInRefIdeal.nD,
          r.2.mem ((c.tc : Thread Cert.PairInRefIdeal.nD Cert.PairInRefIdeal.τ).loc Cert.PairInRefIdeal.main_v11) = v0 c
          ∧ r.2.mem ((c.tc : Thread Cert.PairInRefIdeal.nD Cert.PairInRefIdeal.τ).loc Cert.PairInRefIdeal.main_arg0) = m' ((c.tc : Thread Cert.PairInRefIdeal.nD Cert.PairInRefIdeal.τ).loc Cert.PairInRefIdeal.main_arg0)
          ∧ r.2.mem ((c.tc : Thread Cert.PairInRefIdeal.nD Cert.PairInRefIdeal.τ).loc Cert.PairInRefIdeal.main_arg1) = m' ((c.tc : Thread Cert.PairInRefIdeal.nD Cert.PairInRefIdeal.τ).loc Cert.PairInRefIdeal.main_arg1)
          ∧ r.2.mem ((c.tc : Thread Cert.PairInRefIdeal.nD Cert.PairInRefIdeal.τ).loc Cert.PairInRefIdeal.main_arg2) = m' ((c.tc : Thread Cert.PairInRefIdeal.nD Cert.PairInRefIdeal.τ).loc Cert.PairInRefIdeal.main_arg2))

def preserves_PairGate_PairGateIdeal : Prop :=
  True

def algebraic_PairGateIdeal_PairGateRefIdeal [hPairGateIdeal : Cert.PairGateIdeal.Facts] [hPairGateRefIdeal : Cert.PairGateRefIdeal.Facts] [hPre_a_core_gate : Cert.Pre_a_core_gate.Facts] : Prop :=
  ∀ (m : (ℓ : Loc Cert.PairGateIdeal.nD Cert.PairGateIdeal.τ Cert.PairGateIdeal.sig) → Buf (Elt Ideal) ℓ) (g : Dev Cert.PairGateIdeal.nD → PrngReg)
    (m' : (ℓ : Loc Cert.PairGateRefIdeal.nD Cert.PairGateRefIdeal.τ Cert.PairGateRefIdeal.sig) → Buf (Elt Ideal) ℓ) (g' : Dev Cert.PairGateRefIdeal.nD → PrngReg), Pre_PairGateIdeal m →
    (∀ c : Dev Cert.PairGateIdeal.nD,
      m' ((c.tc : Thread Cert.PairGateRefIdeal.nD Cert.PairGateRefIdeal.τ).loc Cert.PairGateRefIdeal.main_arg0) = m ((c.tc : Thread Cert.PairGateIdeal.nD Cert.PairGateIdeal.τ).loc Cert.PairGateIdeal.main_arg0)
      ∧ m' ((c.tc : Thread Cert.PairGateRefIdeal.nD Cert.PairGateRefIdeal.τ).loc Cert.PairGateRefIdeal.main_arg1) = m ((c.tc : Thread Cert.PairGateIdeal.nD Cert.PairGateIdeal.τ).loc Cert.PairGateIdeal.main_arg1)
      ∧ m' ((c.tc : Thread Cert.PairGateRefIdeal.nD Cert.PairGateRefIdeal.τ).loc Cert.PairGateRefIdeal.main_arg2) = m ((c.tc : Thread Cert.PairGateIdeal.nD Cert.PairGateIdeal.τ).loc Cert.PairGateIdeal.main_arg2)) →
    ∃ (v0 : (c : Dev Cert.PairGateIdeal.nD) → Buf (Elt Ideal) ((c.tc : Thread Cert.PairGateIdeal.nD Cert.PairGateIdeal.τ).loc Cert.PairGateIdeal.main_v0)),
      θ_run (Cert.PairGateIdeal.defs (F := Ideal)) (onTc (τ := Cert.PairGateIdeal.τ) (Cert.PairGateIdeal.main (F := Ideal))) ⟨m, fun _ => 0, g⟩ (fun r => ∀ c : Dev Cert.PairGateIdeal.nD,
          r.2.mem ((c.tc : Thread Cert.PairGateIdeal.nD Cert.PairGateIdeal.τ).loc Cert.PairGateIdeal.main_v0) = v0 c
          ∧ r.2.mem ((c.tc : Thread Cert.PairGateIdeal.nD Cert.PairGateIdeal.τ).loc Cert.PairGateIdeal.main_arg0) = m ((c.tc : Thread Cert.PairGateIdeal.nD Cert.PairGateIdeal.τ).loc Cert.PairGateIdeal.main_arg0)
          ∧ r.2.mem ((c.tc : Thread Cert.PairGateIdeal.nD Cert.PairGateIdeal.τ).loc Cert.PairGateIdeal.main_arg1) = m ((c.tc : Thread Cert.PairGateIdeal.nD Cert.PairGateIdeal.τ).loc Cert.PairGateIdeal.main_arg1)
          ∧ r.2.mem ((c.tc : Thread Cert.PairGateIdeal.nD Cert.PairGateIdeal.τ).loc Cert.PairGateIdeal.main_arg2) = m ((c.tc : Thread Cert.PairGateIdeal.nD Cert.PairGateIdeal.τ).loc Cert.PairGateIdeal.main_arg2))
      ∧ θ_run (Cert.PairGateRefIdeal.defs (F := Ideal)) (onTc (τ := Cert.PairGateRefIdeal.τ) (Cert.PairGateRefIdeal.main (F := Ideal))) ⟨m', fun _ => 0, g'⟩ (fun r => ∀ c : Dev Cert.PairGateRefIdeal.nD,
          r.2.mem ((c.tc : Thread Cert.PairGateRefIdeal.nD Cert.PairGateRefIdeal.τ).loc Cert.PairGateRefIdeal.main_v11) = v0 c
          ∧ r.2.mem ((c.tc : Thread Cert.PairGateRefIdeal.nD Cert.PairGateRefIdeal.τ).loc Cert.PairGateRefIdeal.main_arg0) = m' ((c.tc : Thread Cert.PairGateRefIdeal.nD Cert.PairGateRefIdeal.τ).loc Cert.PairGateRefIdeal.main_arg0)
          ∧ r.2.mem ((c.tc : Thread Cert.PairGateRefIdeal.nD Cert.PairGateRefIdeal.τ).loc Cert.PairGateRefIdeal.main_arg1) = m' ((c.tc : Thread Cert.PairGateRefIdeal.nD Cert.PairGateRefIdeal.τ).loc Cert.PairGateRefIdeal.main_arg1)
          ∧ r.2.mem ((c.tc : Thread Cert.PairGateRefIdeal.nD Cert.PairGateRefIdeal.τ).loc Cert.PairGateRefIdeal.main_arg2) = m' ((c.tc : Thread Cert.PairGateRefIdeal.nD Cert.PairGateRefIdeal.τ).loc Cert.PairGateRefIdeal.main_arg2))

def preserves_PairDown_PairDownIdeal : Prop :=
  True

def algebraic_PairDownIdeal_PairDownRefIdeal [hPairDownIdeal : Cert.PairDownIdeal.Facts] [hPairDownRefIdeal : Cert.PairDownRefIdeal.Facts] [hPre_a_core_down : Cert.Pre_a_core_down.Facts] : Prop :=
  ∀ (m : (ℓ : Loc Cert.PairDownIdeal.nD Cert.PairDownIdeal.τ Cert.PairDownIdeal.sig) → Buf (Elt Ideal) ℓ) (g : Dev Cert.PairDownIdeal.nD → PrngReg)
    (m' : (ℓ : Loc Cert.PairDownRefIdeal.nD Cert.PairDownRefIdeal.τ Cert.PairDownRefIdeal.sig) → Buf (Elt Ideal) ℓ) (g' : Dev Cert.PairDownRefIdeal.nD → PrngReg), Pre_PairDownIdeal m →
    (∀ c : Dev Cert.PairDownIdeal.nD,
      m' ((c.tc : Thread Cert.PairDownRefIdeal.nD Cert.PairDownRefIdeal.τ).loc Cert.PairDownRefIdeal.main_arg0) = m ((c.tc : Thread Cert.PairDownIdeal.nD Cert.PairDownIdeal.τ).loc Cert.PairDownIdeal.main_arg0)
      ∧ m' ((c.tc : Thread Cert.PairDownRefIdeal.nD Cert.PairDownRefIdeal.τ).loc Cert.PairDownRefIdeal.main_arg1) = m ((c.tc : Thread Cert.PairDownIdeal.nD Cert.PairDownIdeal.τ).loc Cert.PairDownIdeal.main_arg1)
      ∧ m' ((c.tc : Thread Cert.PairDownRefIdeal.nD Cert.PairDownRefIdeal.τ).loc Cert.PairDownRefIdeal.main_arg2) = m ((c.tc : Thread Cert.PairDownIdeal.nD Cert.PairDownIdeal.τ).loc Cert.PairDownIdeal.main_arg2)) →
    ∃ (v0 : (c : Dev Cert.PairDownIdeal.nD) → Buf (Elt Ideal) ((c.tc : Thread Cert.PairDownIdeal.nD Cert.PairDownIdeal.τ).loc Cert.PairDownIdeal.main_v0)),
      θ_run (Cert.PairDownIdeal.defs (F := Ideal)) (onTc (τ := Cert.PairDownIdeal.τ) (Cert.PairDownIdeal.main (F := Ideal))) ⟨m, fun _ => 0, g⟩ (fun r => ∀ c : Dev Cert.PairDownIdeal.nD,
          r.2.mem ((c.tc : Thread Cert.PairDownIdeal.nD Cert.PairDownIdeal.τ).loc Cert.PairDownIdeal.main_v0) = v0 c
          ∧ r.2.mem ((c.tc : Thread Cert.PairDownIdeal.nD Cert.PairDownIdeal.τ).loc Cert.PairDownIdeal.main_arg0) = m ((c.tc : Thread Cert.PairDownIdeal.nD Cert.PairDownIdeal.τ).loc Cert.PairDownIdeal.main_arg0)
          ∧ r.2.mem ((c.tc : Thread Cert.PairDownIdeal.nD Cert.PairDownIdeal.τ).loc Cert.PairDownIdeal.main_arg1) = m ((c.tc : Thread Cert.PairDownIdeal.nD Cert.PairDownIdeal.τ).loc Cert.PairDownIdeal.main_arg1)
          ∧ r.2.mem ((c.tc : Thread Cert.PairDownIdeal.nD Cert.PairDownIdeal.τ).loc Cert.PairDownIdeal.main_arg2) = m ((c.tc : Thread Cert.PairDownIdeal.nD Cert.PairDownIdeal.τ).loc Cert.PairDownIdeal.main_arg2))
      ∧ θ_run (Cert.PairDownRefIdeal.defs (F := Ideal)) (onTc (τ := Cert.PairDownRefIdeal.τ) (Cert.PairDownRefIdeal.main (F := Ideal))) ⟨m', fun _ => 0, g'⟩ (fun r => ∀ c : Dev Cert.PairDownRefIdeal.nD,
          r.2.mem ((c.tc : Thread Cert.PairDownRefIdeal.nD Cert.PairDownRefIdeal.τ).loc Cert.PairDownRefIdeal.main_v11) = v0 c
          ∧ r.2.mem ((c.tc : Thread Cert.PairDownRefIdeal.nD Cert.PairDownRefIdeal.τ).loc Cert.PairDownRefIdeal.main_arg0) = m' ((c.tc : Thread Cert.PairDownRefIdeal.nD Cert.PairDownRefIdeal.τ).loc Cert.PairDownRefIdeal.main_arg0)
          ∧ r.2.mem ((c.tc : Thread Cert.PairDownRefIdeal.nD Cert.PairDownRefIdeal.τ).loc Cert.PairDownRefIdeal.main_arg1) = m' ((c.tc : Thread Cert.PairDownRefIdeal.nD Cert.PairDownRefIdeal.τ).loc Cert.PairDownRefIdeal.main_arg1)
          ∧ r.2.mem ((c.tc : Thread Cert.PairDownRefIdeal.nD Cert.PairDownRefIdeal.τ).loc Cert.PairDownRefIdeal.main_arg2) = m' ((c.tc : Thread Cert.PairDownRefIdeal.nD Cert.PairDownRefIdeal.τ).loc Cert.PairDownRefIdeal.main_arg2))

def Claim : Prop :=
  ∃ (hExchange : Cert.Exchange.Facts) (hExchangeIdeal : Cert.ExchangeIdeal.Facts) (hExchangeRefIdeal : Cert.ExchangeRefIdeal.Facts) (hExchangeRef : Cert.ExchangeRef.Facts) (hScatter : Cert.Scatter.Facts) (hScatterIdeal : Cert.ScatterIdeal.Facts) (hScatterRefIdeal : Cert.ScatterRefIdeal.Facts) (hScatterRef : Cert.ScatterRef.Facts) (hShare : Cert.Share.Facts) (hShareIdeal : Cert.ShareIdeal.Facts) (hShareRefIdeal : Cert.ShareRefIdeal.Facts) (hShareRef : Cert.ShareRef.Facts) (hGather : Cert.Gather.Facts) (hGatherIdeal : Cert.GatherIdeal.Facts) (hGatherRefIdeal : Cert.GatherRefIdeal.Facts) (hGatherRef : Cert.GatherRef.Facts) (hUpdateIn : Cert.UpdateIn.Facts) (hUpdateInIdeal : Cert.UpdateInIdeal.Facts) (hUpdateInRefIdeal : Cert.UpdateInRefIdeal.Facts) (hUpdateOut : Cert.UpdateOut.Facts) (hUpdateOutIdeal : Cert.UpdateOutIdeal.Facts) (hUpdateOutRefIdeal : Cert.UpdateOutRefIdeal.Facts) (hUpdateGate : Cert.UpdateGate.Facts) (hUpdateGateIdeal : Cert.UpdateGateIdeal.Facts) (hUpdateGateRefIdeal : Cert.UpdateGateRefIdeal.Facts) (hUpdateDown : Cert.UpdateDown.Facts) (hUpdateDownIdeal : Cert.UpdateDownIdeal.Facts) (hUpdateDownRefIdeal : Cert.UpdateDownRefIdeal.Facts) (hUpdateNorm : Cert.UpdateNorm.Facts) (hUpdateNormIdeal : Cert.UpdateNormIdeal.Facts) (hUpdateNormRefIdeal : Cert.UpdateNormRefIdeal.Facts) (hUpdateConv : Cert.UpdateConv.Facts) (hUpdateConvIdeal : Cert.UpdateConvIdeal.Facts) (hUpdateConvRefIdeal : Cert.UpdateConvRefIdeal.Facts) (hUpdateGdn : Cert.UpdateGdn.Facts) (hUpdateGdnIdeal : Cert.UpdateGdnIdeal.Facts) (hUpdateGdnRefIdeal : Cert.UpdateGdnRefIdeal.Facts) (hUpdateHeads : Cert.UpdateHeads.Facts) (hUpdateHeadsIdeal : Cert.UpdateHeadsIdeal.Facts) (hUpdateHeadsRefIdeal : Cert.UpdateHeadsRefIdeal.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumGate : Cert.SumGate.Facts) (hSumGateIdeal : Cert.SumGateIdeal.Facts) (hSumGateRefIdeal : Cert.SumGateRefIdeal.Facts) (hSumDown : Cert.SumDown.Facts) (hSumDownIdeal : Cert.SumDownIdeal.Facts) (hSumDownRefIdeal : Cert.SumDownRefIdeal.Facts) (hSwiglu : Cert.Swiglu.Facts) (hSwigluIdeal : Cert.SwigluIdeal.Facts) (hSwigluRefIdeal : Cert.SwigluRefIdeal.Facts) (hSwigluBack : Cert.SwigluBack.Facts) (hSwigluBackIdeal : Cert.SwigluBackIdeal.Facts) (hSwigluBackRefIdeal : Cert.SwigluBackRefIdeal.Facts) (hMmProj : Cert.MmProj.Facts) (hMmProjIdeal : Cert.MmProjIdeal.Facts) (hMmProjRefIdeal : Cert.MmProjRefIdeal.Facts) (hMmProjSmall : Cert.MmProjSmall.Facts) (hMmProjSmallIdeal : Cert.MmProjSmallIdeal.Facts) (hMmProjSmallRefIdeal : Cert.MmProjSmallRefIdeal.Facts) (hMmGate : Cert.MmGate.Facts) (hMmGateIdeal : Cert.MmGateIdeal.Facts) (hMmGateRefIdeal : Cert.MmGateRefIdeal.Facts) (hMmOut : Cert.MmOut.Facts) (hMmOutIdeal : Cert.MmOutIdeal.Facts) (hMmOutRefIdeal : Cert.MmOutRefIdeal.Facts) (hMmDown : Cert.MmDown.Facts) (hMmDownIdeal : Cert.MmDownIdeal.Facts) (hMmDownRefIdeal : Cert.MmDownRefIdeal.Facts) (hMmDact : Cert.MmDact.Facts) (hMmDactIdeal : Cert.MmDactIdeal.Facts) (hMmDactRefIdeal : Cert.MmDactRefIdeal.Facts) (hMmHnGate : Cert.MmHnGate.Facts) (hMmHnGateIdeal : Cert.MmHnGateIdeal.Facts) (hMmHnGateRefIdeal : Cert.MmHnGateRefIdeal.Facts) (hMmMix : Cert.MmMix.Facts) (hMmMixIdeal : Cert.MmMixIdeal.Facts) (hMmMixRefIdeal : Cert.MmMixRefIdeal.Facts) (hMmDu : Cert.MmDu.Facts) (hMmDuIdeal : Cert.MmDuIdeal.Facts) (hMmDuRefIdeal : Cert.MmDuRefIdeal.Facts) (hMmHnUp : Cert.MmHnUp.Facts) (hMmHnUpIdeal : Cert.MmHnUpIdeal.Facts) (hMmHnUpRefIdeal : Cert.MmHnUpRefIdeal.Facts) (hMmDuSmall : Cert.MmDuSmall.Facts) (hMmDuSmallIdeal : Cert.MmDuSmallIdeal.Facts) (hMmDuSmallRefIdeal : Cert.MmDuSmallRefIdeal.Facts) (hDwDown : Cert.DwDown.Facts) (hDwDownIdeal : Cert.DwDownIdeal.Facts) (hDwDownRefIdeal : Cert.DwDownRefIdeal.Facts) (hDwGate : Cert.DwGate.Facts) (hDwGateIdeal : Cert.DwGateIdeal.Facts) (hDwGateRefIdeal : Cert.DwGateRefIdeal.Facts) (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hDwInSmall : Cert.DwInSmall.Facts) (hDwInSmallIdeal : Cert.DwInSmallIdeal.Facts) (hDwInSmallRefIdeal : Cert.DwInSmallRefIdeal.Facts) (hRms : Cert.Rms.Facts) (hRmsIdeal : Cert.RmsIdeal.Facts) (hRmsRefIdeal : Cert.RmsRefIdeal.Facts) (hRmsBack : Cert.RmsBack.Facts) (hRmsBackIdeal : Cert.RmsBackIdeal.Facts) (hRmsBackRefIdeal : Cert.RmsBackRefIdeal.Facts) (hLoss : Cert.Loss.Facts) (hLossIdeal : Cert.LossIdeal.Facts) (hLossRefIdeal : Cert.LossRefIdeal.Facts) (hGates : Cert.Gates.Facts) (hGatesIdeal : Cert.GatesIdeal.Facts) (hGatesRefIdeal : Cert.GatesRefIdeal.Facts) (hGatesBack : Cert.GatesBack.Facts) (hGatesBackIdeal : Cert.GatesBackIdeal.Facts) (hGatesBackRefIdeal : Cert.GatesBackRefIdeal.Facts) (hMerge : Cert.Merge.Facts) (hMergeIdeal : Cert.MergeIdeal.Facts) (hMergeRefIdeal : Cert.MergeRefIdeal.Facts) (hMergeBack : Cert.MergeBack.Facts) (hMergeBackIdeal : Cert.MergeBackIdeal.Facts) (hMergeBackRefIdeal : Cert.MergeBackRefIdeal.Facts) (hConvPre : Cert.ConvPre.Facts) (hConvPreIdeal : Cert.ConvPreIdeal.Facts) (hConvPreRefIdeal : Cert.ConvPreRefIdeal.Facts) (hConv : Cert.Conv.Facts) (hConvIdeal : Cert.ConvIdeal.Facts) (hConvRefIdeal : Cert.ConvRefIdeal.Facts) (hPairOut : Cert.PairOut.Facts) (hPairOutIdeal : Cert.PairOutIdeal.Facts) (hPairOutRefIdeal : Cert.PairOutRefIdeal.Facts) (hPairIn : Cert.PairIn.Facts) (hPairInIdeal : Cert.PairInIdeal.Facts) (hPairInRefIdeal : Cert.PairInRefIdeal.Facts) (hPairGate : Cert.PairGate.Facts) (hPairGateIdeal : Cert.PairGateIdeal.Facts) (hPairGateRefIdeal : Cert.PairGateRefIdeal.Facts) (hPairDown : Cert.PairDown.Facts) (hPairDownIdeal : Cert.PairDownIdeal.Facts) (hPairDownRefIdeal : Cert.PairDownRefIdeal.Facts) (hPre_a_core : Cert.Pre_a_core.Facts) (hPre_a_core_in : Cert.Pre_a_core_in.Facts) (hPre_a_core_gate : Cert.Pre_a_core_gate.Facts) (hPre_a_core_down : Cert.Pre_a_core_down.Facts),
    quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_UpdateIn (hUpdateIn := hUpdateIn)
    ∧ quiescent_UpdateInIdeal (hUpdateInIdeal := hUpdateInIdeal)
    ∧ quiescent_UpdateInRefIdeal (hUpdateInRefIdeal := hUpdateInRefIdeal)
    ∧ quiescent_UpdateOut (hUpdateOut := hUpdateOut)
    ∧ quiescent_UpdateOutIdeal (hUpdateOutIdeal := hUpdateOutIdeal)
    ∧ quiescent_UpdateOutRefIdeal (hUpdateOutRefIdeal := hUpdateOutRefIdeal)
    ∧ quiescent_UpdateGate (hUpdateGate := hUpdateGate)
    ∧ quiescent_UpdateGateIdeal (hUpdateGateIdeal := hUpdateGateIdeal)
    ∧ quiescent_UpdateGateRefIdeal (hUpdateGateRefIdeal := hUpdateGateRefIdeal)
    ∧ quiescent_UpdateDown (hUpdateDown := hUpdateDown)
    ∧ quiescent_UpdateDownIdeal (hUpdateDownIdeal := hUpdateDownIdeal)
    ∧ quiescent_UpdateDownRefIdeal (hUpdateDownRefIdeal := hUpdateDownRefIdeal)
    ∧ quiescent_UpdateNorm (hUpdateNorm := hUpdateNorm)
    ∧ quiescent_UpdateNormIdeal (hUpdateNormIdeal := hUpdateNormIdeal)
    ∧ quiescent_UpdateNormRefIdeal (hUpdateNormRefIdeal := hUpdateNormRefIdeal)
    ∧ quiescent_UpdateConv (hUpdateConv := hUpdateConv)
    ∧ quiescent_UpdateConvIdeal (hUpdateConvIdeal := hUpdateConvIdeal)
    ∧ quiescent_UpdateConvRefIdeal (hUpdateConvRefIdeal := hUpdateConvRefIdeal)
    ∧ quiescent_UpdateGdn (hUpdateGdn := hUpdateGdn)
    ∧ quiescent_UpdateGdnIdeal (hUpdateGdnIdeal := hUpdateGdnIdeal)
    ∧ quiescent_UpdateGdnRefIdeal (hUpdateGdnRefIdeal := hUpdateGdnRefIdeal)
    ∧ quiescent_UpdateHeads (hUpdateHeads := hUpdateHeads)
    ∧ quiescent_UpdateHeadsIdeal (hUpdateHeadsIdeal := hUpdateHeadsIdeal)
    ∧ quiescent_UpdateHeadsRefIdeal (hUpdateHeadsRefIdeal := hUpdateHeadsRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumGate (hSumGate := hSumGate)
    ∧ quiescent_SumGateIdeal (hSumGateIdeal := hSumGateIdeal)
    ∧ quiescent_SumGateRefIdeal (hSumGateRefIdeal := hSumGateRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_SwigluBack (hSwigluBack := hSwigluBack)
    ∧ quiescent_SwigluBackIdeal (hSwigluBackIdeal := hSwigluBackIdeal)
    ∧ quiescent_SwigluBackRefIdeal (hSwigluBackRefIdeal := hSwigluBackRefIdeal)
    ∧ quiescent_MmProj (hMmProj := hMmProj)
    ∧ quiescent_MmProjIdeal (hMmProjIdeal := hMmProjIdeal)
    ∧ quiescent_MmProjRefIdeal (hMmProjRefIdeal := hMmProjRefIdeal)
    ∧ quiescent_MmProjSmall (hMmProjSmall := hMmProjSmall)
    ∧ quiescent_MmProjSmallIdeal (hMmProjSmallIdeal := hMmProjSmallIdeal)
    ∧ quiescent_MmProjSmallRefIdeal (hMmProjSmallRefIdeal := hMmProjSmallRefIdeal)
    ∧ quiescent_MmGate (hMmGate := hMmGate)
    ∧ quiescent_MmGateIdeal (hMmGateIdeal := hMmGateIdeal)
    ∧ quiescent_MmGateRefIdeal (hMmGateRefIdeal := hMmGateRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_MmDact (hMmDact := hMmDact)
    ∧ quiescent_MmDactIdeal (hMmDactIdeal := hMmDactIdeal)
    ∧ quiescent_MmDactRefIdeal (hMmDactRefIdeal := hMmDactRefIdeal)
    ∧ quiescent_MmHnGate (hMmHnGate := hMmHnGate)
    ∧ quiescent_MmHnGateIdeal (hMmHnGateIdeal := hMmHnGateIdeal)
    ∧ quiescent_MmHnGateRefIdeal (hMmHnGateRefIdeal := hMmHnGateRefIdeal)
    ∧ quiescent_MmMix (hMmMix := hMmMix)
    ∧ quiescent_MmMixIdeal (hMmMixIdeal := hMmMixIdeal)
    ∧ quiescent_MmMixRefIdeal (hMmMixRefIdeal := hMmMixRefIdeal)
    ∧ quiescent_MmDu (hMmDu := hMmDu)
    ∧ quiescent_MmDuIdeal (hMmDuIdeal := hMmDuIdeal)
    ∧ quiescent_MmDuRefIdeal (hMmDuRefIdeal := hMmDuRefIdeal)
    ∧ quiescent_MmHnUp (hMmHnUp := hMmHnUp)
    ∧ quiescent_MmHnUpIdeal (hMmHnUpIdeal := hMmHnUpIdeal)
    ∧ quiescent_MmHnUpRefIdeal (hMmHnUpRefIdeal := hMmHnUpRefIdeal)
    ∧ quiescent_MmDuSmall (hMmDuSmall := hMmDuSmall)
    ∧ quiescent_MmDuSmallIdeal (hMmDuSmallIdeal := hMmDuSmallIdeal)
    ∧ quiescent_MmDuSmallRefIdeal (hMmDuSmallRefIdeal := hMmDuSmallRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwInSmall (hDwInSmall := hDwInSmall)
    ∧ quiescent_DwInSmallIdeal (hDwInSmallIdeal := hDwInSmallIdeal)
    ∧ quiescent_DwInSmallRefIdeal (hDwInSmallRefIdeal := hDwInSmallRefIdeal)
    ∧ quiescent_Rms (hRms := hRms)
    ∧ quiescent_RmsIdeal (hRmsIdeal := hRmsIdeal)
    ∧ quiescent_RmsRefIdeal (hRmsRefIdeal := hRmsRefIdeal)
    ∧ quiescent_RmsBack (hRmsBack := hRmsBack)
    ∧ quiescent_RmsBackIdeal (hRmsBackIdeal := hRmsBackIdeal)
    ∧ quiescent_RmsBackRefIdeal (hRmsBackRefIdeal := hRmsBackRefIdeal)
    ∧ quiescent_Loss (hLoss := hLoss)
    ∧ quiescent_LossIdeal (hLossIdeal := hLossIdeal)
    ∧ quiescent_LossRefIdeal (hLossRefIdeal := hLossRefIdeal)
    ∧ quiescent_Gates (hGates := hGates)
    ∧ quiescent_GatesIdeal (hGatesIdeal := hGatesIdeal)
    ∧ quiescent_GatesRefIdeal (hGatesRefIdeal := hGatesRefIdeal)
    ∧ quiescent_GatesBack (hGatesBack := hGatesBack)
    ∧ quiescent_GatesBackIdeal (hGatesBackIdeal := hGatesBackIdeal)
    ∧ quiescent_GatesBackRefIdeal (hGatesBackRefIdeal := hGatesBackRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBack (hMergeBack := hMergeBack)
    ∧ quiescent_MergeBackIdeal (hMergeBackIdeal := hMergeBackIdeal)
    ∧ quiescent_MergeBackRefIdeal (hMergeBackRefIdeal := hMergeBackRefIdeal)
    ∧ quiescent_ConvPre (hConvPre := hConvPre)
    ∧ quiescent_ConvPreIdeal (hConvPreIdeal := hConvPreIdeal)
    ∧ quiescent_ConvPreRefIdeal (hConvPreRefIdeal := hConvPreRefIdeal)
    ∧ quiescent_Conv (hConv := hConv)
    ∧ quiescent_ConvIdeal (hConvIdeal := hConvIdeal)
    ∧ quiescent_ConvRefIdeal (hConvRefIdeal := hConvRefIdeal)
    ∧ quiescent_PairOut (hPairOut := hPairOut) (hPre_a_core := hPre_a_core)
    ∧ quiescent_PairOutIdeal (hPairOutIdeal := hPairOutIdeal) (hPre_a_core := hPre_a_core)
    ∧ quiescent_PairOutRefIdeal (hPairOutRefIdeal := hPairOutRefIdeal)
    ∧ quiescent_PairOutRefIdeal_pre_a_core (hPairOutRefIdeal := hPairOutRefIdeal) (hPre_a_core := hPre_a_core)
    ∧ quiescent_PairIn (hPairIn := hPairIn) (hPre_a_core_in := hPre_a_core_in)
    ∧ quiescent_PairInIdeal (hPairInIdeal := hPairInIdeal) (hPre_a_core_in := hPre_a_core_in)
    ∧ quiescent_PairInRefIdeal (hPairInRefIdeal := hPairInRefIdeal)
    ∧ quiescent_PairInRefIdeal_pre_a_core_in (hPairInRefIdeal := hPairInRefIdeal) (hPre_a_core_in := hPre_a_core_in)
    ∧ quiescent_PairGate (hPairGate := hPairGate) (hPre_a_core_gate := hPre_a_core_gate)
    ∧ quiescent_PairGateIdeal (hPairGateIdeal := hPairGateIdeal) (hPre_a_core_gate := hPre_a_core_gate)
    ∧ quiescent_PairGateRefIdeal (hPairGateRefIdeal := hPairGateRefIdeal)
    ∧ quiescent_PairGateRefIdeal_pre_a_core_gate (hPairGateRefIdeal := hPairGateRefIdeal) (hPre_a_core_gate := hPre_a_core_gate)
    ∧ quiescent_PairDown (hPairDown := hPairDown) (hPre_a_core_down := hPre_a_core_down)
    ∧ quiescent_PairDownIdeal (hPairDownIdeal := hPairDownIdeal) (hPre_a_core_down := hPre_a_core_down)
    ∧ quiescent_PairDownRefIdeal (hPairDownRefIdeal := hPairDownRefIdeal)
    ∧ quiescent_PairDownRefIdeal_pre_a_core_down (hPairDownRefIdeal := hPairDownRefIdeal) (hPre_a_core_down := hPre_a_core_down)
    ∧ preserves_Exchange_ExchangeIdeal
    ∧ bitexact_Exchange_ExchangeRef (hExchange := hExchange) (hExchangeRef := hExchangeRef)
    ∧ algebraic_ExchangeIdeal_ExchangeRefIdeal (hExchangeIdeal := hExchangeIdeal) (hExchangeRefIdeal := hExchangeRefIdeal)
    ∧ preserves_Scatter_ScatterIdeal
    ∧ bitexact_Scatter_ScatterRef (hScatter := hScatter) (hScatterRef := hScatterRef)
    ∧ algebraic_ScatterIdeal_ScatterRefIdeal (hScatterIdeal := hScatterIdeal) (hScatterRefIdeal := hScatterRefIdeal)
    ∧ preserves_Share_ShareIdeal
    ∧ bitexact_Share_ShareRef (hShare := hShare) (hShareRef := hShareRef)
    ∧ algebraic_ShareIdeal_ShareRefIdeal (hShareIdeal := hShareIdeal) (hShareRefIdeal := hShareRefIdeal)
    ∧ preserves_Gather_GatherIdeal
    ∧ bitexact_Gather_GatherRef (hGather := hGather) (hGatherRef := hGatherRef)
    ∧ algebraic_GatherIdeal_GatherRefIdeal (hGatherIdeal := hGatherIdeal) (hGatherRefIdeal := hGatherRefIdeal)
    ∧ preserves_UpdateIn_UpdateInIdeal
    ∧ algebraic_UpdateInIdeal_UpdateInRefIdeal (hUpdateInIdeal := hUpdateInIdeal) (hUpdateInRefIdeal := hUpdateInRefIdeal)
    ∧ preserves_UpdateOut_UpdateOutIdeal
    ∧ algebraic_UpdateOutIdeal_UpdateOutRefIdeal (hUpdateOutIdeal := hUpdateOutIdeal) (hUpdateOutRefIdeal := hUpdateOutRefIdeal)
    ∧ preserves_UpdateGate_UpdateGateIdeal
    ∧ algebraic_UpdateGateIdeal_UpdateGateRefIdeal (hUpdateGateIdeal := hUpdateGateIdeal) (hUpdateGateRefIdeal := hUpdateGateRefIdeal)
    ∧ preserves_UpdateDown_UpdateDownIdeal
    ∧ algebraic_UpdateDownIdeal_UpdateDownRefIdeal (hUpdateDownIdeal := hUpdateDownIdeal) (hUpdateDownRefIdeal := hUpdateDownRefIdeal)
    ∧ preserves_UpdateNorm_UpdateNormIdeal
    ∧ algebraic_UpdateNormIdeal_UpdateNormRefIdeal (hUpdateNormIdeal := hUpdateNormIdeal) (hUpdateNormRefIdeal := hUpdateNormRefIdeal)
    ∧ preserves_UpdateConv_UpdateConvIdeal
    ∧ algebraic_UpdateConvIdeal_UpdateConvRefIdeal (hUpdateConvIdeal := hUpdateConvIdeal) (hUpdateConvRefIdeal := hUpdateConvRefIdeal)
    ∧ preserves_UpdateGdn_UpdateGdnIdeal
    ∧ algebraic_UpdateGdnIdeal_UpdateGdnRefIdeal (hUpdateGdnIdeal := hUpdateGdnIdeal) (hUpdateGdnRefIdeal := hUpdateGdnRefIdeal)
    ∧ preserves_UpdateHeads_UpdateHeadsIdeal
    ∧ algebraic_UpdateHeadsIdeal_UpdateHeadsRefIdeal (hUpdateHeadsIdeal := hUpdateHeadsIdeal) (hUpdateHeadsRefIdeal := hUpdateHeadsRefIdeal)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumGate_SumGateIdeal
    ∧ algebraic_SumGateIdeal_SumGateRefIdeal (hSumGateIdeal := hSumGateIdeal) (hSumGateRefIdeal := hSumGateRefIdeal)
    ∧ preserves_SumDown_SumDownIdeal
    ∧ algebraic_SumDownIdeal_SumDownRefIdeal (hSumDownIdeal := hSumDownIdeal) (hSumDownRefIdeal := hSumDownRefIdeal)
    ∧ preserves_Swiglu_SwigluIdeal
    ∧ algebraic_SwigluIdeal_SwigluRefIdeal (hSwigluIdeal := hSwigluIdeal) (hSwigluRefIdeal := hSwigluRefIdeal)
    ∧ preserves_SwigluBack_SwigluBackIdeal
    ∧ algebraic_SwigluBackIdeal_SwigluBackRefIdeal (hSwigluBackIdeal := hSwigluBackIdeal) (hSwigluBackRefIdeal := hSwigluBackRefIdeal)
    ∧ preserves_MmProj_MmProjIdeal
    ∧ algebraic_MmProjIdeal_MmProjRefIdeal (hMmProjIdeal := hMmProjIdeal) (hMmProjRefIdeal := hMmProjRefIdeal)
    ∧ preserves_MmProjSmall_MmProjSmallIdeal
    ∧ algebraic_MmProjSmallIdeal_MmProjSmallRefIdeal (hMmProjSmallIdeal := hMmProjSmallIdeal) (hMmProjSmallRefIdeal := hMmProjSmallRefIdeal)
    ∧ preserves_MmGate_MmGateIdeal
    ∧ algebraic_MmGateIdeal_MmGateRefIdeal (hMmGateIdeal := hMmGateIdeal) (hMmGateRefIdeal := hMmGateRefIdeal)
    ∧ preserves_MmOut_MmOutIdeal
    ∧ algebraic_MmOutIdeal_MmOutRefIdeal (hMmOutIdeal := hMmOutIdeal) (hMmOutRefIdeal := hMmOutRefIdeal)
    ∧ preserves_MmDown_MmDownIdeal
    ∧ algebraic_MmDownIdeal_MmDownRefIdeal (hMmDownIdeal := hMmDownIdeal) (hMmDownRefIdeal := hMmDownRefIdeal)
    ∧ preserves_MmDact_MmDactIdeal
    ∧ algebraic_MmDactIdeal_MmDactRefIdeal (hMmDactIdeal := hMmDactIdeal) (hMmDactRefIdeal := hMmDactRefIdeal)
    ∧ preserves_MmHnGate_MmHnGateIdeal
    ∧ algebraic_MmHnGateIdeal_MmHnGateRefIdeal (hMmHnGateIdeal := hMmHnGateIdeal) (hMmHnGateRefIdeal := hMmHnGateRefIdeal)
    ∧ preserves_MmMix_MmMixIdeal
    ∧ algebraic_MmMixIdeal_MmMixRefIdeal (hMmMixIdeal := hMmMixIdeal) (hMmMixRefIdeal := hMmMixRefIdeal)
    ∧ preserves_MmDu_MmDuIdeal
    ∧ algebraic_MmDuIdeal_MmDuRefIdeal (hMmDuIdeal := hMmDuIdeal) (hMmDuRefIdeal := hMmDuRefIdeal)
    ∧ preserves_MmHnUp_MmHnUpIdeal
    ∧ algebraic_MmHnUpIdeal_MmHnUpRefIdeal (hMmHnUpIdeal := hMmHnUpIdeal) (hMmHnUpRefIdeal := hMmHnUpRefIdeal)
    ∧ preserves_MmDuSmall_MmDuSmallIdeal
    ∧ algebraic_MmDuSmallIdeal_MmDuSmallRefIdeal (hMmDuSmallIdeal := hMmDuSmallIdeal) (hMmDuSmallRefIdeal := hMmDuSmallRefIdeal)
    ∧ preserves_DwDown_DwDownIdeal
    ∧ algebraic_DwDownIdeal_DwDownRefIdeal (hDwDownIdeal := hDwDownIdeal) (hDwDownRefIdeal := hDwDownRefIdeal)
    ∧ preserves_DwGate_DwGateIdeal
    ∧ algebraic_DwGateIdeal_DwGateRefIdeal (hDwGateIdeal := hDwGateIdeal) (hDwGateRefIdeal := hDwGateRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_DwInSmall_DwInSmallIdeal
    ∧ algebraic_DwInSmallIdeal_DwInSmallRefIdeal (hDwInSmallIdeal := hDwInSmallIdeal) (hDwInSmallRefIdeal := hDwInSmallRefIdeal)
    ∧ preserves_Rms_RmsIdeal
    ∧ algebraic_RmsIdeal_RmsRefIdeal (hRmsIdeal := hRmsIdeal) (hRmsRefIdeal := hRmsRefIdeal)
    ∧ preserves_RmsBack_RmsBackIdeal
    ∧ algebraic_RmsBackIdeal_RmsBackRefIdeal (hRmsBackIdeal := hRmsBackIdeal) (hRmsBackRefIdeal := hRmsBackRefIdeal)
    ∧ preserves_Loss_LossIdeal
    ∧ algebraic_LossIdeal_LossRefIdeal (hLossIdeal := hLossIdeal) (hLossRefIdeal := hLossRefIdeal)
    ∧ preserves_Gates_GatesIdeal
    ∧ algebraic_GatesIdeal_GatesRefIdeal (hGatesIdeal := hGatesIdeal) (hGatesRefIdeal := hGatesRefIdeal)
    ∧ preserves_GatesBack_GatesBackIdeal
    ∧ algebraic_GatesBackIdeal_GatesBackRefIdeal (hGatesBackIdeal := hGatesBackIdeal) (hGatesBackRefIdeal := hGatesBackRefIdeal)
    ∧ preserves_Merge_MergeIdeal
    ∧ algebraic_MergeIdeal_MergeRefIdeal (hMergeIdeal := hMergeIdeal) (hMergeRefIdeal := hMergeRefIdeal)
    ∧ preserves_MergeBack_MergeBackIdeal
    ∧ algebraic_MergeBackIdeal_MergeBackRefIdeal (hMergeBackIdeal := hMergeBackIdeal) (hMergeBackRefIdeal := hMergeBackRefIdeal)
    ∧ preserves_ConvPre_ConvPreIdeal
    ∧ algebraic_ConvPreIdeal_ConvPreRefIdeal (hConvPreIdeal := hConvPreIdeal) (hConvPreRefIdeal := hConvPreRefIdeal)
    ∧ preserves_Conv_ConvIdeal
    ∧ algebraic_ConvIdeal_ConvRefIdeal (hConvIdeal := hConvIdeal) (hConvRefIdeal := hConvRefIdeal)
    ∧ preserves_PairOut_PairOutIdeal
    ∧ algebraic_PairOutIdeal_PairOutRefIdeal (hPairOutIdeal := hPairOutIdeal) (hPairOutRefIdeal := hPairOutRefIdeal) (hPre_a_core := hPre_a_core)
    ∧ preserves_PairIn_PairInIdeal
    ∧ algebraic_PairInIdeal_PairInRefIdeal (hPairInIdeal := hPairInIdeal) (hPairInRefIdeal := hPairInRefIdeal) (hPre_a_core_in := hPre_a_core_in)
    ∧ preserves_PairGate_PairGateIdeal
    ∧ algebraic_PairGateIdeal_PairGateRefIdeal (hPairGateIdeal := hPairGateIdeal) (hPairGateRefIdeal := hPairGateRefIdeal) (hPre_a_core_gate := hPre_a_core_gate)
    ∧ preserves_PairDown_PairDownIdeal
    ∧ algebraic_PairDownIdeal_PairDownRefIdeal (hPairDownIdeal := hPairDownIdeal) (hPairDownRefIdeal := hPairDownRefIdeal) (hPre_a_core_down := hPre_a_core_down)
-- ==== Pre_a_core.lean ====
abbrev S1 : Shape := ⟨1, ![1]⟩
abbrev S4x2x256x2048 : Shape := ⟨4, ![4, 2, 256, 2048]⟩
abbrev S4x256x2048 : Shape := ⟨3, ![4, 256, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2x256x2048 .bf16) (main_arg2 : FVec F S4x256x2048 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_a_core_down.lean ====
abbrev S1 : Shape := ⟨1, ![1]⟩
abbrev S4x2x704x2048 : Shape := ⟨4, ![4, 2, 704, 2048]⟩
abbrev S4x704x2048 : Shape := ⟨3, ![4, 704, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2x704x2048 .bf16) (main_arg2 : FVec F S4x704x2048 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_a_core_gate.lean ====
abbrev S1 : Shape := ⟨1, ![1]⟩
abbrev S4x2x1024x1408 : Shape := ⟨4, ![4, 2, 1024, 1408]⟩
abbrev S4x1024x1408 : Shape := ⟨3, ![4, 1024, 1408]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2x1024x1408 .bf16) (main_arg2 : FVec F S4x1024x1408 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_a_core_in.lean ====
abbrev S1 : Shape := ⟨1, ![1]⟩
abbrev S4x2x1024x4100 : Shape := ⟨4, ![4, 2, 1024, 4100]⟩
abbrev S4x1024x4100 : Shape := ⟨3, ![4, 1024, 4100]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2x1024x4100 .bf16) (main_arg2 : FVec F S4x1024x4100 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Exchange.lean ====
abbrev S4x2x1024x4100 : Shape := ⟨4, ![4, 2, 1024, 4100]⟩
abbrev S4x2x256x2048 : Shape := ⟨4, ![4, 2, 256, 2048]⟩
abbrev S4x2x1024x1408 : Shape := ⟨4, ![4, 2, 1024, 1408]⟩
abbrev S4x2x704x2048 : Shape := ⟨4, ![4, 2, 704, 2048]⟩
abbrev S4x1024x4100 : Shape := ⟨3, ![4, 1024, 4100]⟩
abbrev S4x256x2048 : Shape := ⟨3, ![4, 256, 2048]⟩
abbrev S4x1024x1408 : Shape := ⟨3, ![4, 1024, 1408]⟩
abbrev S4x704x2048 : Shape := ⟨3, ![4, 704, 2048]⟩
abbrev S5 : Shape := ⟨1, ![5]⟩
abbrev S1 : Shape := ⟨1, ![1]⟩
abbrev S_ : Shape := ⟨0, ![]⟩
abbrev S4x1x1024x4100 : Shape := ⟨4, ![4, 1, 1024, 4100]⟩
abbrev S4x1x256x2048 : Shape := ⟨4, ![4, 1, 256, 2048]⟩
abbrev S4x1x1024x1408 : Shape := ⟨4, ![4, 1, 1024, 1408]⟩
abbrev S4x1x704x2048 : Shape := ⟨4, ![4, 1, 704, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2x1024x4100, .bf16⟩
  | .hbm, ⟨1, _⟩ => ⟨S4x2x256x2048, .bf16⟩
  | .hbm, ⟨2, _⟩ => ⟨S4x2x1024x1408, .bf16⟩
  | .hbm, ⟨3, _⟩ => ⟨S4x2x1024x1408, .bf16⟩
  | .hbm, ⟨4, _⟩ => ⟨S4x2x704x2048, .bf16⟩
  | .hbm, ⟨5, _⟩ => ⟨S4x1024x4100, .bf16⟩
  | .hbm, ⟨6, _⟩ => ⟨S4x256x2048, .bf16⟩
  | .hbm, ⟨7, _⟩ => ⟨S4x1024x1408, .bf16⟩
  | .hbm, ⟨8, _⟩ => ⟨S4x1024x1408, .bf16⟩
  | .hbm, ⟨9, _⟩ => ⟨S4x704x2048, .bf16⟩
  | _, _ => ⟨S4x2x1024x4100, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 4 → Nat :=
  let c0_i32_10 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_11 : BitVec 32 := 0#32
  let c0_i32_12 : BitVec 32 := 0#32
  ![0, v9.toNat, 0, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v11 : BitVec 32 := Scalar.muli v2 c4_i32_6
  let v12 : BitVec 32 := Scalar.addi c0_i32_7 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v13 : BitVec 32 := Scalar.muli v5 c2_i32_8
  let v14 : BitVec 32 := Scalar.addi v12 v13
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_9 : BitVec 32 := 1#32
  let v15 : BitVec 32 := Scalar.muli v10 c1_i32_9
  let v16 : BitVec 32 := Scalar.addi v14 v15
  v16.toNat
def k0_off2 (d0 : Dev nD) : Fin 4 → Nat :=
  let c0_i32_21 : BitVec 32 := 0#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c0_i32_22 : BitVec 32 := 0#32
  let c0_i32_23 : BitVec 32 := 0#32
  ![0, v23.toNat, 0, 0]
def k0_dev2 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v25 : BitVec 32 := Scalar.muli v2 c4_i32_17
  let v26 : BitVec 32 := Scalar.addi c0_i32_18 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v27 : BitVec 32 := Scalar.muli v5 c2_i32_19
  let v28 : BitVec 32 := Scalar.addi v26 v27
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_14 v8
  let c1_i32_20 : BitVec 32 := 1#32
  let v29 : BitVec 32 := Scalar.muli v24 c1_i32_20
  let v30 : BitVec 32 := Scalar.addi v28 v29
  v30.toNat
def k0_off3 (d0 : Dev nD) : Fin 4 → Nat :=
  let c0_i32_32 : BitVec 32 := 0#32
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_24 v8
  let c0_i32_33 : BitVec 32 := 0#32
  let c0_i32_34 : BitVec 32 := 0#32
  ![0, v37.toNat, 0, 0]
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v39 : BitVec 32 := Scalar.muli v2 c4_i32_28
  let v40 : BitVec 32 := Scalar.addi c0_i32_29 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v41 : BitVec 32 := Scalar.muli v5 c2_i32_30
  let v42 : BitVec 32 := Scalar.addi v40 v41
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_25 v8
  let c1_i32_31 : BitVec 32 := 1#32
  let v43 : BitVec 32 := Scalar.muli v38 c1_i32_31
  let v44 : BitVec 32 := Scalar.addi v42 v43
  v44.toNat
def k0_dev4 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v53 : BitVec 32 := Scalar.muli v2 c4_i32_38
  let v54 : BitVec 32 := Scalar.addi c0_i32_39 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v55 : BitVec 32 := Scalar.muli v5 c2_i32_40
  let v56 : BitVec 32 := Scalar.addi v54 v55
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_36 v8
  let c1_i32_41 : BitVec 32 := 1#32
  let v57 : BitVec 32 := Scalar.muli v52 c1_i32_41
  let v58 : BitVec 32 := Scalar.addi v56 v57
  v58.toNat
def k0_off4 (d0 : Dev nD) : Fin 4 → Nat :=
  let c0_i32_53 : BitVec 32 := 0#32
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_45 v8
  let c0_i32_54 : BitVec 32 := 0#32
  let c0_i32_55 : BitVec 32 := 0#32
  ![0, v65.toNat, 0, 0]
def k0_dev5 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v67 : BitVec 32 := Scalar.muli v2 c4_i32_49
  let v68 : BitVec 32 := Scalar.addi c0_i32_50 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v69 : BitVec 32 := Scalar.muli v5 c2_i32_51
  let v70 : BitVec 32 := Scalar.addi v68 v69
  let c1_i32_46 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v66 : BitVec 32 := Scalar.subi c1_i32_46 v8
  let c1_i32_52 : BitVec 32 := 1#32
  let v71 : BitVec 32 := Scalar.muli v66 c1_i32_52
  let v72 : BitVec 32 := Scalar.addi v70 v71
  v72.toNat
-- ==== ExchangeRef.lean ====
abbrev S32x2x1024x4100 : Shape := ⟨4, ![32, 2, 1024, 4100]⟩
abbrev S32x2x256x2048 : Shape := ⟨4, ![32, 2, 256, 2048]⟩
abbrev S32x2x1024x1408 : Shape := ⟨4, ![32, 2, 1024, 1408]⟩
abbrev S32x2x704x2048 : Shape := ⟨4, ![32, 2, 704, 2048]⟩
abbrev S4x2x4x2x1024x4100 : Shape := ⟨6, ![4, 2, 4, 2, 1024, 4100]⟩
abbrev S4x1x4x1x1024x4100 : Shape := ⟨6, ![4, 1, 4, 1, 1024, 4100]⟩
abbrev S4x4x1024x4100 : Shape := ⟨4, ![4, 4, 1024, 4100]⟩
abbrev S4x1x4x1024x4100 : Shape := ⟨5, ![4, 1, 4, 1024, 4100]⟩
abbrev S4x2x4x1024x4100 : Shape := ⟨5, ![4, 2, 4, 1024, 4100]⟩
abbrev S32x1024x4100 : Shape := ⟨3, ![32, 1024, 4100]⟩
abbrev S4x2x4x2x256x2048 : Shape := ⟨6, ![4, 2, 4, 2, 256, 2048]⟩
abbrev S4x1x4x1x256x2048 : Shape := ⟨6, ![4, 1, 4, 1, 256, 2048]⟩
abbrev S4x4x256x2048 : Shape := ⟨4, ![4, 4, 256, 2048]⟩
abbrev S4x1x4x256x2048 : Shape := ⟨5, ![4, 1, 4, 256, 2048]⟩
abbrev S4x2x4x256x2048 : Shape := ⟨5, ![4, 2, 4, 256, 2048]⟩
abbrev S32x256x2048 : Shape := ⟨3, ![32, 256, 2048]⟩
abbrev S4x2x4x2x1024x1408 : Shape := ⟨6, ![4, 2, 4, 2, 1024, 1408]⟩
abbrev S4x1x4x1x1024x1408 : Shape := ⟨6, ![4, 1, 4, 1, 1024, 1408]⟩
abbrev S4x4x1024x1408 : Shape := ⟨4, ![4, 4, 1024, 1408]⟩
abbrev S4x1x4x1024x1408 : Shape := ⟨5, ![4, 1, 4, 1024, 1408]⟩
abbrev S4x2x4x1024x1408 : Shape := ⟨5, ![4, 2, 4, 1024, 1408]⟩
abbrev S32x1024x1408 : Shape := ⟨3, ![32, 1024, 1408]⟩
abbrev S4x2x4x2x704x2048 : Shape := ⟨6, ![4, 2, 4, 2, 704, 2048]⟩
abbrev S4x1x4x1x704x2048 : Shape := ⟨6, ![4, 1, 4, 1, 704, 2048]⟩
abbrev S4x4x704x2048 : Shape := ⟨4, ![4, 4, 704, 2048]⟩
abbrev S4x1x4x704x2048 : Shape := ⟨5, ![4, 1, 4, 704, 2048]⟩
abbrev S4x2x4x704x2048 : Shape := ⟨5, ![4, 2, 4, 704, 2048]⟩
abbrev S32x704x2048 : Shape := ⟨3, ![32, 704, 2048]⟩

abbrev nBuf : Space → Nat
  | .hbm => 50
  | .vmem => 0
  | .smem => 0
  | _ => 0

abbrev bufTy : (tb : Table) → Fin (tcTables nBuf tb) → BufTy
  | .hbm, ⟨0, _⟩ => ⟨S32x2x1024x4100, .bf16⟩
  | .hbm, ⟨1, _⟩ => ⟨S32x2x256x2048, .bf16⟩
  | .hbm, ⟨2, _⟩ => ⟨S32x2x1024x1408, .bf16⟩
  | .hbm, ⟨3, _⟩ => ⟨S32x2x1024x1408, .bf16⟩
  | .hbm, ⟨4, _⟩ => ⟨S32x2x704x2048, .bf16⟩
  | .hbm, ⟨5, _⟩ => ⟨S4x2x4x2x1024x4100, .bf16⟩
  | .hbm, ⟨6, _⟩ => ⟨S4x1x4x1x1024x4100, .bf16⟩
  | .hbm, ⟨7, _⟩ => ⟨S4x4x1024x4100, .bf16⟩
  | .hbm, ⟨8, _⟩ => ⟨S4x1x4x1x1024x4100, .bf16⟩
  | .hbm, ⟨9, _⟩ => ⟨S4x4x1024x4100, .bf16⟩
  | .hbm, ⟨10, _⟩ => ⟨S4x1x4x1024x4100, .bf16⟩
  | .hbm, ⟨11, _⟩ => ⟨S4x1x4x1024x4100, .bf16⟩
  | .hbm, ⟨12, _⟩ => ⟨S4x2x4x1024x4100, .bf16⟩
  | .hbm, ⟨13, _⟩ => ⟨S32x1024x4100, .bf16⟩
  | .hbm, ⟨14, _⟩ => ⟨S4x2x4x2x256x2048, .bf16⟩
  | .hbm, ⟨15, _⟩ => ⟨S4x1x4x1x256x2048, .bf16⟩
  | .hbm, ⟨16, _⟩ => ⟨S4x4x256x2048, .bf16⟩
  | .hbm, ⟨17, _⟩ => ⟨S4x1x4x1x256x2048, .bf16⟩
  | .hbm, ⟨18, _⟩ => ⟨S4x4x256x2048, .bf16⟩
  | .hbm, ⟨19, _⟩ => ⟨S4x1x4x256x2048, .bf16⟩
  | .hbm, ⟨20, _⟩ => ⟨S4x1x4x256x2048, .bf16⟩
  | .hbm, ⟨21, _⟩ => ⟨S4x2x4x256x2048, .bf16⟩
  | .hbm, ⟨22, _⟩ => ⟨S32x256x2048, .bf16⟩
  | .hbm, ⟨23, _⟩ => ⟨S4x2x4x2x1024x1408, .bf16⟩
  | .hbm, ⟨24, _⟩ => ⟨S4x1x4x1x1024x1408, .bf16⟩
  | .hbm, ⟨25, _⟩ => ⟨S4x4x1024x1408, .bf16⟩
  | .hbm, ⟨26, _⟩ => ⟨S4x1x4x1x1024x1408, .bf16⟩
  | .hbm, ⟨27, _⟩ => ⟨S4x4x1024x1408, .bf16⟩
  | .hbm, ⟨28, _⟩ => ⟨S4x1x4x1024x1408, .bf16⟩
  | .hbm, ⟨29, _⟩ => ⟨S4x1x4x1024x1408, .bf16⟩
  | .hbm, ⟨30, _⟩ => ⟨S4x2x4x1024x1408, .bf16⟩
  | .hbm, ⟨31, _⟩ => ⟨S32x1024x1408, .bf16⟩
  | .hbm, ⟨32, _⟩ => ⟨S4x2x4x2x1024x1408, .bf16⟩
  | .hbm, ⟨33, _⟩ => ⟨S4x1x4x1x1024x1408, .bf16⟩
  | .hbm, ⟨34, _⟩ => ⟨S4x4x1024x1408, .bf16⟩
  | .hbm, ⟨35, _⟩ => ⟨S4x1x4x1x1024x1408, .bf16⟩
  | .hbm, ⟨36, _⟩ => ⟨S4x4x1024x1408, .bf16⟩
  | .hbm, ⟨37, _⟩ => ⟨S4x1x4x1024x1408, .bf16⟩
  | .hbm, ⟨38, _⟩ => ⟨S4x1x4x1024x1408, .bf16⟩
  | .hbm, ⟨39, _⟩ => ⟨S4x2x4x1024x1408, .bf16⟩
  | .hbm, ⟨40, _⟩ => ⟨S32x1024x1408, .bf16⟩
  | .hbm, ⟨41, _⟩ => ⟨S4x2x4x2x704x2048, .bf16⟩
  | .hbm, ⟨42, _⟩ => ⟨S4x1x4x1x704x2048, .bf16⟩
  | .hbm, ⟨43, _⟩ => ⟨S4x4x704x2048, .bf16⟩
  | .hbm, ⟨44, _⟩ => ⟨S4x1x4x1x704x2048, .bf16⟩
  | .hbm, ⟨45, _⟩ => ⟨S4x4x704x2048, .bf16⟩
  | .hbm, ⟨46, _⟩ => ⟨S4x1x4x704x2048, .bf16⟩
  | .hbm, ⟨47, _⟩ => ⟨S4x1x4x704x2048, .bf16⟩
  | .hbm, ⟨48, _⟩ => ⟨S4x2x4x704x2048, .bf16⟩
  | .hbm, ⟨49, _⟩ => ⟨S32x704x2048, .bf16⟩
  | _, _ => ⟨S32x2x1024x4100, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩

abbrev nD : Nat := 1
abbrev τ : Topo := Topo.v7x

variable {F : FTy → Type} [FloatOps F]
-- ==== Scatter.lean ====
abbrev S4x1024x4100 : Shape := ⟨3, ![4, 1024, 4100]⟩
abbrev S4x256x2048 : Shape := ⟨3, ![4, 256, 2048]⟩
abbrev S4x1024x1408 : Shape := ⟨3, ![4, 1024, 1408]⟩
abbrev S4x704x2048 : Shape := ⟨3, ![4, 704, 2048]⟩
abbrev S5 : Shape := ⟨1, ![5]⟩
abbrev S15 : Shape := ⟨1, ![15]⟩
abbrev S1 : Shape := ⟨1, ![1]⟩
abbrev S_ : Shape := ⟨0, ![]⟩
abbrev S1x1024x4100 : Shape := ⟨3, ![1, 1024, 4100]⟩
abbrev S1024x4100 : Shape := ⟨2, ![1024, 4100]⟩
abbrev S1x256x2048 : Shape := ⟨3, ![1, 256, 2048]⟩
abbrev S256x2048 : Shape := ⟨2, ![256, 2048]⟩
abbrev S1x1024x1408 : Shape := ⟨3, ![1, 1024, 1408]⟩
abbrev S1024x1408 : Shape := ⟨2, ![1024, 1408]⟩
abbrev S1x704x2048 : Shape := ⟨3, ![1, 704, 2048]⟩
abbrev S704x2048 : Shape := ⟨2, ![704, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x1024x4100, .bf16⟩
  | .hbm, ⟨1, _⟩ => ⟨S4x256x2048, .bf16⟩
  | .hbm, ⟨2, _⟩ => ⟨S4x1024x1408, .bf16⟩
  | .hbm, ⟨3, _⟩ => ⟨S4x1024x1408, .bf16⟩
  | .hbm, ⟨4, _⟩ => ⟨S4x704x2048, .bf16⟩
  | .hbm, ⟨5, _⟩ => ⟨S4x1024x4100, .bf16⟩
  | .hbm, ⟨6, _⟩ => ⟨S4x256x2048, .bf16⟩
  | .hbm, ⟨7, _⟩ => ⟨S4x1024x1408, .bf16⟩
  | .hbm, ⟨8, _⟩ => ⟨S4x1024x1408, .bf16⟩
  | .hbm, ⟨9, _⟩ => ⟨S4x704x2048, .bf16⟩
  | _, _ => ⟨S4x1024x4100, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_8 : BitVec 32 := 0#32
  let c0_i32_9 : BitVec 32 := 0#32
  ![v14.toNat, 0, 0]
def k0_off2 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_13 : BitVec 32 := 0#32
  let c0_i32_14 : BitVec 32 := 0#32
  ![v14.toNat, 0, 0]
def k0_off3 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_off4 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_27 : BitVec 32 := 0#32
  let c0_i32_28 : BitVec 32 := 0#32
  ![v14.toNat, 0, 0]
def k0_off5 (d0 : Dev nD) : Fin 3 → Nat :=
  let c2_i32_31 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v45 : BitVec 32 := Scalar.muli c2_i32_31 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.addi v45 v5
  let c0_i32_40 : BitVec 32 := 0#32
  let c0_i32_41 : BitVec 32 := 0#32
  ![v46.toNat, 0, 0]
def k0_dev1 (d0 : Dev nD) : Nat :=
  let c0_i32_35 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_34 : BitVec 32 := 4#32
  let v47 : BitVec 32 := Scalar.muli v9 c4_i32_34
  let v48 : BitVec 32 := Scalar.addi c0_i32_35 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v49 : BitVec 32 := Scalar.muli v5 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
def k0_off6 (d0 : Dev nD) : Fin 3 → Nat :=
  let c2_i32_42 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v61 : BitVec 32 := Scalar.muli c2_i32_42 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v62 : BitVec 32 := Scalar.addi v61 v10
  let c0_i32_51 : BitVec 32 := 0#32
  let c0_i32_52 : BitVec 32 := 0#32
  ![v62.toNat, 0, 0]
def k0_dev2 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v63 : BitVec 32 := Scalar.muli v2 c4_i32_45
  let v64 : BitVec 32 := Scalar.addi c0_i32_46 v63
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_47 : BitVec 32 := 2#32
  let v65 : BitVec 32 := Scalar.muli v10 c2_i32_47
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v67 : BitVec 32 := Scalar.muli v8 c1_i32_48
  let v68 : BitVec 32 := Scalar.addi v66 v67
  v68.toNat
def k0_off7 (d0 : Dev nD) : Fin 3 → Nat :=
  let c2_i32_53 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v77 : BitVec 32 := Scalar.muli c2_i32_53 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v78 : BitVec 32 := Scalar.addi v77 v12
  let c0_i32_62 : BitVec 32 := 0#32
  let c0_i32_63 : BitVec 32 := 0#32
  ![v78.toNat, 0, 0]
def k0_dev3 (d0 : Dev nD) : Nat :=
  let c0_i32_57 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_56 : BitVec 32 := 4#32
  let v79 : BitVec 32 := Scalar.muli v11 c4_i32_56
  let v80 : BitVec 32 := Scalar.addi c0_i32_57 v79
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_58 : BitVec 32 := 2#32
  let v81 : BitVec 32 := Scalar.muli v12 c2_i32_58
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v83 : BitVec 32 := Scalar.muli v8 c1_i32_59
  let v84 : BitVec 32 := Scalar.addi v82 v83
  v84.toNat
def k0_off8 (d0 : Dev nD) : Fin 3 → Nat :=
  let c2_i32_64 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v93 : BitVec 32 := Scalar.muli c2_i32_64 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v94 : BitVec 32 := Scalar.addi v93 v5
  let c0_i32_73 : BitVec 32 := 0#32
  let c0_i32_74 : BitVec 32 := 0#32
  ![v94.toNat, 0, 0]
def k0_dev4 (d0 : Dev nD) : Nat :=
  let c0_i32_68 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_67 : BitVec 32 := 4#32
  let v95 : BitVec 32 := Scalar.muli v9 c4_i32_67
  let v96 : BitVec 32 := Scalar.addi c0_i32_68 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v97 : BitVec 32 := Scalar.muli v5 c2_i32_69
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v99 : BitVec 32 := Scalar.muli v8 c1_i32_70
  let v100 : BitVec 32 := Scalar.addi v98 v99
  v100.toNat
def k0_off9 (d0 : Dev nD) : Fin 3 → Nat :=
  let c2_i32_75 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v109 : BitVec 32 := Scalar.muli c2_i32_75 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v110 : BitVec 32 := Scalar.addi v109 v10
  let c0_i32_84 : BitVec 32 := 0#32
  let c0_i32_85 : BitVec 32 := 0#32
  ![v110.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v111 : BitVec 32 := Scalar.muli v2 c4_i32_78
  let v112 : BitVec 32 := Scalar.addi c0_i32_79 v111
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_80 : BitVec 32 := 2#32
  let v113 : BitVec 32 := Scalar.muli v10 c2_i32_80
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v115 : BitVec 32 := Scalar.muli v8 c1_i32_81
  let v116 : BitVec 32 := Scalar.addi v114 v115
  v116.toNat
def k0_off10 (d0 : Dev nD) : Fin 3 → Nat :=
  let c2_i32_86 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v125 : BitVec 32 := Scalar.muli c2_i32_86 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v126 : BitVec 32 := Scalar.addi v125 v12
  let c0_i32_94 : BitVec 32 := 0#32
  let c0_i32_95 : BitVec 32 := 0#32
  ![v126.toNat, 0, 0]
def k0_dev6 (d0 : Dev nD) : Nat :=
  let c0_i32_89 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_88 : BitVec 32 := 4#32
  let v127 : BitVec 32 := Scalar.muli v11 c4_i32_88
  let v128 : BitVec 32 := Scalar.addi c0_i32_89 v127
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_90 : BitVec 32 := 2#32
  let v129 : BitVec 32 := Scalar.muli v12 c2_i32_90
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v131 : BitVec 32 := Scalar.muli v8 c1_i32_91
  let v132 : BitVec 32 := Scalar.addi v130 v131
  v132.toNat
def k0_off11 (d0 : Dev nD) : Fin 3 → Nat :=
  let c2_i32_96 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v141 : BitVec 32 := Scalar.muli c2_i32_96 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.addi v141 v5
  let c0_i32_104 : BitVec 32 := 0#32
  let c0_i32_105 : BitVec 32 := 0#32
  ![v142.toNat, 0, 0]
def k0_dev7 (d0 : Dev nD) : Nat :=
  let c0_i32_99 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_98 : BitVec 32 := 4#32
  let v143 : BitVec 32 := Scalar.muli v9 c4_i32_98
  let v144 : BitVec 32 := Scalar.addi c0_i32_99 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v145 : BitVec 32 := Scalar.muli v5 c2_i32_100
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v147 : BitVec 32 := Scalar.muli v8 c1_i32_101
  let v148 : BitVec 32 := Scalar.addi v146 v147
  v148.toNat
def k0_off12 (d0 : Dev nD) : Fin 3 → Nat :=
  let c2_i32_106 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v157 : BitVec 32 := Scalar.muli c2_i32_106 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v158 : BitVec 32 := Scalar.addi v157 v10
  let c0_i32_114 : BitVec 32 := 0#32
  let c0_i32_115 : BitVec 32 := 0#32
  ![v158.toNat, 0, 0]
def k0_dev8 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v159 : BitVec 32 := Scalar.muli v2 c4_i32_108
  let v160 : BitVec 32 := Scalar.addi c0_i32_109 v159
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_110 : BitVec 32 := 2#32
  let v161 : BitVec 32 := Scalar.muli v10 c2_i32_110
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v163 : BitVec 32 := Scalar.muli v8 c1_i32_111
  let v164 : BitVec 32 := Scalar.addi v162 v163
  v164.toNat
def k0_off13 (d0 : Dev nD) : Fin 3 → Nat :=
  let c2_i32_116 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v173 : BitVec 32 := Scalar.muli c2_i32_116 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v174 : BitVec 32 := Scalar.addi v173 v12
  let c0_i32_124 : BitVec 32 := 0#32
  let c0_i32_125 : BitVec 32 := 0#32
  ![v174.toNat, 0, 0]
def k0_dev9 (d0 : Dev nD) : Nat :=
  let c0_i32_119 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_118 : BitVec 32 := 4#32
  let v175 : BitVec 32 := Scalar.muli v11 c4_i32_118
  let v176 : BitVec 32 := Scalar.addi c0_i32_119 v175
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_120 : BitVec 32 := 2#32
  let v177 : BitVec 32 := Scalar.muli v12 c2_i32_120
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v179 : BitVec 32 := Scalar.muli v8 c1_i32_121
  let v180 : BitVec 32 := Scalar.addi v178 v179
  v180.toNat
def k0_dev10 (d0 : Dev nD) : Nat :=
  let c0_i32_129 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_128 : BitVec 32 := 4#32
  let v191 : BitVec 32 := Scalar.muli v9 c4_i32_128
  let v192 : BitVec 32 := Scalar.addi c0_i32_129 v191
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v193 : BitVec 32 := Scalar.muli v5 c2_i32_130
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v195 : BitVec 32 := Scalar.muli v8 c1_i32_131
  let v196 : BitVec 32 := Scalar.addi v194 v195
  v196.toNat
def k0_dev11 (d0 : Dev nD) : Nat :=
  let c0_i32_139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_138 : BitVec 32 := 4#32
  let v207 : BitVec 32 := Scalar.muli v2 c4_i32_138
  let v208 : BitVec 32 := Scalar.addi c0_i32_139 v207
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_140 : BitVec 32 := 2#32
  let v209 : BitVec 32 := Scalar.muli v10 c2_i32_140
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_141 : BitVec 32 := 1#32
  let v211 : BitVec 32 := Scalar.muli v8 c1_i32_141
  let v212 : BitVec 32 := Scalar.addi v210 v211
  v212.toNat
def k0_dev12 (d0 : Dev nD) : Nat :=
  let c0_i32_149 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_148 : BitVec 32 := 4#32
  let v223 : BitVec 32 := Scalar.muli v11 c4_i32_148
  let v224 : BitVec 32 := Scalar.addi c0_i32_149 v223
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_150 : BitVec 32 := 2#32
  let v225 : BitVec 32 := Scalar.muli v12 c2_i32_150
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v227 : BitVec 32 := Scalar.muli v8 c1_i32_151
  let v228 : BitVec 32 := Scalar.addi v226 v227
  v228.toNat
def k0_off14 (d0 : Dev nD) : Fin 3 → Nat :=
  let c2_i32_156 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v237 : BitVec 32 := Scalar.muli c2_i32_156 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v238 : BitVec 32 := Scalar.addi v237 v5
  let c0_i32_164 : BitVec 32 := 0#32
  let c0_i32_165 : BitVec 32 := 0#32
  ![v238.toNat, 0, 0]
def k0_dev13 (d0 : Dev nD) : Nat :=
  let c0_i32_159 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_158 : BitVec 32 := 4#32
  let v239 : BitVec 32 := Scalar.muli v9 c4_i32_158
  let v240 : BitVec 32 := Scalar.addi c0_i32_159 v239
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_160 : BitVec 32 := 2#32
  let v241 : BitVec 32 := Scalar.muli v5 c2_i32_160
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v243 : BitVec 32 := Scalar.muli v8 c1_i32_161
  let v244 : BitVec 32 := Scalar.addi v242 v243
  v244.toNat
def k0_off15 (d0 : Dev nD) : Fin 3 → Nat :=
  let c2_i32_166 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v253 : BitVec 32 := Scalar.muli c2_i32_166 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v254 : BitVec 32 := Scalar.addi v253 v10
  let c0_i32_174 : BitVec 32 := 0#32
  let c0_i32_175 : BitVec 32 := 0#32
  ![v254.toNat, 0, 0]
def k0_dev14 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168 : BitVec 32 := 4#32
  let v255 : BitVec 32 := Scalar.muli v2 c4_i32_168
  let v256 : BitVec 32 := Scalar.addi c0_i32_169 v255
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_170 : BitVec 32 := 2#32
  let v257 : BitVec 32 := Scalar.muli v10 c2_i32_170
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v259 : BitVec 32 := Scalar.muli v8 c1_i32_171
  let v260 : BitVec 32 := Scalar.addi v258 v259
  v260.toNat
def k0_off16 (d0 : Dev nD) : Fin 3 → Nat :=
  let c2_i32_176 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v269 : BitVec 32 := Scalar.muli c2_i32_176 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v270 : BitVec 32 := Scalar.addi v269 v12
  let c0_i32_184 : BitVec 32 := 0#32
  let c0_i32_185 : BitVec 32 := 0#32
  ![v270.toNat, 0, 0]
def k0_dev15 (d0 : Dev nD) : Nat :=
  let c0_i32_179 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_178 : BitVec 32 := 4#32
  let v271 : BitVec 32 := Scalar.muli v11 c4_i32_178
  let v272 : BitVec 32 := Scalar.addi c0_i32_179 v271
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_180 : BitVec 32 := 2#32
  let v273 : BitVec 32 := Scalar.muli v12 c2_i32_180
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_181 : BitVec 32 := 1#32
  let v275 : BitVec 32 := Scalar.muli v8 c1_i32_181
  let v276 : BitVec 32 := Scalar.addi v274 v275
  v276.toNat
-- ==== ScatterRef.lean ====
abbrev S32x1024x4100 : Shape := ⟨3, ![32, 1024, 4100]⟩
abbrev S32x256x2048 : Shape := ⟨3, ![32, 256, 2048]⟩
abbrev S32x1024x1408 : Shape := ⟨3, ![32, 1024, 1408]⟩
abbrev S32x704x2048 : Shape := ⟨3, ![32, 704, 2048]⟩
abbrev S4x2x4x1024x4100 : Shape := ⟨5, ![4, 2, 4, 1024, 4100]⟩
abbrev S4x2x4x256x2048 : Shape := ⟨5, ![4, 2, 4, 256, 2048]⟩
abbrev S4x2x4x1024x1408 : Shape := ⟨5, ![4, 2, 4, 1024, 1408]⟩
abbrev S4x2x4x704x2048 : Shape := ⟨5, ![4, 2, 4, 704, 2048]⟩

abbrev nBuf : Space → Nat
  | .hbm => 20
  | .vmem => 0
  | .smem => 0
  | _ => 0

abbrev bufTy : (tb : Table) → Fin (tcTables nBuf tb) → BufTy
  | .hbm, ⟨0, _⟩ => ⟨S32x1024x4100, .bf16⟩
  | .hbm, ⟨1, _⟩ => ⟨S32x256x2048, .bf16⟩
  | .hbm, ⟨2, _⟩ => ⟨S32x1024x1408, .bf16⟩
  | .hbm, ⟨3, _⟩ => ⟨S32x1024x1408, .bf16⟩
  | .hbm, ⟨4, _⟩ => ⟨S32x704x2048, .bf16⟩
  | .hbm, ⟨5, _⟩ => ⟨S4x2x4x1024x4100, .bf16⟩
  | .hbm, ⟨6, _⟩ => ⟨S4x2x4x1024x4100, .bf16⟩
  | .hbm, ⟨7, _⟩ => ⟨S32x1024x4100, .bf16⟩
  | .hbm, ⟨8, _⟩ => ⟨S4x2x4x256x2048, .bf16⟩
  | .hbm, ⟨9, _⟩ => ⟨S4x2x4x256x2048, .bf16⟩
  | .hbm, ⟨10, _⟩ => ⟨S32x256x2048, .bf16⟩
  | .hbm, ⟨11, _⟩ => ⟨S4x2x4x1024x1408, .bf16⟩
  | .hbm, ⟨12, _⟩ => ⟨S4x2x4x1024x1408, .bf16⟩
  | .hbm, ⟨13, _⟩ => ⟨S32x1024x1408, .bf16⟩
  | .hbm, ⟨14, _⟩ => ⟨S4x2x4x1024x1408, .bf16⟩
  | .hbm, ⟨15, _⟩ => ⟨S4x2x4x1024x1408, .bf16⟩
  | .hbm, ⟨16, _⟩ => ⟨S32x1024x1408, .bf16⟩
  | .hbm, ⟨17, _⟩ => ⟨S4x2x4x704x2048, .bf16⟩
  | .hbm, ⟨18, _⟩ => ⟨S4x2x4x704x2048, .bf16⟩
  | .hbm, ⟨19, _⟩ => ⟨S32x704x2048, .bf16⟩
  | _, _ => ⟨S32x1024x4100, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Share.lean ====
abbrev S1024x4100 : Shape := ⟨2, ![1024, 4100]⟩
abbrev S256x2048 : Shape := ⟨2, ![256, 2048]⟩
abbrev S1024x1408 : Shape := ⟨2, ![1024, 1408]⟩
abbrev S704x2048 : Shape := ⟨2, ![704, 2048]⟩
abbrev S2x1024x4100 : Shape := ⟨3, ![2, 1024, 4100]⟩
abbrev S2x256x2048 : Shape := ⟨3, ![2, 256, 2048]⟩
abbrev S2x1024x1408 : Shape := ⟨3, ![2, 1024, 1408]⟩
abbrev S2x704x2048 : Shape := ⟨3, ![2, 704, 2048]⟩
abbrev S5 : Shape := ⟨1, ![5]⟩
abbrev S1 : Shape := ⟨1, ![1]⟩
abbrev S_ : Shape := ⟨0, ![]⟩
abbrev S1x1024x4100 : Shape := ⟨3, ![1, 1024, 4100]⟩
abbrev S1x256x2048 : Shape := ⟨3, ![1, 256, 2048]⟩
abbrev S1x1024x1408 : Shape := ⟨3, ![1, 1024, 1408]⟩
abbrev S1x704x2048 : Shape := ⟨3, ![1, 704, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1024x4100, .f32⟩
  | .hbm, ⟨1, _⟩ => ⟨S256x2048, .f32⟩
  | .hbm, ⟨2, _⟩ => ⟨S1024x1408, .f32⟩
  | .hbm, ⟨3, _⟩ => ⟨S1024x1408, .f32⟩
  | .hbm, ⟨4, _⟩ => ⟨S704x2048, .f32⟩
  | .hbm, ⟨5, _⟩ => ⟨S2x1024x4100, .f32⟩
  | .hbm, ⟨6, _⟩ => ⟨S2x256x2048, .f32⟩
  | .hbm, ⟨7, _⟩ => ⟨S2x1024x1408, .f32⟩
  | .hbm, ⟨8, _⟩ => ⟨S2x1024x1408, .f32⟩
  | .hbm, ⟨9, _⟩ => ⟨S2x704x2048, .f32⟩
  | _, _ => ⟨S1024x4100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_3 : BitVec 32 := 0#32
  let c0_i32_4 : BitVec 32 := 0#32
  ![v8.toNat, 0, 0]
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v14 : BitVec 32 := Scalar.muli v2 c4_i32_8
  let v15 : BitVec 32 := Scalar.addi c0_i32_9 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v16 : BitVec 32 := Scalar.muli v5 c2_i32_10
  let v17 : BitVec 32 := Scalar.addi v15 v16
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_11 : BitVec 32 := 1#32
  let v18 : BitVec 32 := Scalar.muli v13 c1_i32_11
  let v19 : BitVec 32 := Scalar.addi v17 v18
  v19.toNat
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let c0_i32_16 : BitVec 32 := 0#32
  ![v8.toNat, 0, 0]
def k0_dev2 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v31 : BitVec 32 := Scalar.muli v2 c4_i32_20
  let v32 : BitVec 32 := Scalar.addi c0_i32_21 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v33 : BitVec 32 := Scalar.muli v5 c2_i32_22
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_23 : BitVec 32 := 1#32
  let v35 : BitVec 32 := Scalar.muli v30 c1_i32_23
  let v36 : BitVec 32 := Scalar.addi v34 v35
  v36.toNat
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_27 : BitVec 32 := 0#32
  let c0_i32_28 : BitVec 32 := 0#32
  ![v8.toNat, 0, 0]
def k0_dev3 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v48 : BitVec 32 := Scalar.muli v2 c4_i32_32
  let v49 : BitVec 32 := Scalar.addi c0_i32_33 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v50 : BitVec 32 := Scalar.muli v5 c2_i32_34
  let v51 : BitVec 32 := Scalar.addi v49 v50
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_29 v8
  let c1_i32_35 : BitVec 32 := 1#32
  let v52 : BitVec 32 := Scalar.muli v47 c1_i32_35
  let v53 : BitVec 32 := Scalar.addi v51 v52
  v53.toNat
def k0_dev4 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v65 : BitVec 32 := Scalar.muli v2 c4_i32_43
  let v66 : BitVec 32 := Scalar.addi c0_i32_44 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v67 : BitVec 32 := Scalar.muli v5 c2_i32_45
  let v68 : BitVec 32 := Scalar.addi v66 v67
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_40 v8
  let c1_i32_46 : BitVec 32 := 1#32
  let v69 : BitVec 32 := Scalar.muli v64 c1_i32_46
  let v70 : BitVec 32 := Scalar.addi v68 v69
  v70.toNat
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_50 : BitVec 32 := 0#32
  let c0_i32_51 : BitVec 32 := 0#32
  ![v8.toNat, 0, 0]
def k0_dev5 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v82 : BitVec 32 := Scalar.muli v2 c4_i32_55
  let v83 : BitVec 32 := Scalar.addi c0_i32_56 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v84 : BitVec 32 := Scalar.muli v5 c2_i32_57
  let v85 : BitVec 32 := Scalar.addi v83 v84
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.subi c1_i32_52 v8
  let c1_i32_58 : BitVec 32 := 1#32
  let v86 : BitVec 32 := Scalar.muli v81 c1_i32_58
  let v87 : BitVec 32 := Scalar.addi v85 v86
  v87.toNat
-- ==== ShareRef.lean ====
abbrev S8192x4100 : Shape := ⟨2, ![8192, 4100]⟩
abbrev S2048x2048 : Shape := ⟨2, ![2048, 2048]⟩
abbrev S8192x1408 : Shape := ⟨2, ![8192, 1408]⟩
abbrev S5632x2048 : Shape := ⟨2, ![5632, 2048]⟩
abbrev S8x1024x4100 : Shape := ⟨3, ![8, 1024, 4100]⟩
abbrev S8x256x2048 : Shape := ⟨3, ![8, 256, 2048]⟩
abbrev S8x1024x1408 : Shape := ⟨3, ![8, 1024, 1408]⟩
abbrev S8x704x2048 : Shape := ⟨3, ![8, 704, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x4100, .f32⟩
  | .hbm, ⟨1, _⟩ => ⟨S2048x2048, .f32⟩
  | .hbm, ⟨2, _⟩ => ⟨S8192x1408, .f32⟩
  | .hbm, ⟨3, _⟩ => ⟨S8192x1408, .f32⟩
  | .hbm, ⟨4, _⟩ => ⟨S5632x2048, .f32⟩
  | .hbm, ⟨5, _⟩ => ⟨S8x1024x4100, .f32⟩
  | .hbm, ⟨6, _⟩ => ⟨S8x256x2048, .f32⟩
  | .hbm, ⟨7, _⟩ => ⟨S8x1024x1408, .f32⟩
  | .hbm, ⟨8, _⟩ => ⟨S8x1024x1408, .f32⟩
  | .hbm, ⟨9, _⟩ => ⟨S8x704x2048, .f32⟩
  | _, _ => ⟨S8192x4100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Gather.lean ====
abbrev S2048x4100 : Shape := ⟨2, ![2048, 4100]⟩
abbrev S512x2048 : Shape := ⟨2, ![512, 2048]⟩
abbrev S2048x1408 : Shape := ⟨2, ![2048, 1408]⟩
abbrev S1408x2048 : Shape := ⟨2, ![1408, 2048]⟩
abbrev S4x2048x4100 : Shape := ⟨3, ![4, 2048, 4100]⟩
abbrev S4x512x2048 : Shape := ⟨3, ![4, 512, 2048]⟩
abbrev S4x2048x1408 : Shape := ⟨3, ![4, 2048, 1408]⟩
abbrev S4x1408x2048 : Shape := ⟨3, ![4, 1408, 2048]⟩
abbrev S5 : Shape := ⟨1, ![5]⟩
abbrev S30 : Shape := ⟨1, ![30]⟩
abbrev S1 : Shape := ⟨1, ![1]⟩
abbrev S_ : Shape := ⟨0, ![]⟩
abbrev S1x2048x4100 : Shape := ⟨3, ![1, 2048, 4100]⟩
abbrev S1x512x2048 : Shape := ⟨3, ![1, 512, 2048]⟩
abbrev S1x2048x1408 : Shape := ⟨3, ![1, 2048, 1408]⟩
abbrev S1x1408x2048 : Shape := ⟨3, ![1, 1408, 2048]⟩
abbrev S1x1024x4100 : Shape := ⟨3, ![1, 1024, 4100]⟩
abbrev S1024x4100 : Shape := ⟨2, ![1024, 4100]⟩
abbrev S1x256x2048 : Shape := ⟨3, ![1, 256, 2048]⟩
abbrev S256x2048 : Shape := ⟨2, ![256, 2048]⟩
abbrev S1x1024x1408 : Shape := ⟨3, ![1, 1024, 1408]⟩
abbrev S1024x1408 : Shape := ⟨2, ![1024, 1408]⟩
abbrev S1x704x2048 : Shape := ⟨3, ![1, 704, 2048]⟩
abbrev S704x2048 : Shape := ⟨2, ![704, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4100, .bf16⟩
  | .hbm, ⟨1, _⟩ => ⟨S512x2048, .bf16⟩
  | .hbm, ⟨2, _⟩ => ⟨S2048x1408, .bf16⟩
  | .hbm, ⟨3, _⟩ => ⟨S2048x1408, .bf16⟩
  | .hbm, ⟨4, _⟩ => ⟨S1408x2048, .bf16⟩
  | .hbm, ⟨5, _⟩ => ⟨S4x2048x4100, .bf16⟩
  | .hbm, ⟨6, _⟩ => ⟨S4x512x2048, .bf16⟩
  | .hbm, ⟨7, _⟩ => ⟨S4x2048x1408, .bf16⟩
  | .hbm, ⟨8, _⟩ => ⟨S4x2048x1408, .bf16⟩
  | .hbm, ⟨9, _⟩ => ⟨S4x1408x2048, .bf16⟩
  | _, _ => ⟨S2048x4100, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_8 : BitVec 32 := 0#32
  let c0_i32_9 : BitVec 32 := 0#32
  ![v14.toNat, 0, 0]
def k0_off2 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_11 : BitVec 32 := 0#32
  let c0_i32_12 : BitVec 32 := 0#32
  ![v14.toNat, 0, 0]
def k0_off3 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_14 : BitVec 32 := 0#32
  let c0_i32_15 : BitVec 32 := 0#32
  ![v14.toNat, 0, 0]
def k0_off4 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_19 : BitVec 32 := 0#32
  let c0_i32_20 : BitVec 32 := 0#32
  ![v14.toNat, 0, 0]
def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v35 : BitVec 32 := Scalar.muli v8 c1024_i32
  v35
def k0_mult2 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_21 : BitVec 32 := 1024#32
  let v37 : BitVec 32 := Scalar.muli v8 c1024_i32_21
  v37
def k0_off5 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_21 : BitVec 32 := 1024#32
  let v37 : BitVec 32 := Scalar.muli v8 c1024_i32_21
  let v38 : BitVec 32 := v37
  let c0_i32_28 : BitVec 32 := 0#32
  ![v14.toNat, v38.toNat, 0]
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v35 : BitVec 32 := Scalar.muli v8 c1024_i32
  let v36 : BitVec 32 := v35
  let c0_i32_29 : BitVec 32 := 0#32
  ![v36.toNat, 0]
def k0_dev1 (d0 : Dev nD) : Nat :=
  let c0_i32_25 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_24 : BitVec 32 := 4#32
  let v39 : BitVec 32 := Scalar.muli v9 c4_i32_24
  let v40 : BitVec 32 := Scalar.addi c0_i32_25 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v41 : BitVec 32 := Scalar.muli v5 c2_i32_26
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v43 : BitVec 32 := Scalar.muli v8 c1_i32_27
  let v44 : BitVec 32 := Scalar.addi v42 v43
  v44.toNat
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_30 : BitVec 32 := 1024#32
  let v52 : BitVec 32 := Scalar.muli v8 c1024_i32_30
  v52
def k0_mult4 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_31 : BitVec 32 := 1024#32
  let v54 : BitVec 32 := Scalar.muli v8 c1024_i32_31
  v54
def k0_dev2 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v56 : BitVec 32 := Scalar.muli v2 c4_i32_34
  let v57 : BitVec 32 := Scalar.addi c0_i32_35 v56
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_36 : BitVec 32 := 2#32
  let v58 : BitVec 32 := Scalar.muli v10 c2_i32_36
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v60 : BitVec 32 := Scalar.muli v8 c1_i32_37
  let v61 : BitVec 32 := Scalar.addi v59 v60
  v61.toNat
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_40 : BitVec 32 := 1024#32
  let v69 : BitVec 32 := Scalar.muli v8 c1024_i32_40
  v69
def k0_mult6 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_41 : BitVec 32 := 1024#32
  let v71 : BitVec 32 := Scalar.muli v8 c1024_i32_41
  v71
def k0_dev3 (d0 : Dev nD) : Nat :=
  let c0_i32_45 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_44 : BitVec 32 := 4#32
  let v73 : BitVec 32 := Scalar.muli v11 c4_i32_44
  let v74 : BitVec 32 := Scalar.addi c0_i32_45 v73
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_46 : BitVec 32 := 2#32
  let v75 : BitVec 32 := Scalar.muli v12 c2_i32_46
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v77 : BitVec 32 := Scalar.muli v8 c1_i32_47
  let v78 : BitVec 32 := Scalar.addi v76 v77
  v78.toNat
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v86 : BitVec 32 := Scalar.muli v8 c256_i32
  v86
def k0_mult8 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_50 : BitVec 32 := 256#32
  let v88 : BitVec 32 := Scalar.muli v8 c256_i32_50
  v88
def k0_off7 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_50 : BitVec 32 := 256#32
  let v88 : BitVec 32 := Scalar.muli v8 c256_i32_50
  let v89 : BitVec 32 := v88
  let c0_i32_56 : BitVec 32 := 0#32
  ![v14.toNat, v89.toNat, 0]
def k0_off8 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v86 : BitVec 32 := Scalar.muli v8 c256_i32
  let v87 : BitVec 32 := v86
  let c0_i32_57 : BitVec 32 := 0#32
  ![v87.toNat, 0]
def k0_dev4 (d0 : Dev nD) : Nat :=
  let c0_i32_53 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_52 : BitVec 32 := 4#32
  let v90 : BitVec 32 := Scalar.muli v9 c4_i32_52
  let v91 : BitVec 32 := Scalar.addi c0_i32_53 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v92 : BitVec 32 := Scalar.muli v5 c2_i32_54
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v94 : BitVec 32 := Scalar.muli v8 c1_i32_55
  let v95 : BitVec 32 := Scalar.addi v93 v94
  v95.toNat
def k0_mult9 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_58 : BitVec 32 := 256#32
  let v103 : BitVec 32 := Scalar.muli v8 c256_i32_58
  v103
def k0_mult10 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_59 : BitVec 32 := 256#32
  let v105 : BitVec 32 := Scalar.muli v8 c256_i32_59
  v105
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v107 : BitVec 32 := Scalar.muli v2 c4_i32_61
  let v108 : BitVec 32 := Scalar.addi c0_i32_62 v107
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_63 : BitVec 32 := 2#32
  let v109 : BitVec 32 := Scalar.muli v10 c2_i32_63
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v111 : BitVec 32 := Scalar.muli v8 c1_i32_64
  let v112 : BitVec 32 := Scalar.addi v110 v111
  v112.toNat
def k0_mult11 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_67 : BitVec 32 := 256#32
  let v120 : BitVec 32 := Scalar.muli v8 c256_i32_67
  v120
def k0_mult12 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_68 : BitVec 32 := 256#32
  let v122 : BitVec 32 := Scalar.muli v8 c256_i32_68
  v122
def k0_dev6 (d0 : Dev nD) : Nat :=
  let c0_i32_71 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_70 : BitVec 32 := 4#32
  let v124 : BitVec 32 := Scalar.muli v11 c4_i32_70
  let v125 : BitVec 32 := Scalar.addi c0_i32_71 v124
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_72 : BitVec 32 := 2#32
  let v126 : BitVec 32 := Scalar.muli v12 c2_i32_72
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v128 : BitVec 32 := Scalar.muli v8 c1_i32_73
  let v129 : BitVec 32 := Scalar.addi v127 v128
  v129.toNat
def k0_mult13 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_76 : BitVec 32 := 1024#32
  let v137 : BitVec 32 := Scalar.muli v8 c1024_i32_76
  v137
def k0_mult14 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_77 : BitVec 32 := 1024#32
  let v139 : BitVec 32 := Scalar.muli v8 c1024_i32_77
  v139
def k0_off9 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_77 : BitVec 32 := 1024#32
  let v139 : BitVec 32 := Scalar.muli v8 c1024_i32_77
  let v140 : BitVec 32 := v139
  let c0_i32_83 : BitVec 32 := 0#32
  ![v14.toNat, v140.toNat, 0]
def k0_off10 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_76 : BitVec 32 := 1024#32
  let v137 : BitVec 32 := Scalar.muli v8 c1024_i32_76
  let v138 : BitVec 32 := v137
  let c0_i32_84 : BitVec 32 := 0#32
  ![v138.toNat, 0]
def k0_dev7 (d0 : Dev nD) : Nat :=
  let c0_i32_80 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_79 : BitVec 32 := 4#32
  let v141 : BitVec 32 := Scalar.muli v9 c4_i32_79
  let v142 : BitVec 32 := Scalar.addi c0_i32_80 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v143 : BitVec 32 := Scalar.muli v5 c2_i32_81
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v145 : BitVec 32 := Scalar.muli v8 c1_i32_82
  let v146 : BitVec 32 := Scalar.addi v144 v145
  v146.toNat
def k0_mult15 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_85 : BitVec 32 := 1024#32
  let v154 : BitVec 32 := Scalar.muli v8 c1024_i32_85
  v154
def k0_mult16 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_86 : BitVec 32 := 1024#32
  let v156 : BitVec 32 := Scalar.muli v8 c1024_i32_86
  v156
def k0_dev8 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v158 : BitVec 32 := Scalar.muli v2 c4_i32_88
  let v159 : BitVec 32 := Scalar.addi c0_i32_89 v158
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_90 : BitVec 32 := 2#32
  let v160 : BitVec 32 := Scalar.muli v10 c2_i32_90
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v162 : BitVec 32 := Scalar.muli v8 c1_i32_91
  let v163 : BitVec 32 := Scalar.addi v161 v162
  v163.toNat
def k0_mult17 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_94 : BitVec 32 := 1024#32
  let v171 : BitVec 32 := Scalar.muli v8 c1024_i32_94
  v171
def k0_mult18 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_95 : BitVec 32 := 1024#32
  let v173 : BitVec 32 := Scalar.muli v8 c1024_i32_95
  v173
def k0_dev9 (d0 : Dev nD) : Nat :=
  let c0_i32_98 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_97 : BitVec 32 := 4#32
  let v175 : BitVec 32 := Scalar.muli v11 c4_i32_97
  let v176 : BitVec 32 := Scalar.addi c0_i32_98 v175
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_99 : BitVec 32 := 2#32
  let v177 : BitVec 32 := Scalar.muli v12 c2_i32_99
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v179 : BitVec 32 := Scalar.muli v8 c1_i32_100
  let v180 : BitVec 32 := Scalar.addi v178 v179
  v180.toNat
def k0_mult19 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_103 : BitVec 32 := 1024#32
  let v188 : BitVec 32 := Scalar.muli v8 c1024_i32_103
  v188
def k0_mult20 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_104 : BitVec 32 := 1024#32
  let v190 : BitVec 32 := Scalar.muli v8 c1024_i32_104
  v190
def k0_dev10 (d0 : Dev nD) : Nat :=
  let c0_i32_107 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_106 : BitVec 32 := 4#32
  let v192 : BitVec 32 := Scalar.muli v9 c4_i32_106
  let v193 : BitVec 32 := Scalar.addi c0_i32_107 v192
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v194 : BitVec 32 := Scalar.muli v5 c2_i32_108
  let v195 : BitVec 32 := Scalar.addi v193 v194
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v196 : BitVec 32 := Scalar.muli v8 c1_i32_109
  let v197 : BitVec 32 := Scalar.addi v195 v196
  v197.toNat
def k0_mult21 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_112 : BitVec 32 := 1024#32
  let v205 : BitVec 32 := Scalar.muli v8 c1024_i32_112
  v205
def k0_mult22 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_113 : BitVec 32 := 1024#32
  let v207 : BitVec 32 := Scalar.muli v8 c1024_i32_113
  v207
def k0_dev11 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v209 : BitVec 32 := Scalar.muli v2 c4_i32_115
  let v210 : BitVec 32 := Scalar.addi c0_i32_116 v209
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_117 : BitVec 32 := 2#32
  let v211 : BitVec 32 := Scalar.muli v10 c2_i32_117
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v213 : BitVec 32 := Scalar.muli v8 c1_i32_118
  let v214 : BitVec 32 := Scalar.addi v212 v213
  v214.toNat
def k0_mult23 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_121 : BitVec 32 := 1024#32
  let v222 : BitVec 32 := Scalar.muli v8 c1024_i32_121
  v222
def k0_mult24 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_122 : BitVec 32 := 1024#32
  let v224 : BitVec 32 := Scalar.muli v8 c1024_i32_122
  v224
def k0_dev12 (d0 : Dev nD) : Nat :=
  let c0_i32_125 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_124 : BitVec 32 := 4#32
  let v226 : BitVec 32 := Scalar.muli v11 c4_i32_124
  let v227 : BitVec 32 := Scalar.addi c0_i32_125 v226
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_126 : BitVec 32 := 2#32
  let v228 : BitVec 32 := Scalar.muli v12 c2_i32_126
  let v229 : BitVec 32 := Scalar.addi v227 v228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_127 : BitVec 32 := 1#32
  let v230 : BitVec 32 := Scalar.muli v8 c1_i32_127
  let v231 : BitVec 32 := Scalar.addi v229 v230
  v231.toNat
def k0_mult25 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32 : BitVec 32 := 704#32
  let v239 : BitVec 32 := Scalar.muli v8 c704_i32
  v239
def k0_mult26 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_130 : BitVec 32 := 704#32
  let v241 : BitVec 32 := Scalar.muli v8 c704_i32_130
  v241
def k0_off11 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_130 : BitVec 32 := 704#32
  let v241 : BitVec 32 := Scalar.muli v8 c704_i32_130
  let v242 : BitVec 32 := v241
  let c0_i32_136 : BitVec 32 := 0#32
  ![v14.toNat, v242.toNat, 0]
def k0_off12 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32 : BitVec 32 := 704#32
  let v239 : BitVec 32 := Scalar.muli v8 c704_i32
  let v240 : BitVec 32 := v239
  let c0_i32_137 : BitVec 32 := 0#32
  ![v240.toNat, 0]
def k0_dev13 (d0 : Dev nD) : Nat :=
  let c0_i32_133 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_132 : BitVec 32 := 4#32
  let v243 : BitVec 32 := Scalar.muli v9 c4_i32_132
  let v244 : BitVec 32 := Scalar.addi c0_i32_133 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_134 : BitVec 32 := 2#32
  let v245 : BitVec 32 := Scalar.muli v5 c2_i32_134
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v247 : BitVec 32 := Scalar.muli v8 c1_i32_135
  let v248 : BitVec 32 := Scalar.addi v246 v247
  v248.toNat
def k0_mult27 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_138 : BitVec 32 := 704#32
  let v256 : BitVec 32 := Scalar.muli v8 c704_i32_138
  v256
def k0_mult28 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_139 : BitVec 32 := 704#32
  let v258 : BitVec 32 := Scalar.muli v8 c704_i32_139
  v258
def k0_dev14 (d0 : Dev nD) : Nat :=
  let c0_i32_142 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_141 : BitVec 32 := 4#32
  let v260 : BitVec 32 := Scalar.muli v2 c4_i32_141
  let v261 : BitVec 32 := Scalar.addi c0_i32_142 v260
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_143 : BitVec 32 := 2#32
  let v262 : BitVec 32 := Scalar.muli v10 c2_i32_143
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v264 : BitVec 32 := Scalar.muli v8 c1_i32_144
  let v265 : BitVec 32 := Scalar.addi v263 v264
  v265.toNat
def k0_mult29 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_147 : BitVec 32 := 704#32
  let v273 : BitVec 32 := Scalar.muli v8 c704_i32_147
  v273
def k0_mult30 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_148 : BitVec 32 := 704#32
  let v275 : BitVec 32 := Scalar.muli v8 c704_i32_148
  v275
def k0_dev15 (d0 : Dev nD) : Nat :=
  let c0_i32_151 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_150 : BitVec 32 := 4#32
  let v277 : BitVec 32 := Scalar.muli v11 c4_i32_150
  let v278 : BitVec 32 := Scalar.addi c0_i32_151 v277
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_152 : BitVec 32 := 2#32
  let v279 : BitVec 32 := Scalar.muli v12 c2_i32_152
  let v280 : BitVec 32 := Scalar.addi v278 v279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v281 : BitVec 32 := Scalar.muli v8 c1_i32_153
  let v282 : BitVec 32 := Scalar.addi v280 v281
  v282.toNat
def k0_mult31 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_157 : BitVec 32 := 1024#32
  let v292 : BitVec 32 := Scalar.muli v8 c1024_i32_157
  v292
def k0_mult32 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_158 : BitVec 32 := 1024#32
  let v294 : BitVec 32 := Scalar.muli v8 c1024_i32_158
  v294
def k0_off13 (d0 : Dev nD) : Fin 3 → Nat :=
  let c2_i32_156 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v290 : BitVec 32 := Scalar.muli c2_i32_156 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v291 : BitVec 32 := Scalar.addi v290 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_158 : BitVec 32 := 1024#32
  let v294 : BitVec 32 := Scalar.muli v8 c1024_i32_158
  let v295 : BitVec 32 := v294
  let c0_i32_165 : BitVec 32 := 0#32
  ![v291.toNat, v295.toNat, 0]
def k0_mult33 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_167 : BitVec 32 := 1024#32
  let v307 : BitVec 32 := Scalar.muli v8 c1024_i32_167
  v307
def k0_mult34 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_169 : BitVec 32 := 1024#32
  let v310 : BitVec 32 := Scalar.muli v8 c1024_i32_169
  v310
def k0_dev16 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v312 : BitVec 32 := Scalar.muli v2 c4_i32_172
  let v313 : BitVec 32 := Scalar.addi c0_i32_173 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v314 : BitVec 32 := Scalar.muli v5 c2_i32_174
  let v315 : BitVec 32 := Scalar.addi v313 v314
  let c1_i32_168 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v309 : BitVec 32 := Scalar.subi c1_i32_168 v8
  let c1_i32_175 : BitVec 32 := 1#32
  let v316 : BitVec 32 := Scalar.muli v309 c1_i32_175
  let v317 : BitVec 32 := Scalar.addi v315 v316
  v317.toNat
def k0_mult35 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_179 : BitVec 32 := 1024#32
  let v328 : BitVec 32 := Scalar.muli v8 c1024_i32_179
  v328
def k0_mult36 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_180 : BitVec 32 := 1024#32
  let v330 : BitVec 32 := Scalar.muli v8 c1024_i32_180
  v330
def k0_off14 (d0 : Dev nD) : Fin 3 → Nat :=
  let c2_i32_178 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v326 : BitVec 32 := Scalar.muli c2_i32_178 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v327 : BitVec 32 := Scalar.addi v326 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_180 : BitVec 32 := 1024#32
  let v330 : BitVec 32 := Scalar.muli v8 c1024_i32_180
  let v331 : BitVec 32 := v330
  let c0_i32_187 : BitVec 32 := 0#32
  ![v327.toNat, v331.toNat, 0]
def k0_mult37 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_189 : BitVec 32 := 1024#32
  let v343 : BitVec 32 := Scalar.muli v8 c1024_i32_189
  v343
def k0_mult38 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_191 : BitVec 32 := 1024#32
  let v346 : BitVec 32 := Scalar.muli v8 c1024_i32_191
  v346
def k0_dev17 (d0 : Dev nD) : Nat :=
  let c0_i32_195 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_194 : BitVec 32 := 4#32
  let v348 : BitVec 32 := Scalar.muli v2 c4_i32_194
  let v349 : BitVec 32 := Scalar.addi c0_i32_195 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_196 : BitVec 32 := 2#32
  let v350 : BitVec 32 := Scalar.muli v5 c2_i32_196
  let v351 : BitVec 32 := Scalar.addi v349 v350
  let c1_i32_190 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v345 : BitVec 32 := Scalar.subi c1_i32_190 v8
  let c1_i32_197 : BitVec 32 := 1#32
  let v352 : BitVec 32 := Scalar.muli v345 c1_i32_197
  let v353 : BitVec 32 := Scalar.addi v351 v352
  v353.toNat
def k0_mult39 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_201 : BitVec 32 := 1024#32
  let v364 : BitVec 32 := Scalar.muli v8 c1024_i32_201
  v364
def k0_mult40 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_202 : BitVec 32 := 1024#32
  let v366 : BitVec 32 := Scalar.muli v8 c1024_i32_202
  v366
def k0_off15 (d0 : Dev nD) : Fin 3 → Nat :=
  let c2_i32_200 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v362 : BitVec 32 := Scalar.muli c2_i32_200 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v363 : BitVec 32 := Scalar.addi v362 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_202 : BitVec 32 := 1024#32
  let v366 : BitVec 32 := Scalar.muli v8 c1024_i32_202
  let v367 : BitVec 32 := v366
  let c0_i32_209 : BitVec 32 := 0#32
  ![v363.toNat, v367.toNat, 0]
def k0_mult41 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_211 : BitVec 32 := 1024#32
  let v379 : BitVec 32 := Scalar.muli v8 c1024_i32_211
  v379
def k0_mult42 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_213 : BitVec 32 := 1024#32
  let v382 : BitVec 32 := Scalar.muli v8 c1024_i32_213
  v382
def k0_dev18 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v384 : BitVec 32 := Scalar.muli v2 c4_i32_215
  let v385 : BitVec 32 := Scalar.addi c0_i32_216 v384
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_217 : BitVec 32 := 2#32
  let v386 : BitVec 32 := Scalar.muli v5 c2_i32_217
  let v387 : BitVec 32 := Scalar.addi v385 v386
  let c1_i32_212 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v381 : BitVec 32 := Scalar.subi c1_i32_212 v8
  let c1_i32_218 : BitVec 32 := 1#32
  let v388 : BitVec 32 := Scalar.muli v381 c1_i32_218
  let v389 : BitVec 32 := Scalar.addi v387 v388
  v389.toNat
def k0_mult43 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_222 : BitVec 32 := 256#32
  let v400 : BitVec 32 := Scalar.muli v8 c256_i32_222
  v400
def k0_mult44 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_223 : BitVec 32 := 256#32
  let v402 : BitVec 32 := Scalar.muli v8 c256_i32_223
  v402
def k0_off16 (d0 : Dev nD) : Fin 3 → Nat :=
  let c2_i32_221 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v398 : BitVec 32 := Scalar.muli c2_i32_221 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v399 : BitVec 32 := Scalar.addi v398 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_223 : BitVec 32 := 256#32
  let v402 : BitVec 32 := Scalar.muli v8 c256_i32_223
  let v403 : BitVec 32 := v402
  let c0_i32_230 : BitVec 32 := 0#32
  ![v399.toNat, v403.toNat, 0]
def k0_mult45 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_232 : BitVec 32 := 256#32
  let v415 : BitVec 32 := Scalar.muli v8 c256_i32_232
  v415
def k0_mult46 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_234 : BitVec 32 := 256#32
  let v418 : BitVec 32 := Scalar.muli v8 c256_i32_234
  v418
def k0_dev19 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v420 : BitVec 32 := Scalar.muli v2 c4_i32_236
  let v421 : BitVec 32 := Scalar.addi c0_i32_237 v420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v422 : BitVec 32 := Scalar.muli v5 c2_i32_238
  let v423 : BitVec 32 := Scalar.addi v421 v422
  let c1_i32_233 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v417 : BitVec 32 := Scalar.subi c1_i32_233 v8
  let c1_i32_239 : BitVec 32 := 1#32
  let v424 : BitVec 32 := Scalar.muli v417 c1_i32_239
  let v425 : BitVec 32 := Scalar.addi v423 v424
  v425.toNat
def k0_mult47 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_243 : BitVec 32 := 256#32
  let v436 : BitVec 32 := Scalar.muli v8 c256_i32_243
  v436
def k0_mult48 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_244 : BitVec 32 := 256#32
  let v438 : BitVec 32 := Scalar.muli v8 c256_i32_244
  v438
def k0_off17 (d0 : Dev nD) : Fin 3 → Nat :=
  let c2_i32_242 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v434 : BitVec 32 := Scalar.muli c2_i32_242 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v435 : BitVec 32 := Scalar.addi v434 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_244 : BitVec 32 := 256#32
  let v438 : BitVec 32 := Scalar.muli v8 c256_i32_244
  let v439 : BitVec 32 := v438
  let c0_i32_251 : BitVec 32 := 0#32
  ![v435.toNat, v439.toNat, 0]
def k0_mult49 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_253 : BitVec 32 := 256#32
  let v451 : BitVec 32 := Scalar.muli v8 c256_i32_253
  v451
def k0_mult50 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_255 : BitVec 32 := 256#32
  let v454 : BitVec 32 := Scalar.muli v8 c256_i32_255
  v454
def k0_dev20 (d0 : Dev nD) : Nat :=
  let c0_i32_258 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_257 : BitVec 32 := 4#32
  let v456 : BitVec 32 := Scalar.muli v2 c4_i32_257
  let v457 : BitVec 32 := Scalar.addi c0_i32_258 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v458 : BitVec 32 := Scalar.muli v5 c2_i32_259
  let v459 : BitVec 32 := Scalar.addi v457 v458
  let c1_i32_254 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v453 : BitVec 32 := Scalar.subi c1_i32_254 v8
  let c1_i32_260 : BitVec 32 := 1#32
  let v460 : BitVec 32 := Scalar.muli v453 c1_i32_260
  let v461 : BitVec 32 := Scalar.addi v459 v460
  v461.toNat
def k0_mult51 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_264 : BitVec 32 := 256#32
  let v472 : BitVec 32 := Scalar.muli v8 c256_i32_264
  v472
def k0_mult52 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_265 : BitVec 32 := 256#32
  let v474 : BitVec 32 := Scalar.muli v8 c256_i32_265
  v474
def k0_off18 (d0 : Dev nD) : Fin 3 → Nat :=
  let c2_i32_263 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v470 : BitVec 32 := Scalar.muli c2_i32_263 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v471 : BitVec 32 := Scalar.addi v470 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_265 : BitVec 32 := 256#32
  let v474 : BitVec 32 := Scalar.muli v8 c256_i32_265
  let v475 : BitVec 32 := v474
  let c0_i32_272 : BitVec 32 := 0#32
  ![v471.toNat, v475.toNat, 0]
def k0_mult53 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_274 : BitVec 32 := 256#32
  let v487 : BitVec 32 := Scalar.muli v8 c256_i32_274
  v487
def k0_mult54 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_276 : BitVec 32 := 256#32
  let v490 : BitVec 32 := Scalar.muli v8 c256_i32_276
  v490
def k0_dev21 (d0 : Dev nD) : Nat :=
  let c0_i32_279 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_278 : BitVec 32 := 4#32
  let v492 : BitVec 32 := Scalar.muli v2 c4_i32_278
  let v493 : BitVec 32 := Scalar.addi c0_i32_279 v492
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_280 : BitVec 32 := 2#32
  let v494 : BitVec 32 := Scalar.muli v5 c2_i32_280
  let v495 : BitVec 32 := Scalar.addi v493 v494
  let c1_i32_275 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v489 : BitVec 32 := Scalar.subi c1_i32_275 v8
  let c1_i32_281 : BitVec 32 := 1#32
  let v496 : BitVec 32 := Scalar.muli v489 c1_i32_281
  let v497 : BitVec 32 := Scalar.addi v495 v496
  v497.toNat
def k0_mult55 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_285 : BitVec 32 := 1024#32
  let v508 : BitVec 32 := Scalar.muli v8 c1024_i32_285
  v508
def k0_mult56 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_286 : BitVec 32 := 1024#32
  let v510 : BitVec 32 := Scalar.muli v8 c1024_i32_286
  v510
def k0_off19 (d0 : Dev nD) : Fin 3 → Nat :=
  let c2_i32_284 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v506 : BitVec 32 := Scalar.muli c2_i32_284 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v507 : BitVec 32 := Scalar.addi v506 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_286 : BitVec 32 := 1024#32
  let v510 : BitVec 32 := Scalar.muli v8 c1024_i32_286
  let v511 : BitVec 32 := v510
  let c0_i32_293 : BitVec 32 := 0#32
  ![v507.toNat, v511.toNat, 0]
def k0_mult57 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_295 : BitVec 32 := 1024#32
  let v523 : BitVec 32 := Scalar.muli v8 c1024_i32_295
  v523
def k0_mult58 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_297 : BitVec 32 := 1024#32
  let v526 : BitVec 32 := Scalar.muli v8 c1024_i32_297
  v526
def k0_dev22 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v528 : BitVec 32 := Scalar.muli v2 c4_i32_299
  let v529 : BitVec 32 := Scalar.addi c0_i32_300 v528
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v530 : BitVec 32 := Scalar.muli v5 c2_i32_301
  let v531 : BitVec 32 := Scalar.addi v529 v530
  let c1_i32_296 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v525 : BitVec 32 := Scalar.subi c1_i32_296 v8
  let c1_i32_302 : BitVec 32 := 1#32
  let v532 : BitVec 32 := Scalar.muli v525 c1_i32_302
  let v533 : BitVec 32 := Scalar.addi v531 v532
  v533.toNat
def k0_mult59 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_306 : BitVec 32 := 1024#32
  let v544 : BitVec 32 := Scalar.muli v8 c1024_i32_306
  v544
def k0_mult60 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_307 : BitVec 32 := 1024#32
  let v546 : BitVec 32 := Scalar.muli v8 c1024_i32_307
  v546
def k0_off20 (d0 : Dev nD) : Fin 3 → Nat :=
  let c2_i32_305 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v542 : BitVec 32 := Scalar.muli c2_i32_305 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v543 : BitVec 32 := Scalar.addi v542 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_307 : BitVec 32 := 1024#32
  let v546 : BitVec 32 := Scalar.muli v8 c1024_i32_307
  let v547 : BitVec 32 := v546
  let c0_i32_314 : BitVec 32 := 0#32
  ![v543.toNat, v547.toNat, 0]
def k0_mult61 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_316 : BitVec 32 := 1024#32
  let v559 : BitVec 32 := Scalar.muli v8 c1024_i32_316
  v559
def k0_mult62 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_318 : BitVec 32 := 1024#32
  let v562 : BitVec 32 := Scalar.muli v8 c1024_i32_318
  v562
def k0_dev23 (d0 : Dev nD) : Nat :=
  let c0_i32_321 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_320 : BitVec 32 := 4#32
  let v564 : BitVec 32 := Scalar.muli v2 c4_i32_320
  let v565 : BitVec 32 := Scalar.addi c0_i32_321 v564
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_322 : BitVec 32 := 2#32
  let v566 : BitVec 32 := Scalar.muli v5 c2_i32_322
  let v567 : BitVec 32 := Scalar.addi v565 v566
  let c1_i32_317 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v561 : BitVec 32 := Scalar.subi c1_i32_317 v8
  let c1_i32_323 : BitVec 32 := 1#32
  let v568 : BitVec 32 := Scalar.muli v561 c1_i32_323
  let v569 : BitVec 32 := Scalar.addi v567 v568
  v569.toNat
def k0_mult63 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_327 : BitVec 32 := 1024#32
  let v580 : BitVec 32 := Scalar.muli v8 c1024_i32_327
  v580
def k0_mult64 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_328 : BitVec 32 := 1024#32
  let v582 : BitVec 32 := Scalar.muli v8 c1024_i32_328
  v582
def k0_off21 (d0 : Dev nD) : Fin 3 → Nat :=
  let c2_i32_326 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v578 : BitVec 32 := Scalar.muli c2_i32_326 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v579 : BitVec 32 := Scalar.addi v578 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_328 : BitVec 32 := 1024#32
  let v582 : BitVec 32 := Scalar.muli v8 c1024_i32_328
  let v583 : BitVec 32 := v582
  let c0_i32_335 : BitVec 32 := 0#32
  ![v579.toNat, v583.toNat, 0]
def k0_mult65 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_337 : BitVec 32 := 1024#32
  let v595 : BitVec 32 := Scalar.muli v8 c1024_i32_337
  v595
def k0_mult66 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_339 : BitVec 32 := 1024#32
  let v598 : BitVec 32 := Scalar.muli v8 c1024_i32_339
  v598
def k0_dev24 (d0 : Dev nD) : Nat :=
  let c0_i32_342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_341 : BitVec 32 := 4#32
  let v600 : BitVec 32 := Scalar.muli v2 c4_i32_341
  let v601 : BitVec 32 := Scalar.addi c0_i32_342 v600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_343 : BitVec 32 := 2#32
  let v602 : BitVec 32 := Scalar.muli v5 c2_i32_343
  let v603 : BitVec 32 := Scalar.addi v601 v602
  let c1_i32_338 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v597 : BitVec 32 := Scalar.subi c1_i32_338 v8
  let c1_i32_344 : BitVec 32 := 1#32
  let v604 : BitVec 32 := Scalar.muli v597 c1_i32_344
  let v605 : BitVec 32 := Scalar.addi v603 v604
  v605.toNat
def k0_mult67 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_348 : BitVec 32 := 1024#32
  let v616 : BitVec 32 := Scalar.muli v8 c1024_i32_348
  v616
def k0_mult68 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_349 : BitVec 32 := 1024#32
  let v618 : BitVec 32 := Scalar.muli v8 c1024_i32_349
  v618
def k0_mult69 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_358 : BitVec 32 := 1024#32
  let v631 : BitVec 32 := Scalar.muli v8 c1024_i32_358
  v631
def k0_mult70 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_360 : BitVec 32 := 1024#32
  let v634 : BitVec 32 := Scalar.muli v8 c1024_i32_360
  v634
def k0_dev25 (d0 : Dev nD) : Nat :=
  let c0_i32_363 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_362 : BitVec 32 := 4#32
  let v636 : BitVec 32 := Scalar.muli v2 c4_i32_362
  let v637 : BitVec 32 := Scalar.addi c0_i32_363 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_364 : BitVec 32 := 2#32
  let v638 : BitVec 32 := Scalar.muli v5 c2_i32_364
  let v639 : BitVec 32 := Scalar.addi v637 v638
  let c1_i32_359 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v633 : BitVec 32 := Scalar.subi c1_i32_359 v8
  let c1_i32_365 : BitVec 32 := 1#32
  let v640 : BitVec 32 := Scalar.muli v633 c1_i32_365
  let v641 : BitVec 32 := Scalar.addi v639 v640
  v641.toNat
def k0_mult71 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_369 : BitVec 32 := 1024#32
  let v652 : BitVec 32 := Scalar.muli v8 c1024_i32_369
  v652
def k0_mult72 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_370 : BitVec 32 := 1024#32
  let v654 : BitVec 32 := Scalar.muli v8 c1024_i32_370
  v654
def k0_mult73 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_379 : BitVec 32 := 1024#32
  let v667 : BitVec 32 := Scalar.muli v8 c1024_i32_379
  v667
def k0_mult74 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_381 : BitVec 32 := 1024#32
  let v670 : BitVec 32 := Scalar.muli v8 c1024_i32_381
  v670
def k0_dev26 (d0 : Dev nD) : Nat :=
  let c0_i32_384 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_383 : BitVec 32 := 4#32
  let v672 : BitVec 32 := Scalar.muli v2 c4_i32_383
  let v673 : BitVec 32 := Scalar.addi c0_i32_384 v672
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_385 : BitVec 32 := 2#32
  let v674 : BitVec 32 := Scalar.muli v5 c2_i32_385
  let v675 : BitVec 32 := Scalar.addi v673 v674
  let c1_i32_380 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v669 : BitVec 32 := Scalar.subi c1_i32_380 v8
  let c1_i32_386 : BitVec 32 := 1#32
  let v676 : BitVec 32 := Scalar.muli v669 c1_i32_386
  let v677 : BitVec 32 := Scalar.addi v675 v676
  v677.toNat
def k0_mult75 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_390 : BitVec 32 := 1024#32
  let v688 : BitVec 32 := Scalar.muli v8 c1024_i32_390
  v688
def k0_mult76 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_391 : BitVec 32 := 1024#32
  let v690 : BitVec 32 := Scalar.muli v8 c1024_i32_391
  v690
def k0_mult77 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_400 : BitVec 32 := 1024#32
  let v703 : BitVec 32 := Scalar.muli v8 c1024_i32_400
  v703
def k0_mult78 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_402 : BitVec 32 := 1024#32
  let v706 : BitVec 32 := Scalar.muli v8 c1024_i32_402
  v706
def k0_dev27 (d0 : Dev nD) : Nat :=
  let c0_i32_405 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_404 : BitVec 32 := 4#32
  let v708 : BitVec 32 := Scalar.muli v2 c4_i32_404
  let v709 : BitVec 32 := Scalar.addi c0_i32_405 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_406 : BitVec 32 := 2#32
  let v710 : BitVec 32 := Scalar.muli v5 c2_i32_406
  let v711 : BitVec 32 := Scalar.addi v709 v710
  let c1_i32_401 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v705 : BitVec 32 := Scalar.subi c1_i32_401 v8
  let c1_i32_407 : BitVec 32 := 1#32
  let v712 : BitVec 32 := Scalar.muli v705 c1_i32_407
  let v713 : BitVec 32 := Scalar.addi v711 v712
  v713.toNat
def k0_mult79 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_411 : BitVec 32 := 704#32
  let v724 : BitVec 32 := Scalar.muli v8 c704_i32_411
  v724
def k0_mult80 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_412 : BitVec 32 := 704#32
  let v726 : BitVec 32 := Scalar.muli v8 c704_i32_412
  v726
def k0_off22 (d0 : Dev nD) : Fin 3 → Nat :=
  let c2_i32_410 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v722 : BitVec 32 := Scalar.muli c2_i32_410 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v723 : BitVec 32 := Scalar.addi v722 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_412 : BitVec 32 := 704#32
  let v726 : BitVec 32 := Scalar.muli v8 c704_i32_412
  let v727 : BitVec 32 := v726
  let c0_i32_419 : BitVec 32 := 0#32
  ![v723.toNat, v727.toNat, 0]
def k0_mult81 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_421 : BitVec 32 := 704#32
  let v739 : BitVec 32 := Scalar.muli v8 c704_i32_421
  v739
def k0_mult82 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_423 : BitVec 32 := 704#32
  let v742 : BitVec 32 := Scalar.muli v8 c704_i32_423
  v742
def k0_dev28 (d0 : Dev nD) : Nat :=
  let c0_i32_426 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_425 : BitVec 32 := 4#32
  let v744 : BitVec 32 := Scalar.muli v2 c4_i32_425
  let v745 : BitVec 32 := Scalar.addi c0_i32_426 v744
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_427 : BitVec 32 := 2#32
  let v746 : BitVec 32 := Scalar.muli v5 c2_i32_427
  let v747 : BitVec 32 := Scalar.addi v745 v746
  let c1_i32_422 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v741 : BitVec 32 := Scalar.subi c1_i32_422 v8
  let c1_i32_428 : BitVec 32 := 1#32
  let v748 : BitVec 32 := Scalar.muli v741 c1_i32_428
  let v749 : BitVec 32 := Scalar.addi v747 v748
  v749.toNat
def k0_mult83 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_432 : BitVec 32 := 704#32
  let v760 : BitVec 32 := Scalar.muli v8 c704_i32_432
  v760
def k0_mult84 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_433 : BitVec 32 := 704#32
  let v762 : BitVec 32 := Scalar.muli v8 c704_i32_433
  v762
def k0_off23 (d0 : Dev nD) : Fin 3 → Nat :=
  let c2_i32_431 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v758 : BitVec 32 := Scalar.muli c2_i32_431 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v759 : BitVec 32 := Scalar.addi v758 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_433 : BitVec 32 := 704#32
  let v762 : BitVec 32 := Scalar.muli v8 c704_i32_433
  let v763 : BitVec 32 := v762
  let c0_i32_440 : BitVec 32 := 0#32
  ![v759.toNat, v763.toNat, 0]
def k0_mult85 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_442 : BitVec 32 := 704#32
  let v775 : BitVec 32 := Scalar.muli v8 c704_i32_442
  v775
def k0_mult86 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_444 : BitVec 32 := 704#32
  let v778 : BitVec 32 := Scalar.muli v8 c704_i32_444
  v778
def k0_dev29 (d0 : Dev nD) : Nat :=
  let c0_i32_447 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_446 : BitVec 32 := 4#32
  let v780 : BitVec 32 := Scalar.muli v2 c4_i32_446
  let v781 : BitVec 32 := Scalar.addi c0_i32_447 v780
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_448 : BitVec 32 := 2#32
  let v782 : BitVec 32 := Scalar.muli v5 c2_i32_448
  let v783 : BitVec 32 := Scalar.addi v781 v782
  let c1_i32_443 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v777 : BitVec 32 := Scalar.subi c1_i32_443 v8
  let c1_i32_449 : BitVec 32 := 1#32
  let v784 : BitVec 32 := Scalar.muli v777 c1_i32_449
  let v785 : BitVec 32 := Scalar.addi v783 v784
  v785.toNat
def k0_mult87 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_453 : BitVec 32 := 704#32
  let v796 : BitVec 32 := Scalar.muli v8 c704_i32_453
  v796
def k0_mult88 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_454 : BitVec 32 := 704#32
  let v798 : BitVec 32 := Scalar.muli v8 c704_i32_454
  v798
def k0_off24 (d0 : Dev nD) : Fin 3 → Nat :=
  let c2_i32_452 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v794 : BitVec 32 := Scalar.muli c2_i32_452 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v795 : BitVec 32 := Scalar.addi v794 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_454 : BitVec 32 := 704#32
  let v798 : BitVec 32 := Scalar.muli v8 c704_i32_454
  let v799 : BitVec 32 := v798
  let c0_i32_461 : BitVec 32 := 0#32
  ![v795.toNat, v799.toNat, 0]
def k0_mult89 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_463 : BitVec 32 := 704#32
  let v811 : BitVec 32 := Scalar.muli v8 c704_i32_463
  v811
def k0_mult90 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_465 : BitVec 32 := 704#32
  let v814 : BitVec 32 := Scalar.muli v8 c704_i32_465
  v814
def k0_dev30 (d0 : Dev nD) : Nat :=
  let c0_i32_468 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_467 : BitVec 32 := 4#32
  let v816 : BitVec 32 := Scalar.muli v2 c4_i32_467
  let v817 : BitVec 32 := Scalar.addi c0_i32_468 v816
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_469 : BitVec 32 := 2#32
  let v818 : BitVec 32 := Scalar.muli v5 c2_i32_469
  let v819 : BitVec 32 := Scalar.addi v817 v818
  let c1_i32_464 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v813 : BitVec 32 := Scalar.subi c1_i32_464 v8
  let c1_i32_470 : BitVec 32 := 1#32
  let v820 : BitVec 32 := Scalar.muli v813 c1_i32_470
  let v821 : BitVec 32 := Scalar.addi v819 v820
  v821.toNat
def k0_mult91 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_474 : BitVec 32 := 1024#32
  let v832 : BitVec 32 := Scalar.muli v8 c1024_i32_474
  v832
def k0_mult92 (d0 : Dev nD) : BitVec 32 :=
  let c1_i32_475 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v834 : BitVec 32 := Scalar.subi c1_i32_475 v8
  let c1024_i32_476 : BitVec 32 := 1024#32
  let v835 : BitVec 32 := Scalar.muli v834 c1024_i32_476
  v835
def k0_off25 (d0 : Dev nD) : Fin 3 → Nat :=
  let c2_i32_473 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v830 : BitVec 32 := Scalar.muli c2_i32_473 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v831 : BitVec 32 := Scalar.addi v830 v5
  let c1_i32_475 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v834 : BitVec 32 := Scalar.subi c1_i32_475 v8
  let c1024_i32_476 : BitVec 32 := 1024#32
  let v835 : BitVec 32 := Scalar.muli v834 c1024_i32_476
  let v836 : BitVec 32 := v835
  let c0_i32_483 : BitVec 32 := 0#32
  ![v831.toNat, v836.toNat, 0]
def k0_mult93 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_486 : BitVec 32 := 1024#32
  let v850 : BitVec 32 := Scalar.muli v8 c1024_i32_486
  v850
def k0_mult94 (d0 : Dev nD) : BitVec 32 :=
  let c1_i32_487 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v852 : BitVec 32 := Scalar.subi c1_i32_487 v8
  let c1024_i32_488 : BitVec 32 := 1024#32
  let v853 : BitVec 32 := Scalar.muli v852 c1024_i32_488
  v853
def k0_off26 (d0 : Dev nD) : Fin 3 → Nat :=
  let c2_i32_485 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v848 : BitVec 32 := Scalar.muli c2_i32_485 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v849 : BitVec 32 := Scalar.addi v848 v10
  let c1_i32_487 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v852 : BitVec 32 := Scalar.subi c1_i32_487 v8
  let c1024_i32_488 : BitVec 32 := 1024#32
  let v853 : BitVec 32 := Scalar.muli v852 c1024_i32_488
  let v854 : BitVec 32 := v853
  let c0_i32_495 : BitVec 32 := 0#32
  ![v849.toNat, v854.toNat, 0]
def k0_mult95 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_498 : BitVec 32 := 1024#32
  let v868 : BitVec 32 := Scalar.muli v8 c1024_i32_498
  v868
def k0_mult96 (d0 : Dev nD) : BitVec 32 :=
  let c1_i32_499 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v870 : BitVec 32 := Scalar.subi c1_i32_499 v8
  let c1024_i32_500 : BitVec 32 := 1024#32
  let v871 : BitVec 32 := Scalar.muli v870 c1024_i32_500
  v871
def k0_off27 (d0 : Dev nD) : Fin 3 → Nat :=
  let c2_i32_497 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v866 : BitVec 32 := Scalar.muli c2_i32_497 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v867 : BitVec 32 := Scalar.addi v866 v12
  let c1_i32_499 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v870 : BitVec 32 := Scalar.subi c1_i32_499 v8
  let c1024_i32_500 : BitVec 32 := 1024#32
  let v871 : BitVec 32 := Scalar.muli v870 c1024_i32_500
  let v872 : BitVec 32 := v871
  let c0_i32_507 : BitVec 32 := 0#32
  ![v867.toNat, v872.toNat, 0]
def k0_mult97 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_510 : BitVec 32 := 256#32
  let v886 : BitVec 32 := Scalar.muli v8 c256_i32_510
  v886
def k0_mult98 (d0 : Dev nD) : BitVec 32 :=
  let c1_i32_511 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v888 : BitVec 32 := Scalar.subi c1_i32_511 v8
  let c256_i32_512 : BitVec 32 := 256#32
  let v889 : BitVec 32 := Scalar.muli v888 c256_i32_512
  v889
def k0_off28 (d0 : Dev nD) : Fin 3 → Nat :=
  let c2_i32_509 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v884 : BitVec 32 := Scalar.muli c2_i32_509 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v885 : BitVec 32 := Scalar.addi v884 v5
  let c1_i32_511 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v888 : BitVec 32 := Scalar.subi c1_i32_511 v8
  let c256_i32_512 : BitVec 32 := 256#32
  let v889 : BitVec 32 := Scalar.muli v888 c256_i32_512
  let v890 : BitVec 32 := v889
  let c0_i32_519 : BitVec 32 := 0#32
  ![v885.toNat, v890.toNat, 0]
def k0_mult99 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_522 : BitVec 32 := 256#32
  let v904 : BitVec 32 := Scalar.muli v8 c256_i32_522
  v904
def k0_mult100 (d0 : Dev nD) : BitVec 32 :=
  let c1_i32_523 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v906 : BitVec 32 := Scalar.subi c1_i32_523 v8
  let c256_i32_524 : BitVec 32 := 256#32
  let v907 : BitVec 32 := Scalar.muli v906 c256_i32_524
  v907
def k0_off29 (d0 : Dev nD) : Fin 3 → Nat :=
  let c2_i32_521 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v902 : BitVec 32 := Scalar.muli c2_i32_521 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v903 : BitVec 32 := Scalar.addi v902 v10
  let c1_i32_523 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v906 : BitVec 32 := Scalar.subi c1_i32_523 v8
  let c256_i32_524 : BitVec 32 := 256#32
  let v907 : BitVec 32 := Scalar.muli v906 c256_i32_524
  let v908 : BitVec 32 := v907
  let c0_i32_531 : BitVec 32 := 0#32
  ![v903.toNat, v908.toNat, 0]
def k0_mult101 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_534 : BitVec 32 := 256#32
  let v922 : BitVec 32 := Scalar.muli v8 c256_i32_534
  v922
def k0_mult102 (d0 : Dev nD) : BitVec 32 :=
  let c1_i32_535 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v924 : BitVec 32 := Scalar.subi c1_i32_535 v8
  let c256_i32_536 : BitVec 32 := 256#32
  let v925 : BitVec 32 := Scalar.muli v924 c256_i32_536
  v925
def k0_off30 (d0 : Dev nD) : Fin 3 → Nat :=
  let c2_i32_533 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v920 : BitVec 32 := Scalar.muli c2_i32_533 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v921 : BitVec 32 := Scalar.addi v920 v12
  let c1_i32_535 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v924 : BitVec 32 := Scalar.subi c1_i32_535 v8
  let c256_i32_536 : BitVec 32 := 256#32
  let v925 : BitVec 32 := Scalar.muli v924 c256_i32_536
  let v926 : BitVec 32 := v925
  let c0_i32_543 : BitVec 32 := 0#32
  ![v921.toNat, v926.toNat, 0]
def k0_mult103 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_546 : BitVec 32 := 1024#32
  let v940 : BitVec 32 := Scalar.muli v8 c1024_i32_546
  v940
def k0_mult104 (d0 : Dev nD) : BitVec 32 :=
  let c1_i32_547 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v942 : BitVec 32 := Scalar.subi c1_i32_547 v8
  let c1024_i32_548 : BitVec 32 := 1024#32
  let v943 : BitVec 32 := Scalar.muli v942 c1024_i32_548
  v943
def k0_off31 (d0 : Dev nD) : Fin 3 → Nat :=
  let c2_i32_545 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v938 : BitVec 32 := Scalar.muli c2_i32_545 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v939 : BitVec 32 := Scalar.addi v938 v5
  let c1_i32_547 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v942 : BitVec 32 := Scalar.subi c1_i32_547 v8
  let c1024_i32_548 : BitVec 32 := 1024#32
  let v943 : BitVec 32 := Scalar.muli v942 c1024_i32_548
  let v944 : BitVec 32 := v943
  let c0_i32_555 : BitVec 32 := 0#32
  ![v939.toNat, v944.toNat, 0]
def k0_mult105 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_558 : BitVec 32 := 1024#32
  let v958 : BitVec 32 := Scalar.muli v8 c1024_i32_558
  v958
def k0_mult106 (d0 : Dev nD) : BitVec 32 :=
  let c1_i32_559 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v960 : BitVec 32 := Scalar.subi c1_i32_559 v8
  let c1024_i32_560 : BitVec 32 := 1024#32
  let v961 : BitVec 32 := Scalar.muli v960 c1024_i32_560
  v961
def k0_off32 (d0 : Dev nD) : Fin 3 → Nat :=
  let c2_i32_557 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v956 : BitVec 32 := Scalar.muli c2_i32_557 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v957 : BitVec 32 := Scalar.addi v956 v10
  let c1_i32_559 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v960 : BitVec 32 := Scalar.subi c1_i32_559 v8
  let c1024_i32_560 : BitVec 32 := 1024#32
  let v961 : BitVec 32 := Scalar.muli v960 c1024_i32_560
  let v962 : BitVec 32 := v961
  let c0_i32_567 : BitVec 32 := 0#32
  ![v957.toNat, v962.toNat, 0]
def k0_mult107 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_570 : BitVec 32 := 1024#32
  let v976 : BitVec 32 := Scalar.muli v8 c1024_i32_570
  v976
def k0_mult108 (d0 : Dev nD) : BitVec 32 :=
  let c1_i32_571 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v978 : BitVec 32 := Scalar.subi c1_i32_571 v8
  let c1024_i32_572 : BitVec 32 := 1024#32
  let v979 : BitVec 32 := Scalar.muli v978 c1024_i32_572
  v979
def k0_off33 (d0 : Dev nD) : Fin 3 → Nat :=
  let c2_i32_569 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v974 : BitVec 32 := Scalar.muli c2_i32_569 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v975 : BitVec 32 := Scalar.addi v974 v12
  let c1_i32_571 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v978 : BitVec 32 := Scalar.subi c1_i32_571 v8
  let c1024_i32_572 : BitVec 32 := 1024#32
  let v979 : BitVec 32 := Scalar.muli v978 c1024_i32_572
  let v980 : BitVec 32 := v979
  let c0_i32_579 : BitVec 32 := 0#32
  ![v975.toNat, v980.toNat, 0]
def k0_mult109 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_582 : BitVec 32 := 1024#32
  let v994 : BitVec 32 := Scalar.muli v8 c1024_i32_582
  v994
def k0_mult110 (d0 : Dev nD) : BitVec 32 :=
  let c1_i32_583 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v996 : BitVec 32 := Scalar.subi c1_i32_583 v8
  let c1024_i32_584 : BitVec 32 := 1024#32
  let v997 : BitVec 32 := Scalar.muli v996 c1024_i32_584
  v997
def k0_mult111 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_594 : BitVec 32 := 1024#32
  let v1012 : BitVec 32 := Scalar.muli v8 c1024_i32_594
  v1012
def k0_mult112 (d0 : Dev nD) : BitVec 32 :=
  let c1_i32_595 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1014 : BitVec 32 := Scalar.subi c1_i32_595 v8
  let c1024_i32_596 : BitVec 32 := 1024#32
  let v1015 : BitVec 32 := Scalar.muli v1014 c1024_i32_596
  v1015
def k0_mult113 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_606 : BitVec 32 := 1024#32
  let v1030 : BitVec 32 := Scalar.muli v8 c1024_i32_606
  v1030
def k0_mult114 (d0 : Dev nD) : BitVec 32 :=
  let c1_i32_607 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1032 : BitVec 32 := Scalar.subi c1_i32_607 v8
  let c1024_i32_608 : BitVec 32 := 1024#32
  let v1033 : BitVec 32 := Scalar.muli v1032 c1024_i32_608
  v1033
def k0_mult115 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_618 : BitVec 32 := 704#32
  let v1048 : BitVec 32 := Scalar.muli v8 c704_i32_618
  v1048
def k0_mult116 (d0 : Dev nD) : BitVec 32 :=
  let c1_i32_619 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1050 : BitVec 32 := Scalar.subi c1_i32_619 v8
  let c704_i32_620 : BitVec 32 := 704#32
  let v1051 : BitVec 32 := Scalar.muli v1050 c704_i32_620
  v1051
def k0_off34 (d0 : Dev nD) : Fin 3 → Nat :=
  let c2_i32_617 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1046 : BitVec 32 := Scalar.muli c2_i32_617 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1047 : BitVec 32 := Scalar.addi v1046 v5
  let c1_i32_619 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1050 : BitVec 32 := Scalar.subi c1_i32_619 v8
  let c704_i32_620 : BitVec 32 := 704#32
  let v1051 : BitVec 32 := Scalar.muli v1050 c704_i32_620
  let v1052 : BitVec 32 := v1051
  let c0_i32_627 : BitVec 32 := 0#32
  ![v1047.toNat, v1052.toNat, 0]
def k0_mult117 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_630 : BitVec 32 := 704#32
  let v1066 : BitVec 32 := Scalar.muli v8 c704_i32_630
  v1066
def k0_mult118 (d0 : Dev nD) : BitVec 32 :=
  let c1_i32_631 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1068 : BitVec 32 := Scalar.subi c1_i32_631 v8
  let c704_i32_632 : BitVec 32 := 704#32
  let v1069 : BitVec 32 := Scalar.muli v1068 c704_i32_632
  v1069
def k0_off35 (d0 : Dev nD) : Fin 3 → Nat :=
  let c2_i32_629 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1064 : BitVec 32 := Scalar.muli c2_i32_629 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1065 : BitVec 32 := Scalar.addi v1064 v10
  let c1_i32_631 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1068 : BitVec 32 := Scalar.subi c1_i32_631 v8
  let c704_i32_632 : BitVec 32 := 704#32
  let v1069 : BitVec 32 := Scalar.muli v1068 c704_i32_632
  let v1070 : BitVec 32 := v1069
  let c0_i32_639 : BitVec 32 := 0#32
  ![v1065.toNat, v1070.toNat, 0]
def k0_mult119 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_642 : BitVec 32 := 704#32
  let v1084 : BitVec 32 := Scalar.muli v8 c704_i32_642
  v1084
def k0_mult120 (d0 : Dev nD) : BitVec 32 :=
  let c1_i32_643 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1086 : BitVec 32 := Scalar.subi c1_i32_643 v8
  let c704_i32_644 : BitVec 32 := 704#32
  let v1087 : BitVec 32 := Scalar.muli v1086 c704_i32_644
  v1087
def k0_off36 (d0 : Dev nD) : Fin 3 → Nat :=
  let c2_i32_641 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1082 : BitVec 32 := Scalar.muli c2_i32_641 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1083 : BitVec 32 := Scalar.addi v1082 v12
  let c1_i32_643 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1086 : BitVec 32 := Scalar.subi c1_i32_643 v8
  let c704_i32_644 : BitVec 32 := 704#32
  let v1087 : BitVec 32 := Scalar.muli v1086 c704_i32_644
  let v1088 : BitVec 32 := v1087
  let c0_i32_651 : BitVec 32 := 0#32
  ![v1083.toNat, v1088.toNat, 0]
-- ==== GatherRef.lean ====
abbrev S2048x16400 : Shape := ⟨2, ![2048, 16400]⟩
abbrev S2048x2048 : Shape := ⟨2, ![2048, 2048]⟩
abbrev S2048x5632 : Shape := ⟨2, ![2048, 5632]⟩
abbrev S5632x2048 : Shape := ⟨2, ![5632, 2048]⟩
abbrev S2048x4x4100 : Shape := ⟨3, ![2048, 4, 4100]⟩
abbrev S4x2048x4100 : Shape := ⟨3, ![4, 2048, 4100]⟩
abbrev S4x512x2048 : Shape := ⟨3, ![4, 512, 2048]⟩
abbrev S2048x4x1408 : Shape := ⟨3, ![2048, 4, 1408]⟩
abbrev S4x2048x1408 : Shape := ⟨3, ![4, 2048, 1408]⟩
abbrev S4x1408x2048 : Shape := ⟨3, ![4, 1408, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x16400, .bf16⟩
  | .hbm, ⟨1, _⟩ => ⟨S2048x2048, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048x4x4100, .bf16⟩
  | .hbm, ⟨6, _⟩ => ⟨S4x2048x4100, .bf16⟩
  | .hbm, ⟨7, _⟩ => ⟨S4x512x2048, .bf16⟩
  | .hbm, ⟨8, _⟩ => ⟨S2048x4x1408, .bf16⟩
  | .hbm, ⟨9, _⟩ => ⟨S4x2048x1408, .bf16⟩
  | .hbm, ⟨10, _⟩ => ⟨S2048x4x1408, .bf16⟩
  | .hbm, ⟨11, _⟩ => ⟨S4x2048x1408, .bf16⟩
  | .hbm, ⟨12, _⟩ => ⟨S4x1408x2048, .bf16⟩
  | _, _ => ⟨S2048x16400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpdateIn.lean ====
abbrev S2048x4100 : Shape := ⟨2, ![2048, 4100]⟩
abbrev S32x4100 : Shape := ⟨2, ![32, 4100]⟩

abbrev nBuf : Space → Nat
  | .hbm => 7
  | .vmem => 14
  | .smem => 0
  | _ => 0

abbrev bufTy : (tb : Table) → Fin (tcTables nBuf tb) → BufTy
  | .hbm, ⟨0, _⟩ => ⟨S2048x4100, .f32⟩
  | .hbm, ⟨1, _⟩ => ⟨S2048x4100, .f32⟩
  | .hbm, ⟨2, _⟩ => ⟨S2048x4100, .f32⟩
  | .hbm, ⟨3, _⟩ => ⟨S2048x4100, .f32⟩
  | .hbm, ⟨4, _⟩ => ⟨S2048x4100, .f32⟩
  | .hbm, ⟨5, _⟩ => ⟨S2048x4100, .f32⟩
  | .hbm, ⟨6, _⟩ => ⟨S2048x4100, .f32⟩
  | .local _ .vmem, ⟨0, _⟩ => ⟨S32x4100, .f32⟩
  | .local _ .vmem, ⟨1, _⟩ => ⟨S32x4100, .f32⟩
  | .local _ .vmem, ⟨2, _⟩ => ⟨S32x4100, .f32⟩
  | .local _ .vmem, ⟨3, _⟩ => ⟨S32x4100, .f32⟩
  | .local _ .vmem, ⟨4, _⟩ => ⟨S32x4100, .f32⟩
  | .local _ .vmem, ⟨5, _⟩ => ⟨S32x4100, .f32⟩
  | .local _ .vmem, ⟨6, _⟩ => ⟨S32x4100, .f32⟩
  | .local _ .vmem, ⟨7, _⟩ => ⟨S32x4100, .f32⟩
  | .local _ .vmem, ⟨8, _⟩ => ⟨S32x4100, .f32⟩
  | .local _ .vmem, ⟨9, _⟩ => ⟨S32x4100, .f32⟩
  | .local _ .vmem, ⟨10, _⟩ => ⟨S32x4100, .f32⟩
  | .local _ .vmem, ⟨11, _⟩ => ⟨S32x4100, .f32⟩
  | .local _ .vmem, ⟨12, _⟩ => ⟨S32x4100, .f32⟩
  | .local _ .vmem, ⟨13, _⟩ => ⟨S32x4100, .f32⟩
  | _, _ => ⟨S2048x4100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateInIdeal.lean ====
abbrev S2048x4100 : Shape := ⟨2, ![2048, 4100]⟩
abbrev S32x4100 : Shape := ⟨2, ![32, 4100]⟩

abbrev nBuf : Space → Nat
  | .hbm => 7
  | .vmem => 14
  | .smem => 0
  | _ => 0

abbrev bufTy : (tb : Table) → Fin (tcTables nBuf tb) → BufTy
  | .hbm, ⟨0, _⟩ => ⟨S2048x4100, .f32⟩
  | .hbm, ⟨1, _⟩ => ⟨S2048x4100, .f32⟩
  | .hbm, ⟨2, _⟩ => ⟨S2048x4100, .f32⟩
  | .hbm, ⟨3, _⟩ => ⟨S2048x4100, .f32⟩
  | .hbm, ⟨4, _⟩ => ⟨S2048x4100, .f32⟩
  | .hbm, ⟨5, _⟩ => ⟨S2048x4100, .f32⟩
  | .hbm, ⟨6, _⟩ => ⟨S2048x4100, .f32⟩
  | .local _ .vmem, ⟨0, _⟩ => ⟨S32x4100, .f32⟩
  | .local _ .vmem, ⟨1, _⟩ => ⟨S32x4100, .f32⟩
  | .local _ .vmem, ⟨2, _⟩ => ⟨S32x4100, .f32⟩
  | .local _ .vmem, ⟨3, _⟩ => ⟨S32x4100, .f32⟩
  | .local _ .vmem, ⟨4, _⟩ => ⟨S32x4100, .f32⟩
  | .local _ .vmem, ⟨5, _⟩ => ⟨S32x4100, .f32⟩
  | .local _ .vmem, ⟨6, _⟩ => ⟨S32x4100, .f32⟩
  | .local _ .vmem, ⟨7, _⟩ => ⟨S32x4100, .f32⟩
  | .local _ .vmem, ⟨8, _⟩ => ⟨S32x4100, .f32⟩
  | .local _ .vmem, ⟨9, _⟩ => ⟨S32x4100, .f32⟩
  | .local _ .vmem, ⟨10, _⟩ => ⟨S32x4100, .f32⟩
  | .local _ .vmem, ⟨11, _⟩ => ⟨S32x4100, .f32⟩
  | .local _ .vmem, ⟨12, _⟩ => ⟨S32x4100, .f32⟩
  | .local _ .vmem, ⟨13, _⟩ => ⟨S32x4100, .f32⟩
  | _, _ => ⟨S2048x4100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateInRefIdeal.lean ====
abbrev S2048x4100 : Shape := ⟨2, ![2048, 4100]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x4100, .f32⟩
  | .hbm, ⟨1, _⟩ => ⟨S2048x4100, .f32⟩
  | .hbm, ⟨2, _⟩ => ⟨S2048x4100, .f32⟩
  | .hbm, ⟨3, _⟩ => ⟨S2048x4100, .f32⟩
  | .hbm, ⟨4, _⟩ => ⟨S_, .f32⟩
  | .hbm, ⟨5, _⟩ => ⟨S2048x4100, .f32⟩
  | .hbm, ⟨6, _⟩ => ⟨S2048x4100, .f32⟩
  | .hbm, ⟨7, _⟩ => ⟨S_, .f32⟩
  | .hbm, ⟨8, _⟩ => ⟨S2048x4100, .f32⟩
  | .hbm, ⟨9, _⟩ => ⟨S2048x4100, .f32⟩
  | .hbm, ⟨10, _⟩ => ⟨S2048x4100, .f32⟩
  | .hbm, ⟨11, _⟩ => ⟨S_, .f32⟩
  | .hbm, ⟨12, _⟩ => ⟨S2048x4100, .f32⟩
  | .hbm, ⟨13, _⟩ => ⟨S2048x4100, .f32⟩
  | .hbm, ⟨14, _⟩ => ⟨S2048x4100, .f32⟩
  | .hbm, ⟨15, _⟩ => ⟨S_, .f32⟩
  | .hbm, ⟨16, _⟩ => ⟨S2048x4100, .f32⟩
  | .hbm, ⟨17, _⟩ => ⟨S2048x4100, .f32⟩
  | .hbm, ⟨18, _⟩ => ⟨S2048x4100, .f32⟩
  | .hbm, ⟨19, _⟩ => ⟨S_, .f32⟩
  | .hbm, ⟨20, _⟩ => ⟨S2048x4100, .f32⟩
  | .hbm, ⟨21, _⟩ => ⟨S2048x4100, .f32⟩
  | .hbm, ⟨22, _⟩ => ⟨S_, .f32⟩
  | .hbm, ⟨23, _⟩ => ⟨S2048x4100, .f32⟩
  | .hbm, ⟨24, _⟩ => ⟨S2048x4100, .f32⟩
  | .hbm, ⟨25, _⟩ => ⟨S2048x4100, .f32⟩
  | .hbm, ⟨26, _⟩ => ⟨S_, .f32⟩
  | .hbm, ⟨27, _⟩ => ⟨S2048x4100, .f32⟩
  | .hbm, ⟨28, _⟩ => ⟨S2048x4100, .f32⟩
  | .hbm, ⟨29, _⟩ => ⟨S2048x4100, .f32⟩
  | .hbm, ⟨30, _⟩ => ⟨S_, .f32⟩
  | .hbm, ⟨31, _⟩ => ⟨S2048x4100, .f32⟩
  | .hbm, ⟨32, _⟩ => ⟨S2048x4100, .f32⟩
  | .hbm, ⟨33, _⟩ => ⟨S2048x4100, .f32⟩
  | .hbm, ⟨34, _⟩ => ⟨S_, .f32⟩
  | .hbm, ⟨35, _⟩ => ⟨S2048x4100, .f32⟩
  | .hbm, ⟨36, _⟩ => ⟨S2048x4100, .f32⟩
  | _, _ => ⟨S2048x4100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateOut.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateOutIdeal.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateGate.lean ====
abbrev S2048x1408 : Shape := ⟨2, ![2048, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateGateIdeal.lean ====
abbrev S2048x1408 : Shape := ⟨2, ![2048, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateGateRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateDown.lean ====
abbrev S1408x2048 : Shape := ⟨2, ![1408, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateDownIdeal.lean ====
abbrev S1408x2048 : Shape := ⟨2, ![1408, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateDownRefIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateNorm.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateNormIdeal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateNormRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateConv.lean ====
abbrev S1x4096 : Shape := ⟨2, ![1, 4096]⟩

abbrev nBuf : Space → Nat
  | .hbm => 7
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateConvIdeal.lean ====
abbrev S1x4096 : Shape := ⟨2, ![1, 4096]⟩

abbrev nBuf : Space → Nat
  | .hbm => 7
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateConvRefIdeal.lean ====
abbrev S1x4096 : Shape := ⟨2, ![1, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S_, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateGdn.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateGdnIdeal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateGdnRefIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateHeads.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateHeadsRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumIn.lean ====
abbrev S4x1024x4100 : Shape := ⟨3, ![4, 1024, 4100]⟩
abbrev S1024x4100 : Shape := ⟨2, ![1024, 4100]⟩
abbrev S4x32x4100 : Shape := ⟨3, ![4, 32, 4100]⟩
abbrev S32x4100 : Shape := ⟨2, ![32, 4100]⟩
abbrev S1x32x4100 : Shape := ⟨3, ![1, 32, 4100]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x4100, .bf16⟩
  | .hbm, ⟨1, _⟩ => ⟨S1024x4100, .f32⟩
  | .local _ .vmem, ⟨0, _⟩ => ⟨S4x32x4100, .bf16⟩
  | .local _ .vmem, ⟨1, _⟩ => ⟨S4x32x4100, .bf16⟩
  | .local _ .vmem, ⟨2, _⟩ => ⟨S32x4100, .f32⟩
  | .local _ .vmem, ⟨3, _⟩ => ⟨S32x4100, .f32⟩
  | _, _ => ⟨S4x1024x4100, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x32x4100 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInIdeal.lean ====
abbrev S4x1024x4100 : Shape := ⟨3, ![4, 1024, 4100]⟩
abbrev S1024x4100 : Shape := ⟨2, ![1024, 4100]⟩
abbrev S4x32x4100 : Shape := ⟨3, ![4, 32, 4100]⟩
abbrev S32x4100 : Shape := ⟨2, ![32, 4100]⟩
abbrev S1x32x4100 : Shape := ⟨3, ![1, 32, 4100]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x4100, .bf16⟩
  | .hbm, ⟨1, _⟩ => ⟨S1024x4100, .f32⟩
  | .local _ .vmem, ⟨0, _⟩ => ⟨S4x32x4100, .bf16⟩
  | .local _ .vmem, ⟨1, _⟩ => ⟨S4x32x4100, .bf16⟩
  | .local _ .vmem, ⟨2, _⟩ => ⟨S32x4100, .f32⟩
  | .local _ .vmem, ⟨3, _⟩ => ⟨S32x4100, .f32⟩
  | _, _ => ⟨S4x1024x4100, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x32x4100 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S4x1024x4100 : Shape := ⟨3, ![4, 1024, 4100]⟩
abbrev S_ : Shape := ⟨0, ![]⟩
abbrev S1024x4100 : Shape := ⟨2, ![1024, 4100]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x4100, .bf16⟩
  | .hbm, ⟨1, _⟩ => ⟨S4x1024x4100, .f32⟩
  | .hbm, ⟨2, _⟩ => ⟨S_, .f32⟩
  | .hbm, ⟨3, _⟩ => ⟨S1024x4100, .f32⟩
  | _, _ => ⟨S4x1024x4100, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOut.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutIdeal.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutRefIdeal.lean ====
abbrev S4x256x2048 : Shape := ⟨3, ![4, 256, 2048]⟩
abbrev S_ : Shape := ⟨0, ![]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S_, .f32⟩
  | .hbm, ⟨3, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumGate.lean ====
abbrev S4x1024x1408 : Shape := ⟨3, ![4, 1024, 1408]⟩
abbrev S1024x1408 : Shape := ⟨2, ![1024, 1408]⟩
abbrev S4x128x1408 : Shape := ⟨3, ![4, 128, 1408]⟩
abbrev S128x1408 : Shape := ⟨2, ![128, 1408]⟩
abbrev S1x128x1408 : Shape := ⟨3, ![1, 128, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1408, .bf16⟩
  | .hbm, ⟨1, _⟩ => ⟨S1024x1408, .f32⟩
  | .local _ .vmem, ⟨0, _⟩ => ⟨S4x128x1408, .bf16⟩
  | .local _ .vmem, ⟨1, _⟩ => ⟨S4x128x1408, .bf16⟩
  | .local _ .vmem, ⟨2, _⟩ => ⟨S128x1408, .f32⟩
  | .local _ .vmem, ⟨3, _⟩ => ⟨S128x1408, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGateIdeal.lean ====
abbrev S4x1024x1408 : Shape := ⟨3, ![4, 1024, 1408]⟩
abbrev S1024x1408 : Shape := ⟨2, ![1024, 1408]⟩
abbrev S4x128x1408 : Shape := ⟨3, ![4, 128, 1408]⟩
abbrev S128x1408 : Shape := ⟨2, ![128, 1408]⟩
abbrev S1x128x1408 : Shape := ⟨3, ![1, 128, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1408, .bf16⟩
  | .hbm, ⟨1, _⟩ => ⟨S1024x1408, .f32⟩
  | .local _ .vmem, ⟨0, _⟩ => ⟨S4x128x1408, .bf16⟩
  | .local _ .vmem, ⟨1, _⟩ => ⟨S4x128x1408, .bf16⟩
  | .local _ .vmem, ⟨2, _⟩ => ⟨S128x1408, .f32⟩
  | .local _ .vmem, ⟨3, _⟩ => ⟨S128x1408, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGateRefIdeal.lean ====
abbrev S4x1024x1408 : Shape := ⟨3, ![4, 1024, 1408]⟩
abbrev S_ : Shape := ⟨0, ![]⟩
abbrev S1024x1408 : Shape := ⟨2, ![1024, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .f32⟩
  | .hbm, ⟨2, _⟩ => ⟨S_, .f32⟩
  | .hbm, ⟨3, _⟩ => ⟨S1024x1408, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumDown.lean ====
abbrev S4x704x2048 : Shape := ⟨3, ![4, 704, 2048]⟩
abbrev S704x2048 : Shape := ⟨2, ![704, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownRefIdeal.lean ====
abbrev S4x704x2048 : Shape := ⟨3, ![4, 704, 2048]⟩
abbrev S_ : Shape := ⟨0, ![]⟩
abbrev S704x2048 : Shape := ⟨2, ![704, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .f32⟩
  | .hbm, ⟨2, _⟩ => ⟨S_, .f32⟩
  | .hbm, ⟨3, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Swiglu.lean ====
abbrev S8192x5632 : Shape := ⟨2, ![8192, 5632]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluRefIdeal.lean ====
abbrev S8192x5632 : Shape := ⟨2, ![8192, 5632]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S_, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== SwigluBack.lean ====
abbrev S8192x5632 : Shape := ⟨2, ![8192, 5632]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .bf16⟩
  | .hbm, ⟨4, _⟩ => ⟨S8192x5632, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluBackRefIdeal.lean ====
abbrev S8192x5632 : Shape := ⟨2, ![8192, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .bf16⟩
  | .hbm, ⟨22, _⟩ => ⟨S8192x5632, .f32⟩
  | .hbm, ⟨23, _⟩ => ⟨S8192x5632, .f32⟩
  | .hbm, ⟨24, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MmProj.lean ====
abbrev S8192x2048 : Shape := ⟨2, ![8192, 2048]⟩
abbrev S2048x16384 : Shape := ⟨2, ![2048, 16384]⟩
abbrev S8192x16384 : Shape := ⟨2, ![8192, 16384]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x16384, .bf16⟩
  | .hbm, ⟨2, _⟩ => ⟨S8192x16384, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 16, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmProjIdeal.lean ====
abbrev S8192x2048 : Shape := ⟨2, ![8192, 2048]⟩
abbrev S2048x16384 : Shape := ⟨2, ![2048, 16384]⟩
abbrev S8192x16384 : Shape := ⟨2, ![8192, 16384]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x16384, .bf16⟩
  | .hbm, ⟨2, _⟩ => ⟨S8192x16384, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 16, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmProjRefIdeal.lean ====
abbrev S8192x2048 : Shape := ⟨2, ![8192, 2048]⟩
abbrev S2048x16384 : Shape := ⟨2, ![2048, 16384]⟩
abbrev S8192x16384 : Shape := ⟨2, ![8192, 16384]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x16384, .bf16⟩
  | .hbm, ⟨2, _⟩ => ⟨S8192x16384, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmProjSmall.lean ====
abbrev S8192x2048 : Shape := ⟨2, ![8192, 2048]⟩
abbrev S2048x128 : Shape := ⟨2, ![2048, 128]⟩
abbrev S8192x128 : Shape := ⟨2, ![8192, 128]⟩
abbrev S512x1024 : Shape := ⟨2, ![512, 1024]⟩
abbrev S1024x128 : Shape := ⟨2, ![1024, 128]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmProjSmallIdeal.lean ====
abbrev S8192x2048 : Shape := ⟨2, ![8192, 2048]⟩
abbrev S2048x128 : Shape := ⟨2, ![2048, 128]⟩
abbrev S8192x128 : Shape := ⟨2, ![8192, 128]⟩
abbrev S512x1024 : Shape := ⟨2, ![512, 1024]⟩
abbrev S1024x128 : Shape := ⟨2, ![1024, 128]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmProjSmallRefIdeal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmGate.lean ====
abbrev S8192x2048 : Shape := ⟨2, ![8192, 2048]⟩
abbrev S2048x5632 : Shape := ⟨2, ![2048, 5632]⟩
abbrev S8192x5632 : Shape := ⟨2, ![8192, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGateRefIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmOut.lean ====
abbrev S8192x2048 : Shape := ⟨2, ![8192, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmOutIdeal.lean ====
abbrev S8192x2048 : Shape := ⟨2, ![8192, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmOutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MmDown.lean ====
abbrev S8192x5632 : Shape := ⟨2, ![8192, 5632]⟩
abbrev S5632x2048 : Shape := ⟨2, ![5632, 2048]⟩
abbrev S8192x2048 : Shape := ⟨2, ![8192, 2048]⟩
abbrev S512x512 : Shape := ⟨2, ![512, 512]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmDownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MmDact.lean ====
abbrev S8192x2048 : Shape := ⟨2, ![8192, 2048]⟩
abbrev S5632x2048 : Shape := ⟨2, ![5632, 2048]⟩
abbrev S8192x5632 : Shape := ⟨2, ![8192, 5632]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDactIdeal.lean ====
abbrev S8192x2048 : Shape := ⟨2, ![8192, 2048]⟩
abbrev S5632x2048 : Shape := ⟨2, ![5632, 2048]⟩
abbrev S8192x5632 : Shape := ⟨2, ![8192, 5632]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDactRefIdeal.lean ====
abbrev S8192x2048 : Shape := ⟨2, ![8192, 2048]⟩
abbrev S5632x2048 : Shape := ⟨2, ![5632, 2048]⟩
abbrev S2048x5632 : Shape := ⟨2, ![2048, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S2048x5632, .bf16⟩
  | .hbm, ⟨3, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmHnGate.lean ====
abbrev S8192x5632 : Shape := ⟨2, ![8192, 5632]⟩
abbrev S2048x5632 : Shape := ⟨2, ![2048, 5632]⟩
abbrev S8192x2048 : Shape := ⟨2, ![8192, 2048]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmHnGateIdeal.lean ====
abbrev S8192x5632 : Shape := ⟨2, ![8192, 5632]⟩
abbrev S2048x5632 : Shape := ⟨2, ![2048, 5632]⟩
abbrev S8192x2048 : Shape := ⟨2, ![8192, 2048]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmHnGateRefIdeal.lean ====
abbrev S8192x5632 : Shape := ⟨2, ![8192, 5632]⟩
abbrev S2048x5632 : Shape := ⟨2, ![2048, 5632]⟩
abbrev S5632x2048 : Shape := ⟨2, ![5632, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S5632x2048, .bf16⟩
  | .hbm, ⟨3, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmMix.lean ====
abbrev S8192x2048 : Shape := ⟨2, ![8192, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmMixIdeal.lean ====
abbrev S8192x2048 : Shape := ⟨2, ![8192, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmMixRefIdeal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .bf16⟩
  | .hbm, ⟨3, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmDu.lean ====
abbrev S8192x16384 : Shape := ⟨2, ![8192, 16384]⟩
abbrev S2048x16384 : Shape := ⟨2, ![2048, 16384]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x16384, .bf16⟩
  | .hbm, ⟨1, _⟩ => ⟨S2048x16384, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDuRefIdeal.lean ====
abbrev S8192x16384 : Shape := ⟨2, ![8192, 16384]⟩
abbrev S2048x16384 : Shape := ⟨2, ![2048, 16384]⟩
abbrev S16384x2048 : Shape := ⟨2, ![16384, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S2048x16384, .bf16⟩
  | .hbm, ⟨2, _⟩ => ⟨S16384x2048, .bf16⟩
  | .hbm, ⟨3, _⟩ => ⟨S8192x2048, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmHnUp.lean ====
abbrev S8192x5632 : Shape := ⟨2, ![8192, 5632]⟩
abbrev S2048x5632 : Shape := ⟨2, ![2048, 5632]⟩
abbrev S8192x2048 : Shape := ⟨2, ![8192, 2048]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmHnUpIdeal.lean ====
abbrev S8192x5632 : Shape := ⟨2, ![8192, 5632]⟩
abbrev S2048x5632 : Shape := ⟨2, ![2048, 5632]⟩
abbrev S8192x2048 : Shape := ⟨2, ![8192, 2048]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmHnUpRefIdeal.lean ====
abbrev S8192x5632 : Shape := ⟨2, ![8192, 5632]⟩
abbrev S2048x5632 : Shape := ⟨2, ![2048, 5632]⟩
abbrev S8192x2048 : Shape := ⟨2, ![8192, 2048]⟩
abbrev S5632x2048 : Shape := ⟨2, ![5632, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S5632x2048, .bf16⟩
  | .hbm, ⟨4, _⟩ => ⟨S8192x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MmDuSmall.lean ====
abbrev S8192x128 : Shape := ⟨2, ![8192, 128]⟩
abbrev S2048x128 : Shape := ⟨2, ![2048, 128]⟩
abbrev S8192x2048 : Shape := ⟨2, ![8192, 2048]⟩
abbrev S512x128 : Shape := ⟨2, ![512, 128]⟩
abbrev S1024x128 : Shape := ⟨2, ![1024, 128]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S8192x2048, .f32⟩
  | .hbm, ⟨3, _⟩ => ⟨S8192x2048, .f32⟩
  | .local _ .vmem, ⟨0, _⟩ => ⟨S512x128, .bf16⟩
  | .local _ .vmem, ⟨1, _⟩ => ⟨S512x128, .bf16⟩
  | .local _ .vmem, ⟨2, _⟩ => ⟨S1024x128, .bf16⟩
  | .local _ .vmem, ⟨3, _⟩ => ⟨S1024x128, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmDuSmallRefIdeal.lean ====
abbrev S8192x128 : Shape := ⟨2, ![8192, 128]⟩
abbrev S2048x128 : Shape := ⟨2, ![2048, 128]⟩
abbrev S8192x2048 : Shape := ⟨2, ![8192, 2048]⟩
abbrev S128x2048 : Shape := ⟨2, ![128, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S8192x2048, .f32⟩
  | .hbm, ⟨3, _⟩ => ⟨S128x2048, .bf16⟩
  | .hbm, ⟨4, _⟩ => ⟨S8192x2048, .f32⟩
  | .hbm, ⟨5, _⟩ => ⟨S8192x2048, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwDown.lean ====
abbrev S8192x5632 : Shape := ⟨2, ![8192, 5632]⟩
abbrev S8192x2048 : Shape := ⟨2, ![8192, 2048]⟩
abbrev S5632x2048 : Shape := ⟨2, ![5632, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownIdeal.lean ====
abbrev S8192x5632 : Shape := ⟨2, ![8192, 5632]⟩
abbrev S8192x2048 : Shape := ⟨2, ![8192, 2048]⟩
abbrev S5632x2048 : Shape := ⟨2, ![5632, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x5632 : Shape := ⟨2, ![8192, 5632]⟩
abbrev S8192x2048 : Shape := ⟨2, ![8192, 2048]⟩
abbrev S5632x8192 : Shape := ⟨2, ![5632, 8192]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x8192, .bf16⟩
  | .hbm, ⟨3, _⟩ => ⟨S5632x2048, .f32⟩
  | .hbm, ⟨4, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwGate.lean ====
abbrev S8192x2048 : Shape := ⟨2, ![8192, 2048]⟩
abbrev S8192x5632 : Shape := ⟨2, ![8192, 5632]⟩
abbrev S2048x5632 : Shape := ⟨2, ![2048, 5632]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateIdeal.lean ====
abbrev S8192x2048 : Shape := ⟨2, ![8192, 2048]⟩
abbrev S8192x5632 : Shape := ⟨2, ![8192, 5632]⟩
abbrev S2048x5632 : Shape := ⟨2, ![2048, 5632]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S8192x2048 : Shape := ⟨2, ![8192, 2048]⟩
abbrev S8192x5632 : Shape := ⟨2, ![8192, 5632]⟩
abbrev S2048x8192 : Shape := ⟨2, ![2048, 8192]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x8192, .bf16⟩
  | .hbm, ⟨3, _⟩ => ⟨S2048x5632, .f32⟩
  | .hbm, ⟨4, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwOut.lean ====
abbrev S8192x2048 : Shape := ⟨2, ![8192, 2048]⟩
abbrev S2048x2048 : Shape := ⟨2, ![2048, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutIdeal.lean ====
abbrev S8192x2048 : Shape := ⟨2, ![8192, 2048]⟩
abbrev S2048x2048 : Shape := ⟨2, ![2048, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x2048 : Shape := ⟨2, ![8192, 2048]⟩
abbrev S2048x8192 : Shape := ⟨2, ![2048, 8192]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x8192, .bf16⟩
  | .hbm, ⟨3, _⟩ => ⟨S2048x2048, .f32⟩
  | .hbm, ⟨4, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn.lean ====
abbrev S8192x2048 : Shape := ⟨2, ![8192, 2048]⟩
abbrev S8192x16384 : Shape := ⟨2, ![8192, 16384]⟩
abbrev S2048x16384 : Shape := ⟨2, ![2048, 16384]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x16384, .bf16⟩
  | .hbm, ⟨2, _⟩ => ⟨S2048x16384, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInIdeal.lean ====
abbrev S8192x2048 : Shape := ⟨2, ![8192, 2048]⟩
abbrev S8192x16384 : Shape := ⟨2, ![8192, 16384]⟩
abbrev S2048x16384 : Shape := ⟨2, ![2048, 16384]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x16384, .bf16⟩
  | .hbm, ⟨2, _⟩ => ⟨S2048x16384, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x2048 : Shape := ⟨2, ![8192, 2048]⟩
abbrev S8192x16384 : Shape := ⟨2, ![8192, 16384]⟩
abbrev S2048x8192 : Shape := ⟨2, ![2048, 8192]⟩
abbrev S2048x16384 : Shape := ⟨2, ![2048, 16384]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x16384, .bf16⟩
  | .hbm, ⟨2, _⟩ => ⟨S2048x8192, .bf16⟩
  | .hbm, ⟨3, _⟩ => ⟨S2048x16384, .f32⟩
  | .hbm, ⟨4, _⟩ => ⟨S2048x16384, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwInSmall.lean ====
abbrev S8192x2048 : Shape := ⟨2, ![8192, 2048]⟩
abbrev S8192x128 : Shape := ⟨2, ![8192, 128]⟩
abbrev S2048x128 : Shape := ⟨2, ![2048, 128]⟩
abbrev S1024x512 : Shape := ⟨2, ![1024, 512]⟩
abbrev S1024x128 : Shape := ⟨2, ![1024, 128]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S2048x128, .bf16⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInSmallRefIdeal.lean ====
abbrev S8192x2048 : Shape := ⟨2, ![8192, 2048]⟩
abbrev S8192x128 : Shape := ⟨2, ![8192, 128]⟩
abbrev S2048x8192 : Shape := ⟨2, ![2048, 8192]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S2048x8192, .bf16⟩
  | .hbm, ⟨3, _⟩ => ⟨S2048x128, .f32⟩
  | .hbm, ⟨4, _⟩ => ⟨S2048x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Rms.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsBack.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBackRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x128, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S1x128, .f32⟩
  | .hbm, ⟨47, _⟩ => ⟨S8192x2048, .bf16⟩
  | .hbm, ⟨48, _⟩ => ⟨S8192x2048, .f32⟩
  | .hbm, ⟨49, _⟩ => ⟨S_, .f32⟩
  | .hbm, ⟨50, _⟩ => ⟨S2048, .f32⟩
  | .hbm, ⟨51, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Gates.lean ====
abbrev S8192x128 : Shape := ⟨2, ![8192, 128]⟩
abbrev S1x128 : Shape := ⟨2, ![1, 128]⟩
abbrev S512x128 : Shape := ⟨2, ![512, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatesRefIdeal.lean ====
abbrev S8192x128 : Shape := ⟨2, ![8192, 128]⟩
abbrev S1x128 : Shape := ⟨2, ![1, 128]⟩
abbrev S128 : Shape := ⟨1, ![128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S128, .i32⟩
  | .hbm, ⟨4, _⟩ => ⟨S1x128, .i32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192x128, .f32⟩
  | .hbm, ⟨12, _⟩ => ⟨S8192x128, .f32⟩
  | .hbm, ⟨13, _⟩ => ⟨S1x128, .f32⟩
  | .hbm, ⟨14, _⟩ => ⟨S1x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .i32⟩
  | .hbm, ⟨28, _⟩ => ⟨S1x128, .i32⟩
  | .hbm, ⟨29, _⟩ => ⟨S1x128, .i1⟩
  | .hbm, ⟨30, _⟩ => ⟨S_, .i32⟩
  | .hbm, ⟨31, _⟩ => ⟨S1x128, .i32⟩
  | .hbm, ⟨32, _⟩ => ⟨S1x128, .i1⟩
  | .hbm, ⟨33, _⟩ => ⟨S_, .f32⟩
  | .hbm, ⟨34, _⟩ => ⟨S_, .f32⟩
  | .hbm, ⟨35, _⟩ => ⟨S8192x128, .i1⟩
  | .hbm, ⟨36, _⟩ => ⟨S8192x128, .f32⟩
  | .hbm, ⟨37, _⟩ => ⟨S8192x128, .f32⟩
  | .hbm, ⟨38, _⟩ => ⟨S8192x128, .i1⟩
  | .hbm, ⟨39, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_call1_v0 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== GatesBack.lean ====
abbrev S8192x128 : Shape := ⟨2, ![8192, 128]⟩
abbrev S1x128 : Shape := ⟨2, ![1, 128]⟩
abbrev S512x128 : Shape := ⟨2, ![512, 128]⟩
abbrev S128 : Shape := ⟨1, ![128]⟩

abbrev nBuf : Space → Nat
  | .hbm => 7
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x128, .f32⟩
  | .hbm, ⟨3, _⟩ => ⟨S1x128, .f32⟩
  | .hbm, ⟨4, _⟩ => ⟨S8192x128, .bf16⟩
  | .hbm, ⟨5, _⟩ => ⟨S1x128, .f32⟩
  | .hbm, ⟨6, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S512x128, .bf16⟩
  | .local _ .vmem, ⟨7, _⟩ => ⟨S512x128, .bf16⟩
  | .local _ .vmem, ⟨8, _⟩ => ⟨S1x128, .f32⟩
  | .local _ .vmem, ⟨9, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GatesBackRefIdeal.lean ====
abbrev S8192x128 : Shape := ⟨2, ![8192, 128]⟩
abbrev S1x128 : Shape := ⟨2, ![1, 128]⟩
abbrev S128 : Shape := ⟨1, ![128]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x128, .f32⟩
  | .hbm, ⟨3, _⟩ => ⟨S1x128, .f32⟩
  | .hbm, ⟨4, _⟩ => ⟨S128, .i32⟩
  | .hbm, ⟨5, _⟩ => ⟨S1x128, .i32⟩
  | .hbm, ⟨6, _⟩ => ⟨S8192x128, .f32⟩
  | .hbm, ⟨7, _⟩ => ⟨S8192x128, .f32⟩
  | .hbm, ⟨8, _⟩ => ⟨S_, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S_, .i32⟩
  | .hbm, ⟨17, _⟩ => ⟨S1x128, .i32⟩
  | .hbm, ⟨18, _⟩ => ⟨S1x128, .i1⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S1x128, .i1⟩
  | .hbm, ⟨23, _⟩ => ⟨S1x128, .f32⟩
  | .hbm, ⟨24, _⟩ => ⟨S1x128, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S_, .f32⟩
  | .hbm, ⟨29, _⟩ => ⟨S8192x128, .i1⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S_, .i32⟩
  | .hbm, ⟨42, _⟩ => ⟨S1x128, .i32⟩
  | .hbm, ⟨43, _⟩ => ⟨S1x128, .i1⟩
  | .hbm, ⟨44, _⟩ => ⟨S8192x128, .f32⟩
  | .hbm, ⟨45, _⟩ => ⟨S_, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x128, .i1⟩
  | .hbm, ⟨50, _⟩ => ⟨S8192x128, .f32⟩
  | .hbm, ⟨51, _⟩ => ⟨S8192x128, .bf16⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S_, .f32⟩
  | .hbm, ⟨62, _⟩ => ⟨S128, .f32⟩
  | .hbm, ⟨63, _⟩ => ⟨S1x128, .f32⟩
  | .hbm, ⟨64, _⟩ => ⟨S_, .f32⟩
  | .hbm, ⟨65, _⟩ => ⟨S128, .f32⟩
  | .hbm, ⟨66, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_v0 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Merge.lean ====
abbrev S8192x2048 : Shape := ⟨2, ![8192, 2048]⟩
abbrev S8192x16384 : Shape := ⟨2, ![8192, 16384]⟩
abbrev S1x2048 : Shape := ⟨2, ![1, 2048]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x16384, .f32⟩
  | .hbm, ⟨3, _⟩ => ⟨S1x2048, .f32⟩
  | .hbm, ⟨4, _⟩ => ⟨S1x2048, .f32⟩
  | .hbm, ⟨5, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S1x2048, .f32⟩
  | .local _ .vmem, ⟨14, _⟩ => ⟨S256x2048, .bf16⟩
  | .local _ .vmem, ⟨15, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8192x2048 : Shape := ⟨2, ![8192, 2048]⟩
abbrev S8192x16384 : Shape := ⟨2, ![8192, 16384]⟩
abbrev S1x2048 : Shape := ⟨2, ![1, 2048]⟩
abbrev S8192x8x256 : Shape := ⟨3, ![8192, 8, 256]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x16384, .f32⟩
  | .hbm, ⟨3, _⟩ => ⟨S1x2048, .f32⟩
  | .hbm, ⟨4, _⟩ => ⟨S1x2048, .f32⟩
  | .hbm, ⟨5, _⟩ => ⟨S8192x8x256, .f32⟩
  | .hbm, ⟨6, _⟩ => ⟨S8192x8x256, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S8192x8x256, .f32⟩
  | .hbm, ⟨14, _⟩ => ⟨S8192x8x256, .f32⟩
  | .hbm, ⟨15, _⟩ => ⟨S8192x8x256, .f32⟩
  | .hbm, ⟨16, _⟩ => ⟨S_, .f32⟩
  | .hbm, ⟨17, _⟩ => ⟨S8192x8, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S_, .f32⟩
  | .hbm, ⟨23, _⟩ => ⟨S8192x8x1, .f32⟩
  | .hbm, ⟨24, _⟩ => ⟨S8192x8x1, .f32⟩
  | .hbm, ⟨25, _⟩ => ⟨S8192x8x1, .f32⟩
  | .hbm, ⟨26, _⟩ => ⟨S8192x8x256, .f32⟩
  | .hbm, ⟨27, _⟩ => ⟨S8192x8x256, .f32⟩
  | .hbm, ⟨28, _⟩ => ⟨S8192x8x256, .f32⟩
  | .hbm, ⟨29, _⟩ => ⟨S_, .f32⟩
  | .hbm, ⟨30, _⟩ => ⟨S8192x8, .f32⟩
  | .hbm, ⟨31, _⟩ => ⟨S8192x8x1, .f32⟩
  | .hbm, ⟨32, _⟩ => ⟨S_, .f32⟩
  | .hbm, ⟨33, _⟩ => ⟨S8192x8x1, .f32⟩
  | .hbm, ⟨34, _⟩ => ⟨S8192x8x1, .f32⟩
  | .hbm, ⟨35, _⟩ => ⟨S_, .f32⟩
  | .hbm, ⟨36, _⟩ => ⟨S8192x8x1, .f32⟩
  | .hbm, ⟨37, _⟩ => ⟨S8192x8x1, .f32⟩
  | .hbm, ⟨38, _⟩ => ⟨S8192x8x1, .f32⟩
  | .hbm, ⟨39, _⟩ => ⟨S8192x8x256, .f32⟩
  | .hbm, ⟨40, _⟩ => ⟨S8192x8x256, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S8192x2048, .f32⟩
  | .hbm, ⟨84, _⟩ => ⟨S8192x2048, .f32⟩
  | .hbm, ⟨85, _⟩ => ⟨S_, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== MergeBack.lean ====
abbrev S8192x2048 : Shape := ⟨2, ![8192, 2048]⟩
abbrev S8192x16384 : Shape := ⟨2, ![8192, 16384]⟩
abbrev S1x2048 : Shape := ⟨2, ![1, 2048]⟩
abbrev S256x2048 : Shape := ⟨2, ![256, 2048]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 14
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16384, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | .hbm, ⟨9, _⟩ => ⟨S8192x2048, .bf16⟩
  | .hbm, ⟨10, _⟩ => ⟨S8192x2048, .bf16⟩
  | .hbm, ⟨11, _⟩ => ⟨S8192x2048, .bf16⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S1x2048, .f32⟩
  | .local _ .vmem, ⟨29, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeBackRefIdeal.lean ====
abbrev S8192x2048 : Shape := ⟨2, ![8192, 2048]⟩
abbrev S8192x16384 : Shape := ⟨2, ![8192, 16384]⟩
abbrev S1x2048 : Shape := ⟨2, ![1, 2048]⟩
abbrev S8192x8x256 : Shape := ⟨3, ![8192, 8, 256]⟩
abbrev S_ : Shape := ⟨0, ![]⟩
abbrev S8192x8 : Shape := ⟨2, ![8192, 8]⟩
abbrev S8192x8x1 : Shape := ⟨3, ![8192, 8, 1]⟩
abbrev S2048 : Shape := ⟨1, ![2048]⟩

abbrev nBuf : Space → Nat
  | .hbm => 182
  | .vmem => 0
  | .smem => 0
  | _ => 0

abbrev hbmTy0_0 (i : Nat) : BufTy := match i % 128 with
  | 0 => ⟨S8192x2048, .f32⟩
  | 1 => ⟨S8192x2048, .f32⟩
  | 2 => ⟨S8192x2048, .f32⟩
  | 3 => ⟨S8192x16384, .f32⟩
  | 4 => ⟨S1x2048, .f32⟩
  | 5 => ⟨S1x2048, .f32⟩
  | 6 => ⟨S8192x8x256, .f32⟩
  | 7 => ⟨S8192x8x256, .f32⟩
  | 8 => ⟨S_, .f32⟩
  | 9 => ⟨S8192x8, .f32⟩
  | 10 => ⟨S8192x8x1, .f32⟩
  | 11 => ⟨S_, .f32⟩
  | 12 => ⟨S8192x8x1, .f32⟩
  | 13 => ⟨S8192x8x1, .f32⟩
  | 14 => ⟨S8192x8x256, .f32⟩
  | 15 => ⟨S8192x8x256, .f32⟩
  | 16 => ⟨S8192x8x256, .f32⟩
  | 17 => ⟨S_, .f32⟩
  | 18 => ⟨S8192x8, .f32⟩
  | 19 => ⟨S8192x8x1, .f32⟩
  | 20 => ⟨S_, .f32⟩
  | 21 => ⟨S8192x8x1, .f32⟩
  | 22 => ⟨S8192x8x1, .f32⟩
  | 23 => ⟨S_, .f32⟩
  | 24 => ⟨S8192x8x1, .f32⟩
  | 25 => ⟨S8192x8x1, .f32⟩
  | 26 => ⟨S8192x8x1, .f32⟩
  | 27 => ⟨S8192x8x256, .f32⟩
  | 28 => ⟨S_, .f32⟩
  | 29 => ⟨S8192x8, .f32⟩
  | 30 => ⟨S8192x8x1, .f32⟩
  | 31 => ⟨S_, .f32⟩
  | 32 => ⟨S8192x8x1, .f32⟩
  | 33 => ⟨S8192x8x1, .f32⟩
  | 34 => ⟨S_, .f32⟩
  | 35 => ⟨S8192x8x1, .f32⟩
  | 36 => ⟨S8192x8x1, .f32⟩
  | 37 => ⟨S8192x8x1, .f32⟩
  | 38 => ⟨S8192x8x256, .f32⟩
  | 39 => ⟨S8192x8x256, .f32⟩
  | 40 => ⟨S8192x8x256, .f32⟩
  | 41 => ⟨S8192x8x256, .f32⟩
  | 42 => ⟨S8192x2048, .f32⟩
  | 43 => ⟨S8192x2048, .f32⟩
  | 44 => ⟨S8192x2048, .f32⟩
  | 45 => ⟨S8192x2048, .f32⟩
  | 46 => ⟨S8192x2048, .f32⟩
  | 47 => ⟨S8192x2048, .f32⟩
  | 48 => ⟨S_, .f32⟩
  | 49 => ⟨S8192x2048, .f32⟩
  | 50 => ⟨S8192x2048, .f32⟩
  | 51 => ⟨S_, .f32⟩
  | 52 => ⟨S8192x2048, .f32⟩
  | 53 => ⟨S8192x2048, .f32⟩
  | 54 => ⟨S8192x2048, .f32⟩
  | 55 => ⟨S8192x2048, .f32⟩
  | 56 => ⟨S_, .f32⟩
  | 57 => ⟨S8192x2048, .f32⟩
  | 58 => ⟨S8192x2048, .f32⟩
  | 59 => ⟨S_, .f32⟩
  | 60 => ⟨S8192x2048, .f32⟩
  | 61 => ⟨S8192x2048, .f32⟩
  | 62 => ⟨S8192x2048, .f32⟩
  | 63 => ⟨S8192x2048, .f32⟩
  | 64 => ⟨S_, .f32⟩
  | 65 => ⟨S8192x2048, .f32⟩
  | 66 => ⟨S8192x2048, .f32⟩
  | 67 => ⟨S_, .f32⟩
  | 68 => ⟨S8192x2048, .f32⟩
  | 69 => ⟨S8192x2048, .f32⟩
  | 70 => ⟨S8192x2048, .f32⟩
  | 71 => ⟨S8192x2048, .f32⟩
  | 72 => ⟨S_, .f32⟩
  | 73 => ⟨S8192x2048, .f32⟩
  | 74 => ⟨S8192x2048, .f32⟩
  | 75 => ⟨S_, .f32⟩
  | 76 => ⟨S8192x2048, .f32⟩
  | 77 => ⟨S8192x2048, .f32⟩
  | 78 => ⟨S8192x2048, .f32⟩
  | 79 => ⟨S8192x2048, .f32⟩
  | 80 => ⟨S8192x2048, .f32⟩
  | 81 => ⟨S8192x2048, .f32⟩
  | 82 => ⟨S8192x2048, .f32⟩
  | 83 => ⟨S8192x2048, .f32⟩
  | 84 => ⟨S8192x2048, .f32⟩
  | 85 => ⟨S8192x2048, .f32⟩
  | 86 => ⟨S8192x2048, .f32⟩
  | 87 => ⟨S8192x2048, .f32⟩
  | 88 => ⟨S_, .f32⟩
  | 89 => ⟨S8192x2048, .f32⟩
  | 90 => ⟨S8192x2048, .f32⟩
  | 91 => ⟨S8192x2048, .f32⟩
  | 92 => ⟨S8192x2048, .f32⟩
  | 93 => ⟨S8192x2048, .f32⟩
  | 94 => ⟨S8192x2048, .f32⟩
  | 95 => ⟨S8192x2048, .f32⟩
  | 96 => ⟨S_, .f32⟩
  | 97 => ⟨S8192x2048, .f32⟩
  | 98 => ⟨S8192x2048, .f32⟩
  | 99 => ⟨S8192x2048, .f32⟩
  | 100 => ⟨S8192x2048, .f32⟩
  | 101 => ⟨S8192x2048, .f32⟩
  | 102 => ⟨S8192x2048, .f32⟩
  | 103 => ⟨S_, .f32⟩
  | 104 => ⟨S8192x2048, .f32⟩
  | 105 => ⟨S8192x2048, .f32⟩
  | 106 => ⟨S8192x2048, .f32⟩
  | 107 => ⟨S_, .f32⟩
  | 108 => ⟨S8192x2048, .f32⟩
  | 109 => ⟨S8192x2048, .f32⟩
  | 110 => ⟨S8192x2048, .f32⟩
  | 111 => ⟨S8192x2048, .f32⟩
  | 112 => ⟨S8192x2048, .f32⟩
  | 113 => ⟨S8192x2048, .f32⟩
  | 114 => ⟨S_, .f32⟩
  | 115 => ⟨S8192x2048, .f32⟩
  | 116 => ⟨S8192x2048, .f32⟩
  | 117 => ⟨S8192x2048, .f32⟩
  | 118 => ⟨S_, .f32⟩
  | 119 => ⟨S8192x2048, .f32⟩
  | 120 => ⟨S8192x2048, .f32⟩
  | 121 => ⟨S8192x2048, .f32⟩
  | 122 => ⟨S8192x2048, .f32⟩
  | 123 => ⟨S8192x2048, .f32⟩
  | 124 => ⟨S8192x2048, .f32⟩
  | 125 => ⟨S8192x2048, .f32⟩
  | 126 => ⟨S8192x2048, .f32⟩
  | 127 => ⟨S8192x2048, .f32⟩
  | _ => ⟨S8192x2048, .f32⟩

abbrev hbmTy0_1 (i : Nat) : BufTy := match i % 128 with
  | 0 => ⟨S8192x2048, .f32⟩
  | 1 => ⟨S8192x2048, .f32⟩
  | 2 => ⟨S_, .f32⟩
  | 3 => ⟨S2048, .f32⟩
  | 4 => ⟨S1x2048, .f32⟩
  | 5 => ⟨S8192x2048, .f32⟩
  | 6 => ⟨S8192x2048, .f32⟩
  | 7 => ⟨S_, .f32⟩
  | 8 => ⟨S2048, .f32⟩
  | 9 => ⟨S1x2048, .f32⟩
  | 10 => ⟨S8192x2048, .f32⟩
  | 11 => ⟨S8192x2048, .f32⟩
  | 12 => ⟨S8192x8x256, .f32⟩
  | 13 => ⟨S8192x2048, .f32⟩
  | 14 => ⟨S8192x2048, .f32⟩
  | 15 => ⟨S8192x8x256, .f32⟩
  | 16 => ⟨S8192x8x256, .f32⟩
  | 17 => ⟨S_, .f32⟩
  | 18 => ⟨S8192x8, .f32⟩
  | 19 => ⟨S8192x8x1, .f32⟩
  | 20 => ⟨S_, .f32⟩
  | 21 => ⟨S8192x8x1, .f32⟩
  | 22 => ⟨S8192x8x1, .f32⟩
  | 23 => ⟨S8192x8x256, .f32⟩
  | 24 => ⟨S8192x8x256, .f32⟩
  | 25 => ⟨S8192x8x256, .f32⟩
  | 26 => ⟨S8192x8x256, .f32⟩
  | 27 => ⟨S8192x8x256, .f32⟩
  | 28 => ⟨S_, .f32⟩
  | 29 => ⟨S8192x8, .f32⟩
  | 30 => ⟨S8192x8x1, .f32⟩
  | 31 => ⟨S_, .f32⟩
  | 32 => ⟨S8192x8x1, .f32⟩
  | 33 => ⟨S8192x8x1, .f32⟩
  | 34 => ⟨S8192x8x256, .f32⟩
  | 35 => ⟨S8192x8x256, .f32⟩
  | 36 => ⟨S8192x8x256, .f32⟩
  | 37 => ⟨S_, .f32⟩
  | 38 => ⟨S8192x8, .f32⟩
  | 39 => ⟨S8192x8x1, .f32⟩
  | 40 => ⟨S_, .f32⟩
  | 41 => ⟨S8192x8x1, .f32⟩
  | 42 => ⟨S8192x8x1, .f32⟩
  | 43 => ⟨S8192x8x256, .f32⟩
  | 44 => ⟨S8192x8x256, .f32⟩
  | 45 => ⟨S8192x8x256, .f32⟩
  | 46 => ⟨S8192x8x256, .f32⟩
  | 47 => ⟨S8192x8x256, .f32⟩
  | 48 => ⟨S8192x2048, .f32⟩
  | 49 => ⟨S8192x2048, .f32⟩
  | 50 => ⟨S8192x2048, .bf16⟩
  | 51 => ⟨S8192x2048, .bf16⟩
  | 52 => ⟨S8192x2048, .bf16⟩
  | 53 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_20 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_21 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_22 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_23 : Ref sig .tc := ⟨.hbm, 145, rfl⟩
abbrev main_v115 : Ref sig .tc := ⟨.hbm, 146, rfl⟩
abbrev main_v116 : Ref sig .tc := ⟨.hbm, 147, rfl⟩
abbrev main_cst_24 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_25 : Ref sig .tc := ⟨.hbm, 156, rfl⟩
abbrev main_v124 : Ref sig .tc := ⟨.hbm, 157, rfl⟩
abbrev main_v125 : Ref sig .tc := ⟨.hbm, 158, rfl⟩
abbrev main_cst_26 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_27 : Ref sig .tc := ⟨.hbm, 165, rfl⟩
abbrev main_v131 : Ref sig .tc := ⟨.hbm, 166, rfl⟩
abbrev main_v132 : Ref sig .tc := ⟨.hbm, 167, rfl⟩
abbrev main_cst_28 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩

abbrev nD : Nat := 1
abbrev τ : Topo := Topo.v7x

variable {F : FTy → Type} [FloatOps F]
-- ==== ConvPre.lean ====
abbrev S8192x16384 : Shape := ⟨2, ![8192, 16384]⟩
abbrev S4x4096 : Shape := ⟨2, ![4, 4096]⟩
abbrev S8192x1024 : Shape := ⟨2, ![8192, 1024]⟩
abbrev S8192x2048 : Shape := ⟨2, ![8192, 2048]⟩
abbrev S8192x4096 : Shape := ⟨2, ![8192, 4096]⟩
abbrev S256x4096 : Shape := ⟨2, ![256, 4096]⟩
abbrev S8x4096 : Shape := ⟨2, ![8, 4096]⟩
abbrev S256x1024 : Shape := ⟨2, ![256, 1024]⟩
abbrev S256x2048 : Shape := ⟨2, ![256, 2048]⟩
abbrev S264x4096 : Shape := ⟨2, ![264, 4096]⟩
abbrev S256x128 : Shape := ⟨2, ![256, 128]⟩
abbrev S1x128 : Shape := ⟨2, ![1, 128]⟩
abbrev S256 : Shape := ⟨1, ![256]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x16384, .f32⟩
  | .hbm, ⟨1, _⟩ => ⟨S4x4096, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S4x4096, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x2048, .f32⟩
  | .local _ .vmem, ⟨10, _⟩ => ⟨S256x2048, .f32⟩
  | .local _ .vmem, ⟨11, _⟩ => ⟨S256x4096, .f32⟩
  | .local _ .vmem, ⟨12, _⟩ => ⟨S256x4096, .f32⟩
  | .local _ .vmem, ⟨13, _⟩ => ⟨S264x4096, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvPreRefIdeal.lean ====
abbrev S8192x16384 : Shape := ⟨2, ![8192, 16384]⟩
abbrev S4x4096 : Shape := ⟨2, ![4, 4096]⟩
abbrev S8192x1024 : Shape := ⟨2, ![8192, 1024]⟩
abbrev S8192x2048 : Shape := ⟨2, ![8192, 2048]⟩
abbrev S8192x4096 : Shape := ⟨2, ![8192, 4096]⟩
abbrev S_ : Shape := ⟨0, ![]⟩
abbrev S8195x4096 : Shape := ⟨2, ![8195, 4096]⟩
abbrev S1x4096 : Shape := ⟨2, ![1, 4096]⟩
abbrev S4096 : Shape := ⟨1, ![4096]⟩
abbrev S8192x16x128 : Shape := ⟨3, ![8192, 16, 128]⟩
abbrev S8192x8x128 : Shape := ⟨3, ![8192, 8, 128]⟩
abbrev S8x1 : Shape := ⟨2, ![8, 1]⟩
abbrev S16x1 : Shape := ⟨2, ![16, 1]⟩
abbrev S8192x16 : Shape := ⟨2, ![8192, 16]⟩
abbrev S8192x16x1 : Shape := ⟨3, ![8192, 16, 1]⟩
abbrev S1x16x1 : Shape := ⟨3, ![1, 16, 1]⟩

abbrev nBuf : Space → Nat
  | .hbm => 89
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S4x4096, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S8192x4096, .f32⟩
  | .hbm, ⟨6, _⟩ => ⟨S_, .i32⟩
  | .hbm, ⟨7, _⟩ => ⟨S_, .f32⟩
  | .hbm, ⟨8, _⟩ => ⟨S8195x4096, .f32⟩
  | .hbm, ⟨9, _⟩ => ⟨S8192x4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x2048, .f32⟩
  | .hbm, ⟨46, _⟩ => ⟨S8192x16x128, .f32⟩
  | .hbm, ⟨47, _⟩ => ⟨S8192x8x128, .f32⟩
  | .hbm, ⟨48, _⟩ => ⟨S8192x8x128, .f32⟩
  | .hbm, ⟨49, _⟩ => ⟨S8192x16x128, .f32⟩
  | .hbm, ⟨50, _⟩ => ⟨S_, .f32⟩
  | .hbm, ⟨51, _⟩ => ⟨S8x1, .f32⟩
  | .hbm, ⟨52, _⟩ => ⟨S_, .f32⟩
  | .hbm, ⟨53, _⟩ => ⟨S8x1, .f32⟩
  | .hbm, ⟨54, _⟩ => ⟨S16x1, .f32⟩
  | .hbm, ⟨55, _⟩ => ⟨S8192x16x128, .f32⟩
  | .hbm, ⟨56, _⟩ => ⟨S_, .f32⟩
  | .hbm, ⟨57, _⟩ => ⟨S8192x16, .f32⟩
  | .hbm, ⟨58, _⟩ => ⟨S8192x16x1, .f32⟩
  | .hbm, ⟨59, _⟩ => ⟨S_, .f32⟩
  | .hbm, ⟨60, _⟩ => ⟨S8192x16x1, .f32⟩
  | .hbm, ⟨61, _⟩ => ⟨S8192x16x1, .f32⟩
  | .hbm, ⟨62, _⟩ => ⟨S8192x16x1, .f32⟩
  | .hbm, ⟨63, _⟩ => ⟨S1x16x1, .f32⟩
  | .hbm, ⟨64, _⟩ => ⟨S8192x16x1, .f32⟩
  | .hbm, ⟨65, _⟩ => ⟨S8192x16x1, .f32⟩
  | .hbm, ⟨66, _⟩ => ⟨S8192x16x1, .f32⟩
  | .hbm, ⟨67, _⟩ => ⟨S8192x16x128, .f32⟩
  | .hbm, ⟨68, _⟩ => ⟨S8192x16x128, .f32⟩
  | .hbm, ⟨69, _⟩ => ⟨S8192x16x128, .f32⟩
  | .hbm, ⟨70, _⟩ => ⟨S_, .f32⟩
  | .hbm, ⟨71, _⟩ => ⟨S8192x16, .f32⟩
  | .hbm, ⟨72, _⟩ => ⟨S8192x16x1, .f32⟩
  | .hbm, ⟨73, _⟩ => ⟨S8192x16x128, .f32⟩
  | .hbm, ⟨74, _⟩ => ⟨S8192x16x128, .f32⟩
  | .hbm, ⟨75, _⟩ => ⟨S8192x16x128, .f32⟩
  | .hbm, ⟨76, _⟩ => ⟨S8192x16x128, .f32⟩
  | .hbm, ⟨77, _⟩ => ⟨S8192x16x128, .f32⟩
  | .hbm, ⟨78, _⟩ => ⟨S8192x2048, .f32⟩
  | .hbm, ⟨79, _⟩ => ⟨S8192x4096, .f32⟩
  | .hbm, ⟨80, _⟩ => ⟨S8192x4096, .f32⟩
  | .hbm, ⟨81, _⟩ => ⟨S_, .f32⟩
  | .hbm, ⟨82, _⟩ => ⟨S8192x4096, .f32⟩
  | .hbm, ⟨83, _⟩ => ⟨S8192x4096, .f32⟩
  | .hbm, ⟨84, _⟩ => ⟨S8192x4096, .f32⟩
  | .hbm, ⟨85, _⟩ => ⟨S_, .f32⟩
  | .hbm, ⟨86, _⟩ => ⟨S8192x4096, .f32⟩
  | .hbm, ⟨87, _⟩ => ⟨S8192x4096, .f32⟩
  | .hbm, ⟨88, _⟩ => ⟨S8192x4096, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_1 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_6 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_7 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩

abbrev nD : Nat := 1
abbrev τ : Topo := Topo.v7x

variable {F : FTy → Type} [FloatOps F]
-- ==== Conv.lean ====
abbrev S8192x16384 : Shape := ⟨2, ![8192, 16384]⟩
abbrev S4x4096 : Shape := ⟨2, ![4, 4096]⟩
abbrev S8192x1024 : Shape := ⟨2, ![8192, 1024]⟩
abbrev S8192x2048 : Shape := ⟨2, ![8192, 2048]⟩
abbrev S256x4096 : Shape := ⟨2, ![256, 4096]⟩
abbrev S8x4096 : Shape := ⟨2, ![8, 4096]⟩
abbrev S256x1024 : Shape := ⟨2, ![256, 1024]⟩
abbrev S256x2048 : Shape := ⟨2, ![256, 2048]⟩
abbrev S264x4096 : Shape := ⟨2, ![264, 4096]⟩
abbrev S256x128 : Shape := ⟨2, ![256, 128]⟩
abbrev S1x128 : Shape := ⟨2, ![1, 128]⟩
abbrev S256 : Shape := ⟨1, ![256]⟩
abbrev S256x1 : Shape := ⟨2, ![256, 1]⟩

abbrev nBuf : Space → Nat
  | .hbm => 5
  | .vmem => 12
  | .smem => 0
  | _ => 0

abbrev bufTy : (tb : Table) → Fin (tcTables nBuf tb) → BufTy
  | .hbm, ⟨0, _⟩ => ⟨S8192x16384, .f32⟩
  | .hbm, ⟨1, _⟩ => ⟨S4x4096, .f32⟩
  | .hbm, ⟨2, _⟩ => ⟨S8192x1024, .f32⟩
  | .hbm, ⟨3, _⟩ => ⟨S8192x1024, .f32⟩
  | .hbm, ⟨4, _⟩ => ⟨S8192x2048, .f32⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S4x4096, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x2048, .f32⟩
  | .local _ .vmem, ⟨10, _⟩ => ⟨S256x2048, .f32⟩
  | .local _ .vmem, ⟨11, _⟩ => ⟨S264x4096, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvRefIdeal.lean ====
abbrev S8192x16384 : Shape := ⟨2, ![8192, 16384]⟩
abbrev S4x4096 : Shape := ⟨2, ![4, 4096]⟩
abbrev S8192x4096 : Shape := ⟨2, ![8192, 4096]⟩
abbrev S_ : Shape := ⟨0, ![]⟩
abbrev S8195x4096 : Shape := ⟨2, ![8195, 4096]⟩
abbrev S1x4096 : Shape := ⟨2, ![1, 4096]⟩
abbrev S4096 : Shape := ⟨1, ![4096]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩
abbrev S8192x2048 : Shape := ⟨2, ![8192, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S4x4096, .f32⟩
  | .hbm, ⟨2, _⟩ => ⟨S8192x4096, .f32⟩
  | .hbm, ⟨3, _⟩ => ⟨S_, .i32⟩
  | .hbm, ⟨4, _⟩ => ⟨S_, .f32⟩
  | .hbm, ⟨5, _⟩ => ⟨S8195x4096, .f32⟩
  | .hbm, ⟨6, _⟩ => ⟨S8192x4096, .f32⟩
  | .hbm, ⟨7, _⟩ => ⟨S1x4096, .f32⟩
  | .hbm, ⟨8, _⟩ => ⟨S4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S1x4096, .f32⟩
  | .hbm, ⟨14, _⟩ => ⟨S4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S1x4096, .f32⟩
  | .hbm, ⟨28, _⟩ => ⟨S4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x1024, .f32⟩
  | .hbm, ⟨43, _⟩ => ⟨S8192x8x128, .f32⟩
  | .hbm, ⟨44, _⟩ => ⟨S8192x1024, .f32⟩
  | .hbm, ⟨45, _⟩ => ⟨S8192x8x128, .f32⟩
  | .hbm, ⟨46, _⟩ => ⟨S8192x8x128, .f32⟩
  | .hbm, ⟨47, _⟩ => ⟨S_, .f32⟩
  | .hbm, ⟨48, _⟩ => ⟨S8192x8, .f32⟩
  | .hbm, ⟨49, _⟩ => ⟨S8192x8x1, .f32⟩
  | .hbm, ⟨50, _⟩ => ⟨S_, .f32⟩
  | .hbm, ⟨51, _⟩ => ⟨S8192x8x1, .f32⟩
  | .hbm, ⟨52, _⟩ => ⟨S8192x8x1, .f32⟩
  | .hbm, ⟨53, _⟩ => ⟨S8192x8x1, .f32⟩
  | .hbm, ⟨54, _⟩ => ⟨S8192x8x128, .f32⟩
  | .hbm, ⟨55, _⟩ => ⟨S8192x8x128, .f32⟩
  | .hbm, ⟨56, _⟩ => ⟨S_, .f32⟩
  | .hbm, ⟨57, _⟩ => ⟨S8192x8x128, .f32⟩
  | .hbm, ⟨58, _⟩ => ⟨S8192x8x128, .f32⟩
  | .hbm, ⟨59, _⟩ => ⟨S8192x8x128, .f32⟩
  | .hbm, ⟨60, _⟩ => ⟨S_, .f32⟩
  | .hbm, ⟨61, _⟩ => ⟨S8192x8, .f32⟩
  | .hbm, ⟨62, _⟩ => ⟨S8192x8x1, .f32⟩
  | .hbm, ⟨63, _⟩ => ⟨S_, .f32⟩
  | .hbm, ⟨64, _⟩ => ⟨S8192x8x1, .f32⟩
  | .hbm, ⟨65, _⟩ => ⟨S8192x8x1, .f32⟩
  | .hbm, ⟨66, _⟩ => ⟨S8192x8x1, .f32⟩
  | .hbm, ⟨67, _⟩ => ⟨S8192x8x128, .f32⟩
  | .hbm, ⟨68, _⟩ => ⟨S8192x8x128, .f32⟩
  | .hbm, ⟨69, _⟩ => ⟨S8192x1024, .f32⟩
  | .hbm, ⟨70, _⟩ => ⟨S8192x1024, .f32⟩
  | .hbm, ⟨71, _⟩ => ⟨S8192x2048, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_1 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_4 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩

abbrev nD : Nat := 1
abbrev τ : Topo := Topo.v7x

variable {F : FTy → Type} [FloatOps F]
-- ==== PairOut.lean ====
abbrev S1 : Shape := ⟨1, ![1]⟩
abbrev S4x2x256x2048 : Shape := ⟨4, ![4, 2, 256, 2048]⟩
abbrev S4x256x2048 : Shape := ⟨3, ![4, 256, 2048]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 3
  | .vmem => 6
  | .smem => 1
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S4x256x2048, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOutIdeal.lean ====
abbrev S1 : Shape := ⟨1, ![1]⟩
abbrev S4x2x256x2048 : Shape := ⟨4, ![4, 2, 256, 2048]⟩
abbrev S4x256x2048 : Shape := ⟨3, ![4, 256, 2048]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 3
  | .vmem => 6
  | .smem => 1
  | _ => 0

abbrev bufTy : (tb : Table) → Fin (tcTables nBuf tb) → BufTy
  | .hbm, ⟨0, _⟩ => ⟨S4x2x256x2048, .bf16⟩
  | .hbm, ⟨1, _⟩ => ⟨S4x256x2048, .bf16⟩
  | .hbm, ⟨2, _⟩ => ⟨S4x256x2048, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOutRefIdeal.lean ====
abbrev S1 : Shape := ⟨1, ![1]⟩
abbrev S4x2x256x2048 : Shape := ⟨4, ![4, 2, 256, 2048]⟩
abbrev S4x256x2048 : Shape := ⟨3, ![4, 256, 2048]⟩
abbrev S_ : Shape := ⟨0, ![]⟩
abbrev S4x1x256x2048 : Shape := ⟨4, ![4, 1, 256, 2048]⟩

abbrev nBuf : Space → Nat
  | .hbm => 16
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x256x2048, .bf16⟩
  | .hbm, ⟨2, _⟩ => ⟨S4x256x2048, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x256x2048, .bf16⟩
  | .hbm, ⟨7, _⟩ => ⟨S4x256x2048, .bf16⟩
  | .hbm, ⟨8, _⟩ => ⟨S4x256x2048, .f32⟩
  | .hbm, ⟨9, _⟩ => ⟨S4x1x256x2048, .bf16⟩
  | .hbm, ⟨10, _⟩ => ⟨S4x256x2048, .bf16⟩
  | .hbm, ⟨11, _⟩ => ⟨S4x256x2048, .f32⟩
  | .hbm, ⟨12, _⟩ => ⟨S4x256x2048, .f32⟩
  | .hbm, ⟨13, _⟩ => ⟨S4x256x2048, .f32⟩
  | .hbm, ⟨14, _⟩ => ⟨S4x256x2048, .f32⟩
  | .hbm, ⟨15, _⟩ => ⟨S4x256x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== PairIn.lean ====
abbrev S1 : Shape := ⟨1, ![1]⟩
abbrev S4x2x1024x4100 : Shape := ⟨4, ![4, 2, 1024, 4100]⟩
abbrev S4x1024x4100 : Shape := ⟨3, ![4, 1024, 4100]⟩
abbrev S1x1x64x4100 : Shape := ⟨4, ![1, 1, 64, 4100]⟩
abbrev S1x64x4100 : Shape := ⟨3, ![1, 64, 4100]⟩
abbrev S64x4100 : Shape := ⟨2, ![64, 4100]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1024x4100, .bf16⟩
  | .hbm, ⟨1, _⟩ => ⟨S4x1024x4100, .bf16⟩
  | .hbm, ⟨2, _⟩ => ⟨S4x1024x4100, .bf16⟩
  | .local _ .vmem, ⟨0, _⟩ => ⟨S1x1x64x4100, .bf16⟩
  | .local _ .vmem, ⟨1, _⟩ => ⟨S1x1x64x4100, .bf16⟩
  | .local _ .vmem, ⟨2, _⟩ => ⟨S1x64x4100, .bf16⟩
  | .local _ .vmem, ⟨3, _⟩ => ⟨S1x64x4100, .bf16⟩
  | .local _ .vmem, ⟨4, _⟩ => ⟨S1x64x4100, .bf16⟩
  | .local _ .vmem, ⟨5, _⟩ => ⟨S1x64x4100, .bf16⟩
  | .local _ .smem, ⟨0, _⟩ => ⟨S1, .i32⟩
  | _, _ => ⟨S4x2x1024x4100, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x64x4100 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4100 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x4100 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairInIdeal.lean ====
abbrev S1 : Shape := ⟨1, ![1]⟩
abbrev S4x2x1024x4100 : Shape := ⟨4, ![4, 2, 1024, 4100]⟩
abbrev S4x1024x4100 : Shape := ⟨3, ![4, 1024, 4100]⟩
abbrev S1x1x64x4100 : Shape := ⟨4, ![1, 1, 64, 4100]⟩
abbrev S1x64x4100 : Shape := ⟨3, ![1, 64, 4100]⟩
abbrev S64x4100 : Shape := ⟨2, ![64, 4100]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1024x4100, .bf16⟩
  | .hbm, ⟨1, _⟩ => ⟨S4x1024x4100, .bf16⟩
  | .hbm, ⟨2, _⟩ => ⟨S4x1024x4100, .bf16⟩
  | .local _ .vmem, ⟨0, _⟩ => ⟨S1x1x64x4100, .bf16⟩
  | .local _ .vmem, ⟨1, _⟩ => ⟨S1x1x64x4100, .bf16⟩
  | .local _ .vmem, ⟨2, _⟩ => ⟨S1x64x4100, .bf16⟩
  | .local _ .vmem, ⟨3, _⟩ => ⟨S1x64x4100, .bf16⟩
  | .local _ .vmem, ⟨4, _⟩ => ⟨S1x64x4100, .bf16⟩
  | .local _ .vmem, ⟨5, _⟩ => ⟨S1x64x4100, .bf16⟩
  | .local _ .smem, ⟨0, _⟩ => ⟨S1, .i32⟩
  | _, _ => ⟨S4x2x1024x4100, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x64x4100 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4100 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x4100 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairInRefIdeal.lean ====
abbrev S1 : Shape := ⟨1, ![1]⟩
abbrev S4x2x1024x4100 : Shape := ⟨4, ![4, 2, 1024, 4100]⟩
abbrev S4x1024x4100 : Shape := ⟨3, ![4, 1024, 4100]⟩
abbrev S_ : Shape := ⟨0, ![]⟩
abbrev S4x1x1024x4100 : Shape := ⟨4, ![4, 1, 1024, 4100]⟩

abbrev nBuf : Space → Nat
  | .hbm => 16
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x1024x4100, .bf16⟩
  | .hbm, ⟨2, _⟩ => ⟨S4x1024x4100, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x1024x4100, .bf16⟩
  | .hbm, ⟨7, _⟩ => ⟨S4x1024x4100, .bf16⟩
  | .hbm, ⟨8, _⟩ => ⟨S4x1024x4100, .f32⟩
  | .hbm, ⟨9, _⟩ => ⟨S4x1x1024x4100, .bf16⟩
  | .hbm, ⟨10, _⟩ => ⟨S4x1024x4100, .bf16⟩
  | .hbm, ⟨11, _⟩ => ⟨S4x1024x4100, .f32⟩
  | .hbm, ⟨12, _⟩ => ⟨S4x1024x4100, .f32⟩
  | .hbm, ⟨13, _⟩ => ⟨S4x1024x4100, .f32⟩
  | .hbm, ⟨14, _⟩ => ⟨S4x1024x4100, .f32⟩
  | .hbm, ⟨15, _⟩ => ⟨S4x1024x4100, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== PairGate.lean ====
abbrev S1 : Shape := ⟨1, ![1]⟩
abbrev S4x2x1024x1408 : Shape := ⟨4, ![4, 2, 1024, 1408]⟩
abbrev S4x1024x1408 : Shape := ⟨3, ![4, 1024, 1408]⟩
abbrev S1x1x256x1408 : Shape := ⟨4, ![1, 1, 256, 1408]⟩
abbrev S1x256x1408 : Shape := ⟨3, ![1, 256, 1408]⟩
abbrev S256x1408 : Shape := ⟨2, ![256, 1408]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1024x1408, .bf16⟩
  | .hbm, ⟨1, _⟩ => ⟨S4x1024x1408, .bf16⟩
  | .hbm, ⟨2, _⟩ => ⟨S4x1024x1408, .bf16⟩
  | .local _ .vmem, ⟨0, _⟩ => ⟨S1x1x256x1408, .bf16⟩
  | .local _ .vmem, ⟨1, _⟩ => ⟨S1x1x256x1408, .bf16⟩
  | .local _ .vmem, ⟨2, _⟩ => ⟨S1x256x1408, .bf16⟩
  | .local _ .vmem, ⟨3, _⟩ => ⟨S1x256x1408, .bf16⟩
  | .local _ .vmem, ⟨4, _⟩ => ⟨S1x256x1408, .bf16⟩
  | .local _ .vmem, ⟨5, _⟩ => ⟨S1x256x1408, .bf16⟩
  | .local _ .smem, ⟨0, _⟩ => ⟨S1, .i32⟩
  | _, _ => ⟨S4x2x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairGateIdeal.lean ====
abbrev S1 : Shape := ⟨1, ![1]⟩
abbrev S4x2x1024x1408 : Shape := ⟨4, ![4, 2, 1024, 1408]⟩
abbrev S4x1024x1408 : Shape := ⟨3, ![4, 1024, 1408]⟩
abbrev S1x1x256x1408 : Shape := ⟨4, ![1, 1, 256, 1408]⟩
abbrev S1x256x1408 : Shape := ⟨3, ![1, 256, 1408]⟩
abbrev S256x1408 : Shape := ⟨2, ![256, 1408]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1024x1408, .bf16⟩
  | .hbm, ⟨1, _⟩ => ⟨S4x1024x1408, .bf16⟩
  | .hbm, ⟨2, _⟩ => ⟨S4x1024x1408, .bf16⟩
  | .local _ .vmem, ⟨0, _⟩ => ⟨S1x1x256x1408, .bf16⟩
  | .local _ .vmem, ⟨1, _⟩ => ⟨S1x1x256x1408, .bf16⟩
  | .local _ .vmem, ⟨2, _⟩ => ⟨S1x256x1408, .bf16⟩
  | .local _ .vmem, ⟨3, _⟩ => ⟨S1x256x1408, .bf16⟩
  | .local _ .vmem, ⟨4, _⟩ => ⟨S1x256x1408, .bf16⟩
  | .local _ .vmem, ⟨5, _⟩ => ⟨S1x256x1408, .bf16⟩
  | .local _ .smem, ⟨0, _⟩ => ⟨S1, .i32⟩
  | _, _ => ⟨S4x2x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairGateRefIdeal.lean ====
abbrev S1 : Shape := ⟨1, ![1]⟩
abbrev S4x2x1024x1408 : Shape := ⟨4, ![4, 2, 1024, 1408]⟩
abbrev S4x1024x1408 : Shape := ⟨3, ![4, 1024, 1408]⟩
abbrev S_ : Shape := ⟨0, ![]⟩
abbrev S4x1x1024x1408 : Shape := ⟨4, ![4, 1, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x1024x1408, .bf16⟩
  | .hbm, ⟨2, _⟩ => ⟨S4x1024x1408, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x1024x1408, .bf16⟩
  | .hbm, ⟨7, _⟩ => ⟨S4x1024x1408, .bf16⟩
  | .hbm, ⟨8, _⟩ => ⟨S4x1024x1408, .f32⟩
  | .hbm, ⟨9, _⟩ => ⟨S4x1x1024x1408, .bf16⟩
  | .hbm, ⟨10, _⟩ => ⟨S4x1024x1408, .bf16⟩
  | .hbm, ⟨11, _⟩ => ⟨S4x1024x1408, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S4x1024x1408, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== PairDown.lean ====
abbrev S1 : Shape := ⟨1, ![1]⟩
abbrev S4x2x704x2048 : Shape := ⟨4, ![4, 2, 704, 2048]⟩
abbrev S4x704x2048 : Shape := ⟨3, ![4, 704, 2048]⟩
abbrev S1x1x64x2048 : Shape := ⟨4, ![1, 1, 64, 2048]⟩
abbrev S1x64x2048 : Shape := ⟨3, ![1, 64, 2048]⟩
abbrev S64x2048 : Shape := ⟨2, ![64, 2048]⟩

abbrev nBuf : Space → Nat
  | .hbm => 3
  | .vmem => 6
  | .smem => 1
  | _ => 0

abbrev bufTy : (tb : Table) → Fin (tcTables nBuf tb) → BufTy
  | .hbm, ⟨0, _⟩ => ⟨S4x2x704x2048, .bf16⟩
  | .hbm, ⟨1, _⟩ => ⟨S4x704x2048, .bf16⟩
  | .hbm, ⟨2, _⟩ => ⟨S4x704x2048, .bf16⟩
  | .local _ .vmem, ⟨0, _⟩ => ⟨S1x1x64x2048, .bf16⟩
  | .local _ .vmem, ⟨1, _⟩ => ⟨S1x1x64x2048, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x64x2048, .bf16⟩
  | .local _ .vmem, ⟨5, _⟩ => ⟨S1x64x2048, .bf16⟩
  | .local _ .smem, ⟨0, _⟩ => ⟨S1, .i32⟩
  | _, _ => ⟨S4x2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairDownRefIdeal.lean ====
abbrev S1 : Shape := ⟨1, ![1]⟩
abbrev S4x2x704x2048 : Shape := ⟨4, ![4, 2, 704, 2048]⟩
abbrev S4x704x2048 : Shape := ⟨3, ![4, 704, 2048]⟩
abbrev S_ : Shape := ⟨0, ![]⟩
abbrev S4x1x704x2048 : Shape := ⟨4, ![4, 1, 704, 2048]⟩

abbrev nBuf : Space → Nat
  | .hbm => 16
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x704x2048, .bf16⟩
  | .hbm, ⟨2, _⟩ => ⟨S4x704x2048, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x704x2048, .bf16⟩
  | .hbm, ⟨7, _⟩ => ⟨S4x704x2048, .bf16⟩
  | .hbm, ⟨8, _⟩ => ⟨S4x704x2048, .f32⟩
  | .hbm, ⟨9, _⟩ => ⟨S4x1x704x2048, .bf16⟩
  | .hbm, ⟨10, _⟩ => ⟨S4x704x2048, .bf16⟩
  | .hbm, ⟨11, _⟩ => ⟨S4x704x2048, .f32⟩
  | .hbm, ⟨12, _⟩ => ⟨S4x704x2048, .f32⟩
  | .hbm, ⟨13, _⟩ => ⟨S4x704x2048, .f32⟩
  | .hbm, ⟨14, _⟩ => ⟨S4x704x2048, .f32⟩
  | .hbm, ⟨15, _⟩ => ⟨S4x704x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Launch.lean ====
/-
The launch of a program whose whole `@main` is ONE kernel region with no windows, and whose kernels write straight
into each other's result arrays.

The kernels of this certificate start sending at once: no barrier tells a sender that its target is ready. The sender
must therefore hold the target's landing place from the very beginning, so what the devices are dealt at launch has to
be exchanged BETWEEN the devices before any of them runs. `θ_run_exchange` is the launch with such a step (`hglob`): it
receives every device's own semaphores at zero, every device's unscoped arrays, its launch credit and its ghost
resources, all devices' at once, and yields what each device's body starts from.
-/
module

public import Idealize.ShloMosaic.Lib.Pipeline.Launch
public import Idealize.ShloMosaic.Lib.Pipeline.Kit
public import Idealize.ShloMosaic.Lib.Tactic

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U] {Λ₀ : Idealize.SL.Sem.Labels}

local notation "𝕄" => MT nD τ sig Unit Val ℕ U ℕ

/-- The one pipeline of a program that is a single region, and its contents, which nothing is prefetched into. -/
abbrev pcsOf (cfgs : Fin 1 → Cfg sig Λ₀) (p : Fin 1) : PCfg sig Λ₀ Val := (cfgs p).toPCfg
abbrev admOf (cfgs : Fin 1 → Cfg sig Λ₀) (_ : Dev nD) (p : Fin 1) : (pcsOf (Val := Val) cfgs p).Adm := (cfgs p).toPCfg_adm

variable (cfgs : Fin 1 → Cfg sig Λ₀)
  (dats : (p : Fin 1) → (c : Dev nD) → Dat τ Val Unit ℕ U ℕ (cfgs p) c)
  (hinj : Function.Injective (PerCore.cellOf (τ := τ) (pinD (pcsOf (Val := Val) cfgs) (admOf (nD := nD) cfgs))))

variable {K : Type} [Fintype K] {osem : K → SemLoc sig}

/-- The level facts of every cell, from each device's right to assign its own cells' levels. -/
theorem assign_levels (L : GSem nD τ sig → Finset Unit) (lv : GSem nD τ sig → Unit → ℕ)
    (hL : ∀ g : GSem nD τ sig, g.1.2 ≠ .tc → L g = ∅) :
    (bigSep Finset.univ fun c : Dev nD => levels0 (Ix := Unit) (Val := Val) (Name := ℕ) (U := U) (Lvl := ℕ) (τ := τ) (sig := sig) c)
      ⊢ (|==> levAts L lv : sProp 𝕄) := by
  refine ((bigSep_mono fun c _ => lev_assign_cells (c.tc : Thread nD τ) L lv).trans (BI.bigSep_bupd _ _)).trans (BI.bupd_mono ?_)
  have hemp (d : Dev nD) : (bigSep (Finset.univ.erase Proc.tc) fun q => (coreLevAts ((d, q) : Thread nD τ) L lv : sProp 𝕄)) = BI.emp := by
    refine (bigSep_congr (Ψ := fun _ : Proc τ => (BI.emp : sProp 𝕄)) fun q hq => ?_).trans (BI.bigSep_emp_const _)
    unfold coreLevAts
    refine (bigSep_congr (Ψ := fun _ : SemLoc sig => (BI.emp : sProp 𝕄)) fun sm _ => ?_).trans (BI.bigSep_emp_const _)
    rw [hL (((d, q) : Thread nD τ), sm) (Finset.ne_of_mem_erase hq), BI.bigSep_empty]
  have hall : (levAts L lv : sProp 𝕄) = iprop((bigSep Finset.univ fun d : Dev nD => coreLevAts (d.tc : Thread nD τ) L lv) ∗ BI.emp) := by
    rw [show (levAts L lv : sProp 𝕄) = bigSep Finset.univ fun c : Thread nD τ => coreLevAts c L lv
      from bigSep_univ_prod fun g : GSem nD τ sig => bigSep (L g) fun ι => levAt g ι (lv g ι),
      bigSep_threads (fun c : Thread nD τ => coreLevAts c L lv),
      bigSep_congr (s := Finset.univ) (fun (d : Dev nD) _ => hemp d), BI.bigSep_emp_const]
  rw [hall, bigSep_sep']
  refine (?_ : (iprop(_ ∗ _) : sProp 𝕄) ⊢ iprop(_ ∗ _))
  iintro ⟨-, H⟩
  isplitl [H]; · iexact H
  iempintro

include hinj in
/-- A region that has no windows, entered at launch by devices that owe each other landings (`O₀`), after one exchange
    of everything they were dealt (`hglob`). -/
theorem θ_run_exchange [∀ e, Nonempty (Val e)]
    (hW : IsEmpty (Fin (cfgs 0).W)) (hw : WinFacts (cfgs 0).spec) (ho : OwnSemFacts (cfgs 0).spec osem)
    (EP : Emb (URounds (GSem nD τ sig) Unit) (MT nD τ sig Unit Val ℕ U ℕ)) [EP.LandsIn (upEmb : UEmb _ 𝕄)]
    (defs₀ : Defs nD τ sig Val Λ₀) (𝒱₀ : Variants)
    (m : (ℓ : Loc nD τ sig) → Buf Val ℓ) (ρ : Dev nD → PrngReg)
    (main : Dev nD → Prog (TpuEff nD τ sig Val (Sig Λ₀ (Fin 1) fun p => (pcsOf (Val := Val) cfgs p).Adm) .tc) PUnit)
    (hmain : ∀ c, main c = .op (.customCall (entry 0) ()) fun _ => .ret ⟨⟩)
    (hbody : ∀ c, BodyObligationLoose (dats 0 c) defs₀ 𝒱₀ () Set.univ)
    (O₀ : Dev nD → CellTallies nD τ sig Unit) (howed₀ : ∀ c, (dats 0 c).owed 0 = O₀ c) (howedN : ∀ c, (dats 0 c).owed (Fin.last _) = 0)
    (L : GSem nD τ sig → Finset Unit) (lv : GSem nD τ sig → Unit → ℕ) (hL : ∀ g : GSem nD τ sig, g.1.2 ≠ .tc → L g = ∅)
    (G X Y : Dev nD → sProp 𝕄) (u₀ : U)
    (hu₀ : (ownU u₀ : sProp 𝕄) ⊢ |={Set.univ}=> iprop(BI.own (EP (initOf (PerCore.cells (pinD (pcsOf (Val := Val) cfgs) (admOf cfgs)) hinj) (PerCore.launchToks (pinD (pcsOf (Val := Val) cfgs) (admOf cfgs)) hinj))) ∗ bigSep Finset.univ G))
    (hglob : iprop(levAts L lv ∗ bigSep Finset.univ fun c : Dev nD => iprop(ownSems0 osem c ∗ unscopedBufs c (fun b => m ((c.tc : Thread nD τ).loc b))
        ∗ launchCred O₀ c ∗ G c)) ⊢ |={Set.univ}=> bigSep Finset.univ X)
    (hin : ∀ c, iprop(X c ∗ scopedRest (cfgs 0).spec c) ⊢ (dats 0 c).Φ 0)
    (hout : ∀ c, (dats 0 c).Φ (Fin.last (cfgs 0).N) ⊢ iprop(Y c ∗ ownSems0 osem c ∗ scopedRest (cfgs 0).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c, QY c s) →
      (∀ g' : GSem nD τ sig, (g'.1.2 ≠ .tc ∨ g'.2.isScoped .tc = true) → s.sem g' = 0) → Q (⟨⟩, s)) :
    θ_run (Pipeline.defs (pcsOf cfgs) defs₀) (onTc main) ⟨m, fun _ => 0, ρ⟩ Q := by
  classical
  have hss := fun c : Dev nD => PerCore.scopedSems0_split (pinD (pcsOf cfgs) (admOf (Val := Val) cfgs)) hinj 0 (fun _ => hw.to₀) (fun _ => ho)
    (Ix := Unit) (Val := Val) (Name := ℕ) (U := U) (Lvl := ℕ) c
  have hsb := fun c : Dev nD => PerCore.scopedBufs_split (pinD (pcsOf cfgs) (admOf (Val := Val) cfgs)) 0 c hw.to₀.stage_scoped hw.to₀.stage_inj
    (fun w => hW.elim w) (nD := nD) (τ := τ) (Ix := Unit) (Val := Val) (Name := ℕ) (U := U) (Lvl := ℕ)
  let rd := Dat.toRs dats
  let idle : Dev nD → sProp 𝕄 := fun c => PerCore.idleSems0 (pinD (pcsOf cfgs) (admOf (Val := Val) cfgs)) hinj 0 (fun _ => ho) c
  let stag : Dev nD → sProp 𝕄 := fun c => PerCore.cellsSems0 (pinD (pcsOf cfgs) (admOf (Val := Val) cfgs)) 0 c
  let pre : Dev nD → sProp 𝕄 := fun c => iprop((scopedBufs (c.tc : Thread nD τ) ∗ stag c ∗ idle c)
    ∗ owes (c.tc : Thread nD τ) (O₀ c) ∅
    ∗ PerCore.cellsGhost (pinD (pcsOf cfgs) (admOf (Val := Val) cfgs)) EP 0 c ∗ PerCore.toksInit (pinD (pcsOf cfgs) (admOf (Val := Val) cfgs)) EP 0 c ∗ X c)
  let fin : Dev nD → sProp 𝕄 := fun c => iprop(Y c ∗ scopedSems0 (c.tc : Thread nD τ))
  refine (θ_run _ _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu _ _ _ _
    (reflect_intro_fupd_tc_sems (X := Unit) (Variants.lift 𝒱₀) (owing O₀) 0 (noBookings fun _ => le_rfl) (owing_of_ne O₀) u₀ (fun _ => pre) (fun _ => fin)
      (fun _ => iprop(emp)) Set.univ ?_ (fun _ c => ?_) fun _ => ?_))
  · -- what the devices are dealt, exchanged
    have hcore (c : Dev nD) :
        coreInit (Ix := Unit) (Name := ℕ) (U := U) (Lvl := ℕ) (owing O₀) 0 (⟨m, fun _ => 0, ρ⟩ : MemSt nD τ sig Val) (c.tc : Thread nD τ)
          ⊢ iprop((scopedBufs (c.tc : Thread nD τ) ∗ stag c ∗ idle c) ∗ owes (c.tc : Thread nD τ) (O₀ c) ∅ ∗ levels0 c
              ∗ ownSems0 osem c ∗ unscopedBufs c (fun b => m ((c.tc : Thread nD τ).loc b)) ∗ launchCred O₀ c) := by
      refine (coreInit_boundary_owing O₀ m ρ c).trans ?_
      unfold boundary
      rw [hss c]
      iintro ⟨⟨Hsc, ⟨⟨Hcells, Hos⟩, Hidle⟩, -⟩, Hub, -, HL, Hlv, -, Hcr⟩
      isplitl [Hsc Hcells Hidle]
      · isplitl [Hsc]; · iexact Hsc
        isplitl [Hcells]; · iexact Hcells
        iexact Hidle
      isplitl [HL]; · iexact HL
      isplitl [Hlv]; · iexact Hlv
      isplitl [Hos]; · iexact Hos
      isplitl [Hub] <;> iassumption
    have hdeal : iprop((bigSep Finset.univ fun c : Dev nD => iprop(ownSems0 osem c ∗ unscopedBufs c (fun b => m ((c.tc : Thread nD τ).loc b)) ∗ launchCred O₀ c))
          ∗ bigSep Finset.univ G)
        ⊢ (bigSep Finset.univ fun c : Dev nD => iprop(ownSems0 osem c ∗ unscopedBufs c (fun b => m ((c.tc : Thread nD τ).loc b)) ∗ launchCred O₀ c ∗ G c) : sProp 𝕄) := by
      rw [← bigSep_sep']
      have h1 (c : Dev nD) : (iprop((ownSems0 osem c ∗ unscopedBufs c (fun b => m ((c.tc : Thread nD τ).loc b)) ∗ launchCred O₀ c) ∗ G c) : sProp 𝕄)
          ⊢ iprop(ownSems0 osem c ∗ unscopedBufs c (fun b => m ((c.tc : Thread nD τ).loc b)) ∗ launchCred O₀ c ∗ G c) := by
        iintro ⟨⟨H1, H2, H3⟩, H4⟩
        isplitl [H1]; · iexact H1
        isplitl [H2]; · iexact H2
        isplitl [H3] <;> iassumption
      exact bigSep_mono fun c _ => h1 c
    have hpick (Φ : Fin 1 → Dev nD → sProp 𝕄) :
        (bigSep Finset.univ fun c : Dev nD => bigSep Finset.univ fun p' => Φ p' c) ⊢ bigSep Finset.univ fun c : Dev nD => Φ 0 c :=
      bigSep_mono fun c _ => BI.bigSep_elim (Finset.mem_univ 0)
    have hcores : (bigSep Finset.univ fun d : Dev nD =>
          coreInit (Ix := Unit) (Name := ℕ) (U := U) (Lvl := ℕ) (owing O₀) 0 (⟨m, fun _ => 0, ρ⟩ : MemSt nD τ sig Val) (d.tc : Thread nD τ))
        ⊢ (iprop(((bigSep Finset.univ fun c : Dev nD => scopedBufs (c.tc : Thread nD τ)) ∗ (bigSep Finset.univ stag) ∗ bigSep Finset.univ idle)
            ∗ (bigSep Finset.univ fun c : Dev nD => owes (c.tc : Thread nD τ) (O₀ c) ∅) ∗ (bigSep Finset.univ fun c : Dev nD => levels0 c)
            ∗ (bigSep Finset.univ fun c : Dev nD => ownSems0 osem c)
            ∗ (bigSep Finset.univ fun c : Dev nD => unscopedBufs c (fun b => m ((c.tc : Thread nD τ).loc b))) ∗ bigSep Finset.univ fun c : Dev nD => launchCred O₀ c) : sProp 𝕄) := by
      refine (bigSep_mono fun c _ => hcore c).trans ?_
      simp only [bigSep_sep']
      exact BI.Entails.refl _
    iintro ⟨Hcores, Hu⟩
    ihave Hc := hcores $$ Hcores
    icases Hc with ⟨⟨Hsc, Hst, Hid⟩, HL, Hlv, Hos, Hub, Hcr⟩
    imod (assign_levels L lv hL) $$ Hlv with Hla
    imod hu₀ $$ Hu with ⟨HP, HG⟩
    imod (PerCore.fund_ghost (pinD (pcsOf cfgs) (admOf (Val := Val) cfgs)) EP hinj) $$ HP with ⟨Hg, Ht⟩
    imod hglob $$ [Hla Hos Hub Hcr HG] with HX
    · isplitl [Hla]; · iexact Hla
      iapply hdeal
      simp only [bigSep_sep']
      isplitl [Hos Hub Hcr]
      · isplitl [Hos]; · iexact Hos
        isplitl [Hub] <;> iassumption
      iexact HG
    imodintro
    iexists ()
    isplitr []
    · simp only [pre, bigSep_sep']
      isplitl [Hsc Hst Hid]
      · isplitl [Hsc]; · iexact Hsc
        isplitl [Hst] <;> iassumption
      isplitl [HL]; · iexact HL
      isplitl [Hg]; · iapply (hpick fun p' c => PerCore.cellsGhost (pinD (pcsOf cfgs) (admOf (Val := Val) cfgs)) EP p' c); iexact Hg
      isplitl [Ht]; · iapply (hpick fun p' c => PerCore.toksInit (pinD (pcsOf cfgs) (admOf (Val := Val) cfgs)) EP p' c); iexact Ht
      iexact HX
    · iempintro
  · -- a device's run of @main
    have hout' : iprop((rd 0 c).Φ (Fin.last (cfgs 0).N) ∗ stag c ∗ Dat.staging (cfgs 0) c ∗ idle c)
        ⊢ iprop(Y c ∗ scopedSems0 (c.tc : Thread nD τ) ∗ scopedBufs (c.tc : Thread nD τ)) := by
      rw [hss c, hsb c]
      iintro ⟨HΦ, Hcells, Hst, Hidle⟩
      have hout0 : (rd 0 c).Φ (Fin.last (cfgs 0).N) ⊢ iprop(Y c ∗ ownSems0 osem c ∗ scopedRest (cfgs 0).spec c) := hout c
      ihave H := hout0 $$ HΦ
      icases H with ⟨HY, Hos, Hrest⟩
      isplitl [HY]; · iexact HY
      isplitl [Hcells Hos Hidle]
      · isplitl [Hcells Hos]; · isplitl [Hcells] <;> iassumption
        iexact Hidle
      isplitl [Hst] <;> iassumption
    have hin' : iprop(X c ∗ prefHeld (pcsOf (Val := Val) cfgs 0).pre c (fun _ => fullShare.right) (admOf cfgs c 0).1 ∗ scopedRest (cfgs 0).spec c)
        ⊢ (rd 0 c).Φ 0 := by
      iintro ⟨HX, -, Hr⟩
      have hin0 : iprop(X c ∗ scopedRest (cfgs 0).spec c) ⊢ (rd 0 c).Φ 0 := hin c
      iapply hin0
      isplitl [HX] <;> iassumption
    have hpost : PerCore.RDat.EntryPost (pinD (pcsOf cfgs) (admOf (Val := Val) cfgs)) rd () 0 c
        ⊢ iprop(∃ W, owes (c.tc : Thread nD τ) (0 : CellTallies nD τ sig Unit) W) := by
      unfold PerCore.RDat.EntryPost RDat.owesAt owesWithin
      rw [show (rd 0 c).owed (Fin.last _) = 0 from howedN c]
      iintro ⟨-, ⟨%W, -, HW⟩⟩
      iexists W; iexact HW
    simp only [pre]
    rw [hmain c]
    iintro ⟨⟨Hsc, Hcells, Hidle⟩, HL, Hg, Ht, HX⟩
    iapply (fupd_wp frame (wpE (Pipeline.defs (pcsOf cfgs) defs₀) (Variants.lift 𝒱₀) (c.tc : Thread nD τ) none) Set.univ _ _)
    imod (PerCore.RDat.cellsInit_alloc (pinD (pcsOf cfgs) (admOf (Val := Val) cfgs)) rd EP hinj 0 c) $$ [Hcells Hg] with ⟨%κ, -, Hinit⟩
    · isplitl [Hcells] <;> iassumption
    imodintro
    iapply (PerCore.RDat.wp_customCall_entry_frame (pcsOf cfgs) (admOf (Val := Val) cfgs) rd () EP κ hinj 0 defs₀ 𝒱₀ (fun _ => fullShare.right) c Set.univ
        (fun _ _ => Set.mem_univ _)
        (hbody c).toR (fun w => hW.elim w) none (fun u h => nomatch h) (X := X c) (Y := Y c) (R := scopedRest (cfgs 0).spec c)
        (I := idle c)
        (Entails.of_eq (hsb c)) hin' hout'
        (k := fun _ => .ret ⟨⟩) (Q := fun _ => post (liftTc fin BI.emp) (c.tc : Thread nD τ))) $$ [HL Hinit Ht HX Hidle Hsc]
    · isplitl [HL Hinit Ht]
      · unfold PerCore.RDat.EntryPre RDat.owesAt owesWithin
        rw [show (rd 0 c).owed 0 = O₀ c from howed₀ c]
        isplitr
        · unfold RDat.arrays
          rw [bigSep_congr (Ψ := fun _ => (BI.emp : sProp 𝕄)) (fun w _ => hW.elim w), BI.bigSep_emp_const]
          iempintro
        isplitl [HL]
        · iexists ∅; isplitr; · ipureintro; rw [Finset.coe_empty]; exact Set.empty_subset _
          iexact HL
        isplitr
        · have hno : (BI.emp : sProp 𝕄) ⊢ PerCore.RDat.cellsWaits (pinD (pcsOf cfgs) (admOf (Val := Val) cfgs)) rd () 0 c := by
            unfold PerCore.RDat.cellsWaits
            rw [bigSep_congr (Ψ := fun _ => (BI.emp : sProp 𝕄)) (fun w _ => hW.elim w), BI.bigSep_emp_const]
          iapply hno
          iempintro
        isplitl [Hinit] <;> iassumption
      isplitr
      · unfold prefHeld
        rw [bigSep_congr (Ψ := fun _ => (BI.emp : sProp 𝕄)) (fun k _ => Fin.elim0 k), BI.bigSep_emp_const]
        iempintro
      isplitl [HX]; · iexact HX
      isplitl [Hidle]; · iexact Hidle
      iexact Hsc
    iintro ⟨Hpost, HY, Hss2, -⟩
    rw [wp_ret]; imodintro
    unfold post; simp only [liftTc_tc, fin]
    ihave HW := hpost $$ Hpost
    isplitr [HW]
    · isplitl [HY] <;> iassumption
    · iexact HW
  · -- the ends, read against a final state
    have hcore (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.Talk

end
-- ==== Proof.Talk.lean ====
/-
The protocol all the exchanging kernels of this certificate follow, stated and proved once for any PLAN of copies.

A plan lists the copies every device issues: `R` names the copies into other devices' arrays, `L` the copies between a
device's own arrays. Each remote copy `k` has a cell its sender waits on (`snd k`), a cell its target waits on (`rcv k`)
and a target `peer k c`, a permutation of the devices; each local copy `l` has one cell (`loc l`). Every cell is credited
once and waited on once.

Contents are stated against ONE final memory `res`: a landed piece is the piece of `res` the copy writes, held at some
share (`piece`). Such a fact can be copied (the share is split), so a sender may read a source it also keeps, and a piece
that has landed may be sent on.

`St c S T B` is what device `c` holds while the remote copies `S`, the local copies `T` and the waits `B` are still to be
done; the step theorems take one operation each.
-/
module

public import proofs.«01_k».proof.Proof.Launch

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg)

/-! ## Plans -/

/-- The copies every device issues. -/
structure Plan (nD : Nat) (sig : RefSig) where
  R : Type
  L : Type
  [fR : Fintype R]
  [dR : DecidableEq R]
  [fL : Fintype L]
  [dL : DecidableEq L]
  /-- The semaphore of each copy's cells: of the sender's, of the target's, of a local copy's. -/
  sem : R ⊕ R ⊕ L → DmaSem sig
  sem_inj : Function.Injective sem
  peer : R → Dev nD ≃ Dev nD
  sp : Space
  rshape : R → Shape
  relt : R → EltTy
  src : (k : R) → Dev nD → Memref sig .tc sp (rshape k) (relt k)
  dst : (k : R) → Dev nD → Memref sig .tc sp (rshape k) (relt k)
  lshape : L → Shape
  lelt : L → EltTy
  lsrc : (l : L) → Dev nD → Memref sig .tc sp (lshape l) (lelt l)
  ldst : (l : L) → Dev nD → Memref sig .tc sp (lshape l) (lelt l)
  ramt : R → ℕ
  lamt : L → ℕ
  ramt_eq : ∀ k c, (dst k c).view.dmaCredit = ramt k
  lamt_eq : ∀ l c, (ldst l c).view.dmaCredit = lamt l
  ramt_pos : ∀ k, 0 < ramt k
  lamt_pos : ∀ l, 0 < lamt l
  /-- A wait may be made while copies of a higher level are still owed. -/
  lvl : R → ℕ

attribute [instance] Plan.fR Plan.dR Plan.fL Plan.dL

namespace Plan

variable {nD : Nat} {sig : RefSig} (P : Plan nD sig)

abbrev J : Type := P.R ⊕ P.R ⊕ P.L
abbrev snd (k : P.R) : P.J := .inl k
abbrev rcv (k : P.R) : P.J := .inr (.inl k)
abbrev loc (l : P.L) : P.J := .inr (.inr l)

/-- What the cell's wait takes. -/
def amt : P.J → ℕ
  | .inl k => P.ramt k
  | .inr (.inl k) => P.ramt k
  | .inr (.inr l) => P.lamt l
theorem amt_pos (j : P.J) : 0 < P.amt j := by rcases j with k | k | l <;> first | exact P.ramt_pos _ | exact P.lamt_pos _

/-- The level of the cell. -/
def lev : P.J → ℕ
  | .inl _ => 0
  | .inr (.inl k) => P.lvl k
  | .inr (.inr _) => 0

/-- Cell `j`'s copy is issued by now, if by this device. -/
def fired (S : List P.R) (T : List P.L) : P.J → Prop
  | .inl k => k ∉ S
  | .inr (.inl _) => True
  | .inr (.inr l) => l ∉ T

variable {τ : Topo}

variable (τ) in
abbrev cell (c : Dev nD) (j : P.J) : GSem nD τ sig := ((c.tc : Thread nD τ), .dma (P.sem j))

theorem cell_inj {c d : Dev nD} {i j : P.J} (h : P.cell τ c i = P.cell τ d j) : c = d ∧ i = j :=
  ⟨congrArg (fun g : GSem nD τ sig => g.1.1) h, P.sem_inj (SemLoc.dma.inj (congrArg Prod.snd h))⟩

/-- The cell's copy, of a cell that is one of the plan's. -/
def IsCell (g : GSem nD τ sig) : Prop := ∃ j, g = P.cell τ g.1.1 j
theorem isCell (c : Dev nD) (j : P.J) : P.IsCell (P.cell τ c j) := ⟨j, rfl⟩
theorem choose_cell {c : Dev nD} {j : P.J} (h : P.IsCell (P.cell τ c j)) : h.choose = j := (P.cell_inj h.choose_spec).2.symm

open Classical in
def lv (g : GSem nD τ sig) (_ : Unit) : ℕ := if h : P.IsCell g then P.lev h.choose else 0
theorem lv_cell (c : Dev nD) (j : P.J) (u : Unit) : P.lv (P.cell τ c j) u = P.lev j := by
  unfold lv; rw [dif_pos (P.isCell c j), choose_cell]

/-- What device `c` owes while the remote copies `S` are still to be issued. -/
def owed (c : Dev nD) : List P.R → CellTallies nD τ sig Unit
  | [] => 0
  | k :: S => owed c S + tallyAt (P.cell τ (P.peer k c) (P.rcv k)) () (P.ramt k)

theorem owed_apply (c : Dev nD) (S : List P.R) (g : GSem nD τ sig) (u : Unit) (h : 0 < P.owed (τ := τ) c S g u) :
    ∃ k ∈ S, g = P.cell τ (P.peer k c) (P.rcv k) := by
  induction S with
  | nil => exact absurd h (Nat.lt_irrefl 0)
  | cons k S ih =>
    unfold owed at h
    rw [Pi.add_apply, Finsupp.add_apply, tallyAt_apply] at h
    by_cases hg : g = P.cell τ (P.peer k c) (P.rcv k)
    · exact ⟨k, List.mem_cons_self, hg⟩
    · rw [if_neg (fun hh => hg hh.1), Nat.add_zero] at h
      obtain ⟨k', hk', e⟩ := ih h
      exact ⟨k', List.mem_cons_of_mem _ hk', e⟩

end Plan

/-- The levels: every device cell has one. -/
def Ls {nD : Nat} {τ : Topo} {sig : RefSig} (g : GSem nD τ sig) : Finset Unit := if g.1.2 = .tc then {()} else ∅
theorem Ls_of_ne {nD : Nat} {τ : Topo} {sig : RefSig} (g : GSem nD τ sig) (h : g.1.2 ≠ .tc) : Ls g = ∅ := if_neg h
theorem Ls_tc {nD : Nat} {τ : Topo} {sig : RefSig} (c : Dev nD) (sm : SemLoc sig) : Ls ((c.tc : Thread nD τ), sm) = {()} := if_pos rfl

/-! ## Pieces -/

variable {nD : Nat} {τ : Topo} {sig : RefSig} {Val : EltTy → Type}

abbrev UR (sig : RefSig) (nD : Nat) (τ : Topo) : Type := URounds (GSem nD τ sig) Unit
abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

variable (res : (ℓ : Loc nD τ sig) → Buf Val ℓ)

/-- The elements `s` of the buffer at `ℓ`, at the final contents and some share. -/
def piece (ℓ : Loc nD τ sig) (s : Finset (Idx ℓ)) : sProp 𝕄 := iprop(∃ q : PosShare TreeShare, ℓ ↦[s]{q} res ℓ)

instance piece_storable (ℓ : Loc nD τ sig) (s : Finset (Idx ℓ)) : BI.Storable (upEmb : UEmb _ 𝕄) (piece res ℓ s) := by
  unfold piece; infer_instance

theorem piece_dup (ℓ : Loc nD τ sig) (s : Finset (Idx ℓ)) : piece res ℓ s ⊢ (iprop(piece res ℓ s ∗ piece res ℓ s) : sProp 𝕄) := by
  unfold piece
  iintro ⟨%q, H⟩
  ihave H' := (pointsTo_share (PosShare.mem_left_op_right q)).1 $$ H
  icases H' with ⟨H1, H2⟩
  isplitl [H1]; · iexists q.left; iexact H1
  iexists q.right; iexact H2

theorem piece_sub {ℓ : Loc nD τ sig} {s t : Finset (Idx ℓ)} (h : t ⊆ s) : piece res ℓ s ⊢ (piece res ℓ t : sProp 𝕄) := by
  unfold piece
  iintro ⟨%q, H⟩
  ihave H' := (pointsTo_split_subset h).1 $$ H
  icases H' with ⟨H1, -⟩
  iexists q; iexact H1

/-- A source may be read off a piece that covers it, the piece kept. -/
theorem piece_take {ℓ : Loc nD τ sig} {s t : Finset (Idx ℓ)} (h : t ⊆ s) :
    piece res ℓ s ⊢ (iprop(piece res ℓ t ∗ piece res ℓ s) : sProp 𝕄) :=
  (piece_dup res ℓ s).trans (BI.sep_mono_l (piece_sub res h))

/-- What a copy wrote is a piece of the final memory, when the source's final contents read as the destination's do. -/
theorem landed {sp sp' : Space} {s : Shape} {e : EltTy} (c c' : Dev nD) (v : View sig .tc sp s e) (w : View sig .tc sp' s e)
    (fd : Buf Val (w.loc (c'.tc : Thread nD τ)))
    (h : v.read Val (res (v.loc (c.tc : Thread nD τ))) = w.read Val (res (w.loc (c'.tc : Thread nD τ)))) :
    (w.loc (c'.tc : Thread nD τ) ↦[w.set]{fullShare} (w.write Val fd (v.read Val (res (v.loc (c.tc : Thread nD τ)))) Finset.univ))
      ⊢ (piece res (w.loc (c'.tc : Thread nD τ)) w.set : sProp 𝕄) := by
  unfold piece
  rw [pointsTo_congr (g := res (w.loc (c'.tc : Thread nD τ))) fun i hi => by
    unfold View.set at hi
    obtain ⟨x, -, rfl⟩ := Finset.mem_map.mp hi
    rw [View.write_emb_of_mem _ _ (Finset.mem_univ x), h, View.read_apply]
    simp]
  iintro H
  iexists fullShare; iexact H

/-! ## The protocol -/

section Protocol

variable (P : Plan nD sig) (m : (ℓ : Loc nD τ sig) → Buf Val ℓ)

/-- What a cell's wait hands its owner. -/
def pay (c : Dev nD) : P.J → sProp 𝕄
  | .inl _ => BI.emp
  | .inr (.inl k) => piece res ((P.dst k ((P.peer k).symm c)).view.loc (c.tc : Thread nD τ)) (P.dst k ((P.peer k).symm c)).view.set
  | .inr (.inr l) => piece res ((P.ldst l c).view.loc (c.tc : Thread nD τ)) (P.ldst l c).view.set

instance pay_storable (c : Dev nD) (j : P.J) : BI.Storable (upEmb : UEmb _ 𝕄) (pay res P c j) := by
  rcases j with k | k | l
  · exact BI.Storable.emp _
  · exact piece_storable res _ _
  · exact piece_storable res _ _

theorem pay_rcv (k : P.R) (c : Dev nD) :
    pay res P (P.peer k c) (P.rcv k) = (piece res ((P.dst k c).view.loc ((P.peer k c).tc : Thread nD τ)) (P.dst k c).view.set : sProp 𝕄) := by
  unfold pay
  dsimp only
  rw [Equiv.symm_apply_apply]

theorem pay_snd (k : P.R) (c : Dev nD) : pay res P c (P.snd k) = (BI.emp : sProp 𝕄) := rfl
theorem drop (A : sProp 𝕄) : A ⊢ BI.emp := by
  iintro H
  iempintro
theorem pay_loc (l : P.L) (c : Dev nD) :
    pay res P c (P.loc l) = (piece res ((P.ldst l c).view.loc (c.tc : Thread nD τ)) (P.ldst l c).view.set : sProp 𝕄) := rfl

open Classical in
/-- One round per cell, paid by the cell's one copy. -/
def rd : Rounds.Schedule (GSem nD τ sig) Unit 𝕄 where
  duties g r := if r = 0 ∧ P.IsCell g then {()} else ∅
  unitless _ := False
  amount g _ _ := if h : P.IsCell g then P.amt h.choose else 1
  payload g _ _ := if h : P.IsCell g then pay res P g.1.1 h.choose else BI.emp
  amount_pos g _ _ _ := by
    by_cases h : P.IsCell g
    · rw [dif_pos h]; exact P.amt_pos _
    · rw [dif_neg h]; exact Nat.one_pos

instance rd_storable (g : GSem nD τ sig) (r : ℕ) (d : Unit) : BI.Storable (upEmb : UEmb _ 𝕄) ((rd res P).payload g r d) := by
  unfold rd; dsimp only
  split
  · infer_instance
  · exact BI.Storable.emp _

theorem duties_cell (c : Dev nD) (j : P.J) : (rd res P).duties (P.cell τ c j) 0 = {()} := if_pos ⟨rfl, P.isCell c j⟩
theorem mem_duties (c : Dev nD) (j : P.J) : () ∈ (rd res P).duties (P.cell τ c j) 0 := by
  rw [duties_cell]; exact Finset.mem_singleton_self _
theorem duties_later (g : GSem nD τ sig) : ∀ r, 0 + 1 ≤ r → (rd res P).duties g r = ∅ :=
  fun r hr => if_neg fun h => by omega
theorem amount_cell (c : Dev nD) (j : P.J) (r : ℕ) (d : Unit) : (rd res P).amount (P.cell τ c j) r d = P.amt j := by
  unfold rd; dsimp only; rw [dif_pos (P.isCell c j), P.choose_cell]
theorem payload_cell (c : Dev nD) (j : P.J) (r : ℕ) (d : Unit) : (rd res P).payload (P.cell τ c j) r d = pay res P c j := by
  unfold rd; dsimp only; rw [dif_pos (P.isCell c j), P.choose_cell]
theorem expect_cell (c : Dev nD) (j : P.J) : (rd res P).expect (P.cell τ c j) 0 = P.amt j := by
  unfold Schedule.expect Schedule.amountOf; rw [duties_cell, Finset.sum_singleton, amount_cell]
theorem rest_cell (c : Dev nD) (j : P.J) :
    bigSep ((rd res P).duties (P.cell τ c j) 0 \ ∅) (fun u => (rd res P).payload (P.cell τ c j) 0 u) = pay res P c j := by
  rw [Finset.sdiff_empty, duties_cell, bigSep_singleton, payload_cell]

/-- What every device may use of every cell. -/
def cellFacts (d : Dev nD) (j : P.J) : sProp 𝕄 :=
  iprop((∃ κ : ℕ, cellInv ER (rd res P) κ (P.cell τ d j)) ∗ reached ER (P.cell τ d j) 0)
instance cellFacts_persistent (d : Dev nD) (j : P.J) : BI.Persistent (cellFacts res P d j) := by unfold cellFacts; infer_instance

def known : sProp 𝕄 := iprop(levAts Ls (P.lv (τ := τ)) ∗ bigSep Finset.univ fun d : Dev nD => bigSep Finset.univ fun j : P.J => cellFacts res P d j)
instance known_persistent : BI.Persistent (known res P) := by unfold known; infer_instance

theorem known_cell (d : Dev nD) (j : P.J) : known res P ⊢ cellFacts res P d j := by
  unfold known
  exact sep_elim_right.trans ((bigSep_elim (Φ := fun d : Dev nD => bigSep Finset.univ fun j : P.J => cellFacts res P d j) (Finset.mem_univ d)).trans
    (bigSep_elim (Φ := fun j : P.J => cellFacts res P d j) (Finset.mem_univ j)))

/-- The place a remote copy of `c` lands in, at the launch contents. -/
def give (k : P.R) (c : Dev nD) : sProp 𝕄 :=
  (P.dst k c).view.loc ((P.peer k c).tc : Thread nD τ) ↦[(P.dst k c).view.set]{fullShare} m ((P.dst k c).view.loc ((P.peer k c).tc : Thread nD τ))
/-- The place a local copy of `c` lands in, at the launch contents. -/
def lgive (l : P.L) (c : Dev nD) : sProp 𝕄 :=
  (P.ldst l c).view.loc (c.tc : Thread nD τ) ↦[(P.ldst l c).view.set]{fullShare} m ((P.ldst l c).view.loc (c.tc : Thread nD τ))

def toSend (c : Dev nD) (k : P.R) : sProp 𝕄 :=
  iprop(give P m k c ∗ dutyTok ER (P.cell τ c (P.snd k)) 0 () ∗ dutyTok ER (P.cell τ (P.peer k c) (P.rcv k)) 0 ())
def toCopy (c : Dev nD) (l : P.L) : sProp 𝕄 := iprop(lgive P m l c ∗ dutyTok ER (P.cell τ c (P.loc l)) 0 ())

open Classical in
def sends (c : Dev nD) (S : List P.R) : sProp 𝕄 := bigSep Finset.univ fun k : P.R => if k ∈ S then toSend P m c k else BI.emp
open Classical in
def copies (c : Dev nD) (T : List P.L) : sProp 𝕄 := bigSep Finset.univ fun l : P.L => if l ∈ T then toCopy P m c l else BI.emp
open Classical in
def credOf (c : Dev nD) (S : List P.R) (T : List P.L) (B : List P.J) (j : P.J) : sProp 𝕄 :=
  if j ∈ B ∧ P.fired S T j then cred (tallyAt (P.cell τ c j) () (P.amt j)) else BI.emp
def creds (c : Dev nD) (S : List P.R) (T : List P.L) (B : List P.J) : sProp 𝕄 := bigSep Finset.univ (credOf P c S T B)
open Classical in
def holdOf (c : Dev nD) (B : List P.J) (j : P.J) : sProp 𝕄 :=
  if j ∈ B then atPos ER (P.cell τ c j) 0 ∅ 0 else iprop(semVal (P.cell τ c j) 0 ∗ pay res P c j)
/-- The cells: those still to be waited on at round 0, the others closed, their pieces held. -/
def holds (c : Dev nD) (B : List P.J) : sProp 𝕄 := bigSep Finset.univ (holdOf res P c B)

variable (ins : Finset (Ref sig .tc))

/-- The arrays the kernel only reads. -/
def args (c : Dev nD) : sProp 𝕄 := bigSep ins fun b => piece res ((c.tc : Thread nD τ).loc b) Finset.univ

def St (c : Dev nD) (S : List P.R) (T : List P.L) (B : List P.J) : sProp 𝕄 :=
  iprop(⌜S.Nodup ∧ T.Nodup ∧ B.Nodup⌝ ∗ known res P ∗ (∃ W, owes (c.tc : Thread nD τ) (P.owed c S) W)
    ∗ sends P m c S ∗ copies P m c T ∗ creds P c S T B ∗ holds res P c B ∗ args res ins c)

/-! ### Steps -/

/-- One summand taken out of a sum over a whole type, the others left as they will be. -/
theorem bigSep_step {I : Type} [Fintype I] [DecidableEq I] (Φ Ψ : I → sProp 𝕄) (i : I) (h : ∀ j, j ≠ i → Φ j ⊢ Ψ j) :
    bigSep Finset.univ Φ ⊢ iprop(Φ i ∗ (Ψ i -∗ bigSep Finset.univ Ψ)) := by
  rw [bigSep_univ_at Φ i, bigSep_univ_at Ψ i]
  have h' : bigSep (Finset.univ.erase i) Φ ⊢ bigSep (Finset.univ.erase i) Ψ := bigSep_mono fun j hj => h j (Finset.ne_of_mem_erase hj)
  iintro ⟨Hi, Hr⟩
  isplitl [Hi]; · iexact Hi
  iintro Hn
  isplitl [Hn]; · iexact Hn
  iapply h'; iexact Hr

theorem ite_iff {p q : Prop} {_ : Decidable p} {_ : Decidable q} (h : p ↔ q) (A A' : sProp 𝕄) : (if p then A else A') ⊢ (if q then A else A') := by
  by_cases hp : p
  · rw [if_pos hp, if_pos (h.mp hp)]
  · rw [if_neg hp, if_neg fun hq => hp (h.mpr hq)]

theorem sends_cons (c : Dev nD) {k : P.R} {S : List P.R} (hk : k ∉ S) : sends P m c (k :: S) ⊢ iprop(toSend P m c k ∗ sends P m c S) := by
  unfold sends
  refine (bigSep_step _ (fun k' => if k' ∈ S then toSend P m c k' else BI.emp) k fun j hj => ?_).trans ?_
  · exact ite_iff (by rw [List.mem_cons, or_iff_right hj]) _ _
  · rw [if_pos List.mem_cons_self, if_neg hk]
    iintro ⟨H, Hr⟩
    isplitl [H]; · iexact H
    iapply Hr; iempintro

theorem copies_cons (c : Dev nD) {l : P.L} {T : List P.L} (hl : l ∉ T) : copies P m c (l :: T) ⊢ iprop(toCopy P m c l ∗ copies P m c T) := by
  unfold copies
  refine (bigSep_step _ (fun l' => if l' ∈ T then toCopy P m c l' else BI.emp) l fun j hj => ?_).trans ?_
  · exact ite_iff (by rw [List.mem_cons, or_iff_right hj]) _ _
  · rw [if_pos List.mem_cons_self, if_neg hl]
    iintro ⟨H, Hr⟩
    isplitl [H]; · iexact H
    iapply Hr; iempintro

theorem creds_send (c : Dev nD) {k : P.R} {S : List P.R} {T : List P.L} {B : List P.J} :
    iprop(cred (tallyAt (P.cell τ c (P.snd k)) () (P.ramt k)) ∗ creds P c (k :: S) T B) ⊢ (creds P c S T B : sProp 𝕄) := by
  have h := bigSep_step (credOf (Val := Val) (τ := τ) P c (k :: S) T B) (credOf P c S T B) (P.snd k) (fun j hj => by
      unfold credOf
      refine ite_iff ?_ _ _
      rcases j with k' | k' | l'
      · have hne : k' ≠ k := fun e => hj (e ▸ rfl)
        simp only [Plan.fired, List.mem_cons, not_or, hne, not_false_eq_true, true_and]
      · exact Iff.rfl
      · exact Iff.rfl)
  unfold creds
  iintro ⟨H, Hc⟩
  ihave H' := h $$ Hc
  icases H' with ⟨-, Hr⟩
  iapply Hr
  unfold credOf
  by_cases hh : P.snd k ∈ B ∧ P.fired S T (P.snd k)
  · rw [if_pos hh]; iexact H
  · rw [if_neg hh]; iempintro

theorem creds_copy (c : Dev nD) {l : P.L} {S : List P.R} {T : List P.L} {B : List P.J} :
    iprop(cred (tallyAt (P.cell τ c (P.loc l)) () (P.lamt l)) ∗ creds P c S (l :: T) B) ⊢ (creds P c S T B : sProp 𝕄) := by
  have h := bigSep_step (credOf (Val := Val) (τ := τ) P c S (l :: T) B) (credOf P c S T B) (P.loc l) (fun j hj => by
      unfold credOf
      refine ite_iff ?_ _ _
      rcases j with k' | k' | l'
      · exact Iff.rfl
      · exact Iff.rfl
      · have hne : l' ≠ l := fun e => hj (e ▸ rfl)
        simp only [Plan.fired, List.mem_cons, not_or, hne, not_false_eq_true, true_and])
  unfold creds
  iintro ⟨H, Hc⟩
  ihave H' := h $$ Hc
  icases H' with ⟨-, Hr⟩
  iapply Hr
  unfold credOf
  by_cases hh : P.loc l ∈ B ∧ P.fired S T (P.loc l)
  · rw [if_pos hh]; iexact H
  · rw [if_neg hh]; iempintro

theorem creds_wait (c : Dev nD) {j : P.J} {S : List P.R} {T : List P.L} {B : List P.J} (hj : j ∉ B) (hf : P.fired S T j) :
    creds P c S T (j :: B) ⊢ (iprop(cred (tallyAt (P.cell τ c j) () (P.amt j)) ∗ creds P c S T B) : sProp 𝕄) := by
  unfold creds
  refine (bigSep_step (credOf (Val := Val) (τ := τ) P c S T (j :: B)) (credOf P c S T B) j fun i hi => ?_).trans ?_
  · unfold credOf; exact ite_iff (by rw [List.mem_cons, or_iff_right hi]) _ _
  · unfold credOf
    rw [if_pos ⟨List.mem_cons_self, hf⟩, if_neg fun h => hj h.1]
    iintro ⟨H, Hr⟩
    isplitl [H]; · iexact H
    iapply Hr; iempintro

theorem holds_wait (c : Dev nD) {j : P.J} {B : List P.J} (hj : j ∉ B) :
    holds res P c (j :: B) ⊢ iprop(atPos ER (P.cell τ c j) 0 ∅ 0 ∗ (iprop(semVal (P.cell τ c j) 0 ∗ pay res P c j) -∗ holds res P c B)) := by
  unfold holds
  refine (bigSep_step (holdOf res P c (j :: B)) (holdOf res P c B) j fun i hi => ?_).trans ?_
  · unfold holdOf; exact ite_iff (by rw [List.mem_cons, or_iff_right hi]) _ _
  · unfold holdOf
    rw [if_pos List.mem_cons_self, if_neg hj]

variable {Λ₀ : Idealize.SL.Sem.Labels} (defs₀ : Defs nD τ sig Val Λ₀) (𝒱₀ : Variants)
variable {P res m ins}

/-- A remote copy whose source can be read off what the device holds. -/
theorem step_send (c : Dev nD) (k : P.R) {S : List P.R} {T : List P.L} {B : List P.J} {n : Dev nD} (hn : n = P.peer k c)
    {hsc : (P.dst k c).view.ref.isScScratch = false} {hsrc : (P.src k c).view.WordExact} {hdst : (P.dst k c).view.WordExact}
    {hsem : DmaTarget.Typed P.sp (.dma (P.sem (P.rcv k))) (.remote (n.tc : Thread nD τ) (P.dst k c) (.dma (P.sem (P.snd k))) hsc)}
    {α : Type} {Q : α → sProp 𝕄} {kont : PUnit → Prog (TpuEff nD τ sig Val Λ₀ .tc) α}
    (hroutes : τ.routes (c.tc : Thread nD τ) ((P.peer k c).tc : Thread nD τ) = true)
    (hland : (P.src k c).view.read Val (res ((P.src k c).view.loc (c.tc : Thread nD τ)))
      = (P.dst k c).view.read Val (res ((P.dst k c).view.loc ((P.peer k c).tc : Thread nD τ))))
    (hfrom : iprop(holds res P c B ∗ args res ins c)
      ⊢ iprop(piece res ((P.src k c).view.loc (c.tc : Thread nD τ)) (P.src k c).view.set ∗ holds res P c B ∗ args res ins c))
    (h : St res P m ins c S T B ⊢ wp frame (wpE defs₀ 𝒱₀ (c.tc : Thread nD τ) none) Set.univ (kont ⟨⟩) Q) :
    St res P m ins c (k :: S) T B ⊢ wp frame (wpE defs₀ 𝒱₀ (c.tc : Thread nD τ) none) Set.univ
      (.op (.enqueueDma (P.src k c) (.remote (n.tc : Thread nD τ) (P.dst k c) (.dma (P.sem (P.snd k))) hsc) (.dma (P.sem (P.rcv k))) hsrc hdst hsem) kont) Q := by
  subst hn
  have hK1 := known_cell res P c (P.snd k)
  have hK2 := known_cell res P (P.peer k c) (P.rcv k)
  unfold cellFacts at hK1 hK2
  refine (show St res P m ins c (k :: S) T B ⊢ _ from ?_)
  unfold St
  iintro ⟨%hnd, #HK, ⟨%W, HO⟩, HS, HT, HC, HH, HA⟩
  obtain ⟨hS, hT, hB⟩ := hnd
  ihave HS' := (sends_cons P m c (List.nodup_cons.mp hS).1) $$ HS
  icases HS' with ⟨Hk, HS⟩
  unfold toSend
  icases Hk with ⟨Hd, Ht1, Ht2⟩
  ihave Hsrc := hfrom $$ [HH HA]
  · isplitl [HH] <;> iassumption
  icases Hsrc with ⟨Hp, HH, HA⟩
  unfold piece
  icases Hp with ⟨%q, Hp⟩
  ihave HK1 := hK1 $$ HK
  icases HK1 with ⟨⟨%κ₁, #HI1⟩, #HR1⟩
  ihave HK2 := hK2 $$ HK
  icases HK2 with ⟨⟨%κ₂, #HI2⟩, #HR2⟩
  unfold give
  iapply (Rounds.wp_send_pointsTo 𝒱₀ ER (rd res P) (c.tc : Thread nD τ) none (κ₁ := κ₁) (κ₂ := κ₂) (r₁ := 0) (r₂ := 0) (d₁ := ()) (d₂ := ())
      (fd := m ((P.dst k c).view.loc ((P.peer k c).tc : Thread nD τ)))
      (mem_duties res P c (P.snd k)) (mem_duties res P (P.peer k c) (P.rcv k)) () () (P.ramt k) (P.ramt_eq k c)
      (amount_cell res P c (P.snd k) 0 ()) (amount_cell res P (P.peer k c) (P.rcv k) 0 ()) (P.owed c S) rfl (W := W)
      (by rw [payload_cell, pay_snd]; exact drop _)
      (by rw [payload_cell, pay_rcv]; exact landed res c (P.peer k c) (P.src k c).view (P.dst k c).view _ hland) hroutes)
    $$ [Hp Hd HO Ht1 Ht2]
  · isplitr; · iexact HI1
    isplitr; · iexact HI2
    isplitl [Hp]; · iexact Hp
    isplitl [Hd]; · iexact Hd
    isplitl [HO]; · iexact HO
    isplitl [Ht1]; · iexact Ht1
    isplitr; · iexact HR1
    isplitl [Ht2]; · iexact Ht2
    iexact HR2
  iintro ⟨Hc, HO⟩
  iapply h
  unfold St
  isplitr; · ipureintro; exact ⟨(List.nodup_cons.mp hS).2, hT, hB⟩
  isplitr; · iexact HK
  isplitl [HO]; · iexists W; iexact HO
  isplitl [HS]; · iexact HS
  isplitl [HT]; · iexact HT
  isplitl [Hc HC]
  · iapply (creds_send P c)
    isplitl [Hc] <;> iassumption
  isplitl [HH] <;> iassumption

/-- A copy between the device's own arrays. -/
theorem step_copy (c : Dev nD) (l : P.L) {S : List P.R} {T : List P.L} {B : List P.J}
    {hsrc : (P.lsrc l c).view.WordExact} {hdst : (P.ldst l c).view.WordExact}
    {hsem : DmaTarget.Typed (nD := nD) (τ := τ) (p := .tc) P.sp (.dma (P.sem (P.loc l))) (.here (P.ldst l c))}
    {α : Type} {Q : α → sProp 𝕄} {kont : PUnit → Prog (TpuEff nD τ sig Val Λ₀ .tc) α}
    (hland : (P.lsrc l c).view.read Val (res ((P.lsrc l c).view.loc (c.tc : Thread nD τ)))
      = (P.ldst l c).view.read Val (res ((P.ldst l c).view.loc (c.tc : Thread nD τ))))
    (hfrom : iprop(holds res P c B ∗ args res ins c)
      ⊢ iprop(piece res ((P.lsrc l c).view.loc (c.tc : Thread nD τ)) (P.lsrc l c).view.set ∗ holds res P c B ∗ args res ins c))
    (h : St res P m ins c S T B ⊢ wp frame (wpE defs₀ 𝒱₀ (c.tc : Thread nD τ) none) Set.univ (kont ⟨⟩) Q) :
    St res P m ins c S (l :: T) B ⊢ wp frame (wpE defs₀ 𝒱₀ (c.tc : Thread nD τ) none) Set.univ
      (.op (.enqueueDma (P.lsrc l c) (.here (P.ldst l c)) (.dma (P.sem (P.loc l))) hsrc hdst hsem) kont) Q := by
  have hK1 := known_cell res P c (P.loc l)
  unfold cellFacts at hK1
  refine (show St res P m ins c S (l :: T) B ⊢ _ from ?_)
  unfold St
  iintro ⟨%hnd, #HK, HO, HS, HT, HC, HH, HA⟩
  obtain ⟨hS, hT, hB⟩ := hnd
  ihave HT' := (copies_cons P m c (List.nodup_cons.mp hT).1) $$ HT
  icases HT' with ⟨Hk, HT⟩
  unfold toCopy
  icases Hk with ⟨Hd, Ht1⟩
  ihave Hsrc := hfrom $$ [HH HA]
  · isplitl [HH] <;> iassumption
  icases Hsrc with ⟨Hp, HH, HA⟩
  unfold piece
  icases Hp with ⟨%q, Hp⟩
  ihave HK1 := hK1 $$ HK
  icases HK1 with ⟨⟨%κ₁, #HI1⟩, #HR1⟩
  unfold lgive
  iapply (Rounds.wp_copy_pointsTo 𝒱₀ ER (rd res P) (c.tc : Thread nD τ) none (κ := κ₁) (r := 0) (d := ())
      (fd := m ((P.ldst l c).view.loc (c.tc : Thread nD τ))) (mem_duties res P c (P.loc l)) () (P.lamt l) (P.lamt_eq l c) (amount_cell res P c (P.loc l) 0 ())
      (by rw [payload_cell, pay_loc]; exact sep_elim_left.trans (landed res c c (P.lsrc l c).view (P.ldst l c).view _ hland)))
    $$ [Hp Hd Ht1]
  · isplitr; · iexact HI1
    isplitl [Hp]; · iexact Hp
    isplitl [Hd]; · iexact Hd
    isplitl [Ht1]; · iexact Ht1
    iexact HR1
  iintro Hc
  iapply h
  unfold St
  isplitr; · ipureintro; exact ⟨hS, (List.nodup_cons.mp hT).2, hB⟩
  isplitr; · iexact HK
  isplitl [HO]; · iexact HO
  isplitl [HS]; · iexact HS
  isplitl [HT]; · iexact HT
  isplitl [Hc HC]
  · iapply (creds_copy P c)
    isplitl [Hc] <;> iassumption
  isplitl [HH] <;> iassumption

/-- A wait may be made while every copy still owed is of a higher level. -/
theorem mayWait (c : Dev nD) (j : P.J) (S : List P.R) (hS : ∀ k ∈ S, P.lev j < P.lvl k) :
    (levAts Ls (P.lv (τ := τ)) : sProp 𝕄) ⊢ MayWait (c.tc : Thread nD τ) (.dma (P.sem j)) () (P.owed c S) := by
  refine MayOwe.of_cut (L := Ls) (lev := P.lv) (P.lev j) (fun p hp => by rw [Finset.mem_singleton.mp hp, Ls_tc]; exact Finset.mem_singleton_self _)
    (fun g u hg => ?_) (fun p hp => ?_) (fun g u hg => ?_)
  · obtain ⟨k, -, rfl⟩ := P.owed_apply c S g u hg
    rw [Ls_tc]; exact Finset.mem_singleton_self _
  · rw [Finset.mem_singleton.mp hp]; exact (P.lv_cell (τ := τ) c j ()).le
  · obtain ⟨k, hk, rfl⟩ := P.owed_apply c S g u hg
    rw [P.lv_cell]; exact hS k hk

/-- A wait on one of the device's own cells, which closes the cell and hands over what landed. -/
theorem step_wait (c : Dev nD) (j : P.J) {S : List P.R} {T : List P.L} {B : List P.J} {sm : DmaSem sig} {sp' sp'' : Space} {s' s'' : Shape} {e' e'' : EltTy}
    {src : Memref sig .tc sp' s' e'} {κ : Kind} {dst : Memref sig κ sp'' s'' e''} {hsrc : src.view.WordExact} {hdst : dst.view.WordExact}
    {α : Type} {Q : α → sProp 𝕄} {kont : PUnit → Prog (TpuEff nD τ sig Val Λ₀ .tc) α}
    (hsm : sm = P.sem j) (hamt : dst.view.dmaCredit = P.amt j) (hS : ∀ k ∈ S, P.lev j < P.lvl k) (hf : P.fired S T j)
    (h : St res P m ins c S T B ⊢ wp frame (wpE defs₀ 𝒱₀ (c.tc : Thread nD τ) none) Set.univ (kont ⟨⟩) Q) :
    St res P m ins c S T (j :: B) ⊢ wp frame (wpE defs₀ 𝒱₀ (c.tc : Thread nD τ) none) Set.univ
      (.op (.waitDma2 sm src dst hsrc hdst) kont) Q := by
  subst hsm
  have hK1 := known_cell res P c j
  unfold cellFacts at hK1
  have hlev : known res P ⊢ levAts Ls (P.lv (τ := τ)) := by
    unfold known; iintro ⟨H, -⟩; iexact H
  refine (show St res P m ins c S T (j :: B) ⊢ _ from ?_)
  unfold St
  iintro ⟨%hnd, #HK, ⟨%W, HO⟩, HS, HT, HC, HH, HA⟩
  obtain ⟨hSn, hT, hB⟩ := hnd
  ihave HC' := (creds_wait P c (List.nodup_cons.mp hB).1 hf) $$ HC
  icases HC' with ⟨Hc, HC⟩
  ihave HH' := (holds_wait res P c (List.nodup_cons.mp hB).1) $$ HH
  icases HH' with ⟨Hat, HH⟩
  ihave HK1 := hK1 $$ HK
  icases HK1 with ⟨⟨%κ₁, #HI1⟩, #HR1⟩
  ihave #HL := hlev $$ HK
  iapply (Rounds.wp_wait_rest_token 𝒱₀ ER (rd res P) (c.tc : Thread nD τ) none (κ := κ₁)
      (wpE_waitDma2_eq 𝒱₀ (c.tc : Thread nD τ) none Set.univ) (Set.mem_univ _) () (O := P.owed c S) (W := W) (R := 0) (m := 0) (T := ∅)
      (by rw [Nat.zero_add, expect_cell]; exact hamt)) $$ [Hc HO Hat]
  · isplitr; · iexact HI1
    isplitl [Hc]; · rw [hamt]; iexact Hc
    isplitl [HO]; · iexact HO
    isplitr; · iapply (mayWait c j S hS); iexact HL
    iexact Hat
  iintro ⟨HO, Hat, -, Hpay⟩
  ihave Hp := (Entails.of_eq (rest_cell res P c j)) $$ Hpay
  imod (Rounds.cell_close ER (rd res P) (Set.mem_univ κ₁) (fun h => h) (R := 0 + 1) (duties_later res P (P.cell τ c j))) $$ [Hat] with Hz
  · isplitr; · iexact HI1
    iexact Hat
  iapply h
  unfold St
  isplitr; · ipureintro; exact ⟨hSn, hT, (List.nodup_cons.mp hB).2⟩
  isplitr; · iexact HK
  isplitl [HO]; · iexists _; iexact HO
  isplitl [HS]; · iexact HS
  isplitl [HT]; · iexact HT
  isplitl [HC]; · iexact HC
  isplitl [HH Hz Hp]
  · iapply HH
    isplitl [Hz] <;> iassumption
  iexact HA

end Protocol

end Cert.Talk

end
-- ==== Proof.Deal.lean ====
/-
What the devices are dealt at launch, and the run of a whole exchanging program from it.

Every device owns its arrays, its semaphores at zero and the tokens of its own cells. Before the bodies start these are
exchanged: a sender needs the landing place on its target and the token of the target's cell. `θ_run_talk` is the
result: if every device's body runs from `St` with every copy and wait still to be done to `St` with none, the whole
program ends with every piece of the plan at its final contents and the read arrays unchanged.
-/
module

public import proofs.«01_k».proof.Proof.Talk

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

local notation "𝕄" => MT nD τ sig Unit Val ℕ (UU nD τ sig) ℕ

/-- Two sums exchanged. -/
theorem exchange {I J : Type} (s : Finset I) (t : Finset J) (Φ : I → J → sProp 𝕄) :
    (bigSep s fun i => bigSep t fun j => Φ i j) = bigSep t fun j => bigSep s fun i => Φ i j := by
  classical
  induction s using Finset.induction_on with
  | empty =>
    rw [BI.bigSep_empty, bigSep_congr (Ψ := fun _ => BI.emp) (fun j _ => BI.bigSep_empty), BI.bigSep_emp_const]
  | insert i s hi ih =>
    rw [bigSep_insert hi, ih, bigSep_congr (fun j _ => bigSep_insert hi), bigSep_sep]

/-! ## The arrays cut into the pieces of a family -/

/-- Elements of some buffer. -/
abbrev Part (sig : RefSig) : Type := (b : Ref sig .tc) × Finset b.ty.Idx

/-- The elements of buffer `b` that a part names. -/
def Part.on (p : Part sig) (b : Ref sig .tc) : Finset b.ty.Idx := open Classical in if h : p.1 = b then h ▸ p.2 else ∅
theorem Part.on_self (p : Part sig) : p.on p.1 = p.2 := by unfold Part.on; rw [dif_pos rfl]
theorem Part.mem_on {p : Part sig} {b : Ref sig .tc} {x : b.ty.Idx} (h : x ∈ p.on b) : ∃ e : p.1 = b, x ∈ (e ▸ p.2 : Finset b.ty.Idx) := by
  unfold Part.on at h
  by_cases e : p.1 = b
  · rw [dif_pos e] at h; exact ⟨e, h⟩
  · rw [dif_neg e] at h; exact absurd h (Finset.notMem_empty _)

/-- No element lies in two parts. -/
def Apart {I : Type} (f : I → Part sig) : Prop := ∀ i j (e : (f i).1 = (f j).1) x, x ∈ (f i).2 → (e ▸ x : (f j).1.ty.Idx) ∈ (f j).2 → i = j

theorem Apart.disjoint {I : Type} {f : I → Part sig} (h : Apart f) (b : Ref sig .tc) {i j : I} (hij : i ≠ j) : Disjoint ((f i).on b) ((f j).on b) := by
  rw [Finset.disjoint_left]
  intro x hi hj
  obtain ⟨ei, hi⟩ := Part.mem_on hi
  obtain ⟨ej, hj⟩ := Part.mem_on hj
  have hh := h i j (ei.trans ej.symm)
  generalize f i = p at *
  generalize f j = q at *
  obtain ⟨p, s⟩ := p; obtain ⟨q, t⟩ := q
  dsimp only at ei ej hi hj hh
  subst ei; subst ej
  exact hij (hh x hi hj)

/-- The unscoped arrays of a device, as the whole arrays of `A` and the parts of a family apart from them. -/
theorem cut {I : Type} [Fintype I] [DecidableEq I] (c : Dev nD) (A : Finset (Ref sig .tc)) (f : I → Part sig)
    (V : (b : Ref sig .tc) → Buf Val ((c.tc : Thread nD τ).loc b))
    (hA : ∀ b ∈ A, ¬ b.isScoped) (hf : ∀ i, ¬ (f i).1.isScoped ∧ (f i).1 ∉ A) (ha : Apart f) :
    unscopedBufs c V ⊢ (iprop((bigSep A fun b => ((c.tc : Thread nD τ).loc b) ↦{fullShare} V b)
      ∗ bigSep Finset.univ fun i => ((c.tc : Thread nD τ).loc (f i).1) ↦[(f i).2]{fullShare} V (f i).1) : sProp 𝕄) := by
  classical
  unfold unscopedBufs
  rw [bigSep_sdiff_split (s := Finset.univ.filter fun b : Ref sig .tc => ¬ b.isScoped) (t := A) (fun b hb => Finset.mem_filter.mpr ⟨Finset.mem_univ _, hA b hb⟩)]
  refine BI.sep_mono (Entails.refl _) ?_
  have h1 (b : Ref sig .tc) : (((c.tc : Thread nD τ).loc b ↦{fullShare} V b) : sProp 𝕄)
      ⊢ bigSep Finset.univ fun i => ((c.tc : Thread nD τ).loc b) ↦[(f i).on b]{fullShare} V b := by
    have e : (((c.tc : Thread nD τ).loc b ↦[(Finset.univ : Finset I).biUnion fun i => (f i).on b]{fullShare} V b) : sProp 𝕄)
        = bigSep Finset.univ fun i => ((c.tc : Thread nD τ).loc b) ↦[(f i).on b]{fullShare} V b :=
      pointsTo_biUnion (ℓ := (c.tc : Thread nD τ).loc b) Finset.univ (fun i => (f i).on b) (fun i _ j _ hij => ha.disjoint b hij)
    rw [← e]
    have hs := pointsTo_split_subset (Ix := Unit) (Name := ℕ) (U := UU nD τ sig) (Lvl := ℕ) (ℓ := (c.tc : Thread nD τ).loc b) (q := fullShare) (f := V b)
      (Finset.subset_univ ((Finset.univ : Finset I).biUnion fun i => (f i).on b))
    iintro H
    ihave H' := hs.1 $$ H
    icases H' with ⟨H1, -⟩
    iexact H1
  refine (bigSep_mono fun b _ => h1 b).trans ?_
  rw [exchange]
  refine bigSep_mono fun i _ => ?_
  refine (bigSep_elim (i := (f i).1) (Finset.mem_sdiff.mpr ⟨Finset.mem_filter.mpr ⟨Finset.mem_univ _, (hf i).1⟩, (hf i).2⟩)).trans ?_
  rw [Part.on_self]
  exact Entails.refl _

/-! ## The exchange before the bodies start -/

section

variable (P : Plan nD sig) (m res : (ℓ : Loc nD τ sig) → Buf Val ℓ) (ins : Finset (Ref sig .tc))

/-- The pieces that land on device `c`. -/
def Plan.land (c : Dev nD) : P.R ⊕ P.L → Part sig
  | .inl k => ⟨(P.dst k ((P.peer k).symm c)).view.ref, (P.dst k ((P.peer k).symm c)).view.set⟩
  | .inr l => ⟨(P.ldst l c).view.ref, (P.ldst l c).view.set⟩

/-- A plan with the lists of what is to be done: every copy and wait once. -/
structure Plan.Full (S : List P.R) (T : List P.L) (B : List P.J) : Prop where
  nS : S.Nodup
  nT : T.Nodup
  nB : B.Nodup
  aS : ∀ k, k ∈ S
  aT : ∀ l, l ∈ T
  aB : ∀ j, j ∈ B

abbrev osem (j : P.J) : SemLoc sig := .dma (P.sem j)

/-- A device's ghost resources at launch. -/
def G (c : Dev nD) : sProp 𝕄 :=
  iprop((bigSep Finset.univ fun j : P.J => roundState ER (rd res P) (P.cell τ c j) 0)
    ∗ (bigSep Finset.univ fun j : P.J => iprop(atPos ER (P.cell τ c j) 0 ∅ 0 ∗ reached ER (P.cell τ c j) 0))
    ∗ bigSep Finset.univ fun j : P.J => dutyTok ER (P.cell τ c j) 0 ())

theorem kcell_injective : Function.Injective (fun cj : Dev nD × P.J => P.cell τ cj.1 cj.2) := by
  rintro ⟨c, j⟩ ⟨c', j'⟩ h
  obtain ⟨h1, h2⟩ := P.cell_inj h
  exact Prod.ext h1 h2
def myCells : Finset (GSem nD τ sig) := Finset.univ.map ⟨fun cj : Dev nD × P.J => P.cell τ cj.1 cj.2, kcell_injective P⟩
def myToks : Finset (GSem nD τ sig × ℕ × Unit) :=
  Finset.univ.map ⟨fun cj : Dev nD × P.J => (P.cell τ cj.1 cj.2, 0, ()), fun _ _ h => kcell_injective P (congrArg Prod.fst h)⟩

theorem fund_talk : BI.own (ER (initOf (myCells (τ := τ) P) (myToks P))) ⊢ (|==> bigSep Finset.univ (G P res) : sProp 𝕄) := by
  have hX (Φ : GSem nD τ sig → sProp 𝕄) : bigSep (myCells P) Φ = bigSep Finset.univ fun c : Dev nD => bigSep Finset.univ fun j : P.J => Φ (P.cell τ c j) := by
    unfold myCells; rw [bigSep_map, bigSep_univ_prod]; rfl
  have hT : bigSep (myToks P) (fun x => (dutyTok ER x.1 x.2.1 x.2.2 : sProp 𝕄))
      = bigSep Finset.univ fun c : Dev nD => bigSep Finset.univ fun j : P.J => dutyTok ER (P.cell τ c j) 0 () := by
    unfold myToks; rw [bigSep_map, bigSep_univ_prod]; rfl
  iintro HX
  imod (Rounds.fund ER (rd res P) (myCells P) (myToks P)) $$ HX with ⟨Hst, Hr, Hat, Htok⟩
  imodintro
  ihave Hst' := (Entails.of_eq (hX fun g => roundState ER (rd res P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(ownSems0 (osem P) c ∗ G P res c)
      ⊢ (|={Set.univ}=> iprop((bigSep Finset.univ fun j : P.J => cellFacts res P c j)
          ∗ (bigSep Finset.univ fun j : P.J => atPos ER (P.cell τ c j) 0 ∅ 0) ∗ bigSep Finset.univ fun j : P.J => dutyTok ER (P.cell τ c j) 0 ()) : sProp 𝕄) := by
  unfold G cellFacts ownSems0
  simp only [bigSep_sep']
  iintro ⟨Hv, Hst, ⟨Hat, Hr⟩, Htok⟩
  imod (show iprop((bigSep Finset.univ fun j : P.J => semVal (P.cell τ c j) 0) ∗ bigSep Finset.univ fun j : P.J => roundState ER (rd res P) (P.cell τ c j) 0)
      ⊢ (|={Set.univ}=> bigSep Finset.univ fun j : P.J => iprop(∃ κ : ℕ, cellInv ER (rd res P) κ (P.cell τ c j)) : sProp 𝕄) from by
        rw [← bigSep_sep']
        exact (bigSep_mono fun j _ => (Rounds.body_intro ER (rd res P) (P.cell τ c j)).trans inv_alloc).trans (bigSep_fupd _ _)) $$ [Hv Hst] with Hinv
  · isplitl [Hv] <;> iassumption
  imodintro
  isplitl [Hinv Hr]
  · isplitl [Hinv] <;> iassumption
  isplitl [Hat]; · iexact Hat
  iexact Htok

/-! ### The launch credit -/

theorem owed_at (d c : Dev nD) (k : P.R) (S : List P.R) (hS : S.Nodup) :
    P.owed (τ := τ) d S (P.cell τ c (P.rcv k)) () = if k ∈ S ∧ d = (P.peer k).symm c then P.ramt k else 0 := by
  induction S with
  | nil => rw [if_neg (fun h => by cases h.1)]; rfl
  | cons k' S ih =>
    have hn := List.nodup_cons.mp hS
    unfold Plan.owed
    rw [Pi.add_apply, Finsupp.add_apply, tallyAt_apply, ih hn.2]
    by_cases hk : k = k'
    · subst hk
      rw [if_neg (fun h => hn.1 h.1), Nat.zero_add]
      by_cases hd : d = (P.peer k).symm c
      · rw [if_pos ⟨by rw [hd, Equiv.apply_symm_apply], rfl⟩, if_pos ⟨List.mem_cons_self, hd⟩]
      · rw [if_neg (fun h => hd (by rw [(P.cell_inj h.1).1, Equiv.symm_apply_apply])), if_neg (fun h => hd h.2)]
    · rw [if_neg (c := P.cell τ c (P.rcv k) = _ ∧ _) (fun h => hk (Sum.inl.inj (Sum.inr.inj (P.cell_inj h.1).2))), Nat.add_zero]
      by_cases hh : k ∈ S ∧ d = (P.peer k).symm c
      · rw [if_pos hh, if_pos ⟨List.mem_cons_of_mem _ hh.1, hh.2⟩]
      · rw [if_neg hh, if_neg (fun h => hh ⟨(List.mem_cons.mp h.1).resolve_left hk, h.2⟩)]

theorem launch_rcv (S : List P.R) (hS : S.Nodup) (aS : ∀ k, k ∈ S) (c : Dev nD) (k : P.R) :
    tallyOn (P.cell τ c (P.rcv k)) (launchCredit (Pipeline.owing fun d => P.owed d S) 0 (P.cell τ c (P.rcv k)))
      = (tallyAt (P.cell τ c (P.rcv k)) () (P.ramt k) : CellTallies nD τ sig Unit) := by
  unfold tallyAt; refine congrArg _ (Finsupp.ext fun u => ?_); cases u
  rw [Pipeline.launchCredit_owing, Finsupp.single_eq_same, Finset.sum_congr rfl fun d _ => owed_at P d c k S hS]
  simp only [aS k, true_and]
  rw [Finset.sum_ite_eq' Finset.univ ((P.peer k).symm c) fun _ => P.ramt k, if_pos (Finset.mem_univ _)]

theorem rcv_creds (S : List P.R) (hS : S.Nodup) (aS : ∀ k, k ∈ S) (c : Dev nD) :
    (Pipeline.launchCred (fun d => P.owed d S) c : sProp 𝕄) ⊢ bigSep Finset.univ fun k : P.R => cred (tallyAt (P.cell τ c (P.rcv k)) () (P.ramt k)) := by
  classical
  unfold Pipeline.launchCred
  have hi : Function.Injective fun k : P.R => osem P (P.rcv k) := fun a b h =>
    Sum.inl.inj (Sum.inr.inj (P.sem_inj (SemLoc.dma.inj h)))
  refine (bigSep_subset (Finset.subset_univ (Finset.univ.map ⟨_, hi⟩))).trans ?_
  rw [bigSep_map]
  exact bigSep_mono fun k _ => Entails.of_eq (congrArg cred (launch_rcv P S hS aS c k))

/-! ### Dealing -/

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What concerns the target of a copy, handed to the device that sends it. -/
theorem around (Φ : P.R → Dev nD → sProp 𝕄) :
    (bigSep Finset.univ fun c : Dev nD => bigSep Finset.univ fun k : P.R => Φ k c)
      = bigSep Finset.univ fun c : Dev nD => bigSep Finset.univ fun k : P.R => Φ k (P.peer k c) := by
  rw [exchange, exchange (Φ := fun (c : Dev nD) (k : P.R) => Φ k (P.peer k c))]
  exact bigSep_congr fun k _ => bigSep_univ_equiv (P.peer k) _

/-- What a device's body starts from, its debt apart. -/
def X (S : List P.R) (T : List P.L) (B : List P.J) (c : Dev nD) : sProp 𝕄 :=
  iprop(known res P ∗ sends P m c S ∗ copies P m c T ∗ creds P c S T B ∗ holds res P c B ∗ args res ins c)

/-- The place at `c` itself that a piece lands in. -/
def place (c : Dev nD) (n : P.R ⊕ P.L) : sProp 𝕄 :=
  ((c.tc : Thread nD τ).loc (P.land c n).1) ↦[(P.land c n).2]{fullShare} m ((c.tc : Thread nD τ).loc (P.land c n).1)

theorem place_peer (k : P.R) (c : Dev nD) : place P m (P.peer k c) (.inl k) = give P m k c := by
  unfold place give Plan.land
  dsimp only
  rw [Equiv.symm_apply_apply]

variable {S : List P.R} {T : List P.L} {B : List P.J}

theorem X_intro (hF : P.Full S T B) (c : Dev nD) :
    iprop(known res P ∗ (bigSep Finset.univ fun j : P.J => atPos ER (P.cell τ c j) 0 ∅ 0)
      ∗ (bigSep Finset.univ fun k : P.R => dutyTok ER (P.cell τ c (P.snd k)) 0 ())
      ∗ (bigSep Finset.univ fun k : P.R => dutyTok ER (P.cell τ (P.peer k c) (P.rcv k)) 0 ())
      ∗ (bigSep Finset.univ fun l : P.L => dutyTok ER (P.cell τ c (P.loc l)) 0 ())
      ∗ (bigSep Finset.univ fun k : P.R => give P m k c)
      ∗ (bigSep Finset.univ fun l : P.L => lgive P m l c)
      ∗ (bigSep Finset.univ fun k : P.R => cred (tallyAt (P.cell τ c (P.rcv k)) () (P.ramt k)))
      ∗ args res ins c)
    ⊢ X P m res ins S T B c := by
  have hs : sends P m c S = (iprop((bigSep Finset.univ fun k : P.R => give P m k c)
      ∗ (bigSep Finset.univ fun k : P.R => dutyTok ER (P.cell τ c (P.snd k)) 0 ())
      ∗ (bigSep Finset.univ fun k : P.R => dutyTok ER (P.cell τ (P.peer k c) (P.rcv k)) 0 ())) : sProp 𝕄) := by
    unfold sends
    rw [bigSep_congr (Ψ := toSend P m c) (fun k _ => if_pos (hF.aS k))]
    unfold toSend
    rw [bigSep_sep', bigSep_sep']
  have ht : copies P m c T = (iprop((bigSep Finset.univ fun l : P.L => lgive P m l c)
      ∗ (bigSep Finset.univ fun l : P.L => dutyTok ER (P.cell τ c (P.loc l)) 0 ())) : sProp 𝕄) := by
    unfold copies
    rw [bigSep_congr (Ψ := toCopy P m c) (fun l _ => if_pos (hF.aT l))]
    unfold toCopy
    rw [bigSep_sep']
  have hc : creds P c S T B = (iprop(BI.emp ∗ (bigSep Finset.univ fun k : P.R => cred (tallyAt (P.cell τ c (P.rcv k)) () (P.ramt k))) ∗ BI.emp) : sProp 𝕄) := by
    unfold creds
    have e1 : ∀ k ∈ (Finset.univ : Finset P.R), credOf P c S T B (.inl k) = (BI.emp : sProp 𝕄) := fun k _ => by
      unfold credOf; rw [if_neg (fun h => h.2 (hF.aS k))]
    have e2 : ∀ l ∈ (Finset.univ : Finset P.L), credOf P c S T B (.inr (.inr l)) = (BI.emp : sProp 𝕄) := fun l _ => by
      unfold credOf; rw [if_neg (fun h => h.2 (hF.aT l))]
    have e3 : ∀ k ∈ (Finset.univ : Finset P.R), credOf P c S T B (.inr (.inl k)) = (cred (tallyAt (P.cell τ c (P.rcv k)) () (P.ramt k)) : sProp 𝕄) := fun k _ => by
      unfold credOf; rw [if_pos ⟨hF.aB _, trivial⟩]; rfl
    rw [bigSep_univ_sum, bigSep_univ_sum, bigSep_congr e1, bigSep_congr e2, bigSep_congr e3, BI.bigSep_emp_const, BI.bigSep_emp_const]
    rfl
  have hh : holds res P c B = (bigSep Finset.univ fun j : P.J => atPos ER (P.cell τ c j) 0 ∅ 0 : sProp 𝕄) := by
    unfold holds
    refine bigSep_congr fun j _ => ?_
    unfold holdOf; rw [if_pos (hF.aB j)]
  unfold X
  rw [hs, ht, hc, hh]
  iintro ⟨HK, Hat, H1, H2, H3, Hg, Hl, Hc, HA⟩
  isplitl [HK]; · iexact HK
  isplitl [H1 H2 Hg]
  · isplitl [Hg]; · iexact Hg
    isplitl [H1] <;> iassumption
  isplitl [H3 Hl]
  · isplitl [Hl] <;> iassumption
  isplitl [Hc]
  · isplitr; · iempintro
    isplitl [Hc]; · iexact Hc
    iempintro
  isplitl [Hat] <;> iassumption

/-- What a device is dealt before the exchange. -/
def dealt (c : Dev nD) : sProp 𝕄 := iprop((bigSep Finset.univ fun j : P.J => cellFacts res P c j)
          ∗ (bigSep Finset.univ fun j : P.J => atPos ER (P.cell τ c j) 0 ∅ 0)
          ∗ (bigSep Finset.univ fun k : P.R => dutyTok ER (P.cell τ c (P.snd k)) 0 ())
          ∗ (bigSep Finset.univ fun k : P.R => dutyTok ER (P.cell τ c (P.rcv k)) 0 ())
          ∗ (bigSep Finset.univ fun l : P.L => dutyTok ER (P.cell τ c (P.loc l)) 0 ())
          ∗ (bigSep Finset.univ fun k : P.R => place P m c (.inl k))
          ∗ (bigSep Finset.univ fun l : P.L => lgive P m l c)
          ∗ (bigSep Finset.univ fun k : P.R => cred (tallyAt (P.cell τ c (P.rcv k)) () (P.ramt k)))
          ∗ args res ins c)

/-- The plan's pieces are parts of unscoped arrays no copy reads at launch, each on its own elements. -/
structure Plan.Placed : Prop where
  insU : ∀ b ∈ ins, ¬ b.isScoped
  outU : ∀ c n, ¬ (P.land c n).1.isScoped ∧ (P.land c n).1 ∉ ins
  apart : ∀ c, Apart (P.land c)

theorem glob (hF : P.Full S T B) (hP : P.Placed ins) (hres : ∀ (c : Dev nD), ∀ b ∈ ins, res ((c.tc : Thread nD τ).loc b) = m ((c.tc : Thread nD τ).loc b)) :
    iprop(levAts Ls (P.lv (τ := τ)) ∗ bigSep Finset.univ fun c : Dev nD => iprop(ownSems0 (osem P) c ∗ unscopedBufs c (fun b => m ((c.tc : Thread nD τ).loc b))
        ∗ launchCred (fun d => P.owed d S) c ∗ G P res c)) ⊢ (|={Set.univ}=> bigSep Finset.univ (X P m res ins S T B) : sProp 𝕄) := by
  have hargs (c : Dev nD) : (bigSep ins fun b => ((c.tc : Thread nD τ).loc b) ↦{fullShare} m ((c.tc : Thread nD τ).loc b) : sProp 𝕄) ⊢ args res ins c := by
    unfold args
    have h1 (b : Ref sig .tc) (hb : b ∈ ins) : (((c.tc : Thread nD τ).loc b ↦{fullShare} m ((c.tc : Thread nD τ).loc b)) : sProp 𝕄)
        ⊢ piece res ((c.tc : Thread nD τ).loc b) Finset.univ := by
      rw [← hres c b hb]
      unfold piece
      iintro H
      iexists fullShare; iexact H
    exact bigSep_mono fun b hb => h1 b hb
  have hcut (c : Dev nD) : unscopedBufs c (fun b => m ((c.tc : Thread nD τ).loc b))
      ⊢ (iprop(args res ins c ∗ (bigSep Finset.univ fun k : P.R => place P m c (.inl k)) ∗ (bigSep Finset.univ fun l : P.L => lgive P m l c)) : sProp 𝕄) := by
    refine (cut c ins (P.land c) _ hP.insU (hP.outU c) (hP.apart c)).trans ?_
    rw [bigSep_univ_sum]
    exact BI.sep_mono (hargs c) (Entails.refl _)
  have hcore (c : Dev nD) : iprop(ownSems0 (osem P) c ∗ unscopedBufs c (fun b => m ((c.tc : Thread nD τ).loc b)) ∗ launchCred (fun d => P.owed d S) c ∗ G P res c)
      ⊢ (|={Set.univ}=> dealt P m res ins c : sProp 𝕄) := by
    have htok : (bigSep Finset.univ fun j : P.J => dutyTok ER (P.cell τ c j) 0 () : sProp 𝕄)
        = iprop((bigSep Finset.univ fun k : P.R => dutyTok ER (P.cell τ c (P.snd k)) 0 ())
          ∗ (bigSep Finset.univ fun k : P.R => dutyTok ER (P.cell τ c (P.rcv k)) 0 ())
          ∗ (bigSep Finset.univ fun l : P.L => dutyTok ER (P.cell τ c (P.loc l)) 0 ())) := by
      rw [bigSep_univ_sum, bigSep_univ_sum]; rfl
    unfold dealt
    iintro ⟨Hos, Hub, Hcr, HG⟩
    ihave Hc := (hcut c) $$ Hub
    icases Hc with ⟨HA, Hp, Hl⟩
    ihave Hcr := (rcv_creds P S hF.nS hF.aS c) $$ Hcr
    imod (core_alloc P res c) $$ [Hos HG] with ⟨Hf, Hat, Htok⟩
    · isplitl [Hos] <;> iassumption
    ihave Htok := (Entails.of_eq htok) $$ Htok
    icases Htok with ⟨H1, H2, H3⟩
    imodintro
    isplitl [Hf]; · iexact Hf
    isplitl [Hat]; · iexact Hat
    isplitl [H1]; · iexact H1
    isplitl [H2]; · iexact H2
    isplitl [H3]; · iexact H3
    isplitl [Hp]; · iexact Hp
    isplitl [Hl]; · iexact Hl
    isplitl [Hcr] <;> iassumption
  have hfin : iprop(levAts Ls (P.lv (τ := τ)) ∗ bigSep Finset.univ fun c : Dev nD => dealt P m res ins c) ⊢ (bigSep Finset.univ (X P m res ins S T B) : sProp 𝕄) := by
    unfold dealt
    rw [bigSep_sep', bigSep_sep', bigSep_sep', bigSep_sep', bigSep_sep', bigSep_sep', bigSep_sep', bigSep_sep',
      around P (fun k c => dutyTok ER (P.cell τ c (P.rcv k)) 0 ()), around P (fun k c => place P m c (.inl k))]
    simp only [place_peer]
    iintro ⟨#HL, #HK, Hat, H1, H2, H3, Hg, Hl, Hc, HA⟩
    iapply (bigSep_with_persistent (R := known res P) (fun c _ => X_intro P m res ins hF c))
    isplitr
    · unfold known
      isplitr; · iexact HL
      iexact HK
    simp only [bigSep_sep']
    isplitl [Hat]; · iexact Hat
    isplitl [H1]; · iexact H1
    isplitl [H2]; · iexact H2
    isplitl [H3]; · iexact H3
    isplitl [Hg]; · iexact Hg
    isplitl [Hl]; · iexact Hl
    isplitl [Hc] <;> iassumption
  have hall : (bigSep Finset.univ fun c : Dev nD => iprop(ownSems0 (osem P) c ∗ unscopedBufs c (fun b => m ((c.tc : Thread nD τ).loc b))
        ∗ launchCred (fun d => P.owed d S) c ∗ G P res c)) ⊢ (|={Set.univ}=> bigSep Finset.univ (dealt P m res ins) : sProp 𝕄) :=
    (bigSep_mono fun c _ => hcore c).trans (bigSep_fupd _ _)
  iintro ⟨#HL, H⟩
  imod hall $$ H with H
  imodintro
  iapply hfin
  isplitr; · iexact HL
  iexact H

/-! ## The run -/

/-- What a device's body leaves. -/
def Y (c : Dev nD) : sProp 𝕄 := iprop((bigSep Finset.univ fun j : P.J => pay res P c j) ∗ args res ins c)

/-- What is read off the final memory: the read arrays and every piece at the contents of `res`. -/
def QY (c : Dev nD) (s : MemSt nD τ sig Val) : Prop :=
  (∀ b ∈ ins, s.mem ((c.tc : Thread nD τ).loc b) = res ((c.tc : Thread nD τ).loc b))
    ∧ ∀ n, ∀ x ∈ (P.land c n).2, s.mem ((c.tc : Thread nD τ).loc (P.land c n).1) x = res ((c.tc : Thread nD τ).loc (P.land c n).1) x

theorem read_piece (ℓ : Loc nD τ sig) (s : Finset (Idx ℓ)) (s' : Phys nD τ sig Val) :
    iprop(piece res ℓ s ∗ SI s') ⊢ (iprop(⌜∀ x ∈ s, s'.mem.mem ℓ x = res ℓ x⌝) : sProp 𝕄) := by
  unfold piece
  iintro ⟨⟨%q, H⟩, HSI⟩
  icombine HSI H gives %h
  ipureintro
  exact h

theorem read_Y (c : Dev nD) (s' : Phys nD τ sig Val) : iprop(Y P res ins c ∗ SI s') ⊢ (iprop(⌜QY P res ins c s'.mem⌝) : sProp 𝕄) := by
  have h1 (b : Ref sig .tc) (hb : b ∈ ins) : iprop(Y P res ins c ∗ SI s')
      ⊢ (iprop(⌜∀ x ∈ (Finset.univ : Finset (Idx ((c.tc : Thread nD τ).loc b))), s'.mem.mem ((c.tc : Thread nD τ).loc b) x = res ((c.tc : Thread nD τ).loc b) x⌝) : sProp 𝕄) := by
    have ha : args res ins c ⊢ (piece res ((c.tc : Thread nD τ).loc b) Finset.univ : sProp 𝕄) := by unfold args; exact bigSep_elim hb
    unfold Y
    iintro ⟨⟨-, HA⟩, HSI⟩
    ihave Hp := ha $$ HA
    iapply (read_piece res ((c.tc : Thread nD τ).loc b) Finset.univ s')
    isplitl [Hp] <;> iassumption
  have h2 (n : P.R ⊕ P.L) : iprop(Y P res ins c ∗ SI s')
      ⊢ (iprop(⌜∀ x ∈ (P.land c n).2, s'.mem.mem ((c.tc : Thread nD τ).loc (P.land c n).1) x = res ((c.tc : Thread nD τ).loc (P.land c n).1) x⌝) : sProp 𝕄) := by
    have ha : (bigSep Finset.univ fun j : P.J => pay res P c j) ⊢ (piece res ((c.tc : Thread nD τ).loc (P.land c n).1) (P.land c n).2 : sProp 𝕄) := by
      rcases n with k | l
      · exact bigSep_elim (Φ := fun j : P.J => pay res P c j) (Finset.mem_univ (P.rcv k))
      · exact bigSep_elim (Φ := fun j : P.J => pay res P c j) (Finset.mem_univ (P.loc l))
    unfold Y
    iintro ⟨⟨HP, -⟩, HSI⟩
    ihave Hp := ha $$ HP
    iapply (read_piece res ((c.tc : Thread nD τ).loc (P.land c n).1) (P.land c n).2 s')
    isplitl [Hp] <;> iassumption
  have h1' : iprop(Y P res ins c ∗ SI s') ⊢ (iprop(⌜∀ b, b ∈ ins → ∀ x ∈ (Finset.univ : Finset (Idx ((c.tc : Thread nD τ).loc b))), s'.mem.mem ((c.tc : Thread nD τ).loc b) x = res ((c.tc : Thread nD τ).loc b) x⌝) : sProp 𝕄) :=
    (forall_intro fun b => (forall_intro fun hb => h1 b hb).trans pure_forall.2).trans pure_forall.2
  have h2' := (forall_intro h2).trans pure_forall.2
  refine (BIClass.and_intro h1' h2').trans (pure_and.1.trans (Laws.pure_mono fun h => ?_))
  exact ⟨fun b hb => funext fun x => h.1 b hb x (Finset.mem_univ x), h.2⟩

theorem X_owes (hF : P.Full S T B) (c : Dev nD) (W : Set (SemLoc sig × Unit)) :
    iprop(X P m res ins S T B c ∗ owesWithin c (P.owed c S) W) ⊢ (St res P m ins c S T B : sProp 𝕄) := by
  unfold X St owesWithin
  iintro ⟨⟨HK, HS, HT, HC, HH, HA⟩, ⟨%W', -, HO⟩⟩
  isplitr; · ipureintro; exact ⟨hF.nS, hF.nT, hF.nB⟩
  isplitl [HK]; · iexact HK
  isplitl [HO]; · iexists W'; iexact HO
  isplitl [HS]; · iexact HS
  isplitl [HT]; · iexact HT
  isplitl [HC]; · iexact HC
  isplitl [HH] <;> iassumption

/-- What is left when everything is done: the closed semaphores and what is read at the end. -/
theorem St_done (c : Dev nD) (V : Set (SemLoc sig × Unit)) (hV : ∀ p, p ∈ V) :
    St res P m ins c [] [] [] ⊢ (iprop((Y P res ins c ∗ ownSems0 (osem P) c) ∗ owesWithin c 0 V) : sProp 𝕄) := by
  have hh : holds res P c [] = (iprop((bigSep Finset.univ fun j : P.J => semVal (P.cell τ c j) 0) ∗ bigSep Finset.univ fun j : P.J => pay res P c j) : sProp 𝕄) := by
    unfold holds
    rw [← bigSep_sep']
    refine bigSep_congr fun j _ => ?_
    unfold holdOf; rw [if_neg (List.not_mem_nil)]
  unfold St Y owesWithin ownSems0
  rw [hh]
  iintro ⟨-, -, ⟨%W, HO⟩, -, -, -, ⟨Hz, Hp⟩, HA⟩
  isplitr [HO]
  · isplitr [Hz]
    · isplitl [Hp] <;> iassumption
    · iexact Hz
  · iexists W
    isplitr; · ipureintro; exact fun p _ => hV p
    iexact HO

end

section Run

variable {Λ₀ : Idealize.SL.Sem.Labels} (P : Plan nD sig) (m res : (ℓ : Loc nD τ sig) → Buf Val ℓ) (ins : Finset (Ref sig .tc))
  (cfgs : Fin 1 → Cfg sig Λ₀) {S : List P.R} {T : List P.L} {B : List P.J}

/-- The one region's data: no window, the body's resources before and after, its debt before and after. -/
def dats (hW : IsEmpty (Fin (cfgs 0).W)) (S : List P.R) (T : List P.L) (B : List P.J) (p : Fin 1) (c : Dev nD) : Dat τ Val Unit ℕ (UU nD τ sig) ℕ (cfgs p) c where
  A w := (hW.elim (cast (by rw [Subsingleton.elim p 0]) w))
  after w := (hW.elim (cast (by rw [Subsingleton.elim p 0]) w))
  Φ t := if t.val = 0 then X P m res ins S T B c else iprop(Y P res ins c ∗ ownSems0 (osem P) c)
  q _ := fullShare
  owed t := if t.val = 0 then P.owed c S else 0

theorem θ_run_talk [∀ e, Nonempty (Val e)]
    (hW : IsEmpty (Fin (cfgs 0).W)) (hN : (cfgs 0).N = 1)
    (hinj : Function.Injective (PerCore.cellOf (τ := τ) (pinD (pcsOf (Val := Val) cfgs) (admOf (nD := nD) cfgs))))
    (hw : WinFacts (cfgs 0).spec) (ho : OwnSemFacts (cfgs 0).spec (osem P))
    (hrest : ∀ c : Dev nD, (scopedRest (cfgs 0).spec c : sProp 𝕄) = BI.emp)
    (defs₀ : Defs nD τ sig Val Λ₀) (𝒱₀ : Variants) (ρ : Dev nD → PrngReg)
    (main : Dev nD → Prog (TpuEff nD τ sig Val (Sig Λ₀ (Fin 1) fun p => (pcsOf (Val := Val) cfgs p).Adm) .tc) PUnit)
    (hmain : ∀ c, main c = .op (.customCall (entry 0) ()) fun _ => .ret ⟨⟩)
    (hF : P.Full S T B) (hP : P.Placed ins)
    (hres : ∀ (c : Dev nD), ∀ b ∈ ins, res ((c.tc : Thread nD τ).loc b) = m ((c.tc : Thread nD τ).loc b))
    (hbody : ∀ c (t : Fin (cfgs 0).N), St res P m ins c S T B ⊢ wp frame (wpE defs₀ 𝒱₀ (c.tc : Thread nD τ) none) Set.univ
      (defs₀ .tc (cfgs 0).body ((cfgs 0).bodyArgs t ((cfgs 0).slots t))) (fun _ => St res P m ins c [] [] []))
    {Q : PUnit × MemSt nD τ sig Val → Prop}
    (hQ : ∀ s : MemSt nD τ sig Val, (∀ c, QY P res ins c s) →
      (∀ g' : GSem nD τ sig, (g'.1.2 ≠ .tc ∨ g'.2.isScoped .tc = true) → s.sem g' = 0) → Q (⟨⟩, s)) :
    θ_run (Pipeline.defs (pcsOf cfgs) defs₀) (onTc main) ⟨m, fun _ => 0, ρ⟩ Q := by
  have hlast : (Fin.last (cfgs 0).N).val ≠ 0 := by rw [Fin.val_last, hN]; exact Nat.one_ne_zero
  have Φ0 (c : Dev nD) (t : Fin ((cfgs 0).N + 1)) (ht : t.val = 0) : (dats P m res ins cfgs hW S T B 0 c).Φ t = X P m res ins S T B c := by
    unfold dats; dsimp only; rw [if_pos ht]
  have Φ1 (c : Dev nD) (t : Fin ((cfgs 0).N + 1)) (ht : t.val ≠ 0) : (dats P m res ins cfgs hW S T B 0 c).Φ t = iprop(Y P res ins c ∗ ownSems0 (osem P) c) := by
    unfold dats; dsimp only; rw [if_neg ht]
  have o0 (c : Dev nD) (t : Fin ((cfgs 0).N + 1)) (ht : t.val = 0) : (dats P m res ins cfgs hW S T B 0 c).owed t = P.owed c S := by
    unfold dats; dsimp only; rw [if_pos ht]
  have o1 (c : Dev nD) (t : Fin ((cfgs 0).N + 1)) (ht : t.val ≠ 0) : (dats P m res ins cfgs hW S T B 0 c).owed t = 0 := by
    unfold dats; dsimp only; rw [if_neg ht]
  refine θ_run_exchange cfgs (dats P m res ins cfgs hW S T B) hinj hW hw ho EP defs₀ 𝒱₀ m ρ main hmain ?_
    (fun c => P.owed c S) (fun c => o0 c 0 rfl) (fun c => o1 c _ hlast) Ls P.lv Ls_of_ne
    (G P res) (X P m res ins S T B) (Y P res ins)
    (initOf (PerCore.cells (pinD (pcsOf (Val := Val) cfgs) (admOf cfgs)) hinj) (PerCore.launchToks (pinD (pcsOf (Val := Val) cfgs) (admOf cfgs)) hinj), initOf (myCells P) (myToks P))
    ?_ (glob P m res ins hF hP hres) ?_ ?_ (QY P res ins) ?_ hQ
  · intro c t
    have ht : t.castSucc.val = 0 := by have := t.isLt; rw [Fin.val_castSucc]; omega
    have ht' : t.succ.val ≠ 0 := by rw [Fin.val_succ]; exact Nat.succ_ne_zero _
    have hno (Φ : Fin (cfgs 0).W → sProp 𝕄) : bigSep Finset.univ Φ = BI.emp :=
      (bigSep_congr (Ψ := fun _ => BI.emp) (fun w _ => hW.elim w)).trans (BI.bigSep_emp_const _)
    rw [hno, hno, Φ0 c _ ht, Φ1 c _ ht']
    unfold Dat.owesAt
    rw [o0 c _ ht, o1 c _ ht']
    have hpre : iprop(X P m res ins S T B c ∗ owesWithin c (P.owed c S) ((dats P m res ins cfgs hW S T B 0 c).bound () t.castSucc) ∗ BI.emp)
        ⊢ (St res P m ins c S T B : sProp 𝕄) := by
      iintro ⟨HX, HO, -⟩
      iapply (X_owes P m res ins hF c ((dats P m res ins cfgs hW S T B 0 c).bound () t.castSucc))
      isplitl [HX] <;> iassumption
    have hpost : St res P m ins c [] [] []
        ⊢ (iprop((Y P res ins c ∗ ownSems0 (osem P) c) ∗ owesWithin c 0 ((dats P m res ins cfgs hW S T B 0 c).bound () t.succ) ∗ BI.emp) : sProp 𝕄) := by
      iintro H
      ihave H' := (St_done P m res ins c ((dats P m res ins cfgs hW S T B 0 c).bound () t.succ) (fun p => Or.inl (Set.mem_univ p))) $$ H
      icases H' with ⟨H1, H2⟩
      isplitl [H1]; · iexact H1
      isplitl [H2]; · iexact H2
      iempintro
    exact hpre.trans ((hbody c t).trans (wp_mono _ _ _ fun _ => hpost))
  · iintro Hu
    ihave H := (ownU_pair _ _) $$ Hu
    icases H with ⟨HP, HX⟩
    imod (fund_talk P res) $$ HX with HG
    imodintro
    isplitl [HP] <;> iassumption
  · intro c
    rw [Φ0 c _ rfl]
    exact sep_elim_left
  · intro c
    rw [Φ1 c _ hlast, hrest c]
    iintro ⟨H1, H2⟩
    isplitl [H1]; · iexact H1
    isplitl [H2]; · iexact H2
    iempintro
  · intro c s'
    iintro ⟨HY, HSI⟩
    ihave %h := (read_Y P res ins c s') $$ [HY HSI]
    · isplitl [HY] <;> iassumption
    imodintro
    isplitr; · ipureintro; exact h
    iexact HSI

end Run

end Cert.Talk

end
-- ==== Proof.Mem.lean ====
/-
Final memories written array by array, and where a copy's source may be read from.

`put b f m` is the memory `m` with the array `b` of every device `c` holding `f c`. `from_arg` and `from_held` give the
step theorems' hypothesis on a copy's source: it is part of an array the kernel only reads, or of a piece that has landed.
-/
module

public import proofs.«01_k».proof.Proof.Deal

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

/-- `m` with the array `b` of every device `c` holding `f c`. -/
def put (b : Ref sig .tc) (f : Dev nD → b.ty.Contents Val) (m : (ℓ : Loc nD τ sig) → Buf Val ℓ) : (ℓ : Loc nD τ sig) → Buf Val ℓ :=
  fun ℓ => if h : ℓ.2 = Proc.devRef (τ := τ) .tc b then cast (congrArg (fun r : DevRef τ sig => r.ty.Contents Val) h.symm) (f ℓ.1) else m ℓ

theorem put_at (b : Ref sig .tc) (f : Dev nD → b.ty.Contents Val) (m : (ℓ : Loc nD τ sig) → Buf Val ℓ) (c : Dev nD) :
    put b f m ((c.tc : Thread nD τ).loc b) = f c := by
  unfold put
  rw [dif_pos rfl]
  rfl

theorem put_ne (b : Ref sig .tc) (f : Dev nD → b.ty.Contents Val) (m : (ℓ : Loc nD τ sig) → Buf Val ℓ) (c : Dev nD) {b' : Ref sig .tc} (h : b' ≠ b) :
    put b f m ((c.tc : Thread nD τ).loc b') = m ((c.tc : Thread nD τ).loc b') := by
  unfold put
  rw [dif_neg fun e => h (Proc.devRef_injective _ e)]

local notation "𝕄" => MT nD τ sig Unit Val ℕ (UU nD τ sig) ℕ

variable (res : (ℓ : Loc nD τ sig) → Buf Val ℓ) (P : Plan nD sig) (ins : Finset (Ref sig .tc))

/-- A part of an array the kernel only reads. -/
theorem from_arg (c : Dev nD) (B : List P.J) {b : Ref sig .tc} (hb : b ∈ ins) (s : Finset b.ty.Idx) :
    iprop(holds res P c B ∗ args res ins c)
      ⊢ (iprop(piece res ((c.tc : Thread nD τ).loc b) s ∗ holds res P c B ∗ args res ins c) : sProp 𝕄) := by
  classical
  have h : args res ins c ⊢ (iprop(piece res ((c.tc : Thread nD τ).loc b) s ∗ args res ins c) : sProp 𝕄) := by
    have e : args res ins c = (iprop(piece res ((c.tc : Thread nD τ).loc b) Finset.univ
        ∗ bigSep (ins.erase b) fun b => piece res ((c.tc : Thread nD τ).loc b) Finset.univ) : sProp 𝕄) := by
      unfold args; rw [bigSep_erase hb]; rfl
    rw [e]
    have ht := piece_take (Val := Val) res (ℓ := (c.tc : Thread nD τ).loc b) (Finset.subset_univ s)
    iintro ⟨Hb, Hr⟩
    ihave H := ht $$ Hb
    icases H with ⟨H1, H2⟩
    isplitl [H1]; · iexact H1
    isplitl [H2]; · iexact H2
    iexact Hr
  iintro ⟨Hh, Ha⟩
  ihave H := h $$ Ha
  icases H with ⟨H1, H2⟩
  isplitl [H1]; · iexact H1
  isplitl [Hh]; · iexact Hh
  iexact H2

/-- A part of a piece that has landed. -/
theorem from_held (c : Dev nD) (B : List P.J) (k : P.R) (hk : P.rcv k ∉ B) {s : Finset (Idx ((P.dst k ((P.peer k).symm c)).view.loc (c.tc : Thread nD τ)))}
    (hs : s ⊆ (P.dst k ((P.peer k).symm c)).view.set) :
    iprop(holds res P c B ∗ args res ins c)
      ⊢ (iprop(piece res ((P.dst k ((P.peer k).symm c)).view.loc (c.tc : Thread nD τ)) s ∗ holds res P c B ∗ args res ins c) : sProp 𝕄) := by
  classical
  have h : holds res P c B ⊢ (iprop(piece res ((P.dst k ((P.peer k).symm c)).view.loc (c.tc : Thread nD τ)) s ∗ holds res P c B) : sProp 𝕄) := by
    unfold holds
    rw [bigSep_univ_at (holdOf res P c B) (P.rcv k)]
    unfold holdOf
    rw [if_neg hk]
    have ht := piece_take (Val := Val) res hs
    have hp : pay res P c (P.rcv k) = (piece res ((P.dst k ((P.peer k).symm c)).view.loc (c.tc : Thread nD τ)) (P.dst k ((P.peer k).symm c)).view.set : sProp 𝕄) := rfl
    rw [hp]
    iintro ⟨⟨Hv, Hb⟩, Hr⟩
    ihave H := ht $$ Hb
    icases H with ⟨H1, H2⟩
    isplitl [H1]; · iexact H1
    isplitl [Hv H2]
    · isplitl [Hv]; · iexact Hv
      iexact H2
    iexact Hr
  iintro ⟨Hh, Ha⟩
  ihave H := h $$ Hh
  icases H with ⟨H1, H2⟩
  isplitl [H1]; · iexact H1
  isplitl [H2]; · iexact H2
  iexact Ha

end Cert.Talk
-- ==== Proof.Mesh.lean ====
/-
The devices: eight, device `4x + 2y + c` being core `c` of chip `2x + y`, and who talks to whom.
-/
module

public import Idealize.ShloMosaic.Signature

@[expose] public section

namespace Cert.Mesh

open Idealize.ShloMosaic

/-- The other core of the same chip. -/
def sib (c : Dev 8) : Dev 8 := ⟨2 * (c.val / 2) + (c.val % 2 + 1) % 2, by have := c.isLt; omega⟩
theorem sib_val (c : Dev 8) : (sib c).val = 2 * (c.val / 2) + (c.val % 2 + 1) % 2 := rfl
theorem sib_sib (c : Dev 8) : sib (sib c) = c := by revert c; decide
def sibE : Dev 8 ≃ Dev 8 := ⟨sib, sib, sib_sib, sib_sib⟩

/-- The same core of another chip: along `x`, along `y`, along both. -/
def far (j : Fin 3) (c : Dev 8) : Dev 8 :=
  ⟨2 * ((2 * ((c.val / 4 + (if j = 1 then 0 else 1)) % 2)) + (c.val / 2 % 2 + (if j = 0 then 0 else 1)) % 2) + c.val % 2, by split <;> split <;> omega⟩
theorem far_far (j : Fin 3) (c : Dev 8) : far j (far j c) = c := by revert j c; decide
def farE (j : Fin 3) : Dev 8 ≃ Dev 8 := ⟨far j, far j, far_far j, far_far j⟩

/-- Core `q` of the same chip. -/
def core (c : Dev 8) (q : Fin 2) : Dev 8 := ⟨2 * (c.val / 2) + q.val, by have := c.isLt; have := q.isLt; omega⟩
theorem core_self (c : Dev 8) (h : c.val % 2 < 2) : core c ⟨c.val % 2, h⟩ = c := by revert c; decide
theorem core_sib (c : Dev 8) (h : c.val % 2 < 2) : core (sib c) ⟨c.val % 2, h⟩ = c := by revert c; decide

/-- The same core of chip `s`. -/
def chip (c : Dev 8) (s : Fin 4) : Dev 8 := ⟨2 * s.val + c.val % 2, by have := s.isLt; omega⟩

theorem chip_far (j : Fin 3) (c : Dev 8) (h : c.val / 2 < 4) : chip (far j c) ⟨c.val / 2, h⟩ = c := by revert j c; decide
theorem chip_self (c : Dev 8) (h : c.val / 2 < 4) : chip c ⟨c.val / 2, h⟩ = c := by revert c; decide
theorem half_lt (c : Dev 8) : c.val / 2 < 4 := by have := c.isLt; omega
theorem far_ne (j : Fin 3) (c : Dev 8) : (far j c).val / 2 ≠ c.val / 2 := by revert j c; decide
theorem far_inj (i j : Fin 3) (c : Dev 8) (h : (far i c).val / 2 = (far j c).val / 2) : i = j := by revert i j c; decide
theorem far_of (c : Dev 8) (s : Fin 4) (h : ¬ s.val = c.val / 2) : ∃ j, s.val = (far j c).val / 2 := by revert c s; decide

/-- The number of the chip that is one step away: along `x`, along `y`, along both. -/
theorem far_val (j : Fin 3) (c : Dev 8) : (far j c).val = 2 * ((far j c).val / 2) + c.val % 2 := by revert j c; decide

theorem far_core (j : Fin 3) (c : Dev 8) : (far j c).val % 2 = c.val % 2 := by revert j c; decide
theorem far_sib (j : Fin 3) (c : Dev 8) : (far j (sib c)).val / 2 = (far j c).val / 2 := by revert j c; decide
theorem sib_half (c : Dev 8) : (sib c).val / 2 = c.val / 2 := by revert c; decide

/-- The device whose rows of half `q` of chip `s` device `c` ends with: itself on its own chip, the like core elsewhere. -/
def held (c : Dev 8) (s : Fin 4) (q : Nat) : Dev 8 := if s.val = c.val / 2 then c else ⟨2 * s.val + q % 2, by have := s.isLt; omega⟩

theorem held_half (c : Dev 8) (s : Fin 4) (q : Nat) : (held c s q).val / 2 = s.val := by
  unfold held
  split
  · exact Eq.symm ‹_›
  · show (2 * s.val + q % 2) / 2 = s.val; omega

theorem held_self (c : Dev 8) (s : Fin 4) (q : Nat) (h : s.val = c.val / 2) : held c s q = c := if_pos h

theorem held_far (j : Fin 3) (c : Dev 8) (s : Fin 4) (q : Nat) (h : s.val = c.val / 2) (hq : q = c.val % 2) : held (far j c) s q = c := by
  unfold held
  rw [if_neg (fun e => far_ne j c (e.symm.trans h))]
  apply Fin.ext
  show 2 * s.val + q % 2 = c.val
  omega

theorem held_sib (j : Fin 3) (c : Dev 8) (s : Fin 4) (q : Nat) (h : s.val = (far j c).val / 2) : held c s q = held (sib c) s q := by
  unfold held
  rw [if_neg (fun e => far_ne j c (h.symm.trans e)), if_neg (fun e => far_ne j c (h.symm.trans (e.trans (sib_half c))))]

end Cert.Mesh
-- ==== Proof.Exchange.lean ====
/-
The exchange of gradient halves between the two cores of each chip, run.

Core `c` of a chip holds, of each of five arrays, both halves of its four blocks; it sends half `1 - c` of every block to
the other core and receives half `c` of the other core's. The plan has one remote copy per array, all issued before the
first wait.
-/
module

public import proofs.«01_k».proof.Proof.Mem
public import proofs.«01_k».proof.Proof.Mesh
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points

@[expose] public section

noncomputable section

namespace Cert.ExchangeProof

open Cert.ExchangeIdeal Cert.ExchangeIdeal.Gen Cert.Talk Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

def shp : Fin 5 → Shape
  | 0 => S4x1024x4100
  | 1 => S4x256x2048
  | 2 => S4x1024x1408
  | 3 => S4x1024x1408
  | 4 => S4x704x2048

/-- The arrays read. -/
def inp : Fin 5 → Ref sig .tc
  | 0 => main_arg0
  | 1 => main_arg1
  | 2 => main_arg2
  | 3 => main_arg3
  | 4 => main_arg4

/-- The arrays written. -/
def out : Fin 5 → Ref sig .tc
  | 0 => main_v1_0
  | 1 => main_v1_1
  | 2 => main_v1_2
  | 3 => main_v1_3
  | 4 => main_v1_4

/-- Half `1 - c` of device `c`'s blocks. -/
def src : (k : Fin 5) → Dev nD → Memref sig .tc .hbm (shp k) .bf16
  | 0, c => ((Memref.whole main_arg0).slice (Rect.unit (s := S4x2x1024x4100) (k0_off1 c) S4x1x1024x4100.size (k0_off1_inb c)) (fun _ => rfl)).squeeze S4x1024x4100 squeezes_S4x1x1024x4100_S4x1024x4100
  | 1, c => ((Memref.whole main_arg1).slice (Rect.unit (s := S4x2x256x2048) (k0_off2 c) S4x1x256x2048.size (k0_off2_inb c)) (fun _ => rfl)).squeeze S4x256x2048 squeezes_S4x1x256x2048_S4x256x2048
  | 2, c => ((Memref.whole main_arg2).slice (Rect.unit (s := S4x2x1024x1408) (k0_off3 c) S4x1x1024x1408.size (k0_off3_inb c)) (fun _ => rfl)).squeeze S4x1024x1408 squeezes_S4x1x1024x1408_S4x1024x1408
  | 3, c => ((Memref.whole main_arg3).slice (Rect.unit (s := S4x2x1024x1408) (k0_off3 c) S4x1x1024x1408.size (k0_off3_inb c)) (fun _ => rfl)).squeeze S4x1024x1408 squeezes_S4x1x1024x1408_S4x1024x1408
  | 4, c => ((Memref.whole main_arg4).slice (Rect.unit (s := S4x2x704x2048) (k0_off4 c) S4x1x704x2048.size (k0_off4_inb c)) (fun _ => rfl)).squeeze S4x704x2048 squeezes_S4x1x704x2048_S4x704x2048

def dst : (k : Fin 5) → Dev nD → Memref sig .tc .hbm (shp k) .bf16
  | 0, _ => Memref.whole main_v1_0
  | 1, _ => Memref.whole main_v1_1
  | 2, _ => Memref.whole main_v1_2
  | 3, _ => Memref.whole main_v1_3
  | 4, _ => Memref.whole main_v1_4

def sem : Fin 5 ⊕ Fin 5 ⊕ Fin 0 → DmaSem sig
  | .inl k => ⟨k.val, by have := k.isLt; show k.val < 10; omega⟩
  | .inr (.inl k) => ⟨5 + k.val, by have := k.isLt; show 5 + k.val < 10; omega⟩
  | .inr (.inr l) => l.elim0

def plan : Plan nD sig where
  R := Fin 5
  L := Fin 0
  sem := sem
  sem_inj := by decide
  peer _ := sibE
  sp := .hbm
  rshape := shp
  relt _ := .bf16
  src := src
  dst := dst
  lshape l := l.elim0
  lelt l := l.elim0
  lsrc l := l.elim0
  ldst l := l.elim0
  ramt k := (dst k 0).view.dmaCredit
  lamt l := l.elim0
  ramt_eq k c := by fin_cases k <;> rfl
  lamt_eq l := l.elim0
  ramt_pos k := View.dmaCredit_pos _ (by revert k; decide)
  lamt_pos l := l.elim0
  lvl _ := 1

/-! ## The final memory -/

variable (m : (ℓ : Loc nD τ sig) → Buf (Elt F) ℓ)

/-- What the copy of array `k` from the other core brings. -/
def got0 (c : Dev nD) : main_v1_0.ty.Contents (Elt F) := (src 0 (sib c)).view.read (Elt F) (m (((sib c).tc : Thread nD τ).loc main_arg0))
def got1 (c : Dev nD) : main_v1_1.ty.Contents (Elt F) := (src 1 (sib c)).view.read (Elt F) (m (((sib c).tc : Thread nD τ).loc main_arg1))
def got2 (c : Dev nD) : main_v1_2.ty.Contents (Elt F) := (src 2 (sib c)).view.read (Elt F) (m (((sib c).tc : Thread nD τ).loc main_arg2))
def got3 (c : Dev nD) : main_v1_3.ty.Contents (Elt F) := (src 3 (sib c)).view.read (Elt F) (m (((sib c).tc : Thread nD τ).loc main_arg3))
def got4 (c : Dev nD) : main_v1_4.ty.Contents (Elt F) := (src 4 (sib c)).view.read (Elt F) (m (((sib c).tc : Thread nD τ).loc main_arg4))

def fin : (ℓ : Loc nD τ sig) → Buf (Elt F) ℓ :=
  put main_v1_0 (got0 m) (put main_v1_1 (got1 m) (put main_v1_2 (got2 m) (put main_v1_3 (got3 m) (put main_v1_4 (got4 m) m))))

theorem fin_in (c : Dev nD) (b : Ref sig .tc) (h : ∀ k, b ≠ out k) : fin m ((c.tc : Thread nD τ).loc b) = m ((c.tc : Thread nD τ).loc b) := by
  unfold fin
  rw [put_ne _ _ _ _ (show b ≠ main_v1_0 from h 0), put_ne _ _ _ _ (show b ≠ main_v1_1 from h 1), put_ne _ _ _ _ (show b ≠ main_v1_2 from h 2), put_ne _ _ _ _ (show b ≠ main_v1_3 from h 3), put_ne _ _ _ _ (show b ≠ main_v1_4 from h 4)]
theorem fin0 (c : Dev nD) : fin m ((c.tc : Thread nD τ).loc main_v1_0) = got0 m c := by
  unfold fin; rw [put_at]
theorem fin1 (c : Dev nD) : fin m ((c.tc : Thread nD τ).loc main_v1_1) = got1 m c := by
  unfold fin; rw [put_ne _ _ _ _ (by decide), put_at]
theorem fin2 (c : Dev nD) : fin m ((c.tc : Thread nD τ).loc main_v1_2) = got2 m c := by
  unfold fin; rw [put_ne _ _ _ _ (by decide), put_ne _ _ _ _ (by decide), put_at]
theorem fin3 (c : Dev nD) : fin m ((c.tc : Thread nD τ).loc main_v1_3) = got3 m c := by
  unfold fin; rw [put_ne _ _ _ _ (by decide), put_ne _ _ _ _ (by decide), put_ne _ _ _ _ (by decide), put_at]
theorem fin4 (c : Dev nD) : fin m ((c.tc : Thread nD τ).loc main_v1_4) = got4 m c := by
  unfold fin; rw [put_ne _ _ _ _ (by decide), put_ne _ _ _ _ (by decide), put_ne _ _ _ _ (by decide), put_ne _ _ _ _ (by decide), put_at]

def ins : Finset (Ref sig .tc) := {main_arg0, main_arg1, main_arg2, main_arg3, main_arg4}

theorem inp_ins (k : Fin 5) : inp k ∈ ins := by revert k; decide
theorem ins_out : ∀ b ∈ ins, ∀ k, b ≠ out k := by decide

theorem land (c : Dev nD) (k : Fin 5) : (src k c).view.read (Elt F) (fin m ((src k c).view.loc (c.tc : Thread nD τ)))
    = (dst k c).view.read (Elt F) (fin m ((dst k c).view.loc ((sib c).tc : Thread nD τ))) := by
  match k with
  | 0 => exact (congrArg _ (fin_in m c main_arg0 (by decide))).trans (((fin0 m (sib c)).trans (by unfold got0; rw [sib_sib])).symm)
  | 1 => exact (congrArg _ (fin_in m c main_arg1 (by decide))).trans (((fin1 m (sib c)).trans (by unfold got1; rw [sib_sib])).symm)
  | 2 => exact (congrArg _ (fin_in m c main_arg2 (by decide))).trans (((fin2 m (sib c)).trans (by unfold got2; rw [sib_sib])).symm)
  | 3 => exact (congrArg _ (fin_in m c main_arg3 (by decide))).trans (((fin3 m (sib c)).trans (by unfold got3; rw [sib_sib])).symm)
  | 4 => exact (congrArg _ (fin_in m c main_arg4 (by decide))).trans (((fin4 m (sib c)).trans (by unfold got4; rw [sib_sib])).symm)

/-! ## The run -/

/-- The cells: of the sender's wait, of the receiver's. -/
abbrev sn (k : Fin 5) : plan.J := plan.snd k
abbrev rc (k : Fin 5) : plan.J := plan.rcv k

abbrev S₀ : List plan.R := ([0, 1, 2, 3, 4] : List (Fin 5))
abbrev B₀ : List plan.J := [sn 0, rc 0, sn 1, rc 1, sn 2, rc 2, sn 3, rc 3, sn 4, rc 4]

theorem dev_eq (c : Dev nD) : (⟨k0_dev1 c, k0_dev1_lt c⟩ : Dev nD) = sib c := by revert c; decide

theorem routes (c : Dev nD) : τ.routes (c.tc : Thread nD τ) ((sib c).tc : Thread nD τ) = true := by revert c; decide
theorem none_owed {j : plan.J} : ∀ k ∈ ([] : List plan.R), plan.lev j < plan.lvl k := fun _ h => absurd h List.not_mem_nil

theorem body (c : Dev nD) (t : Fin cfg0.N) : St (fin m) plan m ins c S₀ [] B₀
    ⊢ wp frame (wpE (defs₀ (F := F)) Variants.none (c.tc : Thread nD τ) none) Set.univ (bodyAt0 t) (fun _ => St (fin m) plan m ins c [] [] []) := by
  unfold bodyAt0
  simp only [cc0_grad_pair_exchange_eq_skeleton]
  unfold cc0_grad_pair_exchange_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  refine step_send _ _ c (P := plan) (0 : Fin 5) (dev_eq c) (routes c) (land m c 0) (from_arg _ _ _ c _ (inp_ins 0) _) ?_
  refine step_send _ _ c (P := plan) (1 : Fin 5) (dev_eq c) (routes c) (land m c 1) (from_arg _ _ _ c _ (inp_ins 1) _) ?_
  refine step_send _ _ c (P := plan) (2 : Fin 5) (dev_eq c) (routes c) (land m c 2) (from_arg _ _ _ c _ (inp_ins 2) _) ?_
  refine step_send _ _ c (P := plan) (3 : Fin 5) (dev_eq c) (routes c) (land m c 3) (from_arg _ _ _ c _ (inp_ins 3) _) ?_
  refine step_send _ _ c (P := plan) (4 : Fin 5) (dev_eq c) (routes c) (land m c 4) (from_arg _ _ _ c _ (inp_ins 4) _) ?_
  refine step_wait _ _ c (sn 0) rfl rfl none_owed List.not_mem_nil ?_
  refine step_wait _ _ c (rc 0) rfl rfl none_owed trivial ?_
  refine step_wait _ _ c (sn 1) rfl rfl none_owed List.not_mem_nil ?_
  refine step_wait _ _ c (rc 1) rfl rfl none_owed trivial ?_
  refine step_wait _ _ c (sn 2) rfl rfl none_owed List.not_mem_nil ?_
  refine step_wait _ _ c (rc 2) rfl rfl none_owed trivial ?_
  refine step_wait _ _ c (sn 3) rfl rfl none_owed List.not_mem_nil ?_
  refine step_wait _ _ c (rc 3) rfl rfl none_owed trivial ?_
  refine step_wait _ _ c (sn 4) rfl rfl none_owed List.not_mem_nil ?_
  refine step_wait _ _ c (rc 4) rfl rfl none_owed trivial ?_
  rw [wp_ret]; exact fupd_intro

theorem waits_all : ∀ j : Fin 5 ⊕ Fin 5 ⊕ Fin 0, j ∈ ([.inl 0, .inr (.inl 0), .inl 1, .inr (.inl 1), .inl 2, .inr (.inl 2), .inl 3, .inr (.inl 3), .inl 4, .inr (.inl 4)] :
    List (Fin 5 ⊕ Fin 5 ⊕ Fin 0)) := by
  rintro (k | k | k) <;> fin_cases k <;> simp

theorem full : plan.Full S₀ [] B₀ where
  nS := by decide
  nT := List.nodup_nil
  nB := by decide
  aS := by decide
  aT l := l.elim0
  aB := waits_all

theorem land_ref (c : Dev nD) (k : Fin 5) : (plan.land c (.inl k)).1 = out k := by
  match k with
  | 0 => rfl
  | 1 => rfl
  | 2 => rfl
  | 3 => rfl
  | 4 => rfl

theorem out_inj : ∀ i j : Fin 5, out i = out j → i = j := by decide
theorem out_scoped : ∀ k : Fin 5, ¬ (out k).isScoped := by decide

theorem placed : plan.Placed ins where
  insU := by decide
  outU c n := by
    rcases n with k | l
    · exact ⟨fun h => out_scoped k (land_ref c k ▸ h), fun h => ins_out _ h k (land_ref c k)⟩
    · exact l.elim0
  apart c i j e x hi hj := by
    rcases i with i | l
    · rcases j with j | l
      · exact congrArg _ (out_inj i j ((land_ref c i).symm.trans (e.trans (land_ref c j))))
      · exact l.elim0
    · exact l.elim0

/-- The arrays read end as they began; those written hold what the other core sent. -/
def Post (s : MemSt nD τ sig (Elt F)) : Prop := ∀ c : Dev nD,
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v1_0) = got0 m c
  ∧ s.mem ((c.tc : Thread nD τ).loc main_v1_1) = got1 m c
  ∧ s.mem ((c.tc : Thread nD τ).loc main_v1_2) = got2 m c
  ∧ s.mem ((c.tc : Thread nD τ).loc main_v1_3) = got3 m c
  ∧ s.mem ((c.tc : Thread nD τ).loc main_v1_4) = got4 m c

theorem post_of (s : MemSt nD τ sig (Elt F)) (h : ∀ c, QY plan (fin m) ins c s) : Post m s := fun c => by
  have ha (k : Fin 5) : s.mem ((c.tc : Thread nD τ).loc (inp k)) = m ((c.tc : Thread nD τ).loc (inp k)) :=
    ((h c).1 _ (inp_ins k)).trans (fin_in m c _ (ins_out _ (inp_ins k)))
  refine ⟨⟨ha 0, ha 1, ha 2, ha 3, ha 4⟩, ?_, ?_, ?_, ?_, ?_⟩
  · exact (funext fun x => (h c).2 (.inl (0 : Fin 5)) x (by show x ∈ (View.whole main_v1_0).set; rw [View.set_whole]; exact Finset.mem_univ _)).trans (fin0 m c)
  · exact (funext fun x => (h c).2 (.inl (1 : Fin 5)) x (by show x ∈ (View.whole main_v1_1).set; rw [View.set_whole]; exact Finset.mem_univ _)).trans (fin1 m c)
  · exact (funext fun x => (h c).2 (.inl (2 : Fin 5)) x (by show x ∈ (View.whole main_v1_2).set; rw [View.set_whole]; exact Finset.mem_univ _)).trans (fin2 m c)
  · exact (funext fun x => (h c).2 (.inl (3 : Fin 5)) x (by show x ∈ (View.whole main_v1_3).set; rw [View.set_whole]; exact Finset.mem_univ _)).trans (fin3 m c)
  · exact (funext fun x => (h c).2 (.inl (4 : Fin 5)) x (by show x ∈ (View.whole main_v1_4).set; rw [View.set_whole]; exact Finset.mem_univ _)).trans (fin4 m c)

theorem run_main (ρ : Dev nD → PrngReg) :
    θ_run (defs (F := F)) (onTc (τ := τ) (main (F := F))) ⟨m, fun _ => 0, ρ⟩ (fun r => Post m r.2 ∧ r.2.sem = fun _ => 0) :=
  θ_run_talk plan m (fin m) ins cfgs ⟨fun w => w.elim0⟩ N_0 cellOf_inj winFacts0 (by decide) (fun c => scopedRest0_eq c) defs₀ Variants.none ρ main
    (fun _ => rfl) full placed (fun c b hb => fin_in m c b (ins_out b hb)) (fun c t => body m c t)
    (fun s h hs => ⟨post_of m s h, sem_eq_zero_of_scoped (by decide) hs⟩)

end Cert.ExchangeProof
-- ==== Proof.Regroup.lean ====
/-
Re-indexings of arrays read at one index: reshapes that only cut a leading axis or drop axes of extent one, over any
number of rows and columns.
-/
module

public import Idealize.ShloMosaic.Lib.Pointwise.ShapeOpsCore
public import Idealize.ShloMosaic.Lib.Pointwise.SelectCore
public import Idealize.ShloMosaic.Lib.Pointwise.Index
public import Idealize.ShloMosaic.Lib.Pipeline.Value
public import Idealize.ShloMosaic.Lib.ValueIdxRank6
public import Idealize.ShloMosaic.Lib.Layout
public import proofs.«01_k».proof.Proof.Mesh

@[expose] public section

namespace Cert.Regroup

open Idealize.ShloMosaic

variable {α : Type} {h n : Nat}

/-- The reference of the exchange at an index: block `b` of the result, of core `q = b / 4 % 2`, is half `q` of the
    block of the chip's other core, four blocks away. -/
theorem trade_at (x : (⟨4, ![32, 2, h, n]⟩ : Shape).Idx → α)
    (h1 : (⟨4, ![32, 2, h, n]⟩ : Shape).ShapeCasts ⟨6, ![4, 2, 4, 2, h, n]⟩)
    (h2 : (⟨6, ![4, 1, 4, 1, h, n]⟩ : Shape).ShapeCasts ⟨4, ![4, 4, h, n]⟩)
    (s1 : (⟨6, ![4, 2, 4, 2, h, n]⟩ : Shape).Slices ![0, 1, 0, 0, 0, 0] ⟨6, ![4, 1, 4, 1, h, n]⟩)
    (s2 : (⟨6, ![4, 2, 4, 2, h, n]⟩ : Shape).Slices ![0, 0, 0, 1, 0, 0] ⟨6, ![4, 1, 4, 1, h, n]⟩)
    (hb : (⟨4, ![4, 4, h, n]⟩ : Shape).BroadcastsInDim ⟨5, ![4, 1, 4, h, n]⟩ ![0, 2, 3, 4])
    (hc : Shape.Concatenates [⟨5, ![4, 1, 4, h, n]⟩, ⟨5, ![4, 1, 4, h, n]⟩] ⟨5, ![4, 2, 4, h, n]⟩ 1)
    (h3 : (⟨5, ![4, 2, 4, h, n]⟩ : Shape).ShapeCasts ⟨3, ![32, h, n]⟩)
    (b : Fin 32) (i : Fin h) (j : Fin n) :
    shapeCast ⟨3, ![32, h, n]⟩ (concatenate ⟨5, ![4, 2, 4, h, n]⟩ 1
        [⟨⟨5, ![4, 1, 4, h, n]⟩, broadcastInDim ⟨5, ![4, 1, 4, h, n]⟩ ![0, 2, 3, 4] hb (shapeCast ⟨4, ![4, 4, h, n]⟩
            (extractStridedSlice ⟨6, ![4, 1, 4, 1, h, n]⟩ ![0, 1, 0, 0, 0, 0] (shapeCast ⟨6, ![4, 2, 4, 2, h, n]⟩ x h1) s1) h2)⟩,
         ⟨⟨5, ![4, 1, 4, h, n]⟩, broadcastInDim ⟨5, ![4, 1, 4, h, n]⟩ ![0, 2, 3, 4] hb (shapeCast ⟨4, ![4, 4, h, n]⟩
            (extractStridedSlice ⟨6, ![4, 1, 4, 1, h, n]⟩ ![0, 0, 0, 1, 0, 0] (shapeCast ⟨6, ![4, 2, 4, 2, h, n]⟩ x h1) s2) h2)⟩] hc) h3
      (ix3 b i j) = x (ix4 ⟨8 * (b.val / 8) + (b.val / 4 % 2 + 1) % 2 * 4 + b.val % 4, by omega⟩
          ⟨b.val / 4 % 2, by omega⟩ i j) := by
  have e1 : Shape.reshapeEquiv h3 (ix3 b i j)
      = ix5 (⟨b.val / 8, by omega⟩ : Fin 4) (⟨b.val / 4 % 2, by omega⟩ : Fin 2) (⟨b.val % 4, by omega⟩ : Fin 4) i j :=
    Shape.reshapeEquiv_eq_of_rowMajor h3 (by
      rw [Shape.rowMajor_val_five, Shape.rowMajor_val_three]
      show ((((b.val / 8) * 2 + b.val / 4 % 2) * 4 + b.val % 4) * h + i.val) * n + j.val = (b.val * h + i.val) * n + j.val
      rw [show ((b.val / 8) * 2 + b.val / 4 % 2) * 4 + b.val % 4 = b.val by omega])
  have e2 (s p : Fin 4) : Shape.reshapeEquiv h2 (ix4 s p i j) = ix6 s (0 : Fin 1) p (0 : Fin 1) i j :=
    Shape.reshapeEquiv_eq_of_rowMajor h2 (by
      rw [Shape.rowMajor_val_six, Shape.rowMajor_val_four]
      show ((((s.val * 1 + 0) * 4 + p.val) * 1 + 0) * h + i.val) * n + j.val = ((s.val * 4 + p.val) * h + i.val) * n + j.val
      simp only [Nat.mul_one, Nat.add_zero])
  have e3 (s : Fin 4) (q : Fin 2) (p : Fin 4) (r : Fin 2) : Shape.reshapeEquiv h1 (ix6 s q p r i j)
      = ix4 ⟨8 * s.val + q.val * 4 + p.val, by omega⟩ r i j :=
    Shape.reshapeEquiv_eq_of_rowMajor h1 (by
      rw [Shape.rowMajor_val_six, Shape.rowMajor_val_four]
      show (((8 * s.val + q.val * 4 + p.val) * 2 + r.val) * h + i.val) * n + j.val
        = ((((s.val * 2 + q.val) * 4 + p.val) * 2 + r.val) * h + i.val) * n + j.val
      rw [show (8 * s.val + q.val * 4 + p.val) = (s.val * 2 + q.val) * 4 + p.val by omega])
  have eb (y : (⟨4, ![4, 4, h, n]⟩ : Shape).Idx → α) (s p : Fin 4) :
      broadcastInDim ⟨5, ![4, 1, 4, h, n]⟩ ![0, 2, 3, 4] hb y (ix5 s (0 : Fin 1) p i j) = y (ix4 s p i j) :=
    congrArg y (by
      funext a
      apply Fin.ext
      fin_cases a
      · rfl
      · rfl
      · rcases Decidable.em (h = 1) with hh | hh
        · exact (congrArg Fin.val (dif_pos hh)).trans (show 0 = i.val by have := i.isLt; omega)
        · exact congrArg Fin.val (dif_neg hh)
      · rcases Decidable.em (n = 1) with hh | hh
        · exact (congrArg Fin.val (dif_pos hh)).trans (show 0 = j.val by have := j.isLt; omega)
        · exact congrArg Fin.val (dif_neg hh))
  rw [show ∀ y : (⟨5, ![4, 2, 4, h, n]⟩ : Shape).Idx → α, shapeCast ⟨3, ![32, h, n]⟩ y h3 (ix3 b i j) = y (Shape.reshapeEquiv h3 (ix3 b i j)) from fun _ => rfl, e1]
  have es (s p : Fin 4) (o : Fin 6 → Nat) (q r : Fin 2) (ho : o = ![0, q.val, 0, r.val, 0, 0])
      (sl : (⟨6, ![4, 2, 4, 2, h, n]⟩ : Shape).Slices o ⟨6, ![4, 1, 4, 1, h, n]⟩) :
      broadcastInDim ⟨5, ![4, 1, 4, h, n]⟩ ![0, 2, 3, 4] hb (shapeCast ⟨4, ![4, 4, h, n]⟩
        (extractStridedSlice ⟨6, ![4, 1, 4, 1, h, n]⟩ o (shapeCast ⟨6, ![4, 2, 4, 2, h, n]⟩ x h1) sl) h2) (ix5 s (0 : Fin 1) p i j)
        = x (ix4 ⟨8 * s.val + q.val * 4 + p.val, by omega⟩ r i j) := by
    subst ho
    rw [eb, show ∀ y : (⟨6, ![4, 1, 4, 1, h, n]⟩ : Shape).Idx → α, shapeCast ⟨4, ![4, 4, h, n]⟩ y h2 (ix4 s p i j) = y (Shape.reshapeEquiv h2 (ix4 s p i j)) from fun _ => rfl, e2]
    refine Eq.trans (congrArg x (congrArg (Shape.reshapeEquiv h1) (?_ : _ = ix6 s q p r i j))) (congrArg x (e3 s q p r))
    funext a
    apply Fin.ext
    fin_cases a
    · exact Nat.zero_add _
    · exact Nat.add_zero _
    · exact Nat.zero_add _
    · exact Nat.add_zero _
    · exact Nat.zero_add _
    · exact Nat.zero_add _
  rcases Nat.mod_two_eq_zero_or_one (b.val / 4) with hq | hq
  · rw [concatenate_pair_apply_left (t := ⟨5, ![4, 2, 4, h, n]⟩) (s₁ := ⟨5, ![4, 1, 4, h, n]⟩) (s₂ := ⟨5, ![4, 1, 4, h, n]⟩) 1 _ _ hc _ rfl
      (ix5 (⟨b.val / 8, by omega⟩ : Fin 4) (0 : Fin 1) (⟨b.val % 4, by omega⟩ : Fin 4) i j) (by
        intro a; fin_cases a
        · rfl
        · exact hq.symm
        · rfl
        · rfl
        · rfl)]
    refine (es _ _ _ 1 0 rfl s1).trans ?_
    congr 2
    · apply Fin.ext; show 8 * (b.val / 8) + 1 * 4 + b.val % 4 = _; simp only [hq]
    · exact Fin.ext hq.symm
  · rw [concatenate_pair_apply_right (t := ⟨5, ![4, 2, 4, h, n]⟩) (s₁ := ⟨5, ![4, 1, 4, h, n]⟩) (s₂ := ⟨5, ![4, 1, 4, h, n]⟩) 1 _ _ hc _ rfl rfl
      (ix5 (⟨b.val / 8, by omega⟩ : Fin 4) (0 : Fin 1) (⟨b.val % 4, by omega⟩ : Fin 4) i j) (by
        intro a ha; fin_cases a
        · rfl
        · exact absurd rfl ha
        · rfl
        · rfl
        · rfl) (by show 0 + 1 = b.val / 4 % 2; omega)]
    refine (es _ _ _ 0 1 rfl s2).trans ?_
    congr 2
    · apply Fin.ext; show 8 * (b.val / 8) + 0 * 4 + b.val % 4 = _; simp only [hq]
    · exact Fin.ext hq.symm

/-- Half `q` of each block, read through a slice and a dropped axis. -/
theorem half_at {p q : Nat} (hq : q < 2) (o : Fin 4 → Nat) (ho : o = ![0, q, 0, 0])
    (hi : ∀ a, o a + (⟨4, ![p, 1, h, n]⟩ : Shape).size a ≤ (⟨4, ![p, 2, h, n]⟩ : Shape).size a)
    (hh : (⟨3, ![p, h, n]⟩ : Shape).numel = (⟨4, ![p, 1, h, n]⟩ : Shape).numel) (a : Fin p) (i : Fin h) (j : Fin n) :
    (Rect.unit (s := ⟨4, ![p, 2, h, n]⟩) o (⟨4, ![p, 1, h, n]⟩ : Shape).size hi).emb (Shape.reshapeEquiv hh (ix3 a i j))
      = ix4 a ⟨q, hq⟩ i j := by
  have e : Shape.reshapeEquiv hh (ix3 a i j) = ix4 a (0 : Fin 1) i j :=
    Shape.reshapeEquiv_eq_of_rowMajor hh (by
      rw [Shape.rowMajor_val_four, Shape.rowMajor_val_three]
      show (((a.val * 1 + 0) * h + i.val) * n + j.val) = (a.val * h + i.val) * n + j.val
      simp only [Nat.mul_one, Nat.add_zero])
  subst ho
  rw [e]
  funext b
  apply Fin.ext
  fin_cases b
  · show 0 + 1 * a.val = a.val; omega
  · show q + 1 * 0 = q; omega
  · show 0 + 1 * i.val = i.val; omega
  · show 0 + 1 * j.val = j.val; omega

/-- A device that holds half `c % 2` of the other core's blocks holds its block of the exchange's result. -/
theorem traded (c : Dev 8) (G : (⟨3, ![4, h, n]⟩ : Shape).Idx → α) (A : (⟨4, ![4, 2, h, n]⟩ : Shape).Idx → α)
    (M : (⟨4, ![32, 2, h, n]⟩ : Shape).Idx → α) (T : (⟨3, ![32, h, n]⟩ : Shape).Idx → α)
    (tA : Layout.Tiles ⟨4, ![4, 2, h, n]⟩ ⟨4, ![32, 2, h, n]⟩ 0 8) (tT : Layout.Tiles ⟨3, ![4, h, n]⟩ ⟨3, ![32, h, n]⟩ 0 8)
    (hA : A = Layout.block _ _ 0 8 (Mesh.sib c) M tA)
    (hG : ∀ (a : Fin 4) (i : Fin h) (j : Fin n), G (ix3 a i j) = A (ix4 a ⟨c.val % 2, Nat.mod_lt _ Nat.two_pos⟩ i j))
    (hT : ∀ (b : Fin 32) (i : Fin h) (j : Fin n), T (ix3 b i j)
      = M (ix4 ⟨8 * (b.val / 8) + (b.val / 4 % 2 + 1) % 2 * 4 + b.val % 4, by omega⟩ ⟨b.val / 4 % 2, by omega⟩ i j)) :
    G = Layout.block _ _ 0 8 c T tT := by
  funext x
  obtain ⟨a, i, j, rfl⟩ : ∃ (a : Fin 4) (i : Fin h) (j : Fin n), x = ix3 a i j := ⟨_, _, _, eq_ix3 x⟩
  have e : tT.idx c (ix3 a i j) = ix3 (⟨4 * c.val + a.val, by omega⟩ : Fin 32) i j := by
    funext b
    apply Fin.ext
    rw [Layout.Tiles.idx_val]
    fin_cases b
    · show c.val * 4 + a.val = 4 * c.val + a.val; omega
    · rfl
    · rfl
  rw [hG, hA, Layout.block_apply, Layout.block_apply, e, hT]
  refine congrArg M ?_
  funext b
  apply Fin.ext
  rw [Layout.Tiles.idx_val]
  fin_cases b
  · show (Mesh.sib c).val * 4 + a.val
      = 8 * ((4 * c.val + a.val) / 8) + ((4 * c.val + a.val) / 4 % 2 + 1) % 2 * 4 + (4 * c.val + a.val) % 4
    rw [Mesh.sib_val]; omega
  · show c.val % 2 = (4 * c.val + a.val) / 4 % 2; omega
  · rfl
  · rfl

end Cert.Regroup
-- ==== Proof.ExchangeValue.lean ====
/-
What the exchange leaves on a device is that device's block of its reference's result.
-/
module

public import proofs.«01_k».proof.Proof.Exchange
public import proofs.«01_k».proof.Proof.Regroup
public import proofs.«01_k».proof.Proof.Gen.ExchangeRef.Run

@[expose] public section

noncomputable section

namespace Cert.ExchangeProof

open Cert.ExchangeIdeal Cert.ExchangeIdeal.Gen Cert.Mesh Cert.Regroup

open Idealize.ShloMosaic
open Idealize.ShloMosaic.TcCoe
open Idealize.SL.Sem

variable {F : FTy → Type} [FloatOps F]
variable (m : (ℓ : Loc nD τ sig) → Buf (Elt F) ℓ)

theorem flip (c : Dev 8) : 1 - (sib c).val % 2 = c.val % 2 := by rw [sib_val]; omega

theorem got0_at (c : Dev nD) (a : Fin 4) (i : Fin 1024) (j : Fin 4100) : got0 m c (ix3 a i j)
    = m (((sib c).tc : Thread nD τ).loc main_arg0) (ix4 a ⟨c.val % 2, Nat.mod_lt _ Nat.two_pos⟩ i j) :=
  congrArg (m (((sib c).tc : Thread nD τ).loc main_arg0)) (half_at (h := 1024) (n := 4100) (p := 4) _ _ ((k0_off1_eq (sib c)).trans (by rw [flip])) _ _ a i j)

theorem got1_at (c : Dev nD) (a : Fin 4) (i : Fin 256) (j : Fin 2048) : got1 m c (ix3 a i j)
    = m (((sib c).tc : Thread nD τ).loc main_arg1) (ix4 a ⟨c.val % 2, Nat.mod_lt _ Nat.two_pos⟩ i j) :=
  congrArg (m (((sib c).tc : Thread nD τ).loc main_arg1)) (half_at (h := 256) (n := 2048) (p := 4) _ _ ((k0_off2_eq (sib c)).trans (by rw [flip])) _ _ a i j)

theorem got2_at (c : Dev nD) (a : Fin 4) (i : Fin 1024) (j : Fin 1408) : got2 m c (ix3 a i j)
    = m (((sib c).tc : Thread nD τ).loc main_arg2) (ix4 a ⟨c.val % 2, Nat.mod_lt _ Nat.two_pos⟩ i j) :=
  congrArg (m (((sib c).tc : Thread nD τ).loc main_arg2)) (half_at (h := 1024) (n := 1408) (p := 4) _ _ ((k0_off3_eq (sib c)).trans (by rw [flip])) _ _ a i j)

theorem got3_at (c : Dev nD) (a : Fin 4) (i : Fin 1024) (j : Fin 1408) : got3 m c (ix3 a i j)
    = m (((sib c).tc : Thread nD τ).loc main_arg3) (ix4 a ⟨c.val % 2, Nat.mod_lt _ Nat.two_pos⟩ i j) :=
  congrArg (m (((sib c).tc : Thread nD τ).loc main_arg3)) (half_at (h := 1024) (n := 1408) (p := 4) _ _ ((k0_off3_eq (sib c)).trans (by rw [flip])) _ _ a i j)

theorem got4_at (c : Dev nD) (a : Fin 4) (i : Fin 704) (j : Fin 2048) : got4 m c (ix3 a i j)
    = m (((sib c).tc : Thread nD τ).loc main_arg4) (ix4 a ⟨c.val % 2, Nat.mod_lt _ Nat.two_pos⟩ i j) :=
  congrArg (m (((sib c).tc : Thread nD τ).loc main_arg4)) (half_at (h := 704) (n := 2048) (p := 4) _ _ ((k0_off4_eq (sib c)).trans (by rw [flip])) _ _ a i j)

end Cert.ExchangeProof
-- ==== Proof.ExchangeClaim.lean ====
/-
The claims about the exchange of gradient halves.
-/
module

public import proofs.«01_k».proof.Defs
public import proofs.«01_k».proof.Proof.ExchangeValue
public import proofs.«01_k».proof.Proof.Gen.Exchange
public import proofs.«01_k».proof.Proof.Gen.ExchangeRefIdeal.Run

@[expose] public section

noncomputable section

namespace Cert.ExchangeProof

open Cert.Regroup

open Idealize.ShloMosaic
open Idealize.ShloMosaic.TcCoe
open Idealize.SL.Sem

theorem frame : Cert.quiescent_Exchange := fun m ρ _ =>
  (θ_run Cert.ExchangeIdeal.defs _ _).mono (fun _ h => ⟨fun c => (h.1 c).1, h.2⟩) (run_main (F := Bits) m ρ)

theorem frame_ideal : Cert.quiescent_ExchangeIdeal := fun m ρ _ =>
  (θ_run Cert.ExchangeIdeal.defs _ _).mono (fun _ h => ⟨fun c => (h.1 c).1, h.2⟩) (run_main (F := Ideal) m ρ)

theorem frame_ref : Cert.quiescent_ExchangeRef := fun m ρ _ =>
  (θ_run Cert.ExchangeRef.defs _ _).mono (fun r h => ⟨fun c => (h c).2.2.2.2.2, sem_eq_zero_of_no_sems (by decide) r.2⟩)
    (Cert.ExchangeRef.Value.run (F := Bits) m ρ)

theorem frame_ref_ideal : Cert.quiescent_ExchangeRefIdeal := fun m ρ _ =>
  (θ_run Cert.ExchangeRefIdeal.defs _ _).mono (fun r h => ⟨fun c => (h c).2.2.2.2.2, sem_eq_zero_of_no_sems (by decide) r.2⟩)
    (Cert.ExchangeRefIdeal.Value.run (F := Ideal) m ρ)

theorem preserves : Cert.preserves_Exchange_ExchangeIdeal := trivial

theorem bitexact : Cert.bitexact_Exchange_ExchangeRef := by
  intro m ρ m' ρ' _ hagree
  refine ⟨_, _, _, _, _, ?_, (θ_run Cert.ExchangeRef.defs _ _).mono (fun _ h => h 0) (Cert.ExchangeRef.Value.run (F := Bits) m' ρ')⟩
  refine (θ_run Cert.ExchangeIdeal.defs _ _).mono (fun _ h c => ?_) (run_main (F := Bits) m ρ)
  obtain ⟨a0, a1, a2, a3, a4⟩ := hagree (Mesh.sib c)
  obtain ⟨hi, h0, h1, h2, h3, h4⟩ := h.1 c
  exact ⟨h0.trans (traded (h := 1024) (n := 4100) c _ _ _ _ _ _ a0 (got0_at (F := Bits) m c) (trade_at _ _ _ _ _ _ _ _)),
    h1.trans (traded (h := 256) (n := 2048) c _ _ _ _ _ _ a1 (got1_at (F := Bits) m c) (trade_at _ _ _ _ _ _ _ _)),
    h2.trans (traded (h := 1024) (n := 1408) c _ _ _ _ _ _ a2 (got2_at (F := Bits) m c) (trade_at _ _ _ _ _ _ _ _)),
    h3.trans (traded (h := 1024) (n := 1408) c _ _ _ _ _ _ a3 (got3_at (F := Bits) m c) (trade_at _ _ _ _ _ _ _ _)),
    h4.trans (traded (h := 704) (n := 2048) c _ _ _ _ _ _ a4 (got4_at (F := Bits) m c) (trade_at _ _ _ _ _ _ _ _)), hi⟩

theorem algebraic : Cert.algebraic_ExchangeIdeal_ExchangeRefIdeal := by
  intro m ρ m' ρ' _ hagree
  refine ⟨_, _, _, _, _, ?_, (θ_run Cert.ExchangeRefIdeal.defs _ _).mono (fun _ h => h 0) (Cert.ExchangeRefIdeal.Value.run (F := Ideal) m' ρ')⟩
  refine (θ_run Cert.ExchangeIdeal.defs _ _).mono (fun _ h c => ?_) (run_main (F := Ideal) m ρ)
  obtain ⟨a0, a1, a2, a3, a4⟩ := hagree (Mesh.sib c)
  obtain ⟨hi, h0, h1, h2, h3, h4⟩ := h.1 c
  exact ⟨h0.trans (traded (h := 1024) (n := 4100) c _ _ _ _ _ _ a0 (got0_at (F := Ideal) m c) (trade_at _ _ _ _ _ _ _ _)),
    h1.trans (traded (h := 256) (n := 2048) c _ _ _ _ _ _ a1 (got1_at (F := Ideal) m c) (trade_at _ _ _ _ _ _ _ _)),
    h2.trans (traded (h := 1024) (n := 1408) c _ _ _ _ _ _ a2 (got2_at (F := Ideal) m c) (trade_at _ _ _ _ _ _ _ _)),
    h3.trans (traded (h := 1024) (n := 1408) c _ _ _ _ _ _ a3 (got3_at (F := Ideal) m c) (trade_at _ _ _ _ _ _ _ _)),
    h4.trans (traded (h := 704) (n := 2048) c _ _ _ _ _ _ a4 (got4_at (F := Ideal) m c) (trade_at _ _ _ _ _ _ _ _)), hi⟩

end Cert.ExchangeProof
-- ==== Proof.Pieces.lean ====
/-
Arrays written in pieces: blocks of rows of one matrix of a stack, what they hold and that they do not meet.
-/
module

public import proofs.«01_k».proof.Proof.Mem
public import proofs.«01_k».proof.Proof.Regroup

@[expose] public section

noncomputable section

namespace Cert.Pieces

open Cert.Talk

open Idealize.ShloMosaic
open Idealize.ShloMosaic.TcCoe

/-! ## Several arrays set at once -/

section
variable {nD : Nat} {τ : Topo} {sig : RefSig} {Val : EltTy → Type} {n : Nat}

/-- `m` with the arrays `b k`, `k` in `l`, of every device `c` holding `f k c`. -/
def puts (b : Fin n → Ref sig .tc) (f : (k : Fin n) → Dev nD → (b k).ty.Contents Val) (l : List (Fin n))
    (m : (ℓ : Loc nD τ sig) → Buf Val ℓ) : (ℓ : Loc nD τ sig) → Buf Val ℓ :=
  l.foldr (fun k m => put (b k) (f k) m) m

theorem puts_ne (b : Fin n → Ref sig .tc) (f : (k : Fin n) → Dev nD → (b k).ty.Contents Val) (l : List (Fin n))
    (m : (ℓ : Loc nD τ sig) → Buf Val ℓ) (c : Dev nD) {b' : Ref sig .tc} (h : ∀ k, b' ≠ b k) :
    puts b f l m ((c.tc : Thread nD τ).loc b') = m ((c.tc : Thread nD τ).loc b') := by
  induction l with
  | nil => rfl
  | cons a l ih => exact (put_ne (b a) (f a) (puts b f l m) c (h a)).trans ih

theorem puts_at (b : Fin n → Ref sig .tc) (hb : Function.Injective b) (f : (k : Fin n) → Dev nD → (b k).ty.Contents Val)
    (l : List (Fin n)) (m : (ℓ : Loc nD τ sig) → Buf Val ℓ) (c : Dev nD) (k : Fin n) (hk : k ∈ l) :
    puts b f l m ((c.tc : Thread nD τ).loc (b k)) = f k c := by
  induction l with
  | nil => exact absurd hk List.not_mem_nil
  | cons a l ih =>
    by_cases h : k = a
    · subst h; exact put_at (b k) (f k) (puts b f l m) c
    · exact (put_ne (b a) (f a) (puts b f l m) c fun e => h (hb e)).trans (ih ((List.mem_cons.mp hk).resolve_left h))

theorem mem_congr (m : (ℓ : Loc nD τ sig) → Buf Val ℓ) (b : Ref sig .tc) {d d' : Dev nD} (h : d = d') :
    (m ((d.tc : Thread nD τ).loc b) : b.ty.Contents Val) = m ((d'.tc : Thread nD τ).loc b) := by subst h; rfl

theorem mem_at (m : (ℓ : Loc nD τ sig) → Buf Val ℓ) (b : Ref sig .tc) (d d' : Dev nD) (h : d = d') (y : b.ty.Idx) :
    (m ((d.tc : Thread nD τ).loc b) : b.ty.Contents Val) y = (m ((d'.tc : Thread nD τ).loc b) : b.ty.Contents Val) y := by subst h; rfl

theorem mem_of_get {α : Type} (l : List α) {a : α} (h : ∃ i : Fin l.length, l.get i = a) : a ∈ l := by
  obtain ⟨i, rfl⟩ := h; exact List.get_mem l i

end

/-! ## Blocks of rows -/

section
variable {p q h n : Nat}

/-- Row `i` of the block of `h` rows that starts at row `r` of matrix `s`. -/
theorem rect_at {s r : Nat} (hs : s < p) (hr : r + h ≤ q) (o : Fin 3 → Nat) (ho : o = ![s, r, 0])
    (hi : ∀ a, o a + (⟨3, ![1, h, n]⟩ : Shape).size a ≤ (⟨3, ![p, q, n]⟩ : Shape).size a)
    (hh : (⟨2, ![h, n]⟩ : Shape).numel = (⟨3, ![1, h, n]⟩ : Shape).numel) (i : Fin h) (j : Fin n) :
    (Rect.unit (s := ⟨3, ![p, q, n]⟩) o (⟨3, ![1, h, n]⟩ : Shape).size hi).emb (Shape.reshapeEquiv hh (ix2 i j))
      = ix3 (⟨s, hs⟩ : Fin p) (⟨r + i.val, by omega⟩ : Fin q) j := by
  have e : Shape.reshapeEquiv hh (ix2 i j) = ix3 (0 : Fin 1) i j :=
    Shape.reshapeEquiv_eq_of_rowMajor hh (by
      rw [Shape.rowMajor_val_three, Shape.rowMajor_val_two]
      show ((0 * h + i.val) * n + j.val) = i.val * n + j.val
      simp only [Nat.zero_mul, Nat.zero_add])
  subst ho
  rw [e]
  funext b
  apply Fin.ext
  fin_cases b
  · show s + 1 * 0 = s; omega
  · show r + 1 * i.val = r + i.val; omega
  · show 0 + 1 * j.val = j.val; omega

/-- Row `i` of the block of `h` rows that starts at row `r` of a matrix. -/
theorem rows_at {r : Nat} (hr : r + h ≤ q) (o : Fin 2 → Nat) (ho : o = ![r, 0])
    (hi : ∀ a, o a + (⟨2, ![h, n]⟩ : Shape).size a ≤ (⟨2, ![q, n]⟩ : Shape).size a) (i : Fin h) (j : Fin n) :
    (Rect.unit (s := ⟨2, ![q, n]⟩) o (⟨2, ![h, n]⟩ : Shape).size hi).emb (ix2 i j)
      = ix2 (⟨r + i.val, by omega⟩ : Fin q) j := by
  subst ho
  funext b
  apply Fin.ext
  fin_cases b
  · show r + 1 * i.val = r + i.val; omega
  · show 0 + 1 * j.val = j.val; omega

variable {sig : RefSig} {sp : Space} {e : EltTy} {Val : EltTy → Type}
variable (M : Memref sig .tc sp ⟨3, ![p, q, n]⟩ e)

/-- The block's place in the array. -/
theorem block_emb {s r : Nat} (hs : s < p) (hr : r + h ≤ q) (o : Fin 3 → Nat) (ho : o = ![s, r, 0])
    (hi : ∀ a, o a + (⟨3, ![1, h, n]⟩ : Shape).size a ≤ (⟨3, ![p, q, n]⟩ : Shape).size a)
    (hu : ∀ a, (Rect.unit (s := ⟨3, ![p, q, n]⟩) o (⟨3, ![1, h, n]⟩ : Shape).size hi).stride a = 1)
    (hq : (⟨3, ![1, h, n]⟩ : Shape).Squeezes ⟨2, ![h, n]⟩) (i : Fin h) (j : Fin n) :
    ((M.slice (Rect.unit (s := ⟨3, ![p, q, n]⟩) o (⟨3, ![1, h, n]⟩ : Shape).size hi) hu).squeeze ⟨2, ![h, n]⟩ hq).view.emb (ix2 i j)
      = M.view.emb (ix3 (⟨s, hs⟩ : Fin p) (⟨r + i.val, by omega⟩ : Fin q) j) :=
  congrArg M.view.emb (rect_at hs hr o ho hi hq.numel_eq i j)

/-- An index of the block is one of its rows'. -/
theorem block_set {s r : Nat} (hs : s < p) (hr : r + h ≤ q) (o : Fin 3 → Nat) (ho : o = ![s, r, 0])
    (hi : ∀ a, o a + (⟨3, ![1, h, n]⟩ : Shape).size a ≤ (⟨3, ![p, q, n]⟩ : Shape).size a)
    (hu : ∀ a, (Rect.unit (s := ⟨3, ![p, q, n]⟩) o (⟨3, ![1, h, n]⟩ : Shape).size hi).stride a = 1)
    (hq : (⟨3, ![1, h, n]⟩ : Shape).Squeezes ⟨2, ![h, n]⟩) (x : M.view.ty.Idx) :
    x ∈ ((M.slice (Rect.unit (s := ⟨3, ![p, q, n]⟩) o (⟨3, ![1, h, n]⟩ : Shape).size hi) hu).squeeze ⟨2, ![h, n]⟩ hq).view.set
      ↔ ∃ (i : Fin h) (j : Fin n), x = M.view.emb (ix3 (⟨s, hs⟩ : Fin p) (⟨r + i.val, by omega⟩ : Fin q) j) := by
  constructor
  · intro hx
    obtain ⟨y, -, rfl⟩ := Finset.mem_map.mp hx
    obtain ⟨i, j, rfl⟩ : ∃ (i : Fin h) (j : Fin n), y = ix2 i j := ⟨_, _, eq_ix2 y⟩
    exact ⟨i, j, block_emb M hs hr o ho hi hu hq i j⟩
  · rintro ⟨i, j, rfl⟩
    exact Finset.mem_map.mpr ⟨ix2 i j, Finset.mem_univ _, block_emb M hs hr o ho hi hu hq i j⟩

theorem block_mem {s r : Nat} (hs : s < p) (hr : r + h ≤ q) (o : Fin 3 → Nat) (ho : o = ![s, r, 0])
    (hi : ∀ a, o a + (⟨3, ![1, h, n]⟩ : Shape).size a ≤ (⟨3, ![p, q, n]⟩ : Shape).size a)
    (hu : ∀ a, (Rect.unit (s := ⟨3, ![p, q, n]⟩) o (⟨3, ![1, h, n]⟩ : Shape).size hi).stride a = 1)
    (hq : (⟨3, ![1, h, n]⟩ : Shape).Squeezes ⟨2, ![h, n]⟩) (a : Fin p) (i : Fin q) (j : Fin n) (ha : a.val = s) (hl : r ≤ i.val) (hl' : i.val < r + h) :
    M.view.emb (ix3 a i j)
      ∈ ((M.slice (Rect.unit (s := ⟨3, ![p, q, n]⟩) o (⟨3, ![1, h, n]⟩ : Shape).size hi) hu).squeeze ⟨2, ![h, n]⟩ hq).view.set :=
  (block_set M hs hr o ho hi hu hq _).mpr ⟨⟨i.val - r, by omega⟩, j, congrArg M.view.emb
    ((congrArg (fun a' => ix3 a' i j) (Fin.ext ha : a = ⟨s, hs⟩)).trans (congrArg (fun i' => ix3 _ i' j) (Fin.ext (by show i.val = r + (i.val - r); omega))))⟩

theorem stack_ext {α : Type} {X Y : (⟨3, ![p, h, n]⟩ : Shape).Idx → α} (H : ∀ (s : Fin p) (i : Fin h) (j : Fin n), X (ix3 s i j) = Y (ix3 s i j)) : X = Y :=
  funext fun x => by rw [eq_ix3 x]; exact H _ _ _

/-- What the block reads. -/
theorem block_read {s r : Nat} (hs : s < p) (hr : r + h ≤ q) (o : Fin 3 → Nat) (ho : o = ![s, r, 0])
    (hi : ∀ a, o a + (⟨3, ![1, h, n]⟩ : Shape).size a ≤ (⟨3, ![p, q, n]⟩ : Shape).size a)
    (hu : ∀ a, (Rect.unit (s := ⟨3, ![p, q, n]⟩) o (⟨3, ![1, h, n]⟩ : Shape).size hi).stride a = 1)
    (hq : (⟨3, ![1, h, n]⟩ : Shape).Squeezes ⟨2, ![h, n]⟩) (f : M.view.ty.Contents Val) (i : Fin h) (j : Fin n) :
    ((M.slice (Rect.unit (s := ⟨3, ![p, q, n]⟩) o (⟨3, ![1, h, n]⟩ : Shape).size hi) hu).squeeze ⟨2, ![h, n]⟩ hq).view.read Val f (ix2 i j)
      = M.view.read Val f (ix3 (⟨s, hs⟩ : Fin p) (⟨r + i.val, by omega⟩ : Fin q) j) :=
  congrArg (fun x => _root_.cast (congrArg Val M.view.elt_eq) (f x)) (block_emb M hs hr o ho hi hu hq i j)

/-- A stack of matrices. -/
def stack {α : Type} (g : Fin p → (⟨2, ![h, n]⟩ : Shape).Idx → α) : (⟨3, ![p, h, n]⟩ : Shape).Idx → α :=
  fun x => g (x 0) (ix2 (x 1) (x 2))

theorem stack_at {α : Type} (g : Fin p → (⟨2, ![h, n]⟩ : Shape).Idx → α) (s : Fin p) (i : Fin h) (j : Fin n) :
    stack g (ix3 s i j) = g s (ix2 i j) := rfl

/-- A whole matrix of a stack, read. -/
theorem stack_read (M : Memref sig .tc sp ⟨3, ![p, h, n]⟩ e) {s : Nat} (hs : s < p) (o : Fin 3 → Nat) (ho : o = ![s, 0, 0])
    (hi : ∀ a, o a + (⟨3, ![1, h, n]⟩ : Shape).size a ≤ (⟨3, ![p, h, n]⟩ : Shape).size a)
    (hu : ∀ a, (Rect.unit (s := ⟨3, ![p, h, n]⟩) o (⟨3, ![1, h, n]⟩ : Shape).size hi).stride a = 1)
    (hq : (⟨3, ![1, h, n]⟩ : Shape).Squeezes ⟨2, ![h, n]⟩) (f : M.view.ty.Contents Val)
    (g : Fin p → (⟨2, ![h, n]⟩ : Shape).Idx → Val e) (hf : M.view.read Val f = stack g) :
    ((M.slice (Rect.unit (s := ⟨3, ![p, h, n]⟩) o (⟨3, ![1, h, n]⟩ : Shape).size hi) hu).squeeze ⟨2, ![h, n]⟩ hq).view.read Val f
      = g ⟨s, hs⟩ := by
  funext x
  obtain ⟨i, j, rfl⟩ : ∃ (i : Fin h) (j : Fin n), x = ix2 i j := ⟨_, _, eq_ix2 x⟩
  rw [block_read M hs (r := 0) (by omega) o ho hi hu hq f i j, hf, stack_at]
  exact congrArg (fun i' => g _ (ix2 i' j)) (Fin.ext (Nat.zero_add _))

/-- Two whole matrices of two stacks that hold the same. -/
theorem slot_land {p' : Nat} (M : Memref sig .tc sp ⟨3, ![p, h, n]⟩ e) (M' : Memref sig .tc sp ⟨3, ![p', h, n]⟩ e) {s s' : Nat} (hs : s < p) (hs' : s' < p')
    (o : Fin 3 → Nat) (ho : o = ![s, 0, 0]) (o' : Fin 3 → Nat) (ho' : o' = ![s', 0, 0])
    (hi : ∀ a, o a + (⟨3, ![1, h, n]⟩ : Shape).size a ≤ (⟨3, ![p, h, n]⟩ : Shape).size a)
    (hi' : ∀ a, o' a + (⟨3, ![1, h, n]⟩ : Shape).size a ≤ (⟨3, ![p', h, n]⟩ : Shape).size a)
    (hu : ∀ a, (Rect.unit (s := ⟨3, ![p, h, n]⟩) o (⟨3, ![1, h, n]⟩ : Shape).size hi).stride a = 1)
    (hu' : ∀ a, (Rect.unit (s := ⟨3, ![p', h, n]⟩) o' (⟨3, ![1, h, n]⟩ : Shape).size hi').stride a = 1)
    (hq : (⟨3, ![1, h, n]⟩ : Shape).Squeezes ⟨2, ![h, n]⟩) (f : M.view.ty.Contents Val) (f' : M'.view.ty.Contents Val)
    (X : (⟨3, ![p, h, n]⟩ : Shape).Idx → Val e) (g : Fin p' → (⟨2, ![h, n]⟩ : Shape).Idx → Val e)
    (hf : M.view.read Val f = X) (hf' : M'.view.read Val f' = stack g)
    (hg : g ⟨s', hs'⟩ = fun y => X (ix3 (⟨s, hs⟩ : Fin p) (y 0) (y 1))) :
    ((M.slice (Rect.unit (s := ⟨3, ![p, h, n]⟩) o (⟨3, ![1, h, n]⟩ : Shape).size hi) hu).squeeze ⟨2, ![h, n]⟩ hq).view.read Val f
      = ((M'.slice (Rect.unit (s := ⟨3, ![p', h, n]⟩) o' (⟨3, ![1, h, n]⟩ : Shape).size hi') hu').squeeze ⟨2, ![h, n]⟩ hq).view.read Val f' := by
  rw [stack_read M' hs' o' ho' hi' hu' hq f' g hf', hg,
    stack_read M hs o ho hi hu hq f (fun s y => X (ix3 s (y 0) (y 1))) (hf.trans (stack_ext fun _ _ _ => rfl))]

/-- Blocks that start at the same place are the same. -/
theorem block_congr (o o' : Fin 3 → Nat) (ho : o = o')
    (hi : ∀ a, o a + (⟨3, ![1, h, n]⟩ : Shape).size a ≤ (⟨3, ![p, q, n]⟩ : Shape).size a)
    (hi' : ∀ a, o' a + (⟨3, ![1, h, n]⟩ : Shape).size a ≤ (⟨3, ![p, q, n]⟩ : Shape).size a)
    (hu : ∀ a, (Rect.unit (s := ⟨3, ![p, q, n]⟩) o (⟨3, ![1, h, n]⟩ : Shape).size hi).stride a = 1)
    (hu' : ∀ a, (Rect.unit (s := ⟨3, ![p, q, n]⟩) o' (⟨3, ![1, h, n]⟩ : Shape).size hi').stride a = 1)
    (hq : (⟨3, ![1, h, n]⟩ : Shape).Squeezes ⟨2, ![h, n]⟩) :
    (M.slice (Rect.unit (s := ⟨3, ![p, q, n]⟩) o (⟨3, ![1, h, n]⟩ : Shape).size hi) hu).squeeze ⟨2, ![h, n]⟩ hq
      = (M.slice (Rect.unit (s := ⟨3, ![p, q, n]⟩) o' (⟨3, ![1, h, n]⟩ : Shape).size hi') hu').squeeze ⟨2, ![h, n]⟩ hq := by
  subst ho; rfl

/-- Blocks that start at the same place have the same elements. -/
theorem block_sub (o o' : Fin 3 → Nat) (ho : o = o')
    (hi : ∀ a, o a + (⟨3, ![1, h, n]⟩ : Shape).size a ≤ (⟨3, ![p, q, n]⟩ : Shape).size a)
    (hi' : ∀ a, o' a + (⟨3, ![1, h, n]⟩ : Shape).size a ≤ (⟨3, ![p, q, n]⟩ : Shape).size a)
    (hu : ∀ a, (Rect.unit (s := ⟨3, ![p, q, n]⟩) o (⟨3, ![1, h, n]⟩ : Shape).size hi).stride a = 1)
    (hu' : ∀ a, (Rect.unit (s := ⟨3, ![p, q, n]⟩) o' (⟨3, ![1, h, n]⟩ : Shape).size hi').stride a = 1)
    (hq : (⟨3, ![1, h, n]⟩ : Shape).Squeezes ⟨2, ![h, n]⟩) (x : M.view.ty.Idx)
    (hx : x ∈ ((M.slice (Rect.unit (s := ⟨3, ![p, q, n]⟩) o (⟨3, ![1, h, n]⟩ : Shape).size hi) hu).squeeze ⟨2, ![h, n]⟩ hq).view.set) :
    x ∈ ((M.slice (Rect.unit (s := ⟨3, ![p, q, n]⟩) o' (⟨3, ![1, h, n]⟩ : Shape).size hi') hu').squeeze ⟨2, ![h, n]⟩ hq).view.set := by
  subst ho; exact hx

/-- A block of two stacks that agree on it. -/
theorem block_land {s r : Nat} (hs : s < p) (hr : r + h ≤ q) (o : Fin 3 → Nat) (ho : o = ![s, r, 0])
    (hi : ∀ a, o a + (⟨3, ![1, h, n]⟩ : Shape).size a ≤ (⟨3, ![p, q, n]⟩ : Shape).size a)
    (hu : ∀ a, (Rect.unit (s := ⟨3, ![p, q, n]⟩) o (⟨3, ![1, h, n]⟩ : Shape).size hi).stride a = 1)
    (hq : (⟨3, ![1, h, n]⟩ : Shape).Squeezes ⟨2, ![h, n]⟩) (f f' : M.view.ty.Contents Val)
    (g g' : Fin p → (⟨2, ![q, n]⟩ : Shape).Idx → Val e) (hf : M.view.read Val f = stack g) (hf' : M.view.read Val f' = stack g')
    (hg : g ⟨s, hs⟩ = g' ⟨s, hs⟩) :
    ((M.slice (Rect.unit (s := ⟨3, ![p, q, n]⟩) o (⟨3, ![1, h, n]⟩ : Shape).size hi) hu).squeeze ⟨2, ![h, n]⟩ hq).view.read Val f
      = ((M.slice (Rect.unit (s := ⟨3, ![p, q, n]⟩) o (⟨3, ![1, h, n]⟩ : Shape).size hi) hu).squeeze ⟨2, ![h, n]⟩ hq).view.read Val f' := by
  funext x
  obtain ⟨i, j, rfl⟩ : ∃ (i : Fin h) (j : Fin n), x = ix2 i j := ⟨_, _, eq_ix2 x⟩
  rw [block_read M hs hr o ho hi hu hq f i j, block_read M hs hr o ho hi hu hq f' i j, hf, hf', stack_at, stack_at, hg]

/-- Rows of a matrix and the block of a stack that holds them. -/
theorem rows_land (N : Memref sig .tc sp ⟨2, ![q, n]⟩ e) {s r : Nat} (hs : s < p) (hr : r + h ≤ q) (o : Fin 2 → Nat) (ho : o = ![r, 0])
    (o' : Fin 3 → Nat) (ho' : o' = ![s, r, 0])
    (hi : ∀ a, o a + (⟨2, ![h, n]⟩ : Shape).size a ≤ (⟨2, ![q, n]⟩ : Shape).size a)
    (hi' : ∀ a, o' a + (⟨3, ![1, h, n]⟩ : Shape).size a ≤ (⟨3, ![p, q, n]⟩ : Shape).size a)
    (hu : ∀ a, (Rect.unit (s := ⟨2, ![q, n]⟩) o (⟨2, ![h, n]⟩ : Shape).size hi).stride a = 1)
    (hu' : ∀ a, (Rect.unit (s := ⟨3, ![p, q, n]⟩) o' (⟨3, ![1, h, n]⟩ : Shape).size hi').stride a = 1)
    (hq : (⟨3, ![1, h, n]⟩ : Shape).Squeezes ⟨2, ![h, n]⟩) (f : N.view.ty.Contents Val) (f' : M.view.ty.Contents Val)
    (X : (⟨2, ![q, n]⟩ : Shape).Idx → Val e) (g : Fin p → (⟨2, ![q, n]⟩ : Shape).Idx → Val e)
    (hf : N.view.read Val f = X) (hf' : M.view.read Val f' = stack g)
    (hg : ∀ (i : Fin q) (j : Fin n), r ≤ i.val → i.val < r + h → g ⟨s, hs⟩ (ix2 i j) = X (ix2 i j)) :
    (N.slice (Rect.unit (s := ⟨2, ![q, n]⟩) o (⟨2, ![h, n]⟩ : Shape).size hi) hu).view.read Val f
      = ((M.slice (Rect.unit (s := ⟨3, ![p, q, n]⟩) o' (⟨3, ![1, h, n]⟩ : Shape).size hi') hu').squeeze ⟨2, ![h, n]⟩ hq).view.read Val f' := by
  funext x
  obtain ⟨i, j, rfl⟩ : ∃ (i : Fin h) (j : Fin n), x = ix2 i j := ⟨_, _, eq_ix2 x⟩
  rw [block_read M hs hr o' ho' hi' hu' hq f' i j, hf', stack_at, hg _ _ (Nat.le_add_right _ _) (Nat.add_lt_add_left i.isLt _), ← hf]
  exact congrArg (fun x => _root_.cast (congrArg Val N.view.elt_eq) (f x)) (congrArg N.view.emb (rows_at hr o ho hi i j))

/-- Which half of `2 h` rows a row of it is in. -/
theorem half_row {i c h : Nat} (h1 : h * c ≤ i) (h2 : i < h * c + h) : i / h = c :=
  Nat.div_eq_of_lt_le (by rw [Nat.mul_comm]; exact h1) (by rw [Nat.succ_mul, Nat.mul_comm]; exact h2)

end

/-! ## Pieces that do not meet -/

section
variable {sig : RefSig}

/-- The first two coordinates of an index. -/
def coord (b : Ref sig .tc) (x : b.ty.Idx) : ℕ × ℕ :=
  (if h : 0 < b.ty.shape.rank then (x ⟨0, h⟩).val else 0, if h : 1 < b.ty.shape.rank then (x ⟨1, h⟩).val else 0)

theorem coord_cast {b b' : Ref sig .tc} (e : b = b') (x : b.ty.Idx) : coord b' (e ▸ x : b'.ty.Idx) = coord b x := by
  subst e; rfl

/-- Pieces told apart by their array and the first two coordinates. -/
theorem apart_of {I : Type} (f : I → Part sig) (T : I → ℕ × ℕ → Prop) (hx : ∀ i x, x ∈ (f i).2 → T i (coord (f i).1 x))
    (hT : ∀ i j v, (f i).1 = (f j).1 → T i v → T j v → i = j) : Apart f := fun i j e x hi hj =>
  hT i j _ e (hx i x hi) (coord_cast e x ▸ hx j _ hj)

end

end Cert.Pieces
-- ==== Proof.Scatter.lean ====
/-
The exchange of gradient parts between the four chips, run.

Each device holds, of each of five arrays, a stack of four parts, one per chip. It copies its own chip's part to its own
chip's place in its result and sends every other chip's part to its own chip's place on that chip's like core.
-/
module

public import proofs.«01_k».proof.Proof.Pieces
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points

@[expose] public section

noncomputable section

namespace Cert.ScatterProof

open Cert.ScatterIdeal Cert.ScatterIdeal.Gen Cert.Talk Cert.Mesh Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

def shp : Fin 5 → Shape
  | 0 => S1024x4100
  | 1 => S256x2048
  | 2 => S1024x1408
  | 3 => S1024x1408
  | 4 => S704x2048

/-- The arrays read. -/
def inp : Fin 5 → Ref sig .tc
  | 0 => main_arg0
  | 1 => main_arg1
  | 2 => main_arg2
  | 3 => main_arg3
  | 4 => main_arg4

/-- The arrays written. -/
def out : Fin 5 → Ref sig .tc
  | 0 => main_v1_0
  | 1 => main_v1_1
  | 2 => main_v1_2
  | 3 => main_v1_3
  | 4 => main_v1_4

/-- The part of device `c`'s own chip. -/
def mine : (w : Fin 5) → Dev nD → Memref sig .tc .hbm (shp w) .bf16
  | 0, c => ((Memref.whole main_arg0).slice (Rect.unit (s := S4x1024x4100) (k0_off1 c) S1x1024x4100.size (k0_off1_inb c)) (fun _ => rfl)).squeeze S1024x4100 squeezes_S1x1024x4100_S1024x4100
  | 1, c => ((Memref.whole main_arg1).slice (Rect.unit (s := S4x256x2048) (k0_off2 c) S1x256x2048.size (k0_off2_inb c)) (fun _ => rfl)).squeeze S256x2048 squeezes_S1x256x2048_S256x2048
  | 2, c => ((Memref.whole main_arg2).slice (Rect.unit (s := S4x1024x1408) (k0_off3 c) S1x1024x1408.size (k0_off3_inb c)) (fun _ => rfl)).squeeze S1024x1408 squeezes_S1x1024x1408_S1024x1408
  | 3, c => ((Memref.whole main_arg3).slice (Rect.unit (s := S4x1024x1408) (k0_off3 c) S1x1024x1408.size (k0_off3_inb c)) (fun _ => rfl)).squeeze S1024x1408 squeezes_S1x1024x1408_S1024x1408
  | 4, c => ((Memref.whole main_arg4).slice (Rect.unit (s := S4x704x2048) (k0_off4 c) S1x704x2048.size (k0_off4_inb c)) (fun _ => rfl)).squeeze S704x2048 squeezes_S1x704x2048_S704x2048

/-- The part of array `k.1` for the chip `k.2` steps to. -/
def src : (k : Fin 5 × Fin 3) → Dev nD → Memref sig .tc .hbm (shp k.1) .bf16
  | (0, 0), c => ((Memref.whole main_arg0).slice (Rect.unit (s := S4x1024x4100) (k0_off5 c) S1x1024x4100.size (k0_off5_inb c)) (fun _ => rfl)).squeeze S1024x4100 squeezes_S1x1024x4100_S1024x4100
  | (0, 1), c => ((Memref.whole main_arg0).slice (Rect.unit (s := S4x1024x4100) (k0_off6 c) S1x1024x4100.size (k0_off6_inb c)) (fun _ => rfl)).squeeze S1024x4100 squeezes_S1x1024x4100_S1024x4100
  | (0, 2), c => ((Memref.whole main_arg0).slice (Rect.unit (s := S4x1024x4100) (k0_off7 c) S1x1024x4100.size (k0_off7_inb c)) (fun _ => rfl)).squeeze S1024x4100 squeezes_S1x1024x4100_S1024x4100
  | (1, 0), c => ((Memref.whole main_arg1).slice (Rect.unit (s := S4x256x2048) (k0_off8 c) S1x256x2048.size (k0_off8_inb c)) (fun _ => rfl)).squeeze S256x2048 squeezes_S1x256x2048_S256x2048
  | (1, 1), c => ((Memref.whole main_arg1).slice (Rect.unit (s := S4x256x2048) (k0_off9 c) S1x256x2048.size (k0_off9_inb c)) (fun _ => rfl)).squeeze S256x2048 squeezes_S1x256x2048_S256x2048
  | (1, 2), c => ((Memref.whole main_arg1).slice (Rect.unit (s := S4x256x2048) (k0_off10 c) S1x256x2048.size (k0_off10_inb c)) (fun _ => rfl)).squeeze S256x2048 squeezes_S1x256x2048_S256x2048
  | (2, 0), c => ((Memref.whole main_arg2).slice (Rect.unit (s := S4x1024x1408) (k0_off11 c) S1x1024x1408.size (k0_off11_inb c)) (fun _ => rfl)).squeeze S1024x1408 squeezes_S1x1024x1408_S1024x1408
  | (2, 1), c => ((Memref.whole main_arg2).slice (Rect.unit (s := S4x1024x1408) (k0_off12 c) S1x1024x1408.size (k0_off12_inb c)) (fun _ => rfl)).squeeze S1024x1408 squeezes_S1x1024x1408_S1024x1408
  | (2, 2), c => ((Memref.whole main_arg2).slice (Rect.unit (s := S4x1024x1408) (k0_off13 c) S1x1024x1408.size (k0_off13_inb c)) (fun _ => rfl)).squeeze S1024x1408 squeezes_S1x1024x1408_S1024x1408
  | (3, 0), c => ((Memref.whole main_arg3).slice (Rect.unit (s := S4x1024x1408) (k0_off11 c) S1x1024x1408.size (k0_off11_inb c)) (fun _ => rfl)).squeeze S1024x1408 squeezes_S1x1024x1408_S1024x1408
  | (3, 1), c => ((Memref.whole main_arg3).slice (Rect.unit (s := S4x1024x1408) (k0_off12 c) S1x1024x1408.size (k0_off12_inb c)) (fun _ => rfl)).squeeze S1024x1408 squeezes_S1x1024x1408_S1024x1408
  | (3, 2), c => ((Memref.whole main_arg3).slice (Rect.unit (s := S4x1024x1408) (k0_off13 c) S1x1024x1408.size (k0_off13_inb c)) (fun _ => rfl)).squeeze S1024x1408 squeezes_S1x1024x1408_S1024x1408
  | (4, 0), c => ((Memref.whole main_arg4).slice (Rect.unit (s := S4x704x2048) (k0_off14 c) S1x704x2048.size (k0_off14_inb c)) (fun _ => rfl)).squeeze S704x2048 squeezes_S1x704x2048_S704x2048
  | (4, 1), c => ((Memref.whole main_arg4).slice (Rect.unit (s := S4x704x2048) (k0_off15 c) S1x704x2048.size (k0_off15_inb c)) (fun _ => rfl)).squeeze S704x2048 squeezes_S1x704x2048_S704x2048
  | (4, 2), c => ((Memref.whole main_arg4).slice (Rect.unit (s := S4x704x2048) (k0_off16 c) S1x704x2048.size (k0_off16_inb c)) (fun _ => rfl)).squeeze S704x2048 squeezes_S1x704x2048_S704x2048

/-- The place of device `c`'s chip in a result. -/
def slot : (w : Fin 5) → Dev nD → Memref sig .tc .hbm (shp w) .bf16
  | 0, c => ((Memref.whole main_v1_0).slice (Rect.unit (s := S4x1024x4100) (k0_off1 c) S1x1024x4100.size (k0_off1_inb c)) (fun _ => rfl)).squeeze S1024x4100 squeezes_S1x1024x4100_S1024x4100
  | 1, c => ((Memref.whole main_v1_1).slice (Rect.unit (s := S4x256x2048) (k0_off2 c) S1x256x2048.size (k0_off2_inb c)) (fun _ => rfl)).squeeze S256x2048 squeezes_S1x256x2048_S256x2048
  | 2, c => ((Memref.whole main_v1_2).slice (Rect.unit (s := S4x1024x1408) (k0_off3 c) S1x1024x1408.size (k0_off3_inb c)) (fun _ => rfl)).squeeze S1024x1408 squeezes_S1x1024x1408_S1024x1408
  | 3, c => ((Memref.whole main_v1_3).slice (Rect.unit (s := S4x1024x1408) (k0_off3 c) S1x1024x1408.size (k0_off3_inb c)) (fun _ => rfl)).squeeze S1024x1408 squeezes_S1x1024x1408_S1024x1408
  | 4, c => ((Memref.whole main_v1_4).slice (Rect.unit (s := S4x704x2048) (k0_off4 c) S1x704x2048.size (k0_off4_inb c)) (fun _ => rfl)).squeeze S704x2048 squeezes_S1x704x2048_S704x2048

abbrev K : Type := Fin 5 × Fin 3

def sem : K ⊕ K ⊕ Fin 5 → DmaSem sig
  | .inl k => ⟨5 + (3 * k.1.val + k.2.val), by have := k.1.isLt; have := k.2.isLt; show 5 + (3 * k.1.val + k.2.val) < 35; omega⟩
  | .inr (.inl k) => ⟨20 + (3 * k.1.val + k.2.val), by have := k.1.isLt; have := k.2.isLt; show 20 + (3 * k.1.val + k.2.val) < 35; omega⟩
  | .inr (.inr l) => ⟨l.val, by have := l.isLt; show l.val < 35; omega⟩

theorem sem_inj : Function.Injective sem := by
  rintro (⟨a, b⟩ | ⟨a, b⟩ | a) (⟨a', b'⟩ | ⟨a', b'⟩ | a') h
  all_goals have h := congrArg Fin.val h
  · have h : 5 + (3 * a.val + b.val) = 5 + (3 * a'.val + b'.val) := h
    have e1 : a = a' := Fin.ext (by omega)
    have e2 : b = b' := Fin.ext (by omega)
    rw [e1, e2]
  · have h : 5 + (3 * a.val + b.val) = 20 + (3 * a'.val + b'.val) := h
    omega
  · have h : 5 + (3 * a.val + b.val) = a'.val := h
    omega
  · have h : 20 + (3 * a.val + b.val) = 5 + (3 * a'.val + b'.val) := h
    omega
  · have h : 20 + (3 * a.val + b.val) = 20 + (3 * a'.val + b'.val) := h
    have e1 : a = a' := Fin.ext (by omega)
    have e2 : b = b' := Fin.ext (by omega)
    rw [e1, e2]
  · have h : 20 + (3 * a.val + b.val) = a'.val := h
    omega
  · have h : a.val = 5 + (3 * a'.val + b'.val) := h
    omega
  · have h : a.val = 20 + (3 * a'.val + b'.val) := h
    omega
  · have h : a.val = a'.val := h
    rw [Fin.ext h]

theorem shp_pos (w : Fin 5) : 0 < (shp w).numel := by revert w; decide

def plan : Plan nD sig where
  R := K
  L := Fin 5
  sem := sem
  sem_inj := sem_inj
  peer k := farE k.2
  sp := .hbm
  rshape k := shp k.1
  relt _ := .bf16
  src := src
  dst k := slot k.1
  lshape := shp
  lelt _ := .bf16
  lsrc := mine
  ldst := slot
  ramt k := (slot k.1 0).view.dmaCredit
  lamt w := (slot w 0).view.dmaCredit
  ramt_eq k c := by obtain ⟨w, j⟩ := k; fin_cases w <;> rfl
  lamt_eq w c := by fin_cases w <;> rfl
  ramt_pos k := View.dmaCredit_pos _ (shp_pos k.1)
  lamt_pos w := View.dmaCredit_pos _ (shp_pos w)
  lvl _ := 1

/-! ## The final memory -/

variable (m : (ℓ : Loc nD τ sig) → Buf (Elt F) ℓ)

/-- The parts of device `c`'s chip that the like cores of the four chips hold, stacked. -/
def got : (w : Fin 5) → Dev nD → (out w).ty.Contents (Elt F)
  | 0, c => stack (p := 4) (h := 1024) (n := 4100) fun s y => m (((chip c s).tc : Thread nD τ).loc main_arg0) (ix3 (⟨c.val / 2, half_lt c⟩ : Fin 4) (y 0) (y 1))
  | 1, c => stack (p := 4) (h := 256) (n := 2048) fun s y => m (((chip c s).tc : Thread nD τ).loc main_arg1) (ix3 (⟨c.val / 2, half_lt c⟩ : Fin 4) (y 0) (y 1))
  | 2, c => stack (p := 4) (h := 1024) (n := 1408) fun s y => m (((chip c s).tc : Thread nD τ).loc main_arg2) (ix3 (⟨c.val / 2, half_lt c⟩ : Fin 4) (y 0) (y 1))
  | 3, c => stack (p := 4) (h := 1024) (n := 1408) fun s y => m (((chip c s).tc : Thread nD τ).loc main_arg3) (ix3 (⟨c.val / 2, half_lt c⟩ : Fin 4) (y 0) (y 1))
  | 4, c => stack (p := 4) (h := 704) (n := 2048) fun s y => m (((chip c s).tc : Thread nD τ).loc main_arg4) (ix3 (⟨c.val / 2, half_lt c⟩ : Fin 4) (y 0) (y 1))

theorem out_inj : Function.Injective out := by decide

def fin : (ℓ : Loc nD τ sig) → Buf (Elt F) ℓ := puts out (got m) (List.finRange 5) m

theorem fin_in (c : Dev nD) (b : Ref sig .tc) (h : ∀ k, b ≠ out k) : fin m ((c.tc : Thread nD τ).loc b) = m ((c.tc : Thread nD τ).loc b) :=
  puts_ne out (got m) _ m c h
theorem fin_out (c : Dev nD) (k : Fin 5) : fin m ((c.tc : Thread nD τ).loc (out k)) = got m k c :=
  puts_at out out_inj (got m) _ m c k (List.mem_finRange k)

def ins : Finset (Ref sig .tc) := {main_arg0, main_arg1, main_arg2, main_arg3, main_arg4}

theorem inp_ins (k : Fin 5) : inp k ∈ ins := by revert k; decide
theorem ins_out : ∀ b ∈ ins, ∀ k, b ≠ out k := by decide

/-! ### Where the parts are -/

theorem own1 (c : Dev nD) : k0_off1 c = ![c.val / 2, 0, 0] := by revert c; decide +kernel
theorem own2 (c : Dev nD) : k0_off2 c = ![c.val / 2, 0, 0] := by revert c; decide +kernel
theorem own3 (c : Dev nD) : k0_off3 c = ![c.val / 2, 0, 0] := by revert c; decide +kernel
theorem own4 (c : Dev nD) : k0_off4 c = ![c.val / 2, 0, 0] := by revert c; decide +kernel
theorem part5 (c : Dev nD) : k0_off5 c = ![(far 0 c).val / 2, 0, 0] := by revert c; decide +kernel
theorem part6 (c : Dev nD) : k0_off6 c = ![(far 1 c).val / 2, 0, 0] := by revert c; decide +kernel
theorem part7 (c : Dev nD) : k0_off7 c = ![(far 2 c).val / 2, 0, 0] := by revert c; decide +kernel
theorem part8 (c : Dev nD) : k0_off8 c = ![(far 0 c).val / 2, 0, 0] := by revert c; decide +kernel
theorem part9 (c : Dev nD) : k0_off9 c = ![(far 1 c).val / 2, 0, 0] := by revert c; decide +kernel
theorem part10 (c : Dev nD) : k0_off10 c = ![(far 2 c).val / 2, 0, 0] := by revert c; decide +kernel
theorem part11 (c : Dev nD) : k0_off11 c = ![(far 0 c).val / 2, 0, 0] := by revert c; decide +kernel
theorem part12 (c : Dev nD) : k0_off12 c = ![(far 1 c).val / 2, 0, 0] := by revert c; decide +kernel
theorem part13 (c : Dev nD) : k0_off13 c = ![(far 2 c).val / 2, 0, 0] := by revert c; decide +kernel
theorem part14 (c : Dev nD) : k0_off14 c = ![(far 0 c).val / 2, 0, 0] := by revert c; decide +kernel
theorem part15 (c : Dev nD) : k0_off15 c = ![(far 1 c).val / 2, 0, 0] := by revert c; decide +kernel
theorem part16 (c : Dev nD) : k0_off16 c = ![(far 2 c).val / 2, 0, 0] := by revert c; decide +kernel

/-- Device `c`'s part for its own chip is what its chip's place holds. -/
theorem land_here (c : Dev nD) (w : Fin 5) : (mine w c).view.read (Elt F) (fin m ((mine w c).view.loc (c.tc : Thread nD τ)))
    = (slot w c).view.read (Elt F) (fin m ((slot w c).view.loc (c.tc : Thread nD τ))) := by
  have hc := chip_self c (half_lt c)
  match w with
  | 0 =>
    exact slot_land (p := 4) (p' := 4) (h := 1024) (n := 4100) (Val := Elt F) (Memref.whole main_arg0) (Memref.whole main_v1_0) (half_lt c) (half_lt c) _ (own1 c) _ (own1 c) _ _ _ _ squeezes_S1x1024x4100_S1024x4100
      (fin m ((c.tc : Thread nD τ).loc main_arg0)) (fin m (((c).tc : Thread nD τ).loc main_v1_0)) _ (fun s y => m (((chip (c) s).tc : Thread nD τ).loc main_arg0) (ix3 (⟨(c).val / 2, half_lt (c)⟩ : Fin 4) (y 0) (y 1))) (fin_in m c main_arg0 (by decide)) (fin_out m (c) 0)
      (congrArg (fun (X : S4x1024x4100.Idx → Elt F .bf16) (y : S1024x4100.Idx) => X (ix3 _ (y 0) (y 1))) (mem_congr m main_arg0 hc))
  | 1 =>
    exact slot_land (p := 4) (p' := 4) (h := 256) (n := 2048) (Val := Elt F) (Memref.whole main_arg1) (Memref.whole main_v1_1) (half_lt c) (half_lt c) _ (own2 c) _ (own2 c) _ _ _ _ squeezes_S1x256x2048_S256x2048
      (fin m ((c.tc : Thread nD τ).loc main_arg1)) (fin m (((c).tc : Thread nD τ).loc main_v1_1)) _ (fun s y => m (((chip (c) s).tc : Thread nD τ).loc main_arg1) (ix3 (⟨(c).val / 2, half_lt (c)⟩ : Fin 4) (y 0) (y 1))) (fin_in m c main_arg1 (by decide)) (fin_out m (c) 1)
      (congrArg (fun (X : S4x256x2048.Idx → Elt F .bf16) (y : S256x2048.Idx) => X (ix3 _ (y 0) (y 1))) (mem_congr m main_arg1 hc))
  | 2 =>
    exact slot_land (p := 4) (p' := 4) (h := 1024) (n := 1408) (Val := Elt F) (Memref.whole main_arg2) (Memref.whole main_v1_2) (half_lt c) (half_lt c) _ (own3 c) _ (own3 c) _ _ _ _ squeezes_S1x1024x1408_S1024x1408
      (fin m ((c.tc : Thread nD τ).loc main_arg2)) (fin m (((c).tc : Thread nD τ).loc main_v1_2)) _ (fun s y => m (((chip (c) s).tc : Thread nD τ).loc main_arg2) (ix3 (⟨(c).val / 2, half_lt (c)⟩ : Fin 4) (y 0) (y 1))) (fin_in m c main_arg2 (by decide)) (fin_out m (c) 2)
      (congrArg (fun (X : S4x1024x1408.Idx → Elt F .bf16) (y : S1024x1408.Idx) => X (ix3 _ (y 0) (y 1))) (mem_congr m main_arg2 hc))
  | 3 =>
    exact slot_land (p := 4) (p' := 4) (h := 1024) (n := 1408) (Val := Elt F) (Memref.whole main_arg3) (Memref.whole main_v1_3) (half_lt c) (half_lt c) _ (own3 c) _ (own3 c) _ _ _ _ squeezes_S1x1024x1408_S1024x1408
      (fin m ((c.tc : Thread nD τ).loc main_arg3)) (fin m (((c).tc : Thread nD τ).loc main_v1_3)) _ (fun s y => m (((chip (c) s).tc : Thread nD τ).loc main_arg3) (ix3 (⟨(c).val / 2, half_lt (c)⟩ : Fin 4) (y 0) (y 1))) (fin_in m c main_arg3 (by decide)) (fin_out m (c) 3)
      (congrArg (fun (X : S4x1024x1408.Idx → Elt F .bf16) (y : S1024x1408.Idx) => X (ix3 _ (y 0) (y 1))) (mem_congr m main_arg3 hc))
  | 4 =>
    exact slot_land (p := 4) (p' := 4) (h := 704) (n := 2048) (Val := Elt F) (Memref.whole main_arg4) (Memref.whole main_v1_4) (half_lt c) (half_lt c) _ (own4 c) _ (own4 c) _ _ _ _ squeezes_S1x704x2048_S704x2048
      (fin m ((c.tc : Thread nD τ).loc main_arg4)) (fin m (((c).tc : Thread nD τ).loc main_v1_4)) _ (fun s y => m (((chip (c) s).tc : Thread nD τ).loc main_arg4) (ix3 (⟨(c).val / 2, half_lt (c)⟩ : Fin 4) (y 0) (y 1))) (fin_in m c main_arg4 (by decide)) (fin_out m (c) 4)
      (congrArg (fun (X : S4x704x2048.Idx → Elt F .bf16) (y : S704x2048.Idx) => X (ix3 _ (y 0) (y 1))) (mem_congr m main_arg4 hc))

/-- Device `c`'s part for another chip is what its chip's place holds there. -/
theorem land_far (c : Dev nD) (k : K) : (src k c).view.read (Elt F) (fin m ((src k c).view.loc (c.tc : Thread nD τ)))
    = (slot k.1 c).view.read (Elt F) (fin m ((slot k.1 c).view.loc ((far k.2 c).tc : Thread nD τ))) := by
  have hc := chip_far k.2 c (half_lt c)
  match k, hc with
  | (0, 0), hc =>
    exact slot_land (p := 4) (p' := 4) (h := 1024) (n := 4100) (Val := Elt F) (Memref.whole main_arg0) (Memref.whole main_v1_0) (half_lt (far 0 c)) (half_lt c) _ (part5 c) _ (own1 c) _ _ _ _ squeezes_S1x1024x4100_S1024x4100
      (fin m ((c.tc : Thread nD τ).loc main_arg0)) (fin m (((far 0 c).tc : Thread nD τ).loc main_v1_0)) _ (fun s y => m (((chip (far 0 c) s).tc : Thread nD τ).loc main_arg0) (ix3 (⟨(far 0 c).val / 2, half_lt (far 0 c)⟩ : Fin 4) (y 0) (y 1))) (fin_in m c main_arg0 (by decide)) (fin_out m (far 0 c) 0)
      (congrArg (fun (X : S4x1024x4100.Idx → Elt F .bf16) (y : S1024x4100.Idx) => X (ix3 _ (y 0) (y 1))) (mem_congr m main_arg0 hc))
  | (0, 1), hc =>
    exact slot_land (p := 4) (p' := 4) (h := 1024) (n := 4100) (Val := Elt F) (Memref.whole main_arg0) (Memref.whole main_v1_0) (half_lt (far 1 c)) (half_lt c) _ (part6 c) _ (own1 c) _ _ _ _ squeezes_S1x1024x4100_S1024x4100
      (fin m ((c.tc : Thread nD τ).loc main_arg0)) (fin m (((far 1 c).tc : Thread nD τ).loc main_v1_0)) _ (fun s y => m (((chip (far 1 c) s).tc : Thread nD τ).loc main_arg0) (ix3 (⟨(far 1 c).val / 2, half_lt (far 1 c)⟩ : Fin 4) (y 0) (y 1))) (fin_in m c main_arg0 (by decide)) (fin_out m (far 1 c) 0)
      (congrArg (fun (X : S4x1024x4100.Idx → Elt F .bf16) (y : S1024x4100.Idx) => X (ix3 _ (y 0) (y 1))) (mem_congr m main_arg0 hc))
  | (0, 2), hc =>
    exact slot_land (p := 4) (p' := 4) (h := 1024) (n := 4100) (Val := Elt F) (Memref.whole main_arg0) (Memref.whole main_v1_0) (half_lt (far 2 c)) (half_lt c) _ (part7 c) _ (own1 c) _ _ _ _ squeezes_S1x1024x4100_S1024x4100
      (fin m ((c.tc : Thread nD τ).loc main_arg0)) (fin m (((far 2 c).tc : Thread nD τ).loc main_v1_0)) _ (fun s y => m (((chip (far 2 c) s).tc : Thread nD τ).loc main_arg0) (ix3 (⟨(far 2 c).val / 2, half_lt (far 2 c)⟩ : Fin 4) (y 0) (y 1))) (fin_in m c main_arg0 (by decide)) (fin_out m (far 2 c) 0)
      (congrArg (fun (X : S4x1024x4100.Idx → Elt F .bf16) (y : S1024x4100.Idx) => X (ix3 _ (y 0) (y 1))) (mem_congr m main_arg0 hc))
  | (1, 0), hc =>
    exact slot_land (p := 4) (p' := 4) (h := 256) (n := 2048) (Val := Elt F) (Memref.whole main_arg1) (Memref.whole main_v1_1) (half_lt (far 0 c)) (half_lt c) _ (part8 c) _ (own2 c) _ _ _ _ squeezes_S1x256x2048_S256x2048
      (fin m ((c.tc : Thread nD τ).loc main_arg1)) (fin m (((far 0 c).tc : Thread nD τ).loc main_v1_1)) _ (fun s y => m (((chip (far 0 c) s).tc : Thread nD τ).loc main_arg1) (ix3 (⟨(far 0 c).val / 2, half_lt (far 0 c)⟩ : Fin 4) (y 0) (y 1))) (fin_in m c main_arg1 (by decide)) (fin_out m (far 0 c) 1)
      (congrArg (fun (X : S4x256x2048.Idx → Elt F .bf16) (y : S256x2048.Idx) => X (ix3 _ (y 0) (y 1))) (mem_congr m main_arg1 hc))
  | (1, 1), hc =>
    exact slot_land (p := 4) (p' := 4) (h := 256) (n := 2048) (Val := Elt F) (Memref.whole main_arg1) (Memref.whole main_v1_1) (half_lt (far 1 c)) (half_lt c) _ (part9 c) _ (own2 c) _ _ _ _ squeezes_S1x256x2048_S256x2048
      (fin m ((c.tc : Thread nD τ).loc main_arg1)) (fin m (((far 1 c).tc : Thread nD τ).loc main_v1_1)) _ (fun s y => m (((chip (far 1 c) s).tc : Thread nD τ).loc main_arg1) (ix3 (⟨(far 1 c).val / 2, half_lt (far 1 c)⟩ : Fin 4) (y 0) (y 1))) (fin_in m c main_arg1 (by decide)) (fin_out m (far 1 c) 1)
      (congrArg (fun (X : S4x256x2048.Idx → Elt F .bf16) (y : S256x2048.Idx) => X (ix3 _ (y 0) (y 1))) (mem_congr m main_arg1 hc))
  | (1, 2), hc =>
    exact slot_land (p := 4) (p' := 4) (h := 256) (n := 2048) (Val := Elt F) (Memref.whole main_arg1) (Memref.whole main_v1_1) (half_lt (far 2 c)) (half_lt c) _ (part10 c) _ (own2 c) _ _ _ _ squeezes_S1x256x2048_S256x2048
      (fin m ((c.tc : Thread nD τ).loc main_arg1)) (fin m (((far 2 c).tc : Thread nD τ).loc main_v1_1)) _ (fun s y => m (((chip (far 2 c) s).tc : Thread nD τ).loc main_arg1) (ix3 (⟨(far 2 c).val / 2, half_lt (far 2 c)⟩ : Fin 4) (y 0) (y 1))) (fin_in m c main_arg1 (by decide)) (fin_out m (far 2 c) 1)
      (congrArg (fun (X : S4x256x2048.Idx → Elt F .bf16) (y : S256x2048.Idx) => X (ix3 _ (y 0) (y 1))) (mem_congr m main_arg1 hc))
  | (2, 0), hc =>
    exact slot_land (p := 4) (p' := 4) (h := 1024) (n := 1408) (Val := Elt F) (Memref.whole main_arg2) (Memref.whole main_v1_2) (half_lt (far 0 c)) (half_lt c) _ (part11 c) _ (own3 c) _ _ _ _ squeezes_S1x1024x1408_S1024x1408
      (fin m ((c.tc : Thread nD τ).loc main_arg2)) (fin m (((far 0 c).tc : Thread nD τ).loc main_v1_2)) _ (fun s y => m (((chip (far 0 c) s).tc : Thread nD τ).loc main_arg2) (ix3 (⟨(far 0 c).val / 2, half_lt (far 0 c)⟩ : Fin 4) (y 0) (y 1))) (fin_in m c main_arg2 (by decide)) (fin_out m (far 0 c) 2)
      (congrArg (fun (X : S4x1024x1408.Idx → Elt F .bf16) (y : S1024x1408.Idx) => X (ix3 _ (y 0) (y 1))) (mem_congr m main_arg2 hc))
  | (2, 1), hc =>
    exact slot_land (p := 4) (p' := 4) (h := 1024) (n := 1408) (Val := Elt F) (Memref.whole main_arg2) (Memref.whole main_v1_2) (half_lt (far 1 c)) (half_lt c) _ (part12 c) _ (own3 c) _ _ _ _ squeezes_S1x1024x1408_S1024x1408
      (fin m ((c.tc : Thread nD τ).loc main_arg2)) (fin m (((far 1 c).tc : Thread nD τ).loc main_v1_2)) _ (fun s y => m (((chip (far 1 c) s).tc : Thread nD τ).loc main_arg2) (ix3 (⟨(far 1 c).val / 2, half_lt (far 1 c)⟩ : Fin 4) (y 0) (y 1))) (fin_in m c main_arg2 (by decide)) (fin_out m (far 1 c) 2)
      (congrArg (fun (X : S4x1024x1408.Idx → Elt F .bf16) (y : S1024x1408.Idx) => X (ix3 _ (y 0) (y 1))) (mem_congr m main_arg2 hc))
  | (2, 2), hc =>
    exact slot_land (p := 4) (p' := 4) (h := 1024) (n := 1408) (Val := Elt F) (Memref.whole main_arg2) (Memref.whole main_v1_2) (half_lt (far 2 c)) (half_lt c) _ (part13 c) _ (own3 c) _ _ _ _ squeezes_S1x1024x1408_S1024x1408
      (fin m ((c.tc : Thread nD τ).loc main_arg2)) (fin m (((far 2 c).tc : Thread nD τ).loc main_v1_2)) _ (fun s y => m (((chip (far 2 c) s).tc : Thread nD τ).loc main_arg2) (ix3 (⟨(far 2 c).val / 2, half_lt (far 2 c)⟩ : Fin 4) (y 0) (y 1))) (fin_in m c main_arg2 (by decide)) (fin_out m (far 2 c) 2)
      (congrArg (fun (X : S4x1024x1408.Idx → Elt F .bf16) (y : S1024x1408.Idx) => X (ix3 _ (y 0) (y 1))) (mem_congr m main_arg2 hc))
  | (3, 0), hc =>
    exact slot_land (p := 4) (p' := 4) (h := 1024) (n := 1408) (Val := Elt F) (Memref.whole main_arg3) (Memref.whole main_v1_3) (half_lt (far 0 c)) (half_lt c) _ (part11 c) _ (own3 c) _ _ _ _ squeezes_S1x1024x1408_S1024x1408
      (fin m ((c.tc : Thread nD τ).loc main_arg3)) (fin m (((far 0 c).tc : Thread nD τ).loc main_v1_3)) _ (fun s y => m (((chip (far 0 c) s).tc : Thread nD τ).loc main_arg3) (ix3 (⟨(far 0 c).val / 2, half_lt (far 0 c)⟩ : Fin 4) (y 0) (y 1))) (fin_in m c main_arg3 (by decide)) (fin_out m (far 0 c) 3)
      (congrArg (fun (X : S4x1024x1408.Idx → Elt F .bf16) (y : S1024x1408.Idx) => X (ix3 _ (y 0) (y 1))) (mem_congr m main_arg3 hc))
  | (3, 1), hc =>
    exact slot_land (p := 4) (p' := 4) (h := 1024) (n := 1408) (Val := Elt F) (Memref.whole main_arg3) (Memref.whole main_v1_3) (half_lt (far 1 c)) (half_lt c) _ (part12 c) _ (own3 c) _ _ _ _ squeezes_S1x1024x1408_S1024x1408
      (fin m ((c.tc : Thread nD τ).loc main_arg3)) (fin m (((far 1 c).tc : Thread nD τ).loc main_v1_3)) _ (fun s y => m (((chip (far 1 c) s).tc : Thread nD τ).loc main_arg3) (ix3 (⟨(far 1 c).val / 2, half_lt (far 1 c)⟩ : Fin 4) (y 0) (y 1))) (fin_in m c main_arg3 (by decide)) (fin_out m (far 1 c) 3)
      (congrArg (fun (X : S4x1024x1408.Idx → Elt F .bf16) (y : S1024x1408.Idx) => X (ix3 _ (y 0) (y 1))) (mem_congr m main_arg3 hc))
  | (3, 2), hc =>
    exact slot_land (p := 4) (p' := 4) (h := 1024) (n := 1408) (Val := Elt F) (Memref.whole main_arg3) (Memref.whole main_v1_3) (half_lt (far 2 c)) (half_lt c) _ (part13 c) _ (own3 c) _ _ _ _ squeezes_S1x1024x1408_S1024x1408
      (fin m ((c.tc : Thread nD τ).loc main_arg3)) (fin m (((far 2 c).tc : Thread nD τ).loc main_v1_3)) _ (fun s y => m (((chip (far 2 c) s).tc : Thread nD τ).loc main_arg3) (ix3 (⟨(far 2 c).val / 2, half_lt (far 2 c)⟩ : Fin 4) (y 0) (y 1))) (fin_in m c main_arg3 (by decide)) (fin_out m (far 2 c) 3)
      (congrArg (fun (X : S4x1024x1408.Idx → Elt F .bf16) (y : S1024x1408.Idx) => X (ix3 _ (y 0) (y 1))) (mem_congr m main_arg3 hc))
  | (4, 0), hc =>
    exact slot_land (p := 4) (p' := 4) (h := 704) (n := 2048) (Val := Elt F) (Memref.whole main_arg4) (Memref.whole main_v1_4) (half_lt (far 0 c)) (half_lt c) _ (part14 c) _ (own4 c) _ _ _ _ squeezes_S1x704x2048_S704x2048
      (fin m ((c.tc : Thread nD τ).loc main_arg4)) (fin m (((far 0 c).tc : Thread nD τ).loc main_v1_4)) _ (fun s y => m (((chip (far 0 c) s).tc : Thread nD τ).loc main_arg4) (ix3 (⟨(far 0 c).val / 2, half_lt (far 0 c)⟩ : Fin 4) (y 0) (y 1))) (fin_in m c main_arg4 (by decide)) (fin_out m (far 0 c) 4)
      (congrArg (fun (X : S4x704x2048.Idx → Elt F .bf16) (y : S704x2048.Idx) => X (ix3 _ (y 0) (y 1))) (mem_congr m main_arg4 hc))
  | (4, 1), hc =>
    exact slot_land (p := 4) (p' := 4) (h := 704) (n := 2048) (Val := Elt F) (Memref.whole main_arg4) (Memref.whole main_v1_4) (half_lt (far 1 c)) (half_lt c) _ (part15 c) _ (own4 c) _ _ _ _ squeezes_S1x704x2048_S704x2048
      (fin m ((c.tc : Thread nD τ).loc main_arg4)) (fin m (((far 1 c).tc : Thread nD τ).loc main_v1_4)) _ (fun s y => m (((chip (far 1 c) s).tc : Thread nD τ).loc main_arg4) (ix3 (⟨(far 1 c).val / 2, half_lt (far 1 c)⟩ : Fin 4) (y 0) (y 1))) (fin_in m c main_arg4 (by decide)) (fin_out m (far 1 c) 4)
      (congrArg (fun (X : S4x704x2048.Idx → Elt F .bf16) (y : S704x2048.Idx) => X (ix3 _ (y 0) (y 1))) (mem_congr m main_arg4 hc))
  | (4, 2), hc =>
    exact slot_land (p := 4) (p' := 4) (h := 704) (n := 2048) (Val := Elt F) (Memref.whole main_arg4) (Memref.whole main_v1_4) (half_lt (far 2 c)) (half_lt c) _ (part16 c) _ (own4 c) _ _ _ _ squeezes_S1x704x2048_S704x2048
      (fin m ((c.tc : Thread nD τ).loc main_arg4)) (fin m (((far 2 c).tc : Thread nD τ).loc main_v1_4)) _ (fun s y => m (((chip (far 2 c) s).tc : Thread nD τ).loc main_arg4) (ix3 (⟨(far 2 c).val / 2, half_lt (far 2 c)⟩ : Fin 4) (y 0) (y 1))) (fin_in m c main_arg4 (by decide)) (fin_out m (far 2 c) 4)
      (congrArg (fun (X : S4x704x2048.Idx → Elt F .bf16) (y : S704x2048.Idx) => X (ix3 _ (y 0) (y 1))) (mem_congr m main_arg4 hc))

/-! ## The run -/

/-- The cells: of the sender's wait, of the receiver's, of a local copy's. -/
abbrev sn (k : K) : plan.J := plan.snd k
abbrev rc (k : K) : plan.J := plan.rcv k
abbrev lo (w : Fin 5) : plan.J := plan.loc w

abbrev V₀ : List K := [(0, 0), (0, 1), (0, 2), (1, 0), (1, 1), (1, 2), (2, 0), (2, 1), (2, 2), (3, 0), (3, 1), (3, 2), (4, 0), (4, 1), (4, 2)]
abbrev S₀ : List plan.R := V₀
abbrev T₀ : List plan.L := ([0, 1, 2, 3, 4] : List (Fin 5))
abbrev W₀ : List (K ⊕ K ⊕ Fin 5) :=
  [.inl (0, 0), .inr (.inl (0, 0)), .inl (0, 1), .inr (.inl (0, 1)), .inl (0, 2), .inr (.inl (0, 2)), .inl (1, 0), .inr (.inl (1, 0)), .inl (1, 1), .inr (.inl (1, 1)), .inl (1, 2), .inr (.inl (1, 2)), .inl (2, 0), .inr (.inl (2, 0)), .inl (2, 1), .inr (.inl (2, 1)), .inl (2, 2), .inr (.inl (2, 2)), .inl (3, 0), .inr (.inl (3, 0)), .inl (3, 1), .inr (.inl (3, 1)), .inl (3, 2), .inr (.inl (3, 2)), .inl (4, 0), .inr (.inl (4, 0)), .inl (4, 1), .inr (.inl (4, 1)), .inl (4, 2), .inr (.inl (4, 2)),
    .inr (.inr 0), .inr (.inr 1), .inr (.inr 2), .inr (.inr 3), .inr (.inr 4)]
abbrev B₀ : List plan.J := W₀

theorem dev_eq1 (c : Dev nD) : (⟨k0_dev1 c, k0_dev1_lt c⟩ : Dev nD) = far 0 c := by revert c; decide +kernel
theorem dev_eq2 (c : Dev nD) : (⟨k0_dev2 c, k0_dev2_lt c⟩ : Dev nD) = far 1 c := by revert c; decide +kernel
theorem dev_eq3 (c : Dev nD) : (⟨k0_dev3 c, k0_dev3_lt c⟩ : Dev nD) = far 2 c := by revert c; decide +kernel
theorem dev_eq4 (c : Dev nD) : (⟨k0_dev4 c, k0_dev4_lt c⟩ : Dev nD) = far 0 c := by revert c; decide +kernel
theorem dev_eq5 (c : Dev nD) : (⟨k0_dev5 c, k0_dev5_lt c⟩ : Dev nD) = far 1 c := by revert c; decide +kernel
theorem dev_eq6 (c : Dev nD) : (⟨k0_dev6 c, k0_dev6_lt c⟩ : Dev nD) = far 2 c := by revert c; decide +kernel
theorem dev_eq7 (c : Dev nD) : (⟨k0_dev7 c, k0_dev7_lt c⟩ : Dev nD) = far 0 c := by revert c; decide +kernel
theorem dev_eq8 (c : Dev nD) : (⟨k0_dev8 c, k0_dev8_lt c⟩ : Dev nD) = far 1 c := by revert c; decide +kernel
theorem dev_eq9 (c : Dev nD) : (⟨k0_dev9 c, k0_dev9_lt c⟩ : Dev nD) = far 2 c := by revert c; decide +kernel
theorem dev_eq10 (c : Dev nD) : (⟨k0_dev10 c, k0_dev10_lt c⟩ : Dev nD) = far 0 c := by revert c; decide +kernel
theorem dev_eq11 (c : Dev nD) : (⟨k0_dev11 c, k0_dev11_lt c⟩ : Dev nD) = far 1 c := by revert c; decide +kernel
theorem dev_eq12 (c : Dev nD) : (⟨k0_dev12 c, k0_dev12_lt c⟩ : Dev nD) = far 2 c := by revert c; decide +kernel
theorem dev_eq13 (c : Dev nD) : (⟨k0_dev13 c, k0_dev13_lt c⟩ : Dev nD) = far 0 c := by revert c; decide +kernel
theorem dev_eq14 (c : Dev nD) : (⟨k0_dev14 c, k0_dev14_lt c⟩ : Dev nD) = far 1 c := by revert c; decide +kernel
theorem dev_eq15 (c : Dev nD) : (⟨k0_dev15 c, k0_dev15_lt c⟩ : Dev nD) = far 2 c := by revert c; decide +kernel

theorem routes (j : Fin 3) (c : Dev nD) : τ.routes (c.tc : Thread nD τ) ((far j c).tc : Thread nD τ) = true := by revert j c; decide
theorem none_owed {j : plan.J} : ∀ k ∈ ([] : List plan.R), plan.lev j < plan.lvl k := fun _ h => absurd h List.not_mem_nil

set_option maxRecDepth 65536 in
theorem body (c : Dev nD) (t : Fin cfg0.N) : St (fin m) plan m ins c S₀ T₀ B₀
    ⊢ wp frame (wpE (defs₀ (F := F)) Variants.none (c.tc : Thread nD τ) none) Set.univ (bodyAt0 t) (fun _ => St (fin m) plan m ins c [] [] []) := by
  unfold bodyAt0
  simp only [cc0_grad_chip_scatter_eq_skeleton]
  unfold cc0_grad_chip_scatter_skel
  simp only [k0_part19_eq_skeleton]
  unfold k0_part19_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [Prog.lift, Prog.bind_op, Prog.bind_ret, Prog.pure_eq_ret, wp_deviceId]
  refine step_copy _ _ c (P := plan) (0 : Fin 5) (land_here m c 0) (from_arg _ _ _ c _ (inp_ins 0) _) ?_
  refine step_copy _ _ c (P := plan) (1 : Fin 5) (land_here m c 1) (from_arg _ _ _ c _ (inp_ins 1) _) ?_
  refine step_copy _ _ c (P := plan) (2 : Fin 5) (land_here m c 2) (from_arg _ _ _ c _ (inp_ins 2) _) ?_
  refine step_copy _ _ c (P := plan) (3 : Fin 5) (land_here m c 3) (from_arg _ _ _ c _ (inp_ins 3) _) ?_
  refine step_copy _ _ c (P := plan) (4 : Fin 5) (land_here m c 4) (from_arg _ _ _ c _ (inp_ins 4) _) ?_
  refine step_send _ _ c (P := plan) ((0, 0) : K) (dev_eq1 c) (routes 0 c) (land_far m c (0, 0)) (from_arg _ _ _ c _ (inp_ins 0) _) ?_
  refine step_send _ _ c (P := plan) ((0, 1) : K) (dev_eq2 c) (routes 1 c) (land_far m c (0, 1)) (from_arg _ _ _ c _ (inp_ins 0) _) ?_
  refine step_send _ _ c (P := plan) ((0, 2) : K) (dev_eq3 c) (routes 2 c) (land_far m c (0, 2)) (from_arg _ _ _ c _ (inp_ins 0) _) ?_
  refine step_send _ _ c (P := plan) ((1, 0) : K) (dev_eq4 c) (routes 0 c) (land_far m c (1, 0)) (from_arg _ _ _ c _ (inp_ins 1) _) ?_
  refine step_send _ _ c (P := plan) ((1, 1) : K) (dev_eq5 c) (routes 1 c) (land_far m c (1, 1)) (from_arg _ _ _ c _ (inp_ins 1) _) ?_
  refine step_send _ _ c (P := plan) ((1, 2) : K) (dev_eq6 c) (routes 2 c) (land_far m c (1, 2)) (from_arg _ _ _ c _ (inp_ins 1) _) ?_
  refine step_send _ _ c (P := plan) ((2, 0) : K) (dev_eq7 c) (routes 0 c) (land_far m c (2, 0)) (from_arg _ _ _ c _ (inp_ins 2) _) ?_
  refine step_send _ _ c (P := plan) ((2, 1) : K) (dev_eq8 c) (routes 1 c) (land_far m c (2, 1)) (from_arg _ _ _ c _ (inp_ins 2) _) ?_
  refine step_send _ _ c (P := plan) ((2, 2) : K) (dev_eq9 c) (routes 2 c) (land_far m c (2, 2)) (from_arg _ _ _ c _ (inp_ins 2) _) ?_
  refine step_send _ _ c (P := plan) ((3, 0) : K) (dev_eq10 c) (routes 0 c) (land_far m c (3, 0)) (from_arg _ _ _ c _ (inp_ins 3) _) ?_
  refine step_send _ _ c (P := plan) ((3, 1) : K) (dev_eq11 c) (routes 1 c) (land_far m c (3, 1)) (from_arg _ _ _ c _ (inp_ins 3) _) ?_
  refine step_send _ _ c (P := plan) ((3, 2) : K) (dev_eq12 c) (routes 2 c) (land_far m c (3, 2)) (from_arg _ _ _ c _ (inp_ins 3) _) ?_
  refine step_send _ _ c (P := plan) ((4, 0) : K) (dev_eq13 c) (routes 0 c) (land_far m c (4, 0)) (from_arg _ _ _ c _ (inp_ins 4) _) ?_
  refine step_send _ _ c (P := plan) ((4, 1) : K) (dev_eq14 c) (routes 1 c) (land_far m c (4, 1)) (from_arg _ _ _ c _ (inp_ins 4) _) ?_
  refine step_send _ _ c (P := plan) ((4, 2) : K) (dev_eq15 c) (routes 2 c) (land_far m c (4, 2)) (from_arg _ _ _ c _ (inp_ins 4) _) ?_
  refine step_wait _ _ c (sn (0, 0)) rfl rfl none_owed List.not_mem_nil ?_
  refine step_wait _ _ c (rc (0, 0)) rfl rfl none_owed trivial ?_
  refine step_wait _ _ c (sn (0, 1)) rfl rfl none_owed List.not_mem_nil ?_
  refine step_wait _ _ c (rc (0, 1)) rfl rfl none_owed trivial ?_
  refine step_wait _ _ c (sn (0, 2)) rfl rfl none_owed List.not_mem_nil ?_
  refine step_wait _ _ c (rc (0, 2)) rfl rfl none_owed trivial ?_
  refine step_wait _ _ c (sn (1, 0)) rfl rfl none_owed List.not_mem_nil ?_
  refine step_wait _ _ c (rc (1, 0)) rfl rfl none_owed trivial ?_
  refine step_wait _ _ c (sn (1, 1)) rfl rfl none_owed List.not_mem_nil ?_
  refine step_wait _ _ c (rc (1, 1)) rfl rfl none_owed trivial ?_
  refine step_wait _ _ c (sn (1, 2)) rfl rfl none_owed List.not_mem_nil ?_
  refine step_wait _ _ c (rc (1, 2)) rfl rfl none_owed trivial ?_
  refine step_wait _ _ c (sn (2, 0)) rfl rfl none_owed List.not_mem_nil ?_
  refine step_wait _ _ c (rc (2, 0)) rfl rfl none_owed trivial ?_
  refine step_wait _ _ c (sn (2, 1)) rfl rfl none_owed List.not_mem_nil ?_
  refine step_wait _ _ c (rc (2, 1)) rfl rfl none_owed trivial ?_
  refine step_wait _ _ c (sn (2, 2)) rfl rfl none_owed List.not_mem_nil ?_
  refine step_wait _ _ c (rc (2, 2)) rfl rfl none_owed trivial ?_
  refine step_wait _ _ c (sn (3, 0)) rfl rfl none_owed List.not_mem_nil ?_
  refine step_wait _ _ c (rc (3, 0)) rfl rfl none_owed trivial ?_
  refine step_wait _ _ c (sn (3, 1)) rfl rfl none_owed List.not_mem_nil ?_
  refine step_wait _ _ c (rc (3, 1)) rfl rfl none_owed trivial ?_
  refine step_wait _ _ c (sn (3, 2)) rfl rfl none_owed List.not_mem_nil ?_
  refine step_wait _ _ c (rc (3, 2)) rfl rfl none_owed trivial ?_
  refine step_wait _ _ c (sn (4, 0)) rfl rfl none_owed List.not_mem_nil ?_
  refine step_wait _ _ c (rc (4, 0)) rfl rfl none_owed trivial ?_
  refine step_wait _ _ c (sn (4, 1)) rfl rfl none_owed List.not_mem_nil ?_
  refine step_wait _ _ c (rc (4, 1)) rfl rfl none_owed trivial ?_
  refine step_wait _ _ c (sn (4, 2)) rfl rfl none_owed List.not_mem_nil ?_
  refine step_wait _ _ c (rc (4, 2)) rfl rfl none_owed trivial ?_
  refine step_wait _ _ c (lo 0) rfl rfl none_owed List.not_mem_nil ?_
  refine step_wait _ _ c (lo 1) rfl rfl none_owed List.not_mem_nil ?_
  refine step_wait _ _ c (lo 2) rfl rfl none_owed List.not_mem_nil ?_
  refine step_wait _ _ c (lo 3) rfl rfl none_owed List.not_mem_nil ?_
  refine step_wait _ _ c (lo 4) rfl rfl none_owed List.not_mem_nil ?_
  rw [wp_ret]; exact fupd_intro

theorem sends_all : ∀ k : K, k ∈ V₀ := by
  rintro ⟨w, j⟩
  exact mem_of_get V₀ ((by decide +kernel : ∀ (w : Fin 5) (j : Fin 3), ∃ i, V₀.get i = (w, j)) w j)

theorem waits_all : ∀ j : K ⊕ K ⊕ Fin 5, j ∈ W₀ := by
  rintro (⟨w, j⟩ | ⟨w, j⟩ | w)
  · exact mem_of_get W₀ ((by decide +kernel : ∀ (w : Fin 5) (j : Fin 3), ∃ i, W₀.get i = .inl (w, j)) w j)
  · exact mem_of_get W₀ ((by decide +kernel : ∀ (w : Fin 5) (j : Fin 3), ∃ i, W₀.get i = .inr (.inl (w, j))) w j)
  · exact mem_of_get W₀ ((by decide +kernel : ∀ w : Fin 5, ∃ i, W₀.get i = .inr (.inr w)) w)

theorem full : plan.Full S₀ T₀ B₀ where
  nS := by decide +kernel
  nT := by decide
  nB := by decide +kernel
  aS := sends_all
  aT := by decide
  aB := waits_all

theorem slot_ref (c : Dev nD) (w : Fin 5) : (slot w c).view.ref = out w := by
  match w with
  | 0 => rfl
  | 1 => rfl
  | 2 => rfl
  | 3 => rfl
  | 4 => rfl

/-- A place in a result is told by the first coordinate. -/
theorem slot_set (c : Dev nD) (w : Fin 5) (x : (slot w c).view.ref.ty.Idx) (hx : x ∈ (slot w c).view.set) :
    (coord (slot w c).view.ref x).1 = c.val / 2 := by
  match w, x, hx with
  | 0, x, hx => obtain ⟨i, j, rfl⟩ := (block_set (h := 1024) (n := 4100) (Memref.whole main_v1_0) (half_lt c) (Nat.zero_add _).le _ (own1 c) _ _ squeezes_S1x1024x4100_S1024x4100 x).mp hx; rfl
  | 1, x, hx => obtain ⟨i, j, rfl⟩ := (block_set (h := 256) (n := 2048) (Memref.whole main_v1_1) (half_lt c) (Nat.zero_add _).le _ (own2 c) _ _ squeezes_S1x256x2048_S256x2048 x).mp hx; rfl
  | 2, x, hx => obtain ⟨i, j, rfl⟩ := (block_set (h := 1024) (n := 1408) (Memref.whole main_v1_2) (half_lt c) (Nat.zero_add _).le _ (own3 c) _ _ squeezes_S1x1024x1408_S1024x1408 x).mp hx; rfl
  | 3, x, hx => obtain ⟨i, j, rfl⟩ := (block_set (h := 1024) (n := 1408) (Memref.whole main_v1_3) (half_lt c) (Nat.zero_add _).le _ (own3 c) _ _ squeezes_S1x1024x1408_S1024x1408 x).mp hx; rfl
  | 4, x, hx => obtain ⟨i, j, rfl⟩ := (block_set (h := 704) (n := 2048) (Memref.whole main_v1_4) (half_lt c) (Nat.zero_add _).le _ (own4 c) _ _ squeezes_S1x704x2048_S704x2048 x).mp hx; rfl

theorem out_scoped : ∀ k : Fin 5, ¬ (out k).isScoped := by decide

theorem placed : plan.Placed ins where
  insU := by decide
  outU c n := by
    rcases n with k | w
    · exact ⟨fun h => out_scoped k.1 (slot_ref (far k.2 c) k.1 ▸ h), fun h => ins_out _ h k.1 (slot_ref (far k.2 c) k.1)⟩
    · exact ⟨fun h => out_scoped w (slot_ref c w ▸ h), fun h => ins_out _ h w (slot_ref c w)⟩
  apart c := apart_of _
    (fun i v => v.1 = match i with | .inl k => (far k.2 c).val / 2 | .inr _ => c.val / 2)
    (by rintro (k | w) x hx; exacts [slot_set (far k.2 c) k.1 x hx, slot_set c w x hx])
    (by
      rintro (⟨w, i⟩ | w) (⟨w', j⟩ | w') v e hi hj
      · have e1 : w = w' := out_inj ((slot_ref (far i c) w).symm.trans (e.trans (slot_ref (far j c) w')))
        have e2 : i = j := far_inj i j c (hi.symm.trans hj)
        rw [e1, e2]
      · exact absurd (hi.symm.trans hj) (far_ne i c)
      · exact absurd (hj.symm.trans hi) (far_ne j c)
      · exact congrArg _ (out_inj ((slot_ref c w).symm.trans (e.trans (slot_ref c w')))))

/-- What a device's results hold at the end. -/
theorem out_end (s : MemSt nD τ sig (Elt F)) (c : Dev nD) (H : QY plan (fin m) ins c s) (w : Fin 5) :
    s.mem ((c.tc : Thread nD τ).loc (out w)) = got m w c := by
  refine Eq.trans ?_ (fin_out m c w)
  match w with
  | 0 =>
    refine stack_ext (p := 4) (h := 1024) (n := 4100) fun t i j => ?_
    by_cases e : t.val = c.val / 2
    · exact H.2 (.inr (0 : Fin 5)) _ (block_mem (p := 4) (h := 1024) (n := 4100) (Memref.whole main_v1_0) (half_lt c) (Nat.zero_add _).le _ (own1 c) _ _ squeezes_S1x1024x4100_S1024x4100 t i j e (Nat.zero_le _) (by omega))
    · obtain ⟨a, e⟩ := far_of c t e
      exact H.2 (.inl ((0, a) : K)) _ (block_mem (p := 4) (h := 1024) (n := 4100) (Memref.whole main_v1_0) (half_lt (far a c)) (Nat.zero_add _).le _ (own1 (far a c)) _ _ squeezes_S1x1024x4100_S1024x4100 t i j e (Nat.zero_le _) (by omega))
  | 1 =>
    refine stack_ext (p := 4) (h := 256) (n := 2048) fun t i j => ?_
    by_cases e : t.val = c.val / 2
    · exact H.2 (.inr (1 : Fin 5)) _ (block_mem (p := 4) (h := 256) (n := 2048) (Memref.whole main_v1_1) (half_lt c) (Nat.zero_add _).le _ (own2 c) _ _ squeezes_S1x256x2048_S256x2048 t i j e (Nat.zero_le _) (by omega))
    · obtain ⟨a, e⟩ := far_of c t e
      exact H.2 (.inl ((1, a) : K)) _ (block_mem (p := 4) (h := 256) (n := 2048) (Memref.whole main_v1_1) (half_lt (far a c)) (Nat.zero_add _).le _ (own2 (far a c)) _ _ squeezes_S1x256x2048_S256x2048 t i j e (Nat.zero_le _) (by omega))
  | 2 =>
    refine stack_ext (p := 4) (h := 1024) (n := 1408) fun t i j => ?_
    by_cases e : t.val = c.val / 2
    · exact H.2 (.inr (2 : Fin 5)) _ (block_mem (p := 4) (h := 1024) (n := 1408) (Memref.whole main_v1_2) (half_lt c) (Nat.zero_add _).le _ (own3 c) _ _ squeezes_S1x1024x1408_S1024x1408 t i j e (Nat.zero_le _) (by omega))
    · obtain ⟨a, e⟩ := far_of c t e
      exact H.2 (.inl ((2, a) : K)) _ (block_mem (p := 4) (h := 1024) (n := 1408) (Memref.whole main_v1_2) (half_lt (far a c)) (Nat.zero_add _).le _ (own3 (far a c)) _ _ squeezes_S1x1024x1408_S1024x1408 t i j e (Nat.zero_le _) (by omega))
  | 3 =>
    refine stack_ext (p := 4) (h := 1024) (n := 1408) fun t i j => ?_
    by_cases e : t.val = c.val / 2
    · exact H.2 (.inr (3 : Fin 5)) _ (block_mem (p := 4) (h := 1024) (n := 1408) (Memref.whole main_v1_3) (half_lt c) (Nat.zero_add _).le _ (own3 c) _ _ squeezes_S1x1024x1408_S1024x1408 t i j e (Nat.zero_le _) (by omega))
    · obtain ⟨a, e⟩ := far_of c t e
      exact H.2 (.inl ((3, a) : K)) _ (block_mem (p := 4) (h := 1024) (n := 1408) (Memref.whole main_v1_3) (half_lt (far a c)) (Nat.zero_add _).le _ (own3 (far a c)) _ _ squeezes_S1x1024x1408_S1024x1408 t i j e (Nat.zero_le _) (by omega))
  | 4 =>
    refine stack_ext (p := 4) (h := 704) (n := 2048) fun t i j => ?_
    by_cases e : t.val = c.val / 2
    · exact H.2 (.inr (4 : Fin 5)) _ (block_mem (p := 4) (h := 704) (n := 2048) (Memref.whole main_v1_4) (half_lt c) (Nat.zero_add _).le _ (own4 c) _ _ squeezes_S1x704x2048_S704x2048 t i j e (Nat.zero_le _) (by omega))
    · obtain ⟨a, e⟩ := far_of c t e
      exact H.2 (.inl ((4, a) : K)) _ (block_mem (p := 4) (h := 704) (n := 2048) (Memref.whole main_v1_4) (half_lt (far a c)) (Nat.zero_add _).le _ (own4 (far a c)) _ _ squeezes_S1x704x2048_S704x2048 t i j e (Nat.zero_le _) (by omega))

/-- The arrays read end as they began; those written hold the parts sent by the four chips. -/
def Post (s : MemSt nD τ sig (Elt F)) : Prop := ∀ c : Dev nD,
  (∀ k, s.mem ((c.tc : Thread nD τ).loc (inp k)) = m ((c.tc : Thread nD τ).loc (inp k)))
  ∧ ∀ k, s.mem ((c.tc : Thread nD τ).loc (out k)) = got m k c

theorem post_of (s : MemSt nD τ sig (Elt F)) (h : ∀ c, QY plan (fin m) ins c s) : Post m s := fun c =>
  ⟨fun k => ((h c).1 _ (inp_ins k)).trans (fin_in m c _ (ins_out _ (inp_ins k))), out_end m s c (h c)⟩

theorem run_main (ρ : Dev nD → PrngReg) :
    θ_run (defs (F := F)) (onTc (τ := τ) (main (F := F))) ⟨m, fun _ => 0, ρ⟩ (fun r => Post m r.2 ∧ r.2.sem = fun _ => 0) :=
  θ_run_talk plan m (fin m) ins cfgs ⟨fun w => w.elim0⟩ N_0 cellOf_inj winFacts0 (by decide) (fun c => scopedRest0_eq c) defs₀ Variants.none ρ main
    (fun _ => rfl) full placed (fun c b hb => fin_in m c b (ins_out b hb)) (fun c t => body m c t)
    (fun s h hs => ⟨post_of m s h, sem_eq_zero_of_scoped (by decide) hs⟩)

end Cert.ScatterProof
-- ==== Proof.Stacks.lean ====
/-
The stacks the devices end with, as blocks of the plain references' results: over any number of rows and columns.
-/
module

public import proofs.«01_k».proof.Proof.Pieces

@[expose] public section

namespace Cert.Stacks

open Idealize.ShloMosaic
open Cert.Mesh Cert.Pieces

variable {α : Type} {h n H N : Nat}

/-- The number of a device's chip, along the two axes that number the chips. -/
theorem chip_lin (c : Dev 8) : Layout.meshLin [2, 2, 2] c.val [0, 1] = c.val / 2 := by revert c; decide

/-! ## Sharing -/

/-- Matrix `d` of a tall matrix cut into matrices. -/
theorem cut_at {p : Nat} (hH : H = p * h) (M : (⟨2, ![H, n]⟩ : Shape).Idx → α) (hs : (⟨2, ![H, n]⟩ : Shape).ShapeCasts ⟨3, ![p, h, n]⟩)
    (d : Fin p) (i : Fin h) (j : Fin n) (hd : d.val * h + i.val < H) :
    shapeCast ⟨3, ![p, h, n]⟩ M hs (ix3 d i j) = M (ix2 (⟨d.val * h + i.val, hd⟩ : Fin H) j) :=
  congrArg M (Shape.reshapeEquiv_eq_of_rowMajor hs (by
    rw [Shape.rowMajor_val_two, Shape.rowMajor_val_three]
    rfl))

theorem row_lt {p : Nat} (hH : H = p * h) (d : Fin p) (i : Fin h) : d.val * h + i.val < H := by
  subst hH
  calc d.val * h + i.val < d.val * h + h := Nat.add_lt_add_left i.isLt _
    _ = (d.val + 1) * h := (Nat.succ_mul _ _).symm
    _ ≤ p * h := Nat.mul_le_mul_right _ d.isLt

/-- Both cores' matrices, stacked, are the chip's block of the matrices of all devices, stacked. -/
theorem shared (c : Dev 8) (hH : H = 8 * h) (G : (⟨3, ![2, h, n]⟩ : Shape).Idx → α) (A : Dev 8 → (⟨2, ![h, n]⟩ : Shape).Idx → α)
    (M : (⟨2, ![H, n]⟩ : Shape).Idx → α) (tA : Layout.Tiles ⟨2, ![h, n]⟩ ⟨2, ![H, n]⟩ 0 8)
    (hs : (⟨2, ![H, n]⟩ : Shape).ShapeCasts ⟨3, ![8, h, n]⟩) (hl)
    (tG : Layout.TilesN ⟨3, ![2, h, n]⟩ ⟨3, ![8, h, n]⟩ fun b => Layout.cutSize [2, 2, 2] ((![[0, 1], [], []] : Fin 3 → List Nat) b))
    (hG : G = stack (p := 2) (h := h) (n := n) fun q => A (core c q))
    (hA : ∀ d, A d = Layout.block _ _ 0 8 d M tA) :
    G = Layout.blockN ⟨3, ![2, h, n]⟩ ⟨3, ![8, h, n]⟩ (Layout.meshBlock [2, 2, 2] ![[0, 1], [], []] c hl) (shapeCast ⟨3, ![8, h, n]⟩ M hs) tG := by
  subst hG
  refine stack_ext fun q i j => ?_
  have e : tG.idx (Layout.meshBlock [2, 2, 2] ![[0, 1], [], []] c hl) (ix3 q i j) = ix3 (core c q) i j := by
    funext b
    apply Fin.ext
    rw [Layout.TilesN.idx_val]
    fin_cases b
    · show Layout.meshLin [2, 2, 2] c.val [0, 1] * 2 + q.val = 2 * (c.val / 2) + q.val
      rw [chip_lin]; omega
    · show 0 * h + i.val = i.val; omega
    · show 0 * n + j.val = j.val; omega
  rw [stack_at, hA, Layout.block_apply, Layout.blockN_apply, e, cut_at hH M hs _ _ _ (row_lt hH _ _)]
  refine congrArg M ?_
  funext b
  apply Fin.ext
  rw [Layout.Tiles.idx_val]
  fin_cases b
  · rfl
  · rfl

/-! ## Scattering -/

/-- The reference of the exchange between chips at an index: block `8 t + 4 q + s` is block `8 s + 4 q + t`. -/
theorem turn_at (M : (⟨3, ![32, h, n]⟩ : Shape).Idx → α) (h1 : (⟨3, ![32, h, n]⟩ : Shape).ShapeCasts ⟨5, ![4, 2, 4, h, n]⟩)
    (tr : (⟨5, ![4, 2, 4, h, n]⟩ : Shape).Transposes [2, 1, 0, 3, 4] ⟨5, ![4, 2, 4, h, n]⟩)
    (h2 : (⟨5, ![4, 2, 4, h, n]⟩ : Shape).ShapeCasts ⟨3, ![32, h, n]⟩) (t : Fin 4) (q : Fin 2) (s : Fin 4) (i : Fin h) (j : Fin n) :
    shapeCast ⟨3, ![32, h, n]⟩ (transpose ⟨5, ![4, 2, 4, h, n]⟩ [2, 1, 0, 3, 4] (shapeCast ⟨5, ![4, 2, 4, h, n]⟩ M h1) tr) h2
      (ix3 (⟨8 * t.val + 4 * q.val + s.val, by omega⟩ : Fin 32) i j)
      = M (ix3 (⟨8 * s.val + 4 * q.val + t.val, by omega⟩ : Fin 32) i j) := by
  have e2 : Shape.reshapeEquiv h2 (ix3 (⟨8 * t.val + 4 * q.val + s.val, by omega⟩ : Fin 32) i j) = ix5 t q s i j :=
    Shape.reshapeEquiv_eq_of_rowMajor h2 (by
      rw [Shape.rowMajor_val_five, Shape.rowMajor_val_three]
      show (((t.val * 2 + q.val) * 4 + s.val) * h + i.val) * n + j.val = ((8 * t.val + 4 * q.val + s.val) * h + i.val) * n + j.val
      rw [show (t.val * 2 + q.val) * 4 + s.val = 8 * t.val + 4 * q.val + s.val by omega])
  have e1 : Shape.reshapeEquiv h1 (ix5 s q t i j) = ix3 (⟨8 * s.val + 4 * q.val + t.val, by omega⟩ : Fin 32) i j :=
    Shape.reshapeEquiv_eq_of_rowMajor h1 (by
      rw [Shape.rowMajor_val_five, Shape.rowMajor_val_three]
      show ((8 * s.val + 4 * q.val + t.val) * h + i.val) * n + j.val = (((s.val * 2 + q.val) * 4 + t.val) * h + i.val) * n + j.val
      rw [show (s.val * 2 + q.val) * 4 + t.val = 8 * s.val + 4 * q.val + t.val by omega])
  refine (congrArg (transpose ⟨5, ![4, 2, 4, h, n]⟩ [2, 1, 0, 3, 4] (shapeCast ⟨5, ![4, 2, 4, h, n]⟩ M h1) tr) e2).trans ?_
  refine (transpose_apply _ _ tr _ (ix5 s q t i j) ?_).trans (congrArg M e1)
  intro b
  fin_cases b <;> rfl

/-- The parts that the four chips' like cores send a device, stacked, are its block of the reference's result. -/
theorem scattered (c : Dev 8) (G : (⟨3, ![4, h, n]⟩ : Shape).Idx → α) (A : Dev 8 → (⟨3, ![4, h, n]⟩ : Shape).Idx → α)
    (M : (⟨3, ![32, h, n]⟩ : Shape).Idx → α) (tA tG : Layout.Tiles ⟨3, ![4, h, n]⟩ ⟨3, ![32, h, n]⟩ 0 8)
    (h1 : (⟨3, ![32, h, n]⟩ : Shape).ShapeCasts ⟨5, ![4, 2, 4, h, n]⟩)
    (tr : (⟨5, ![4, 2, 4, h, n]⟩ : Shape).Transposes [2, 1, 0, 3, 4] ⟨5, ![4, 2, 4, h, n]⟩)
    (h2 : (⟨5, ![4, 2, 4, h, n]⟩ : Shape).ShapeCasts ⟨3, ![32, h, n]⟩)
    (hG : ∀ (s : Fin 4) (i : Fin h) (j : Fin n), G (ix3 s i j) = A (chip c s) (ix3 (⟨c.val / 2, by have := c.isLt; omega⟩ : Fin 4) i j))
    (hA : ∀ d, A d = Layout.block _ _ 0 8 d M tA) :
    G = Layout.block _ _ 0 8 c (shapeCast ⟨3, ![32, h, n]⟩ (transpose ⟨5, ![4, 2, 4, h, n]⟩ [2, 1, 0, 3, 4]
      (shapeCast ⟨5, ![4, 2, 4, h, n]⟩ M h1) tr) h2) tG := by
  have hc := c.isLt
  refine stack_ext fun s i j => ?_
  have e : tG.idx c (ix3 s i j) = ix3 (⟨8 * (⟨c.val / 2, by omega⟩ : Fin 4).val + 4 * (⟨c.val % 2, by omega⟩ : Fin 2).val + s.val, by omega⟩ : Fin 32) i j := by
    funext b
    apply Fin.ext
    rw [Layout.Tiles.idx_val]
    fin_cases b
    · show c.val * 4 + s.val = 8 * (c.val / 2) + 4 * (c.val % 2) + s.val; omega
    · rfl
    · rfl
  rw [hG, hA, Layout.block_apply, Layout.block_apply, e, turn_at]
  refine congrArg M ?_
  funext b
  apply Fin.ext
  rw [Layout.Tiles.idx_val]
  fin_cases b
  · show (2 * s.val + c.val % 2) * 4 + c.val / 2 = 8 * s.val + 4 * (c.val % 2) + c.val / 2; omega
  · rfl
  · rfl

/-! ## Gathering -/

/-- Shards cut by rows: the stack of the chips' shards is the whole array cut into matrices. -/
theorem gathered_rows (c : Dev 8) (hH : H = 4 * h) (G : (⟨3, ![4, h, n]⟩ : Shape).Idx → α) (A : Dev 8 → (⟨2, ![h, n]⟩ : Shape).Idx → α)
    (M : (⟨2, ![H, n]⟩ : Shape).Idx → α) (hl : Dev 8 → ∀ b : Fin 2, ∀ i ∈ (![[0, 1], []] : Fin 2 → List Nat) b, 0 < [2, 2, 2].getD i 0)
    (tA : Layout.TilesN ⟨2, ![h, n]⟩ ⟨2, ![H, n]⟩ fun b => Layout.cutSize [2, 2, 2] ((![[0, 1], []] : Fin 2 → List Nat) b))
    (hs : (⟨2, ![H, n]⟩ : Shape).ShapeCasts ⟨3, ![4, h, n]⟩)
    (hG : ∀ (s : Fin 4) (i : Fin h) (j : Fin n), ∃ d : Dev 8, d.val / 2 = s.val ∧ G (ix3 s i j) = A d (ix2 i j))
    (hA : ∀ d, A d = Layout.blockN _ _ (Layout.meshBlock [2, 2, 2] ![[0, 1], []] d (hl d)) M tA) :
    G = shapeCast ⟨3, ![4, h, n]⟩ M hs := by
  refine stack_ext fun s i j => ?_
  obtain ⟨d, hd, e⟩ := hG s i j
  rw [e, hA, Layout.blockN_apply, cut_at hH M hs _ _ _ (row_lt hH _ _)]
  refine congrArg M ?_
  funext b
  apply Fin.ext
  rw [Layout.TilesN.idx_val]
  fin_cases b
  · show Layout.meshLin [2, 2, 2] d.val [0, 1] * h + i.val = s.val * h + i.val
    rw [chip_lin, hd]
  · show 0 * n + j.val = j.val; omega

/-- Shards cut by columns. -/
theorem gathered_cols (c : Dev 8) (hN : N = 4 * n) (G : (⟨3, ![4, h, n]⟩ : Shape).Idx → α) (A : Dev 8 → (⟨2, ![h, n]⟩ : Shape).Idx → α)
    (M : (⟨2, ![h, N]⟩ : Shape).Idx → α) (hl : Dev 8 → ∀ b : Fin 2, ∀ i ∈ (![[], [0, 1]] : Fin 2 → List Nat) b, 0 < [2, 2, 2].getD i 0)
    (tA : Layout.TilesN ⟨2, ![h, n]⟩ ⟨2, ![h, N]⟩ fun b => Layout.cutSize [2, 2, 2] ((![[], [0, 1]] : Fin 2 → List Nat) b))
    (hs : (⟨2, ![h, N]⟩ : Shape).ShapeCasts ⟨3, ![h, 4, n]⟩) (tr : (⟨3, ![h, 4, n]⟩ : Shape).Transposes [1, 0, 2] ⟨3, ![4, h, n]⟩)
    (hG : ∀ (s : Fin 4) (i : Fin h) (j : Fin n), ∃ d : Dev 8, d.val / 2 = s.val ∧ G (ix3 s i j) = A d (ix2 i j))
    (hA : ∀ d, A d = Layout.blockN _ _ (Layout.meshBlock [2, 2, 2] ![[], [0, 1]] d (hl d)) M tA) :
    G = transpose ⟨3, ![4, h, n]⟩ [1, 0, 2] (shapeCast ⟨3, ![h, 4, n]⟩ M hs) tr := by
  refine stack_ext fun s i j => ?_
  obtain ⟨d, hd, e⟩ := hG s i j
  have e1 : Shape.reshapeEquiv hs (ix3 i s j) = ix2 i (⟨s.val * n + j.val, row_lt hN s j⟩ : Fin N) :=
    Shape.reshapeEquiv_eq_of_rowMajor hs (by
      rw [Shape.rowMajor_val_two, Shape.rowMajor_val_three]
      show i.val * N + (s.val * n + j.val) = (i.val * 4 + s.val) * n + j.val
      rw [hN, Nat.add_mul, Nat.mul_assoc, Nat.add_assoc])
  rw [transpose_apply _ _ tr (ix3 s i j) (ix3 i s j) (by intro b; fin_cases b <;> rfl)]
  refine (e.trans ?_).trans (congrArg M e1).symm
  rw [hA, Layout.blockN_apply]
  refine congrArg M ?_
  funext b
  apply Fin.ext
  rw [Layout.TilesN.idx_val]
  fin_cases b
  · show 0 * h + i.val = i.val; omega
  · show Layout.meshLin [2, 2, 2] d.val [0, 1] * n + j.val = s.val * n + j.val
    rw [chip_lin, hd]

end Cert.Stacks
-- ==== Proof.ScatterClaim.lean ====
/-
The claims about the scattering of the gradient parts to the chips they belong to.
-/
module

public import proofs.«01_k».proof.Defs
public import proofs.«01_k».proof.Proof.Scatter
public import proofs.«01_k».proof.Proof.Stacks
public import proofs.«01_k».proof.Proof.Gen.Scatter
public import proofs.«01_k».proof.Proof.Gen.ScatterRef.Run
public import proofs.«01_k».proof.Proof.Gen.ScatterRefIdeal.Run

@[expose] public section

noncomputable section

namespace Cert.ScatterProof

open Cert.Stacks

open Idealize.ShloMosaic
open Idealize.ShloMosaic.TcCoe
open Idealize.SL.Sem

theorem frame : Cert.quiescent_Scatter := fun m ρ _ =>
  (θ_run Cert.ScatterIdeal.defs _ _).mono (fun _ h => ⟨fun c => ⟨(h.1 c).1 0, (h.1 c).1 1, (h.1 c).1 2, (h.1 c).1 3, (h.1 c).1 4⟩, h.2⟩)
    (run_main (F := Bits) m ρ)

theorem frame_ideal : Cert.quiescent_ScatterIdeal := fun m ρ _ =>
  (θ_run Cert.ScatterIdeal.defs _ _).mono (fun _ h => ⟨fun c => ⟨(h.1 c).1 0, (h.1 c).1 1, (h.1 c).1 2, (h.1 c).1 3, (h.1 c).1 4⟩, h.2⟩)
    (run_main (F := Ideal) m ρ)

theorem frame_ref : Cert.quiescent_ScatterRef := fun m ρ _ =>
  (θ_run Cert.ScatterRef.defs _ _).mono (fun r h => ⟨fun c => (h c).2.2.2.2.2, sem_eq_zero_of_no_sems (by decide) r.2⟩)
    (Cert.ScatterRef.Value.run (F := Bits) m ρ)

theorem frame_ref_ideal : Cert.quiescent_ScatterRefIdeal := fun m ρ _ =>
  (θ_run Cert.ScatterRefIdeal.defs _ _).mono (fun r h => ⟨fun c => (h c).2.2.2.2.2, sem_eq_zero_of_no_sems (by decide) r.2⟩)
    (Cert.ScatterRefIdeal.Value.run (F := Ideal) m ρ)

theorem preserves : Cert.preserves_Scatter_ScatterIdeal := trivial

theorem bitexact : Cert.bitexact_Scatter_ScatterRef := by
  intro m ρ m' ρ' _ hagree
  refine ⟨_, _, _, _, _, ?_, (θ_run Cert.ScatterRef.defs _ _).mono (fun _ h => h 0) (Cert.ScatterRef.Value.run (F := Bits) m' ρ')⟩
  refine (θ_run Cert.ScatterIdeal.defs _ _).mono (fun _ h c => ?_) (run_main (F := Bits) m ρ)
  obtain ⟨hi, ho⟩ := h.1 c
  exact ⟨(ho 0).trans (scattered (h := 1024) (n := 4100) c _ _ _ _ _ _ _ _ (fun _ _ _ => rfl) fun d => (hagree d).1),
    (ho 1).trans (scattered (h := 256) (n := 2048) c _ _ _ _ _ _ _ _ (fun _ _ _ => rfl) fun d => (hagree d).2.1),
    (ho 2).trans (scattered (h := 1024) (n := 1408) c _ _ _ _ _ _ _ _ (fun _ _ _ => rfl) fun d => (hagree d).2.2.1),
    (ho 3).trans (scattered (h := 1024) (n := 1408) c _ _ _ _ _ _ _ _ (fun _ _ _ => rfl) fun d => (hagree d).2.2.2.1),
    (ho 4).trans (scattered (h := 704) (n := 2048) c _ _ _ _ _ _ _ _ (fun _ _ _ => rfl) fun d => (hagree d).2.2.2.2),
    hi 0, hi 1, hi 2, hi 3, hi 4⟩

theorem algebraic : Cert.algebraic_ScatterIdeal_ScatterRefIdeal := by
  intro m ρ m' ρ' _ hagree
  refine ⟨_, _, _, _, _, ?_, (θ_run Cert.ScatterRefIdeal.defs _ _).mono (fun _ h => h 0) (Cert.ScatterRefIdeal.Value.run (F := Ideal) m' ρ')⟩
  refine (θ_run Cert.ScatterIdeal.defs _ _).mono (fun _ h c => ?_) (run_main (F := Ideal) m ρ)
  obtain ⟨hi, ho⟩ := h.1 c
  exact ⟨(ho 0).trans (scattered (h := 1024) (n := 4100) c _ _ _ _ _ _ _ _ (fun _ _ _ => rfl) fun d => (hagree d).1),
    (ho 1).trans (scattered (h := 256) (n := 2048) c _ _ _ _ _ _ _ _ (fun _ _ _ => rfl) fun d => (hagree d).2.1),
    (ho 2).trans (scattered (h := 1024) (n := 1408) c _ _ _ _ _ _ _ _ (fun _ _ _ => rfl) fun d => (hagree d).2.2.1),
    (ho 3).trans (scattered (h := 1024) (n := 1408) c _ _ _ _ _ _ _ _ (fun _ _ _ => rfl) fun d => (hagree d).2.2.2.1),
    (ho 4).trans (scattered (h := 704) (n := 2048) c _ _ _ _ _ _ _ _ (fun _ _ _ => rfl) fun d => (hagree d).2.2.2.2),
    hi 0, hi 1, hi 2, hi 3, hi 4⟩

end Cert.ScatterProof
-- ==== Proof.Share.lean ====
/-
The sharing of the reduced halves between the two cores of each chip, run.

Each core copies its matrix, of each of five arrays, to its own place in its own stack of two and sends it to the same
place in the other core's stack.
-/
module

public import proofs.«01_k».proof.Proof.Pieces
public import proofs.«01_k».proof.Proof.Gen.ShareIdeal
public import proofs.«01_k».proof.Proof.Gen.ShareIdeal.Skeleton
public import proofs.«01_k».proof.Proof.Gen.ShareIdeal.Launch
public import proofs.«01_k».proof.Proof.Gen.ShareIdeal.Points

@[expose] public section

noncomputable section

namespace Cert.ShareProof

open Cert.ShareIdeal Cert.ShareIdeal.Gen Cert.Talk Cert.Mesh Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

def shp : Fin 5 → Shape
  | 0 => S1024x4100
  | 1 => S256x2048
  | 2 => S1024x1408
  | 3 => S1024x1408
  | 4 => S704x2048

/-- The arrays read. -/
def inp : Fin 5 → Ref sig .tc
  | 0 => main_arg0
  | 1 => main_arg1
  | 2 => main_arg2
  | 3 => main_arg3
  | 4 => main_arg4

/-- The arrays written. -/
def out : Fin 5 → Ref sig .tc
  | 0 => main_v1_0
  | 1 => main_v1_1
  | 2 => main_v1_2
  | 3 => main_v1_3
  | 4 => main_v1_4

def src : (k : Fin 5) → Dev nD → Memref sig .tc .hbm (shp k) .f32
  | 0, _ => Memref.whole main_arg0
  | 1, _ => Memref.whole main_arg1
  | 2, _ => Memref.whole main_arg2
  | 3, _ => Memref.whole main_arg3
  | 4, _ => Memref.whole main_arg4

/-- Device `c`'s place in a stack. -/
def dst : (k : Fin 5) → Dev nD → Memref sig .tc .hbm (shp k) .f32
  | 0, c => ((Memref.whole main_v1_0).slice (Rect.unit (s := S2x1024x4100) (k0_off1 c) S1x1024x4100.size (k0_off1_inb c)) (fun _ => rfl)).squeeze S1024x4100 squeezes_S1x1024x4100_S1024x4100
  | 1, c => ((Memref.whole main_v1_1).slice (Rect.unit (s := S2x256x2048) (k0_off2 c) S1x256x2048.size (k0_off2_inb c)) (fun _ => rfl)).squeeze S256x2048 squeezes_S1x256x2048_S256x2048
  | 2, c => ((Memref.whole main_v1_2).slice (Rect.unit (s := S2x1024x1408) (k0_off3 c) S1x1024x1408.size (k0_off3_inb c)) (fun _ => rfl)).squeeze S1024x1408 squeezes_S1x1024x1408_S1024x1408
  | 3, c => ((Memref.whole main_v1_3).slice (Rect.unit (s := S2x1024x1408) (k0_off3 c) S1x1024x1408.size (k0_off3_inb c)) (fun _ => rfl)).squeeze S1024x1408 squeezes_S1x1024x1408_S1024x1408
  | 4, c => ((Memref.whole main_v1_4).slice (Rect.unit (s := S2x704x2048) (k0_off4 c) S1x704x2048.size (k0_off4_inb c)) (fun _ => rfl)).squeeze S704x2048 squeezes_S1x704x2048_S704x2048

def sem : Fin 5 ⊕ Fin 5 ⊕ Fin 5 → DmaSem sig
  | .inl k => ⟨5 + k.val, by have := k.isLt; show 5 + k.val < 15; omega⟩
  | .inr (.inl k) => ⟨10 + k.val, by have := k.isLt; show 10 + k.val < 15; omega⟩
  | .inr (.inr l) => ⟨l.val, by have := l.isLt; show l.val < 15; omega⟩

def plan : Plan nD sig where
  R := Fin 5
  L := Fin 5
  sem := sem
  sem_inj := by decide
  peer _ := sibE
  sp := .hbm
  rshape := shp
  relt _ := .f32
  src := src
  dst := dst
  lshape := shp
  lelt _ := .f32
  lsrc := src
  ldst := dst
  ramt k := (dst k 0).view.dmaCredit
  lamt k := (dst k 0).view.dmaCredit
  ramt_eq k c := by fin_cases k <;> rfl
  lamt_eq k c := by fin_cases k <;> rfl
  ramt_pos k := View.dmaCredit_pos _ (by revert k; decide)
  lamt_pos k := View.dmaCredit_pos _ (by revert k; decide)
  lvl _ := 1

/-! ## The final memory -/

variable (m : (ℓ : Loc nD τ sig) → Buf (Elt F) ℓ)

/-- Both cores' matrices, stacked. -/
def got : (k : Fin 5) → Dev nD → (out k).ty.Contents (Elt F)
  | 0, c => stack (p := 2) (h := 1024) (n := 4100) fun q => m (((core c q).tc : Thread nD τ).loc main_arg0)
  | 1, c => stack (p := 2) (h := 256) (n := 2048) fun q => m (((core c q).tc : Thread nD τ).loc main_arg1)
  | 2, c => stack (p := 2) (h := 1024) (n := 1408) fun q => m (((core c q).tc : Thread nD τ).loc main_arg2)
  | 3, c => stack (p := 2) (h := 1024) (n := 1408) fun q => m (((core c q).tc : Thread nD τ).loc main_arg3)
  | 4, c => stack (p := 2) (h := 704) (n := 2048) fun q => m (((core c q).tc : Thread nD τ).loc main_arg4)

theorem out_inj : Function.Injective out := by decide

def fin : (ℓ : Loc nD τ sig) → Buf (Elt F) ℓ := puts out (got m) (List.finRange 5) m

theorem fin_in (c : Dev nD) (b : Ref sig .tc) (h : ∀ k, b ≠ out k) : fin m ((c.tc : Thread nD τ).loc b) = m ((c.tc : Thread nD τ).loc b) :=
  puts_ne out (got m) _ m c h
theorem fin_out (c : Dev nD) (k : Fin 5) : fin m ((c.tc : Thread nD τ).loc (out k)) = got m k c :=
  puts_at out out_inj (got m) _ m c k (List.mem_finRange k)

def ins : Finset (Ref sig .tc) := {main_arg0, main_arg1, main_arg2, main_arg3, main_arg4}

theorem inp_ins (k : Fin 5) : inp k ∈ ins := by revert k; decide
theorem ins_out : ∀ b ∈ ins, ∀ k, b ≠ out k := by decide

/-- Device `c`'s matrix is what its place holds, on either core of its chip. -/
theorem land (c c' : Dev nD) (hc : core c' ⟨c.val % 2, Nat.mod_lt _ Nat.two_pos⟩ = c) (k : Fin 5) :
    (src k c).view.read (Elt F) (fin m ((src k c).view.loc (c.tc : Thread nD τ)))
      = (dst k c).view.read (Elt F) (fin m ((dst k c).view.loc (c'.tc : Thread nD τ))) := by
  match k with
  | 0 => exact (fin_in m c main_arg0 (by decide)).trans ((stack_read (h := 1024) (n := 4100) (Memref.whole main_v1_0) (Nat.mod_lt _ Nat.two_pos) _ (k0_off1_eq c) _ _ squeezes_S1x1024x4100_S1024x4100
      (fin m ((c'.tc : Thread nD τ).loc main_v1_0)) (fun q => m (((core c' q).tc : Thread nD τ).loc main_arg0)) (fin_out m c' 0)).trans
      (mem_congr m main_arg0 hc)).symm
  | 1 => exact (fin_in m c main_arg1 (by decide)).trans ((stack_read (h := 256) (n := 2048) (Memref.whole main_v1_1) (Nat.mod_lt _ Nat.two_pos) _ (k0_off2_eq c) _ _ squeezes_S1x256x2048_S256x2048
      (fin m ((c'.tc : Thread nD τ).loc main_v1_1)) (fun q => m (((core c' q).tc : Thread nD τ).loc main_arg1)) (fin_out m c' 1)).trans
      (mem_congr m main_arg1 hc)).symm
  | 2 => exact (fin_in m c main_arg2 (by decide)).trans ((stack_read (h := 1024) (n := 1408) (Memref.whole main_v1_2) (Nat.mod_lt _ Nat.two_pos) _ (k0_off3_eq c) _ _ squeezes_S1x1024x1408_S1024x1408
      (fin m ((c'.tc : Thread nD τ).loc main_v1_2)) (fun q => m (((core c' q).tc : Thread nD τ).loc main_arg2)) (fin_out m c' 2)).trans
      (mem_congr m main_arg2 hc)).symm
  | 3 => exact (fin_in m c main_arg3 (by decide)).trans ((stack_read (h := 1024) (n := 1408) (Memref.whole main_v1_3) (Nat.mod_lt _ Nat.two_pos) _ (k0_off3_eq c) _ _ squeezes_S1x1024x1408_S1024x1408
      (fin m ((c'.tc : Thread nD τ).loc main_v1_3)) (fun q => m (((core c' q).tc : Thread nD τ).loc main_arg3)) (fin_out m c' 3)).trans
      (mem_congr m main_arg3 hc)).symm
  | 4 => exact (fin_in m c main_arg4 (by decide)).trans ((stack_read (h := 704) (n := 2048) (Memref.whole main_v1_4) (Nat.mod_lt _ Nat.two_pos) _ (k0_off4_eq c) _ _ squeezes_S1x704x2048_S704x2048
      (fin m ((c'.tc : Thread nD τ).loc main_v1_4)) (fun q => m (((core c' q).tc : Thread nD τ).loc main_arg4)) (fin_out m c' 4)).trans
      (mem_congr m main_arg4 hc)).symm

theorem land_far (c : Dev nD) (k : Fin 5) : (src k c).view.read (Elt F) (fin m ((src k c).view.loc (c.tc : Thread nD τ)))
    = (dst k c).view.read (Elt F) (fin m ((dst k c).view.loc ((sib c).tc : Thread nD τ))) := land m c (sib c) (core_sib c _) k
theorem land_here (c : Dev nD) (k : Fin 5) : (src k c).view.read (Elt F) (fin m ((src k c).view.loc (c.tc : Thread nD τ)))
    = (dst k c).view.read (Elt F) (fin m ((dst k c).view.loc (c.tc : Thread nD τ))) := land m c c (core_self c _) k

/-! ## The run -/

/-- The cells: of the sender's wait, of the receiver's, of a local copy's. -/
abbrev sn (k : Fin 5) : plan.J := plan.snd k
abbrev rc (k : Fin 5) : plan.J := plan.rcv k
abbrev lo (k : Fin 5) : plan.J := plan.loc k

abbrev S₀ : List plan.R := ([0, 1, 2, 3, 4] : List (Fin 5))
abbrev T₀ : List plan.L := ([0, 1, 2, 3, 4] : List (Fin 5))
abbrev W₀ : List (Fin 5 ⊕ Fin 5 ⊕ Fin 5) :=
  [.inr (.inr 0), .inl 0, .inr (.inl 0), .inr (.inr 1), .inl 1, .inr (.inl 1), .inr (.inr 2), .inl 2, .inr (.inl 2),
    .inr (.inr 3), .inl 3, .inr (.inl 3), .inr (.inr 4), .inl 4, .inr (.inl 4)]
abbrev B₀ : List plan.J := W₀

theorem dev_eq1 (c : Dev nD) : (⟨k0_dev1 c, k0_dev1_lt c⟩ : Dev nD) = sib c := by revert c; decide
theorem dev_eq2 (c : Dev nD) : (⟨k0_dev2 c, k0_dev2_lt c⟩ : Dev nD) = sib c := by revert c; decide
theorem dev_eq3 (c : Dev nD) : (⟨k0_dev3 c, k0_dev3_lt c⟩ : Dev nD) = sib c := by revert c; decide
theorem dev_eq4 (c : Dev nD) : (⟨k0_dev4 c, k0_dev4_lt c⟩ : Dev nD) = sib c := by revert c; decide
theorem dev_eq5 (c : Dev nD) : (⟨k0_dev5 c, k0_dev5_lt c⟩ : Dev nD) = sib c := by revert c; decide

theorem routes (c : Dev nD) : τ.routes (c.tc : Thread nD τ) ((sib c).tc : Thread nD τ) = true := by revert c; decide
theorem none_owed {j : plan.J} : ∀ k ∈ ([] : List plan.R), plan.lev j < plan.lvl k := fun _ h => absurd h List.not_mem_nil

theorem body (c : Dev nD) (t : Fin cfg0.N) : St (fin m) plan m ins c S₀ T₀ B₀
    ⊢ wp frame (wpE (defs₀ (F := F)) Variants.none (c.tc : Thread nD τ) none) Set.univ (bodyAt0 t) (fun _ => St (fin m) plan m ins c [] [] []) := by
  unfold bodyAt0
  simp only [cc0_grad_pair_share_eq_skeleton]
  unfold cc0_grad_pair_share_skel
  simp only [k0_part6_eq_skeleton]
  unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  refine step_copy _ _ c (P := plan) (0 : Fin 5) (land_here m c 0) (from_arg _ _ _ c _ (inp_ins 0) _) ?_
  refine step_send _ _ c (P := plan) (0 : Fin 5) (dev_eq1 c) (routes c) (land_far m c 0) (from_arg _ _ _ c _ (inp_ins 0) _) ?_
  refine step_copy _ _ c (P := plan) (1 : Fin 5) (land_here m c 1) (from_arg _ _ _ c _ (inp_ins 1) _) ?_
  refine step_send _ _ c (P := plan) (1 : Fin 5) (dev_eq2 c) (routes c) (land_far m c 1) (from_arg _ _ _ c _ (inp_ins 1) _) ?_
  refine step_copy _ _ c (P := plan) (2 : Fin 5) (land_here m c 2) (from_arg _ _ _ c _ (inp_ins 2) _) ?_
  refine step_send _ _ c (P := plan) (2 : Fin 5) (dev_eq3 c) (routes c) (land_far m c 2) (from_arg _ _ _ c _ (inp_ins 2) _) ?_
  refine step_copy _ _ c (P := plan) (3 : Fin 5) (land_here m c 3) (from_arg _ _ _ c _ (inp_ins 3) _) ?_
  refine step_send _ _ c (P := plan) (3 : Fin 5) (dev_eq4 c) (routes c) (land_far m c 3) (from_arg _ _ _ c _ (inp_ins 3) _) ?_
  refine step_copy _ _ c (P := plan) (4 : Fin 5) (land_here m c 4) (from_arg _ _ _ c _ (inp_ins 4) _) ?_
  refine step_send _ _ c (P := plan) (4 : Fin 5) (dev_eq5 c) (routes c) (land_far m c 4) (from_arg _ _ _ c _ (inp_ins 4) _) ?_
  refine step_wait _ _ c (lo 0) rfl rfl none_owed List.not_mem_nil ?_
  refine step_wait _ _ c (sn 0) rfl rfl none_owed List.not_mem_nil ?_
  refine step_wait _ _ c (rc 0) rfl rfl none_owed trivial ?_
  refine step_wait _ _ c (lo 1) rfl rfl none_owed List.not_mem_nil ?_
  refine step_wait _ _ c (sn 1) rfl rfl none_owed List.not_mem_nil ?_
  refine step_wait _ _ c (rc 1) rfl rfl none_owed trivial ?_
  refine step_wait _ _ c (lo 2) rfl rfl none_owed List.not_mem_nil ?_
  refine step_wait _ _ c (sn 2) rfl rfl none_owed List.not_mem_nil ?_
  refine step_wait _ _ c (rc 2) rfl rfl none_owed trivial ?_
  refine step_wait _ _ c (lo 3) rfl rfl none_owed List.not_mem_nil ?_
  refine step_wait _ _ c (sn 3) rfl rfl none_owed List.not_mem_nil ?_
  refine step_wait _ _ c (rc 3) rfl rfl none_owed trivial ?_
  refine step_wait _ _ c (lo 4) rfl rfl none_owed List.not_mem_nil ?_
  refine step_wait _ _ c (sn 4) rfl rfl none_owed List.not_mem_nil ?_
  refine step_wait _ _ c (rc 4) rfl rfl none_owed trivial ?_
  rw [wp_ret]; exact fupd_intro

theorem waits_all : ∀ j : Fin 5 ⊕ Fin 5 ⊕ Fin 5, j ∈ W₀ := by
  rintro (k | k | k)
  · exact mem_of_get W₀ ((by decide : ∀ k : Fin 5, ∃ i, W₀.get i = (.inl k)) k)
  · exact mem_of_get W₀ ((by decide : ∀ k : Fin 5, ∃ i, W₀.get i = (.inr (.inl k))) k)
  · exact mem_of_get W₀ ((by decide : ∀ k : Fin 5, ∃ i, W₀.get i = (.inr (.inr k))) k)

theorem full : plan.Full S₀ T₀ B₀ where
  nS := by decide
  nT := by decide
  nB := by decide
  aS := by decide
  aT := by decide
  aB := waits_all

theorem dst_ref (c : Dev nD) (k : Fin 5) : (dst k c).view.ref = out k := by
  match k with
  | 0 => rfl
  | 1 => rfl
  | 2 => rfl
  | 3 => rfl
  | 4 => rfl

/-- A place in a stack is told by the first coordinate. -/
theorem dst_set (c : Dev nD) (k : Fin 5) (x : (dst k c).view.ref.ty.Idx) (hx : x ∈ (dst k c).view.set) :
    (coord (dst k c).view.ref x).1 = c.val % 2 := by
  match k, x, hx with
  | 0, x, hx => obtain ⟨i, j, rfl⟩ := (block_set (h := 1024) (n := 4100) (Memref.whole main_v1_0) (Nat.mod_lt _ Nat.two_pos) (Nat.zero_add _).le _ (k0_off1_eq c) _ _ squeezes_S1x1024x4100_S1024x4100 x).mp hx; rfl
  | 1, x, hx => obtain ⟨i, j, rfl⟩ := (block_set (h := 256) (n := 2048) (Memref.whole main_v1_1) (Nat.mod_lt _ Nat.two_pos) (Nat.zero_add _).le _ (k0_off2_eq c) _ _ squeezes_S1x256x2048_S256x2048 x).mp hx; rfl
  | 2, x, hx => obtain ⟨i, j, rfl⟩ := (block_set (h := 1024) (n := 1408) (Memref.whole main_v1_2) (Nat.mod_lt _ Nat.two_pos) (Nat.zero_add _).le _ (k0_off3_eq c) _ _ squeezes_S1x1024x1408_S1024x1408 x).mp hx; rfl
  | 3, x, hx => obtain ⟨i, j, rfl⟩ := (block_set (h := 1024) (n := 1408) (Memref.whole main_v1_3) (Nat.mod_lt _ Nat.two_pos) (Nat.zero_add _).le _ (k0_off3_eq c) _ _ squeezes_S1x1024x1408_S1024x1408 x).mp hx; rfl
  | 4, x, hx => obtain ⟨i, j, rfl⟩ := (block_set (h := 704) (n := 2048) (Memref.whole main_v1_4) (Nat.mod_lt _ Nat.two_pos) (Nat.zero_add _).le _ (k0_off4_eq c) _ _ squeezes_S1x704x2048_S704x2048 x).mp hx; rfl

theorem out_scoped : ∀ k : Fin 5, ¬ (out k).isScoped := by decide

theorem placed : plan.Placed ins where
  insU := by decide
  outU c n := by
    rcases n with k | k
    · exact ⟨fun h => out_scoped k (dst_ref (sib c) k ▸ h), fun h => ins_out _ h k (dst_ref (sib c) k)⟩
    · exact ⟨fun h => out_scoped k (dst_ref c k ▸ h), fun h => ins_out _ h k (dst_ref c k)⟩
  apart c := apart_of _
    (fun i v => v.1 = match i with | .inl _ => (sib c).val % 2 | .inr _ => c.val % 2)
    (by rintro (k | k) x hx; exacts [dst_set (sib c) k x hx, dst_set c k x hx])
    (by
      have hs : (sib c).val % 2 ≠ c.val % 2 := by rw [sib_val]; omega
      rintro (i | i) (j | j) v e hi hj
      · exact congrArg _ (out_inj ((dst_ref (sib c) i).symm.trans (e.trans (dst_ref (sib c) j))))
      · exact absurd (hi.symm.trans hj) hs
      · exact absurd (hj.symm.trans hi) hs
      · exact congrArg _ (out_inj ((dst_ref c i).symm.trans (e.trans (dst_ref c j)))))

/-- What a device's stacks hold at the end. -/
theorem out_end (s : MemSt nD τ sig (Elt F)) (c : Dev nD) (h : QY plan (fin m) ins c s) (k : Fin 5) :
    s.mem ((c.tc : Thread nD τ).loc (out k)) = got m k c := by
  have hc := sib_val c
  refine Eq.trans ?_ (fin_out m c k)
  match k with
  | 0 =>
    exact stack_ext (p := 2) (h := 1024) (n := 4100) fun q i j => if e : q.val = c.val % 2
      then h.2 (.inr (0 : Fin 5)) _ (block_mem (p := 2) (h := 1024) (n := 4100) (Memref.whole main_v1_0) (Nat.mod_lt _ Nat.two_pos) (Nat.zero_add _).le _ (k0_off1_eq c) _ _ squeezes_S1x1024x4100_S1024x4100 q i j e (Nat.zero_le _) (by omega))
      else h.2 (.inl (0 : Fin 5)) _ (block_mem (p := 2) (h := 1024) (n := 4100) (Memref.whole main_v1_0) (Nat.mod_lt _ Nat.two_pos) (Nat.zero_add _).le _ (k0_off1_eq (sib c)) _ _ squeezes_S1x1024x4100_S1024x4100 q i j (by omega) (Nat.zero_le _) (by omega))
  | 1 =>
    exact stack_ext (p := 2) (h := 256) (n := 2048) fun q i j => if e : q.val = c.val % 2
      then h.2 (.inr (1 : Fin 5)) _ (block_mem (p := 2) (h := 256) (n := 2048) (Memref.whole main_v1_1) (Nat.mod_lt _ Nat.two_pos) (Nat.zero_add _).le _ (k0_off2_eq c) _ _ squeezes_S1x256x2048_S256x2048 q i j e (Nat.zero_le _) (by omega))
      else h.2 (.inl (1 : Fin 5)) _ (block_mem (p := 2) (h := 256) (n := 2048) (Memref.whole main_v1_1) (Nat.mod_lt _ Nat.two_pos) (Nat.zero_add _).le _ (k0_off2_eq (sib c)) _ _ squeezes_S1x256x2048_S256x2048 q i j (by omega) (Nat.zero_le _) (by omega))
  | 2 =>
    exact stack_ext (p := 2) (h := 1024) (n := 1408) fun q i j => if e : q.val = c.val % 2
      then h.2 (.inr (2 : Fin 5)) _ (block_mem (p := 2) (h := 1024) (n := 1408) (Memref.whole main_v1_2) (Nat.mod_lt _ Nat.two_pos) (Nat.zero_add _).le _ (k0_off3_eq c) _ _ squeezes_S1x1024x1408_S1024x1408 q i j e (Nat.zero_le _) (by omega))
      else h.2 (.inl (2 : Fin 5)) _ (block_mem (p := 2) (h := 1024) (n := 1408) (Memref.whole main_v1_2) (Nat.mod_lt _ Nat.two_pos) (Nat.zero_add _).le _ (k0_off3_eq (sib c)) _ _ squeezes_S1x1024x1408_S1024x1408 q i j (by omega) (Nat.zero_le _) (by omega))
  | 3 =>
    exact stack_ext (p := 2) (h := 1024) (n := 1408) fun q i j => if e : q.val = c.val % 2
      then h.2 (.inr (3 : Fin 5)) _ (block_mem (p := 2) (h := 1024) (n := 1408) (Memref.whole main_v1_3) (Nat.mod_lt _ Nat.two_pos) (Nat.zero_add _).le _ (k0_off3_eq c) _ _ squeezes_S1x1024x1408_S1024x1408 q i j e (Nat.zero_le _) (by omega))
      else h.2 (.inl (3 : Fin 5)) _ (block_mem (p := 2) (h := 1024) (n := 1408) (Memref.whole main_v1_3) (Nat.mod_lt _ Nat.two_pos) (Nat.zero_add _).le _ (k0_off3_eq (sib c)) _ _ squeezes_S1x1024x1408_S1024x1408 q i j (by omega) (Nat.zero_le _) (by omega))
  | 4 =>
    exact stack_ext (p := 2) (h := 704) (n := 2048) fun q i j => if e : q.val = c.val % 2
      then h.2 (.inr (4 : Fin 5)) _ (block_mem (p := 2) (h := 704) (n := 2048) (Memref.whole main_v1_4) (Nat.mod_lt _ Nat.two_pos) (Nat.zero_add _).le _ (k0_off4_eq c) _ _ squeezes_S1x704x2048_S704x2048 q i j e (Nat.zero_le _) (by omega))
      else h.2 (.inl (4 : Fin 5)) _ (block_mem (p := 2) (h := 704) (n := 2048) (Memref.whole main_v1_4) (Nat.mod_lt _ Nat.two_pos) (Nat.zero_add _).le _ (k0_off4_eq (sib c)) _ _ squeezes_S1x704x2048_S704x2048 q i j (by omega) (Nat.zero_le _) (by omega))

/-- The arrays read end as they began; those written hold both cores' matrices. -/
def Post (s : MemSt nD τ sig (Elt F)) : Prop := ∀ c : Dev nD,
  (∀ k, s.mem ((c.tc : Thread nD τ).loc (inp k)) = m ((c.tc : Thread nD τ).loc (inp k)))
  ∧ ∀ k, s.mem ((c.tc : Thread nD τ).loc (out k)) = got m k c

theorem post_of (s : MemSt nD τ sig (Elt F)) (h : ∀ c, QY plan (fin m) ins c s) : Post m s := fun c =>
  ⟨fun k => ((h c).1 _ (inp_ins k)).trans (fin_in m c _ (ins_out _ (inp_ins k))), out_end m s c (h c)⟩

theorem run_main (ρ : Dev nD → PrngReg) :
    θ_run (defs (F := F)) (onTc (τ := τ) (main (F := F))) ⟨m, fun _ => 0, ρ⟩ (fun r => Post m r.2 ∧ r.2.sem = fun _ => 0) :=
  θ_run_talk plan m (fin m) ins cfgs ⟨fun w => w.elim0⟩ N_0 cellOf_inj winFacts0 (by decide) (fun c => scopedRest0_eq c) defs₀ Variants.none ρ main
    (fun _ => rfl) full placed (fun c b hb => fin_in m c b (ins_out b hb)) (fun c t => body m c t)
    (fun s h hs => ⟨post_of m s h, sem_eq_zero_of_scoped (by decide) hs⟩)

end Cert.ShareProof
-- ==== Proof.ShareClaim.lean ====
/-
The claims about the sharing of the reduced halves.
-/
module

public import proofs.«01_k».proof.Defs
public import proofs.«01_k».proof.Proof.Share
public import proofs.«01_k».proof.Proof.Stacks
public import proofs.«01_k».proof.Proof.Gen.Share
public import proofs.«01_k».proof.Proof.Gen.ShareRef.Run
public import proofs.«01_k».proof.Proof.Gen.ShareRefIdeal.Run

@[expose] public section

noncomputable section

namespace Cert.ShareProof

open Cert.Stacks

open Idealize.ShloMosaic
open Idealize.ShloMosaic.TcCoe
open Idealize.SL.Sem

theorem frame : Cert.quiescent_Share := fun m ρ _ =>
  (θ_run Cert.ShareIdeal.defs _ _).mono (fun _ h => ⟨fun c => ⟨(h.1 c).1 0, (h.1 c).1 1, (h.1 c).1 2, (h.1 c).1 3, (h.1 c).1 4⟩, h.2⟩)
    (run_main (F := Bits) m ρ)

theorem frame_ideal : Cert.quiescent_ShareIdeal := fun m ρ _ =>
  (θ_run Cert.ShareIdeal.defs _ _).mono (fun _ h => ⟨fun c => ⟨(h.1 c).1 0, (h.1 c).1 1, (h.1 c).1 2, (h.1 c).1 3, (h.1 c).1 4⟩, h.2⟩)
    (run_main (F := Ideal) m ρ)

theorem frame_ref : Cert.quiescent_ShareRef := fun m ρ _ =>
  (θ_run Cert.ShareRef.defs _ _).mono (fun r h => ⟨fun c => (h c).2.2.2.2.2, sem_eq_zero_of_no_sems (by decide) r.2⟩)
    (Cert.ShareRef.Value.run (F := Bits) m ρ)

theorem frame_ref_ideal : Cert.quiescent_ShareRefIdeal := fun m ρ _ =>
  (θ_run Cert.ShareRefIdeal.defs _ _).mono (fun r h => ⟨fun c => (h c).2.2.2.2.2, sem_eq_zero_of_no_sems (by decide) r.2⟩)
    (Cert.ShareRefIdeal.Value.run (F := Ideal) m ρ)

theorem preserves : Cert.preserves_Share_ShareIdeal := trivial

theorem bitexact : Cert.bitexact_Share_ShareRef := by
  intro m ρ m' ρ' _ hagree
  refine ⟨_, _, _, _, _, ?_, (θ_run Cert.ShareRef.defs _ _).mono (fun _ h => h 0) (Cert.ShareRef.Value.run (F := Bits) m' ρ')⟩
  refine (θ_run Cert.ShareIdeal.defs _ _).mono (fun _ h c => ?_) (run_main (F := Bits) m ρ)
  obtain ⟨hi, ho⟩ := h.1 c
  exact ⟨(ho 0).trans (shared (h := 1024) (n := 4100) c rfl _ _ _ _ _ _ _ rfl fun d => (hagree d).1),
    (ho 1).trans (shared (h := 256) (n := 2048) c rfl _ _ _ _ _ _ _ rfl fun d => (hagree d).2.1),
    (ho 2).trans (shared (h := 1024) (n := 1408) c rfl _ _ _ _ _ _ _ rfl fun d => (hagree d).2.2.1),
    (ho 3).trans (shared (h := 1024) (n := 1408) c rfl _ _ _ _ _ _ _ rfl fun d => (hagree d).2.2.2.1),
    (ho 4).trans (shared (h := 704) (n := 2048) c rfl _ _ _ _ _ _ _ rfl fun d => (hagree d).2.2.2.2),
    hi 0, hi 1, hi 2, hi 3, hi 4⟩

theorem algebraic : Cert.algebraic_ShareIdeal_ShareRefIdeal := by
  intro m ρ m' ρ' _ hagree
  refine ⟨_, _, _, _, _, ?_, (θ_run Cert.ShareRefIdeal.defs _ _).mono (fun _ h => h 0) (Cert.ShareRefIdeal.Value.run (F := Ideal) m' ρ')⟩
  refine (θ_run Cert.ShareIdeal.defs _ _).mono (fun _ h c => ?_) (run_main (F := Ideal) m ρ)
  obtain ⟨hi, ho⟩ := h.1 c
  exact ⟨(ho 0).trans (shared (h := 1024) (n := 4100) c rfl _ _ _ _ _ _ _ rfl fun d => (hagree d).1),
    (ho 1).trans (shared (h := 256) (n := 2048) c rfl _ _ _ _ _ _ _ rfl fun d => (hagree d).2.1),
    (ho 2).trans (shared (h := 1024) (n := 1408) c rfl _ _ _ _ _ _ _ rfl fun d => (hagree d).2.2.1),
    (ho 3).trans (shared (h := 1024) (n := 1408) c rfl _ _ _ _ _ _ _ rfl fun d => (hagree d).2.2.2.1),
    (ho 4).trans (shared (h := 704) (n := 2048) c rfl _ _ _ _ _ _ _ rfl fun d => (hagree d).2.2.2.2),
    hi 0, hi 1, hi 2, hi 3, hi 4⟩

end Cert.ShareProof
-- ==== Proof.Gather.lean ====
/-
The gathering of the weights, run.

Each device holds a shard of each of five weights, the same on both cores of a chip. It copies its shard to its own
chip's place in the result. Of the half of the rows that its core's number names it sends its shard's to its own chip's
place on the like core of each other chip, and what it is sent it passes on to the other core of its chip.
-/
module

public import proofs.«01_k».proof.Proof.Pieces
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points

@[expose] public section

noncomputable section

namespace Cert.GatherProof

open Cert.GatherIdeal Cert.GatherIdeal.Gen Cert.Talk Cert.Mesh Cert.Pieces

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plan -/

/-- A half of the rows of a weight's shard. -/
def shp : Fin 5 → Shape
  | 0 => S1024x4100
  | 1 => S256x2048
  | 2 => S1024x1408
  | 3 => S1024x1408
  | 4 => S704x2048

/-- A weight's shard. -/
def big : Fin 5 → Shape
  | 0 => S2048x4100
  | 1 => S512x2048
  | 2 => S2048x1408
  | 3 => S2048x1408
  | 4 => S1408x2048

/-- The rows of half a shard. -/
def hgt : Fin 5 → Nat
  | 0 => 1024
  | 1 => 256
  | 2 => 1024
  | 3 => 1024
  | 4 => 704

/-- The arrays read. -/
def inp : Fin 5 → Ref sig .tc
  | 0 => main_arg0
  | 1 => main_arg1
  | 2 => main_arg2
  | 3 => main_arg3
  | 4 => main_arg4

/-- The arrays written. -/
def out : Fin 5 → Ref sig .tc
  | 0 => main_v1_0
  | 1 => main_v1_1
  | 2 => main_v1_2
  | 3 => main_v1_3
  | 4 => main_v1_4

/-- Device `c`'s whole shard. -/
def shard : (w : Fin 5) → Memref sig .tc .hbm (big w) .bf16
  | 0 => Memref.whole main_arg0
  | 1 => Memref.whole main_arg1
  | 2 => Memref.whole main_arg2
  | 3 => Memref.whole main_arg3
  | 4 => Memref.whole main_arg4

/-- The place of device `c`'s chip in a result. -/
def place : (w : Fin 5) → Dev nD → Memref sig .tc .hbm (big w) .bf16
  | 0, c => ((Memref.whole main_v1_0).slice (Rect.unit (s := S4x2048x4100) (k0_off1 c) S1x2048x4100.size (k0_off1_inb c)) (fun _ => rfl)).squeeze S2048x4100 squeezes_S1x2048x4100_S2048x4100
  | 1, c => ((Memref.whole main_v1_1).slice (Rect.unit (s := S4x512x2048) (k0_off2 c) S1x512x2048.size (k0_off2_inb c)) (fun _ => rfl)).squeeze S512x2048 squeezes_S1x512x2048_S512x2048
  | 2, c => ((Memref.whole main_v1_2).slice (Rect.unit (s := S4x2048x1408) (k0_off3 c) S1x2048x1408.size (k0_off3_inb c)) (fun _ => rfl)).squeeze S2048x1408 squeezes_S1x2048x1408_S2048x1408
  | 3, c => ((Memref.whole main_v1_3).slice (Rect.unit (s := S4x2048x1408) (k0_off3 c) S1x2048x1408.size (k0_off3_inb c)) (fun _ => rfl)).squeeze S2048x1408 squeezes_S1x2048x1408_S2048x1408
  | 4, c => ((Memref.whole main_v1_4).slice (Rect.unit (s := S4x1408x2048) (k0_off4 c) S1x1408x2048.size (k0_off4_inb c)) (fun _ => rfl)).squeeze S1408x2048 squeezes_S1x1408x2048_S1408x2048

/-- The half of device `c`'s shard that its core's number names. -/
def rows : (w : Fin 5) → Dev nD → Memref sig .tc .hbm (shp w) .bf16
  | 0, c => (Memref.whole main_arg0).slice (Rect.unit (s := S2048x4100) (k0_off6 c) S1024x4100.size (k0_off6_inb c)) (fun _ => rfl)
  | 1, c => (Memref.whole main_arg1).slice (Rect.unit (s := S512x2048) (k0_off8 c) S256x2048.size (k0_off8_inb c)) (fun _ => rfl)
  | 2, c => (Memref.whole main_arg2).slice (Rect.unit (s := S2048x1408) (k0_off10 c) S1024x1408.size (k0_off10_inb c)) (fun _ => rfl)
  | 3, c => (Memref.whole main_arg3).slice (Rect.unit (s := S2048x1408) (k0_off10 c) S1024x1408.size (k0_off10_inb c)) (fun _ => rfl)
  | 4, c => (Memref.whole main_arg4).slice (Rect.unit (s := S1408x2048) (k0_off12 c) S704x2048.size (k0_off12_inb c)) (fun _ => rfl)

/-- That half of the place of device `c`'s chip. -/
def slot : (w : Fin 5) → Dev nD → Memref sig .tc .hbm (shp w) .bf16
  | 0, c => ((Memref.whole main_v1_0).slice (Rect.unit (s := S4x2048x4100) (k0_off5 c) S1x1024x4100.size (k0_off5_inb c)) (fun _ => rfl)).squeeze S1024x4100 squeezes_S1x1024x4100_S1024x4100
  | 1, c => ((Memref.whole main_v1_1).slice (Rect.unit (s := S4x512x2048) (k0_off7 c) S1x256x2048.size (k0_off7_inb c)) (fun _ => rfl)).squeeze S256x2048 squeezes_S1x256x2048_S256x2048
  | 2, c => ((Memref.whole main_v1_2).slice (Rect.unit (s := S4x2048x1408) (k0_off9 c) S1x1024x1408.size (k0_off9_inb c)) (fun _ => rfl)).squeeze S1024x1408 squeezes_S1x1024x1408_S1024x1408
  | 3, c => ((Memref.whole main_v1_3).slice (Rect.unit (s := S4x2048x1408) (k0_off9 c) S1x1024x1408.size (k0_off9_inb c)) (fun _ => rfl)).squeeze S1024x1408 squeezes_S1x1024x1408_S1024x1408
  | 4, c => ((Memref.whole main_v1_4).slice (Rect.unit (s := S4x1408x2048) (k0_off11 c) S1x704x2048.size (k0_off11_inb c)) (fun _ => rfl)).squeeze S704x2048 squeezes_S1x704x2048_S704x2048

/-! That half of the place of the chip `j` steps to: where it begins. -/

def at0 : Fin 3 → Dev nD → Fin 3 → Nat
  | 0 => k0_off13
  | 1 => k0_off14
  | 2 => k0_off15
theorem at0_inb : ∀ (j : Fin 3) (c : Dev nD) (a : Fin 3), at0 j c a + S1x1024x4100.size a ≤ S4x2048x4100.size a
  | 0 => k0_off13_inb
  | 1 => k0_off14_inb
  | 2 => k0_off15_inb
def at1 : Fin 3 → Dev nD → Fin 3 → Nat
  | 0 => k0_off16
  | 1 => k0_off17
  | 2 => k0_off18
theorem at1_inb : ∀ (j : Fin 3) (c : Dev nD) (a : Fin 3), at1 j c a + S1x256x2048.size a ≤ S4x512x2048.size a
  | 0 => k0_off16_inb
  | 1 => k0_off17_inb
  | 2 => k0_off18_inb
def at2 : Fin 3 → Dev nD → Fin 3 → Nat
  | 0 => k0_off19
  | 1 => k0_off20
  | 2 => k0_off21
theorem at2_inb : ∀ (j : Fin 3) (c : Dev nD) (a : Fin 3), at2 j c a + S1x1024x1408.size a ≤ S4x2048x1408.size a
  | 0 => k0_off19_inb
  | 1 => k0_off20_inb
  | 2 => k0_off21_inb
def at4 : Fin 3 → Dev nD → Fin 3 → Nat
  | 0 => k0_off22
  | 1 => k0_off23
  | 2 => k0_off24
theorem at4_inb : ∀ (j : Fin 3) (c : Dev nD) (a : Fin 3), at4 j c a + S1x704x2048.size a ≤ S4x1408x2048.size a
  | 0 => k0_off22_inb
  | 1 => k0_off23_inb
  | 2 => k0_off24_inb

/-- That half of the place of the chip `k.2` steps to. -/
def fwd : (k : Fin 5 × Fin 3) → Dev nD → Memref sig .tc .hbm (shp k.1) .bf16
  | (0, j), c => ((Memref.whole main_v1_0).slice (Rect.unit (s := S4x2048x4100) (at0 j c) S1x1024x4100.size (at0_inb j c)) (fun _ => rfl)).squeeze S1024x4100 squeezes_S1x1024x4100_S1024x4100
  | (1, j), c => ((Memref.whole main_v1_1).slice (Rect.unit (s := S4x512x2048) (at1 j c) S1x256x2048.size (at1_inb j c)) (fun _ => rfl)).squeeze S256x2048 squeezes_S1x256x2048_S256x2048
  | (2, j), c => ((Memref.whole main_v1_2).slice (Rect.unit (s := S4x2048x1408) (at2 j c) S1x1024x1408.size (at2_inb j c)) (fun _ => rfl)).squeeze S1024x1408 squeezes_S1x1024x1408_S1024x1408
  | (3, j), c => ((Memref.whole main_v1_3).slice (Rect.unit (s := S4x2048x1408) (at2 j c) S1x1024x1408.size (at2_inb j c)) (fun _ => rfl)).squeeze S1024x1408 squeezes_S1x1024x1408_S1024x1408
  | (4, j), c => ((Memref.whole main_v1_4).slice (Rect.unit (s := S4x1408x2048) (at4 j c) S1x704x2048.size (at4_inb j c)) (fun _ => rfl)).squeeze S704x2048 squeezes_S1x704x2048_S704x2048

abbrev K : Type := Fin 5 × Fin 3

/-- The remote copies: those to other chips, then those to the other core. -/
abbrev R : Type := K ⊕ K

def wgt : R → Fin 5
  | .inl k => k.1
  | .inr k => k.1

/-- A remote copy's number. -/
def num : R → ℕ
  | .inl k => 6 * k.1.val + k.2.val
  | .inr k => 6 * k.1.val + k.2.val + 3

theorem num_lt (r : R) : num r < 30 := by
  rcases r with k | k
  all_goals have h1 := k.1.isLt; have h2 := k.2.isLt
  · show 6 * k.1.val + k.2.val < 30; omega
  · show 6 * k.1.val + k.2.val + 3 < 30; omega

theorem num_inj : Function.Injective num := by
  rintro (⟨a, b⟩ | ⟨a, b⟩) (⟨a', b'⟩ | ⟨a', b'⟩) h
  · have h : 6 * a.val + b.val = 6 * a'.val + b'.val := h
    have e1 : a = a' := Fin.ext (by omega)
    have e2 : b = b' := Fin.ext (by omega)
    rw [e1, e2]
  · have h : 6 * a.val + b.val = 6 * a'.val + b'.val + 3 := h
    omega
  · have h : 6 * a.val + b.val + 3 = 6 * a'.val + b'.val := h
    omega
  · have h : 6 * a.val + b.val + 3 = 6 * a'.val + b'.val + 3 := h
    have e1 : a = a' := Fin.ext (by omega)
    have e2 : b = b' := Fin.ext (by omega)
    rw [e1, e2]

def sem : R ⊕ R ⊕ Fin 5 → DmaSem sig
  | .inl r => ⟨5 + num r, by have := num_lt r; show 5 + num r < 65; omega⟩
  | .inr (.inl r) => ⟨35 + num r, by have := num_lt r; show 35 + num r < 65; omega⟩
  | .inr (.inr l) => ⟨l.val, by have := l.isLt; show l.val < 65; omega⟩

theorem sem_inj : Function.Injective sem := by
  rintro (a | a | a) (b | b | b) h
  all_goals have h := congrArg Fin.val h
  · rw [num_inj (Nat.add_left_cancel (h : 5 + num a = 5 + num b))]
  · have h : 5 + num a = 35 + num b := h
    have := num_lt a
    omega
  · have h : 5 + num a = b.val := h
    omega
  · have h : 35 + num a = 5 + num b := h
    have := num_lt b
    omega
  · rw [num_inj (Nat.add_left_cancel (h : 35 + num a = 35 + num b))]
  · have h : 35 + num a = b.val := h
    omega
  · have h : a.val = 5 + num b := h
    omega
  · have h : a.val = 35 + num b := h
    omega
  · have h : a.val = b.val := h
    rw [Fin.ext h]

theorem shp_pos (w : Fin 5) : 0 < (shp w).numel := by revert w; decide
theorem big_pos (w : Fin 5) : 0 < (big w).numel := by revert w; decide

def peer : R → Dev nD ≃ Dev nD
  | .inl k => farE k.2
  | .inr _ => sibE

def src : (r : R) → Dev nD → Memref sig .tc .hbm (shp (wgt r)) .bf16
  | .inl k => rows k.1
  | .inr k => fwd k

def dst : (r : R) → Dev nD → Memref sig .tc .hbm (shp (wgt r)) .bf16
  | .inl k => slot k.1
  | .inr k => fwd k

/-- A copy to the other core waits for the copy from the other chip. -/
def lvl : R → ℕ
  | .inl _ => 1
  | .inr _ => 2

theorem slot_credit (w : Fin 5) (c : Dev nD) : (slot w c).view.dmaCredit = (slot w 0).view.dmaCredit := by fin_cases w <;> rfl
theorem fwd_credit (k : K) (c : Dev nD) : (fwd k c).view.dmaCredit = (slot k.1 0).view.dmaCredit := by
  obtain ⟨w, j⟩ := k; fin_cases w <;> rfl

def plan : Plan nD sig where
  R := R
  L := Fin 5
  sem := sem
  sem_inj := sem_inj
  peer := peer
  sp := .hbm
  rshape r := shp (wgt r)
  relt _ := .bf16
  src := src
  dst := dst
  lshape := big
  lelt _ := .bf16
  lsrc w _ := shard w
  ldst := place
  ramt r := (slot (wgt r) 0).view.dmaCredit
  lamt w := (place w 0).view.dmaCredit
  ramt_eq r c := match r with
    | .inl k => slot_credit k.1 c
    | .inr k => fwd_credit k c
  lamt_eq w c := by fin_cases w <;> rfl
  ramt_pos r := View.dmaCredit_pos _ (shp_pos (wgt r))
  lamt_pos w := View.dmaCredit_pos _ (big_pos w)
  lvl := lvl

/-! ## The final memory -/

variable (m : (ℓ : Loc nD τ sig) → Buf (Elt F) ℓ)

/-- The shards of the four chips, stacked: half `q` of chip `s`'s rows are those of the device `held c s q`. -/
def got : (w : Fin 5) → Dev nD → (out w).ty.Contents (Elt F)
  | 0, c => stack (p := 4) (h := 2048) (n := 4100) (fun (s : Fin 4) (y : S2048x4100.Idx) => m (((held (c) s ((y 0).val / 1024)).tc : Thread nD τ).loc main_arg0) y)
  | 1, c => stack (p := 4) (h := 512) (n := 2048) (fun (s : Fin 4) (y : S512x2048.Idx) => m (((held (c) s ((y 0).val / 256)).tc : Thread nD τ).loc main_arg1) y)
  | 2, c => stack (p := 4) (h := 2048) (n := 1408) (fun (s : Fin 4) (y : S2048x1408.Idx) => m (((held (c) s ((y 0).val / 1024)).tc : Thread nD τ).loc main_arg2) y)
  | 3, c => stack (p := 4) (h := 2048) (n := 1408) (fun (s : Fin 4) (y : S2048x1408.Idx) => m (((held (c) s ((y 0).val / 1024)).tc : Thread nD τ).loc main_arg3) y)
  | 4, c => stack (p := 4) (h := 1408) (n := 2048) (fun (s : Fin 4) (y : S1408x2048.Idx) => m (((held (c) s ((y 0).val / 704)).tc : Thread nD τ).loc main_arg4) y)

theorem out_inj : Function.Injective out := by decide

def fin : (ℓ : Loc nD τ sig) → Buf (Elt F) ℓ := puts out (got m) (List.finRange 5) m

theorem fin_in (c : Dev nD) (b : Ref sig .tc) (h : ∀ k, b ≠ out k) : fin m ((c.tc : Thread nD τ).loc b) = m ((c.tc : Thread nD τ).loc b) :=
  puts_ne out (got m) _ m c h
theorem fin_out (c : Dev nD) (k : Fin 5) : fin m ((c.tc : Thread nD τ).loc (out k)) = got m k c :=
  puts_at out out_inj (got m) _ m c k (List.mem_finRange k)

def ins : Finset (Ref sig .tc) := {main_arg0, main_arg1, main_arg2, main_arg3, main_arg4}

theorem inp_ins (k : Fin 5) : inp k ∈ ins := by revert k; decide
theorem ins_out : ∀ b ∈ ins, ∀ k, b ≠ out k := by decide

/-! ### Where the pieces are -/

theorem whole0 (c : Dev nD) : k0_off1 c = ![c.val / 2, 0, 0] := by revert c; decide +kernel
theorem slot0 (c : Dev nD) : k0_off5 c = ![c.val / 2, 1024 * (c.val % 2), 0] := by revert c; decide +kernel
theorem rows0 (c : Dev nD) : k0_off6 c = ![1024 * (c.val % 2), 0] := by revert c; decide +kernel
theorem fwd0 (j : Fin 3) (c : Dev nD) : at0 j c = ![(far j c).val / 2, 1024 * (c.val % 2), 0] := by revert j c; decide +kernel
theorem same0 (j : Fin 3) (c : Dev nD) : at0 j c = k0_off5 (far j c) :=
  (fwd0 j c).trans ((congrArg (fun q => ![(far j c).val / 2, 1024 * q, 0]) (far_core j c).symm).trans (slot0 (far j c)).symm)
theorem whole1 (c : Dev nD) : k0_off2 c = ![c.val / 2, 0, 0] := by revert c; decide +kernel
theorem slot1 (c : Dev nD) : k0_off7 c = ![c.val / 2, 256 * (c.val % 2), 0] := by revert c; decide +kernel
theorem rows1 (c : Dev nD) : k0_off8 c = ![256 * (c.val % 2), 0] := by revert c; decide +kernel
theorem fwd1 (j : Fin 3) (c : Dev nD) : at1 j c = ![(far j c).val / 2, 256 * (c.val % 2), 0] := by revert j c; decide +kernel
theorem same1 (j : Fin 3) (c : Dev nD) : at1 j c = k0_off7 (far j c) :=
  (fwd1 j c).trans ((congrArg (fun q => ![(far j c).val / 2, 256 * q, 0]) (far_core j c).symm).trans (slot1 (far j c)).symm)
theorem whole2 (c : Dev nD) : k0_off3 c = ![c.val / 2, 0, 0] := by revert c; decide +kernel
theorem slot2 (c : Dev nD) : k0_off9 c = ![c.val / 2, 1024 * (c.val % 2), 0] := by revert c; decide +kernel
theorem rows2 (c : Dev nD) : k0_off10 c = ![1024 * (c.val % 2), 0] := by revert c; decide +kernel
theorem fwd2 (j : Fin 3) (c : Dev nD) : at2 j c = ![(far j c).val / 2, 1024 * (c.val % 2), 0] := by revert j c; decide +kernel
theorem same2 (j : Fin 3) (c : Dev nD) : at2 j c = k0_off9 (far j c) :=
  (fwd2 j c).trans ((congrArg (fun q => ![(far j c).val / 2, 1024 * q, 0]) (far_core j c).symm).trans (slot2 (far j c)).symm)
theorem whole4 (c : Dev nD) : k0_off4 c = ![c.val / 2, 0, 0] := by revert c; decide +kernel
theorem slot4 (c : Dev nD) : k0_off11 c = ![c.val / 2, 704 * (c.val % 2), 0] := by revert c; decide +kernel
theorem rows4 (c : Dev nD) : k0_off12 c = ![704 * (c.val % 2), 0] := by revert c; decide +kernel
theorem fwd4 (j : Fin 3) (c : Dev nD) : at4 j c = ![(far j c).val / 2, 704 * (c.val % 2), 0] := by revert j c; decide +kernel
theorem same4 (j : Fin 3) (c : Dev nD) : at4 j c = k0_off11 (far j c) :=
  (fwd4 j c).trans ((congrArg (fun q => ![(far j c).val / 2, 704 * q, 0]) (far_core j c).symm).trans (slot4 (far j c)).symm)

/-- Device `c`'s shard is what its chip's place holds. -/
theorem land_here (c : Dev nD) (w : Fin 5) : (shard w).view.read (Elt F) (fin m ((shard w).view.loc (c.tc : Thread nD τ)))
    = (place w c).view.read (Elt F) (fin m ((place w c).view.loc (c.tc : Thread nD τ))) := by
  match w with
  | 0 =>
    refine Eq.trans ?_ (stack_read (p := 4) (h := 2048) (n := 4100) (Val := Elt F) (Memref.whole main_v1_0) (half_lt c) _ (whole0 c) _ _ squeezes_S1x2048x4100_S2048x4100 (fin m ((c.tc : Thread nD τ).loc main_v1_0)) (fun (s : Fin 4) (y : S2048x4100.Idx) => m (((held (c) s ((y 0).val / 1024)).tc : Thread nD τ).loc main_arg0) y) (fin_out m c 0)).symm
    exact (fin_in m c main_arg0 (by decide)).trans (funext fun y => mem_at m main_arg0 _ _ (held_self c ⟨c.val / 2, half_lt c⟩ _ rfl).symm y)
  | 1 =>
    refine Eq.trans ?_ (stack_read (p := 4) (h := 512) (n := 2048) (Val := Elt F) (Memref.whole main_v1_1) (half_lt c) _ (whole1 c) _ _ squeezes_S1x512x2048_S512x2048 (fin m ((c.tc : Thread nD τ).loc main_v1_1)) (fun (s : Fin 4) (y : S512x2048.Idx) => m (((held (c) s ((y 0).val / 256)).tc : Thread nD τ).loc main_arg1) y) (fin_out m c 1)).symm
    exact (fin_in m c main_arg1 (by decide)).trans (funext fun y => mem_at m main_arg1 _ _ (held_self c ⟨c.val / 2, half_lt c⟩ _ rfl).symm y)
  | 2 =>
    refine Eq.trans ?_ (stack_read (p := 4) (h := 2048) (n := 1408) (Val := Elt F) (Memref.whole main_v1_2) (half_lt c) _ (whole2 c) _ _ squeezes_S1x2048x1408_S2048x1408 (fin m ((c.tc : Thread nD τ).loc main_v1_2)) (fun (s : Fin 4) (y : S2048x1408.Idx) => m (((held (c) s ((y 0).val / 1024)).tc : Thread nD τ).loc main_arg2) y) (fin_out m c 2)).symm
    exact (fin_in m c main_arg2 (by decide)).trans (funext fun y => mem_at m main_arg2 _ _ (held_self c ⟨c.val / 2, half_lt c⟩ _ rfl).symm y)
  | 3 =>
    refine Eq.trans ?_ (stack_read (p := 4) (h := 2048) (n := 1408) (Val := Elt F) (Memref.whole main_v1_3) (half_lt c) _ (whole2 c) _ _ squeezes_S1x2048x1408_S2048x1408 (fin m ((c.tc : Thread nD τ).loc main_v1_3)) (fun (s : Fin 4) (y : S2048x1408.Idx) => m (((held (c) s ((y 0).val / 1024)).tc : Thread nD τ).loc main_arg3) y) (fin_out m c 3)).symm
    exact (fin_in m c main_arg3 (by decide)).trans (funext fun y => mem_at m main_arg3 _ _ (held_self c ⟨c.val / 2, half_lt c⟩ _ rfl).symm y)
  | 4 =>
    refine Eq.trans ?_ (stack_read (p := 4) (h := 1408) (n := 2048) (Val := Elt F) (Memref.whole main_v1_4) (half_lt c) _ (whole4 c) _ _ squeezes_S1x1408x2048_S1408x2048 (fin m ((c.tc : Thread nD τ).loc main_v1_4)) (fun (s : Fin 4) (y : S1408x2048.Idx) => m (((held (c) s ((y 0).val / 704)).tc : Thread nD τ).loc main_arg4) y) (fin_out m c 4)).symm
    exact (fin_in m c main_arg4 (by decide)).trans (funext fun y => mem_at m main_arg4 _ _ (held_self c ⟨c.val / 2, half_lt c⟩ _ rfl).symm y)

/-- The half of device `c`'s shard is what its chip's place holds on the like core of another chip. -/
theorem land_far (c : Dev nD) (w : Fin 5) (a : Fin 3) : (rows w c).view.read (Elt F) (fin m ((rows w c).view.loc (c.tc : Thread nD τ)))
    = (slot w c).view.read (Elt F) (fin m ((slot w c).view.loc ((far a c).tc : Thread nD τ))) := by
  match w with
  | 0 =>
    exact rows_land (p := 4) (q := 2048) (h := 1024) (n := 4100) (Val := Elt F) (Memref.whole main_v1_0) (Memref.whole main_arg0) (half_lt c) (by omega) _ (rows0 c) _ (slot0 c)
      _ _ (fun _ => rfl) (fun _ => rfl) squeezes_S1x1024x4100_S1024x4100 (fin m ((c.tc : Thread nD τ).loc main_arg0)) (fin m (((far a c).tc : Thread nD τ).loc main_v1_0)) _ (fun (s : Fin 4) (y : S2048x4100.Idx) => m (((held (far a c) s ((y 0).val / 1024)).tc : Thread nD τ).loc main_arg0) y)
      (fin_in m c main_arg0 (by decide)) (fin_out m (far a c) 0)
      (fun i j h1 h2 => mem_at m main_arg0 _ _ (held_far a c ⟨c.val / 2, half_lt c⟩ _ rfl (half_row h1 h2)) (ix2 i j))
  | 1 =>
    exact rows_land (p := 4) (q := 512) (h := 256) (n := 2048) (Val := Elt F) (Memref.whole main_v1_1) (Memref.whole main_arg1) (half_lt c) (by omega) _ (rows1 c) _ (slot1 c)
      _ _ (fun _ => rfl) (fun _ => rfl) squeezes_S1x256x2048_S256x2048 (fin m ((c.tc : Thread nD τ).loc main_arg1)) (fin m (((far a c).tc : Thread nD τ).loc main_v1_1)) _ (fun (s : Fin 4) (y : S512x2048.Idx) => m (((held (far a c) s ((y 0).val / 256)).tc : Thread nD τ).loc main_arg1) y)
      (fin_in m c main_arg1 (by decide)) (fin_out m (far a c) 1)
      (fun i j h1 h2 => mem_at m main_arg1 _ _ (held_far a c ⟨c.val / 2, half_lt c⟩ _ rfl (half_row h1 h2)) (ix2 i j))
  | 2 =>
    exact rows_land (p := 4) (q := 2048) (h := 1024) (n := 1408) (Val := Elt F) (Memref.whole main_v1_2) (Memref.whole main_arg2) (half_lt c) (by omega) _ (rows2 c) _ (slot2 c)
      _ _ (fun _ => rfl) (fun _ => rfl) squeezes_S1x1024x1408_S1024x1408 (fin m ((c.tc : Thread nD τ).loc main_arg2)) (fin m (((far a c).tc : Thread nD τ).loc main_v1_2)) _ (fun (s : Fin 4) (y : S2048x1408.Idx) => m (((held (far a c) s ((y 0).val / 1024)).tc : Thread nD τ).loc main_arg2) y)
      (fin_in m c main_arg2 (by decide)) (fin_out m (far a c) 2)
      (fun i j h1 h2 => mem_at m main_arg2 _ _ (held_far a c ⟨c.val / 2, half_lt c⟩ _ rfl (half_row h1 h2)) (ix2 i j))
  | 3 =>
    exact rows_land (p := 4) (q := 2048) (h := 1024) (n := 1408) (Val := Elt F) (Memref.whole main_v1_3) (Memref.whole main_arg3) (half_lt c) (by omega) _ (rows2 c) _ (slot2 c)
      _ _ (fun _ => rfl) (fun _ => rfl) squeezes_S1x1024x1408_S1024x1408 (fin m ((c.tc : Thread nD τ).loc main_arg3)) (fin m (((far a c).tc : Thread nD τ).loc main_v1_3)) _ (fun (s : Fin 4) (y : S2048x1408.Idx) => m (((held (far a c) s ((y 0).val / 1024)).tc : Thread nD τ).loc main_arg3) y)
      (fin_in m c main_arg3 (by decide)) (fin_out m (far a c) 3)
      (fun i j h1 h2 => mem_at m main_arg3 _ _ (held_far a c ⟨c.val / 2, half_lt c⟩ _ rfl (half_row h1 h2)) (ix2 i j))
  | 4 =>
    exact rows_land (p := 4) (q := 1408) (h := 704) (n := 2048) (Val := Elt F) (Memref.whole main_v1_4) (Memref.whole main_arg4) (half_lt c) (by omega) _ (rows4 c) _ (slot4 c)
      _ _ (fun _ => rfl) (fun _ => rfl) squeezes_S1x704x2048_S704x2048 (fin m ((c.tc : Thread nD τ).loc main_arg4)) (fin m (((far a c).tc : Thread nD τ).loc main_v1_4)) _ (fun (s : Fin 4) (y : S1408x2048.Idx) => m (((held (far a c) s ((y 0).val / 704)).tc : Thread nD τ).loc main_arg4) y)
      (fin_in m c main_arg4 (by decide)) (fin_out m (far a c) 4)
      (fun i j h1 h2 => mem_at m main_arg4 _ _ (held_far a c ⟨c.val / 2, half_lt c⟩ _ rfl (half_row h1 h2)) (ix2 i j))

/-- What a device passes on is what the other core's result holds there. -/
theorem land_sib (c : Dev nD) (k : K) : (fwd k c).view.read (Elt F) (fin m ((fwd k c).view.loc (c.tc : Thread nD τ)))
    = (fwd k c).view.read (Elt F) (fin m ((fwd k c).view.loc ((sib c).tc : Thread nD τ))) := by
  match k with
  | (0, a) =>
    exact block_land (p := 4) (q := 2048) (h := 1024) (n := 4100) (Val := Elt F) (Memref.whole main_v1_0) (half_lt (far a c)) (r := 1024 * (c.val % 2)) (by omega) _ (fwd0 a c)
      _ _ squeezes_S1x1024x4100_S1024x4100 (fin m ((c.tc : Thread nD τ).loc main_v1_0)) (fin m (((sib c).tc : Thread nD τ).loc main_v1_0)) (fun (s : Fin 4) (y : S2048x4100.Idx) => m (((held (c) s ((y 0).val / 1024)).tc : Thread nD τ).loc main_arg0) y) (fun (s : Fin 4) (y : S2048x4100.Idx) => m (((held (sib c) s ((y 0).val / 1024)).tc : Thread nD τ).loc main_arg0) y)
      (fin_out m c 0) (fin_out m (sib c) 0)
      (funext fun y => mem_at m main_arg0 _ _ (held_sib a c ⟨(far a c).val / 2, half_lt (far a c)⟩ _ rfl) y)
  | (1, a) =>
    exact block_land (p := 4) (q := 512) (h := 256) (n := 2048) (Val := Elt F) (Memref.whole main_v1_1) (half_lt (far a c)) (r := 256 * (c.val % 2)) (by omega) _ (fwd1 a c)
      _ _ squeezes_S1x256x2048_S256x2048 (fin m ((c.tc : Thread nD τ).loc main_v1_1)) (fin m (((sib c).tc : Thread nD τ).loc main_v1_1)) (fun (s : Fin 4) (y : S512x2048.Idx) => m (((held (c) s ((y 0).val / 256)).tc : Thread nD τ).loc main_arg1) y) (fun (s : Fin 4) (y : S512x2048.Idx) => m (((held (sib c) s ((y 0).val / 256)).tc : Thread nD τ).loc main_arg1) y)
      (fin_out m c 1) (fin_out m (sib c) 1)
      (funext fun y => mem_at m main_arg1 _ _ (held_sib a c ⟨(far a c).val / 2, half_lt (far a c)⟩ _ rfl) y)
  | (2, a) =>
    exact block_land (p := 4) (q := 2048) (h := 1024) (n := 1408) (Val := Elt F) (Memref.whole main_v1_2) (half_lt (far a c)) (r := 1024 * (c.val % 2)) (by omega) _ (fwd2 a c)
      _ _ squeezes_S1x1024x1408_S1024x1408 (fin m ((c.tc : Thread nD τ).loc main_v1_2)) (fin m (((sib c).tc : Thread nD τ).loc main_v1_2)) (fun (s : Fin 4) (y : S2048x1408.Idx) => m (((held (c) s ((y 0).val / 1024)).tc : Thread nD τ).loc main_arg2) y) (fun (s : Fin 4) (y : S2048x1408.Idx) => m (((held (sib c) s ((y 0).val / 1024)).tc : Thread nD τ).loc main_arg2) y)
      (fin_out m c 2) (fin_out m (sib c) 2)
      (funext fun y => mem_at m main_arg2 _ _ (held_sib a c ⟨(far a c).val / 2, half_lt (far a c)⟩ _ rfl) y)
  | (3, a) =>
    exact block_land (p := 4) (q := 2048) (h := 1024) (n := 1408) (Val := Elt F) (Memref.whole main_v1_3) (half_lt (far a c)) (r := 1024 * (c.val % 2)) (by omega) _ (fwd2 a c)
      _ _ squeezes_S1x1024x1408_S1024x1408 (fin m ((c.tc : Thread nD τ).loc main_v1_3)) (fin m (((sib c).tc : Thread nD τ).loc main_v1_3)) (fun (s : Fin 4) (y : S2048x1408.Idx) => m (((held (c) s ((y 0).val / 1024)).tc : Thread nD τ).loc main_arg3) y) (fun (s : Fin 4) (y : S2048x1408.Idx) => m (((held (sib c) s ((y 0).val / 1024)).tc : Thread nD τ).loc main_arg3) y)
      (fin_out m c 3) (fin_out m (sib c) 3)
      (funext fun y => mem_at m main_arg3 _ _ (held_sib a c ⟨(far a c).val / 2, half_lt (far a c)⟩ _ rfl) y)
  | (4, a) =>
    exact block_land (p := 4) (q := 1408) (h := 704) (n := 2048) (Val := Elt F) (Memref.whole main_v1_4) (half_lt (far a c)) (r := 704 * (c.val % 2)) (by omega) _ (fwd4 a c)
      _ _ squeezes_S1x704x2048_S704x2048 (fin m ((c.tc : Thread nD τ).loc main_v1_4)) (fin m (((sib c).tc : Thread nD τ).loc main_v1_4)) (fun (s : Fin 4) (y : S1408x2048.Idx) => m (((held (c) s ((y 0).val / 704)).tc : Thread nD τ).loc main_arg4) y) (fun (s : Fin 4) (y : S1408x2048.Idx) => m (((held (sib c) s ((y 0).val / 704)).tc : Thread nD τ).loc main_arg4) y)
      (fin_out m c 4) (fin_out m (sib c) 4)
      (funext fun y => mem_at m main_arg4 _ _ (held_sib a c ⟨(far a c).val / 2, half_lt (far a c)⟩ _ rfl) y)

/-- What a device passes on is what it was sent. -/
theorem fwd_eq (c : Dev nD) (k : K) : fwd k c = slot k.1 (far k.2 c) := by
  match k with
  | (0, a) => exact block_congr (p := 4) (q := 2048) (h := 1024) (n := 4100) (Memref.whole main_v1_0) _ _ (same0 a c) _ _ (fun _ => rfl) (fun _ => rfl) squeezes_S1x1024x4100_S1024x4100
  | (1, a) => exact block_congr (p := 4) (q := 512) (h := 256) (n := 2048) (Memref.whole main_v1_1) _ _ (same1 a c) _ _ (fun _ => rfl) (fun _ => rfl) squeezes_S1x256x2048_S256x2048
  | (2, a) => exact block_congr (p := 4) (q := 2048) (h := 1024) (n := 1408) (Memref.whole main_v1_2) _ _ (same2 a c) _ _ (fun _ => rfl) (fun _ => rfl) squeezes_S1x1024x1408_S1024x1408
  | (3, a) => exact block_congr (p := 4) (q := 2048) (h := 1024) (n := 1408) (Memref.whole main_v1_3) _ _ (same2 a c) _ _ (fun _ => rfl) (fun _ => rfl) squeezes_S1x1024x1408_S1024x1408
  | (4, a) => exact block_congr (p := 4) (q := 1408) (h := 704) (n := 2048) (Memref.whole main_v1_4) _ _ (same4 a c) _ _ (fun _ => rfl) (fun _ => rfl) squeezes_S1x704x2048_S704x2048

/-! ## The run -/

/-- The cells: of the sender's wait, of the receiver's, of a local copy's. -/
abbrev sn (r : R) : plan.J := plan.snd r
abbrev rc (r : R) : plan.J := plan.rcv r
abbrev lo (w : Fin 5) : plan.J := plan.loc w

abbrev V₀ : List R := [.inl (0, 0), .inl (0, 1), .inl (0, 2), .inl (1, 0), .inl (1, 1), .inl (1, 2), .inl (2, 0), .inl (2, 1), .inl (2, 2), .inl (3, 0), .inl (3, 1), .inl (3, 2), .inl (4, 0), .inl (4, 1), .inl (4, 2),
    .inr (0, 0), .inr (0, 1), .inr (0, 2), .inr (1, 0), .inr (1, 1), .inr (1, 2), .inr (2, 0), .inr (2, 1), .inr (2, 2), .inr (3, 0), .inr (3, 1), .inr (3, 2), .inr (4, 0), .inr (4, 1), .inr (4, 2)]
abbrev S₀ : List plan.R := V₀
abbrev T₀ : List plan.L := ([0, 1, 2, 3, 4] : List (Fin 5))
abbrev W₀ : List (R ⊕ R ⊕ Fin 5) :=
  [.inr (.inl (.inl (0, 0))), .inr (.inl (.inl (0, 1))), .inr (.inl (.inl (0, 2))), .inr (.inl (.inl (1, 0))), .inr (.inl (.inl (1, 1))), .inr (.inl (.inl (1, 2))), .inr (.inl (.inl (2, 0))), .inr (.inl (.inl (2, 1))), .inr (.inl (.inl (2, 2))), .inr (.inl (.inl (3, 0))), .inr (.inl (.inl (3, 1))), .inr (.inl (.inl (3, 2))), .inr (.inl (.inl (4, 0))), .inr (.inl (.inl (4, 1))), .inr (.inl (.inl (4, 2))),
    .inr (.inl (.inr (0, 0))), .inr (.inl (.inr (0, 1))), .inr (.inl (.inr (0, 2))), .inr (.inl (.inr (1, 0))), .inr (.inl (.inr (1, 1))), .inr (.inl (.inr (1, 2))), .inr (.inl (.inr (2, 0))), .inr (.inl (.inr (2, 1))), .inr (.inl (.inr (2, 2))), .inr (.inl (.inr (3, 0))), .inr (.inl (.inr (3, 1))), .inr (.inl (.inr (3, 2))), .inr (.inl (.inr (4, 0))), .inr (.inl (.inr (4, 1))), .inr (.inl (.inr (4, 2))),
    .inl (.inl (0, 0)), .inl (.inl (0, 1)), .inl (.inl (0, 2)), .inl (.inl (1, 0)), .inl (.inl (1, 1)), .inl (.inl (1, 2)), .inl (.inl (2, 0)), .inl (.inl (2, 1)), .inl (.inl (2, 2)), .inl (.inl (3, 0)), .inl (.inl (3, 1)), .inl (.inl (3, 2)), .inl (.inl (4, 0)), .inl (.inl (4, 1)), .inl (.inl (4, 2)),
    .inl (.inr (0, 0)), .inl (.inr (0, 1)), .inl (.inr (0, 2)), .inl (.inr (1, 0)), .inl (.inr (1, 1)), .inl (.inr (1, 2)), .inl (.inr (2, 0)), .inl (.inr (2, 1)), .inl (.inr (2, 2)), .inl (.inr (3, 0)), .inl (.inr (3, 1)), .inl (.inr (3, 2)), .inl (.inr (4, 0)), .inl (.inr (4, 1)), .inl (.inr (4, 2)),
    .inr (.inr 0), .inr (.inr 1), .inr (.inr 2), .inr (.inr 3), .inr (.inr 4)]
abbrev B₀ : List plan.J := W₀

theorem dev_eq1 (c : Dev nD) : (⟨k0_dev1 c, k0_dev1_lt c⟩ : Dev nD) = far 0 c := by revert c; decide +kernel
theorem dev_eq2 (c : Dev nD) : (⟨k0_dev2 c, k0_dev2_lt c⟩ : Dev nD) = far 1 c := by revert c; decide +kernel
theorem dev_eq3 (c : Dev nD) : (⟨k0_dev3 c, k0_dev3_lt c⟩ : Dev nD) = far 2 c := by revert c; decide +kernel
theorem dev_eq4 (c : Dev nD) : (⟨k0_dev4 c, k0_dev4_lt c⟩ : Dev nD) = far 0 c := by revert c; decide +kernel
theorem dev_eq5 (c : Dev nD) : (⟨k0_dev5 c, k0_dev5_lt c⟩ : Dev nD) = far 1 c := by revert c; decide +kernel
theorem dev_eq6 (c : Dev nD) : (⟨k0_dev6 c, k0_dev6_lt c⟩ : Dev nD) = far 2 c := by revert c; decide +kernel
theorem dev_eq7 (c : Dev nD) : (⟨k0_dev7 c, k0_dev7_lt c⟩ : Dev nD) = far 0 c := by revert c; decide +kernel
theorem dev_eq8 (c : Dev nD) : (⟨k0_dev8 c, k0_dev8_lt c⟩ : Dev nD) = far 1 c := by revert c; decide +kernel
theorem dev_eq9 (c : Dev nD) : (⟨k0_dev9 c, k0_dev9_lt c⟩ : Dev nD) = far 2 c := by revert c; decide +kernel
theorem dev_eq10 (c : Dev nD) : (⟨k0_dev10 c, k0_dev10_lt c⟩ : Dev nD) = far 0 c := by revert c; decide +kernel
theorem dev_eq11 (c : Dev nD) : (⟨k0_dev11 c, k0_dev11_lt c⟩ : Dev nD) = far 1 c := by revert c; decide +kernel
theorem dev_eq12 (c : Dev nD) : (⟨k0_dev12 c, k0_dev12_lt c⟩ : Dev nD) = far 2 c := by revert c; decide +kernel
theorem dev_eq13 (c : Dev nD) : (⟨k0_dev13 c, k0_dev13_lt c⟩ : Dev nD) = far 0 c := by revert c; decide +kernel
theorem dev_eq14 (c : Dev nD) : (⟨k0_dev14 c, k0_dev14_lt c⟩ : Dev nD) = far 1 c := by revert c; decide +kernel
theorem dev_eq15 (c : Dev nD) : (⟨k0_dev15 c, k0_dev15_lt c⟩ : Dev nD) = far 2 c := by revert c; decide +kernel
theorem dev_eq16 (c : Dev nD) : (⟨k0_dev16 c, k0_dev16_lt c⟩ : Dev nD) = sib c := by revert c; decide +kernel
theorem dev_eq17 (c : Dev nD) : (⟨k0_dev17 c, k0_dev17_lt c⟩ : Dev nD) = sib c := by revert c; decide +kernel
theorem dev_eq18 (c : Dev nD) : (⟨k0_dev18 c, k0_dev18_lt c⟩ : Dev nD) = sib c := by revert c; decide +kernel
theorem dev_eq19 (c : Dev nD) : (⟨k0_dev19 c, k0_dev19_lt c⟩ : Dev nD) = sib c := by revert c; decide +kernel
theorem dev_eq20 (c : Dev nD) : (⟨k0_dev20 c, k0_dev20_lt c⟩ : Dev nD) = sib c := by revert c; decide +kernel
theorem dev_eq21 (c : Dev nD) : (⟨k0_dev21 c, k0_dev21_lt c⟩ : Dev nD) = sib c := by revert c; decide +kernel
theorem dev_eq22 (c : Dev nD) : (⟨k0_dev22 c, k0_dev22_lt c⟩ : Dev nD) = sib c := by revert c; decide +kernel
theorem dev_eq23 (c : Dev nD) : (⟨k0_dev23 c, k0_dev23_lt c⟩ : Dev nD) = sib c := by revert c; decide +kernel
theorem dev_eq24 (c : Dev nD) : (⟨k0_dev24 c, k0_dev24_lt c⟩ : Dev nD) = sib c := by revert c; decide +kernel
theorem dev_eq25 (c : Dev nD) : (⟨k0_dev25 c, k0_dev25_lt c⟩ : Dev nD) = sib c := by revert c; decide +kernel
theorem dev_eq26 (c : Dev nD) : (⟨k0_dev26 c, k0_dev26_lt c⟩ : Dev nD) = sib c := by revert c; decide +kernel
theorem dev_eq27 (c : Dev nD) : (⟨k0_dev27 c, k0_dev27_lt c⟩ : Dev nD) = sib c := by revert c; decide +kernel
theorem dev_eq28 (c : Dev nD) : (⟨k0_dev28 c, k0_dev28_lt c⟩ : Dev nD) = sib c := by revert c; decide +kernel
theorem dev_eq29 (c : Dev nD) : (⟨k0_dev29 c, k0_dev29_lt c⟩ : Dev nD) = sib c := by revert c; decide +kernel
theorem dev_eq30 (c : Dev nD) : (⟨k0_dev30 c, k0_dev30_lt c⟩ : Dev nD) = sib c := by revert c; decide +kernel

theorem routes (j : Fin 3) (c : Dev nD) : τ.routes (c.tc : Thread nD τ) ((far j c).tc : Thread nD τ) = true := by revert j c; decide
theorem routes_sib (c : Dev nD) : τ.routes (c.tc : Thread nD τ) ((sib c).tc : Thread nD τ) = true := by revert c; decide
theorem none_owed {j : plan.J} : ∀ k ∈ ([] : List plan.R), plan.lev j < plan.lvl k := fun _ h => absurd h List.not_mem_nil

/-- What is still owed after the copies to other chips is owed at the higher level. -/
theorem owed_nil (k : K) : ∀ r ∈ ([] : List plan.R), plan.lev (rc (.inl k)) < plan.lvl r := fun _ h => absurd h List.not_mem_nil
theorem owed_cons (k k' : K) {S : List plan.R} (h : ∀ r ∈ S, plan.lev (rc (.inl k)) < plan.lvl r) :
    ∀ r ∈ ((.inr k' : R) :: S : List plan.R), plan.lev (rc (.inl k)) < plan.lvl r := fun r hr =>
  (List.mem_cons.mp hr).elim (fun e => e ▸ (Nat.lt_succ_self 1 : 1 < 2)) (h r)

/-- So it can be read once it has been waited for. -/
theorem passed (c : Dev nD) (B : List plan.J) (k : K) (hk : rc (.inl k) ∉ B) :
    iprop(holds (fin m) plan c B ∗ args (fin m) ins c)
      ⊢ iprop(piece (fin m) ((fwd k c).view.loc (c.tc : Thread nD τ)) (fwd k c).view.set ∗ holds (fin m) plan c B ∗ args (fin m) ins c) := by
  rw [fwd_eq]
  exact from_held (fin m) plan ins c B (.inl k : R) hk (Finset.Subset.refl _)

theorem waits_once : W₀.Nodup := by decide +kernel

/-- What is waited for at place `i` is not waited for later. -/
theorem gone (i : ℕ) (hi : i < W₀.length) : (W₀[i] : R ⊕ R ⊕ Fin 5) ∉ W₀.drop (i + 1) := fun h =>
  (List.nodup_cons.mp (List.drop_eq_getElem_cons hi ▸ waits_once.sublist (List.drop_sublist i W₀))).1 h

set_option maxRecDepth 65536 in
theorem body (c : Dev nD) (t : Fin cfg0.N) : St (fin m) plan m ins c S₀ T₀ B₀
    ⊢ wp frame (wpE (defs₀ (F := F)) Variants.none (c.tc : Thread nD τ) none) Set.univ (bodyAt0 t) (fun _ => St (fin m) plan m ins c [] [] []) := by
  unfold bodyAt0
  simp only [cc0_gather_weights_eq_skeleton]
  unfold cc0_gather_weights_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel
  simp only [Prog.lift, Prog.bind_op, Prog.bind_ret, Prog.pure_eq_ret, wp_deviceId]
  refine step_copy _ _ c (P := plan) (0 : Fin 5) (land_here m c 0) (from_arg _ _ _ c _ (inp_ins 0) _) ?_
  refine step_copy _ _ c (P := plan) (1 : Fin 5) (land_here m c 1) (from_arg _ _ _ c _ (inp_ins 1) _) ?_
  refine step_copy _ _ c (P := plan) (2 : Fin 5) (land_here m c 2) (from_arg _ _ _ c _ (inp_ins 2) _) ?_
  refine step_copy _ _ c (P := plan) (3 : Fin 5) (land_here m c 3) (from_arg _ _ _ c _ (inp_ins 3) _) ?_
  refine step_copy _ _ c (P := plan) (4 : Fin 5) (land_here m c 4) (from_arg _ _ _ c _ (inp_ins 4) _) ?_
  refine step_send _ _ c (P := plan) (.inl (0, 0) : R) (dev_eq1 c) (routes 0 c) (land_far m c 0 0) (from_arg _ _ _ c _ (inp_ins 0) _) ?_
  refine step_send _ _ c (P := plan) (.inl (0, 1) : R) (dev_eq2 c) (routes 1 c) (land_far m c 0 1) (from_arg _ _ _ c _ (inp_ins 0) _) ?_
  refine step_send _ _ c (P := plan) (.inl (0, 2) : R) (dev_eq3 c) (routes 2 c) (land_far m c 0 2) (from_arg _ _ _ c _ (inp_ins 0) _) ?_
  refine step_send _ _ c (P := plan) (.inl (1, 0) : R) (dev_eq4 c) (routes 0 c) (land_far m c 1 0) (from_arg _ _ _ c _ (inp_ins 1) _) ?_
  refine step_send _ _ c (P := plan) (.inl (1, 1) : R) (dev_eq5 c) (routes 1 c) (land_far m c 1 1) (from_arg _ _ _ c _ (inp_ins 1) _) ?_
  refine step_send _ _ c (P := plan) (.inl (1, 2) : R) (dev_eq6 c) (routes 2 c) (land_far m c 1 2) (from_arg _ _ _ c _ (inp_ins 1) _) ?_
  refine step_send _ _ c (P := plan) (.inl (2, 0) : R) (dev_eq7 c) (routes 0 c) (land_far m c 2 0) (from_arg _ _ _ c _ (inp_ins 2) _) ?_
  refine step_send _ _ c (P := plan) (.inl (2, 1) : R) (dev_eq8 c) (routes 1 c) (land_far m c 2 1) (from_arg _ _ _ c _ (inp_ins 2) _) ?_
  refine step_send _ _ c (P := plan) (.inl (2, 2) : R) (dev_eq9 c) (routes 2 c) (land_far m c 2 2) (from_arg _ _ _ c _ (inp_ins 2) _) ?_
  refine step_send _ _ c (P := plan) (.inl (3, 0) : R) (dev_eq10 c) (routes 0 c) (land_far m c 3 0) (from_arg _ _ _ c _ (inp_ins 3) _) ?_
  refine step_send _ _ c (P := plan) (.inl (3, 1) : R) (dev_eq11 c) (routes 1 c) (land_far m c 3 1) (from_arg _ _ _ c _ (inp_ins 3) _) ?_
  refine step_send _ _ c (P := plan) (.inl (3, 2) : R) (dev_eq12 c) (routes 2 c) (land_far m c 3 2) (from_arg _ _ _ c _ (inp_ins 3) _) ?_
  refine step_send _ _ c (P := plan) (.inl (4, 0) : R) (dev_eq13 c) (routes 0 c) (land_far m c 4 0) (from_arg _ _ _ c _ (inp_ins 4) _) ?_
  refine step_send _ _ c (P := plan) (.inl (4, 1) : R) (dev_eq14 c) (routes 1 c) (land_far m c 4 1) (from_arg _ _ _ c _ (inp_ins 4) _) ?_
  refine step_send _ _ c (P := plan) (.inl (4, 2) : R) (dev_eq15 c) (routes 2 c) (land_far m c 4 2) (from_arg _ _ _ c _ (inp_ins 4) _) ?_
  refine step_wait _ _ c (rc (.inl (0, 0))) rfl rfl (owed_cons _ _ (owed_cons _ _ (owed_cons _ _ (owed_cons _ _ (owed_cons _ _ (owed_cons _ _ (owed_cons _ _ (owed_cons _ _ (owed_cons _ _ (owed_cons _ _ (owed_cons _ _ (owed_cons _ _ (owed_cons _ _ (owed_cons _ _ (owed_cons _ _ (owed_nil _)))))))))))))))) trivial ?_
  refine step_send _ _ c (P := plan) (.inr (0, 0) : R) (dev_eq16 c) (routes_sib c) (land_sib m c (0, 0)) (passed m c _ (0, 0) (gone 0 (by decide))) ?_
  refine step_wait _ _ c (rc (.inl (0, 1))) rfl rfl (owed_cons _ _ (owed_cons _ _ (owed_cons _ _ (owed_cons _ _ (owed_cons _ _ (owed_cons _ _ (owed_cons _ _ (owed_cons _ _ (owed_cons _ _ (owed_cons _ _ (owed_cons _ _ (owed_cons _ _ (owed_cons _ _ (owed_cons _ _ (owed_nil _))))))))))))))) trivial ?_
  refine step_send _ _ c (P := plan) (.inr (0, 1) : R) (dev_eq17 c) (routes_sib c) (land_sib m c (0, 1)) (passed m c _ (0, 1) (gone 1 (by decide))) ?_
  refine step_wait _ _ c (rc (.inl (0, 2))) rfl rfl (owed_cons _ _ (owed_cons _ _ (owed_cons _ _ (owed_cons _ _ (owed_cons _ _ (owed_cons _ _ (owed_cons _ _ (owed_cons _ _ (owed_cons _ _ (owed_cons _ _ (owed_cons _ _ (owed_cons _ _ (owed_cons _ _ (owed_nil _)))))))))))))) trivial ?_
  refine step_send _ _ c (P := plan) (.inr (0, 2) : R) (dev_eq18 c) (routes_sib c) (land_sib m c (0, 2)) (passed m c _ (0, 2) (gone 2 (by decide))) ?_
  refine step_wait _ _ c (rc (.inl (1, 0))) rfl rfl (owed_cons _ _ (owed_cons _ _ (owed_cons _ _ (owed_cons _ _ (owed_cons _ _ (owed_cons _ _ (owed_cons _ _ (owed_cons _ _ (owed_cons _ _ (owed_cons _ _ (owed_cons _ _ (owed_cons _ _ (owed_nil _))))))))))))) trivial ?_
  refine step_send _ _ c (P := plan) (.inr (1, 0) : R) (dev_eq19 c) (routes_sib c) (land_sib m c (1, 0)) (passed m c _ (1, 0) (gone 3 (by decide))) ?_
  refine step_wait _ _ c (rc (.inl (1, 1))) rfl rfl (owed_cons _ _ (owed_cons _ _ (owed_cons _ _ (owed_cons _ _ (owed_cons _ _ (owed_cons _ _ (owed_cons _ _ (owed_cons _ _ (owed_cons _ _ (owed_cons _ _ (owed_cons _ _ (owed_nil _)))))))))))) trivial ?_
  refine step_send _ _ c (P := plan) (.inr (1, 1) : R) (dev_eq20 c) (routes_sib c) (land_sib m c (1, 1)) (passed m c _ (1, 1) (gone 4 (by decide))) ?_
  refine step_wait _ _ c (rc (.inl (1, 2))) rfl rfl (owed_cons _ _ (owed_cons _ _ (owed_cons _ _ (owed_cons _ _ (owed_cons _ _ (owed_cons _ _ (owed_cons _ _ (owed_cons _ _ (owed_cons _ _ (owed_cons _ _ (owed_nil _))))))))))) trivial ?_
  refine step_send _ _ c (P := plan) (.inr (1, 2) : R) (dev_eq21 c) (routes_sib c) (land_sib m c (1, 2)) (passed m c _ (1, 2) (gone 5 (by decide))) ?_
  refine step_wait _ _ c (rc (.inl (2, 0))) rfl rfl (owed_cons _ _ (owed_cons _ _ (owed_cons _ _ (owed_cons _ _ (owed_cons _ _ (owed_cons _ _ (owed_cons _ _ (owed_cons _ _ (owed_cons _ _ (owed_nil _)))))))))) trivial ?_
  refine step_send _ _ c (P := plan) (.inr (2, 0) : R) (dev_eq22 c) (routes_sib c) (land_sib m c (2, 0)) (passed m c _ (2, 0) (gone 6 (by decide))) ?_
  refine step_wait _ _ c (rc (.inl (2, 1))) rfl rfl (owed_cons _ _ (owed_cons _ _ (owed_cons _ _ (owed_cons _ _ (owed_cons _ _ (owed_cons _ _ (owed_cons _ _ (owed_cons _ _ (owed_nil _))))))))) trivial ?_
  refine step_send _ _ c (P := plan) (.inr (2, 1) : R) (dev_eq23 c) (routes_sib c) (land_sib m c (2, 1)) (passed m c _ (2, 1) (gone 7 (by decide))) ?_
  refine step_wait _ _ c (rc (.inl (2, 2))) rfl rfl (owed_cons _ _ (owed_cons _ _ (owed_cons _ _ (owed_cons _ _ (owed_cons _ _ (owed_cons _ _ (owed_cons _ _ (owed_nil _)))))))) trivial ?_
  refine step_send _ _ c (P := plan) (.inr (2, 2) : R) (dev_eq24 c) (routes_sib c) (land_sib m c (2, 2)) (passed m c _ (2, 2) (gone 8 (by decide))) ?_
  refine step_wait _ _ c (rc (.inl (3, 0))) rfl rfl (owed_cons _ _ (owed_cons _ _ (owed_cons _ _ (owed_cons _ _ (owed_cons _ _ (owed_cons _ _ (owed_nil _))))))) trivial ?_
  refine step_send _ _ c (P := plan) (.inr (3, 0) : R) (dev_eq25 c) (routes_sib c) (land_sib m c (3, 0)) (passed m c _ (3, 0) (gone 9 (by decide))) ?_
  refine step_wait _ _ c (rc (.inl (3, 1))) rfl rfl (owed_cons _ _ (owed_cons _ _ (owed_cons _ _ (owed_cons _ _ (owed_cons _ _ (owed_nil _)))))) trivial ?_
  refine step_send _ _ c (P := plan) (.inr (3, 1) : R) (dev_eq26 c) (routes_sib c) (land_sib m c (3, 1)) (passed m c _ (3, 1) (gone 10 (by decide))) ?_
  refine step_wait _ _ c (rc (.inl (3, 2))) rfl rfl (owed_cons _ _ (owed_cons _ _ (owed_cons _ _ (owed_cons _ _ (owed_nil _))))) trivial ?_
  refine step_send _ _ c (P := plan) (.inr (3, 2) : R) (dev_eq27 c) (routes_sib c) (land_sib m c (3, 2)) (passed m c _ (3, 2) (gone 11 (by decide))) ?_
  refine step_wait _ _ c (rc (.inl (4, 0))) rfl rfl (owed_cons _ _ (owed_cons _ _ (owed_cons _ _ (owed_nil _)))) trivial ?_
  refine step_send _ _ c (P := plan) (.inr (4, 0) : R) (dev_eq28 c) (routes_sib c) (land_sib m c (4, 0)) (passed m c _ (4, 0) (gone 12 (by decide))) ?_
  refine step_wait _ _ c (rc (.inl (4, 1))) rfl rfl (owed_cons _ _ (owed_cons _ _ (owed_nil _))) trivial ?_
  refine step_send _ _ c (P := plan) (.inr (4, 1) : R) (dev_eq29 c) (routes_sib c) (land_sib m c (4, 1)) (passed m c _ (4, 1) (gone 13 (by decide))) ?_
  refine step_wait _ _ c (rc (.inl (4, 2))) rfl rfl (owed_cons _ _ (owed_nil _)) trivial ?_
  refine step_send _ _ c (P := plan) (.inr (4, 2) : R) (dev_eq30 c) (routes_sib c) (land_sib m c (4, 2)) (passed m c _ (4, 2) (gone 14 (by decide))) ?_
  refine step_wait _ _ c (rc (.inr (0, 0))) rfl rfl none_owed trivial ?_
  refine step_wait _ _ c (rc (.inr (0, 1))) rfl rfl none_owed trivial ?_
  refine step_wait _ _ c (rc (.inr (0, 2))) rfl rfl none_owed trivial ?_
  refine step_wait _ _ c (rc (.inr (1, 0))) rfl rfl none_owed trivial ?_
  refine step_wait _ _ c (rc (.inr (1, 1))) rfl rfl none_owed trivial ?_
  refine step_wait _ _ c (rc (.inr (1, 2))) rfl rfl none_owed trivial ?_
  refine step_wait _ _ c (rc (.inr (2, 0))) rfl rfl none_owed trivial ?_
  refine step_wait _ _ c (rc (.inr (2, 1))) rfl rfl none_owed trivial ?_
  refine step_wait _ _ c (rc (.inr (2, 2))) rfl rfl none_owed trivial ?_
  refine step_wait _ _ c (rc (.inr (3, 0))) rfl rfl none_owed trivial ?_
  refine step_wait _ _ c (rc (.inr (3, 1))) rfl rfl none_owed trivial ?_
  refine step_wait _ _ c (rc (.inr (3, 2))) rfl rfl none_owed trivial ?_
  refine step_wait _ _ c (rc (.inr (4, 0))) rfl rfl none_owed trivial ?_
  refine step_wait _ _ c (rc (.inr (4, 1))) rfl rfl none_owed trivial ?_
  refine step_wait _ _ c (rc (.inr (4, 2))) rfl rfl none_owed trivial ?_
  refine step_wait _ _ c (sn (.inl (0, 0))) rfl rfl none_owed List.not_mem_nil ?_
  refine step_wait _ _ c (sn (.inl (0, 1))) rfl rfl none_owed List.not_mem_nil ?_
  refine step_wait _ _ c (sn (.inl (0, 2))) rfl rfl none_owed List.not_mem_nil ?_
  refine step_wait _ _ c (sn (.inl (1, 0))) rfl rfl none_owed List.not_mem_nil ?_
  refine step_wait _ _ c (sn (.inl (1, 1))) rfl rfl none_owed List.not_mem_nil ?_
  refine step_wait _ _ c (sn (.inl (1, 2))) rfl rfl none_owed List.not_mem_nil ?_
  refine step_wait _ _ c (sn (.inl (2, 0))) rfl rfl none_owed List.not_mem_nil ?_
  refine step_wait _ _ c (sn (.inl (2, 1))) rfl rfl none_owed List.not_mem_nil ?_
  refine step_wait _ _ c (sn (.inl (2, 2))) rfl rfl none_owed List.not_mem_nil ?_
  refine step_wait _ _ c (sn (.inl (3, 0))) rfl rfl none_owed List.not_mem_nil ?_
  refine step_wait _ _ c (sn (.inl (3, 1))) rfl rfl none_owed List.not_mem_nil ?_
  refine step_wait _ _ c (sn (.inl (3, 2))) rfl rfl none_owed List.not_mem_nil ?_
  refine step_wait _ _ c (sn (.inl (4, 0))) rfl rfl none_owed List.not_mem_nil ?_
  refine step_wait _ _ c (sn (.inl (4, 1))) rfl rfl none_owed List.not_mem_nil ?_
  refine step_wait _ _ c (sn (.inl (4, 2))) rfl rfl none_owed List.not_mem_nil ?_
  refine step_wait _ _ c (sn (.inr (0, 0))) rfl rfl none_owed List.not_mem_nil ?_
  refine step_wait _ _ c (sn (.inr (0, 1))) rfl rfl none_owed List.not_mem_nil ?_
  refine step_wait _ _ c (sn (.inr (0, 2))) rfl rfl none_owed List.not_mem_nil ?_
  refine step_wait _ _ c (sn (.inr (1, 0))) rfl rfl none_owed List.not_mem_nil ?_
  refine step_wait _ _ c (sn (.inr (1, 1))) rfl rfl none_owed List.not_mem_nil ?_
  refine step_wait _ _ c (sn (.inr (1, 2))) rfl rfl none_owed List.not_mem_nil ?_
  refine step_wait _ _ c (sn (.inr (2, 0))) rfl rfl none_owed List.not_mem_nil ?_
  refine step_wait _ _ c (sn (.inr (2, 1))) rfl rfl none_owed List.not_mem_nil ?_
  refine step_wait _ _ c (sn (.inr (2, 2))) rfl rfl none_owed List.not_mem_nil ?_
  refine step_wait _ _ c (sn (.inr (3, 0))) rfl rfl none_owed List.not_mem_nil ?_
  refine step_wait _ _ c (sn (.inr (3, 1))) rfl rfl none_owed List.not_mem_nil ?_
  refine step_wait _ _ c (sn (.inr (3, 2))) rfl rfl none_owed List.not_mem_nil ?_
  refine step_wait _ _ c (sn (.inr (4, 0))) rfl rfl none_owed List.not_mem_nil ?_
  refine step_wait _ _ c (sn (.inr (4, 1))) rfl rfl none_owed List.not_mem_nil ?_
  refine step_wait _ _ c (sn (.inr (4, 2))) rfl rfl none_owed List.not_mem_nil ?_
  refine step_wait _ _ c (lo 0) rfl rfl none_owed List.not_mem_nil ?_
  refine step_wait _ _ c (lo 1) rfl rfl none_owed List.not_mem_nil ?_
  refine step_wait _ _ c (lo 2) rfl rfl none_owed List.not_mem_nil ?_
  refine step_wait _ _ c (lo 3) rfl rfl none_owed List.not_mem_nil ?_
  refine step_wait _ _ c (lo 4) rfl rfl none_owed List.not_mem_nil ?_
  rw [wp_ret]; exact fupd_intro

theorem sends_all : ∀ r : R, r ∈ V₀ := by
  rintro (⟨w, j⟩ | ⟨w, j⟩)
  · exact mem_of_get V₀ ((by decide +kernel : ∀ (w : Fin 5) (j : Fin 3), ∃ i, V₀.get i = .inl (w, j)) w j)
  · exact mem_of_get V₀ ((by decide +kernel : ∀ (w : Fin 5) (j : Fin 3), ∃ i, V₀.get i = .inr (w, j)) w j)

theorem waits_all : ∀ j : R ⊕ R ⊕ Fin 5, j ∈ W₀ := by
  rintro ((⟨w, j⟩ | ⟨w, j⟩) | (⟨w, j⟩ | ⟨w, j⟩) | w)
  · exact mem_of_get W₀ ((by decide +kernel : ∀ (w : Fin 5) (j : Fin 3), ∃ i, W₀.get i = .inl (.inl (w, j))) w j)
  · exact mem_of_get W₀ ((by decide +kernel : ∀ (w : Fin 5) (j : Fin 3), ∃ i, W₀.get i = .inl (.inr (w, j))) w j)
  · exact mem_of_get W₀ ((by decide +kernel : ∀ (w : Fin 5) (j : Fin 3), ∃ i, W₀.get i = .inr (.inl (.inl (w, j)))) w j)
  · exact mem_of_get W₀ ((by decide +kernel : ∀ (w : Fin 5) (j : Fin 3), ∃ i, W₀.get i = .inr (.inl (.inr (w, j)))) w j)
  · exact mem_of_get W₀ ((by decide +kernel : ∀ w : Fin 5, ∃ i, W₀.get i = .inr (.inr w)) w)

theorem full : plan.Full S₀ T₀ B₀ where
  nS := by decide +kernel
  nT := by decide
  nB := waits_once
  aS := sends_all
  aT := by decide
  aB := waits_all

theorem slot_ref (c : Dev nD) (w : Fin 5) : (slot w c).view.ref = out w := by fin_cases w <;> rfl
theorem place_ref (c : Dev nD) (w : Fin 5) : (place w c).view.ref = out w := by fin_cases w <;> rfl
theorem fwd_ref (c : Dev nD) (k : K) : (fwd k c).view.ref = out k.1 := by obtain ⟨w, j⟩ := k; fin_cases w <;> rfl

theorem hgt_pos (w : Fin 5) : 0 < hgt w := by revert w; decide

/-! A piece of a result is told by its chip and its half. -/

theorem half_of {h q i : Nat} (hi : i < h) : (h * q + i) / h = q := half_row (Nat.le_add_right _ _) (Nat.add_lt_add_left hi _)

theorem place_set (c : Dev nD) (w : Fin 5) (x : (place w c).view.ref.ty.Idx) (hx : x ∈ (place w c).view.set) :
    (coord (place w c).view.ref x).1 = c.val / 2 := by
  match w, x, hx with
  | 0, x, hx => obtain ⟨i, j, rfl⟩ := (block_set (p := 4) (q := 2048) (h := 2048) (n := 4100) (Memref.whole main_v1_0) (half_lt c) (r := 0) (by omega) _ (whole0 c) _ _ squeezes_S1x2048x4100_S2048x4100 x).mp hx; rfl
  | 1, x, hx => obtain ⟨i, j, rfl⟩ := (block_set (p := 4) (q := 512) (h := 512) (n := 2048) (Memref.whole main_v1_1) (half_lt c) (r := 0) (by omega) _ (whole1 c) _ _ squeezes_S1x512x2048_S512x2048 x).mp hx; rfl
  | 2, x, hx => obtain ⟨i, j, rfl⟩ := (block_set (p := 4) (q := 2048) (h := 2048) (n := 1408) (Memref.whole main_v1_2) (half_lt c) (r := 0) (by omega) _ (whole2 c) _ _ squeezes_S1x2048x1408_S2048x1408 x).mp hx; rfl
  | 3, x, hx => obtain ⟨i, j, rfl⟩ := (block_set (p := 4) (q := 2048) (h := 2048) (n := 1408) (Memref.whole main_v1_3) (half_lt c) (r := 0) (by omega) _ (whole2 c) _ _ squeezes_S1x2048x1408_S2048x1408 x).mp hx; rfl
  | 4, x, hx => obtain ⟨i, j, rfl⟩ := (block_set (p := 4) (q := 1408) (h := 1408) (n := 2048) (Memref.whole main_v1_4) (half_lt c) (r := 0) (by omega) _ (whole4 c) _ _ squeezes_S1x1408x2048_S1408x2048 x).mp hx; rfl

theorem slot_set (c : Dev nD) (w : Fin 5) (x : (slot w c).view.ref.ty.Idx) (hx : x ∈ (slot w c).view.set) :
    (coord (slot w c).view.ref x).1 = c.val / 2 ∧ (coord (slot w c).view.ref x).2 / hgt w = c.val % 2 := by
  match w, x, hx with
  | 0, x, hx => obtain ⟨i, j, rfl⟩ := (block_set (p := 4) (q := 2048) (h := 1024) (n := 4100) (Memref.whole main_v1_0) (half_lt c) (r := 1024 * (c.val % 2)) (by omega) _ (slot0 c) _ _ squeezes_S1x1024x4100_S1024x4100 x).mp hx; exact ⟨rfl, half_of i.isLt⟩
  | 1, x, hx => obtain ⟨i, j, rfl⟩ := (block_set (p := 4) (q := 512) (h := 256) (n := 2048) (Memref.whole main_v1_1) (half_lt c) (r := 256 * (c.val % 2)) (by omega) _ (slot1 c) _ _ squeezes_S1x256x2048_S256x2048 x).mp hx; exact ⟨rfl, half_of i.isLt⟩
  | 2, x, hx => obtain ⟨i, j, rfl⟩ := (block_set (p := 4) (q := 2048) (h := 1024) (n := 1408) (Memref.whole main_v1_2) (half_lt c) (r := 1024 * (c.val % 2)) (by omega) _ (slot2 c) _ _ squeezes_S1x1024x1408_S1024x1408 x).mp hx; exact ⟨rfl, half_of i.isLt⟩
  | 3, x, hx => obtain ⟨i, j, rfl⟩ := (block_set (p := 4) (q := 2048) (h := 1024) (n := 1408) (Memref.whole main_v1_3) (half_lt c) (r := 1024 * (c.val % 2)) (by omega) _ (slot2 c) _ _ squeezes_S1x1024x1408_S1024x1408 x).mp hx; exact ⟨rfl, half_of i.isLt⟩
  | 4, x, hx => obtain ⟨i, j, rfl⟩ := (block_set (p := 4) (q := 1408) (h := 704) (n := 2048) (Memref.whole main_v1_4) (half_lt c) (r := 704 * (c.val % 2)) (by omega) _ (slot4 c) _ _ squeezes_S1x704x2048_S704x2048 x).mp hx; exact ⟨rfl, half_of i.isLt⟩

theorem fwd_set (c : Dev nD) (k : K) (x : (fwd k c).view.ref.ty.Idx) (hx : x ∈ (fwd k c).view.set) :
    (coord (fwd k c).view.ref x).1 = (far k.2 c).val / 2 ∧ (coord (fwd k c).view.ref x).2 / hgt k.1 = c.val % 2 := by
  revert x
  rw [fwd_eq]
  intro x hx
  have h := slot_set (far k.2 c) k.1 x hx
  exact ⟨h.1, h.2.trans (far_core k.2 c)⟩

theorem out_scoped : ∀ k : Fin 5, ¬ (out k).isScoped := by decide

/-- Where a piece of a result on device `c` is. -/
def At (c : Dev nD) : R ⊕ Fin 5 → ℕ × ℕ → Prop
  | .inl (.inl k), v => v.1 = (far k.2 c).val / 2 ∧ v.2 / hgt k.1 = c.val % 2
  | .inl (.inr k), v => v.1 = (far k.2 c).val / 2 ∧ v.2 / hgt k.1 = (sib c).val % 2
  | .inr _, v => v.1 = c.val / 2

theorem land_ref (c : Dev nD) (n : R ⊕ Fin 5) : (plan.land c n).1 = out (match n with | .inl r => wgt r | .inr w => w) := by
  rcases n with (k | k) | w
  · exact slot_ref (far k.2 c) k.1
  · exact fwd_ref (sib c) k
  · exact place_ref c w

theorem sib_other (c : Dev nD) : (sib c).val % 2 ≠ c.val % 2 := by rw [sib_val]; omega

theorem at_inj (c : Dev nD) (i j : R ⊕ Fin 5) (v : ℕ × ℕ)
    (e : (match i with | .inl r => wgt r | .inr w => w) = (match j with | .inl r => wgt r | .inr w => w)) (hi : At c i v) (hj : At c j v) : i = j := by
  rcases i with (⟨w, a⟩ | ⟨w, a⟩) | w <;> rcases j with (⟨w', a'⟩ | ⟨w', a'⟩) | w' <;> (have e : w = w' := e) <;> subst e
  · rw [far_inj a a' c (hi.1.symm.trans hj.1)]
  · exact absurd (hj.2.symm.trans hi.2) (sib_other c)
  · exact absurd (hi.1.symm.trans hj) (far_ne a c)
  · exact absurd (hi.2.symm.trans hj.2) (sib_other c)
  · rw [far_inj a a' c (hi.1.symm.trans hj.1)]
  · exact absurd (hi.1.symm.trans hj) (far_ne a c)
  · exact absurd (hj.1.symm.trans hi) (far_ne a' c)
  · exact absurd (hj.1.symm.trans hi) (far_ne a' c)
  · rfl

theorem placed : plan.Placed ins where
  insU := by decide
  outU c n := ⟨fun h => out_scoped _ (land_ref c n ▸ h), fun h => ins_out _ h _ (land_ref c n)⟩
  apart c := apart_of _ (At c)
    (by
      rintro ((k | k) | w) x hx
      · have h := slot_set (far k.2 c) k.1 x hx
        exact ⟨h.1, h.2.trans (far_core k.2 c)⟩
      · have h := fwd_set (sib c) k x hx
        exact ⟨h.1.trans (far_sib k.2 c), h.2⟩
      · exact place_set c w x hx)
    (fun i j v e hi hj => at_inj c i j v (out_inj ((land_ref c i).symm.trans (e.trans (land_ref c j)))) hi hj)

/-- What a device's results hold at the end. -/
theorem out_end (s : MemSt nD τ sig (Elt F)) (c : Dev nD) (H : QY plan (fin m) ins c s) (w : Fin 5) :
    s.mem ((c.tc : Thread nD τ).loc (out w)) = got m w c := by
  have hs := sib_val c
  refine Eq.trans ?_ (fin_out m c w)
  match w with
  | 0 =>
    refine stack_ext (p := 4) (h := 2048) (n := 4100) fun t i j => ?_
    by_cases e : t.val = c.val / 2
    · exact H.2 (.inr (0 : Fin 5)) _ (block_mem (p := 4) (q := 2048) (h := 2048) (n := 4100) (Memref.whole main_v1_0) (half_lt c) (r := 0) (by omega) _ (whole0 c) _ _ squeezes_S1x2048x4100_S2048x4100 t i j e (Nat.zero_le _) (by omega))
    · obtain ⟨a, e⟩ := far_of c t e
      have ha := far_core a c
      by_cases q : i.val / 1024 = c.val % 2
      · exact H.2 (.inl (.inl (0, a) : R)) _ (block_mem (p := 4) (q := 2048) (h := 1024) (n := 4100) (Memref.whole main_v1_0) (half_lt (far a c)) (r := 1024 * ((far a c).val % 2)) (by omega) _ (slot0 (far a c)) _ _ squeezes_S1x1024x4100_S1024x4100 t i j e (by omega) (by omega))
      · exact H.2 (.inl (.inr (0, a) : R)) _ (block_mem (p := 4) (q := 2048) (h := 1024) (n := 4100) (Memref.whole main_v1_0) (half_lt (far a (sib c))) (r := 1024 * ((sib c).val % 2)) (by omega) _ (fwd0 a (sib c)) _ _ squeezes_S1x1024x4100_S1024x4100 t i j (e.trans (far_sib a c).symm) (by omega) (by omega))
  | 1 =>
    refine stack_ext (p := 4) (h := 512) (n := 2048) fun t i j => ?_
    by_cases e : t.val = c.val / 2
    · exact H.2 (.inr (1 : Fin 5)) _ (block_mem (p := 4) (q := 512) (h := 512) (n := 2048) (Memref.whole main_v1_1) (half_lt c) (r := 0) (by omega) _ (whole1 c) _ _ squeezes_S1x512x2048_S512x2048 t i j e (Nat.zero_le _) (by omega))
    · obtain ⟨a, e⟩ := far_of c t e
      have ha := far_core a c
      by_cases q : i.val / 256 = c.val % 2
      · exact H.2 (.inl (.inl (1, a) : R)) _ (block_mem (p := 4) (q := 512) (h := 256) (n := 2048) (Memref.whole main_v1_1) (half_lt (far a c)) (r := 256 * ((far a c).val % 2)) (by omega) _ (slot1 (far a c)) _ _ squeezes_S1x256x2048_S256x2048 t i j e (by omega) (by omega))
      · exact H.2 (.inl (.inr (1, a) : R)) _ (block_mem (p := 4) (q := 512) (h := 256) (n := 2048) (Memref.whole main_v1_1) (half_lt (far a (sib c))) (r := 256 * ((sib c).val % 2)) (by omega) _ (fwd1 a (sib c)) _ _ squeezes_S1x256x2048_S256x2048 t i j (e.trans (far_sib a c).symm) (by omega) (by omega))
  | 2 =>
    refine stack_ext (p := 4) (h := 2048) (n := 1408) fun t i j => ?_
    by_cases e : t.val = c.val / 2
    · exact H.2 (.inr (2 : Fin 5)) _ (block_mem (p := 4) (q := 2048) (h := 2048) (n := 1408) (Memref.whole main_v1_2) (half_lt c) (r := 0) (by omega) _ (whole2 c) _ _ squeezes_S1x2048x1408_S2048x1408 t i j e (Nat.zero_le _) (by omega))
    · obtain ⟨a, e⟩ := far_of c t e
      have ha := far_core a c
      by_cases q : i.val / 1024 = c.val % 2
      · exact H.2 (.inl (.inl (2, a) : R)) _ (block_mem (p := 4) (q := 2048) (h := 1024) (n := 1408) (Memref.whole main_v1_2) (half_lt (far a c)) (r := 1024 * ((far a c).val % 2)) (by omega) _ (slot2 (far a c)) _ _ squeezes_S1x1024x1408_S1024x1408 t i j e (by omega) (by omega))
      · exact H.2 (.inl (.inr (2, a) : R)) _ (block_mem (p := 4) (q := 2048) (h := 1024) (n := 1408) (Memref.whole main_v1_2) (half_lt (far a (sib c))) (r := 1024 * ((sib c).val % 2)) (by omega) _ (fwd2 a (sib c)) _ _ squeezes_S1x1024x1408_S1024x1408 t i j (e.trans (far_sib a c).symm) (by omega) (by omega))
  | 3 =>
    refine stack_ext (p := 4) (h := 2048) (n := 1408) fun t i j => ?_
    by_cases e : t.val = c.val / 2
    · exact H.2 (.inr (3 : Fin 5)) _ (block_mem (p := 4) (q := 2048) (h := 2048) (n := 1408) (Memref.whole main_v1_3) (half_lt c) (r := 0) (by omega) _ (whole2 c) _ _ squeezes_S1x2048x1408_S2048x1408 t i j e (Nat.zero_le _) (by omega))
    · obtain ⟨a, e⟩ := far_of c t e
      have ha := far_core a c
      by_cases q : i.val / 1024 = c.val % 2
      · exact H.2 (.inl (.inl (3, a) : R)) _ (block_mem (p := 4) (q := 2048) (h := 1024) (n := 1408) (Memref.whole main_v1_3) (half_lt (far a c)) (r := 1024 * ((far a c).val % 2)) (by omega) _ (slot2 (far a c)) _ _ squeezes_S1x1024x1408_S1024x1408 t i j e (by omega) (by omega))
      · exact H.2 (.inl (.inr (3, a) : R)) _ (block_mem (p := 4) (q := 2048) (h := 1024) (n := 1408) (Memref.whole main_v1_3) (half_lt (far a (sib c))) (r := 1024 * ((sib c).val % 2)) (by omega) _ (fwd2 a (sib c)) _ _ squeezes_S1x1024x1408_S1024x1408 t i j (e.trans (far_sib a c).symm) (by omega) (by omega))
  | 4 =>
    refine stack_ext (p := 4) (h := 1408) (n := 2048) fun t i j => ?_
    by_cases e : t.val = c.val / 2
    · exact H.2 (.inr (4 : Fin 5)) _ (block_mem (p := 4) (q := 1408) (h := 1408) (n := 2048) (Memref.whole main_v1_4) (half_lt c) (r := 0) (by omega) _ (whole4 c) _ _ squeezes_S1x1408x2048_S1408x2048 t i j e (Nat.zero_le _) (by omega))
    · obtain ⟨a, e⟩ := far_of c t e
      have ha := far_core a c
      by_cases q : i.val / 704 = c.val % 2
      · exact H.2 (.inl (.inl (4, a) : R)) _ (block_mem (p := 4) (q := 1408) (h := 704) (n := 2048) (Memref.whole main_v1_4) (half_lt (far a c)) (r := 704 * ((far a c).val % 2)) (by omega) _ (slot4 (far a c)) _ _ squeezes_S1x704x2048_S704x2048 t i j e (by omega) (by omega))
      · exact H.2 (.inl (.inr (4, a) : R)) _ (block_mem (p := 4) (q := 1408) (h := 704) (n := 2048) (Memref.whole main_v1_4) (half_lt (far a (sib c))) (r := 704 * ((sib c).val % 2)) (by omega) _ (fwd4 a (sib c)) _ _ squeezes_S1x704x2048_S704x2048 t i j (e.trans (far_sib a c).symm) (by omega) (by omega))

/-- The arrays read end as they began; those written hold the four chips' shards. -/
def Post (s : MemSt nD τ sig (Elt F)) : Prop := ∀ c : Dev nD,
  (∀ k, s.mem ((c.tc : Thread nD τ).loc (inp k)) = m ((c.tc : Thread nD τ).loc (inp k)))
  ∧ ∀ k, s.mem ((c.tc : Thread nD τ).loc (out k)) = got m k c

theorem post_of (s : MemSt nD τ sig (Elt F)) (h : ∀ c, QY plan (fin m) ins c s) : Post m s := fun c =>
  ⟨fun k => ((h c).1 _ (inp_ins k)).trans (fin_in m c _ (ins_out _ (inp_ins k))), out_end m s c (h c)⟩

set_option maxRecDepth 65536 in
theorem run_main (ρ : Dev nD → PrngReg) :
    θ_run (defs (F := F)) (onTc (τ := τ) (main (F := F))) ⟨m, fun _ => 0, ρ⟩ (fun r => Post m r.2 ∧ r.2.sem = fun _ => 0) :=
  θ_run_talk plan m (fin m) ins cfgs ⟨fun w => w.elim0⟩ N_0 cellOf_inj winFacts0 (by decide) (fun c => scopedRest0_eq c) defs₀ Variants.none ρ main
    (fun _ => rfl) full placed (fun c b hb => fin_in m c b (ins_out b hb)) (fun c t => body m c t)
    (fun s h hs => ⟨post_of m s h, sem_eq_zero_of_scoped (by decide) hs⟩)

end Cert.GatherProof
-- ==== Proof.GatherClaim.lean ====
/-
The claims about the gathering of the weights.
-/
module

public import proofs.«01_k».proof.Defs
public import proofs.«01_k».proof.Proof.Gather
public import proofs.«01_k».proof.Proof.Stacks
public import proofs.«01_k».proof.Proof.Gen.Gather
public import proofs.«01_k».proof.Proof.Gen.GatherRef.Run
public import proofs.«01_k».proof.Proof.Gen.GatherRefIdeal.Run

@[expose] public section

noncomputable section

namespace Cert.GatherProof

open Cert.Stacks Cert.Mesh

open Idealize.ShloMosaic
open Idealize.ShloMosaic.TcCoe
open Idealize.SL.Sem

theorem frame : Cert.quiescent_Gather := fun m ρ _ =>
  (θ_run Cert.GatherIdeal.defs _ _).mono (fun _ h => ⟨fun c => ⟨(h.1 c).1 0, (h.1 c).1 1, (h.1 c).1 2, (h.1 c).1 3, (h.1 c).1 4⟩, h.2⟩)
    (run_main (F := Bits) m ρ)

theorem frame_ideal : Cert.quiescent_GatherIdeal := fun m ρ _ =>
  (θ_run Cert.GatherIdeal.defs _ _).mono (fun _ h => ⟨fun c => ⟨(h.1 c).1 0, (h.1 c).1 1, (h.1 c).1 2, (h.1 c).1 3, (h.1 c).1 4⟩, h.2⟩)
    (run_main (F := Ideal) m ρ)

theorem frame_ref : Cert.quiescent_GatherRef := fun m ρ _ =>
  (θ_run Cert.GatherRef.defs _ _).mono (fun r h => ⟨fun c => (h c).2.2.2.2.2, sem_eq_zero_of_no_sems (by decide) r.2⟩)
    (Cert.GatherRef.Value.run (F := Bits) m ρ)

theorem frame_ref_ideal : Cert.quiescent_GatherRefIdeal := fun m ρ _ =>
  (θ_run Cert.GatherRefIdeal.defs _ _).mono (fun r h => ⟨fun c => (h c).2.2.2.2.2, sem_eq_zero_of_no_sems (by decide) r.2⟩)
    (Cert.GatherRefIdeal.Value.run (F := Ideal) m ρ)

theorem preserves : Cert.preserves_Gather_GatherIdeal := trivial

theorem bitexact : Cert.bitexact_Gather_GatherRef := by
  intro m ρ m' ρ' _ hagree
  refine ⟨_, _, _, _, _, ?_, (θ_run Cert.GatherRef.defs _ _).mono (fun _ h => h 0) (Cert.GatherRef.Value.run (F := Bits) m' ρ')⟩
  refine (θ_run Cert.GatherIdeal.defs _ _).mono (fun _ h c => ?_) (run_main (F := Bits) m ρ)
  obtain ⟨hi, ho⟩ := h.1 c
  exact ⟨(ho 0).trans (gathered_cols (h := 2048) (n := 4100) (N := 16400) c rfl _ (fun d => m ((d.tc : Thread Cert.GatherIdeal.nD Cert.GatherIdeal.τ).loc Cert.GatherIdeal.main_arg0)) _ _ _ _ _ (fun s i j => ⟨held c s (i.val / 1024), held_half c s _, rfl⟩) fun d => (hagree d).1),
    (ho 1).trans (gathered_rows (H := 2048) (h := 512) (n := 2048) c rfl _ (fun d => m ((d.tc : Thread Cert.GatherIdeal.nD Cert.GatherIdeal.τ).loc Cert.GatherIdeal.main_arg1)) _ _ _ _ (fun s i j => ⟨held c s (i.val / 256), held_half c s _, rfl⟩) fun d => (hagree d).2.1),
    (ho 2).trans (gathered_cols (h := 2048) (n := 1408) (N := 5632) c rfl _ (fun d => m ((d.tc : Thread Cert.GatherIdeal.nD Cert.GatherIdeal.τ).loc Cert.GatherIdeal.main_arg2)) _ _ _ _ _ (fun s i j => ⟨held c s (i.val / 1024), held_half c s _, rfl⟩) fun d => (hagree d).2.2.1),
    (ho 3).trans (gathered_cols (h := 2048) (n := 1408) (N := 5632) c rfl _ (fun d => m ((d.tc : Thread Cert.GatherIdeal.nD Cert.GatherIdeal.τ).loc Cert.GatherIdeal.main_arg3)) _ _ _ _ _ (fun s i j => ⟨held c s (i.val / 1024), held_half c s _, rfl⟩) fun d => (hagree d).2.2.2.1),
    (ho 4).trans (gathered_rows (H := 5632) (h := 1408) (n := 2048) c rfl _ (fun d => m ((d.tc : Thread Cert.GatherIdeal.nD Cert.GatherIdeal.τ).loc Cert.GatherIdeal.main_arg4)) _ _ _ _ (fun s i j => ⟨held c s (i.val / 704), held_half c s _, rfl⟩) fun d => (hagree d).2.2.2.2),
    hi 0, hi 1, hi 2, hi 3, hi 4⟩

theorem algebraic : Cert.algebraic_GatherIdeal_GatherRefIdeal := by
  intro m ρ m' ρ' _ hagree
  refine ⟨_, _, _, _, _, ?_, (θ_run Cert.GatherRefIdeal.defs _ _).mono (fun _ h => h 0) (Cert.GatherRefIdeal.Value.run (F := Ideal) m' ρ')⟩
  refine (θ_run Cert.GatherIdeal.defs _ _).mono (fun _ h c => ?_) (run_main (F := Ideal) m ρ)
  obtain ⟨hi, ho⟩ := h.1 c
  exact ⟨(ho 0).trans (gathered_cols (h := 2048) (n := 4100) (N := 16400) c rfl _ (fun d => m ((d.tc : Thread Cert.GatherIdeal.nD Cert.GatherIdeal.τ).loc Cert.GatherIdeal.main_arg0)) _ _ _ _ _ (fun s i j => ⟨held c s (i.val / 1024), held_half c s _, rfl⟩) fun d => (hagree d).1),
    (ho 1).trans (gathered_rows (H := 2048) (h := 512) (n := 2048) c rfl _ (fun d => m ((d.tc : Thread Cert.GatherIdeal.nD Cert.GatherIdeal.τ).loc Cert.GatherIdeal.main_arg1)) _ _ _ _ (fun s i j => ⟨held c s (i.val / 256), held_half c s _, rfl⟩) fun d => (hagree d).2.1),
    (ho 2).trans (gathered_cols (h := 2048) (n := 1408) (N := 5632) c rfl _ (fun d => m ((d.tc : Thread Cert.GatherIdeal.nD Cert.GatherIdeal.τ).loc Cert.GatherIdeal.main_arg2)) _ _ _ _ _ (fun s i j => ⟨held c s (i.val / 1024), held_half c s _, rfl⟩) fun d => (hagree d).2.2.1),
    (ho 3).trans (gathered_cols (h := 2048) (n := 1408) (N := 5632) c rfl _ (fun d => m ((d.tc : Thread Cert.GatherIdeal.nD Cert.GatherIdeal.τ).loc Cert.GatherIdeal.main_arg3)) _ _ _ _ _ (fun s i j => ⟨held c s (i.val / 1024), held_half c s _, rfl⟩) fun d => (hagree d).2.2.2.1),
    (ho 4).trans (gathered_rows (H := 5632) (h := 1408) (n := 2048) c rfl _ (fun d => m ((d.tc : Thread Cert.GatherIdeal.nD Cert.GatherIdeal.τ).loc Cert.GatherIdeal.main_arg4)) _ _ _ _ (fun s i j => ⟨held c s (i.val / 704), held_half c s _, rfl⟩) fun d => (hagree d).2.2.2.2),
    hi 0, hi 1, hi 2, hi 3, hi 4⟩

end Cert.GatherProof
-- ==== Proof.UpdateClaim.lean ====
/-
The optimizer's update on one device, at the shape of each weight's shard. The call goes over its arrays block by block and
does the same to every element, so each of its three results is one function of the arrays at each index; the reference
does those operations on whole arrays. Over the reals the two are the same function.
-/
module

public import proofs.«01_k».proof.Defs
public import proofs.«01_k».proof.Proof.Gen.UpdateIn.Frame
public import proofs.«01_k».proof.Proof.Gen.UpdateInIdeal.Value
public import proofs.«01_k».proof.Proof.Gen.UpdateInRefIdeal.Run
public import proofs.«01_k».proof.Proof.Gen.UpdateOut.Frame
public import proofs.«01_k».proof.Proof.Gen.UpdateOutIdeal.Value
public import proofs.«01_k».proof.Proof.Gen.UpdateOutRefIdeal.Run
public import proofs.«01_k».proof.Proof.Gen.UpdateGate.Frame
public import proofs.«01_k».proof.Proof.Gen.UpdateGateIdeal.Value
public import proofs.«01_k».proof.Proof.Gen.UpdateGateRefIdeal.Run
public import proofs.«01_k».proof.Proof.Gen.UpdateDown.Frame
public import proofs.«01_k».proof.Proof.Gen.UpdateDownIdeal.Value
public import proofs.«01_k».proof.Proof.Gen.UpdateDownRefIdeal.Run
public import proofs.«01_k».proof.Proof.Gen.UpdateNorm.Frame
public import proofs.«01_k».proof.Proof.Gen.UpdateNormIdeal.Value
public import proofs.«01_k».proof.Proof.Gen.UpdateNormRefIdeal.Run
public import proofs.«01_k».proof.Proof.Gen.UpdateConv.Frame
public import proofs.«01_k».proof.Proof.Gen.UpdateConvIdeal.Value
public import proofs.«01_k».proof.Proof.Gen.UpdateConvRefIdeal.Run
public import proofs.«01_k».proof.Proof.Gen.UpdateGdn.Frame
public import proofs.«01_k».proof.Proof.Gen.UpdateGdnIdeal.Value
public import proofs.«01_k».proof.Proof.Gen.UpdateGdnRefIdeal.Run
public import proofs.«01_k».proof.Proof.Gen.UpdateHeads.Frame
public import proofs.«01_k».proof.Proof.Gen.UpdateHeadsIdeal.Value
public import proofs.«01_k».proof.Proof.Gen.UpdateHeadsRefIdeal.Run

@[expose] public section

noncomputable section

open Idealize.ShloMosaic
open Idealize.ShloMosaic.TcCoe
open Idealize.SL.Sem

/-! ## The shard of w_in -/

namespace Cert.UpdateInProof

theorem frame : Cert.quiescent_UpdateIn := fun m ρ _ => Cert.UpdateIn.Gen.frame m ρ

theorem frame_ideal : Cert.quiescent_UpdateInIdeal := fun m ρ _ => Cert.UpdateInIdeal.Gen.frame m ρ

theorem frame_ref_ideal : Cert.quiescent_UpdateInRefIdeal := fun m ρ _ =>
  (θ_run Cert.UpdateInRefIdeal.defs _ _).mono (fun r h => ⟨fun c => (h c).2.2.2, sem_eq_zero_of_no_sems (by decide) r.2⟩)
    (Cert.UpdateInRefIdeal.Value.run (F := Ideal) m ρ)

theorem preserves : Cert.preserves_UpdateIn_UpdateInIdeal := trivial

/-- The step, the new mean and the new variance are the reference's. -/
theorem algebraic : Cert.algebraic_UpdateInIdeal_UpdateInRefIdeal := by
  intro m ρ m' ρ' _ hagree
  refine ⟨_, _, _, Cert.UpdateInIdeal.Value.run (F := Ideal) m ρ, ?_⟩
  refine (θ_run Cert.UpdateInRefIdeal.defs _ _).mono (fun _ h c => ?_) (Cert.UpdateInRefIdeal.Value.run (F := Ideal) m' ρ')
  obtain ⟨a0, a1, a2, a3⟩ := hagree c
  obtain ⟨h0, h1, h2, kept⟩ := h c
  rw [a0, a1, a2, a3] at h0
  rw [a1, a2] at h1
  rw [a1, a3] at h2
  exact ⟨h0, h1, h2, kept⟩

end Cert.UpdateInProof

/-! ## The shard of w_out -/

namespace Cert.UpdateOutProof

theorem frame : Cert.quiescent_UpdateOut := fun m ρ _ => Cert.UpdateOut.Gen.frame m ρ

theorem frame_ideal : Cert.quiescent_UpdateOutIdeal := fun m ρ _ => Cert.UpdateOutIdeal.Gen.frame m ρ

theorem frame_ref_ideal : Cert.quiescent_UpdateOutRefIdeal := fun m ρ _ =>
  (θ_run Cert.UpdateOutRefIdeal.defs _ _).mono (fun r h => ⟨fun c => (h c).2.2.2, sem_eq_zero_of_no_sems (by decide) r.2⟩)
    (Cert.UpdateOutRefIdeal.Value.run (F := Ideal) m ρ)

theorem preserves : Cert.preserves_UpdateOut_UpdateOutIdeal := trivial

/-- The step, the new mean and the new variance are the reference's. -/
theorem algebraic : Cert.algebraic_UpdateOutIdeal_UpdateOutRefIdeal := by
  intro m ρ m' ρ' _ hagree
  refine ⟨_, _, _, Cert.UpdateOutIdeal.Value.run (F := Ideal) m ρ, ?_⟩
  refine (θ_run Cert.UpdateOutRefIdeal.defs _ _).mono (fun _ h c => ?_) (Cert.UpdateOutRefIdeal.Value.run (F := Ideal) m' ρ')
  obtain ⟨a0, a1, a2, a3⟩ := hagree c
  obtain ⟨h0, h1, h2, kept⟩ := h c
  rw [a0, a1, a2, a3] at h0
  rw [a1, a2] at h1
  rw [a1, a3] at h2
  exact ⟨h0, h1, h2, kept⟩

end Cert.UpdateOutProof

/-! ## The shards of w_gate and w_up -/

namespace Cert.UpdateGateProof

theorem frame : Cert.quiescent_UpdateGate := fun m ρ _ => Cert.UpdateGate.Gen.frame m ρ

theorem frame_ideal : Cert.quiescent_UpdateGateIdeal := fun m ρ _ => Cert.UpdateGateIdeal.Gen.frame m ρ

theorem frame_ref_ideal : Cert.quiescent_UpdateGateRefIdeal := fun m ρ _ =>
  (θ_run Cert.UpdateGateRefIdeal.defs _ _).mono (fun r h => ⟨fun c => (h c).2.2.2, sem_eq_zero_of_no_sems (by decide) r.2⟩)
    (Cert.UpdateGateRefIdeal.Value.run (F := Ideal) m ρ)

theorem preserves : Cert.preserves_UpdateGate_UpdateGateIdeal := trivial

/-- The step, the new mean and the new variance are the reference's. -/
theorem algebraic : Cert.algebraic_UpdateGateIdeal_UpdateGateRefIdeal := by
  intro m ρ m' ρ' _ hagree
  refine ⟨_, _, _, Cert.UpdateGateIdeal.Value.run (F := Ideal) m ρ, ?_⟩
  refine (θ_run Cert.UpdateGateRefIdeal.defs _ _).mono (fun _ h c => ?_) (Cert.UpdateGateRefIdeal.Value.run (F := Ideal) m' ρ')
  obtain ⟨a0, a1, a2, a3⟩ := hagree c
  obtain ⟨h0, h1, h2, kept⟩ := h c
  rw [a0, a1, a2, a3] at h0
  rw [a1, a2] at h1
  rw [a1, a3] at h2
  exact ⟨h0, h1, h2, kept⟩

end Cert.UpdateGateProof

/-! ## The shard of w_down -/

namespace Cert.UpdateDownProof

theorem frame : Cert.quiescent_UpdateDown := fun m ρ _ => Cert.UpdateDown.Gen.frame m ρ

theorem frame_ideal : Cert.quiescent_UpdateDownIdeal := fun m ρ _ => Cert.UpdateDownIdeal.Gen.frame m ρ

theorem frame_ref_ideal : Cert.quiescent_UpdateDownRefIdeal := fun m ρ _ =>
  (θ_run Cert.UpdateDownRefIdeal.defs _ _).mono (fun r h => ⟨fun c => (h c).2.2.2, sem_eq_zero_of_no_sems (by decide) r.2⟩)
    (Cert.UpdateDownRefIdeal.Value.run (F := Ideal) m ρ)

theorem preserves : Cert.preserves_UpdateDown_UpdateDownIdeal := trivial

/-- The step, the new mean and the new variance are the reference's. -/
theorem algebraic : Cert.algebraic_UpdateDownIdeal_UpdateDownRefIdeal := by
  intro m ρ m' ρ' _ hagree
  refine ⟨_, _, _, Cert.UpdateDownIdeal.Value.run (F := Ideal) m ρ, ?_⟩
  refine (θ_run Cert.UpdateDownRefIdeal.defs _ _).mono (fun _ h c => ?_) (Cert.UpdateDownRefIdeal.Value.run (F := Ideal) m' ρ')
  obtain ⟨a0, a1, a2, a3⟩ := hagree c
  obtain ⟨h0, h1, h2, kept⟩ := h c
  rw [a0, a1, a2, a3] at h0
  rw [a1, a2] at h1
  rw [a1, a3] at h2
  exact ⟨h0, h1, h2, kept⟩

end Cert.UpdateDownProof

/-! ## The weights of the norms of width 2048 -/

namespace Cert.UpdateNormProof

theorem frame : Cert.quiescent_UpdateNorm := fun m ρ _ => Cert.UpdateNorm.Gen.frame m ρ

theorem frame_ideal : Cert.quiescent_UpdateNormIdeal := fun m ρ _ => Cert.UpdateNormIdeal.Gen.frame m ρ

theorem frame_ref_ideal : Cert.quiescent_UpdateNormRefIdeal := fun m ρ _ =>
  (θ_run Cert.UpdateNormRefIdeal.defs _ _).mono (fun r h => ⟨fun c => (h c).2.2.2, sem_eq_zero_of_no_sems (by decide) r.2⟩)
    (Cert.UpdateNormRefIdeal.Value.run (F := Ideal) m ρ)

theorem preserves : Cert.preserves_UpdateNorm_UpdateNormIdeal := trivial

/-- The step, the new mean and the new variance are the reference's. -/
theorem algebraic : Cert.algebraic_UpdateNormIdeal_UpdateNormRefIdeal := by
  intro m ρ m' ρ' _ hagree
  refine ⟨_, _, _, Cert.UpdateNormIdeal.Value.run (F := Ideal) m ρ, ?_⟩
  refine (θ_run Cert.UpdateNormRefIdeal.defs _ _).mono (fun _ h c => ?_) (Cert.UpdateNormRefIdeal.Value.run (F := Ideal) m' ρ')
  obtain ⟨a0, a1, a2, a3⟩ := hagree c
  obtain ⟨h0, h1, h2, kept⟩ := h c
  rw [a0, a1, a2, a3] at h0
  rw [a1, a2] at h1
  rw [a1, a3] at h2
  exact ⟨h0, h1, h2, kept⟩

end Cert.UpdateNormProof

/-! ## The shard of the convolution weights, as one row -/

namespace Cert.UpdateConvProof

theorem frame : Cert.quiescent_UpdateConv := fun m ρ _ => Cert.UpdateConv.Gen.frame m ρ

theorem frame_ideal : Cert.quiescent_UpdateConvIdeal := fun m ρ _ => Cert.UpdateConvIdeal.Gen.frame m ρ

theorem frame_ref_ideal : Cert.quiescent_UpdateConvRefIdeal := fun m ρ _ =>
  (θ_run Cert.UpdateConvRefIdeal.defs _ _).mono (fun r h => ⟨fun c => (h c).2.2.2, sem_eq_zero_of_no_sems (by decide) r.2⟩)
    (Cert.UpdateConvRefIdeal.Value.run (F := Ideal) m ρ)

theorem preserves : Cert.preserves_UpdateConv_UpdateConvIdeal := trivial

/-- The step, the new mean and the new variance are the reference's. -/
theorem algebraic : Cert.algebraic_UpdateConvIdeal_UpdateConvRefIdeal := by
  intro m ρ m' ρ' _ hagree
  refine ⟨_, _, _, Cert.UpdateConvIdeal.Value.run (F := Ideal) m ρ, ?_⟩
  refine (θ_run Cert.UpdateConvRefIdeal.defs _ _).mono (fun _ h c => ?_) (Cert.UpdateConvRefIdeal.Value.run (F := Ideal) m' ρ')
  obtain ⟨a0, a1, a2, a3⟩ := hagree c
  obtain ⟨h0, h1, h2, kept⟩ := h c
  rw [a0, a1, a2, a3] at h0
  rw [a1, a2] at h1
  rw [a1, a3] at h2
  exact ⟨h0, h1, h2, kept⟩

end Cert.UpdateConvProof

/-! ## The weights of the norm of gated DeltaNet -/

namespace Cert.UpdateGdnProof

theorem frame : Cert.quiescent_UpdateGdn := fun m ρ _ => Cert.UpdateGdn.Gen.frame m ρ

theorem frame_ideal : Cert.quiescent_UpdateGdnIdeal := fun m ρ _ => Cert.UpdateGdnIdeal.Gen.frame m ρ

theorem frame_ref_ideal : Cert.quiescent_UpdateGdnRefIdeal := fun m ρ _ =>
  (θ_run Cert.UpdateGdnRefIdeal.defs _ _).mono (fun r h => ⟨fun c => (h c).2.2.2, sem_eq_zero_of_no_sems (by decide) r.2⟩)
    (Cert.UpdateGdnRefIdeal.Value.run (F := Ideal) m ρ)

theorem preserves : Cert.preserves_UpdateGdn_UpdateGdnIdeal := trivial

/-- The step, the new mean and the new variance are the reference's. -/
theorem algebraic : Cert.algebraic_UpdateGdnIdeal_UpdateGdnRefIdeal := by
  intro m ρ m' ρ' _ hagree
  refine ⟨_, _, _, Cert.UpdateGdnIdeal.Value.run (F := Ideal) m ρ, ?_⟩
  refine (θ_run Cert.UpdateGdnRefIdeal.defs _ _).mono (fun _ h c => ?_) (Cert.UpdateGdnRefIdeal.Value.run (F := Ideal) m' ρ')
  obtain ⟨a0, a1, a2, a3⟩ := hagree c
  obtain ⟨h0, h1, h2, kept⟩ := h c
  rw [a0, a1, a2, a3] at h0
  rw [a1, a2] at h1
  rw [a1, a3] at h2
  exact ⟨h0, h1, h2, kept⟩

end Cert.UpdateGdnProof

/-! ## The two weights per head, padded to a row of 128 -/

namespace Cert.UpdateHeadsProof

theorem frame : Cert.quiescent_UpdateHeads := fun m ρ _ => Cert.UpdateHeads.Gen.frame m ρ

theorem frame_ideal : Cert.quiescent_UpdateHeadsIdeal := fun m ρ _ => Cert.UpdateHeadsIdeal.Gen.frame m ρ

theorem frame_ref_ideal : Cert.quiescent_UpdateHeadsRefIdeal := fun m ρ _ =>
  (θ_run Cert.UpdateHeadsRefIdeal.defs _ _).mono (fun r h => ⟨fun c => (h c).2.2.2, sem_eq_zero_of_no_sems (by decide) r.2⟩)
    (Cert.UpdateHeadsRefIdeal.Value.run (F := Ideal) m ρ)

theorem preserves : Cert.preserves_UpdateHeads_UpdateHeadsIdeal := trivial

/-- The step, the new mean and the new variance are the reference's. -/
theorem algebraic : Cert.algebraic_UpdateHeadsIdeal_UpdateHeadsRefIdeal := by
  intro m ρ m' ρ' _ hagree
  refine ⟨_, _, _, Cert.UpdateHeadsIdeal.Value.run (F := Ideal) m ρ, ?_⟩
  refine (θ_run Cert.UpdateHeadsRefIdeal.defs _ _).mono (fun _ h c => ?_) (Cert.UpdateHeadsRefIdeal.Value.run (F := Ideal) m' ρ')
  obtain ⟨a0, a1, a2, a3⟩ := hagree c
  obtain ⟨h0, h1, h2, kept⟩ := h c
  rw [a0, a1, a2, a3] at h0
  rw [a1, a2] at h1
  rw [a1, a3] at h2
  exact ⟨h0, h1, h2, kept⟩

end Cert.UpdateHeadsProof

end
-- ==== Proof.SumClaim.lean ====
/-
The sum of the four shards that a device holds after an exchange, block of rows by block of rows. A block that a point
writes back holds, entry by entry, the four shards' entries added in turn, which at the ideal values is the
reference's sum over the leading axis.
-/
module

public import proofs.«01_k».proof.Defs
public import proofs.«01_k».proof.Proof.Gen.SumIn.Frame
public import proofs.«01_k».proof.Proof.Gen.SumInIdeal.Value
public import proofs.«01_k».proof.Proof.Gen.SumInRefIdeal.Run
public import proofs.«01_k».proof.Proof.Gen.SumOut.Frame
public import proofs.«01_k».proof.Proof.Gen.SumOutIdeal.Value
public import proofs.«01_k».proof.Proof.Gen.SumOutRefIdeal.Run
public import proofs.«01_k».proof.Proof.Gen.SumGate.Frame
public import proofs.«01_k».proof.Proof.Gen.SumGateIdeal.Value
public import proofs.«01_k».proof.Proof.Gen.SumGateRefIdeal.Run
public import proofs.«01_k».proof.Proof.Gen.SumDown.Frame
public import proofs.«01_k».proof.Proof.Gen.SumDownIdeal.Value
public import proofs.«01_k».proof.Proof.Gen.SumDownRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.SumInIdeal.Total

open Cert.SumInIdeal Cert.SumInIdeal.Gen

variable (m : (ℓ : Loc nD τ sig) → Buf (Elt Ideal) ℓ)

/-- The reference's term. -/
abbrev total (X : FVec Ideal S4x1024x4100 .bf16) : FVec Ideal S1024x4100 .f32 :=
  Host.reduceAdd (extf .f32 X Cert.SumInRefIdeal.Gen.bitsLt_bf16_f32) (constant Cert.SumInRefIdeal.S_ .f32 0x00000000#32)
    Cert.SumInRefIdeal.Gen.reducesTo_S4x1024x4100_S1024x4100_d0 Cert.SumInRefIdeal.Gen.h_S_

theorem idx : ∀ t : Fin cfg0.N, win0_0.index t = ![0, t.val, 0] ∧ win0_1.index t = ![t.val, 0] :=
  (by decide +kernel : ∀ t : Fin grid0.N, _)

theorem whole (X : FVec Ideal S4x1024x4100 .bf16) (j : S1024x4100.Idx) : total X j
    = X (ix3 0 (j 0) (j 1)) + X (ix3 1 (j 0) (j 1)) + X (ix3 2 (j 0) (j 1)) + X (ix3 3 (j 0) (j 1)) := by
  pointwise [total]
  exact Fin.sum_univ_four _

theorem final (c : Dev nD) : (dats m 0 c).arrAt 1 cfg0.N = total (m ((c : Thread nD τ).loc main_arg0)) := by
  refine (dats m 0 c).arrAt_eq_of_covers 1 _ (by decide +kernel) fun t _ y => ?_
  blk_simp
  rw [after0_1]
  unfold out0_1
  rw [Value.canon1_eq, whole]
  pointwise
  blk_point [iblk, V, idx t]

end Cert.SumInIdeal.Total

namespace Cert.SumInProof

theorem frame : Cert.quiescent_SumIn := fun m ρ _ => Cert.SumIn.Gen.frame m ρ

theorem frame_ideal : Cert.quiescent_SumInIdeal := fun m ρ _ => Cert.SumInIdeal.Gen.frame m ρ

theorem frame_ref_ideal : Cert.quiescent_SumInRefIdeal := fun m ρ _ =>
  (θ_run Cert.SumInRefIdeal.defs _ _).mono (fun r h => ⟨fun c => (h c).2, sem_eq_zero_of_no_sems (by decide) r.2⟩)
    (Cert.SumInRefIdeal.Value.run (F := Ideal) m ρ)

theorem preserves : Cert.preserves_SumIn_SumInIdeal := trivial

theorem algebraic : Cert.algebraic_SumInIdeal_SumInRefIdeal := by
  intro m ρ m' ρ' _ hagree
  refine ⟨_, Cert.SumInIdeal.Value.run_blocks (F := Ideal) m ρ, ?_⟩
  refine (θ_run Cert.SumInRefIdeal.defs _ _).mono (fun _ h c => ?_) (Cert.SumInRefIdeal.Value.run (F := Ideal) m' ρ')
  obtain ⟨h0, kept⟩ := h c
  rw [hagree c] at h0
  exact ⟨h0.trans (Cert.SumInIdeal.Total.final m c).symm, kept⟩

end Cert.SumInProof

namespace Cert.SumOutIdeal.Total

open Cert.SumOutIdeal Cert.SumOutIdeal.Gen

variable (m : (ℓ : Loc nD τ sig) → Buf (Elt Ideal) ℓ)

/-- The reference's term. -/
abbrev total (X : FVec Ideal S4x256x2048 .bf16) : FVec Ideal S256x2048 .f32 :=
  Host.reduceAdd (extf .f32 X Cert.SumOutRefIdeal.Gen.bitsLt_bf16_f32) (constant Cert.SumOutRefIdeal.S_ .f32 0x00000000#32)
    Cert.SumOutRefIdeal.Gen.reducesTo_S4x256x2048_S256x2048_d0 Cert.SumOutRefIdeal.Gen.h_S_

theorem idx : ∀ t : Fin cfg0.N, win0_0.index t = ![0, t.val, 0] ∧ win0_1.index t = ![t.val, 0] :=
  (by decide +kernel : ∀ t : Fin grid0.N, _)

theorem whole (X : FVec Ideal S4x256x2048 .bf16) (j : S256x2048.Idx) : total X j
    = X (ix3 0 (j 0) (j 1)) + X (ix3 1 (j 0) (j 1)) + X (ix3 2 (j 0) (j 1)) + X (ix3 3 (j 0) (j 1)) := by
  pointwise [total]
  exact Fin.sum_univ_four _

theorem final (c : Dev nD) : (dats m 0 c).arrAt 1 cfg0.N = total (m ((c : Thread nD τ).loc main_arg0)) := by
  refine (dats m 0 c).arrAt_eq_of_covers 1 _ (by decide +kernel) fun t _ y => ?_
  blk_simp
  rw [after0_1]
  unfold out0_1
  rw [Value.canon1_eq, whole]
  pointwise
  blk_point [iblk, V, idx t]

end Cert.SumOutIdeal.Total

namespace Cert.SumOutProof

theorem frame : Cert.quiescent_SumOut := fun m ρ _ => Cert.SumOut.Gen.frame m ρ

theorem frame_ideal : Cert.quiescent_SumOutIdeal := fun m ρ _ => Cert.SumOutIdeal.Gen.frame m ρ

theorem frame_ref_ideal : Cert.quiescent_SumOutRefIdeal := fun m ρ _ =>
  (θ_run Cert.SumOutRefIdeal.defs _ _).mono (fun r h => ⟨fun c => (h c).2, sem_eq_zero_of_no_sems (by decide) r.2⟩)
    (Cert.SumOutRefIdeal.Value.run (F := Ideal) m ρ)

theorem preserves : Cert.preserves_SumOut_SumOutIdeal := trivial

theorem algebraic : Cert.algebraic_SumOutIdeal_SumOutRefIdeal := by
  intro m ρ m' ρ' _ hagree
  refine ⟨_, Cert.SumOutIdeal.Value.run_blocks (F := Ideal) m ρ, ?_⟩
  refine (θ_run Cert.SumOutRefIdeal.defs _ _).mono (fun _ h c => ?_) (Cert.SumOutRefIdeal.Value.run (F := Ideal) m' ρ')
  obtain ⟨h0, kept⟩ := h c
  rw [hagree c] at h0
  exact ⟨h0.trans (Cert.SumOutIdeal.Total.final m c).symm, kept⟩

end Cert.SumOutProof

namespace Cert.SumGateIdeal.Total

open Cert.SumGateIdeal Cert.SumGateIdeal.Gen

variable (m : (ℓ : Loc nD τ sig) → Buf (Elt Ideal) ℓ)

/-- The reference's term. -/
abbrev total (X : FVec Ideal S4x1024x1408 .bf16) : FVec Ideal S1024x1408 .f32 :=
  Host.reduceAdd (extf .f32 X Cert.SumGateRefIdeal.Gen.bitsLt_bf16_f32) (constant Cert.SumGateRefIdeal.S_ .f32 0x00000000#32)
    Cert.SumGateRefIdeal.Gen.reducesTo_S4x1024x1408_S1024x1408_d0 Cert.SumGateRefIdeal.Gen.h_S_

theorem idx : ∀ t : Fin cfg0.N, win0_0.index t = ![0, t.val, 0] ∧ win0_1.index t = ![t.val, 0] :=
  (by decide +kernel : ∀ t : Fin grid0.N, _)

theorem whole (X : FVec Ideal S4x1024x1408 .bf16) (j : S1024x1408.Idx) : total X j
    = X (ix3 0 (j 0) (j 1)) + X (ix3 1 (j 0) (j 1)) + X (ix3 2 (j 0) (j 1)) + X (ix3 3 (j 0) (j 1)) := by
  pointwise [total]
  exact Fin.sum_univ_four _

theorem final (c : Dev nD) : (dats m 0 c).arrAt 1 cfg0.N = total (m ((c : Thread nD τ).loc main_arg0)) := by
  refine (dats m 0 c).arrAt_eq_of_covers 1 _ (by decide +kernel) fun t _ y => ?_
  blk_simp
  rw [after0_1]
  unfold out0_1
  rw [Value.canon1_eq, whole]
  pointwise
  blk_point [iblk, V, idx t]

end Cert.SumGateIdeal.Total

namespace Cert.SumGateProof

theorem frame : Cert.quiescent_SumGate := fun m ρ _ => Cert.SumGate.Gen.frame m ρ

theorem frame_ideal : Cert.quiescent_SumGateIdeal := fun m ρ _ => Cert.SumGateIdeal.Gen.frame m ρ

theorem frame_ref_ideal : Cert.quiescent_SumGateRefIdeal := fun m ρ _ =>
  (θ_run Cert.SumGateRefIdeal.defs _ _).mono (fun r h => ⟨fun c => (h c).2, sem_eq_zero_of_no_sems (by decide) r.2⟩)
    (Cert.SumGateRefIdeal.Value.run (F := Ideal) m ρ)

theorem preserves : Cert.preserves_SumGate_SumGateIdeal := trivial

theorem algebraic : Cert.algebraic_SumGateIdeal_SumGateRefIdeal := by
  intro m ρ m' ρ' _ hagree
  refine ⟨_, Cert.SumGateIdeal.Value.run_blocks (F := Ideal) m ρ, ?_⟩
  refine (θ_run Cert.SumGateRefIdeal.defs _ _).mono (fun _ h c => ?_) (Cert.SumGateRefIdeal.Value.run (F := Ideal) m' ρ')
  obtain ⟨h0, kept⟩ := h c
  rw [hagree c] at h0
  exact ⟨h0.trans (Cert.SumGateIdeal.Total.final m c).symm, kept⟩

end Cert.SumGateProof

namespace Cert.SumDownIdeal.Total

open Cert.SumDownIdeal Cert.SumDownIdeal.Gen

variable (m : (ℓ : Loc nD τ sig) → Buf (Elt Ideal) ℓ)

/-- The reference's term. -/
abbrev total (X : FVec Ideal S4x704x2048 .bf16) : FVec Ideal S704x2048 .f32 :=
  Host.reduceAdd (extf .f32 X Cert.SumDownRefIdeal.Gen.bitsLt_bf16_f32) (constant Cert.SumDownRefIdeal.S_ .f32 0x00000000#32)
    Cert.SumDownRefIdeal.Gen.reducesTo_S4x704x2048_S704x2048_d0 Cert.SumDownRefIdeal.Gen.h_S_

theorem idx : ∀ t : Fin cfg0.N, win0_0.index t = ![0, t.val, 0] ∧ win0_1.index t = ![t.val, 0] :=
  (by decide +kernel : ∀ t : Fin grid0.N, _)

theorem whole (X : FVec Ideal S4x704x2048 .bf16) (j : S704x2048.Idx) : total X j
    = X (ix3 0 (j 0) (j 1)) + X (ix3 1 (j 0) (j 1)) + X (ix3 2 (j 0) (j 1)) + X (ix3 3 (j 0) (j 1)) := by
  pointwise [total]
  exact Fin.sum_univ_four _

theorem final (c : Dev nD) : (dats m 0 c).arrAt 1 cfg0.N = total (m ((c : Thread nD τ).loc main_arg0)) := by
  refine (dats m 0 c).arrAt_eq_of_covers 1 _ (by decide +kernel) fun t _ y => ?_
  blk_simp
  rw [after0_1]
  unfold out0_1
  rw [Value.canon1_eq, whole]
  pointwise
  blk_point [iblk, V, idx t]

end Cert.SumDownIdeal.Total

namespace Cert.SumDownProof

theorem frame : Cert.quiescent_SumDown := fun m ρ _ => Cert.SumDown.Gen.frame m ρ

theorem frame_ideal : Cert.quiescent_SumDownIdeal := fun m ρ _ => Cert.SumDownIdeal.Gen.frame m ρ

theorem frame_ref_ideal : Cert.quiescent_SumDownRefIdeal := fun m ρ _ =>
  (θ_run Cert.SumDownRefIdeal.defs _ _).mono (fun r h => ⟨fun c => (h c).2, sem_eq_zero_of_no_sems (by decide) r.2⟩)
    (Cert.SumDownRefIdeal.Value.run (F := Ideal) m ρ)

theorem preserves : Cert.preserves_SumDown_SumDownIdeal := trivial

theorem algebraic : Cert.algebraic_SumDownIdeal_SumDownRefIdeal := by
  intro m ρ m' ρ' _ hagree
  refine ⟨_, Cert.SumDownIdeal.Value.run_blocks (F := Ideal) m ρ, ?_⟩
  refine (θ_run Cert.SumDownRefIdeal.defs _ _).mono (fun _ h c => ?_) (Cert.SumDownRefIdeal.Value.run (F := Ideal) m' ρ')
  obtain ⟨h0, kept⟩ := h c
  rw [hagree c] at h0
  exact ⟨h0.trans (Cert.SumDownIdeal.Total.final m c).symm, kept⟩

end Cert.SumDownProof

end
-- ==== Proof.SwigluClaim.lean ====
/-
SwiGLU and its derivative on one device. Both calls act element by element, block after block; each block that a point
writes back is the reference's element-by-element function of the same indices.
-/
module

public import proofs.«01_k».proof.Defs
public import proofs.«01_k».proof.Proof.Gen.Swiglu.Frame
public import proofs.«01_k».proof.Proof.Gen.SwigluIdeal.Value
public import proofs.«01_k».proof.Proof.Gen.SwigluRefIdeal.Run
public import proofs.«01_k».proof.Proof.Gen.SwigluBack.Frame
public import proofs.«01_k».proof.Proof.Gen.SwigluBackIdeal.Value
public import proofs.«01_k».proof.Proof.Gen.SwigluBackRefIdeal.Run
public import Idealize.ShloMosaic.Lib.Quiescent
public import Idealize.ShloMosaic.PureOps.Ideal.Laws

@[expose] public section

noncomputable section

open Idealize.ShloMosaic Idealize.ShloMosaic.TcCoe Idealize.SL.Sem

namespace Cert.SwigluProof

/-- Zero minus `x` is minus `x`. -/
theorem zero_sub_neg (x : Ideal .f32) : FloatOps.subf (Scalar.ofBits .f32 0x00000000#32) x = FloatOps.hostNegf x := by
  show Ideal.ofBits .f32 0x00000000#32 - x = -x
  rw [Ideal.ofBits_zero_f32, zero_sub]

theorem frame : Cert.quiescent_Swiglu := fun m ρ _ => Cert.Swiglu.Gen.frame m ρ
theorem frame_ideal : Cert.quiescent_SwigluIdeal := fun m ρ _ => Cert.SwigluIdeal.Gen.frame m ρ
theorem frame_ref_ideal : Cert.quiescent_SwigluRefIdeal := fun m ρ _ =>
  (θ_run Cert.SwigluRefIdeal.defs _ _).mono (fun r h => ⟨fun c => (h c).2, sem_eq_zero_of_no_sems (by decide) r.2⟩)
    (Cert.SwigluRefIdeal.Value.run (F := Ideal) m ρ)
theorem preserves : Cert.preserves_Swiglu_SwigluIdeal := trivial
theorem algebraic : Cert.algebraic_SwigluIdeal_SwigluRefIdeal := by
  intro m ρ m' ρ' _ hagree
  refine ⟨_, Cert.SwigluIdeal.Value.run (F := Ideal) m ρ, ?_⟩
  refine (θ_run Cert.SwigluRefIdeal.defs _ _).mono (fun _ h c => ?_) (Cert.SwigluRefIdeal.Value.run (F := Ideal) m' ρ')
  obtain ⟨a0, a1⟩ := hagree c
  obtain ⟨h0, kept⟩ := h c
  rw [a0, a1] at h0
  refine ⟨h0.trans (funext fun i => ?_), kept⟩
  unfold Cert.SwigluIdeal.Value.G2
  simp only [zero_sub_neg]
  rfl

end Cert.SwigluProof

namespace Cert.SwigluBackProof

theorem frame : Cert.quiescent_SwigluBack := fun m ρ _ => Cert.SwigluBack.Gen.frame m ρ
theorem frame_ideal : Cert.quiescent_SwigluBackIdeal := fun m ρ _ => Cert.SwigluBackIdeal.Gen.frame m ρ
theorem frame_ref_ideal : Cert.quiescent_SwigluBackRefIdeal := fun m ρ _ =>
  (θ_run Cert.SwigluBackRefIdeal.defs _ _).mono (fun r h => ⟨fun c => (h c).2.2, sem_eq_zero_of_no_sems (by decide) r.2⟩)
    (Cert.SwigluBackRefIdeal.Value.run (F := Ideal) m ρ)
theorem preserves : Cert.preserves_SwigluBack_SwigluBackIdeal := trivial
theorem algebraic : Cert.algebraic_SwigluBackIdeal_SwigluBackRefIdeal := by
  intro m ρ m' ρ' _ hagree
  refine ⟨_, _, Cert.SwigluBackIdeal.Value.run (F := Ideal) m ρ, ?_⟩
  refine (θ_run Cert.SwigluBackRefIdeal.defs _ _).mono (fun _ h c => ?_) (Cert.SwigluBackRefIdeal.Value.run (F := Ideal) m' ρ')
  obtain ⟨a0, a1, a2⟩ := hagree c
  obtain ⟨h0, h1, kept⟩ := h c
  rw [a0, a1, a2] at h0
  rw [a0, a2] at h1
  refine ⟨h0.trans (funext fun i => ?_), h1.trans (funext fun i => ?_), kept⟩
  · unfold Cert.SwigluBackIdeal.Value.G3
    simp only [SwigluProof.zero_sub_neg]
    rfl
  · unfold Cert.SwigluBackIdeal.Value.G4
    simp only [SwigluProof.zero_sub_neg]
    rfl

end Cert.SwigluBackProof

end
-- ==== Proof.ProductClaim.lean ====
/-
A matrix product tiled over rows, columns and the contracted index. The points of one tile of the result run through the
contracted index one slice after another and add each slice's product to a tile kept in scratch memory; the last of them
writes the tile back. So an entry written back is a sum of slice sums, which is the sum over the whole contracted index.
-/
module

public import proofs.«01_k».proof.Defs
public import proofs.«01_k».proof.Proof.Gen.MmProj.Frame
public import proofs.«01_k».proof.Proof.Gen.MmProjIdeal.Value
public import proofs.«01_k».proof.Proof.Gen.MmProjRefIdeal.Run
public import proofs.«01_k».proof.Proof.Gen.MmProjSmall.Frame
public import proofs.«01_k».proof.Proof.Gen.MmProjSmallIdeal.Value
public import proofs.«01_k».proof.Proof.Gen.MmProjSmallRefIdeal.Run
public import proofs.«01_k».proof.Proof.Gen.MmGate.Frame
public import proofs.«01_k».proof.Proof.Gen.MmGateIdeal.Value
public import proofs.«01_k».proof.Proof.Gen.MmGateRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.MmProjIdeal.Total

open Cert.MmProjIdeal Cert.MmProjIdeal.Gen

variable (m : (ℓ : Loc nD τ sig) → Buf (Elt Ideal) ℓ)

/-- The reference's term. -/
abbrev total (X : FVec Ideal S8192x2048 .bf16) (Y : FVec Ideal S2048x16384 .bf16) : FVec Ideal S8192x16384 .f32 :=
  Host.dotGeneral (F := Ideal) Cert.MmProjRefIdeal.dot_S8192x2048_S2048x16384_S8192x16384_1_0_0_1_n_n none X Y

theorem idx : ∀ t : Fin cfg0.N, win0_0.index t = ![t.val / 32, t.val % 2] ∧ win0_1.index t = ![t.val % 2, t.val / 2 % 16]
    ∧ win0_2.index t = ![t.val / 32, t.val / 2 % 16] :=
  (by decide +kernel : ∀ t : Fin grid0.N, _)

theorem zero (j : S512x1024.Idx) : k0_pay1 (F := Ideal) j = 0 := by pointwise [k0_pay1]

theorem step (acc : FVec Ideal S512x1024 .f32) (x : FVec Ideal S512x1024 .bf16) (y : FVec Ideal S1024x1024 .bf16) (j : S512x1024.Idx) :
    k0_pay2 acc x y j = acc j + ∑ k : Fin 1024, x (ix2 (j 0) k) * y (ix2 k (j 1)) := by pointwise [k0_pay2]

theorem whole (X : FVec Ideal S8192x2048 .bf16) (Y : FVec Ideal S2048x16384 .bf16) (j : S8192x16384.Idx) :
    total X Y j = (∑ k : Fin 2048, X (ix2 (j 0) k) * Y (ix2 k (j 1))) := by pointwise [total]

theorem last (c : Dev nD) (t : Fin cfg0.N) (h : t.val % 2 = 1) (j : S512x1024.Idx) :
    (outsAt0 m c t.val t.isLt).1 j = (outsAt0 m c t.val t.isLt).2 j := by
  rw [outsAt0_B m c t (by omega) h]
  frame_out

theorem carried (x : FVec Ideal S512x1024 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 2 (fun _ => 0) _
    (fun t h j => by rw [outsAt0_A m c t h (by omega)]; frame_out; rw [step, zero])
    (fun t h j => by rw [outsAt0_B m c t h (by omega)]; frame_out; rw [step, carried])
    t h1 _, zero_add, whole]
  refine Fin.sum_mul_add_congr fun s k hl => ?_
  blk_point [iblk, V, idx t, idx ⟨_, Pipeline.run_point_lt_of_flush t h1 s⟩]

end Cert.MmProjIdeal.Total

namespace Cert.MmProjProof

theorem frame : Cert.quiescent_MmProj := fun m ρ _ => Cert.MmProj.Gen.frame m ρ

theorem frame_ideal : Cert.quiescent_MmProjIdeal := fun m ρ _ => Cert.MmProjIdeal.Gen.frame m ρ

theorem frame_ref_ideal : Cert.quiescent_MmProjRefIdeal := fun m ρ _ =>
  (θ_run Cert.MmProjRefIdeal.defs _ _).mono (fun r h => ⟨fun c => (h c).2, sem_eq_zero_of_no_sems (by decide) r.2⟩)
    (Cert.MmProjRefIdeal.Value.run (F := Ideal) m ρ)

theorem preserves : Cert.preserves_MmProj_MmProjIdeal := trivial

theorem algebraic : Cert.algebraic_MmProjIdeal_MmProjRefIdeal := by
  intro m ρ m' ρ' _ hagree
  refine ⟨_, Cert.MmProjIdeal.Value.run_blocks (F := Ideal) m ρ, ?_⟩
  refine (θ_run Cert.MmProjRefIdeal.defs _ _).mono (fun _ h c => ?_) (Cert.MmProjRefIdeal.Value.run (F := Ideal) m' ρ')
  obtain ⟨a0, a1⟩ := hagree c
  obtain ⟨h0, kept⟩ := h c
  rw [a0, a1] at h0
  exact ⟨h0.trans (Cert.MmProjIdeal.Total.final m c).symm, kept⟩

end Cert.MmProjProof

namespace Cert.MmProjSmallIdeal.Total

open Cert.MmProjSmallIdeal Cert.MmProjSmallIdeal.Gen

variable (m : (ℓ : Loc nD τ sig) → Buf (Elt Ideal) ℓ)

/-- The reference's term. -/
abbrev total (X : FVec Ideal S8192x2048 .bf16) (Y : FVec Ideal S2048x128 .bf16) : FVec Ideal S8192x128 .f32 :=
  Host.dotGeneral (F := Ideal) Cert.MmProjSmallRefIdeal.dot_S8192x2048_S2048x128_S8192x128_1_0_0_1_n_n none X Y

theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

theorem zero (j : S512x128.Idx) : k0_pay1 (F := Ideal) j = 0 := by pointwise [k0_pay1]

theorem step (acc : FVec Ideal S512x128 .f32) (x : FVec Ideal S512x1024 .bf16) (y : FVec Ideal S1024x128 .bf16) (j : S512x128.Idx) :
    k0_pay2 acc x y j = acc j + ∑ k : Fin 1024, x (ix2 (j 0) k) * y (ix2 k (j 1)) := by pointwise [k0_pay2]

theorem whole (X : FVec Ideal S8192x2048 .bf16) (Y : FVec Ideal S2048x128 .bf16) (j : S8192x128.Idx) :
    total X Y j = (∑ k : Fin 2048, X (ix2 (j 0) k) * Y (ix2 k (j 1))) := by pointwise [total]

theorem last (c : Dev nD) (t : Fin cfg0.N) (h : t.val % 2 = 1) (j : S512x128.Idx) :
    (outsAt0 m c t.val t.isLt).1 j = (outsAt0 m c t.val t.isLt).2 j := by
  rw [outsAt0_B m c t (by omega) h]
  frame_out

theorem carried (x : FVec Ideal S512x128 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 2 (fun _ => 0) _
    (fun t h j => by rw [outsAt0_A m c t h (by omega)]; frame_out; rw [step, zero])
    (fun t h j => by rw [outsAt0_B m c t h (by omega)]; frame_out; rw [step, carried])
    t h1 _, zero_add, whole]
  refine Fin.sum_mul_add_congr fun s k hl => ?_
  blk_point [iblk, V, idx t, idx ⟨_, Pipeline.run_point_lt_of_flush t h1 s⟩]

end Cert.MmProjSmallIdeal.Total

namespace Cert.MmProjSmallProof

theorem frame : Cert.quiescent_MmProjSmall := fun m ρ _ => Cert.MmProjSmall.Gen.frame m ρ

theorem frame_ideal : Cert.quiescent_MmProjSmallIdeal := fun m ρ _ => Cert.MmProjSmallIdeal.Gen.frame m ρ

theorem frame_ref_ideal : Cert.quiescent_MmProjSmallRefIdeal := fun m ρ _ =>
  (θ_run Cert.MmProjSmallRefIdeal.defs _ _).mono (fun r h => ⟨fun c => (h c).2, sem_eq_zero_of_no_sems (by decide) r.2⟩)
    (Cert.MmProjSmallRefIdeal.Value.run (F := Ideal) m ρ)

theorem preserves : Cert.preserves_MmProjSmall_MmProjSmallIdeal := trivial

theorem algebraic : Cert.algebraic_MmProjSmallIdeal_MmProjSmallRefIdeal := by
  intro m ρ m' ρ' _ hagree
  refine ⟨_, Cert.MmProjSmallIdeal.Value.run_blocks (F := Ideal) m ρ, ?_⟩
  refine (θ_run Cert.MmProjSmallRefIdeal.defs _ _).mono (fun _ h c => ?_) (Cert.MmProjSmallRefIdeal.Value.run (F := Ideal) m' ρ')
  obtain ⟨a0, a1⟩ := hagree c
  obtain ⟨h0, kept⟩ := h c
  rw [a0, a1] at h0
  exact ⟨h0.trans (Cert.MmProjSmallIdeal.Total.final m c).symm, kept⟩

end Cert.MmProjSmallProof

namespace Cert.MmGateIdeal.Total

open Cert.MmGateIdeal Cert.MmGateIdeal.Gen

variable (m : (ℓ : Loc nD τ sig) → Buf (Elt Ideal) ℓ)

/-- The reference's term. -/
abbrev total (X : FVec Ideal S8192x2048 .bf16) (Y : FVec Ideal S2048x5632 .bf16) : FVec Ideal S8192x5632 .f32 :=
  Host.dotGeneral (F := Ideal) Cert.MmGateRefIdeal.dot_S8192x2048_S2048x5632_S8192x5632_1_0_0_1_n_n none X Y

theorem idx : ∀ t : Fin cfg0.N, win0_0.index t = ![t.val / 22, t.val % 2] ∧ win0_1.index t = ![t.val % 2, t.val / 2 % 11]
    ∧ win0_2.index t = ![t.val / 22, t.val / 2 % 11] :=
  (by decide +kernel : ∀ t : Fin grid0.N, _)

theorem zero (j : S512x512.Idx) : k0_pay1 (F := Ideal) j = 0 := by pointwise [k0_pay1]

theorem step (acc : FVec Ideal S512x512 .f32) (x : FVec Ideal S512x1024 .bf16) (y : FVec Ideal S1024x512 .bf16) (j : S512x512.Idx) :
    k0_pay2 acc x y j = acc j + ∑ k : Fin 1024, x (ix2 (j 0) k) * y (ix2 k (j 1)) := by pointwise [k0_pay2]

theorem whole (X : FVec Ideal S8192x2048 .bf16) (Y : FVec Ideal S2048x5632 .bf16) (j : S8192x5632.Idx) :
    total X Y j = (∑ k : Fin 2048, X (ix2 (j 0) k) * Y (ix2 k (j 1))) := by pointwise [total]

theorem last (c : Dev nD) (t : Fin cfg0.N) (h : t.val % 2 = 1) (j : S512x512.Idx) :
    (outsAt0 m c t.val t.isLt).1 j = (outsAt0 m c t.val t.isLt).2 j := by
  rw [outsAt0_B m c t (by omega) h]
  frame_out

theorem carried (x : FVec Ideal S512x512 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 2 (fun _ => 0) _
    (fun t h j => by rw [outsAt0_A m c t h (by omega)]; frame_out; rw [step, zero])
    (fun t h j => by rw [outsAt0_B m c t h (by omega)]; frame_out; rw [step, carried])
    t h1 _, zero_add, whole]
  refine Fin.sum_mul_add_congr fun s k hl => ?_
  blk_point [iblk, V, idx t, idx ⟨_, Pipeline.run_point_lt_of_flush t h1 s⟩]

end Cert.MmGateIdeal.Total

namespace Cert.MmGateProof

theorem frame : Cert.quiescent_MmGate := fun m ρ _ => Cert.MmGate.Gen.frame m ρ

theorem frame_ideal : Cert.quiescent_MmGateIdeal := fun m ρ _ => Cert.MmGateIdeal.Gen.frame m ρ

theorem frame_ref_ideal : Cert.quiescent_MmGateRefIdeal := fun m ρ _ =>
  (θ_run Cert.MmGateRefIdeal.defs _ _).mono (fun r h => ⟨fun c => (h c).2, sem_eq_zero_of_no_sems (by decide) r.2⟩)
    (Cert.MmGateRefIdeal.Value.run (F := Ideal) m ρ)

theorem preserves : Cert.preserves_MmGate_MmGateIdeal := trivial

theorem algebraic : Cert.algebraic_MmGateIdeal_MmGateRefIdeal := by
  intro m ρ m' ρ' _ hagree
  refine ⟨_, Cert.MmGateIdeal.Value.run_blocks (F := Ideal) m ρ, ?_⟩
  refine (θ_run Cert.MmGateRefIdeal.defs _ _).mono (fun _ h c => ?_) (Cert.MmGateRefIdeal.Value.run (F := Ideal) m' ρ')
  obtain ⟨a0, a1⟩ := hagree c
  obtain ⟨h0, kept⟩ := h c
  rw [a0, a1] at h0
  exact ⟨h0.trans (Cert.MmGateIdeal.Total.final m c).symm, kept⟩

end Cert.MmGateProof

end
-- ==== Proof.ProductAddClaim.lean ====
/-
The tiled matrix products that add a residual: the last point of a tile writes back the accumulated tile plus the
residual's tile. One of the three takes its second operand transposed.
-/
module

public import proofs.«01_k».proof.Defs
public import proofs.«01_k».proof.Proof.Gen.MmOut.Frame
public import proofs.«01_k».proof.Proof.Gen.MmOutIdeal.Value
public import proofs.«01_k».proof.Proof.Gen.MmOutRefIdeal.Run
public import proofs.«01_k».proof.Proof.Gen.MmDown.Frame
public import proofs.«01_k».proof.Proof.Gen.MmDownIdeal.Value
public import proofs.«01_k».proof.Proof.Gen.MmDownRefIdeal.Run
public import proofs.«01_k».proof.Proof.Gen.MmHnUp.Frame
public import proofs.«01_k».proof.Proof.Gen.MmHnUpIdeal.Value
public import proofs.«01_k».proof.Proof.Gen.MmHnUpRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.MmOutIdeal.Total

open Cert.MmOutIdeal Cert.MmOutIdeal.Gen

variable (m : (ℓ : Loc nD τ sig) → Buf (Elt Ideal) ℓ)

/-- The reference's term. -/
abbrev total (X : FVec Ideal S8192x2048 .bf16) (Y : FVec Ideal S2048x2048 .bf16) (R : FVec Ideal S8192x2048 .f32) : FVec Ideal S8192x2048 .f32 :=
  addf (Host.dotGeneral (F := Ideal) Cert.MmOutRefIdeal.dot_S8192x2048_S2048x2048_S8192x2048_1_0_0_1_n_n none X Y) R

theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

theorem zero (j : S512x1024.Idx) : k0_pay1 (F := Ideal) j = 0 := by pointwise [k0_pay1]

theorem step (acc : FVec Ideal S512x1024 .f32) (x : FVec Ideal S512x1024 .bf16) (y : FVec Ideal S1024x1024 .bf16) (j : S512x1024.Idx) :
    k0_pay2 acc x y j = acc j + ∑ k : Fin 1024, x (ix2 (j 0) k) * y (ix2 k (j 1)) := by pointwise [k0_pay2]

theorem whole (X : FVec Ideal S8192x2048 .bf16) (Y : FVec Ideal S2048x2048 .bf16) (R : FVec Ideal S8192x2048 .f32) (j : S8192x2048.Idx) :
    total X Y R j = (∑ k : Fin 2048, X (ix2 (j 0) k) * Y (ix2 k (j 1))) + R j := by pointwise [total]

theorem last (c : Dev nD) (t : Fin cfg0.N) (h : t.val % 2 = 1) (j : S512x1024.Idx) :
    (outsAt0 m c t.val t.isLt).1 j = (outsAt0 m c t.val t.isLt).2 j + iblk m c 2 t j := by
  rw [outsAt0_B m c t (by omega) h]
  frame_out
  pointwise [k0_pay3]

theorem carried (x : FVec Ideal S512x1024 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 3 cfg0.N
    = total (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h1 := (flush0_3 t).mp hf
  rw [after0_3, last m c t h1, Pipeline.eq_sum_fin_of_reset_step_apply_of_flush (fun n h => (outsAt0 m c n h).2) 2 (fun _ => 0) _
    (fun t h j => by rw [outsAt0_A m c t h (by omega)]; frame_out; rw [step, zero])
    (fun t h j => by rw [outsAt0_B m c t h (by omega)]; frame_out; rw [step, carried])
    t h1 _, zero_add, whole]
  refine congrArg₂ (· + ·) (Fin.sum_mul_add_congr fun s k hl => ?_) ?_
  · blk_point [iblk, V, idx t, idx ⟨_, Pipeline.run_point_lt_of_flush t h1 s⟩]
  · blk_point [iblk, V, idx t]

end Cert.MmOutIdeal.Total

namespace Cert.MmOutProof

theorem frame : Cert.quiescent_MmOut := fun m ρ _ => Cert.MmOut.Gen.frame m ρ

theorem frame_ideal : Cert.quiescent_MmOutIdeal := fun m ρ _ => Cert.MmOutIdeal.Gen.frame m ρ

theorem frame_ref_ideal : Cert.quiescent_MmOutRefIdeal := fun m ρ _ =>
  (θ_run Cert.MmOutRefIdeal.defs _ _).mono (fun r h => ⟨fun c => (h c).2, sem_eq_zero_of_no_sems (by decide) r.2⟩)
    (Cert.MmOutRefIdeal.Value.run (F := Ideal) m ρ)

theorem preserves : Cert.preserves_MmOut_MmOutIdeal := trivial

theorem algebraic : Cert.algebraic_MmOutIdeal_MmOutRefIdeal := by
  intro m ρ m' ρ' _ hagree
  refine ⟨_, Cert.MmOutIdeal.Value.run_blocks (F := Ideal) m ρ, ?_⟩
  refine (θ_run Cert.MmOutRefIdeal.defs _ _).mono (fun _ h c => ?_) (Cert.MmOutRefIdeal.Value.run (F := Ideal) m' ρ')
  obtain ⟨a0, a1, a2⟩ := hagree c
  obtain ⟨h0, kept⟩ := h c
  rw [a0, a1, a2] at h0
  exact ⟨h0.trans (Cert.MmOutIdeal.Total.final m c).symm, kept⟩

end Cert.MmOutProof

namespace Cert.MmDownIdeal.Total

open Cert.MmDownIdeal Cert.MmDownIdeal.Gen

variable (m : (ℓ : Loc nD τ sig) → Buf (Elt Ideal) ℓ)

/-- The reference's term. -/
abbrev total (X : FVec Ideal S8192x5632 .bf16) (Y : FVec Ideal S5632x2048 .bf16) (R : FVec Ideal S8192x2048 .f32) : FVec Ideal S8192x2048 .f32 :=
  addf (Host.dotGeneral (F := Ideal) Cert.MmDownRefIdeal.dot_S8192x5632_S5632x2048_S8192x2048_1_0_0_1_n_n none X Y) R

theorem idx : ∀ t : Fin cfg0.N, win0_0.index t = ![t.val / 22, t.val % 11] ∧ win0_1.index t = ![t.val % 11, t.val / 11 % 2]
    ∧ win0_2.index t = ![t.val / 22, t.val / 11 % 2] ∧ win0_3.index t = ![t.val / 22, t.val / 11 % 2] :=
  (by decide +kernel : ∀ t : Fin grid0.N, _)

theorem zero (j : S512x1024.Idx) : k0_pay1 (F := Ideal) j = 0 := by pointwise [k0_pay1]

theorem step (acc : FVec Ideal S512x1024 .f32) (x : FVec Ideal S512x512 .bf16) (y : FVec Ideal S512x1024 .bf16) (j : S512x1024.Idx) :
    k0_pay2 acc x y j = acc j + ∑ k : Fin 512, x (ix2 (j 0) k) * y (ix2 k (j 1)) := by pointwise [k0_pay2]

theorem whole (X : FVec Ideal S8192x5632 .bf16) (Y : FVec Ideal S5632x2048 .bf16) (R : FVec Ideal S8192x2048 .f32) (j : S8192x2048.Idx) :
    total X Y R j = (∑ k : Fin 5632, X (ix2 (j 0) k) * Y (ix2 k (j 1))) + R j := by pointwise [total]

theorem last (c : Dev nD) (t : Fin cfg0.N) (h : t.val % 11 = 10) (j : S512x1024.Idx) :
    (outsAt0 m c t.val t.isLt).1 j = (outsAt0 m c t.val t.isLt).2 j + iblk m c 2 t j := by
  rw [outsAt0_C m c t (by omega) h]
  frame_out
  pointwise [k0_pay3]

theorem carried (x : FVec Ideal S512x1024 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 3 cfg0.N
    = total (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h1 := (flush0_3 t).mp hf
  rw [after0_3, last m c t h1, Pipeline.eq_sum_fin_of_reset_step_apply_of_flush (fun n h => (outsAt0 m c n h).2) 11 (fun _ => 0) _
    (fun t h j => by rw [outsAt0_A m c t h (by omega)]; frame_out; rw [step, zero])
    (fun t h j => by
      by_cases h1 : t.val % 11 = 10
      · rw [outsAt0_C m c t h h1]; frame_out; rw [step, carried]
      · rw [outsAt0_B m c t h h1]; frame_out; rw [step, carried])
    t h1 _, zero_add, whole]
  refine congrArg₂ (· + ·) (Fin.sum_mul_add_congr fun s k hl => ?_) ?_
  · blk_point [iblk, V, idx t, idx ⟨_, Pipeline.run_point_lt_of_flush t h1 s⟩]
  · blk_point [iblk, V, idx t]

end Cert.MmDownIdeal.Total

namespace Cert.MmDownProof

theorem frame : Cert.quiescent_MmDown := fun m ρ _ => Cert.MmDown.Gen.frame m ρ

theorem frame_ideal : Cert.quiescent_MmDownIdeal := fun m ρ _ => Cert.MmDownIdeal.Gen.frame m ρ

theorem frame_ref_ideal : Cert.quiescent_MmDownRefIdeal := fun m ρ _ =>
  (θ_run Cert.MmDownRefIdeal.defs _ _).mono (fun r h => ⟨fun c => (h c).2, sem_eq_zero_of_no_sems (by decide) r.2⟩)
    (Cert.MmDownRefIdeal.Value.run (F := Ideal) m ρ)

theorem preserves : Cert.preserves_MmDown_MmDownIdeal := trivial

theorem algebraic : Cert.algebraic_MmDownIdeal_MmDownRefIdeal := by
  intro m ρ m' ρ' _ hagree
  refine ⟨_, Cert.MmDownIdeal.Value.run_blocks (F := Ideal) m ρ, ?_⟩
  refine (θ_run Cert.MmDownRefIdeal.defs _ _).mono (fun _ h c => ?_) (Cert.MmDownRefIdeal.Value.run (F := Ideal) m' ρ')
  obtain ⟨a0, a1, a2⟩ := hagree c
  obtain ⟨h0, kept⟩ := h c
  rw [a0, a1, a2] at h0
  exact ⟨h0.trans (Cert.MmDownIdeal.Total.final m c).symm, kept⟩

end Cert.MmDownProof

namespace Cert.MmHnUpIdeal.Total

open Cert.MmHnUpIdeal Cert.MmHnUpIdeal.Gen

variable (m : (ℓ : Loc nD τ sig) → Buf (Elt Ideal) ℓ)

/-- The reference's term. -/
abbrev total (X : FVec Ideal S8192x5632 .bf16) (Y : FVec Ideal S2048x5632 .bf16) (R : FVec Ideal S8192x2048 .f32) : FVec Ideal S8192x2048 .f32 :=
  addf (Host.dotGeneral (F := Ideal) Cert.MmHnUpRefIdeal.dot_S8192x5632_S5632x2048_S8192x2048_1_0_0_1_n_n none X (transpose Cert.MmHnUpRefIdeal.S5632x2048 [1, 0] Y Cert.MmHnUpRefIdeal.Gen.transposes_S2048x5632_S5632x2048_1_0)) R

theorem idx : ∀ t : Fin cfg0.N, win0_0.index t = ![t.val / 22, t.val % 11] ∧ win0_1.index t = ![t.val / 11 % 2, t.val % 11]
    ∧ win0_2.index t = ![t.val / 22, t.val / 11 % 2] ∧ win0_3.index t = ![t.val / 22, t.val / 11 % 2] :=
  (by decide +kernel : ∀ t : Fin grid0.N, _)

theorem zero (j : S512x1024.Idx) : k0_pay1 (F := Ideal) j = 0 := by pointwise [k0_pay1]

theorem step (acc : FVec Ideal S512x1024 .f32) (x : FVec Ideal S512x512 .bf16) (y : FVec Ideal S1024x512 .bf16) (j : S512x1024.Idx) :
    k0_pay2 acc x y j = acc j + ∑ k : Fin 512, x (ix2 (j 0) k) * y (ix2 (j 1) k) := by pointwise [k0_pay2]

theorem whole (X : FVec Ideal S8192x5632 .bf16) (Y : FVec Ideal S2048x5632 .bf16) (R : FVec Ideal S8192x2048 .f32) (j : S8192x2048.Idx) :
    total X Y R j = (∑ k : Fin 5632, X (ix2 (j 0) k) * Y (ix2 (j 1) k)) + R j := by pointwise [total]

theorem last (c : Dev nD) (t : Fin cfg0.N) (h : t.val % 11 = 10) (j : S512x1024.Idx) :
    (outsAt0 m c t.val t.isLt).1 j = (outsAt0 m c t.val t.isLt).2 j + iblk m c 2 t j := by
  rw [outsAt0_C m c t (by omega) h]
  frame_out
  pointwise [k0_pay3]

theorem carried (x : FVec Ideal S512x1024 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 3 cfg0.N
    = total (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h1 := (flush0_3 t).mp hf
  rw [after0_3, last m c t h1, Pipeline.eq_sum_fin_of_reset_step_apply_of_flush (fun n h => (outsAt0 m c n h).2) 11 (fun _ => 0) _
    (fun t h j => by rw [outsAt0_A m c t h (by omega)]; frame_out; rw [step, zero])
    (fun t h j => by
      by_cases h1 : t.val % 11 = 10
      · rw [outsAt0_C m c t h h1]; frame_out; rw [step, carried]
      · rw [outsAt0_B m c t h h1]; frame_out; rw [step, carried])
    t h1 _, zero_add, whole]
  refine congrArg₂ (· + ·) (Fin.sum_mul_add_congr fun s k hl => ?_) ?_
  · blk_point [iblk, V, idx t, idx ⟨_, Pipeline.run_point_lt_of_flush t h1 s⟩]
  · blk_point [iblk, V, idx t]

end Cert.MmHnUpIdeal.Total

namespace Cert.MmHnUpProof

theorem frame : Cert.quiescent_MmHnUp := fun m ρ _ => Cert.MmHnUp.Gen.frame m ρ

theorem frame_ideal : Cert.quiescent_MmHnUpIdeal := fun m ρ _ => Cert.MmHnUpIdeal.Gen.frame m ρ

theorem frame_ref_ideal : Cert.quiescent_MmHnUpRefIdeal := fun m ρ _ =>
  (θ_run Cert.MmHnUpRefIdeal.defs _ _).mono (fun r h => ⟨fun c => (h c).2, sem_eq_zero_of_no_sems (by decide) r.2⟩)
    (Cert.MmHnUpRefIdeal.Value.run (F := Ideal) m ρ)

theorem preserves : Cert.preserves_MmHnUp_MmHnUpIdeal := trivial

theorem algebraic : Cert.algebraic_MmHnUpIdeal_MmHnUpRefIdeal := by
  intro m ρ m' ρ' _ hagree
  refine ⟨_, Cert.MmHnUpIdeal.Value.run_blocks (F := Ideal) m ρ, ?_⟩
  refine (θ_run Cert.MmHnUpRefIdeal.defs _ _).mono (fun _ h c => ?_) (Cert.MmHnUpRefIdeal.Value.run (F := Ideal) m' ρ')
  obtain ⟨a0, a1, a2⟩ := hagree c
  obtain ⟨h0, kept⟩ := h c
  rw [a0, a1, a2] at h0
  exact ⟨h0.trans (Cert.MmHnUpIdeal.Total.final m c).symm, kept⟩

end Cert.MmHnUpProof

end
-- ==== Proof.ProductOnceClaim.lean ====
/-
The product whose contracted index fits one tile: every point clears its tile, adds the one product and the residual,
and writes the tile back.
-/
module

public import proofs.«01_k».proof.Defs
public import proofs.«01_k».proof.Proof.Gen.MmDuSmall.Frame
public import proofs.«01_k».proof.Proof.Gen.MmDuSmallIdeal.Value
public import proofs.«01_k».proof.Proof.Gen.MmDuSmallRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.MmDuSmallIdeal.Total

open Cert.MmDuSmallIdeal Cert.MmDuSmallIdeal.Gen

variable (m : (ℓ : Loc nD τ sig) → Buf (Elt Ideal) ℓ)

/-- The reference's term. -/
abbrev total (X : FVec Ideal S8192x128 .bf16) (Y : FVec Ideal S2048x128 .bf16) (R : FVec Ideal S8192x2048 .f32) : FVec Ideal S8192x2048 .f32 :=
  addf (Host.dotGeneral (F := Ideal) Cert.MmDuSmallRefIdeal.dot_S8192x128_S128x2048_S8192x2048_1_0_0_1_n_n none X
    (transpose Cert.MmDuSmallRefIdeal.S128x2048 [1, 0] Y Cert.MmDuSmallRefIdeal.Gen.transposes_S2048x128_S128x2048_1_0)) R

theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

theorem step (x : FVec Ideal S512x128 .bf16) (y : FVec Ideal S1024x128 .bf16) (r : FVec Ideal S512x1024 .f32) (j : S512x1024.Idx) :
    k0_pay3 (F := Ideal) (k0_pay2 (F := Ideal) (k0_pay1 (F := Ideal)) x y) r j = (∑ k : Fin 128, x (ix2 (j 0) k) * y (ix2 (j 1) k)) + r j := by
  pointwise [k0_pay3, k0_pay2, k0_pay1]

theorem whole (X : FVec Ideal S8192x128 .bf16) (Y : FVec Ideal S2048x128 .bf16) (R : FVec Ideal S8192x2048 .f32) (j : S8192x2048.Idx) :
    total X Y R j = (∑ k : Fin 128, X (ix2 (j 0) k) * Y (ix2 (j 1) k)) + R j := by pointwise [total]

theorem final (c : Dev nD) : (dats m 0 c).arrAt 3 cfg0.N
    = total (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  rw [step, whole]
  refine congrArg₂ (· + ·) (Finset.sum_congr rfl fun k _ => ?_) ?_
  · blk_point [iblk, V, idx t]
  · blk_point [iblk, V, idx t]

end Cert.MmDuSmallIdeal.Total

namespace Cert.MmDuSmallProof

theorem frame : Cert.quiescent_MmDuSmall := fun m ρ _ => Cert.MmDuSmall.Gen.frame m ρ

theorem frame_ideal : Cert.quiescent_MmDuSmallIdeal := fun m ρ _ => Cert.MmDuSmallIdeal.Gen.frame m ρ

theorem frame_ref_ideal : Cert.quiescent_MmDuSmallRefIdeal := fun m ρ _ =>
  (θ_run Cert.MmDuSmallRefIdeal.defs _ _).mono (fun r h => ⟨fun c => (h c).2, sem_eq_zero_of_no_sems (by decide) r.2⟩)
    (Cert.MmDuSmallRefIdeal.Value.run (F := Ideal) m ρ)

theorem preserves : Cert.preserves_MmDuSmall_MmDuSmallIdeal := trivial

theorem algebraic : Cert.algebraic_MmDuSmallIdeal_MmDuSmallRefIdeal := by
  intro m ρ m' ρ' _ hagree
  refine ⟨_, Cert.MmDuSmallIdeal.Value.run_blocks (F := Ideal) m ρ, ?_⟩
  refine (θ_run Cert.MmDuSmallRefIdeal.defs _ _).mono (fun _ h c => ?_) (Cert.MmDuSmallRefIdeal.Value.run (F := Ideal) m' ρ')
  obtain ⟨a0, a1, a2⟩ := hagree c
  obtain ⟨h0, kept⟩ := h c
  rw [a0, a1, a2] at h0
  exact ⟨h0.trans (Cert.MmDuSmallIdeal.Total.final m c).symm, kept⟩

end Cert.MmDuSmallProof

end
-- ==== Proof.ProductBackClaim.lean ====
/-
The tiled matrix products whose second operand is taken transposed: the tile of the second operand has the result's
columns as its rows.
-/
module

public import proofs.«01_k».proof.Defs
public import proofs.«01_k».proof.Proof.Gen.MmDact.Frame
public import proofs.«01_k».proof.Proof.Gen.MmDactIdeal.Value
public import proofs.«01_k».proof.Proof.Gen.MmDactRefIdeal.Run
public import proofs.«01_k».proof.Proof.Gen.MmHnGate.Frame
public import proofs.«01_k».proof.Proof.Gen.MmHnGateIdeal.Value
public import proofs.«01_k».proof.Proof.Gen.MmHnGateRefIdeal.Run
public import proofs.«01_k».proof.Proof.Gen.MmMix.Frame
public import proofs.«01_k».proof.Proof.Gen.MmMixIdeal.Value
public import proofs.«01_k».proof.Proof.Gen.MmMixRefIdeal.Run
public import proofs.«01_k».proof.Proof.Gen.MmDu.Frame
public import proofs.«01_k».proof.Proof.Gen.MmDuIdeal.Value
public import proofs.«01_k».proof.Proof.Gen.MmDuRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.MmDactIdeal.Total

open Cert.MmDactIdeal Cert.MmDactIdeal.Gen

variable (m : (ℓ : Loc nD τ sig) → Buf (Elt Ideal) ℓ)

/-- The reference's term. -/
abbrev total (X : FVec Ideal S8192x2048 .bf16) (Y : FVec Ideal S5632x2048 .bf16) : FVec Ideal S8192x5632 .f32 :=
  Host.dotGeneral (F := Ideal) Cert.MmDactRefIdeal.dot_S8192x2048_S2048x5632_S8192x5632_1_0_0_1_n_n none X (transpose Cert.MmDactRefIdeal.S2048x5632 [1, 0] Y Cert.MmDactRefIdeal.Gen.transposes_S5632x2048_S2048x5632_1_0)

theorem idx : ∀ t : Fin cfg0.N, win0_0.index t = ![t.val / 22, t.val % 2] ∧ win0_1.index t = ![t.val / 2 % 11, t.val % 2]
    ∧ win0_2.index t = ![t.val / 22, t.val / 2 % 11] :=
  (by decide +kernel : ∀ t : Fin grid0.N, _)

theorem zero (j : S512x512.Idx) : k0_pay1 (F := Ideal) j = 0 := by pointwise [k0_pay1]

theorem step (acc : FVec Ideal S512x512 .f32) (x : FVec Ideal S512x1024 .bf16) (y : FVec Ideal S512x1024 .bf16) (j : S512x512.Idx) :
    k0_pay2 acc x y j = acc j + ∑ k : Fin 1024, x (ix2 (j 0) k) * y (ix2 (j 1) k) := by pointwise [k0_pay2]

theorem whole (X : FVec Ideal S8192x2048 .bf16) (Y : FVec Ideal S5632x2048 .bf16) (j : S8192x5632.Idx) :
    total X Y j = (∑ k : Fin 2048, X (ix2 (j 0) k) * Y (ix2 (j 1) k)) := by pointwise [total]

theorem last (c : Dev nD) (t : Fin cfg0.N) (h : t.val % 2 = 1) (j : S512x512.Idx) :
    (outsAt0 m c t.val t.isLt).1 j = (outsAt0 m c t.val t.isLt).2 j := by
  rw [outsAt0_B m c t (by omega) h]
  frame_out

theorem carried (x : FVec Ideal S512x512 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 2 (fun _ => 0) _
    (fun t h j => by rw [outsAt0_A m c t h (by omega)]; frame_out; rw [step, zero])
    (fun t h j => by rw [outsAt0_B m c t h (by omega)]; frame_out; rw [step, carried])
    t h1 _, zero_add, whole]
  refine Fin.sum_mul_add_congr fun s k hl => ?_
  blk_point [iblk, V, idx t, idx ⟨_, Pipeline.run_point_lt_of_flush t h1 s⟩]

end Cert.MmDactIdeal.Total

namespace Cert.MmDactProof

theorem frame : Cert.quiescent_MmDact := fun m ρ _ => Cert.MmDact.Gen.frame m ρ

theorem frame_ideal : Cert.quiescent_MmDactIdeal := fun m ρ _ => Cert.MmDactIdeal.Gen.frame m ρ

theorem frame_ref_ideal : Cert.quiescent_MmDactRefIdeal := fun m ρ _ =>
  (θ_run Cert.MmDactRefIdeal.defs _ _).mono (fun r h => ⟨fun c => (h c).2, sem_eq_zero_of_no_sems (by decide) r.2⟩)
    (Cert.MmDactRefIdeal.Value.run (F := Ideal) m ρ)

theorem preserves : Cert.preserves_MmDact_MmDactIdeal := trivial

theorem algebraic : Cert.algebraic_MmDactIdeal_MmDactRefIdeal := by
  intro m ρ m' ρ' _ hagree
  refine ⟨_, Cert.MmDactIdeal.Value.run_blocks (F := Ideal) m ρ, ?_⟩
  refine (θ_run Cert.MmDactRefIdeal.defs _ _).mono (fun _ h c => ?_) (Cert.MmDactRefIdeal.Value.run (F := Ideal) m' ρ')
  obtain ⟨a0, a1⟩ := hagree c
  obtain ⟨h0, kept⟩ := h c
  rw [a0, a1] at h0
  exact ⟨h0.trans (Cert.MmDactIdeal.Total.final m c).symm, kept⟩

end Cert.MmDactProof

namespace Cert.MmHnGateIdeal.Total

open Cert.MmHnGateIdeal Cert.MmHnGateIdeal.Gen

variable (m : (ℓ : Loc nD τ sig) → Buf (Elt Ideal) ℓ)

/-- The reference's term. -/
abbrev total (X : FVec Ideal S8192x5632 .bf16) (Y : FVec Ideal S2048x5632 .bf16) : FVec Ideal S8192x2048 .f32 :=
  Host.dotGeneral (F := Ideal) Cert.MmHnGateRefIdeal.dot_S8192x5632_S5632x2048_S8192x2048_1_0_0_1_n_n none X (transpose Cert.MmHnGateRefIdeal.S5632x2048 [1, 0] Y Cert.MmHnGateRefIdeal.Gen.transposes_S2048x5632_S5632x2048_1_0)

theorem idx : ∀ t : Fin cfg0.N, win0_0.index t = ![t.val / 22, t.val % 11] ∧ win0_1.index t = ![t.val / 11 % 2, t.val % 11]
    ∧ win0_2.index t = ![t.val / 22, t.val / 11 % 2] :=
  (by decide +kernel : ∀ t : Fin grid0.N, _)

theorem zero (j : S512x1024.Idx) : k0_pay1 (F := Ideal) j = 0 := by pointwise [k0_pay1]

theorem step (acc : FVec Ideal S512x1024 .f32) (x : FVec Ideal S512x512 .bf16) (y : FVec Ideal S1024x512 .bf16) (j : S512x1024.Idx) :
    k0_pay2 acc x y j = acc j + ∑ k : Fin 512, x (ix2 (j 0) k) * y (ix2 (j 1) k) := by pointwise [k0_pay2]

theorem whole (X : FVec Ideal S8192x5632 .bf16) (Y : FVec Ideal S2048x5632 .bf16) (j : S8192x2048.Idx) :
    total X Y j = (∑ k : Fin 5632, X (ix2 (j 0) k) * Y (ix2 (j 1) k)) := by pointwise [total]

theorem last (c : Dev nD) (t : Fin cfg0.N) (h : t.val % 11 = 10) (j : S512x1024.Idx) :
    (outsAt0 m c t.val t.isLt).1 j = (outsAt0 m c t.val t.isLt).2 j := by
  rw [outsAt0_C m c t (by omega) h]
  frame_out

theorem carried (x : FVec Ideal S512x1024 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 11 (fun _ => 0) _
    (fun t h j => by rw [outsAt0_A m c t h (by omega)]; frame_out; rw [step, zero])
    (fun t h j => by
      by_cases h1 : t.val % 11 = 10
      · rw [outsAt0_C m c t h h1]; frame_out; rw [step, carried]
      · rw [outsAt0_B m c t h h1]; frame_out; rw [step, carried])
    t h1 _, zero_add, whole]
  refine Fin.sum_mul_add_congr fun s k hl => ?_
  blk_point [iblk, V, idx t, idx ⟨_, Pipeline.run_point_lt_of_flush t h1 s⟩]

end Cert.MmHnGateIdeal.Total

namespace Cert.MmHnGateProof

theorem frame : Cert.quiescent_MmHnGate := fun m ρ _ => Cert.MmHnGate.Gen.frame m ρ

theorem frame_ideal : Cert.quiescent_MmHnGateIdeal := fun m ρ _ => Cert.MmHnGateIdeal.Gen.frame m ρ

theorem frame_ref_ideal : Cert.quiescent_MmHnGateRefIdeal := fun m ρ _ =>
  (θ_run Cert.MmHnGateRefIdeal.defs _ _).mono (fun r h => ⟨fun c => (h c).2, sem_eq_zero_of_no_sems (by decide) r.2⟩)
    (Cert.MmHnGateRefIdeal.Value.run (F := Ideal) m ρ)

theorem preserves : Cert.preserves_MmHnGate_MmHnGateIdeal := trivial

theorem algebraic : Cert.algebraic_MmHnGateIdeal_MmHnGateRefIdeal := by
  intro m ρ m' ρ' _ hagree
  refine ⟨_, Cert.MmHnGateIdeal.Value.run_blocks (F := Ideal) m ρ, ?_⟩
  refine (θ_run Cert.MmHnGateRefIdeal.defs _ _).mono (fun _ h c => ?_) (Cert.MmHnGateRefIdeal.Value.run (F := Ideal) m' ρ')
  obtain ⟨a0, a1⟩ := hagree c
  obtain ⟨h0, kept⟩ := h c
  rw [a0, a1] at h0
  exact ⟨h0.trans (Cert.MmHnGateIdeal.Total.final m c).symm, kept⟩

end Cert.MmHnGateProof

namespace Cert.MmMixIdeal.Total

open Cert.MmMixIdeal Cert.MmMixIdeal.Gen

variable (m : (ℓ : Loc nD τ sig) → Buf (Elt Ideal) ℓ)

/-- The reference's term. -/
abbrev total (X : FVec Ideal S8192x2048 .bf16) (Y : FVec Ideal S2048x2048 .bf16) : FVec Ideal S8192x2048 .f32 :=
  Host.dotGeneral (F := Ideal) Cert.MmMixRefIdeal.dot_S8192x2048_S2048x2048_S8192x2048_1_0_0_1_n_n none X (transpose Cert.MmMixRefIdeal.S2048x2048 [1, 0] Y Cert.MmMixRefIdeal.Gen.transposes_S2048x2048_S2048x2048_1_0)

theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

theorem zero (j : S512x1024.Idx) : k0_pay1 (F := Ideal) j = 0 := by pointwise [k0_pay1]

theorem step (acc : FVec Ideal S512x1024 .f32) (x : FVec Ideal S512x1024 .bf16) (y : FVec Ideal S1024x1024 .bf16) (j : S512x1024.Idx) :
    k0_pay2 acc x y j = acc j + ∑ k : Fin 1024, x (ix2 (j 0) k) * y (ix2 (j 1) k) := by pointwise [k0_pay2]

theorem whole (X : FVec Ideal S8192x2048 .bf16) (Y : FVec Ideal S2048x2048 .bf16) (j : S8192x2048.Idx) :
    total X Y j = (∑ k : Fin 2048, X (ix2 (j 0) k) * Y (ix2 (j 1) k)) := by pointwise [total]

theorem last (c : Dev nD) (t : Fin cfg0.N) (h : t.val % 2 = 1) (j : S512x1024.Idx) :
    (outsAt0 m c t.val t.isLt).1 j = (outsAt0 m c t.val t.isLt).2 j := by
  rw [outsAt0_B m c t (by omega) h]
  frame_out

theorem carried (x : FVec Ideal S512x1024 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 2 (fun _ => 0) _
    (fun t h j => by rw [outsAt0_A m c t h (by omega)]; frame_out; rw [step, zero])
    (fun t h j => by rw [outsAt0_B m c t h (by omega)]; frame_out; rw [step, carried])
    t h1 _, zero_add, whole]
  refine Fin.sum_mul_add_congr fun s k hl => ?_
  blk_point [iblk, V, idx t, idx ⟨_, Pipeline.run_point_lt_of_flush t h1 s⟩]

end Cert.MmMixIdeal.Total

namespace Cert.MmMixProof

theorem frame : Cert.quiescent_MmMix := fun m ρ _ => Cert.MmMix.Gen.frame m ρ

theorem frame_ideal : Cert.quiescent_MmMixIdeal := fun m ρ _ => Cert.MmMixIdeal.Gen.frame m ρ

theorem frame_ref_ideal : Cert.quiescent_MmMixRefIdeal := fun m ρ _ =>
  (θ_run Cert.MmMixRefIdeal.defs _ _).mono (fun r h => ⟨fun c => (h c).2, sem_eq_zero_of_no_sems (by decide) r.2⟩)
    (Cert.MmMixRefIdeal.Value.run (F := Ideal) m ρ)

theorem preserves : Cert.preserves_MmMix_MmMixIdeal := trivial

theorem algebraic : Cert.algebraic_MmMixIdeal_MmMixRefIdeal := by
  intro m ρ m' ρ' _ hagree
  refine ⟨_, Cert.MmMixIdeal.Value.run_blocks (F := Ideal) m ρ, ?_⟩
  refine (θ_run Cert.MmMixRefIdeal.defs _ _).mono (fun _ h c => ?_) (Cert.MmMixRefIdeal.Value.run (F := Ideal) m' ρ')
  obtain ⟨a0, a1⟩ := hagree c
  obtain ⟨h0, kept⟩ := h c
  rw [a0, a1] at h0
  exact ⟨h0.trans (Cert.MmMixIdeal.Total.final m c).symm, kept⟩

end Cert.MmMixProof

namespace Cert.MmDuIdeal.Total

open Cert.MmDuIdeal Cert.MmDuIdeal.Gen

variable (m : (ℓ : Loc nD τ sig) → Buf (Elt Ideal) ℓ)

/-- The reference's term. -/
abbrev total (X : FVec Ideal S8192x16384 .bf16) (Y : FVec Ideal S2048x16384 .bf16) : FVec Ideal S8192x2048 .f32 :=
  Host.dotGeneral (F := Ideal) Cert.MmDuRefIdeal.dot_S8192x16384_S16384x2048_S8192x2048_1_0_0_1_n_n none X (transpose Cert.MmDuRefIdeal.S16384x2048 [1, 0] Y Cert.MmDuRefIdeal.Gen.transposes_S2048x16384_S16384x2048_1_0)

theorem idx : ∀ t : Fin cfg0.N, win0_0.index t = ![t.val / 32, t.val % 16] ∧ win0_1.index t = ![t.val / 16 % 2, t.val % 16]
    ∧ win0_2.index t = ![t.val / 32, t.val / 16 % 2] :=
  (by decide +kernel : ∀ t : Fin grid0.N, _)

theorem zero (j : S512x1024.Idx) : k0_pay1 (F := Ideal) j = 0 := by pointwise [k0_pay1]

theorem step (acc : FVec Ideal S512x1024 .f32) (x : FVec Ideal S512x1024 .bf16) (y : FVec Ideal S1024x1024 .bf16) (j : S512x1024.Idx) :
    k0_pay2 acc x y j = acc j + ∑ k : Fin 1024, x (ix2 (j 0) k) * y (ix2 (j 1) k) := by pointwise [k0_pay2]

theorem whole (X : FVec Ideal S8192x16384 .bf16) (Y : FVec Ideal S2048x16384 .bf16) (j : S8192x2048.Idx) :
    total X Y j = (∑ k : Fin 16384, X (ix2 (j 0) k) * Y (ix2 (j 1) k)) := by pointwise [total]

theorem last (c : Dev nD) (t : Fin cfg0.N) (h : t.val % 16 = 15) (j : S512x1024.Idx) :
    (outsAt0 m c t.val t.isLt).1 j = (outsAt0 m c t.val t.isLt).2 j := by
  rw [outsAt0_C m c t (by omega) h]
  frame_out

theorem carried (x : FVec Ideal S512x1024 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 16 (fun _ => 0) _
    (fun t h j => by rw [outsAt0_A m c t h (by omega)]; frame_out; rw [step, zero])
    (fun t h j => by
      by_cases h1 : t.val % 16 = 15
      · rw [outsAt0_C m c t h h1]; frame_out; rw [step, carried]
      · rw [outsAt0_B m c t h h1]; frame_out; rw [step, carried])
    t h1 _, zero_add, whole]
  refine Fin.sum_mul_add_congr fun s k hl => ?_
  blk_point [iblk, V, idx t, idx ⟨_, Pipeline.run_point_lt_of_flush t h1 s⟩]

end Cert.MmDuIdeal.Total

namespace Cert.MmDuProof

theorem frame : Cert.quiescent_MmDu := fun m ρ _ => Cert.MmDu.Gen.frame m ρ

theorem frame_ideal : Cert.quiescent_MmDuIdeal := fun m ρ _ => Cert.MmDuIdeal.Gen.frame m ρ

theorem frame_ref_ideal : Cert.quiescent_MmDuRefIdeal := fun m ρ _ =>
  (θ_run Cert.MmDuRefIdeal.defs _ _).mono (fun r h => ⟨fun c => (h c).2, sem_eq_zero_of_no_sems (by decide) r.2⟩)
    (Cert.MmDuRefIdeal.Value.run (F := Ideal) m ρ)

theorem preserves : Cert.preserves_MmDu_MmDuIdeal := trivial

theorem algebraic : Cert.algebraic_MmDuIdeal_MmDuRefIdeal := by
  intro m ρ m' ρ' _ hagree
  refine ⟨_, Cert.MmDuIdeal.Value.run_blocks (F := Ideal) m ρ, ?_⟩
  refine (θ_run Cert.MmDuRefIdeal.defs _ _).mono (fun _ h c => ?_) (Cert.MmDuRefIdeal.Value.run (F := Ideal) m' ρ')
  obtain ⟨a0, a1⟩ := hagree c
  obtain ⟨h0, kept⟩ := h c
  rw [a0, a1] at h0
  exact ⟨h0.trans (Cert.MmDuIdeal.Total.final m c).symm, kept⟩

end Cert.MmDuProof

end
-- ==== Proof.ProductWeightClaim.lean ====
/-
The tiled matrix products whose first operand is taken transposed, as for the gradients of the weights: both operands'
tiles run down the tokens, and the last point of a tile rounds the accumulated tile to the result's type.
-/
module

public import proofs.«01_k».proof.Defs
public import proofs.«01_k».proof.Proof.Gen.DwDown.Frame
public import proofs.«01_k».proof.Proof.Gen.DwDownIdeal.Value
public import proofs.«01_k».proof.Proof.Gen.DwDownRefIdeal.Run
public import proofs.«01_k».proof.Proof.Gen.DwGate.Frame
public import proofs.«01_k».proof.Proof.Gen.DwGateIdeal.Value
public import proofs.«01_k».proof.Proof.Gen.DwGateRefIdeal.Run
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DwIn.Frame
public import proofs.«01_k».proof.Proof.Gen.DwInIdeal.Value
public import proofs.«01_k».proof.Proof.Gen.DwInRefIdeal.Run
public import proofs.«01_k».proof.Proof.Gen.DwInSmall.Frame
public import proofs.«01_k».proof.Proof.Gen.DwInSmallIdeal.Value
public import proofs.«01_k».proof.Proof.Gen.DwInSmallRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.DwDownIdeal.Total

open Cert.DwDownIdeal Cert.DwDownIdeal.Gen

variable (m : (ℓ : Loc nD τ sig) → Buf (Elt Ideal) ℓ)

/-- The reference's term. -/
abbrev total (X : FVec Ideal S8192x5632 .bf16) (Y : FVec Ideal S8192x2048 .bf16) : FVec Ideal S5632x2048 .bf16 :=
  truncf .bf16 (Host.dotGeneral (F := Ideal) Cert.DwDownRefIdeal.dot_S5632x8192_S8192x2048_S5632x2048_1_0_0_1_n_n none (transpose Cert.DwDownRefIdeal.S5632x8192 [1, 0] X Cert.DwDownRefIdeal.Gen.transposes_S8192x5632_S5632x8192_1_0) Y) Cert.DwDownRefIdeal.Gen.bitsLt_bf16_f32

theorem idx : ∀ t : Fin cfg0.N, win0_0.index t = ![t.val % 8, t.val / 16] ∧ win0_1.index t = ![t.val % 8, t.val / 8 % 2]
    ∧ win0_2.index t = ![t.val / 16, t.val / 8 % 2] :=
  (by decide +kernel : ∀ t : Fin grid0.N, _)

theorem zero (j : S512x1024.Idx) : k0_pay1 (F := Ideal) j = 0 := by pointwise [k0_pay1]

theorem step (acc : FVec Ideal S512x1024 .f32) (x : FVec Ideal S1024x512 .bf16) (y : FVec Ideal S1024x1024 .bf16) (j : S512x1024.Idx) :
    k0_pay2 acc x y j = acc j + ∑ k : Fin 1024, x (ix2 k (j 0)) * y (ix2 k (j 1)) := by pointwise [k0_pay2]

theorem whole (X : FVec Ideal S8192x5632 .bf16) (Y : FVec Ideal S8192x2048 .bf16) (j : S5632x2048.Idx) :
    total X Y j = (∑ k : Fin 8192, X (ix2 k (j 0)) * Y (ix2 k (j 1))) := by pointwise [total]

theorem last (c : Dev nD) (t : Fin cfg0.N) (h : t.val % 8 = 7) (j : S512x1024.Idx) :
    (outsAt0 m c t.val t.isLt).1 j = (outsAt0 m c t.val t.isLt).2 j := by
  rw [outsAt0_C m c t (by omega) h]
  frame_out
  pointwise [k0_pay3]

theorem carried (x : FVec Ideal S512x1024 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 8 (fun _ => 0) _
    (fun t h j => by rw [outsAt0_A m c t h (by omega)]; frame_out; rw [step, zero])
    (fun t h j => by
      by_cases h1 : t.val % 8 = 7
      · rw [outsAt0_C m c t h h1]; frame_out; rw [step, carried]
      · rw [outsAt0_B m c t h h1]; frame_out; rw [step, carried])
    t h1 _, zero_add, whole]
  refine Fin.sum_mul_add_congr fun s k hl => ?_
  blk_point [iblk, V, idx t, idx ⟨_, Pipeline.run_point_lt_of_flush t h1 s⟩]

end Cert.DwDownIdeal.Total

namespace Cert.DwDownProof

theorem frame : Cert.quiescent_DwDown := fun m ρ _ => Cert.DwDown.Gen.frame m ρ

theorem frame_ideal : Cert.quiescent_DwDownIdeal := fun m ρ _ => Cert.DwDownIdeal.Gen.frame m ρ

theorem frame_ref_ideal : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

theorem preserves : Cert.preserves_DwDown_DwDownIdeal := trivial

theorem algebraic : Cert.algebraic_DwDownIdeal_DwDownRefIdeal := by
  intro m ρ m' ρ' _ hagree
  refine ⟨_, Cert.DwDownIdeal.Value.run_blocks (F := Ideal) m ρ, ?_⟩
  refine (θ_run Cert.DwDownRefIdeal.defs _ _).mono (fun _ h c => ?_) (Cert.DwDownRefIdeal.Value.run (F := Ideal) m' ρ')
  obtain ⟨a0, a1⟩ := hagree c
  obtain ⟨h0, kept⟩ := h c
  rw [a0, a1] at h0
  exact ⟨h0.trans (Cert.DwDownIdeal.Total.final m c).symm, kept⟩

end Cert.DwDownProof

namespace Cert.DwGateIdeal.Total

open Cert.DwGateIdeal Cert.DwGateIdeal.Gen

variable (m : (ℓ : Loc nD τ sig) → Buf (Elt Ideal) ℓ)

/-- The reference's term. -/
abbrev total (X : FVec Ideal S8192x2048 .bf16) (Y : FVec Ideal S8192x5632 .bf16) : FVec Ideal S2048x5632 .bf16 :=
  truncf .bf16 (Host.dotGeneral (F := Ideal) Cert.DwGateRefIdeal.dot_S2048x8192_S8192x5632_S2048x5632_1_0_0_1_n_n none (transpose Cert.DwGateRefIdeal.S2048x8192 [1, 0] X Cert.DwGateRefIdeal.Gen.transposes_S8192x2048_S2048x8192_1_0) Y) Cert.DwGateRefIdeal.Gen.bitsLt_bf16_f32

theorem idx : ∀ t : Fin cfg0.N, win0_0.index t = ![t.val % 8, t.val / 88] ∧ win0_1.index t = ![t.val % 8, t.val / 8 % 11]
    ∧ win0_2.index t = ![t.val / 88, t.val / 8 % 11] :=
  (by decide +kernel : ∀ t : Fin grid0.N, _)

theorem zero (j : S512x512.Idx) : k0_pay1 (F := Ideal) j = 0 := by pointwise [k0_pay1]

theorem step (acc : FVec Ideal S512x512 .f32) (x : FVec Ideal S1024x512 .bf16) (y : FVec Ideal S1024x512 .bf16) (j : S512x512.Idx) :
    k0_pay2 acc x y j = acc j + ∑ k : Fin 1024, x (ix2 k (j 0)) * y (ix2 k (j 1)) := by pointwise [k0_pay2]

theorem whole (X : FVec Ideal S8192x2048 .bf16) (Y : FVec Ideal S8192x5632 .bf16) (j : S2048x5632.Idx) :
    total X Y j = (∑ k : Fin 8192, X (ix2 k (j 0)) * Y (ix2 k (j 1))) := by pointwise [total]

theorem last (c : Dev nD) (t : Fin cfg0.N) (h : t.val % 8 = 7) (j : S512x512.Idx) :
    (outsAt0 m c t.val t.isLt).1 j = (outsAt0 m c t.val t.isLt).2 j := by
  rw [outsAt0_C m c t (by omega) h]
  frame_out
  pointwise [k0_pay3]

theorem carried (x : FVec Ideal S512x512 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 8 (fun _ => 0) _
    (fun t h j => by rw [outsAt0_A m c t h (by omega)]; frame_out; rw [step, zero])
    (fun t h j => by
      by_cases h1 : t.val % 8 = 7
      · rw [outsAt0_C m c t h h1]; frame_out; rw [step, carried]
      · rw [outsAt0_B m c t h h1]; frame_out; rw [step, carried])
    t h1 _, zero_add, whole]
  refine Fin.sum_mul_add_congr fun s k hl => ?_
  blk_point [iblk, V, idx t, idx ⟨_, Pipeline.run_point_lt_of_flush t h1 s⟩]

end Cert.DwGateIdeal.Total

namespace Cert.DwGateProof

theorem frame : Cert.quiescent_DwGate := fun m ρ _ => Cert.DwGate.Gen.frame m ρ

theorem frame_ideal : Cert.quiescent_DwGateIdeal := fun m ρ _ => Cert.DwGateIdeal.Gen.frame m ρ

theorem frame_ref_ideal : Cert.quiescent_DwGateRefIdeal := fun m ρ _ =>
  (θ_run Cert.DwGateRefIdeal.defs _ _).mono (fun r h => ⟨fun c => (h c).2, sem_eq_zero_of_no_sems (by decide) r.2⟩)
    (Cert.DwGateRefIdeal.Value.run (F := Ideal) m ρ)

theorem preserves : Cert.preserves_DwGate_DwGateIdeal := trivial

theorem algebraic : Cert.algebraic_DwGateIdeal_DwGateRefIdeal := by
  intro m ρ m' ρ' _ hagree
  refine ⟨_, Cert.DwGateIdeal.Value.run_blocks (F := Ideal) m ρ, ?_⟩
  refine (θ_run Cert.DwGateRefIdeal.defs _ _).mono (fun _ h c => ?_) (Cert.DwGateRefIdeal.Value.run (F := Ideal) m' ρ')
  obtain ⟨a0, a1⟩ := hagree c
  obtain ⟨h0, kept⟩ := h c
  rw [a0, a1] at h0
  exact ⟨h0.trans (Cert.DwGateIdeal.Total.final m c).symm, kept⟩

end Cert.DwGateProof

namespace Cert.DwOutIdeal.Total

open Cert.DwOutIdeal Cert.DwOutIdeal.Gen

variable (m : (ℓ : Loc nD τ sig) → Buf (Elt Ideal) ℓ)

/-- The reference's term. -/
abbrev total (X : FVec Ideal S8192x2048 .bf16) (Y : FVec Ideal S8192x2048 .bf16) : FVec Ideal S2048x2048 .bf16 :=
  truncf .bf16 (Host.dotGeneral (F := Ideal) Cert.DwOutRefIdeal.dot_S2048x8192_S8192x2048_S2048x2048_1_0_0_1_n_n none (transpose Cert.DwOutRefIdeal.S2048x8192 [1, 0] X Cert.DwOutRefIdeal.Gen.transposes_S8192x2048_S2048x8192_1_0) Y) Cert.DwOutRefIdeal.Gen.bitsLt_bf16_f32

theorem idx : ∀ t : Fin cfg0.N, win0_0.index t = ![t.val % 8, t.val / 16] ∧ win0_1.index t = ![t.val % 8, t.val / 8 % 2]
    ∧ win0_2.index t = ![t.val / 16, t.val / 8 % 2] :=
  (by decide +kernel : ∀ t : Fin grid0.N, _)

theorem zero (j : S512x1024.Idx) : k0_pay1 (F := Ideal) j = 0 := by pointwise [k0_pay1]

theorem step (acc : FVec Ideal S512x1024 .f32) (x : FVec Ideal S1024x512 .bf16) (y : FVec Ideal S1024x1024 .bf16) (j : S512x1024.Idx) :
    k0_pay2 acc x y j = acc j + ∑ k : Fin 1024, x (ix2 k (j 0)) * y (ix2 k (j 1)) := by pointwise [k0_pay2]

theorem whole (X : FVec Ideal S8192x2048 .bf16) (Y : FVec Ideal S8192x2048 .bf16) (j : S2048x2048.Idx) :
    total X Y j = (∑ k : Fin 8192, X (ix2 k (j 0)) * Y (ix2 k (j 1))) := by pointwise [total]

theorem last (c : Dev nD) (t : Fin cfg0.N) (h : t.val % 8 = 7) (j : S512x1024.Idx) :
    (outsAt0 m c t.val t.isLt).1 j = (outsAt0 m c t.val t.isLt).2 j := by
  rw [outsAt0_C m c t (by omega) h]
  frame_out
  pointwise [k0_pay3]

theorem carried (x : FVec Ideal S512x1024 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 8 (fun _ => 0) _
    (fun t h j => by rw [outsAt0_A m c t h (by omega)]; frame_out; rw [step, zero])
    (fun t h j => by
      by_cases h1 : t.val % 8 = 7
      · rw [outsAt0_C m c t h h1]; frame_out; rw [step, carried]
      · rw [outsAt0_B m c t h h1]; frame_out; rw [step, carried])
    t h1 _, zero_add, whole]
  refine Fin.sum_mul_add_congr fun s k hl => ?_
  blk_point [iblk, V, idx t, idx ⟨_, Pipeline.run_point_lt_of_flush t h1 s⟩]

end Cert.DwOutIdeal.Total

namespace Cert.DwOutProof

theorem frame : Cert.quiescent_DwOut := fun m ρ _ => Cert.DwOut.Gen.frame m ρ

theorem frame_ideal : Cert.quiescent_DwOutIdeal := fun m ρ _ => Cert.DwOutIdeal.Gen.frame m ρ

theorem frame_ref_ideal : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

theorem preserves : Cert.preserves_DwOut_DwOutIdeal := trivial

theorem algebraic : Cert.algebraic_DwOutIdeal_DwOutRefIdeal := by
  intro m ρ m' ρ' _ hagree
  refine ⟨_, Cert.DwOutIdeal.Value.run_blocks (F := Ideal) m ρ, ?_⟩
  refine (θ_run Cert.DwOutRefIdeal.defs _ _).mono (fun _ h c => ?_) (Cert.DwOutRefIdeal.Value.run (F := Ideal) m' ρ')
  obtain ⟨a0, a1⟩ := hagree c
  obtain ⟨h0, kept⟩ := h c
  rw [a0, a1] at h0
  exact ⟨h0.trans (Cert.DwOutIdeal.Total.final m c).symm, kept⟩

end Cert.DwOutProof

namespace Cert.DwInIdeal.Total

open Cert.DwInIdeal Cert.DwInIdeal.Gen

variable (m : (ℓ : Loc nD τ sig) → Buf (Elt Ideal) ℓ)

/-- The reference's term. -/
abbrev total (X : FVec Ideal S8192x2048 .bf16) (Y : FVec Ideal S8192x16384 .bf16) : FVec Ideal S2048x16384 .bf16 :=
  truncf .bf16 (Host.dotGeneral (F := Ideal) Cert.DwInRefIdeal.dot_S2048x8192_S8192x16384_S2048x16384_1_0_0_1_n_n none (transpose Cert.DwInRefIdeal.S2048x8192 [1, 0] X Cert.DwInRefIdeal.Gen.transposes_S8192x2048_S2048x8192_1_0) Y) Cert.DwInRefIdeal.Gen.bitsLt_bf16_f32

theorem idx : ∀ t : Fin cfg0.N, win0_0.index t = ![t.val % 8, t.val / 128] ∧ win0_1.index t = ![t.val % 8, t.val / 8 % 16]
    ∧ win0_2.index t = ![t.val / 128, t.val / 8 % 16] :=
  (by decide +kernel : ∀ t : Fin grid0.N, _)

theorem zero (j : S512x1024.Idx) : k0_pay1 (F := Ideal) j = 0 := by pointwise [k0_pay1]

theorem step (acc : FVec Ideal S512x1024 .f32) (x : FVec Ideal S1024x512 .bf16) (y : FVec Ideal S1024x1024 .bf16) (j : S512x1024.Idx) :
    k0_pay2 acc x y j = acc j + ∑ k : Fin 1024, x (ix2 k (j 0)) * y (ix2 k (j 1)) := by pointwise [k0_pay2]

theorem whole (X : FVec Ideal S8192x2048 .bf16) (Y : FVec Ideal S8192x16384 .bf16) (j : S2048x16384.Idx) :
    total X Y j = (∑ k : Fin 8192, X (ix2 k (j 0)) * Y (ix2 k (j 1))) := by pointwise [total]

theorem last (c : Dev nD) (t : Fin cfg0.N) (h : t.val % 8 = 7) (j : S512x1024.Idx) :
    (outsAt0 m c t.val t.isLt).1 j = (outsAt0 m c t.val t.isLt).2 j := by
  rw [outsAt0_C m c t (by omega) h]
  frame_out
  pointwise [k0_pay3]

theorem carried (x : FVec Ideal S512x1024 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 8 (fun _ => 0) _
    (fun t h j => by rw [outsAt0_A m c t h (by omega)]; frame_out; rw [step, zero])
    (fun t h j => by
      by_cases h1 : t.val % 8 = 7
      · rw [outsAt0_C m c t h h1]; frame_out; rw [step, carried]
      · rw [outsAt0_B m c t h h1]; frame_out; rw [step, carried])
    t h1 _, zero_add, whole]
  refine Fin.sum_mul_add_congr fun s k hl => ?_
  blk_point [iblk, V, idx t, idx ⟨_, Pipeline.run_point_lt_of_flush t h1 s⟩]

end Cert.DwInIdeal.Total

namespace Cert.DwInProof

theorem frame : Cert.quiescent_DwIn := fun m ρ _ => Cert.DwIn.Gen.frame m ρ

theorem frame_ideal : Cert.quiescent_DwInIdeal := fun m ρ _ => Cert.DwInIdeal.Gen.frame m ρ

theorem frame_ref_ideal : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

theorem preserves : Cert.preserves_DwIn_DwInIdeal := trivial

theorem algebraic : Cert.algebraic_DwInIdeal_DwInRefIdeal := by
  intro m ρ m' ρ' _ hagree
  refine ⟨_, Cert.DwInIdeal.Value.run_blocks (F := Ideal) m ρ, ?_⟩
  refine (θ_run Cert.DwInRefIdeal.defs _ _).mono (fun _ h c => ?_) (Cert.DwInRefIdeal.Value.run (F := Ideal) m' ρ')
  obtain ⟨a0, a1⟩ := hagree c
  obtain ⟨h0, kept⟩ := h c
  rw [a0, a1] at h0
  exact ⟨h0.trans (Cert.DwInIdeal.Total.final m c).symm, kept⟩

end Cert.DwInProof

namespace Cert.DwInSmallIdeal.Total

open Cert.DwInSmallIdeal Cert.DwInSmallIdeal.Gen

variable (m : (ℓ : Loc nD τ sig) → Buf (Elt Ideal) ℓ)

/-- The reference's term. -/
abbrev total (X : FVec Ideal S8192x2048 .bf16) (Y : FVec Ideal S8192x128 .bf16) : FVec Ideal S2048x128 .bf16 :=
  truncf .bf16 (Host.dotGeneral (F := Ideal) Cert.DwInSmallRefIdeal.dot_S2048x8192_S8192x128_S2048x128_1_0_0_1_n_n none (transpose Cert.DwInSmallRefIdeal.S2048x8192 [1, 0] X Cert.DwInSmallRefIdeal.Gen.transposes_S8192x2048_S2048x8192_1_0) Y) Cert.DwInSmallRefIdeal.Gen.bitsLt_bf16_f32

theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem zero (j : S512x128.Idx) : k0_pay1 (F := Ideal) j = 0 := by pointwise [k0_pay1]

theorem step (acc : FVec Ideal S512x128 .f32) (x : FVec Ideal S1024x512 .bf16) (y : FVec Ideal S1024x128 .bf16) (j : S512x128.Idx) :
    k0_pay2 acc x y j = acc j + ∑ k : Fin 1024, x (ix2 k (j 0)) * y (ix2 k (j 1)) := by pointwise [k0_pay2]

theorem whole (X : FVec Ideal S8192x2048 .bf16) (Y : FVec Ideal S8192x128 .bf16) (j : S2048x128.Idx) :
    total X Y j = (∑ k : Fin 8192, X (ix2 k (j 0)) * Y (ix2 k (j 1))) := by pointwise [total]

theorem last (c : Dev nD) (t : Fin cfg0.N) (h : t.val % 8 = 7) (j : S512x128.Idx) :
    (outsAt0 m c t.val t.isLt).1 j = (outsAt0 m c t.val t.isLt).2 j := by
  rw [outsAt0_C m c t (by omega) h]
  frame_out
  pointwise [k0_pay3]

theorem carried (x : FVec Ideal S512x128 .f32) : View.read (Elt Ideal) (View.whole cc0_scratch0)
    ((Memref.isWhole_whole (cc0_scratch0 : Ref sig .tc)).unread x) = x :=
  (Memref.isWhole_whole (sig := sig) (κ := .tc) cc0_scratch0).read_unread (Val := Elt Ideal) x

theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, last m c t h1, Pipeline.eq_sum_fin_of_reset_step_apply_of_flush (fun n h => (outsAt0 m c n h).2) 8 (fun _ => 0) _
    (fun t h j => by rw [outsAt0_A m c t h (by omega)]; frame_out; rw [step, zero])
    (fun t h j => by
      by_cases h1 : t.val % 8 = 7
      · rw [outsAt0_C m c t h h1]; frame_out; rw [step, carried]
      · rw [outsAt0_B m c t h h1]; frame_out; rw [step, carried])
    t h1 _, zero_add, whole]
  refine Fin.sum_mul_add_congr fun s k hl => ?_
  blk_point [iblk, V, idx t, idx ⟨_, Pipeline.run_point_lt_of_flush t h1 s⟩]

end Cert.DwInSmallIdeal.Total

namespace Cert.DwInSmallProof

theorem frame : Cert.quiescent_DwInSmall := fun m ρ _ => Cert.DwInSmall.Gen.frame m ρ

theorem frame_ideal : Cert.quiescent_DwInSmallIdeal := fun m ρ _ => Cert.DwInSmallIdeal.Gen.frame m ρ

theorem frame_ref_ideal : Cert.quiescent_DwInSmallRefIdeal := fun m ρ _ =>
  (θ_run Cert.DwInSmallRefIdeal.defs _ _).mono (fun r h => ⟨fun c => (h c).2, sem_eq_zero_of_no_sems (by decide) r.2⟩)
    (Cert.DwInSmallRefIdeal.Value.run (F := Ideal) m ρ)

theorem preserves : Cert.preserves_DwInSmall_DwInSmallIdeal := trivial

theorem algebraic : Cert.algebraic_DwInSmallIdeal_DwInSmallRefIdeal := by
  intro m ρ m' ρ' _ hagree
  refine ⟨_, Cert.DwInSmallIdeal.Value.run_blocks (F := Ideal) m ρ, ?_⟩
  refine (θ_run Cert.DwInSmallRefIdeal.defs _ _).mono (fun _ h c => ?_) (Cert.DwInSmallRefIdeal.Value.run (F := Ideal) m' ρ')
  obtain ⟨a0, a1⟩ := hagree c
  obtain ⟨h0, kept⟩ := h c
  rw [a0, a1] at h0
  exact ⟨h0.trans (Cert.DwInSmallIdeal.Total.final m c).symm, kept⟩

end Cert.DwInSmallProof

end
-- ==== Proof.NormClaim.lean ====
/-
The normalisation by root mean square, its derivative, and the loss with its derivative. Every point works on whole
rows, so a row's mean is that of the reference; the gradient of the weights and the loss are sums over the rows that the
points add up block after block and write back once.
-/
module

public import proofs.«01_k».proof.Defs
public import proofs.«01_k».proof.Proof.Gen.Rms.Frame
public import proofs.«01_k».proof.Proof.Gen.RmsIdeal.Value
public import proofs.«01_k».proof.Proof.Gen.RmsRefIdeal.Run
public import proofs.«01_k».proof.Proof.Gen.RmsBack.Frame
public import proofs.«01_k».proof.Proof.Gen.RmsBackIdeal.Value
public import proofs.«01_k».proof.Proof.Gen.RmsBackRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.RmsRefIdeal.Total

open Cert.RmsRefIdeal Cert.RmsRefIdeal.Gen

/-- The inverse root mean square of every row, as a column. -/
abbrev scale (X : FVec Ideal S8192x2048 .f32) : FVec Ideal S8192x1 .f32 :=
  Host.rsqrt (addf (Host.divf (broadcastInDim S8192x1 ![0] bcast_S8192_S8192x1_0
    (Host.reduceAdd (mulf X X) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32)))

/-- The rows scaled to root mean square one. -/
abbrev unit (X : FVec Ideal S8192x2048 .f32) : FVec Ideal S8192x2048 .f32 :=
  mulf X (broadcastInDim S8192x2048 ![0, 1] bcast_S8192x1_S8192x2048_0_1 (scale X))

/-- The weights as the rows of a matrix. -/
abbrev rows (W : FVec Ideal S1x2048 .f32) : FVec Ideal S8192x2048 .f32 :=
  broadcastInDim S8192x2048 ![0, 1] bcast_S1x2048_S8192x2048_0_1 W

/-- The normalised rows. -/
abbrev total (X : FVec Ideal S8192x2048 .f32) (W : FVec Ideal S1x2048 .f32) : FVec Ideal S8192x2048 .bf16 :=
  truncf .bf16 (mulf (unit X) (rows W)) bitsLt_bf16_f32

end Cert.RmsRefIdeal.Total

namespace Cert.RmsIdeal.Total

open Cert.RmsIdeal Cert.RmsIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

open Cert.RmsRefIdeal.Total in
theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, total, unit, rows, scale]
  blk_point [iblk, V, idx t]

end Cert.RmsIdeal.Total

namespace Cert.RmsProof

theorem frame : Cert.quiescent_Rms := fun m ρ _ => Cert.Rms.Gen.frame m ρ

theorem frame_ideal : Cert.quiescent_RmsIdeal := fun m ρ _ => Cert.RmsIdeal.Gen.frame m ρ

theorem frame_ref_ideal : Cert.quiescent_RmsRefIdeal := fun m ρ _ =>
  (θ_run Cert.RmsRefIdeal.defs _ _).mono (fun r h => ⟨fun c => (h c).2, sem_eq_zero_of_no_sems (by decide) r.2⟩)
    (Cert.RmsRefIdeal.Value.run (F := Ideal) m ρ)

theorem preserves : Cert.preserves_Rms_RmsIdeal := trivial

theorem algebraic : Cert.algebraic_RmsIdeal_RmsRefIdeal := by
  intro m ρ m' ρ' _ hagree
  refine ⟨_, Cert.RmsIdeal.Value.run_blocks (F := Ideal) m ρ, ?_⟩
  refine (θ_run Cert.RmsRefIdeal.defs _ _).mono (fun _ h c => ?_) (Cert.RmsRefIdeal.Value.run (F := Ideal) m' ρ')
  obtain ⟨a0, a1⟩ := hagree c
  obtain ⟨h0, kept⟩ := h c
  rw [a0, a1] at h0
  exact ⟨h0.trans (Cert.RmsIdeal.Total.final m c).symm, kept⟩

end Cert.RmsProof

namespace Cert.RmsBackRefIdeal.Total

open Cert.RmsBackRefIdeal Cert.RmsBackRefIdeal.Gen

/-- The inverse root mean square of every row, as a column. -/
abbrev scale (X : FVec Ideal S8192x2048 .f32) : FVec Ideal S8192x1 .f32 :=
  Host.rsqrt (addf (Host.divf (broadcastInDim S8192x1 ![0] bcast_S8192_S8192x1_0
    (Host.reduceAdd (mulf X X) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32)))

/-- The rows scaled to root mean square one. -/
abbrev unit (X : FVec Ideal S8192x2048 .f32) : FVec Ideal S8192x2048 .f32 :=
  mulf X (broadcastInDim S8192x2048 ![0, 1] bcast_S8192x1_S8192x2048_0_1 (scale X))

/-- The weights as the rows of a matrix. -/
abbrev rows (W : FVec Ideal S1x2048 .f32) : FVec Ideal S8192x2048 .f32 :=
  broadcastInDim S8192x2048 ![0, 1] bcast_S1x2048_S8192x2048_0_1 W

/-- The derivative of the scaled rows along `G`. -/
abbrev back (X G : FVec Ideal S8192x2048 .f32) : FVec Ideal S8192x2048 .f32 :=
  mulf (broadcastInDim S8192x2048 ![0, 1] bcast_S8192x1_S8192x2048_0_1 (scale X)) (subf G (mulf (unit X)
    (broadcastInDim S8192x2048 ![0, 1] bcast_S8192x1_S8192x2048_0_1 (Host.divf (broadcastInDim S8192x1 ![0] bcast_S8192_S8192x1_0
      (Host.reduceAdd (mulf G (unit X)) (constant S_ .f32 0x00000000#32) reducesTo_S8192x2048_S8192_d1 h_S_))
      (broadcastInDim S8192x1 ![] bcast_S_S8192x1 (constant S_ .f32 0x45000000#32))))))

/-- The sum of every column, as a row. -/
abbrev columns (X : FVec Ideal S8192x2048 .f32) : FVec Ideal S1x2048 .f32 :=
  broadcastInDim S1x2048 ![1] bcast_S2048_S1x2048_1
    (Host.reduceAdd X (constant S_ .f32 0x00000000#32) reducesTo_S8192x2048_S2048_d0 h_S_)

theorem columns_apply (X : FVec Ideal S8192x2048 .f32) (j : S1x2048.Idx) : columns X j = ∑ k : Fin 8192, X (ix2 k (j 1)) := by
  pointwise [columns]

/-- The gradient of the rows. -/
abbrev total (D X : FVec Ideal S8192x2048 .f32) (W : FVec Ideal S1x2048 .f32) (R : FVec Ideal S8192x2048 .f32) :
    FVec Ideal S8192x2048 .f32 :=
  addf R (back X (mulf D (rows W)))

end Cert.RmsBackRefIdeal.Total

namespace Cert.RmsBackIdeal.Total

open Cert.RmsBackIdeal Cert.RmsBackIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

theorem at4 (c : Dev nD) (t : Fin cfg0.N) : (outsAt0 m c t.val t.isLt).1
    = k0_pay4 (iblk m c 1 t) (iblk m c 0 t) (iblk m c 2 t) (iblk m c 3 t) := by
  by_cases h : t.val % 32 = 0
  · rw [outsAt0_A m c t h]; frame_out
  · rw [outsAt0_B m c t h]; frame_out

theorem at5 (c : Dev nD) (t : Fin cfg0.N) : (outsAt0 m c t.val t.isLt).2.1
    = k0_pay5 (iblk m c 1 t) (iblk m c 0 t) (iblk m c 2 t) (iblk m c 3 t) := by
  by_cases h : t.val % 32 = 0
  · rw [outsAt0_A m c t h]; frame_out
  · rw [outsAt0_B m c t h]; frame_out

theorem zero (j : S1x2048.Idx) : k0_pay6 (F := Ideal) j = 0 := by pointwise [k0_pay6]

theorem step (d u : FVec Ideal S256x2048 .f32) (acc : FVec Ideal S1x2048 .f32) (j : S1x2048.Idx) :
    k0_pay1 d u (k0_pay7 acc) j = acc j + ∑ k : Fin 256, d (ix2 k (j 1)) * u (ix2 k (j 1)) := by
  pointwise [k0_pay1, k0_pay7]

open Cert.RmsBackRefIdeal.Total in
theorem final0 (c : Dev nD) : (dats m 0 c).arrAt 4 cfg0.N
    = total (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, at4]
  pointwise [k0_pay4, k0_pay3, k0_pay2, total, back, unit, rows, scale]
  blk_point [iblk, V, idx t]

open Cert.RmsBackRefIdeal.Total in
theorem final1 (c : Dev nD) : (dats m 0 c).arrAt 5 cfg0.N
    = (truncf .bf16 (total (m ((c : Thread nD τ).loc main_arg0)) (m ((c : Thread nD τ).loc main_arg1)) (m ((c : Thread nD τ).loc main_arg2)) (m ((c : Thread nD τ).loc main_arg3))) Cert.RmsBackRefIdeal.Gen.bitsLt_bf16_f32 : FVec Ideal S8192x2048 .bf16) := by
  refine (dats m 0 c).arrAt_eq_of_covers 5 _ (by decide +kernel) fun t _ y => ?_
  blk_simp
  rw [after0_5, at5]
  pointwise [k0_pay5, k0_pay4, k0_pay3, k0_pay2, total, back, unit, rows, scale]
  blk_point [iblk, V, idx t]

open Cert.RmsBackRefIdeal.Total in
theorem final2 (c : Dev nD) : (dats m 0 c).arrAt 6 cfg0.N
    = columns (mulf (m ((c : Thread nD τ).loc main_arg0)) (unit (m ((c : Thread nD τ).loc main_arg1)))) := by
  refine (dats m 0 c).arrAt_eq_of_covers 6 _ (by decide +kernel) fun t hf y => ?_
  blk_simp
  have h1 := (flush0_6 t).mp hf
  rw [after0_6, Pipeline.eq_sum_fin_of_reset_step_apply_of_flush (fun n h => (outsAt0 m c n h).2.2) 32 (fun _ => 0) _
    (fun t h j => by rw [outsAt0_A m c t h]; frame_out; rw [step, zero])
    (fun t h j => by rw [outsAt0_B m c t h]; frame_out; rw [step])
    t h1 _, zero_add, columns_apply]
  refine Fin.sum_mul_add_congr fun s k hl => ?_
  pointwise [k0_pay3, k0_pay2, unit, scale]
  blk_point [iblk, V, idx t, idx ⟨_, Pipeline.run_point_lt_of_flush t h1 s⟩]

end Cert.RmsBackIdeal.Total

namespace Cert.RmsBackProof

theorem frame : Cert.quiescent_RmsBack := fun m ρ _ => Cert.RmsBack.Gen.frame m ρ

theorem frame_ideal : Cert.quiescent_RmsBackIdeal := fun m ρ _ => Cert.RmsBackIdeal.Gen.frame m ρ

theorem frame_ref_ideal : Cert.quiescent_RmsBackRefIdeal := fun m ρ _ =>
  (θ_run Cert.RmsBackRefIdeal.defs _ _).mono (fun r h => ⟨fun c => (h c).2.2.2, sem_eq_zero_of_no_sems (by decide) r.2⟩)
    (Cert.RmsBackRefIdeal.Value.run (F := Ideal) m ρ)

theorem preserves : Cert.preserves_RmsBack_RmsBackIdeal := trivial

theorem algebraic : Cert.algebraic_RmsBackIdeal_RmsBackRefIdeal := by
  intro m ρ m' ρ' _ hagree
  refine ⟨_, _, _, Cert.RmsBackIdeal.Value.run_blocks (F := Ideal) m ρ, ?_⟩
  refine (θ_run Cert.RmsBackRefIdeal.defs _ _).mono (fun _ h c => ?_) (Cert.RmsBackRefIdeal.Value.run (F := Ideal) m' ρ')
  obtain ⟨a0, a1, a2, a3⟩ := hagree c
  obtain ⟨h0, h1, h2, kept⟩ := h c
  simp only [a0, a1, a2, a3] at h0 h1 h2
  exact ⟨h0.trans (Cert.RmsBackIdeal.Total.final0 m c).symm, h1.trans (Cert.RmsBackIdeal.Total.final1 m c).symm, h2.trans (Cert.RmsBackIdeal.Total.final2 m c).symm, kept⟩

end Cert.RmsBackProof

end
-- ==== Proof.LossClaim.lean ====
/-
The loss and its derivative. Every point works on whole rows; the loss and the gradient of the weights are sums over
the rows that the points add up block after block and write back once. The loss of a block is halved before it is added,
the reference halves the whole sum, and at the ideal values the two agree.
-/
module

public import proofs.«01_k».proof.Defs
public import proofs.«01_k».proof.Proof.Gen.Loss.Frame
public import proofs.«01_k».proof.Proof.Gen.LossIdeal.Value
public import proofs.«01_k».proof.Proof.Gen.LossRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.LossRefIdeal.Total

open Cert.LossRefIdeal Cert.LossRefIdeal.Gen

/-- The inverse root mean square of every row, as a column. -/
abbrev scale (X : FVec Ideal S8192x2048 .f32) : FVec Ideal S8192x1 .f32 :=
  Host.rsqrt (addf (Host.divf (broadcastInDim S8192x1 ![0] bcast_S8192_S8192x1_0
    (Host.reduceAdd (mulf X X) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32)))

/-- The rows scaled to root mean square one. -/
abbrev unit (X : FVec Ideal S8192x2048 .f32) : FVec Ideal S8192x2048 .f32 :=
  mulf X (broadcastInDim S8192x2048 ![0, 1] bcast_S8192x1_S8192x2048_0_1 (scale X))

/-- The weights as the rows of a matrix. -/
abbrev rows (W : FVec Ideal S1x2048 .f32) : FVec Ideal S8192x2048 .f32 :=
  broadcastInDim S8192x2048 ![0, 1] bcast_S1x2048_S8192x2048_0_1 W

/-- The derivative of the scaled rows along `G`. -/
abbrev back (X G : FVec Ideal S8192x2048 .f32) : FVec Ideal S8192x2048 .f32 :=
  mulf (broadcastInDim S8192x2048 ![0, 1] bcast_S8192x1_S8192x2048_0_1 (scale X)) (subf G (mulf (unit X)
    (broadcastInDim S8192x2048 ![0, 1] bcast_S8192x1_S8192x2048_0_1 (Host.divf (broadcastInDim S8192x1 ![0] bcast_S8192_S8192x1_0
      (Host.reduceAdd (mulf G (unit X)) (constant S_ .f32 0x00000000#32) reducesTo_S8192x2048_S8192_d1 h_S_))
      (broadcastInDim S8192x1 ![] bcast_S_S8192x1 (constant S_ .f32 0x45000000#32))))))

/-- The sum of every column, as a row. -/
abbrev columns (X : FVec Ideal S8192x2048 .f32) : FVec Ideal S1x2048 .f32 :=
  broadcastInDim S1x2048 ![1] bcast_S2048_S1x2048_1
    (Host.reduceAdd X (constant S_ .f32 0x00000000#32) reducesTo_S8192x2048_S2048_d0 h_S_)

theorem columns_apply (X : FVec Ideal S8192x2048 .f32) (j : S1x2048.Idx) : columns X j = ∑ k : Fin 8192, X (ix2 k (j 1)) := by
  pointwise [columns]

/-- The error of the normalised rows. -/
abbrev err (X T : FVec Ideal S8192x2048 .f32) (W : FVec Ideal S1x2048 .f32) : FVec Ideal S8192x2048 .f32 :=
  subf (mulf (unit X) (rows W)) T

/-- The derivative of the loss in the normalised rows. -/
abbrev pull (X T : FVec Ideal S8192x2048 .f32) (W : FVec Ideal S1x2048 .f32) : FVec Ideal S8192x2048 .f32 :=
  mulf (err X T W) (broadcastInDim S8192x2048 ![] bcast_S_S8192x2048 (constant S_ .f32 0x3A000000#32))

/-- The loss, as a row of equal entries. -/
abbrev loss (X T : FVec Ideal S8192x2048 .f32) (W : FVec Ideal S1x2048 .f32) : FVec Ideal S1x128 .f32 :=
  broadcastInDim S1x128 ![] bcast_S_S1x128 (mulf (constant S_ .f32 0x3F000000#32) (Host.reduceAdd (Host.divf
    (Host.reduceAdd (mulf (err X T W) (err X T W)) (constant S_ .f32 0x00000000#32) reducesTo_S8192x2048_S8192_d1 h_S_)
    (broadcastInDim S8192 ![] bcast_S_S8192 (constant S_ .f32 0x45000000#32)))
    (constant S_ .f32 0x00000000#32) reducesTo_S8192_S_d0 h_S_))

theorem loss_apply (X T : FVec Ideal S8192x2048 .f32) (W : FVec Ideal S1x2048 .f32) (j : S1x128.Idx) : loss X T W j
    = Ideal.ofBits .f32 0x3F000000#32 * ∑ k : Fin 8192,
      Ideal.div (∑ l : Fin 2048, err X T W (ix2 k l) * err X T W (ix2 k l)) (Ideal.ofBits .f32 0x45000000#32) := by
  pointwise [loss]

/-- The gradient of the rows. -/
abbrev total (X T : FVec Ideal S8192x2048 .f32) (W : FVec Ideal S1x2048 .f32) : FVec Ideal S8192x2048 .f32 :=
  back X (mulf (pull X T W) (rows W))

end Cert.LossRefIdeal.Total

namespace Cert.LossIdeal.Total

open Cert.LossIdeal Cert.LossIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0] :=
  (by decide +kernel : ∀ t : Fin grid0.N, _)

theorem at4 (c : Dev nD) (t : Fin cfg0.N) : (outsAt0 m c t.val t.isLt).2.1
    = k0_pay11 (iblk m c 0 t) (iblk m c 2 t) (iblk m c 1 t) (iblk m c 2 t) := by
  by_cases h : t.val % 32 = 0
  · rw [outsAt0_A m c t h]; frame_out
  · rw [outsAt0_B m c t h]; frame_out

theorem at5 (c : Dev nD) (t : Fin cfg0.N) : (outsAt0 m c t.val t.isLt).2.2.1
    = k0_pay1 (k0_pay11 (iblk m c 0 t) (iblk m c 2 t) (iblk m c 1 t) (iblk m c 2 t)) := by
  by_cases h : t.val % 32 = 0
  · rw [outsAt0_A m c t h]; frame_out
  · rw [outsAt0_B m c t h]; frame_out

/-- One half times a sum is the sum of the halves. -/
theorem half_mul_sum {n : ℕ} (f : Fin n → Ideal .f32) :
    Ideal.ofBits .f32 0x3F000000#32 * ∑ k, f k = ∑ k, Ideal.ofBits .f32 0x3F000000#32 * f k := by
  have half : Ideal.ofBits .f32 0x3F000000#32 = (((1 : ℝ) / 2 : ℝ) : EReal) := by
    simp [Ideal.ofBits, Ideal.ieee, -EReal.coe_mul]; norm_num
  rw [half]
  refine map_sum (g := (⟨⟨fun x : EReal => (((1 : ℝ) / 2 : ℝ) : EReal) * x, mul_zero _⟩, fun x y =>
    EReal.left_distrib_of_nonneg_of_ne_top (EReal.coe_nonneg.mpr (by norm_num)) (EReal.coe_ne_top _) x y⟩ : EReal →+ EReal)) f _

theorem zero3 (j : S1x128.Idx) : k0_pay3 (F := Ideal) j = 0 := by pointwise [k0_pay3]

theorem zero6 (j : S1x2048.Idx) : k0_pay2 (F := Ideal) j = 0 := by pointwise [k0_pay2]

theorem step3 (x t : FVec Ideal S256x2048 .f32) (w : FVec Ideal S1x2048 .f32) (acc : FVec Ideal S1x128 .f32) (j : S1x128.Idx) :
    k0_pay5 (k0_pay9 x w t) acc j = acc j + ∑ k : Fin 256, Ideal.ofBits .f32 0x3F000000#32 *
      Ideal.div (∑ l : Fin 2048, k0_pay8 (F := Ideal) x w t (ix2 k l) * k0_pay8 (F := Ideal) x w t (ix2 k l)) (Ideal.ofBits .f32 0x45000000#32) := by
  rw [← half_mul_sum]
  pointwise [k0_pay5, k0_pay9]

theorem step6 (u d : FVec Ideal S256x2048 .f32) (acc : FVec Ideal S1x2048 .f32) (j : S1x2048.Idx) :
    k0_pay4 u d acc j = acc j + ∑ k : Fin 256, d (ix2 k (j 1)) * u (ix2 k (j 1)) := by
  pointwise [k0_pay4]

open Cert.LossRefIdeal.Total in
theorem final0 (c : Dev nD) : (dats m 0 c).arrAt 3 cfg0.N
    = loss (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h1 := (flush0_3 t).mp hf
  rw [after0_3, Pipeline.eq_sum_fin_of_reset_step_apply_of_flush (fun n h => (outsAt0 m c n h).1) 32 (fun _ => 0) _
    (fun t h j => by rw [outsAt0_A m c t h]; frame_out; rw [step3, zero3])
    (fun t h j => by rw [outsAt0_B m c t h]; frame_out; rw [step3])
    t h1 _, zero_add, loss_apply, half_mul_sum]
  refine Fin.sum_mul_add_congr fun s k hl => ?_
  pointwise [k0_pay8, k0_pay7, k0_pay6, err, unit, rows, scale]
  blk_point [iblk, V, idx t, idx ⟨_, Pipeline.run_point_lt_of_flush t h1 s⟩]

open Cert.LossRefIdeal.Total in
theorem final1 (c : Dev nD) : (dats m 0 c).arrAt 4 cfg0.N
    = total (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, at4]
  pointwise [k0_pay11, k0_pay10, k0_pay8, k0_pay7, k0_pay6, total, back, pull, err, unit, rows, scale]
  blk_point [iblk, V, idx t]

open Cert.LossRefIdeal.Total in
theorem final2 (c : Dev nD) : (dats m 0 c).arrAt 5 cfg0.N
    = (truncf .bf16 (total (m ((c : Thread nD τ).loc main_arg0)) (m ((c : Thread nD τ).loc main_arg1)) (m ((c : Thread nD τ).loc main_arg2))) Cert.LossRefIdeal.Gen.bitsLt_bf16_f32 : FVec Ideal S8192x2048 .bf16) := by
  refine (dats m 0 c).arrAt_eq_of_covers 5 _ (by decide +kernel) fun t _ y => ?_
  blk_simp
  rw [after0_5, at5]
  pointwise [k0_pay1, k0_pay11, k0_pay10, k0_pay8, k0_pay7, k0_pay6, total, back, pull, err, unit, rows, scale]
  blk_point [iblk, V, idx t]

open Cert.LossRefIdeal.Total in
theorem final3 (c : Dev nD) : (dats m 0 c).arrAt 6 cfg0.N
    = columns (mulf (pull (m ((c : Thread nD τ).loc main_arg0)) (m ((c : Thread nD τ).loc main_arg1)) (m ((c : Thread nD τ).loc main_arg2))) (unit (m ((c : Thread nD τ).loc main_arg0)))) := by
  refine (dats m 0 c).arrAt_eq_of_covers 6 _ (by decide +kernel) fun t hf y => ?_
  blk_simp
  have h1 := (flush0_6 t).mp hf
  rw [after0_6, Pipeline.eq_sum_fin_of_reset_step_apply_of_flush (fun n h => (outsAt0 m c n h).2.2.2) 32 (fun _ => 0) _
    (fun t h j => by rw [outsAt0_A m c t h]; frame_out; rw [step6, zero6])
    (fun t h j => by rw [outsAt0_B m c t h]; frame_out; rw [step6])
    t h1 _, zero_add, columns_apply]
  refine Fin.sum_mul_add_congr fun s k hl => ?_
  pointwise [k0_pay10, k0_pay8, k0_pay7, k0_pay6, pull, err, unit, rows, scale]
  blk_point [iblk, V, idx t, idx ⟨_, Pipeline.run_point_lt_of_flush t h1 s⟩]

end Cert.LossIdeal.Total

namespace Cert.LossProof

theorem frame : Cert.quiescent_Loss := fun m ρ _ => Cert.Loss.Gen.frame m ρ

theorem frame_ideal : Cert.quiescent_LossIdeal := fun m ρ _ => Cert.LossIdeal.Gen.frame m ρ

theorem frame_ref_ideal : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

theorem preserves : Cert.preserves_Loss_LossIdeal := trivial

theorem algebraic : Cert.algebraic_LossIdeal_LossRefIdeal := by
  intro m ρ m' ρ' _ hagree
  refine ⟨_, _, _, _, Cert.LossIdeal.Value.run_blocks (F := Ideal) m ρ, ?_⟩
  refine (θ_run Cert.LossRefIdeal.defs _ _).mono (fun _ h c => ?_) (Cert.LossRefIdeal.Value.run (F := Ideal) m' ρ')
  obtain ⟨a0, a1, a2⟩ := hagree c
  obtain ⟨h0, h1, h2, h3, kept⟩ := h c
  simp only [a0, a1, a2] at h0 h1 h2 h3
  exact ⟨h0.trans (Cert.LossIdeal.Total.final0 m c).symm, h1.trans (Cert.LossIdeal.Total.final1 m c).symm, h2.trans (Cert.LossIdeal.Total.final2 m c).symm, h3.trans (Cert.LossIdeal.Total.final3 m c).symm, kept⟩

end Cert.LossProof

end
-- ==== Proof.GatesClaim.lean ====
/-
The gates of the gated DeltaNet and their derivatives. In a row of 128 columns the first eight hold the write gates and
the next eight the log decays; every entry depends on its own input and on its column's parameters. The gradients of
the parameters are sums over the rows that the points add up block after block and write back once.
-/
module

public import proofs.«01_k».proof.Defs
public import proofs.«01_k».proof.Proof.Gen.Gates.Frame
public import proofs.«01_k».proof.Proof.Gen.GatesIdeal.Value
public import proofs.«01_k».proof.Proof.Gen.GatesRefIdeal.Run
public import proofs.«01_k».proof.Proof.Gen.GatesBack.Frame
public import proofs.«01_k».proof.Proof.Gen.GatesBackIdeal.Value
public import proofs.«01_k».proof.Proof.Gen.GatesBackRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.GatesRefIdeal.Total

open Cert.GatesRefIdeal Cert.GatesRefIdeal.Gen

/-- The sigmoid, entry by entry. -/
abbrev sigm (X : FVec Ideal S8192x128 .f32) : FVec Ideal S8192x128 .f32 :=
  Host.divf (broadcastInDim S8192x128 ![] bcast_S_S8192x128 (constant S_ .f32 0x3F800000#32))
    (addf (broadcastInDim S8192x128 ![] bcast_S_S8192x128 (constant S_ .f32 0x3F800000#32)) (Host.exp (Host.negf X)))

/-- A row as the rows of a matrix. -/
abbrev rows (W : FVec Ideal S1x128 .f32) : FVec Ideal S8192x128 .f32 :=
  broadcastInDim S8192x128 ![0, 1] bcast_S1x128_S8192x128_0_1 W

/-- The softplus, entry by entry. -/
abbrev soft (Z : FVec Ideal S8192x128 .f32) : FVec Ideal S8192x128 .f32 :=
  addf (maximumf Z (broadcastInDim S8192x128 ![] bcast_S_S8192x128 (constant S_ .f32 0x00000000#32)))
    (Host.log1p (Host.exp (Host.negf (Host.absf Z))))

/-- The columns' numbers. -/
abbrev cols : IVec S1x128 32 := broadcastInDim S1x128 ![1] bcast_S128_S1x128_1 (iotaInDim S128 32 0)

/-- A number as a row. -/
abbrev row (n : BitVec 32) : IVec S1x128 32 := broadcastInDim S1x128 ![] bcast_S_S1x128 (constantI S_ 32 n)

/-- The columns' choice, as a choice for every entry. -/
abbrev spread (M : IVec S1x128 1) : IVec S8192x128 1 := broadcastInDim S8192x128 ![0, 1] bcast_S1x128_S8192x128_0_1 M

/-- Zero everywhere. -/
abbrev blank : FVec Ideal S8192x128 .f32 := broadcastInDim S8192x128 ![] bcast_S_S8192x128 (id (constant S_ .f32 0x00000000#32))

theorem blank_apply (i : S8192x128.Idx) : blank i = 0 := Ideal.ofBits_zero_f32

/-- The gates. -/
abbrev total (P : FVec Ideal S8192x128 .f32) (A D : FVec Ideal S1x128 .f32) : FVec Ideal S8192x128 .f32 :=
  select (spread (cmpi .slt cols (row 8#32))) (sigm P) (select (spread (cmpi .slt cols (row 16#32)))
    (mulf (rows (Host.negf (Host.exp A))) (soft (addf P (rows D)))) blank)

end Cert.GatesRefIdeal.Total

namespace Cert.GatesIdeal.Total

open Cert.GatesIdeal Cert.GatesIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

open Cert.GatesRefIdeal.Total in
theorem final (c : Dev nD) : (dats m 0 c).arrAt 3 cfg0.N
    = total (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, total, sigm, rows, soft, cols, row, spread, blank_apply]
  simp only [zero_sub, blank_apply]
  blk_point [iblk, V, idx t]

end Cert.GatesIdeal.Total

namespace Cert.GatesProof

theorem frame : Cert.quiescent_Gates := fun m ρ _ => Cert.Gates.Gen.frame m ρ

theorem frame_ideal : Cert.quiescent_GatesIdeal := fun m ρ _ => Cert.GatesIdeal.Gen.frame m ρ

theorem frame_ref_ideal : Cert.quiescent_GatesRefIdeal := fun m ρ _ =>
  (θ_run Cert.GatesRefIdeal.defs _ _).mono (fun r h => ⟨fun c => (h c).2, sem_eq_zero_of_no_sems (by decide) r.2⟩)
    (Cert.GatesRefIdeal.Value.run (F := Ideal) m ρ)

theorem preserves : Cert.preserves_Gates_GatesIdeal := trivial

theorem algebraic : Cert.algebraic_GatesIdeal_GatesRefIdeal := by
  intro m ρ m' ρ' _ hagree
  refine ⟨_, Cert.GatesIdeal.Value.run_blocks (F := Ideal) m ρ, ?_⟩
  refine (θ_run Cert.GatesRefIdeal.defs _ _).mono (fun _ h c => ?_) (Cert.GatesRefIdeal.Value.run (F := Ideal) m' ρ')
  obtain ⟨a0, a1, a2⟩ := hagree c
  obtain ⟨h0, kept⟩ := h c
  rw [a0, a1, a2] at h0
  exact ⟨h0.trans (Cert.GatesIdeal.Total.final m c).symm, kept⟩

end Cert.GatesProof

namespace Cert.GatesBackRefIdeal.Total

open Cert.GatesBackRefIdeal Cert.GatesBackRefIdeal.Gen

/-- The sigmoid, entry by entry. -/
abbrev sigm (X : FVec Ideal S8192x128 .f32) : FVec Ideal S8192x128 .f32 :=
  Host.divf (broadcastInDim S8192x128 ![] bcast_S_S8192x128 (constant S_ .f32 0x3F800000#32))
    (addf (broadcastInDim S8192x128 ![] bcast_S_S8192x128 (constant S_ .f32 0x3F800000#32)) (Host.exp (Host.negf X)))

/-- A row as the rows of a matrix. -/
abbrev rows (W : FVec Ideal S1x128 .f32) : FVec Ideal S8192x128 .f32 :=
  broadcastInDim S8192x128 ![0, 1] bcast_S1x128_S8192x128_0_1 W

/-- The softplus, entry by entry. -/
abbrev soft (Z : FVec Ideal S8192x128 .f32) : FVec Ideal S8192x128 .f32 :=
  addf (maximumf Z (broadcastInDim S8192x128 ![] bcast_S_S8192x128 (constant S_ .f32 0x00000000#32)))
    (Host.log1p (Host.exp (Host.negf (Host.absf Z))))

/-- The columns' numbers. -/
abbrev cols : IVec S1x128 32 := broadcastInDim S1x128 ![1] bcast_S128_S1x128_1 (iotaInDim S128 32 0)

/-- A number as a row. -/
abbrev row (n : BitVec 32) : IVec S1x128 32 := broadcastInDim S1x128 ![] bcast_S_S1x128 (constantI S_ 32 n)

/-- The columns' choice, as a choice for every entry. -/
abbrev spread (M : IVec S1x128 1) : IVec S8192x128 1 := broadcastInDim S8192x128 ![0, 1] bcast_S1x128_S8192x128_0_1 M

/-- Zero everywhere. -/
abbrev blank : FVec Ideal S8192x128 .f32 := broadcastInDim S8192x128 ![] bcast_S_S8192x128 (id (constant S_ .f32 0x00000000#32))

theorem blank_apply (i : S8192x128.Idx) : blank i = 0 := Ideal.ofBits_zero_f32

/-- The derivative of the log decay by its rate, in the columns that hold log decays. -/
abbrev rate (G : FVec Ideal S8192x128 .f32) (A : FVec Ideal S1x128 .f32) : FVec Ideal S8192x128 .f32 :=
  select (spread (andi (cmpi .sge cols (row 8#32)) (cmpi .slt cols (row 16#32)))) (mulf G (rows (Host.negf (Host.exp A)))) blank

/-- The derivative by the log decay's input. -/
abbrev gated (P G : FVec Ideal S8192x128 .f32) (A D : FVec Ideal S1x128 .f32) : FVec Ideal S8192x128 .f32 :=
  mulf (rate G A) (sigm (addf P (rows D)))

/-- The derivative by the logarithm of the rate, row by row. -/
abbrev summed (P G : FVec Ideal S8192x128 .f32) (A D : FVec Ideal S1x128 .f32) : FVec Ideal S8192x128 .f32 :=
  mulf (rate G A) (soft (addf P (rows D)))

/-- The gradient of the gates' inputs. -/
abbrev total (P G : FVec Ideal S8192x128 .f32) (A D : FVec Ideal S1x128 .f32) : FVec Ideal S8192x128 .bf16 :=
  truncf .bf16 (select (spread (cmpi .slt cols (row 8#32)))
    (mulf (mulf G (sigm P)) (subf (broadcastInDim S8192x128 ![] bcast_S_S8192x128 (constant S_ .f32 0x3F800000#32)) (sigm P)))
    (gated P G A D)) bitsLt_bf16_f32

/-- The sum of every column, as a row. -/
abbrev columns (X : FVec Ideal S8192x128 .f32) : FVec Ideal S1x128 .f32 :=
  broadcastInDim S1x128 ![1] bcast_S128_S1x128_1
    (Host.reduceAdd X (constant S_ .f32 0x00000000#32) reducesTo_S8192x128_S128_d0 h_S_)

theorem columns_apply (X : FVec Ideal S8192x128 .f32) (j : S1x128.Idx) : columns X j = ∑ k : Fin 8192, X (ix2 k (j 1)) := by
  pointwise [columns]

end Cert.GatesBackRefIdeal.Total

namespace Cert.GatesBackIdeal.Total

open Cert.GatesBackIdeal Cert.GatesBackIdeal.Gen

variable (m : (ℓ : Loc nD τ sig) → Buf (Elt Ideal) ℓ)

/-- A factor moves into a choice whose other branch is zero. -/
theorem pick_mul (b : BitVec 1) (x y : EReal) : Scalar.select b x 0 * y = Scalar.select b (x * y) 0 := by
  unfold Scalar.select
  split <;> simp

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0] :=
  (by decide +kernel : ∀ t : Fin grid0.N, _)

theorem at4 (c : Dev nD) (t : Fin cfg0.N) : (outsAt0 m c t.val t.isLt).1
    = k0_pay2 (iblk m c 1 t) (iota .tc S512x128 32 [1] iota_S512x128_d1_w32) k0_pay7 (k0_pay8 (iblk m c 0 t))
        (k0_pay12 (iblk m c 0 t) (iblk m c 1 t) (iblk m c 3 t) (iblk m c 2 t)) := by
  by_cases h : t.val % 16 = 0
  · rw [outsAt0_A m c t h]; frame_out
  · rw [outsAt0_B m c t h]; frame_out

theorem zero5 (j : S1x128.Idx) : k0_pay3 (F := Ideal) j = 0 := by pointwise [k0_pay3]

theorem zero6 (j : S1x128.Idx) : k0_pay4 (F := Ideal) j = 0 := by pointwise [k0_pay4]

/-- What a row adds to the gradient of the logarithm of the rate. -/
abbrev part5 (p g : FVec Ideal S512x128 .f32) (a d : FVec Ideal S1x128 .f32) : FVec Ideal S512x128 .f32 :=
  select k0_pay7 (mulf (mulf g (broadcastTo S512x128 (subf (broadcast S1x128 (Scalar.ofBits .f32 0x00000000#32)) (k0_pay11 a)) broadcasts_S1x128_S512x128))
    (k0_pay10 p d)) (broadcast S512x128 (Scalar.ofBits .f32 0x00000000#32))

theorem step5 (p g : FVec Ideal S512x128 .f32) (a d acc : FVec Ideal S1x128 .f32) (j : S1x128.Idx) :
    k0_pay5 g k0_pay7 (k0_pay10 p d) (k0_pay11 a) acc j = acc j + ∑ k : Fin 512, part5 p g a d (ix2 k (j 1)) := by
  pointwise [k0_pay5]

theorem step6 (x : FVec Ideal S512x128 .f32) (acc : FVec Ideal S1x128 .f32) (j : S1x128.Idx) :
    k0_pay6 k0_pay7 x acc j = acc j + ∑ k : Fin 512, k0_pay1 k0_pay7 x (ix2 k (j 1)) := by
  pointwise [k0_pay6]

open Cert.GatesBackRefIdeal.Total in
theorem final0 (c : Dev nD) : (dats m 0 c).arrAt 4 cfg0.N
    = total (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, at4]
  pointwise [k0_pay1, k0_pay2, k0_pay7, k0_pay8, k0_pay9, k0_pay11, k0_pay12, total, gated, rate, sigm, rows, cols, row, spread, blank_apply]
  simp only [zero_sub, blank_apply, pick_mul]
  blk_point [iblk, V, idx t]

open Cert.GatesBackRefIdeal.Total in
theorem final1 (c : Dev nD) : (dats m 0 c).arrAt 5 cfg0.N
    = columns (summed (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  blk_simp
  have h1 := (flush0_5 t).mp hf
  rw [after0_5, Pipeline.eq_sum_fin_of_reset_step_apply_of_flush (fun n h => (outsAt0 m c n h).2.1) 16 (fun _ => 0) _
    (fun t h j => by rw [outsAt0_A m c t h]; frame_out; rw [step5, zero5])
    (fun t h j => by rw [outsAt0_B m c t h]; frame_out; rw [step5])
    t h1 _, zero_add, columns_apply]
  refine Fin.sum_mul_add_congr fun s k hl => ?_
  pointwise [k0_pay7, k0_pay9, k0_pay10, k0_pay11, part5, summed, rate, sigm, soft, rows, cols, row, spread, blank_apply]
  simp only [zero_sub, blank_apply, pick_mul]
  blk_point [iblk, V, idx t, idx ⟨_, Pipeline.run_point_lt_of_flush t h1 s⟩]

open Cert.GatesBackRefIdeal.Total in
theorem final2 (c : Dev nD) : (dats m 0 c).arrAt 6 cfg0.N
    = columns (gated (m ((c : Thread nD τ).loc main_arg0)) (m ((c : Thread nD τ).loc main_arg1)) (m ((c : Thread nD τ).loc main_arg2)) (m ((c : Thread nD τ).loc main_arg3))) := by
  refine (dats m 0 c).arrAt_eq_of_covers 6 _ (by decide +kernel) fun t hf y => ?_
  blk_simp
  have h1 := (flush0_6 t).mp hf
  rw [after0_6, Pipeline.eq_sum_fin_of_reset_step_apply_of_flush (fun n h => (outsAt0 m c n h).2.2) 16 (fun _ => 0) _
    (fun t h j => by rw [outsAt0_A m c t h]; frame_out; rw [step6, zero6])
    (fun t h j => by rw [outsAt0_B m c t h]; frame_out; rw [step6])
    t h1 _, zero_add, columns_apply]
  refine Fin.sum_mul_add_congr fun s k hl => ?_
  pointwise [k0_pay1, k0_pay7, k0_pay9, k0_pay11, k0_pay12, gated, rate, sigm, soft, rows, cols, row, spread, blank_apply]
  simp only [zero_sub, blank_apply, pick_mul]
  blk_point [iblk, V, idx t, idx ⟨_, Pipeline.run_point_lt_of_flush t h1 s⟩]

end Cert.GatesBackIdeal.Total

namespace Cert.GatesBackProof

theorem frame : Cert.quiescent_GatesBack := fun m ρ _ => Cert.GatesBack.Gen.frame m ρ

theorem frame_ideal : Cert.quiescent_GatesBackIdeal := fun m ρ _ => Cert.GatesBackIdeal.Gen.frame m ρ

theorem frame_ref_ideal : Cert.quiescent_GatesBackRefIdeal := fun m ρ _ =>
  (θ_run Cert.GatesBackRefIdeal.defs _ _).mono (fun r h => ⟨fun c => (h c).2.2.2, sem_eq_zero_of_no_sems (by decide) r.2⟩)
    (Cert.GatesBackRefIdeal.Value.run (F := Ideal) m ρ)

theorem preserves : Cert.preserves_GatesBack_GatesBackIdeal := trivial

theorem algebraic : Cert.algebraic_GatesBackIdeal_GatesBackRefIdeal := by
  intro m ρ m' ρ' _ hagree
  refine ⟨_, _, _, Cert.GatesBackIdeal.Value.run_blocks (F := Ideal) m ρ, ?_⟩
  refine (θ_run Cert.GatesBackRefIdeal.defs _ _).mono (fun _ h c => ?_) (Cert.GatesBackRefIdeal.Value.run (F := Ideal) m' ρ')
  obtain ⟨a0, a1, a2, a3⟩ := hagree c
  obtain ⟨h0, h1, h2, kept⟩ := h c
  simp only [a0, a1, a2, a3] at h0 h1 h2
  exact ⟨h0.trans (Cert.GatesBackIdeal.Total.final0 m c).symm, h1.trans (Cert.GatesBackIdeal.Total.final1 m c).symm, h2.trans (Cert.GatesBackIdeal.Total.final2 m c).symm, kept⟩

end Cert.GatesBackProof

end
-- ==== Proof.MergeClaim.lean ====
/-
The merge of the two mixers' outputs. Each of the eight heads of 256 columns is computed by itself, from the head's slice
of every operand, so the block a point writes consists of eight tiles. One lemma gives a tile, for a head and a block of
rows that are variables, as a part of the result over whole arrays; each tile is an instance of it.
-/
module

public import proofs.«01_k».proof.Defs
public import proofs.«01_k».proof.Proof.Gen.Merge.Frame
public import proofs.«01_k».proof.Proof.Gen.MergeIdeal.Value
public import proofs.«01_k».proof.Proof.Gen.MergeRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.MergeRefIdeal.Total

open Cert.MergeRefIdeal Cert.MergeRefIdeal.Gen

/-- The sigmoid, entry by entry. -/
abbrev sigm (X : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf X)))

/-- A row as the rows of a matrix. -/
abbrev rows (W : FVec Ideal S1x2048 .f32) : FVec Ideal S8192x2048 .f32 :=
  broadcastInDim S8192x2048 ![0, 1] bcast_S1x2048_S8192x2048_0_1 W

/-- The mean over a head's columns. -/
abbrev mean (X : FVec Ideal S8192x8x256 .f32) : FVec Ideal S8192x8x1 .f32 :=
  Host.divf (broadcastInDim S8192x8x1 ![0, 1] bcast_S8192x8_S8192x8x1_0_1
      (Host.reduceAdd X (constant S_ .f32 0x00000000#32) reducesTo_S8192x8x256_S8192x8_d2 h_S_))
    (broadcastInDim S8192x8x1 ![] bcast_S_S8192x8x1 (constant S_ .f32 0x43800000#32))

/-- A head's number, for each of its columns. -/
abbrev spread (X : FVec Ideal S8192x8x1 .f32) : FVec Ideal S8192x8x256 .f32 :=
  broadcastInDim S8192x8x256 ![0, 1, 2] bcast_S8192x8x1_S8192x8x256_0_1_2 X

/-- The inverse root of a head's mean square. -/
abbrev root (X : FVec Ideal S8192x8x256 .f32) : FVec Ideal S8192x8x1 .f32 :=
  Host.rsqrt (addf (mean (mulf X X)) (broadcastInDim S8192x8x1 ![] bcast_S_S8192x8x1 (constant S_ .f32 0x358637BD#32)))

/-- The heads of a matrix. -/
abbrev heads (X : FVec Ideal S8192x2048 .f32) : FVec Ideal S8192x8x256 .f32 := shapeCast _ X shapeCasts_S8192x2048_S8192x8x256

/-- The matrix of the heads. -/
abbrev flat (X : FVec Ideal S8192x8x256 .f32) : FVec Ideal S8192x2048 .f32 := shapeCast _ X shapeCasts_S8192x8x256_S8192x2048

/-- The heads about their means. -/
abbrev about (X : FVec Ideal S8192x2048 .f32) : FVec Ideal S8192x8x256 .f32 := subf (heads X) (spread (mean (heads X)))

/-- The merge, from the operands that the projection's columns hold. -/
abbrev merged (A B Z R G H : FVec Ideal S8192x2048 .f32) (V W : FVec Ideal S1x2048 .f32) : FVec Ideal S8192x2048 .bf16 :=
  truncf .bf16 (addf
    (mulf (sigm G) (mulf (mulf (flat (mulf (heads A) (spread (root (heads A))))) (rows V)) (mulf Z (sigm Z))))
    (mulf (sigm H) (mulf (mulf (flat (mulf (about B) (spread (root (about B))))) (rows W)) (mulf R (sigm R))))) bitsLt_bf16_f32

/-- The columns of the projection that hold the four gates. -/
abbrev colZ (P : FVec Ideal S8192x16384 .f32) := extractStridedSlice S8192x2048 ![0, 4096] P slices_S8192x16384_S8192x2048_0_4096
abbrev colR (P : FVec Ideal S8192x16384 .f32) := extractStridedSlice S8192x2048 ![0, 10240] P slices_S8192x16384_S8192x2048_0_10240
abbrev colG (P : FVec Ideal S8192x16384 .f32) := extractStridedSlice S8192x2048 ![0, 12288] P slices_S8192x16384_S8192x2048_0_12288
abbrev colH (P : FVec Ideal S8192x16384 .f32) := extractStridedSlice S8192x2048 ![0, 14336] P slices_S8192x16384_S8192x2048_0_14336

/-- The merge. -/
abbrev total (A B : FVec Ideal S8192x2048 .f32) (P : FVec Ideal S8192x16384 .f32) (V W : FVec Ideal S1x2048 .f32) :
    FVec Ideal S8192x2048 .bf16 := merged A B (colZ P) (colR P) (colG P) (colH P) V W

end Cert.MergeRefIdeal.Total

namespace Cert.MergeIdeal.Total

open Cert.MergeIdeal Cert.MergeIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 2]
    ∧ win0_3.index t = ![t.val, 5] ∧ win0_4.index t = ![t.val, 6] ∧ win0_5.index t = ![t.val, 7]
    ∧ win0_6.index t = ![0, 0] ∧ win0_7.index t = ![0, 0] ∧ win0_8.index t = ![t.val, 0] :=
  (by decide +kernel : ∀ t : Fin grid0.N, _)

/-- The tile of block of rows `t` and head `h`. -/
def cut (t : Fin 32) (h : Fin 8) (X : FVec Ideal S8192x2048 .f32) : FVec Ideal S256x256 .f32 := fun i =>
  X (ix2 ⟨256 * t.val + (i 0).val, by have h0 : (i 0).val < 256 := (i 0).isLt; omega⟩
    ⟨256 * h.val + (i 1).val, by have h1 : (i 1).val < 256 := (i 1).isLt; omega⟩)

/-- A head's part of a row. -/
def part (h : Fin 8) (X : FVec Ideal S1x2048 .f32) : FVec Ideal S1x256 .f32 := fun i =>
  X (ix2 0 ⟨256 * h.val + (i 1).val, by have h1 : (i 1).val < 256 := (i 1).isLt; omega⟩)

/-- A head's tile of the merge, from its tiles of the operands. -/
abbrev tile (A B Z R G H : FVec Ideal S256x256 .f32) (V W : FVec Ideal S1x256 .f32) : FVec Ideal S256x256 .bf16 :=
  k0_pay5 Z R G H (k0_pay2 A) (k0_pay3 B) (k0_pay4 Z) V W

open Cert.MergeRefIdeal.Total in
theorem core (t : Fin 32) (h : Fin 8) (A B Z R G H : FVec Ideal S8192x2048 .f32) (V W : FVec Ideal S1x2048 .f32)
    (x : S256x256.Idx) (j : S8192x2048.Idx) (hj0 : (j 0 : ℕ) = 256 * t.val + x 0) (hj1 : (j 1 : ℕ) = 256 * h.val + x 1) :
    tile (cut t h A) (cut t h B) (cut t h Z) (cut t h R) (cut t h G) (cut t h H) (part h V) (part h W) x
      = merged A B Z R G H V W j := by
  pointwise [tile, k0_pay2, k0_pay3, k0_pay4, k0_pay5, merged, sigm, rows, mean, spread, root, heads, flat, about, cut, part]
  simp only [zero_sub]
  blk_point []

/-- A tile whose operands are a head's tiles of the whole operands is that head's part of the merge. -/
theorem piece (t : Fin 32) (h : Fin 8) {a b z r g k : FVec Ideal S256x256 .f32} {v w : FVec Ideal S1x256 .f32}
    {A B Z R G H : FVec Ideal S8192x2048 .f32} {V W : FVec Ideal S1x2048 .f32}
    (ha : a = cut t h A) (hb : b = cut t h B) (hz : z = cut t h Z) (hr : r = cut t h R) (hg : g = cut t h G) (hk : k = cut t h H)
    (hv : v = part h V) (hw : w = part h W)
    (x : S256x256.Idx) (j : S8192x2048.Idx) (hj0 : (j 0 : ℕ) = 256 * t.val + x 0) (hj1 : (j 1 : ℕ) = 256 * h.val + x 1) :
    tile a b z r g k v w x = Cert.MergeRefIdeal.Total.merged A B Z R G H V W j := by
  subst ha hb hz hr hg hk hv hw
  exact core t h A B Z R G H V W x j hj0 hj1

open Cert.MergeRefIdeal.Total in
theorem final (c : Dev nD) : (dats m 0 c).arrAt 8 cfg0.N
    = total (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ (by decide +kernel) fun t _ y => ?_
  blk_simp
  rw [after0_8]
  have ht : t.val < 32 := lt_of_lt_of_eq t.isLt N_0
  canon_tiles x h
  case piece0 =>
    refine Eq.trans (b := tile (View.ld (iblk m c 0 t) r0_14) (View.ld (iblk m c 1 t) r0_14) (View.ld (iblk m c 2 t) r0_14)
      (View.ld (iblk m c 3 t) r0_14) (View.ld (iblk m c 4 t) r0_14) (View.ld (iblk m c 5 t) r0_14) (View.ld (iblk m c 6 t) r0_15)
      (View.ld (iblk m c 7 t) r0_15) x) rfl (piece ⟨t.val, ht⟩ 7 ?_ ?_ ?_ ?_ ?_ ?_ ?_ ?_ x _ ?_ ?_)
    all_goals first | (funext i; pointwise [cut, part]; blk_point [iblk, V, idx t]) | (blk_simp [idx t] <;> (try dsimp only) <;> omega)
  case piece1 =>
    refine Eq.trans (b := tile (View.ld (iblk m c 0 t) r0_12) (View.ld (iblk m c 1 t) r0_12) (View.ld (iblk m c 2 t) r0_12)
      (View.ld (iblk m c 3 t) r0_12) (View.ld (iblk m c 4 t) r0_12) (View.ld (iblk m c 5 t) r0_12) (View.ld (iblk m c 6 t) r0_13)
      (View.ld (iblk m c 7 t) r0_13) x) rfl (piece ⟨t.val, ht⟩ 6 ?_ ?_ ?_ ?_ ?_ ?_ ?_ ?_ x _ ?_ ?_)
    all_goals first | (funext i; pointwise [cut, part]; blk_point [iblk, V, idx t]) | (blk_simp [idx t] <;> (try dsimp only) <;> omega)
  case piece2 =>
    refine Eq.trans (b := tile (View.ld (iblk m c 0 t) r0_10) (View.ld (iblk m c 1 t) r0_10) (View.ld (iblk m c 2 t) r0_10)
      (View.ld (iblk m c 3 t) r0_10) (View.ld (iblk m c 4 t) r0_10) (View.ld (iblk m c 5 t) r0_10) (View.ld (iblk m c 6 t) r0_11)
      (View.ld (iblk m c 7 t) r0_11) x) rfl (piece ⟨t.val, ht⟩ 5 ?_ ?_ ?_ ?_ ?_ ?_ ?_ ?_ x _ ?_ ?_)
    all_goals first | (funext i; pointwise [cut, part]; blk_point [iblk, V, idx t]) | (blk_simp [idx t] <;> (try dsimp only) <;> omega)
  case piece3 =>
    refine Eq.trans (b := tile (View.ld (iblk m c 0 t) r0_8) (View.ld (iblk m c 1 t) r0_8) (View.ld (iblk m c 2 t) r0_8)
      (View.ld (iblk m c 3 t) r0_8) (View.ld (iblk m c 4 t) r0_8) (View.ld (iblk m c 5 t) r0_8) (View.ld (iblk m c 6 t) r0_9)
      (View.ld (iblk m c 7 t) r0_9) x) rfl (piece ⟨t.val, ht⟩ 4 ?_ ?_ ?_ ?_ ?_ ?_ ?_ ?_ x _ ?_ ?_)
    all_goals first | (funext i; pointwise [cut, part]; blk_point [iblk, V, idx t]) | (blk_simp [idx t] <;> (try dsimp only) <;> omega)
  case piece4 =>
    refine Eq.trans (b := tile (View.ld (iblk m c 0 t) r0_6) (View.ld (iblk m c 1 t) r0_6) (View.ld (iblk m c 2 t) r0_6)
      (View.ld (iblk m c 3 t) r0_6) (View.ld (iblk m c 4 t) r0_6) (View.ld (iblk m c 5 t) r0_6) (View.ld (iblk m c 6 t) r0_7)
      (View.ld (iblk m c 7 t) r0_7) x) rfl (piece ⟨t.val, ht⟩ 3 ?_ ?_ ?_ ?_ ?_ ?_ ?_ ?_ x _ ?_ ?_)
    all_goals first | (funext i; pointwise [cut, part]; blk_point [iblk, V, idx t]) | (blk_simp [idx t] <;> (try dsimp only) <;> omega)
  case piece5 =>
    refine Eq.trans (b := tile (View.ld (iblk m c 0 t) r0_4) (View.ld (iblk m c 1 t) r0_4) (View.ld (iblk m c 2 t) r0_4)
      (View.ld (iblk m c 3 t) r0_4) (View.ld (iblk m c 4 t) r0_4) (View.ld (iblk m c 5 t) r0_4) (View.ld (iblk m c 6 t) r0_5)
      (View.ld (iblk m c 7 t) r0_5) x) rfl (piece ⟨t.val, ht⟩ 2 ?_ ?_ ?_ ?_ ?_ ?_ ?_ ?_ x _ ?_ ?_)
    all_goals first | (funext i; pointwise [cut, part]; blk_point [iblk, V, idx t]) | (blk_simp [idx t] <;> (try dsimp only) <;> omega)
  case piece6 =>
    refine Eq.trans (b := tile (View.ld (iblk m c 0 t) r0_2) (View.ld (iblk m c 1 t) r0_2) (View.ld (iblk m c 2 t) r0_2)
      (View.ld (iblk m c 3 t) r0_2) (View.ld (iblk m c 4 t) r0_2) (View.ld (iblk m c 5 t) r0_2) (View.ld (iblk m c 6 t) r0_3)
      (View.ld (iblk m c 7 t) r0_3) x) rfl (piece ⟨t.val, ht⟩ 1 ?_ ?_ ?_ ?_ ?_ ?_ ?_ ?_ x _ ?_ ?_)
    all_goals first | (funext i; pointwise [cut, part]; blk_point [iblk, V, idx t]) | (blk_simp [idx t] <;> (try dsimp only) <;> omega)
  case piece7 =>
    refine Eq.trans (b := tile (View.ld (iblk m c 0 t) r0_0) (View.ld (iblk m c 1 t) r0_0) (View.ld (iblk m c 2 t) r0_0)
      (View.ld (iblk m c 3 t) r0_0) (View.ld (iblk m c 4 t) r0_0) (View.ld (iblk m c 5 t) r0_0) (View.ld (iblk m c 6 t) r0_1)
      (View.ld (iblk m c 7 t) r0_1) x) rfl (piece ⟨t.val, ht⟩ 0 ?_ ?_ ?_ ?_ ?_ ?_ ?_ ?_ x _ ?_ ?_)
    all_goals first | (funext i; pointwise [cut, part]; blk_point [iblk, V, idx t]) | (blk_simp [idx t] <;> (try dsimp only) <;> omega)

end Cert.MergeIdeal.Total

namespace Cert.MergeProof

theorem frame : Cert.quiescent_Merge := fun m ρ _ => Cert.Merge.Gen.frame m ρ

theorem frame_ideal : Cert.quiescent_MergeIdeal := fun m ρ _ => Cert.MergeIdeal.Gen.frame m ρ

theorem frame_ref_ideal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem preserves : Cert.preserves_Merge_MergeIdeal := trivial

theorem algebraic : Cert.algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ?_) (Cert.MergeRefIdeal.Value.run (F := Ideal) m' ρ')
  obtain ⟨a0, a1, a2, a3, a4⟩ := hagree c
  obtain ⟨h0, kept⟩ := h c
  unfold Cert.MergeRefIdeal.Value.res_main_v69 at h0
  rw [a0, a1, a2, a3, a4] at h0
  exact ⟨h0.trans (Cert.MergeIdeal.Total.final m c).symm, kept⟩

end Cert.MergeProof

end
-- ==== Proof.MergeBackClaim.lean ====
/-
The derivative of the merge. As for the merge, each of the eight heads is computed by itself and a tile is given by one
lemma over a variable head and block of rows; the gradients of the two weight rows are sums over all rows, accumulated
over the grid's points head by head.
-/
module

public import proofs.«01_k».proof.Defs
public import proofs.«01_k».proof.Proof.Gen.MergeBack.Frame
public import proofs.«01_k».proof.Proof.Gen.MergeBackIdeal.Value
public import proofs.«01_k».proof.Proof.Gen.MergeBackRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.MergeBackRefIdeal.Total

open Cert.MergeBackRefIdeal Cert.MergeBackRefIdeal.Gen

/-- The sigmoid, entry by entry. -/
abbrev sigm (X : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf X)))

/-- A row as the rows of a matrix. -/
abbrev rows (W : FVec Ideal S1x2048 .f32) : FVec Ideal S8192x2048 .f32 :=
  broadcastInDim S8192x2048 ![0, 1] bcast_S1x2048_S8192x2048_0_1 W

/-- The mean over a head's columns. -/
abbrev mean (X : FVec Ideal S8192x8x256 .f32) : FVec Ideal S8192x8x1 .f32 :=
  Host.divf (broadcastInDim S8192x8x1 ![0, 1] bcast_S8192x8_S8192x8x1_0_1
      (Host.reduceAdd X (constant S_ .f32 0x00000000#32) reducesTo_S8192x8x256_S8192x8_d2 h_S_))
    (broadcastInDim S8192x8x1 ![] bcast_S_S8192x8x1 (constant S_ .f32 0x43800000#32))

/-- A head's number, for each of its columns. -/
abbrev spread (X : FVec Ideal S8192x8x1 .f32) : FVec Ideal S8192x8x256 .f32 :=
  broadcastInDim S8192x8x256 ![0, 1, 2] bcast_S8192x8x1_S8192x8x256_0_1_2 X

/-- The inverse root of a head's mean square. -/
abbrev root (X : FVec Ideal S8192x8x256 .f32) : FVec Ideal S8192x8x1 .f32 :=
  Host.rsqrt (addf (mean (mulf X X)) (broadcastInDim S8192x8x1 ![] bcast_S_S8192x8x1 (constant S_ .f32 0x358637BD#32)))

/-- The heads of a matrix. -/
abbrev heads (X : FVec Ideal S8192x2048 .f32) : FVec Ideal S8192x8x256 .f32 := shapeCast _ X shapeCasts_S8192x2048_S8192x8x256

/-- The matrix of the heads. -/
abbrev flat (X : FVec Ideal S8192x8x256 .f32) : FVec Ideal S8192x2048 .f32 := shapeCast _ X shapeCasts_S8192x8x256_S8192x2048

/-- The heads about their means. -/
abbrev about (X : FVec Ideal S8192x2048 .f32) : FVec Ideal S8192x8x256 .f32 := subf (heads X) (spread (mean (heads X)))

/-- A matrix of ones. -/
abbrev ones : FVec Ideal S8192x2048 .f32 := broadcastInDim S8192x2048 ![] bcast_S_S8192x2048 (constant S_ .f32 0x3F800000#32)

/-- The heads, normalised. -/
abbrev unit (X : FVec Ideal S8192x8x256 .f32) : FVec Ideal S8192x8x256 .f32 := mulf X (spread (root X))

/-- The gradient of a mixer's scaled output, from the merge's gradient, the mixer's activation and its gate. -/
abbrev scaled (D Z G : FVec Ideal S8192x2048 .f32) : FVec Ideal S8192x2048 .f32 := mulf (mulf D (sigm G)) (mulf Z (sigm Z))

/-- The gradient of the first mixer's output. -/
abbrev first (D A Z G : FVec Ideal S8192x2048 .f32) (V : FVec Ideal S1x2048 .f32) : FVec Ideal S8192x2048 .f32 :=
  flat (mulf (spread (root (heads A))) (subf (heads (mulf (scaled D Z G) (rows V)))
    (mulf (unit (heads A)) (spread (mean (mulf (heads (mulf (scaled D Z G) (rows V))) (unit (heads A))))))))

/-- The gradient of the second mixer's output. -/
abbrev second (D B R H : FVec Ideal S8192x2048 .f32) (W : FVec Ideal S1x2048 .f32) : FVec Ideal S8192x2048 .f32 :=
  flat (mulf (spread (root (about B))) (subf
    (subf (heads (mulf (scaled D R H) (rows W))) (spread (mean (heads (mulf (scaled D R H) (rows W))))))
    (mulf (unit (about B)) (spread (mean (mulf (heads (mulf (scaled D R H) (rows W))) (unit (about B))))))))

/-- The gradient of an activation, from the mixer's normalised output. -/
abbrev active (D X Z G : FVec Ideal S8192x2048 .f32) (V : FVec Ideal S1x2048 .f32) : FVec Ideal S8192x2048 .bf16 :=
  truncf .bf16 (mulf (mulf (mulf (mulf D (sigm G)) (mulf X (rows V))) (sigm Z)) (addf ones (mulf Z (subf ones (sigm Z)))))
    bitsLt_bf16_f32

/-- The gradient of a gate, from the mixer's normalised output. -/
abbrev gate (D X Z G : FVec Ideal S8192x2048 .f32) (V : FVec Ideal S1x2048 .f32) : FVec Ideal S8192x2048 .bf16 :=
  truncf .bf16 (mulf (mulf (mulf D (mulf (mulf X (rows V)) (mulf Z (sigm Z)))) (sigm G)) (subf ones (sigm G))) bitsLt_bf16_f32

/-- The sum over all rows. -/
abbrev columns (X : FVec Ideal S8192x2048 .f32) : FVec Ideal S1x2048 .f32 :=
  broadcastInDim S1x2048 ![1] bcast_S2048_S1x2048_1
    (Host.reduceAdd X (constant S_ .f32 0x00000000#32) reducesTo_S8192x2048_S2048_d0 h_S_)

theorem columns_apply (X : FVec Ideal S8192x2048 .f32) (j : S1x2048.Idx) : columns X j = ∑ k : Fin 8192, X (ix2 k (j 1)) := by
  pointwise [columns]

/-- The columns of the projection that hold the four gates. -/
abbrev colZ (P : FVec Ideal S8192x16384 .f32) := extractStridedSlice S8192x2048 ![0, 4096] P slices_S8192x16384_S8192x2048_0_4096
abbrev colR (P : FVec Ideal S8192x16384 .f32) := extractStridedSlice S8192x2048 ![0, 10240] P slices_S8192x16384_S8192x2048_0_10240
abbrev colG (P : FVec Ideal S8192x16384 .f32) := extractStridedSlice S8192x2048 ![0, 12288] P slices_S8192x16384_S8192x2048_0_12288
abbrev colH (P : FVec Ideal S8192x16384 .f32) := extractStridedSlice S8192x2048 ![0, 14336] P slices_S8192x16384_S8192x2048_0_14336

end Cert.MergeBackRefIdeal.Total

namespace Cert.MergeBackIdeal.Total

open Cert.MergeBackIdeal Cert.MergeBackIdeal.Gen
open Cert.MergeBackRefIdeal.Total (sigm rows mean spread root heads flat about ones unit scaled first second active gate columns
  columns_apply colZ colR colG colH)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 5] ∧ win0_5.index t = ![t.val, 6] ∧ win0_6.index t = ![t.val, 7]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![0, 0] ∧ win0_16.index t = ![0, 0] :=
  (by decide +kernel : ∀ t : Fin grid0.N, _)

/-- The tile of block of rows `t` and head `h`. -/
def cut (t : Fin 32) (h : Fin 8) (X : FVec Ideal S8192x2048 .f32) : FVec Ideal S256x256 .f32 := fun i =>
  X (ix2 ⟨256 * t.val + (i 0).val, by have h0 : (i 0).val < 256 := (i 0).isLt; omega⟩
    ⟨256 * h.val + (i 1).val, by have h1 : (i 1).val < 256 := (i 1).isLt; omega⟩)

/-- A head's part of a row. -/
def part (h : Fin 8) (X : FVec Ideal S1x2048 .f32) : FVec Ideal S1x256 .f32 := fun i =>
  X (ix2 0 ⟨256 * h.val + (i 1).val, by have h1 : (i 1).val < 256 := (i 1).isLt; omega⟩)

/-- A head's columns of a block, and of a row. -/
abbrev sq (k : Fin 8) : Rect S256x2048 := Rect.unit ![0, 256 * k.val] ![256, 256] (by revert k; decide)
abbrev ln (k : Fin 8) : Rect S1x2048 := Rect.unit ![0, 256 * k.val] ![1, 256] (by revert k; decide)

theorem place (k : Fin 8) (x : S1x256.Idx) : ((ln k).emb x 1 : ℕ) = 256 * k.val + x 1 := by
  show 256 * k.val + 1 * (x 1).val = _
  omega

theorem covered (j : S1x2048.Idx) : ∃ k : Fin 8, j ∈ (ln k).set := by
  have h0 : (j 0).val < 1 := (j 0).isLt
  have h1 : (j 1).val < 2048 := (j 1).isLt
  refine ⟨⟨(j 1).val / 256, by omega⟩, Rect.mem_set_unit.mpr fun a => ?_⟩
  match a with
  | ⟨0, _⟩ => exact ⟨Nat.zero_le _, h0⟩
  | ⟨1, _⟩ => exact ⟨Nat.mul_div_le _ _, Nat.lt_mul_div_succ _ (by decide)⟩

/-- Eight heads' stores over a fill leave what the stores say. -/
theorem over (G : FVec Ideal S1x2048 .f32) {w0 w1 w2 w3 w4 w5 w6 w7 : FVec Ideal S1x256 .f32} {f : View.Piece (Elt Ideal) S1x2048 .f32}
    (h7 : ∀ x, w7 x = G ((ln 7).emb x))
    (h6 : ∀ x, w6 x = G ((ln 6).emb x))
    (h5 : ∀ x, w5 x = G ((ln 5).emb x))
    (h4 : ∀ x, w4 x = G ((ln 4).emb x))
    (h3 : ∀ x, w3 x = G ((ln 3).emb x))
    (h2 : ∀ x, w2 x = G ((ln 2).emb x))
    (h1 : ∀ x, w1 x = G ((ln 1).emb x))
    (h0 : ∀ x, w0 x = G ((ln 0).emb x))
    (j : S1x2048.Idx) :
    View.canon (Val := Elt Ideal) [⟨ln 7, w7⟩, ⟨ln 6, w6⟩, ⟨ln 5, w5⟩, ⟨ln 4, w4⟩, ⟨ln 3, w3⟩, ⟨ln 2, w2⟩, ⟨ln 1, w1⟩, ⟨ln 0, w0⟩, f] j = G j := by
  refine View.canon_append_of_piecesOf (Val := Elt Ideal) (e := .f32) G [f] [⟨ln 7, w7⟩, ⟨ln 6, w6⟩, ⟨ln 5, w5⟩, ⟨ln 4, w4⟩,
    ⟨ln 3, w3⟩, ⟨ln 2, w2⟩, ⟨ln 1, w1⟩, ⟨ln 0, w0⟩] ⟨h7, h6, h5, h4, h3, h2, h1, h0, trivial⟩ j ?_
  have listed : ∀ k : Fin 8, (⟨ln k, (![w0, w1, w2, w3, w4, w5, w6, w7] : Fin 8 → FVec Ideal S1x256 .f32) k⟩ : View.Piece (Elt Ideal) S1x2048 .f32)
      ∈ ([⟨ln 7, w7⟩, ⟨ln 6, w6⟩, ⟨ln 5, w5⟩, ⟨ln 4, w4⟩, ⟨ln 3, w3⟩, ⟨ln 2, w2⟩, ⟨ln 1, w1⟩, ⟨ln 0, w0⟩]
        : List (View.Piece (Elt Ideal) S1x2048 .f32)) := fun k => match k with
    | 0 => .tail _ (.tail _ (.tail _ (.tail _ (.tail _ (.tail _ (.tail _ (.head _)))))))
    | 1 => .tail _ (.tail _ (.tail _ (.tail _ (.tail _ (.tail _ (.head _))))))
    | 2 => .tail _ (.tail _ (.tail _ (.tail _ (.tail _ (.head _)))))
    | 3 => .tail _ (.tail _ (.tail _ (.tail _ (.head _))))
    | 4 => .tail _ (.tail _ (.tail _ (.head _)))
    | 5 => .tail _ (.tail _ (.head _))
    | 6 => .tail _ (.head _)
    | 7 => .head _
  obtain ⟨k, hk⟩ := covered j
  exact ⟨_, listed k, hk⟩

/-- The block of rows of a point. -/
abbrev row (t : Fin cfg0.N) : Fin 32 := ⟨t.val, lt_of_lt_of_eq t.isLt N_0⟩

theorem cutD (c : Dev nD) (t : Fin cfg0.N) (k : Fin 8) : (View.ld (iblk m c 0 t) (sq k) : FVec Ideal S256x256 .f32) = cut (row t) k (m ((c : Thread nD τ).loc main_arg0)) := by
  funext i; pointwise [cut]; blk_point [iblk, V, idx t]

theorem cutA (c : Dev nD) (t : Fin cfg0.N) (k : Fin 8) : (View.ld (iblk m c 1 t) (sq k) : FVec Ideal S256x256 .f32) = cut (row t) k (m ((c : Thread nD τ).loc main_arg1)) := by
  funext i; pointwise [cut]; blk_point [iblk, V, idx t]

theorem cutB (c : Dev nD) (t : Fin cfg0.N) (k : Fin 8) : (View.ld (iblk m c 2 t) (sq k) : FVec Ideal S256x256 .f32) = cut (row t) k (m ((c : Thread nD τ).loc main_arg2)) := by
  funext i; pointwise [cut]; blk_point [iblk, V, idx t]

theorem cutZ (c : Dev nD) (t : Fin cfg0.N) (k : Fin 8) : (View.ld (iblk m c 3 t) (sq k) : FVec Ideal S256x256 .f32) = cut (row t) k (colZ (m ((c : Thread nD τ).loc main_arg3))) := by
  funext i; pointwise [cut]; blk_point [iblk, V, idx t]

theorem cutR (c : Dev nD) (t : Fin cfg0.N) (k : Fin 8) : (View.ld (iblk m c 4 t) (sq k) : FVec Ideal S256x256 .f32) = cut (row t) k (colR (m ((c : Thread nD τ).loc main_arg3))) := by
  funext i; pointwise [cut]; blk_point [iblk, V, idx t]

theorem cutG (c : Dev nD) (t : Fin cfg0.N) (k : Fin 8) : (View.ld (iblk m c 5 t) (sq k) : FVec Ideal S256x256 .f32) = cut (row t) k (colG (m ((c : Thread nD τ).loc main_arg3))) := by
  funext i; pointwise [cut]; blk_point [iblk, V, idx t]

theorem cutH (c : Dev nD) (t : Fin cfg0.N) (k : Fin 8) : (View.ld (iblk m c 6 t) (sq k) : FVec Ideal S256x256 .f32) = cut (row t) k (colH (m ((c : Thread nD τ).loc main_arg3))) := by
  funext i; pointwise [cut]; blk_point [iblk, V, idx t]

theorem partV (c : Dev nD) (t : Fin cfg0.N) (k : Fin 8) : (View.ld (iblk m c 7 t) (ln k) : FVec Ideal S1x256 .f32) = part k (m ((c : Thread nD τ).loc main_arg4)) := by
  funext i; pointwise [part]; blk_point [iblk, V, idx t]

theorem partW (c : Dev nD) (t : Fin cfg0.N) (k : Fin 8) : (View.ld (iblk m c 8 t) (ln k) : FVec Ideal S1x256 .f32) = part k (m ((c : Thread nD τ).loc main_arg5)) := by
  funext i; pointwise [part]; blk_point [iblk, V, idx t]

abbrev tile9 (D A Z G : FVec Ideal S256x256 .f32) (V : FVec Ideal S1x256 .f32) : FVec Ideal S256x256 .f32 :=
  k0_pay33 V (k0_pay4 A) (k0_pay5 A) (k0_pay27 D (k0_pay12 G) (k0_pay16 Z))

theorem core9 (t : Fin 32) (h : Fin 8) (D A Z G : FVec Ideal S8192x2048 .f32) (V : FVec Ideal S1x2048 .f32)
    (x : S256x256.Idx) (j : S8192x2048.Idx) (hj0 : (j 0 : ℕ) = 256 * t.val + x 0) (hj1 : (j 1 : ℕ) = 256 * h.val + x 1) :
    tile9 (cut t h D) (cut t h A) (cut t h Z) (cut t h G) (part h V) x = first D A Z G V j := by
  pointwise [tile9, k0_pay4, k0_pay5, k0_pay10, k0_pay12, k0_pay16, k0_pay23, k0_pay27, k0_pay33, first, second, active, gate, scaled, unit, ones, sigm, rows, mean, spread, root, heads, flat, about, cut, part]
  simp only [zero_sub]
  blk_point []

theorem at9 (c : Dev nD) (t : Fin cfg0.N) (k : Fin 8) (x : S256x256.Idx) (j : S8192x2048.Idx)
    (hj0 : (j 0 : ℕ) = 256 * t.val + x 0) (hj1 : (j 1 : ℕ) = 256 * k.val + x 1) :
    tile9 (View.ld (iblk m c 0 t) (sq k)) (View.ld (iblk m c 1 t) (sq k)) (View.ld (iblk m c 3 t) (sq k)) (View.ld (iblk m c 5 t) (sq k)) (View.ld (iblk m c 7 t) (ln k)) x
      = (first (m ((c : Thread nD τ).loc main_arg0)) (m ((c : Thread nD τ).loc main_arg1)) (colZ (m ((c : Thread nD τ).loc main_arg3))) (colG (m ((c : Thread nD τ).loc main_arg3))) (m ((c : Thread nD τ).loc main_arg4))) j := by
  rw [cutD, cutA, cutZ, cutG, partV]
  exact core9 (row t) k _ _ _ _ _ x j hj0 hj1

set_option maxHeartbeats 1000000 in
theorem final0 (c : Dev nD) : (dats m 0 c).arrAt 9 cfg0.N
    = first (m ((c : Thread nD τ).loc main_arg0)) (m ((c : Thread nD τ).loc main_arg1)) (colZ (m ((c : Thread nD τ).loc main_arg3))) (colG (m ((c : Thread nD τ).loc main_arg3))) (m ((c : Thread nD τ).loc main_arg4)) := by
  refine (dats m 0 c).arrAt_eq_of_covers 9 _ (by decide +kernel) fun t _ y => ?_
  blk_simp
  rw [after0_9]
  by_cases h : t.val % 32 = 0
  on_goal 1 => rw [outsAt0_A m c t h]
  on_goal 2 => rw [outsAt0_B m c t h]
  all_goals
    frame_out
    canon_tiles x hx
    case piece0 => exact at9 m c t 7 x _ (by blk_simp [idx t] <;> (try dsimp only) <;> omega) (by blk_simp [idx t] <;> (try dsimp only) <;> omega)
    case piece1 => exact at9 m c t 6 x _ (by blk_simp [idx t] <;> (try dsimp only) <;> omega) (by blk_simp [idx t] <;> (try dsimp only) <;> omega)
    case piece2 => exact at9 m c t 5 x _ (by blk_simp [idx t] <;> (try dsimp only) <;> omega) (by blk_simp [idx t] <;> (try dsimp only) <;> omega)
    case piece3 => exact at9 m c t 4 x _ (by blk_simp [idx t] <;> (try dsimp only) <;> omega) (by blk_simp [idx t] <;> (try dsimp only) <;> omega)
    case piece4 => exact at9 m c t 3 x _ (by blk_simp [idx t] <;> (try dsimp only) <;> omega) (by blk_simp [idx t] <;> (try dsimp only) <;> omega)
    case piece5 => exact at9 m c t 2 x _ (by blk_simp [idx t] <;> (try dsimp only) <;> omega) (by blk_simp [idx t] <;> (try dsimp only) <;> omega)
    case piece6 => exact at9 m c t 1 x _ (by blk_simp [idx t] <;> (try dsimp only) <;> omega) (by blk_simp [idx t] <;> (try dsimp only) <;> omega)
    case piece7 => exact at9 m c t 0 x _ (by blk_simp [idx t] <;> (try dsimp only) <;> omega) (by blk_simp [idx t] <;> (try dsimp only) <;> omega)

abbrev tile10 (D B R H : FVec Ideal S256x256 .f32) (W : FVec Ideal S1x256 .f32) : FVec Ideal S256x256 .f32 :=
  k0_pay34 W (k0_pay8 (k0_pay7 B) (FloatOps.ofBits .f32 0x43800000#32)) (k0_pay9 (k0_pay6 B) (k0_pay7 B) (FloatOps.ofBits .f32 0x43800000#32)) (k0_pay28 D (k0_pay13 H) (k0_pay17 R))

theorem core10 (t : Fin 32) (h : Fin 8) (D B R H : FVec Ideal S8192x2048 .f32) (W : FVec Ideal S1x2048 .f32)
    (x : S256x256.Idx) (j : S8192x2048.Idx) (hj0 : (j 0 : ℕ) = 256 * t.val + x 0) (hj1 : (j 1 : ℕ) = 256 * h.val + x 1) :
    tile10 (cut t h D) (cut t h B) (cut t h R) (cut t h H) (part h W) x = second D B R H W j := by
  pointwise [tile10, k0_pay6, k0_pay7, k0_pay8, k0_pay9, k0_pay11, k0_pay13, k0_pay17, k0_pay24, k0_pay28, k0_pay34, first, second, active, gate, scaled, unit, ones, sigm, rows, mean, spread, root, heads, flat, about, cut, part]
  simp only [zero_sub]
  blk_point []

theorem at10 (c : Dev nD) (t : Fin cfg0.N) (k : Fin 8) (x : S256x256.Idx) (j : S8192x2048.Idx)
    (hj0 : (j 0 : ℕ) = 256 * t.val + x 0) (hj1 : (j 1 : ℕ) = 256 * k.val + x 1) :
    tile10 (View.ld (iblk m c 0 t) (sq k)) (View.ld (iblk m c 2 t) (sq k)) (View.ld (iblk m c 4 t) (sq k)) (View.ld (iblk m c 6 t) (sq k)) (View.ld (iblk m c 8 t) (ln k)) x
      = (second (m ((c : Thread nD τ).loc main_arg0)) (m ((c : Thread nD τ).loc main_arg2)) (colR (m ((c : Thread nD τ).loc main_arg3))) (colH (m ((c : Thread nD τ).loc main_arg3))) (m ((c : Thread nD τ).loc main_arg5))) j := by
  rw [cutD, cutB, cutR, cutH, partW]
  exact core10 (row t) k _ _ _ _ _ x j hj0 hj1

set_option maxHeartbeats 1000000 in
theorem final1 (c : Dev nD) : (dats m 0 c).arrAt 10 cfg0.N
    = second (m ((c : Thread nD τ).loc main_arg0)) (m ((c : Thread nD τ).loc main_arg2)) (colR (m ((c : Thread nD τ).loc main_arg3))) (colH (m ((c : Thread nD τ).loc main_arg3))) (m ((c : Thread nD τ).loc main_arg5)) := by
  refine (dats m 0 c).arrAt_eq_of_covers 10 _ (by decide +kernel) fun t _ y => ?_
  blk_simp
  rw [after0_10]
  by_cases h : t.val % 32 = 0
  on_goal 1 => rw [outsAt0_A m c t h]
  on_goal 2 => rw [outsAt0_B m c t h]
  all_goals
    frame_out
    canon_tiles x hx
    case piece0 => exact at10 m c t 7 x _ (by blk_simp [idx t] <;> (try dsimp only) <;> omega) (by blk_simp [idx t] <;> (try dsimp only) <;> omega)
    case piece1 => exact at10 m c t 6 x _ (by blk_simp [idx t] <;> (try dsimp only) <;> omega) (by blk_simp [idx t] <;> (try dsimp only) <;> omega)
    case piece2 => exact at10 m c t 5 x _ (by blk_simp [idx t] <;> (try dsimp only) <;> omega) (by blk_simp [idx t] <;> (try dsimp only) <;> omega)
    case piece3 => exact at10 m c t 4 x _ (by blk_simp [idx t] <;> (try dsimp only) <;> omega) (by blk_simp [idx t] <;> (try dsimp only) <;> omega)
    case piece4 => exact at10 m c t 3 x _ (by blk_simp [idx t] <;> (try dsimp only) <;> omega) (by blk_simp [idx t] <;> (try dsimp only) <;> omega)
    case piece5 => exact at10 m c t 2 x _ (by blk_simp [idx t] <;> (try dsimp only) <;> omega) (by blk_simp [idx t] <;> (try dsimp only) <;> omega)
    case piece6 => exact at10 m c t 1 x _ (by blk_simp [idx t] <;> (try dsimp only) <;> omega) (by blk_simp [idx t] <;> (try dsimp only) <;> omega)
    case piece7 => exact at10 m c t 0 x _ (by blk_simp [idx t] <;> (try dsimp only) <;> omega) (by blk_simp [idx t] <;> (try dsimp only) <;> omega)

abbrev tile11 (D A Z G : FVec Ideal S256x256 .f32) (V : FVec Ideal S1x256 .f32) : FVec Ideal S256x256 .bf16 :=
  k0_pay25 Z D (k0_pay10 Z) (k0_pay12 G) (k0_pay14 V (k0_pay5 A))

theorem core11 (t : Fin 32) (h : Fin 8) (D A Z G : FVec Ideal S8192x2048 .f32) (V : FVec Ideal S1x2048 .f32)
    (x : S256x256.Idx) (j : S8192x2048.Idx) (hj0 : (j 0 : ℕ) = 256 * t.val + x 0) (hj1 : (j 1 : ℕ) = 256 * h.val + x 1) :
    tile11 (cut t h D) (cut t h A) (cut t h Z) (cut t h G) (part h V) x = active D (flat (unit (heads A))) Z G V j := by
  pointwise [tile11, k0_pay4, k0_pay5, k0_pay10, k0_pay12, k0_pay14, k0_pay23, k0_pay25, first, second, active, gate, scaled, unit, ones, sigm, rows, mean, spread, root, heads, flat, about, cut, part]
  simp only [zero_sub]
  blk_point []

theorem at11 (c : Dev nD) (t : Fin cfg0.N) (k : Fin 8) (x : S256x256.Idx) (j : S8192x2048.Idx)
    (hj0 : (j 0 : ℕ) = 256 * t.val + x 0) (hj1 : (j 1 : ℕ) = 256 * k.val + x 1) :
    tile11 (View.ld (iblk m c 0 t) (sq k)) (View.ld (iblk m c 1 t) (sq k)) (View.ld (iblk m c 3 t) (sq k)) (View.ld (iblk m c 5 t) (sq k)) (View.ld (iblk m c 7 t) (ln k)) x
      = (active (m ((c : Thread nD τ).loc main_arg0)) (flat (unit (heads (m ((c : Thread nD τ).loc main_arg1))))) (colZ (m ((c : Thread nD τ).loc main_arg3))) (colG (m ((c : Thread nD τ).loc main_arg3))) (m ((c : Thread nD τ).loc main_arg4))) j := by
  rw [cutD, cutA, cutZ, cutG, partV]
  exact core11 (row t) k _ _ _ _ _ x j hj0 hj1

set_option maxHeartbeats 1000000 in
theorem final2 (c : Dev nD) : (dats m 0 c).arrAt 11 cfg0.N
    = active (m ((c : Thread nD τ).loc main_arg0)) (flat (unit (heads (m ((c : Thread nD τ).loc main_arg1))))) (colZ (m ((c : Thread nD τ).loc main_arg3))) (colG (m ((c : Thread nD τ).loc main_arg3))) (m ((c : Thread nD τ).loc main_arg4)) := by
  refine (dats m 0 c).arrAt_eq_of_covers 11 _ (by decide +kernel) fun t _ y => ?_
  blk_simp
  rw [after0_11]
  by_cases h : t.val % 32 = 0
  on_goal 1 => rw [outsAt0_A m c t h]
  on_goal 2 => rw [outsAt0_B m c t h]
  all_goals
    frame_out
    canon_tiles x hx
    case piece0 => exact at11 m c t 7 x _ (by blk_simp [idx t] <;> (try dsimp only) <;> omega) (by blk_simp [idx t] <;> (try dsimp only) <;> omega)
    case piece1 => exact at11 m c t 6 x _ (by blk_simp [idx t] <;> (try dsimp only) <;> omega) (by blk_simp [idx t] <;> (try dsimp only) <;> omega)
    case piece2 => exact at11 m c t 5 x _ (by blk_simp [idx t] <;> (try dsimp only) <;> omega) (by blk_simp [idx t] <;> (try dsimp only) <;> omega)
    case piece3 => exact at11 m c t 4 x _ (by blk_simp [idx t] <;> (try dsimp only) <;> omega) (by blk_simp [idx t] <;> (try dsimp only) <;> omega)
    case piece4 => exact at11 m c t 3 x _ (by blk_simp [idx t] <;> (try dsimp only) <;> omega) (by blk_simp [idx t] <;> (try dsimp only) <;> omega)
    case piece5 => exact at11 m c t 2 x _ (by blk_simp [idx t] <;> (try dsimp only) <;> omega) (by blk_simp [idx t] <;> (try dsimp only) <;> omega)
    case piece6 => exact at11 m c t 1 x _ (by blk_simp [idx t] <;> (try dsimp only) <;> omega) (by blk_simp [idx t] <;> (try dsimp only) <;> omega)
    case piece7 => exact at11 m c t 0 x _ (by blk_simp [idx t] <;> (try dsimp only) <;> omega) (by blk_simp [idx t] <;> (try dsimp only) <;> omega)

abbrev tile12 (D B R H : FVec Ideal S256x256 .f32) (W : FVec Ideal S1x256 .f32) : FVec Ideal S256x256 .bf16 :=
  k0_pay26 R D (k0_pay11 R) (k0_pay13 H) (k0_pay15 W (k0_pay6 B) (k0_pay7 B) (FloatOps.ofBits .f32 0x43800000#32))

theorem core12 (t : Fin 32) (h : Fin 8) (D B R H : FVec Ideal S8192x2048 .f32) (W : FVec Ideal S1x2048 .f32)
    (x : S256x256.Idx) (j : S8192x2048.Idx) (hj0 : (j 0 : ℕ) = 256 * t.val + x 0) (hj1 : (j 1 : ℕ) = 256 * h.val + x 1) :
    tile12 (cut t h D) (cut t h B) (cut t h R) (cut t h H) (part h W) x = active D (flat (unit (about B))) R H W j := by
  pointwise [tile12, k0_pay6, k0_pay7, k0_pay8, k0_pay9, k0_pay11, k0_pay13, k0_pay15, k0_pay24, k0_pay26, first, second, active, gate, scaled, unit, ones, sigm, rows, mean, spread, root, heads, flat, about, cut, part]
  simp only [zero_sub]
  blk_point []

theorem at12 (c : Dev nD) (t : Fin cfg0.N) (k : Fin 8) (x : S256x256.Idx) (j : S8192x2048.Idx)
    (hj0 : (j 0 : ℕ) = 256 * t.val + x 0) (hj1 : (j 1 : ℕ) = 256 * k.val + x 1) :
    tile12 (View.ld (iblk m c 0 t) (sq k)) (View.ld (iblk m c 2 t) (sq k)) (View.ld (iblk m c 4 t) (sq k)) (View.ld (iblk m c 6 t) (sq k)) (View.ld (iblk m c 8 t) (ln k)) x
      = (active (m ((c : Thread nD τ).loc main_arg0)) (flat (unit (about (m ((c : Thread nD τ).loc main_arg2))))) (colR (m ((c : Thread nD τ).loc main_arg3))) (colH (m ((c : Thread nD τ).loc main_arg3))) (m ((c : Thread nD τ).loc main_arg5))) j := by
  rw [cutD, cutB, cutR, cutH, partW]
  exact core12 (row t) k _ _ _ _ _ x j hj0 hj1

set_option maxHeartbeats 1000000 in
theorem final3 (c : Dev nD) : (dats m 0 c).arrAt 12 cfg0.N
    = active (m ((c : Thread nD τ).loc main_arg0)) (flat (unit (about (m ((c : Thread nD τ).loc main_arg2))))) (colR (m ((c : Thread nD τ).loc main_arg3))) (colH (m ((c : Thread nD τ).loc main_arg3))) (m ((c : Thread nD τ).loc main_arg5)) := by
  refine (dats m 0 c).arrAt_eq_of_covers 12 _ (by decide +kernel) fun t _ y => ?_
  blk_simp
  rw [after0_12]
  by_cases h : t.val % 32 = 0
  on_goal 1 => rw [outsAt0_A m c t h]
  on_goal 2 => rw [outsAt0_B m c t h]
  all_goals
    frame_out
    canon_tiles x hx
    case piece0 => exact at12 m c t 7 x _ (by blk_simp [idx t] <;> (try dsimp only) <;> omega) (by blk_simp [idx t] <;> (try dsimp only) <;> omega)
    case piece1 => exact at12 m c t 6 x _ (by blk_simp [idx t] <;> (try dsimp only) <;> omega) (by blk_simp [idx t] <;> (try dsimp only) <;> omega)
    case piece2 => exact at12 m c t 5 x _ (by blk_simp [idx t] <;> (try dsimp only) <;> omega) (by blk_simp [idx t] <;> (try dsimp only) <;> omega)
    case piece3 => exact at12 m c t 4 x _ (by blk_simp [idx t] <;> (try dsimp only) <;> omega) (by blk_simp [idx t] <;> (try dsimp only) <;> omega)
    case piece4 => exact at12 m c t 3 x _ (by blk_simp [idx t] <;> (try dsimp only) <;> omega) (by blk_simp [idx t] <;> (try dsimp only) <;> omega)
    case piece5 => exact at12 m c t 2 x _ (by blk_simp [idx t] <;> (try dsimp only) <;> omega) (by blk_simp [idx t] <;> (try dsimp only) <;> omega)
    case piece6 => exact at12 m c t 1 x _ (by blk_simp [idx t] <;> (try dsimp only) <;> omega) (by blk_simp [idx t] <;> (try dsimp only) <;> omega)
    case piece7 => exact at12 m c t 0 x _ (by blk_simp [idx t] <;> (try dsimp only) <;> omega) (by blk_simp [idx t] <;> (try dsimp only) <;> omega)

abbrev tile13 (D A Z G : FVec Ideal S256x256 .f32) (V : FVec Ideal S1x256 .f32) : FVec Ideal S256x256 .bf16 :=
  k0_pay21 (k0_pay12 G) (k0_pay19 Z V D G (k0_pay5 A)) k0_pay20

theorem core13 (t : Fin 32) (h : Fin 8) (D A Z G : FVec Ideal S8192x2048 .f32) (V : FVec Ideal S1x2048 .f32)
    (x : S256x256.Idx) (j : S8192x2048.Idx) (hj0 : (j 0 : ℕ) = 256 * t.val + x 0) (hj1 : (j 1 : ℕ) = 256 * h.val + x 1) :
    tile13 (cut t h D) (cut t h A) (cut t h Z) (cut t h G) (part h V) x = gate D (flat (unit (heads A))) Z G V j := by
  pointwise [tile13, k0_pay4, k0_pay5, k0_pay10, k0_pay12, k0_pay14, k0_pay16, k0_pay19, k0_pay20, k0_pay21, first, second, active, gate, scaled, unit, ones, sigm, rows, mean, spread, root, heads, flat, about, cut, part]
  simp only [zero_sub]
  blk_point []

theorem at13 (c : Dev nD) (t : Fin cfg0.N) (k : Fin 8) (x : S256x256.Idx) (j : S8192x2048.Idx)
    (hj0 : (j 0 : ℕ) = 256 * t.val + x 0) (hj1 : (j 1 : ℕ) = 256 * k.val + x 1) :
    tile13 (View.ld (iblk m c 0 t) (sq k)) (View.ld (iblk m c 1 t) (sq k)) (View.ld (iblk m c 3 t) (sq k)) (View.ld (iblk m c 5 t) (sq k)) (View.ld (iblk m c 7 t) (ln k)) x
      = (gate (m ((c : Thread nD τ).loc main_arg0)) (flat (unit (heads (m ((c : Thread nD τ).loc main_arg1))))) (colZ (m ((c : Thread nD τ).loc main_arg3))) (colG (m ((c : Thread nD τ).loc main_arg3))) (m ((c : Thread nD τ).loc main_arg4))) j := by
  rw [cutD, cutA, cutZ, cutG, partV]
  exact core13 (row t) k _ _ _ _ _ x j hj0 hj1

set_option maxHeartbeats 1000000 in
theorem final4 (c : Dev nD) : (dats m 0 c).arrAt 13 cfg0.N
    = gate (m ((c : Thread nD τ).loc main_arg0)) (flat (unit (heads (m ((c : Thread nD τ).loc main_arg1))))) (colZ (m ((c : Thread nD τ).loc main_arg3))) (colG (m ((c : Thread nD τ).loc main_arg3))) (m ((c : Thread nD τ).loc main_arg4)) := by
  refine (dats m 0 c).arrAt_eq_of_covers 13 _ (by decide +kernel) fun t _ y => ?_
  blk_simp
  rw [after0_13]
  by_cases h : t.val % 32 = 0
  on_goal 1 => rw [outsAt0_A m c t h]
  on_goal 2 => rw [outsAt0_B m c t h]
  all_goals
    frame_out
    canon_tiles x hx
    case piece0 => exact at13 m c t 7 x _ (by blk_simp [idx t] <;> (try dsimp only) <;> omega) (by blk_simp [idx t] <;> (try dsimp only) <;> omega)
    case piece1 => exact at13 m c t 6 x _ (by blk_simp [idx t] <;> (try dsimp only) <;> omega) (by blk_simp [idx t] <;> (try dsimp only) <;> omega)
    case piece2 => exact at13 m c t 5 x _ (by blk_simp [idx t] <;> (try dsimp only) <;> omega) (by blk_simp [idx t] <;> (try dsimp only) <;> omega)
    case piece3 => exact at13 m c t 4 x _ (by blk_simp [idx t] <;> (try dsimp only) <;> omega) (by blk_simp [idx t] <;> (try dsimp only) <;> omega)
    case piece4 => exact at13 m c t 3 x _ (by blk_simp [idx t] <;> (try dsimp only) <;> omega) (by blk_simp [idx t] <;> (try dsimp only) <;> omega)
    case piece5 => exact at13 m c t 2 x _ (by blk_simp [idx t] <;> (try dsimp only) <;> omega) (by blk_simp [idx t] <;> (try dsimp only) <;> omega)
    case piece6 => exact at13 m c t 1 x _ (by blk_simp [idx t] <;> (try dsimp only) <;> omega) (by blk_simp [idx t] <;> (try dsimp only) <;> omega)
    case piece7 => exact at13 m c t 0 x _ (by blk_simp [idx t] <;> (try dsimp only) <;> omega) (by blk_simp [idx t] <;> (try dsimp only) <;> omega)

abbrev tile14 (D B R H : FVec Ideal S256x256 .f32) (W : FVec Ideal S1x256 .f32) : FVec Ideal S256x256 .bf16 :=
  k0_pay22 D (k0_pay13 H) (k0_pay18 R W (k0_pay6 B) (k0_pay7 B) (FloatOps.ofBits .f32 0x43800000#32))

theorem core14 (t : Fin 32) (h : Fin 8) (D B R H : FVec Ideal S8192x2048 .f32) (W : FVec Ideal S1x2048 .f32)
    (x : S256x256.Idx) (j : S8192x2048.Idx) (hj0 : (j 0 : ℕ) = 256 * t.val + x 0) (hj1 : (j 1 : ℕ) = 256 * h.val + x 1) :
    tile14 (cut t h D) (cut t h B) (cut t h R) (cut t h H) (part h W) x = gate D (flat (unit (about B))) R H W j := by
  pointwise [tile14, k0_pay6, k0_pay7, k0_pay8, k0_pay9, k0_pay11, k0_pay13, k0_pay15, k0_pay17, k0_pay18, k0_pay22, first, second, active, gate, scaled, unit, ones, sigm, rows, mean, spread, root, heads, flat, about, cut, part]
  simp only [zero_sub]
  blk_point []

theorem at14 (c : Dev nD) (t : Fin cfg0.N) (k : Fin 8) (x : S256x256.Idx) (j : S8192x2048.Idx)
    (hj0 : (j 0 : ℕ) = 256 * t.val + x 0) (hj1 : (j 1 : ℕ) = 256 * k.val + x 1) :
    tile14 (View.ld (iblk m c 0 t) (sq k)) (View.ld (iblk m c 2 t) (sq k)) (View.ld (iblk m c 4 t) (sq k)) (View.ld (iblk m c 6 t) (sq k)) (View.ld (iblk m c 8 t) (ln k)) x
      = (gate (m ((c : Thread nD τ).loc main_arg0)) (flat (unit (about (m ((c : Thread nD τ).loc main_arg2))))) (colR (m ((c : Thread nD τ).loc main_arg3))) (colH (m ((c : Thread nD τ).loc main_arg3))) (m ((c : Thread nD τ).loc main_arg5))) j := by
  rw [cutD, cutB, cutR, cutH, partW]
  exact core14 (row t) k _ _ _ _ _ x j hj0 hj1

set_option maxHeartbeats 1000000 in
theorem final5 (c : Dev nD) : (dats m 0 c).arrAt 14 cfg0.N
    = gate (m ((c : Thread nD τ).loc main_arg0)) (flat (unit (about (m ((c : Thread nD τ).loc main_arg2))))) (colR (m ((c : Thread nD τ).loc main_arg3))) (colH (m ((c : Thread nD τ).loc main_arg3))) (m ((c : Thread nD τ).loc main_arg5)) := by
  refine (dats m 0 c).arrAt_eq_of_covers 14 _ (by decide +kernel) fun t _ y => ?_
  blk_simp
  rw [after0_14]
  by_cases h : t.val % 32 = 0
  on_goal 1 => rw [outsAt0_A m c t h]
  on_goal 2 => rw [outsAt0_B m c t h]
  all_goals
    frame_out
    canon_tiles x hx
    case piece0 => exact at14 m c t 7 x _ (by blk_simp [idx t] <;> (try dsimp only) <;> omega) (by blk_simp [idx t] <;> (try dsimp only) <;> omega)
    case piece1 => exact at14 m c t 6 x _ (by blk_simp [idx t] <;> (try dsimp only) <;> omega) (by blk_simp [idx t] <;> (try dsimp only) <;> omega)
    case piece2 => exact at14 m c t 5 x _ (by blk_simp [idx t] <;> (try dsimp only) <;> omega) (by blk_simp [idx t] <;> (try dsimp only) <;> omega)
    case piece3 => exact at14 m c t 4 x _ (by blk_simp [idx t] <;> (try dsimp only) <;> omega) (by blk_simp [idx t] <;> (try dsimp only) <;> omega)
    case piece4 => exact at14 m c t 3 x _ (by blk_simp [idx t] <;> (try dsimp only) <;> omega) (by blk_simp [idx t] <;> (try dsimp only) <;> omega)
    case piece5 => exact at14 m c t 2 x _ (by blk_simp [idx t] <;> (try dsimp only) <;> omega) (by blk_simp [idx t] <;> (try dsimp only) <;> omega)
    case piece6 => exact at14 m c t 1 x _ (by blk_simp [idx t] <;> (try dsimp only) <;> omega) (by blk_simp [idx t] <;> (try dsimp only) <;> omega)
    case piece7 => exact at14 m c t 0 x _ (by blk_simp [idx t] <;> (try dsimp only) <;> omega) (by blk_simp [idx t] <;> (try dsimp only) <;> omega)

abbrev tile15 (D A Z G : FVec Ideal S256x256 .f32) (acc : FVec Ideal S1x256 .f32) : FVec Ideal S1x256 .f32 :=
  k0_pay31 (k0_pay29 acc) (k0_pay30 D (k0_pay5 A) (k0_pay12 G) (k0_pay16 Z))

theorem core15 (t : Fin 32) (h : Fin 8) (D A Z G : FVec Ideal S8192x2048 .f32) (acc : FVec Ideal S1x256 .f32)
    (x : S1x256.Idx) (j : S1x2048.Idx) (hj1 : (j 1 : ℕ) = 256 * h.val + x 1) :
    tile15 (cut t h D) (cut t h A) (cut t h Z) (cut t h G) acc x
      = acc x + ∑ r : Fin 256, (mulf (scaled D Z G) (flat (unit (heads A)))) (ix2 ⟨256 * t.val + r.val, by omega⟩ (j 1)) := by
  pointwise [tile15, k0_pay4, k0_pay5, k0_pay10, k0_pay12, k0_pay16, k0_pay23, k0_pay27, k0_pay29, k0_pay30, k0_pay31, first, second, active, gate, scaled, unit, ones, sigm, rows, mean, spread, root, heads, flat, about, cut, part]
  try simp only [zero_sub]
  blk_point []

theorem at15 (c : Dev nD) (t : Fin cfg0.N) (k : Fin 8) (Z : FVec Ideal S1x2048 .f32) (x : S1x256.Idx) (j : S1x2048.Idx)
    (hj1 : (j 1 : ℕ) = 256 * k.val + x 1) :
    tile15 (View.ld (iblk m c 0 t) (sq k)) (View.ld (iblk m c 1 t) (sq k)) (View.ld (iblk m c 3 t) (sq k)) (View.ld (iblk m c 5 t) (sq k)) (View.ld (Val := Elt Ideal) (e' := .f32) Z (ln k) : FVec Ideal S1x256 .f32) x
      = Z j + ∑ r : Fin 256, (mulf (scaled (m ((c : Thread nD τ).loc main_arg0)) (colZ (m ((c : Thread nD τ).loc main_arg3))) (colG (m ((c : Thread nD τ).loc main_arg3)))) (flat (unit (heads (m ((c : Thread nD τ).loc main_arg1)))))) (ix2 ⟨256 * (row t).val + r.val, by have := (row t).isLt; omega⟩ (j 1)) := by
  have e : (View.ld (Val := Elt Ideal) (e' := .f32) Z (ln k) : FVec Ideal S1x256 .f32) x = Z j := by pointwise []; blk_point []
  rw [cutD, cutA, cutZ, cutG]
  exact (core15 (row t) k _ _ _ _ _ x j hj1).trans (congrArg (· + _) e)

theorem zero15 : k0_pay2 (F := Ideal) = fun _ => 0 := by
  funext j; pointwise [k0_pay2]

theorem reset15 (c : Dev nD) (t : Fin cfg0.N) (h : t.val % 32 = 0) (j : S1x2048.Idx) :
    (outsAt0 m c t.val t.isLt).2.2.2.2.2.2.1 j = 0 + ∑ r : Fin 256, (mulf (scaled (m ((c : Thread nD τ).loc main_arg0)) (colZ (m ((c : Thread nD τ).loc main_arg3))) (colG (m ((c : Thread nD τ).loc main_arg3)))) (flat (unit (heads (m ((c : Thread nD τ).loc main_arg1)))))) (ix2 ⟨256 * (row t).val + r.val, by have := (row t).isLt; omega⟩ (j 1)) := by
  rw [outsAt0_A m c t h]
  frame_out
  simp (disch := decide) only [↓View.readCov_skip, View.readCov_fill]
  rw [zero15]
  exact over (fun j => 0 + ∑ r : Fin 256, (mulf (scaled (m ((c : Thread nD τ).loc main_arg0)) (colZ (m ((c : Thread nD τ).loc main_arg3))) (colG (m ((c : Thread nD τ).loc main_arg3)))) (flat (unit (heads (m ((c : Thread nD τ).loc main_arg1)))))) (ix2 ⟨256 * (row t).val + r.val, by have := (row t).isLt; omega⟩ (j 1))) (fun x => at15 m c t 7 (fun _ => 0) x _ (place 7 x))
    (fun x => at15 m c t 6 (fun _ => 0) x _ (place 6 x))
    (fun x => at15 m c t 5 (fun _ => 0) x _ (place 5 x))
    (fun x => at15 m c t 4 (fun _ => 0) x _ (place 4 x))
    (fun x => at15 m c t 3 (fun _ => 0) x _ (place 3 x))
    (fun x => at15 m c t 2 (fun _ => 0) x _ (place 2 x))
    (fun x => at15 m c t 1 (fun _ => 0) x _ (place 1 x))
    (fun x => at15 m c t 0 (fun _ => 0) x _ (place 0 x)) j

theorem step15 (c : Dev nD) (t : Fin cfg0.N) (h : ¬ t.val % 32 = 0) (j : S1x2048.Idx) :
    (outsAt0 m c t.val t.isLt).2.2.2.2.2.2.1 j = (outsAt0 m c (t.val - 1) (Nat.lt_of_le_of_lt (Nat.sub_le _ _) t.isLt)).2.2.2.2.2.2.1 j + ∑ r : Fin 256, (mulf (scaled (m ((c : Thread nD τ).loc main_arg0)) (colZ (m ((c : Thread nD τ).loc main_arg3))) (colG (m ((c : Thread nD τ).loc main_arg3)))) (flat (unit (heads (m ((c : Thread nD τ).loc main_arg1)))))) (ix2 ⟨256 * (row t).val + r.val, by have := (row t).isLt; omega⟩ (j 1)) := by
  rw [outsAt0_B m c t h]
  frame_out
  canon_tiles x hx
  case piece0 => exact at15 m c t 7 _ x _ (by omega)
  case piece1 => exact at15 m c t 6 _ x _ (by omega)
  case piece2 => exact at15 m c t 5 _ x _ (by omega)
  case piece3 => exact at15 m c t 4 _ x _ (by omega)
  case piece4 => exact at15 m c t 3 _ x _ (by omega)
  case piece5 => exact at15 m c t 2 _ x _ (by omega)
  case piece6 => exact at15 m c t 1 _ x _ (by omega)
  case piece7 => exact at15 m c t 0 _ x _ (by omega)

theorem final6 (c : Dev nD) : (dats m 0 c).arrAt 15 cfg0.N
    = columns (mulf (scaled (m ((c : Thread nD τ).loc main_arg0)) (colZ (m ((c : Thread nD τ).loc main_arg3))) (colG (m ((c : Thread nD τ).loc main_arg3)))) (flat (unit (heads (m ((c : Thread nD τ).loc main_arg1)))))) := by
  refine (dats m 0 c).arrAt_eq_of_covers 15 _ (by decide +kernel) fun t hf y => ?_
  blk_simp
  have h1 := (flush0_15 t).mp hf
  rw [after0_15, Pipeline.eq_sum_fin_of_reset_step_apply_of_flush (fun n h => (outsAt0 m c n h).2.2.2.2.2.2.1) 32 (fun _ => 0) _
    (fun t h j => reset15 m c t h j) (fun t h j => step15 m c t h j) t h1 _, zero_add, columns_apply]
  refine Fin.sum_mul_add_congr fun s k hl => ?_
  blk_point [idx t]

abbrev tile16 (D B R H : FVec Ideal S256x256 .f32) (acc : FVec Ideal S1x256 .f32) : FVec Ideal S1x256 .f32 :=
  k0_pay32 (k0_pay9 (k0_pay6 B) (k0_pay7 B) (FloatOps.ofBits .f32 0x43800000#32)) (k0_pay28 D (k0_pay13 H) (k0_pay17 R)) acc

theorem core16 (t : Fin 32) (h : Fin 8) (D B R H : FVec Ideal S8192x2048 .f32) (acc : FVec Ideal S1x256 .f32)
    (x : S1x256.Idx) (j : S1x2048.Idx) (hj1 : (j 1 : ℕ) = 256 * h.val + x 1) :
    tile16 (cut t h D) (cut t h B) (cut t h R) (cut t h H) acc x
      = acc x + ∑ r : Fin 256, (mulf (scaled D R H) (flat (unit (about B)))) (ix2 ⟨256 * t.val + r.val, by omega⟩ (j 1)) := by
  pointwise [tile16, k0_pay6, k0_pay7, k0_pay8, k0_pay9, k0_pay11, k0_pay13, k0_pay17, k0_pay24, k0_pay28, k0_pay32, first, second, active, gate, scaled, unit, ones, sigm, rows, mean, spread, root, heads, flat, about, cut, part]
  try simp only [zero_sub]
  blk_point []

theorem at16 (c : Dev nD) (t : Fin cfg0.N) (k : Fin 8) (Z : FVec Ideal S1x2048 .f32) (x : S1x256.Idx) (j : S1x2048.Idx)
    (hj1 : (j 1 : ℕ) = 256 * k.val + x 1) :
    tile16 (View.ld (iblk m c 0 t) (sq k)) (View.ld (iblk m c 2 t) (sq k)) (View.ld (iblk m c 4 t) (sq k)) (View.ld (iblk m c 6 t) (sq k)) (View.ld (Val := Elt Ideal) (e' := .f32) Z (ln k) : FVec Ideal S1x256 .f32) x
      = Z j + ∑ r : Fin 256, (mulf (scaled (m ((c : Thread nD τ).loc main_arg0)) (colR (m ((c : Thread nD τ).loc main_arg3))) (colH (m ((c : Thread nD τ).loc main_arg3)))) (flat (unit (about (m ((c : Thread nD τ).loc main_arg2)))))) (ix2 ⟨256 * (row t).val + r.val, by have := (row t).isLt; omega⟩ (j 1)) := by
  have e : (View.ld (Val := Elt Ideal) (e' := .f32) Z (ln k) : FVec Ideal S1x256 .f32) x = Z j := by pointwise []; blk_point []
  rw [cutD, cutB, cutR, cutH]
  exact (core16 (row t) k _ _ _ _ _ x j hj1).trans (congrArg (· + _) e)

theorem zero16 : k0_pay3 (F := Ideal) = fun _ => 0 := by
  funext j; pointwise [k0_pay3]

theorem reset16 (c : Dev nD) (t : Fin cfg0.N) (h : t.val % 32 = 0) (j : S1x2048.Idx) :
    (outsAt0 m c t.val t.isLt).2.2.2.2.2.2.2 j = 0 + ∑ r : Fin 256, (mulf (scaled (m ((c : Thread nD τ).loc main_arg0)) (colR (m ((c : Thread nD τ).loc main_arg3))) (colH (m ((c : Thread nD τ).loc main_arg3)))) (flat (unit (about (m ((c : Thread nD τ).loc main_arg2)))))) (ix2 ⟨256 * (row t).val + r.val, by have := (row t).isLt; omega⟩ (j 1)) := by
  rw [outsAt0_A m c t h]
  frame_out
  simp (disch := decide) only [↓View.readCov_skip, View.readCov_fill]
  rw [zero16]
  exact over (fun j => 0 + ∑ r : Fin 256, (mulf (scaled (m ((c : Thread nD τ).loc main_arg0)) (colR (m ((c : Thread nD τ).loc main_arg3))) (colH (m ((c : Thread nD τ).loc main_arg3)))) (flat (unit (about (m ((c : Thread nD τ).loc main_arg2)))))) (ix2 ⟨256 * (row t).val + r.val, by have := (row t).isLt; omega⟩ (j 1))) (fun x => at16 m c t 7 (fun _ => 0) x _ (place 7 x))
    (fun x => at16 m c t 6 (fun _ => 0) x _ (place 6 x))
    (fun x => at16 m c t 5 (fun _ => 0) x _ (place 5 x))
    (fun x => at16 m c t 4 (fun _ => 0) x _ (place 4 x))
    (fun x => at16 m c t 3 (fun _ => 0) x _ (place 3 x))
    (fun x => at16 m c t 2 (fun _ => 0) x _ (place 2 x))
    (fun x => at16 m c t 1 (fun _ => 0) x _ (place 1 x))
    (fun x => at16 m c t 0 (fun _ => 0) x _ (place 0 x)) j

theorem step16 (c : Dev nD) (t : Fin cfg0.N) (h : ¬ t.val % 32 = 0) (j : S1x2048.Idx) :
    (outsAt0 m c t.val t.isLt).2.2.2.2.2.2.2 j = (outsAt0 m c (t.val - 1) (Nat.lt_of_le_of_lt (Nat.sub_le _ _) t.isLt)).2.2.2.2.2.2.2 j + ∑ r : Fin 256, (mulf (scaled (m ((c : Thread nD τ).loc main_arg0)) (colR (m ((c : Thread nD τ).loc main_arg3))) (colH (m ((c : Thread nD τ).loc main_arg3)))) (flat (unit (about (m ((c : Thread nD τ).loc main_arg2)))))) (ix2 ⟨256 * (row t).val + r.val, by have := (row t).isLt; omega⟩ (j 1)) := by
  rw [outsAt0_B m c t h]
  frame_out
  canon_tiles x hx
  case piece0 => exact at16 m c t 7 _ x _ (by omega)
  case piece1 => exact at16 m c t 6 _ x _ (by omega)
  case piece2 => exact at16 m c t 5 _ x _ (by omega)
  case piece3 => exact at16 m c t 4 _ x _ (by omega)
  case piece4 => exact at16 m c t 3 _ x _ (by omega)
  case piece5 => exact at16 m c t 2 _ x _ (by omega)
  case piece6 => exact at16 m c t 1 _ x _ (by omega)
  case piece7 => exact at16 m c t 0 _ x _ (by omega)

theorem final7 (c : Dev nD) : (dats m 0 c).arrAt 16 cfg0.N
    = columns (mulf (scaled (m ((c : Thread nD τ).loc main_arg0)) (colR (m ((c : Thread nD τ).loc main_arg3))) (colH (m ((c : Thread nD τ).loc main_arg3)))) (flat (unit (about (m ((c : Thread nD τ).loc main_arg2)))))) := by
  refine (dats m 0 c).arrAt_eq_of_covers 16 _ (by decide +kernel) fun t hf y => ?_
  blk_simp
  have h1 := (flush0_16 t).mp hf
  rw [after0_16, Pipeline.eq_sum_fin_of_reset_step_apply_of_flush (fun n h => (outsAt0 m c n h).2.2.2.2.2.2.2) 32 (fun _ => 0) _
    (fun t h j => reset16 m c t h j) (fun t h j => step16 m c t h j) t h1 _, zero_add, columns_apply]
  refine Fin.sum_mul_add_congr fun s k hl => ?_
  blk_point [idx t]

end Cert.MergeBackIdeal.Total

namespace Cert.MergeBackProof

theorem frame : Cert.quiescent_MergeBack := fun m ρ _ => Cert.MergeBack.Gen.frame m ρ

theorem frame_ideal : Cert.quiescent_MergeBackIdeal := fun m ρ _ => Cert.MergeBackIdeal.Gen.frame m ρ

theorem frame_ref_ideal : Cert.quiescent_MergeBackRefIdeal := fun m ρ _ =>
  (θ_run Cert.MergeBackRefIdeal.defs _ _).mono (fun r h => ⟨fun c => (h c).2.2.2.2.2.2.2.2, sem_eq_zero_of_no_sems (by decide) r.2⟩)
    (Cert.MergeBackRefIdeal.Value.run (F := Ideal) m ρ)

theorem preserves : Cert.preserves_MergeBack_MergeBackIdeal := trivial

theorem algebraic : Cert.algebraic_MergeBackIdeal_MergeBackRefIdeal := by
  intro m ρ m' ρ' _ hagree
  refine ⟨_, _, _, _, _, _, _, _, Cert.MergeBackIdeal.Value.run_blocks (F := Ideal) m ρ, ?_⟩
  refine (θ_run Cert.MergeBackRefIdeal.defs _ _).mono (fun _ h c => ?_) (Cert.MergeBackRefIdeal.Value.run (F := Ideal) m' ρ')
  obtain ⟨a0, a1, a2, a3, a4, a5⟩ := hagree c
  obtain ⟨h0, h1, h2, h3, h4, h5, h6, h7, kept⟩ := h c
  unfold Cert.MergeBackRefIdeal.Value.res_main_v140 at h0
  unfold Cert.MergeBackRefIdeal.Value.res_main_v141 at h1
  simp only [a0, a1, a2, a3, a4, a5] at h0 h1 h2 h3 h4 h5 h6 h7
  exact ⟨h0.trans (Cert.MergeBackIdeal.Total.final0 m c).symm, h1.trans (Cert.MergeBackIdeal.Total.final1 m c).symm, h2.trans (Cert.MergeBackIdeal.Total.final2 m c).symm, h3.trans (Cert.MergeBackIdeal.Total.final3 m c).symm, h4.trans (Cert.MergeBackIdeal.Total.final4 m c).symm, h5.trans (Cert.MergeBackIdeal.Total.final5 m c).symm, h6.trans (Cert.MergeBackIdeal.Total.final6 m c).symm, h7.trans (Cert.MergeBackIdeal.Total.final7 m c).symm, kept⟩

end Cert.MergeBackProof

end
-- ==== Proof.ConvClaim.lean ====
/-
The causal convolution over the tokens, its SiLU and the unit queries and keys. A point keeps its block of rows behind the
last rows of the block before it, so that a shifted load is a part of the padded rows; the 32 groups of 128 columns are
each computed by themselves, and one lemma gives a group's tile for a variable group and block of rows.
-/
module

public import proofs.«01_k».proof.Defs
public import proofs.«01_k».proof.Proof.Gen.Conv.Frame
public import proofs.«01_k».proof.Proof.Gen.ConvIdeal.Value
public import proofs.«01_k».proof.Proof.Gen.ConvRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.ConvRefIdeal.Total

open Cert.ConvRefIdeal Cert.ConvRefIdeal.Gen

/-- The convolution's columns of the projection, after three rows of zeros. -/
abbrev padded (P : FVec Ideal S8192x16384 .f32) : FVec Ideal S8195x4096 .f32 :=
  pad S8195x4096 ![3, 0] ![0, 0] ![0, 0] (extractStridedSlice S8192x4096 ![0, 0] P slices_S8192x16384_S8192x4096_0_0)
    (sitofp .f32 (constantI S_ 32 0#32)) pads_S8192x4096_S8195x4096_300_000 h_S_

/-- A tap's weights, for each row. -/
abbrev rows (W : FVec Ideal S1x4096 .f32) : FVec Ideal S8192x4096 .f32 :=
  broadcastInDim S8192x4096 ![0, 1] bcast_S1x4096_S8192x4096_0_1
    (broadcastInDim S1x4096 ![1] bcast_S4096_S1x4096_1 (shapeCast _ W shapeCasts_S1x4096_S4096))

/-- The sum of the four taps. -/
abbrev taps (Q : FVec Ideal S8195x4096 .f32) (W : FVec Ideal S4x4096 .f32) : FVec Ideal S8192x4096 .f32 :=
  addf (addf (addf
    (mulf (extractStridedSlice S8192x4096 ![0, 0] Q slices_S8195x4096_S8192x4096_0_0)
      (rows (extractStridedSlice S1x4096 ![0, 0] W slices_S4x4096_S1x4096_0_0)))
    (mulf (extractStridedSlice S8192x4096 ![1, 0] Q slices_S8195x4096_S8192x4096_1_0)
      (rows (extractStridedSlice S1x4096 ![1, 0] W slices_S4x4096_S1x4096_1_0))))
    (mulf (extractStridedSlice S8192x4096 ![2, 0] Q slices_S8195x4096_S8192x4096_2_0)
      (rows (extractStridedSlice S1x4096 ![2, 0] W slices_S4x4096_S1x4096_2_0))))
    (mulf (extractStridedSlice S8192x4096 ![3, 0] Q slices_S8195x4096_S8192x4096_3_0)
      (rows (extractStridedSlice S1x4096 ![3, 0] W slices_S4x4096_S1x4096_3_0)))

/-- The SiLU, entry by entry. -/
abbrev silu (X : FVec Ideal S8192x4096 .f32) : FVec Ideal S8192x4096 .f32 :=
  mulf X (Host.divf (broadcastInDim S8192x4096 ![] bcast_S_S8192x4096 (constant S_ .f32 0x3F800000#32))
    (addf (broadcastInDim S8192x4096 ![] bcast_S_S8192x4096 (constant S_ .f32 0x3F800000#32)) (Host.exp (Host.negf X))))

/-- The heads of a matrix, and the matrix of the heads. -/
abbrev heads (X : FVec Ideal S8192x1024 .f32) : FVec Ideal S8192x8x128 .f32 := shapeCast _ X shapeCasts_S8192x1024_S8192x8x128
abbrev flat (X : FVec Ideal S8192x8x128 .f32) : FVec Ideal S8192x1024 .f32 := shapeCast _ X shapeCasts_S8192x8x128_S8192x1024

/-- Each head's vector over its length. -/
abbrev unit (X : FVec Ideal S8192x8x128 .f32) : FVec Ideal S8192x8x128 .f32 :=
  mulf X (broadcastInDim S8192x8x128 ![0, 1, 2] bcast_S8192x8x1_S8192x8x128_0_1_2
    (Host.rsqrt (addf (broadcastInDim S8192x8x1 ![0, 1] bcast_S8192x8_S8192x8x1_0_1
      (Host.reduceAdd (mulf X X) (constant S_ .f32 0x00000000#32) reducesTo_S8192x8x128_S8192x8_d2 h_S_))
      (broadcastInDim S8192x8x1 ![] bcast_S_S8192x8x1 (constant S_ .f32 0x358637BD#32)))))

/-- The queries, the keys and the values. -/
abbrev queries (Q : FVec Ideal S8195x4096 .f32) (W : FVec Ideal S4x4096 .f32) : FVec Ideal S8192x1024 .f32 :=
  flat (mulf (unit (heads (extractStridedSlice S8192x1024 ![0, 0] (silu (taps Q W)) slices_S8192x4096_S8192x1024_0_0)))
    (broadcastInDim S8192x8x128 ![] bcast_S_S8192x8x128 (constant S_ .f32 0x3DB504F3#32)))
abbrev keys (Q : FVec Ideal S8195x4096 .f32) (W : FVec Ideal S4x4096 .f32) : FVec Ideal S8192x1024 .f32 :=
  flat (unit (heads (extractStridedSlice S8192x1024 ![0, 1024] (silu (taps Q W)) slices_S8192x4096_S8192x1024_0_1024)))
abbrev vals (Q : FVec Ideal S8195x4096 .f32) (W : FVec Ideal S4x4096 .f32) : FVec Ideal S8192x2048 .f32 :=
  extractStridedSlice S8192x2048 ![0, 2048] (silu (taps Q W)) slices_S8192x4096_S8192x2048_0_2048

end Cert.ConvRefIdeal.Total

namespace Cert.ConvIdeal.Total

open Cert.ConvIdeal Cert.ConvIdeal.Gen
open Cert.ConvRefIdeal (S8195x4096)
open Cert.ConvRefIdeal.Total (padded rows taps silu heads flat unit queries keys vals)

variable (m : (ℓ : Loc nD τ sig) → Buf (Elt Ideal) ℓ)

theorem idx : ∀ t : Fin cfg0.N, win0_0.index t = ![t.val, 0] ∧ win0_1.index t = ![32 * t.val - 1, 0] ∧ win0_2.index t = ![0, 0]
    ∧ win0_3.index t = ![t.val, 0] ∧ win0_4.index t = ![t.val, 0] ∧ win0_5.index t = ![t.val, 0] :=
  (by decide +kernel : ∀ t : Fin grid0.N, _)

theorem start : ∀ t : Fin cfg0.N, Scalar.cmpi .eq (BitVec.ofNat 32 (grid0.coords t 0).val) 0#32 = if t.val = 0 then 1#1 else 0#1 :=
  (by decide +kernel : ∀ t : Fin grid0.N, _)

/-- The block of rows of a point. -/
abbrev row (t : Fin cfg0.N) : Fin 32 := ⟨t.val, lt_of_lt_of_eq t.isLt N_0⟩

/-- The padded rows of block `t`, moved up by `k` of the taps, in group `o` of columns. -/
def cut (t : Fin 32) (o : Fin 32) (k : Fin 4) (Q : FVec Ideal S8195x4096 .f32) : FVec Ideal S256x128 .f32 := fun i =>
  Q (ix2 ⟨256 * t.val + (i 0).val + k.val, by have h0 : (i 0).val < 256 := (i 0).isLt; omega⟩
    ⟨128 * o.val + (i 1).val, by have h1 : (i 1).val < 128 := (i 1).isLt; omega⟩)

/-- A tap's weights in group `o` of columns. -/
def part (o : Fin 32) (k : Fin 4) (W : FVec Ideal S4x4096 .f32) : FVec Ideal S1x128 .f32 := fun i =>
  W (ix2 k ⟨128 * o.val + (i 1).val, by have h1 : (i 1).val < 128 := (i 1).isLt; omega⟩)

/-- The two stores cover the scratch. -/
theorem both (u : FVec Ideal S256x4096 .f32) (v : FVec Ideal S8x4096 .f32) (y : S264x4096.Idx) :
    ∃ p ∈ ([⟨Rect.unit ![8, 0] ![256, 4096] inb_S264x4096_S256x4096_8_0, u⟩,
      ⟨Rect.unit ![0, 0] ![8, 4096] inb_S264x4096_S8x4096_0_0, v⟩] : List (View.Piece (Elt Ideal) S264x4096 .f32)), y ∈ p.1.set := by
  have h0 : (y 0).val < 264 := (y 0).isLt
  have h1 : (y 1).val < 4096 := (y 1).isLt
  by_cases h : 8 ≤ (y 0).val
  · refine ⟨_, .head _, (Rect.mem_set_unit (inb := inb_S264x4096_S256x4096_8_0)).mpr fun a => ?_⟩
    match a with
    | ⟨0, _⟩ => exact ⟨h, h0⟩
    | ⟨1, _⟩ => exact ⟨Nat.zero_le _, h1⟩
  · refine ⟨_, .tail _ (.head _), (Rect.mem_set_unit (inb := inb_S264x4096_S8x4096_0_0)).mpr fun a => ?_⟩
    match a with
    | ⟨0, _⟩ => exact ⟨Nat.zero_le _, Nat.lt_of_not_le h⟩
    | ⟨1, _⟩ => exact ⟨Nat.zero_le _, h1⟩

/-- What a point's two stores leave, as the padded rows. -/
theorem halo (c : Dev nD) (t : Fin cfg0.N) (y : S264x4096.Idx) (j : S8195x4096.Idx) (hj0 : (j 0 : ℕ) + 5 = 256 * t.val + y 0)
    (hj1 : (j 1 : ℕ) = y 1) :
    View.canon (Val := Elt Ideal) (e := .f32) [⟨Rect.unit ![8, 0] ![256, 4096] inb_S264x4096_S256x4096_8_0, k0_pay3 (iblk m c 0 t)⟩,
      ⟨Rect.unit ![0, 0] ![8, 4096] inb_S264x4096_S8x4096_0_0, k0_pay2 (grid0.coords t) (iblk m c 1 t)⟩] y = padded (m ((c : Thread nD τ).loc main_arg0)) j := by
  canon_tiles x h using both _ _ y
  case piece0 =>
    pointwise [k0_pay3, padded]
    blk_point [iblk, V, idx t]
    exfalso; omega
  case piece1 =>
    by_cases ht : t.val = 0
    · pointwise [k0_pay2, padded, start]
      rw [if_pos ht, dif_neg (by omega)]
      rw [show ∀ a b : Ideal .f32, Scalar.select 1#1 a b = a from fun _ _ => rfl]
      simp [FloatOps.sitofp]
    · pointwise [k0_pay2, padded, start]
      have hj : (j 0).val < 8195 := (j 0).isLt
      have hc : t.val < 32 := (row t).isLt
      rw [if_neg ht, dif_pos (by omega), show ∀ a b : Ideal .f32, Scalar.select 0#1 a b = b from fun _ _ => rfl]
      blk_point [iblk, V, idx t]

/-- A group's columns. -/
abbrev sq (k : Fin 4) (o : Fin 32) : Rect S264x4096 := Rect.unit ![5 + k.val, 128 * o.val] ![256, 128] (by revert k o; decide)
abbrev ln (k : Fin 4) (o : Fin 32) : Rect S4x4096 := Rect.unit ![k.val, 128 * o.val] ![1, 128] (by revert k o; decide)

/-- What a shifted load reads. -/
def shifted (c : Dev nD) (t : Fin cfg0.N) (k : Fin 4) (o : Fin 32) : FVec Ideal S256x128 .f32 :=
  (View.whole cc0_scratch0).readCov (Val := Elt Ideal)
    [⟨Rect.unit ![8, 0] ![256, 4096] inb_S264x4096_S256x4096_8_0, k0_pay3 (iblk m c 0 t)⟩,
      ⟨Rect.unit ![0, 0] ![8, 4096] inb_S264x4096_S8x4096_0_0, k0_pay2 (grid0.coords t) (iblk m c 1 t)⟩] (sq k o).toLoadRect

theorem shifted_eq (c : Dev nD) (t : Fin cfg0.N) (k : Fin 4) (o : Fin 32) : shifted m c t k o = cut (row t) o k (padded (m ((c : Thread nD τ).loc main_arg0))) := by
  unfold shifted
  rw [View.readCov_eq_canon']
  funext i
  refine halo m c t _ _ ?_ ?_
  · show 256 * t.val + (i 0).val + k.val + 5 = 256 * t.val + (5 + k.val + 1 * (i 0).val)
    omega
  · show 128 * o.val + (i 1).val = 128 * o.val + 1 * (i 1).val
    omega

theorem part_eq (c : Dev nD) (t : Fin cfg0.N) (k : Fin 4) (o : Fin 32) :
    (View.ld (iblk m c 2 t) (ln k o) : FVec Ideal S1x128 .f32) = part o k (m ((c : Thread nD τ).loc main_arg1)) := by
  funext i; pointwise [part]; blk_point [iblk, V, idx t]

/-- A group's tile of the queries, from its shifted rows and weights. -/
abbrev tile3 (x0 x1 x2 x3 : FVec Ideal S256x128 .f32) (w0 w1 w2 w3 : FVec Ideal S1x128 .f32) : FVec Ideal S256x128 .f32 :=
  k0_pay5 (k0_pay4 x0 w0 x1 w1 x2 w2 x3 w3) (FloatOps.ofBits .f32 0#32)

theorem core3 (t : Fin 32) (k : Fin 8) (o : Fin 32) (ho : o.val = k.val) (Q : FVec Ideal S8195x4096 .f32) (W : FVec Ideal S4x4096 .f32)
    (x : S256x128.Idx) (j : S8192x1024.Idx) (hj0 : (j 0 : ℕ) = 256 * t.val + x 0) (hj1 : (j 1 : ℕ) = 128 * k.val + x 1) :
    tile3 (cut t o 0 Q) (cut t o 1 Q) (cut t o 2 Q) (cut t o 3 Q) (part o 0 W) (part o 1 W) (part o 2 W) (part o 3 W) x = queries Q W j := by
  pointwise [tile3, k0_pay4, k0_pay5, queries, keys, vals, unit, heads, flat, silu, taps, rows, cut, part]
  try simp only [zero_sub]
  blk_point []

theorem at3 (c : Dev nD) (t : Fin cfg0.N) (k : Fin 8) (x : S256x128.Idx) (j : S8192x1024.Idx)
    (hj0 : (j 0 : ℕ) = 256 * t.val + x 0) (hj1 : (j 1 : ℕ) = 128 * k.val + x 1) :
    tile3 (shifted m c t 0 ⟨k.val, by omega⟩) (shifted m c t 1 ⟨k.val, by omega⟩) (shifted m c t 2 ⟨k.val, by omega⟩) (shifted m c t 3 ⟨k.val, by omega⟩)
      (View.ld (iblk m c 2 t) (ln 0 ⟨k.val, by omega⟩)) (View.ld (iblk m c 2 t) (ln 1 ⟨k.val, by omega⟩)) (View.ld (iblk m c 2 t) (ln 2 ⟨k.val, by omega⟩))
      (View.ld (iblk m c 2 t) (ln 3 ⟨k.val, by omega⟩)) x
      = queries (padded (m ((c : Thread nD τ).loc main_arg0))) (m ((c : Thread nD τ).loc main_arg1)) j := by
  rw [shifted_eq m c t 0, shifted_eq m c t 1, shifted_eq m c t 2, shifted_eq m c t 3, part_eq m c t 0, part_eq m c t 1, part_eq m c t 2,
    part_eq m c t 3]
  exact core3 (row t) k ⟨k.val, by omega⟩ (by simp) _ _ x j hj0 hj1

set_option maxHeartbeats 1000000 in
theorem final0 (c : Dev nD) : (dats m 0 c).arrAt 3 cfg0.N = queries (padded (m ((c : Thread nD τ).loc main_arg0))) (m ((c : Thread nD τ).loc main_arg1)) := by
  refine (dats m 0 c).arrAt_eq_of_covers 3 _ (by decide +kernel) fun t _ y => ?_
  blk_simp
  rw [after0_3]
  dsimp only [outsAt0]
  frame_out
  canon_tiles x h
  case piece0 => exact at3 m c t 7 x _ (by blk_simp [idx t] <;> (try dsimp only) <;> omega) (by blk_simp [idx t] <;> (try dsimp only) <;> omega)
  case piece1 => exact at3 m c t 6 x _ (by blk_simp [idx t] <;> (try dsimp only) <;> omega) (by blk_simp [idx t] <;> (try dsimp only) <;> omega)
  case piece2 => exact at3 m c t 5 x _ (by blk_simp [idx t] <;> (try dsimp only) <;> omega) (by blk_simp [idx t] <;> (try dsimp only) <;> omega)
  case piece3 => exact at3 m c t 4 x _ (by blk_simp [idx t] <;> (try dsimp only) <;> omega) (by blk_simp [idx t] <;> (try dsimp only) <;> omega)
  case piece4 => exact at3 m c t 3 x _ (by blk_simp [idx t] <;> (try dsimp only) <;> omega) (by blk_simp [idx t] <;> (try dsimp only) <;> omega)
  case piece5 => exact at3 m c t 2 x _ (by blk_simp [idx t] <;> (try dsimp only) <;> omega) (by blk_simp [idx t] <;> (try dsimp only) <;> omega)
  case piece6 => exact at3 m c t 1 x _ (by blk_simp [idx t] <;> (try dsimp only) <;> omega) (by blk_simp [idx t] <;> (try dsimp only) <;> omega)
  case piece7 => exact at3 m c t 0 x _ (by blk_simp [idx t] <;> (try dsimp only) <;> omega) (by blk_simp [idx t] <;> (try dsimp only) <;> omega)

/-- A group's tile of the keys, from its shifted rows and weights. -/
abbrev tile4 (x0 x1 x2 x3 : FVec Ideal S256x128 .f32) (w0 w1 w2 w3 : FVec Ideal S1x128 .f32) : FVec Ideal S256x128 .f32 :=
  k0_pay24 (k0_pay23 x0 w0) x1 w1 x2 w2 x3 w3

theorem core4 (t : Fin 32) (k : Fin 8) (o : Fin 32) (ho : o.val = 8 + k.val) (Q : FVec Ideal S8195x4096 .f32) (W : FVec Ideal S4x4096 .f32)
    (x : S256x128.Idx) (j : S8192x1024.Idx) (hj0 : (j 0 : ℕ) = 256 * t.val + x 0) (hj1 : (j 1 : ℕ) = 128 * k.val + x 1) :
    tile4 (cut t o 0 Q) (cut t o 1 Q) (cut t o 2 Q) (cut t o 3 Q) (part o 0 W) (part o 1 W) (part o 2 W) (part o 3 W) x = keys Q W j := by
  pointwise [tile4, k0_pay23, k0_pay24, queries, keys, vals, unit, heads, flat, silu, taps, rows, cut, part]
  try simp only [zero_sub]
  blk_point []

theorem at4 (c : Dev nD) (t : Fin cfg0.N) (k : Fin 8) (x : S256x128.Idx) (j : S8192x1024.Idx)
    (hj0 : (j 0 : ℕ) = 256 * t.val + x 0) (hj1 : (j 1 : ℕ) = 128 * k.val + x 1) :
    tile4 (shifted m c t 0 ⟨8 + k.val, by omega⟩) (shifted m c t 1 ⟨8 + k.val, by omega⟩) (shifted m c t 2 ⟨8 + k.val, by omega⟩) (shifted m c t 3 ⟨8 + k.val, by omega⟩)
      (View.ld (iblk m c 2 t) (ln 0 ⟨8 + k.val, by omega⟩)) (View.ld (iblk m c 2 t) (ln 1 ⟨8 + k.val, by omega⟩)) (View.ld (iblk m c 2 t) (ln 2 ⟨8 + k.val, by omega⟩))
      (View.ld (iblk m c 2 t) (ln 3 ⟨8 + k.val, by omega⟩)) x
      = keys (padded (m ((c : Thread nD τ).loc main_arg0))) (m ((c : Thread nD τ).loc main_arg1)) j := by
  rw [shifted_eq m c t 0, shifted_eq m c t 1, shifted_eq m c t 2, shifted_eq m c t 3, part_eq m c t 0, part_eq m c t 1, part_eq m c t 2,
    part_eq m c t 3]
  exact core4 (row t) k ⟨8 + k.val, by omega⟩ (by simp) _ _ x j hj0 hj1

set_option maxHeartbeats 1000000 in
theorem final1 (c : Dev nD) : (dats m 0 c).arrAt 4 cfg0.N = keys (padded (m ((c : Thread nD τ).loc main_arg0))) (m ((c : Thread nD τ).loc main_arg1)) := by
  refine (dats m 0 c).arrAt_eq_of_covers 4 _ (by decide +kernel) fun t _ y => ?_
  blk_simp
  rw [after0_4]
  dsimp only [outsAt0]
  frame_out
  canon_tiles x h
  case piece0 => exact at4 m c t 7 x _ (by blk_simp [idx t] <;> (try dsimp only) <;> omega) (by blk_simp [idx t] <;> (try dsimp only) <;> omega)
  case piece1 => exact at4 m c t 6 x _ (by blk_simp [idx t] <;> (try dsimp only) <;> omega) (by blk_simp [idx t] <;> (try dsimp only) <;> omega)
  case piece2 => exact at4 m c t 5 x _ (by blk_simp [idx t] <;> (try dsimp only) <;> omega) (by blk_simp [idx t] <;> (try dsimp only) <;> omega)
  case piece3 => exact at4 m c t 4 x _ (by blk_simp [idx t] <;> (try dsimp only) <;> omega) (by blk_simp [idx t] <;> (try dsimp only) <;> omega)
  case piece4 => exact at4 m c t 3 x _ (by blk_simp [idx t] <;> (try dsimp only) <;> omega) (by blk_simp [idx t] <;> (try dsimp only) <;> omega)
  case piece5 => exact at4 m c t 2 x _ (by blk_simp [idx t] <;> (try dsimp only) <;> omega) (by blk_simp [idx t] <;> (try dsimp only) <;> omega)
  case piece6 => exact at4 m c t 1 x _ (by blk_simp [idx t] <;> (try dsimp only) <;> omega) (by blk_simp [idx t] <;> (try dsimp only) <;> omega)
  case piece7 => exact at4 m c t 0 x _ (by blk_simp [idx t] <;> (try dsimp only) <;> omega) (by blk_simp [idx t] <;> (try dsimp only) <;> omega)

/-- A group's tile of the vals, from its shifted rows and weights. -/
abbrev tile5 (x0 x1 x2 x3 : FVec Ideal S256x128 .f32) (w0 w1 w2 w3 : FVec Ideal S1x128 .f32) : FVec Ideal S256x128 .f32 :=
  k0_pay40 (k0_pay39 x0 w0) x1 w1 x2 w2 x3 w3

theorem core5 (t : Fin 32) (k : Fin 16) (o : Fin 32) (ho : o.val = 16 + k.val) (Q : FVec Ideal S8195x4096 .f32) (W : FVec Ideal S4x4096 .f32)
    (x : S256x128.Idx) (j : S8192x2048.Idx) (hj0 : (j 0 : ℕ) = 256 * t.val + x 0) (hj1 : (j 1 : ℕ) = 128 * k.val + x 1) :
    tile5 (cut t o 0 Q) (cut t o 1 Q) (cut t o 2 Q) (cut t o 3 Q) (part o 0 W) (part o 1 W) (part o 2 W) (part o 3 W) x = vals Q W j := by
  pointwise [tile5, k0_pay39, k0_pay40, queries, keys, vals, unit, heads, flat, silu, taps, rows, cut, part]
  try simp only [zero_sub]
  blk_point []

theorem at5 (c : Dev nD) (t : Fin cfg0.N) (k : Fin 16) (x : S256x128.Idx) (j : S8192x2048.Idx)
    (hj0 : (j 0 : ℕ) = 256 * t.val + x 0) (hj1 : (j 1 : ℕ) = 128 * k.val + x 1) :
    tile5 (shifted m c t 0 ⟨16 + k.val, by omega⟩) (shifted m c t 1 ⟨16 + k.val, by omega⟩) (shifted m c t 2 ⟨16 + k.val, by omega⟩) (shifted m c t 3 ⟨16 + k.val, by omega⟩)
      (View.ld (iblk m c 2 t) (ln 0 ⟨16 + k.val, by omega⟩)) (View.ld (iblk m c 2 t) (ln 1 ⟨16 + k.val, by omega⟩)) (View.ld (iblk m c 2 t) (ln 2 ⟨16 + k.val, by omega⟩))
      (View.ld (iblk m c 2 t) (ln 3 ⟨16 + k.val, by omega⟩)) x
      = vals (padded (m ((c : Thread nD τ).loc main_arg0))) (m ((c : Thread nD τ).loc main_arg1)) j := by
  rw [shifted_eq m c t 0, shifted_eq m c t 1, shifted_eq m c t 2, shifted_eq m c t 3, part_eq m c t 0, part_eq m c t 1, part_eq m c t 2,
    part_eq m c t 3]
  exact core5 (row t) k ⟨16 + k.val, by omega⟩ (by simp) _ _ x j hj0 hj1

set_option maxHeartbeats 1000000 in
theorem final2 (c : Dev nD) : (dats m 0 c).arrAt 5 cfg0.N = vals (padded (m ((c : Thread nD τ).loc main_arg0))) (m ((c : Thread nD τ).loc main_arg1)) := by
  refine (dats m 0 c).arrAt_eq_of_covers 5 _ (by decide +kernel) fun t _ y => ?_
  blk_simp
  rw [after0_5]
  dsimp only [outsAt0]
  frame_out
  canon_tiles x h
  case piece0 => exact at5 m c t 15 x _ (by blk_simp [idx t] <;> (try dsimp only) <;> omega) (by blk_simp [idx t] <;> (try dsimp only) <;> omega)
  case piece1 => exact at5 m c t 14 x _ (by blk_simp [idx t] <;> (try dsimp only) <;> omega) (by blk_simp [idx t] <;> (try dsimp only) <;> omega)
  case piece2 => exact at5 m c t 13 x _ (by blk_simp [idx t] <;> (try dsimp only) <;> omega) (by blk_simp [idx t] <;> (try dsimp only) <;> omega)
  case piece3 => exact at5 m c t 12 x _ (by blk_simp [idx t] <;> (try dsimp only) <;> omega) (by blk_simp [idx t] <;> (try dsimp only) <;> omega)
  case piece4 => exact at5 m c t 11 x _ (by blk_simp [idx t] <;> (try dsimp only) <;> omega) (by blk_simp [idx t] <;> (try dsimp only) <;> omega)
  case piece5 => exact at5 m c t 10 x _ (by blk_simp [idx t] <;> (try dsimp only) <;> omega) (by blk_simp [idx t] <;> (try dsimp only) <;> omega)
  case piece6 => exact at5 m c t 9 x _ (by blk_simp [idx t] <;> (try dsimp only) <;> omega) (by blk_simp [idx t] <;> (try dsimp only) <;> omega)
  case piece7 => exact at5 m c t 8 x _ (by blk_simp [idx t] <;> (try dsimp only) <;> omega) (by blk_simp [idx t] <;> (try dsimp only) <;> omega)
  case piece8 => exact at5 m c t 7 x _ (by blk_simp [idx t] <;> (try dsimp only) <;> omega) (by blk_simp [idx t] <;> (try dsimp only) <;> omega)
  case piece9 => exact at5 m c t 6 x _ (by blk_simp [idx t] <;> (try dsimp only) <;> omega) (by blk_simp [idx t] <;> (try dsimp only) <;> omega)
  case piece10 => exact at5 m c t 5 x _ (by blk_simp [idx t] <;> (try dsimp only) <;> omega) (by blk_simp [idx t] <;> (try dsimp only) <;> omega)
  case piece11 => exact at5 m c t 4 x _ (by blk_simp [idx t] <;> (try dsimp only) <;> omega) (by blk_simp [idx t] <;> (try dsimp only) <;> omega)
  case piece12 => exact at5 m c t 3 x _ (by blk_simp [idx t] <;> (try dsimp only) <;> omega) (by blk_simp [idx t] <;> (try dsimp only) <;> omega)
  case piece13 => exact at5 m c t 2 x _ (by blk_simp [idx t] <;> (try dsimp only) <;> omega) (by blk_simp [idx t] <;> (try dsimp only) <;> omega)
  case piece14 => exact at5 m c t 1 x _ (by blk_simp [idx t] <;> (try dsimp only) <;> omega) (by blk_simp [idx t] <;> (try dsimp only) <;> omega)
  case piece15 => exact at5 m c t 0 x _ (by blk_simp [idx t] <;> (try dsimp only) <;> omega) (by blk_simp [idx t] <;> (try dsimp only) <;> omega)

end Cert.ConvIdeal.Total

namespace Cert.ConvProof

theorem frame : Cert.quiescent_Conv := fun m ρ _ => Cert.Conv.Gen.frame m ρ

theorem frame_ideal : Cert.quiescent_ConvIdeal := fun m ρ _ => Cert.ConvIdeal.Gen.frame m ρ

theorem frame_ref_ideal : Cert.quiescent_ConvRefIdeal := fun m ρ _ =>
  (θ_run Cert.ConvRefIdeal.defs _ _).mono (fun r h => ⟨fun c => (h c).2.2.2, sem_eq_zero_of_no_sems (by decide) r.2⟩)
    (Cert.ConvRefIdeal.Value.run (F := Ideal) m ρ)

theorem preserves : Cert.preserves_Conv_ConvIdeal := trivial

theorem algebraic : Cert.algebraic_ConvIdeal_ConvRefIdeal := by
  intro m ρ m' ρ' _ hagree
  refine ⟨_, _, _, Cert.ConvIdeal.Value.run_blocks (F := Ideal) m ρ, ?_⟩
  refine (θ_run Cert.ConvRefIdeal.defs _ _).mono (fun _ h c => ?_) (Cert.ConvRefIdeal.Value.run (F := Ideal) m' ρ')
  obtain ⟨a0, a1⟩ := hagree c
  obtain ⟨h0, h1, h2, kept⟩ := h c
  unfold Cert.ConvRefIdeal.Value.res_main_v58 at h0
  unfold Cert.ConvRefIdeal.Value.res_main_v59 at h1
  unfold Cert.ConvRefIdeal.Value.res_main_v60 at h2
  simp only [a0, a1] at h0 h1 h2
  exact ⟨h0.trans (Cert.ConvIdeal.Total.final0 m c).symm, h1.trans (Cert.ConvIdeal.Total.final1 m c).symm, h2.trans (Cert.ConvIdeal.Total.final2 m c).symm, kept⟩

end Cert.ConvProof

end
-- ==== Proof.ConvPreClaim.lean ====
/-
The derivative of the convolution's SiLU and of the unit queries and keys. A point keeps its block of rows behind the
last rows of the block before it, as the convolution itself does, and works on the 32 groups of 128 columns by themselves.
-/
module

public import proofs.«01_k».proof.Defs
public import proofs.«01_k».proof.Proof.Gen.ConvPre.Frame
public import proofs.«01_k».proof.Proof.Gen.ConvPreIdeal.Value
public import proofs.«01_k».proof.Proof.Gen.ConvPreRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.ConvPreRefIdeal.Total

open Cert.ConvPreRefIdeal Cert.ConvPreRefIdeal.Gen

/-- The convolution's columns of the projection, after three rows of zeros. -/
abbrev padded (P : FVec Ideal S8192x16384 .f32) : FVec Ideal S8195x4096 .f32 :=
  pad S8195x4096 ![3, 0] ![0, 0] ![0, 0] (extractStridedSlice S8192x4096 ![0, 0] P slices_S8192x16384_S8192x4096_0_0)
    (sitofp .f32 (constantI S_ 32 0#32)) pads_S8192x4096_S8195x4096_300_000 h_S_

/-- A tap's weights, for each row. -/
abbrev rows (W : FVec Ideal S1x4096 .f32) : FVec Ideal S8192x4096 .f32 :=
  broadcastInDim S8192x4096 ![0, 1] bcast_S1x4096_S8192x4096_0_1
    (broadcastInDim S1x4096 ![1] bcast_S4096_S1x4096_1 (shapeCast _ W shapeCasts_S1x4096_S4096))

/-- The sum of the four taps. -/
abbrev taps (Q : FVec Ideal S8195x4096 .f32) (W : FVec Ideal S4x4096 .f32) : FVec Ideal S8192x4096 .f32 :=
  addf (addf (addf
    (mulf (extractStridedSlice S8192x4096 ![0, 0] Q slices_S8195x4096_S8192x4096_0_0)
      (rows (extractStridedSlice S1x4096 ![0, 0] W slices_S4x4096_S1x4096_0_0)))
    (mulf (extractStridedSlice S8192x4096 ![1, 0] Q slices_S8195x4096_S8192x4096_1_0)
      (rows (extractStridedSlice S1x4096 ![1, 0] W slices_S4x4096_S1x4096_1_0))))
    (mulf (extractStridedSlice S8192x4096 ![2, 0] Q slices_S8195x4096_S8192x4096_2_0)
      (rows (extractStridedSlice S1x4096 ![2, 0] W slices_S4x4096_S1x4096_2_0))))
    (mulf (extractStridedSlice S8192x4096 ![3, 0] Q slices_S8195x4096_S8192x4096_3_0)
      (rows (extractStridedSlice S1x4096 ![3, 0] W slices_S4x4096_S1x4096_3_0)))

/-- One over one plus the exponential of the negative, entry by entry. -/
abbrev gate (X : FVec Ideal S8192x4096 .f32) : FVec Ideal S8192x4096 .f32 :=
  Host.divf (broadcastInDim S8192x4096 ![] bcast_S_S8192x4096 (constant S_ .f32 0x3F800000#32))
    (addf (broadcastInDim S8192x4096 ![] bcast_S_S8192x4096 (constant S_ .f32 0x3F800000#32)) (Host.exp (Host.negf X)))

/-- The heads of the queries and the keys. -/
abbrev heads (X : FVec Ideal S8192x4096 .f32) : FVec Ideal S8192x16x128 .f32 :=
  shapeCast _ (extractStridedSlice S8192x2048 ![0, 0] (mulf X (gate X)) slices_S8192x4096_S8192x2048_0_0) shapeCasts_S8192x2048_S8192x16x128

/-- The derivatives of the queries and the keys, head by head. -/
abbrev given (D E : FVec Ideal S8192x1024 .f32) : FVec Ideal S8192x16x128 .f32 :=
  concatenate S8192x16x128 1 [⟨S8192x8x128, shapeCast _ D shapeCasts_S8192x1024_S8192x8x128⟩,
    ⟨S8192x8x128, shapeCast _ E shapeCasts_S8192x1024_S8192x8x128⟩] concatenates_S8192x8x128_S8192x8x128_S8192x16x128_d1

/-- The queries' scale, and one for the keys. -/
abbrev scale : FVec Ideal S8192x16x1 .f32 :=
  broadcastInDim S8192x16x1 ![0, 1, 2] bcast_S1x16x1_S8192x16x1_0_1_2 (broadcastInDim S1x16x1 ![1, 2] bcast_S16x1_S1x16x1_1_2
    (concatenate S16x1 0 [⟨S8x1, broadcastInDim S8x1 ![] bcast_S_S8x1 (constant S_ .f32 0x3DB504F3#32)⟩,
      ⟨S8x1, broadcastInDim S8x1 ![] bcast_S_S8x1 (constant S_ .f32 0x3F800000#32)⟩] concatenates_S8x1_S8x1_S16x1_d0))

/-- One over each head's length. -/
abbrev length (H : FVec Ideal S8192x16x128 .f32) : FVec Ideal S8192x16x1 .f32 :=
  Host.rsqrt (addf (broadcastInDim S8192x16x1 ![0, 1] bcast_S8192x16_S8192x16x1_0_1
    (Host.reduceAdd (mulf H H) (constant S_ .f32 0x00000000#32) reducesTo_S8192x16x128_S8192x16_d2 h_S_))
    (broadcastInDim S8192x16x1 ![] bcast_S_S8192x16x1 (constant S_ .f32 0x358637BD#32)))

/-- A number for each head, along its columns. -/
abbrev along (X : FVec Ideal S8192x16x1 .f32) : FVec Ideal S8192x16x128 .f32 :=
  broadcastInDim S8192x16x128 ![0, 1, 2] bcast_S8192x16x1_S8192x16x128_0_1_2 X

/-- The derivatives of the heads before they were made unit vectors. -/
abbrev unscaled (H D : FVec Ideal S8192x16x128 .f32) : FVec Ideal S8192x16x128 .f32 :=
  mulf (along (mulf scale (length H))) (subf D (mulf (mulf H (along (mulf (length H) (length H))))
    (along (broadcastInDim S8192x16x1 ![0, 1] bcast_S8192x16_S8192x16x1_0_1
      (Host.reduceAdd (mulf D H) (constant S_ .f32 0x00000000#32) reducesTo_S8192x16x128_S8192x16_d2 h_S_)))))

/-- The derivative before the SiLU, from that after it. -/
abbrev back (X : FVec Ideal S8192x4096 .f32) (G : FVec Ideal S8192x4096 .f32) : FVec Ideal S8192x4096 .f32 :=
  mulf (mulf G (gate X)) (addf (broadcastInDim S8192x4096 ![] bcast_S_S8192x4096 (constant S_ .f32 0x3F800000#32))
    (mulf X (subf (broadcastInDim S8192x4096 ![] bcast_S_S8192x4096 (constant S_ .f32 0x3F800000#32)) (gate X))))

/-- The whole derivative. -/
abbrev derivative (Q : FVec Ideal S8195x4096 .f32) (W : FVec Ideal S4x4096 .f32) (D E : FVec Ideal S8192x1024 .f32)
    (V : FVec Ideal S8192x2048 .f32) : FVec Ideal S8192x4096 .f32 :=
  back (taps Q W) (concatenate S8192x4096 1
    [⟨S8192x2048, shapeCast _ (unscaled (heads (taps Q W)) (given D E)) shapeCasts_S8192x16x128_S8192x2048⟩, ⟨S8192x2048, V⟩]
    concatenates_S8192x2048_S8192x2048_S8192x4096_d1)

set_option maxHeartbeats 4000000 in
theorem value (m : (ℓ : Loc nD τ sig) → Buf (Elt Ideal) ℓ) (c : Dev nD) : Cert.ConvPreRefIdeal.Value.res_main_v72 m c
    = derivative (padded (m ((c : Thread nD τ).loc main_arg0))) (m ((c : Thread nD τ).loc main_arg1)) (m ((c : Thread nD τ).loc main_arg2))
      (m ((c : Thread nD τ).loc main_arg3)) (m ((c : Thread nD τ).loc main_arg4)) := by
  unfold Cert.ConvPreRefIdeal.Value.res_main_v72
  with_reducible rfl

end Cert.ConvPreRefIdeal.Total

namespace Cert.ConvPreIdeal.Total

open Cert.ConvPreIdeal Cert.ConvPreIdeal.Gen
open Cert.ConvPreRefIdeal (S8195x4096)
open Cert.ConvPreRefIdeal.Total (padded rows taps gate heads given scale length along unscaled back derivative)

variable (m : (ℓ : Loc nD τ sig) → Buf (Elt Ideal) ℓ)

theorem idx : ∀ t : Fin cfg0.N, win0_0.index t = ![t.val, 0] ∧ win0_1.index t = ![32 * t.val - 1, 0] ∧ win0_2.index t = ![0, 0]
    ∧ win0_3.index t = ![t.val, 0] ∧ win0_4.index t = ![t.val, 0] ∧ win0_5.index t = ![t.val, 0]
    ∧ win0_6.index t = ![t.val, 0] :=
  (by decide +kernel : ∀ t : Fin grid0.N, _)

theorem start : ∀ t : Fin cfg0.N, Scalar.cmpi .eq (BitVec.ofNat 32 (grid0.coords t 0).val) 0#32 = if t.val = 0 then 1#1 else 0#1 :=
  (by decide +kernel : ∀ t : Fin grid0.N, _)

/-- The block of rows of a point. -/
abbrev row (t : Fin cfg0.N) : Fin 32 := ⟨t.val, lt_of_lt_of_eq t.isLt N_0⟩

/-- The padded rows of block `t`, moved up by `k` of the taps, in group `o` of columns. -/
def cut (t : Fin 32) (o : Fin 32) (k : Fin 4) (Q : FVec Ideal S8195x4096 .f32) : FVec Ideal S256x128 .f32 := fun i =>
  Q (ix2 ⟨256 * t.val + (i 0).val + k.val, by have h0 : (i 0).val < 256 := (i 0).isLt; omega⟩
    ⟨128 * o.val + (i 1).val, by have h1 : (i 1).val < 128 := (i 1).isLt; omega⟩)

/-- A tap's weights in group `o` of columns. -/
def part (o : Fin 32) (k : Fin 4) (W : FVec Ideal S4x4096 .f32) : FVec Ideal S1x128 .f32 := fun i =>
  W (ix2 k ⟨128 * o.val + (i 1).val, by have h1 : (i 1).val < 128 := (i 1).isLt; omega⟩)

/-- The two stores cover the scratch. -/
theorem both (u : FVec Ideal S256x4096 .f32) (v : FVec Ideal S8x4096 .f32) (y : S264x4096.Idx) :
    ∃ p ∈ ([⟨Rect.unit ![8, 0] ![256, 4096] inb_S264x4096_S256x4096_8_0, u⟩,
      ⟨Rect.unit ![0, 0] ![8, 4096] inb_S264x4096_S8x4096_0_0, v⟩] : List (View.Piece (Elt Ideal) S264x4096 .f32)), y ∈ p.1.set := by
  have h0 : (y 0).val < 264 := (y 0).isLt
  have h1 : (y 1).val < 4096 := (y 1).isLt
  by_cases h : 8 ≤ (y 0).val
  · refine ⟨_, .head _, (Rect.mem_set_unit (inb := inb_S264x4096_S256x4096_8_0)).mpr fun a => ?_⟩
    match a with
    | ⟨0, _⟩ => exact ⟨h, h0⟩
    | ⟨1, _⟩ => exact ⟨Nat.zero_le _, h1⟩
  · refine ⟨_, .tail _ (.head _), (Rect.mem_set_unit (inb := inb_S264x4096_S8x4096_0_0)).mpr fun a => ?_⟩
    match a with
    | ⟨0, _⟩ => exact ⟨Nat.zero_le _, Nat.lt_of_not_le h⟩
    | ⟨1, _⟩ => exact ⟨Nat.zero_le _, h1⟩

/-- What a point's two stores leave, as the padded rows. -/
theorem halo (c : Dev nD) (t : Fin cfg0.N) (y : S264x4096.Idx) (j : S8195x4096.Idx) (hj0 : (j 0 : ℕ) + 5 = 256 * t.val + y 0)
    (hj1 : (j 1 : ℕ) = y 1) :
    View.canon (Val := Elt Ideal) (e := .f32) [⟨Rect.unit ![8, 0] ![256, 4096] inb_S264x4096_S256x4096_8_0, k0_pay3 (iblk m c 0 t)⟩,
      ⟨Rect.unit ![0, 0] ![8, 4096] inb_S264x4096_S8x4096_0_0, k0_pay2 (grid0.coords t) (iblk m c 1 t)⟩] y = padded (m ((c : Thread nD τ).loc main_arg0)) j := by
  canon_tiles x h using both _ _ y
  case piece0 =>
    pointwise [k0_pay3, padded]
    blk_point [iblk, V, idx t]
    exfalso; omega
  case piece1 =>
    by_cases ht : t.val = 0
    · pointwise [k0_pay2, padded, start]
      rw [if_pos ht, dif_neg (by omega)]
      rw [show ∀ a b : Ideal .f32, Scalar.select 1#1 a b = a from fun _ _ => rfl]
      simp [FloatOps.sitofp]
    · pointwise [k0_pay2, padded, start]
      have hj : (j 0).val < 8195 := (j 0).isLt
      have hc : t.val < 32 := (row t).isLt
      rw [if_neg ht, dif_pos (by omega), show ∀ a b : Ideal .f32, Scalar.select 0#1 a b = b from fun _ _ => rfl]
      blk_point [iblk, V, idx t]

/-- A group's columns. -/
abbrev sq (k : Fin 4) (o : Fin 32) : Rect S264x4096 := Rect.unit ![5 + k.val, 128 * o.val] ![256, 128] (by revert k o; decide)
abbrev ln (k : Fin 4) (o : Fin 32) : Rect S4x4096 := Rect.unit ![k.val, 128 * o.val] ![1, 128] (by revert k o; decide)

/-- What a shifted load reads. -/
def shifted (c : Dev nD) (t : Fin cfg0.N) (k : Fin 4) (o : Fin 32) : FVec Ideal S256x128 .f32 :=
  (View.whole cc0_scratch0).readCov (Val := Elt Ideal)
    [⟨Rect.unit ![8, 0] ![256, 4096] inb_S264x4096_S256x4096_8_0, k0_pay3 (iblk m c 0 t)⟩,
      ⟨Rect.unit ![0, 0] ![8, 4096] inb_S264x4096_S8x4096_0_0, k0_pay2 (grid0.coords t) (iblk m c 1 t)⟩] (sq k o).toLoadRect

theorem shifted_eq (c : Dev nD) (t : Fin cfg0.N) (k : Fin 4) (o : Fin 32) : shifted m c t k o = cut (row t) o k (padded (m ((c : Thread nD τ).loc main_arg0))) := by
  unfold shifted
  rw [View.readCov_eq_canon']
  funext i
  refine halo m c t _ _ ?_ ?_
  · show 256 * t.val + (i 0).val + k.val + 5 = 256 * t.val + (5 + k.val + 1 * (i 0).val)
    omega
  · show 128 * o.val + (i 1).val = 128 * o.val + 1 * (i 1).val
    omega

theorem part_eq (c : Dev nD) (t : Fin cfg0.N) (k : Fin 4) (o : Fin 32) :
    (View.ld (iblk m c 2 t) (ln k o) : FVec Ideal S1x128 .f32) = part o k (m ((c : Thread nD τ).loc main_arg1)) := by
  funext i; pointwise [part]; blk_point [iblk, V, idx t]

/-- A head's columns of a block of derivatives. -/
abbrev sd (k : Fin 8) : Rect S256x1024 := Rect.unit ![0, 128 * k.val] ![256, 128] (by revert k; decide)
abbrev sv (k : Fin 16) : Rect S256x2048 := Rect.unit ![0, 128 * k.val] ![256, 128] (by revert k; decide)

/-- A head's columns of the rows of block `t`. -/
def cutd (t : Fin 32) (k : Fin 8) (D : FVec Ideal S8192x1024 .f32) : FVec Ideal S256x128 .f32 := fun i =>
  D (ix2 ⟨256 * t.val + (i 0).val, by have h0 : (i 0).val < 256 := (i 0).isLt; omega⟩
    ⟨128 * k.val + (i 1).val, by have h1 : (i 1).val < 128 := (i 1).isLt; omega⟩)
def cutv (t : Fin 32) (k : Fin 16) (D : FVec Ideal S8192x2048 .f32) : FVec Ideal S256x128 .f32 := fun i =>
  D (ix2 ⟨256 * t.val + (i 0).val, by have h0 : (i 0).val < 256 := (i 0).isLt; omega⟩
    ⟨128 * k.val + (i 1).val, by have h1 : (i 1).val < 128 := (i 1).isLt; omega⟩)

theorem given3 (c : Dev nD) (t : Fin cfg0.N) (k : Fin 8) :
    (View.ld (iblk m c 3 t) (sd k) : FVec Ideal S256x128 .f32) = cutd (row t) k (m ((c : Thread nD τ).loc main_arg2)) := by
  funext i; pointwise [cutd]; blk_point [iblk, V, idx t]

theorem given4 (c : Dev nD) (t : Fin cfg0.N) (k : Fin 8) :
    (View.ld (iblk m c 4 t) (sd k) : FVec Ideal S256x128 .f32) = cutd (row t) k (m ((c : Thread nD τ).loc main_arg3)) := by
  funext i; pointwise [cutd]; blk_point [iblk, V, idx t]

theorem given5 (c : Dev nD) (t : Fin cfg0.N) (k : Fin 16) :
    (View.ld (iblk m c 5 t) (sv k) : FVec Ideal S256x128 .f32) = cutv (row t) k (m ((c : Thread nD τ).loc main_arg4)) := by
  funext i; pointwise [cutv]; blk_point [iblk, V, idx t]

/-- A group's tile, from its shifted rows and weights and its derivatives. -/
abbrev tileQuery (x0 x1 x2 x3 : FVec Ideal S256x128 .f32) (w0 w1 w2 w3 : FVec Ideal S1x128 .f32) (d : FVec Ideal S256x128 .f32) :
    FVec Ideal S256x128 .f32 :=
  k0_pay5 (k0_pay4 x0 w0 x1 w1 x2 w2 x3 w3) (FloatOps.ofBits .f32 0#32) d

theorem coreQuery (t : Fin 32) (k : Fin 8) (o : Fin 32) (ho : o.val = k.val) (Q : FVec Ideal S8195x4096 .f32) (W : FVec Ideal S4x4096 .f32)
    (D E : FVec Ideal S8192x1024 .f32) (V : FVec Ideal S8192x2048 .f32)
    (x : S256x128.Idx) (j : S8192x4096.Idx) (hj0 : (j 0 : ℕ) = 256 * t.val + x 0) (hj1 : (j 1 : ℕ) = 128 * o.val + x 1) :
    tileQuery (cut t o 0 Q) (cut t o 1 Q) (cut t o 2 Q) (cut t o 3 Q) (part o 0 W) (part o 1 W) (part o 2 W) (part o 3 W) (cutd t k D) x
      = derivative Q W D E V j := by
  have hx1 : (x 1).val < 128 := (x 1).isLt
  have hq : (j 1).val / 128 < 8 := by omega
  have hr : (j 1).val < 2048 := by omega
  pointwise [tileQuery, k0_pay4, k0_pay5, derivative, back, unscaled, along, length, scale, given, heads, gate, taps, rows, cut, part, cutd, hq, hr]
  try simp only [zero_sub]
  blk_point []

theorem atQuery (c : Dev nD) (t : Fin cfg0.N) (k : Fin 8) (x : S256x128.Idx) (j : S8192x4096.Idx)
    (hj0 : (j 0 : ℕ) = 256 * t.val + x 0) (hj1 : (j 1 : ℕ) = 128 * (k.val) + x 1) :
    tileQuery (shifted m c t 0 ⟨k.val, by omega⟩) (shifted m c t 1 ⟨k.val, by omega⟩) (shifted m c t 2 ⟨k.val, by omega⟩) (shifted m c t 3 ⟨k.val, by omega⟩)
      (View.ld (iblk m c 2 t) (ln 0 ⟨k.val, by omega⟩)) (View.ld (iblk m c 2 t) (ln 1 ⟨k.val, by omega⟩)) (View.ld (iblk m c 2 t) (ln 2 ⟨k.val, by omega⟩))
      (View.ld (iblk m c 2 t) (ln 3 ⟨k.val, by omega⟩)) (View.ld (iblk m c 3 t) (sd k)) x
      = derivative (padded (m ((c : Thread nD τ).loc main_arg0))) (m ((c : Thread nD τ).loc main_arg1)) (m ((c : Thread nD τ).loc main_arg2)) (m ((c : Thread nD τ).loc main_arg3)) (m ((c : Thread nD τ).loc main_arg4)) j := by
  rw [shifted_eq m c t 0, shifted_eq m c t 1, shifted_eq m c t 2, shifted_eq m c t 3, part_eq m c t 0, part_eq m c t 1, part_eq m c t 2,
    part_eq m c t 3, given3]
  exact coreQuery (row t) k ⟨k.val, by omega⟩ (by simp) _ _ _ _ _ x j hj0 (by simpa using hj1)

/-- A group's tile, from its shifted rows and weights and its derivatives. -/
abbrev tileKey (x0 x1 x2 x3 : FVec Ideal S256x128 .f32) (w0 w1 w2 w3 : FVec Ideal S1x128 .f32) (d : FVec Ideal S256x128 .f32) :
    FVec Ideal S256x128 .f32 :=
  k0_pay52 (k0_pay51 x0 w0 x1 w1 x2 w2) x3 w3 d

theorem coreKey (t : Fin 32) (k : Fin 8) (o : Fin 32) (ho : o.val = 8 + k.val) (Q : FVec Ideal S8195x4096 .f32) (W : FVec Ideal S4x4096 .f32)
    (D E : FVec Ideal S8192x1024 .f32) (V : FVec Ideal S8192x2048 .f32)
    (x : S256x128.Idx) (j : S8192x4096.Idx) (hj0 : (j 0 : ℕ) = 256 * t.val + x 0) (hj1 : (j 1 : ℕ) = 128 * o.val + x 1) :
    tileKey (cut t o 0 Q) (cut t o 1 Q) (cut t o 2 Q) (cut t o 3 Q) (part o 0 W) (part o 1 W) (part o 2 W) (part o 3 W) (cutd t k E) x
      = derivative Q W D E V j := by
  have hx1 : (x 1).val < 128 := (x 1).isLt
  have hq : ¬ (j 1).val / 128 < 8 := by omega
  have hr : (j 1).val < 2048 := by omega
  pointwise [tileKey, k0_pay51, k0_pay52, derivative, back, unscaled, along, length, scale, given, heads, gate, taps, rows, cut, part, cutd, hq, hr]
  try simp only [zero_sub]
  blk_point []

theorem atKey (c : Dev nD) (t : Fin cfg0.N) (k : Fin 8) (x : S256x128.Idx) (j : S8192x4096.Idx)
    (hj0 : (j 0 : ℕ) = 256 * t.val + x 0) (hj1 : (j 1 : ℕ) = 128 * (8 + k.val) + x 1) :
    tileKey (shifted m c t 0 ⟨8 + k.val, by omega⟩) (shifted m c t 1 ⟨8 + k.val, by omega⟩) (shifted m c t 2 ⟨8 + k.val, by omega⟩) (shifted m c t 3 ⟨8 + k.val, by omega⟩)
      (View.ld (iblk m c 2 t) (ln 0 ⟨8 + k.val, by omega⟩)) (View.ld (iblk m c 2 t) (ln 1 ⟨8 + k.val, by omega⟩)) (View.ld (iblk m c 2 t) (ln 2 ⟨8 + k.val, by omega⟩))
      (View.ld (iblk m c 2 t) (ln 3 ⟨8 + k.val, by omega⟩)) (View.ld (iblk m c 4 t) (sd k)) x
      = derivative (padded (m ((c : Thread nD τ).loc main_arg0))) (m ((c : Thread nD τ).loc main_arg1)) (m ((c : Thread nD τ).loc main_arg2)) (m ((c : Thread nD τ).loc main_arg3)) (m ((c : Thread nD τ).loc main_arg4)) j := by
  rw [shifted_eq m c t 0, shifted_eq m c t 1, shifted_eq m c t 2, shifted_eq m c t 3, part_eq m c t 0, part_eq m c t 1, part_eq m c t 2,
    part_eq m c t 3, given4]
  exact coreKey (row t) k ⟨8 + k.val, by omega⟩ (by simp) _ _ _ _ _ x j hj0 (by simpa using hj1)

/-- A group's tile, from its shifted rows and weights and its derivatives. -/
abbrev tileValue (x0 x1 x2 x3 : FVec Ideal S256x128 .f32) (w0 w1 w2 w3 : FVec Ideal S1x128 .f32) (d : FVec Ideal S256x128 .f32) :
    FVec Ideal S256x128 .f32 :=
  k0_pay117 (k0_pay115 x0 w0 x1 w1 x2 w2 x3 w3) (k0_pay116 x0 w0 x1 w1 x2 w2 x3 w3) d

theorem coreValue (t : Fin 32) (k : Fin 16) (o : Fin 32) (ho : o.val = 16 + k.val) (Q : FVec Ideal S8195x4096 .f32) (W : FVec Ideal S4x4096 .f32)
    (D E : FVec Ideal S8192x1024 .f32) (V : FVec Ideal S8192x2048 .f32)
    (x : S256x128.Idx) (j : S8192x4096.Idx) (hj0 : (j 0 : ℕ) = 256 * t.val + x 0) (hj1 : (j 1 : ℕ) = 128 * o.val + x 1) :
    tileValue (cut t o 0 Q) (cut t o 1 Q) (cut t o 2 Q) (cut t o 3 Q) (part o 0 W) (part o 1 W) (part o 2 W) (part o 3 W) (cutv t k V) x
      = derivative Q W D E V j := by
  have hx1 : (x 1).val < 128 := (x 1).isLt
  have hr : ¬ (j 1).val < 2048 := by omega
  pointwise [tileValue, k0_pay115, k0_pay116, k0_pay117, derivative, back, unscaled, along, length, scale, given, heads, gate, taps, rows, cut, part, cutv, hr]
  try simp only [zero_sub]
  blk_point []

theorem atValue (c : Dev nD) (t : Fin cfg0.N) (k : Fin 16) (x : S256x128.Idx) (j : S8192x4096.Idx)
    (hj0 : (j 0 : ℕ) = 256 * t.val + x 0) (hj1 : (j 1 : ℕ) = 128 * (16 + k.val) + x 1) :
    tileValue (shifted m c t 0 ⟨16 + k.val, by omega⟩) (shifted m c t 1 ⟨16 + k.val, by omega⟩) (shifted m c t 2 ⟨16 + k.val, by omega⟩) (shifted m c t 3 ⟨16 + k.val, by omega⟩)
      (View.ld (iblk m c 2 t) (ln 0 ⟨16 + k.val, by omega⟩)) (View.ld (iblk m c 2 t) (ln 1 ⟨16 + k.val, by omega⟩)) (View.ld (iblk m c 2 t) (ln 2 ⟨16 + k.val, by omega⟩))
      (View.ld (iblk m c 2 t) (ln 3 ⟨16 + k.val, by omega⟩)) (View.ld (iblk m c 5 t) (sv k)) x
      = derivative (padded (m ((c : Thread nD τ).loc main_arg0))) (m ((c : Thread nD τ).loc main_arg1)) (m ((c : Thread nD τ).loc main_arg2)) (m ((c : Thread nD τ).loc main_arg3)) (m ((c : Thread nD τ).loc main_arg4)) j := by
  rw [shifted_eq m c t 0, shifted_eq m c t 1, shifted_eq m c t 2, shifted_eq m c t 3, part_eq m c t 0, part_eq m c t 1, part_eq m c t 2,
    part_eq m c t 3, given5]
  exact coreValue (row t) k ⟨16 + k.val, by omega⟩ (by simp) _ _ _ _ _ x j hj0 (by simpa using hj1)

set_option maxHeartbeats 2000000 in
theorem final (c : Dev nD) : (dats m 0 c).arrAt 6 cfg0.N = derivative (padded (m ((c : Thread nD τ).loc main_arg0))) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  dsimp only [outsAt0]
  frame_out
  canon_tiles x h
  case piece0 => exact atValue m c t 15 x _ (by blk_simp [idx t] <;> (try dsimp only) <;> omega) (by blk_simp [idx t] <;> (try dsimp only) <;> omega)
  case piece1 => exact atValue m c t 14 x _ (by blk_simp [idx t] <;> (try dsimp only) <;> omega) (by blk_simp [idx t] <;> (try dsimp only) <;> omega)
  case piece2 => exact atValue m c t 13 x _ (by blk_simp [idx t] <;> (try dsimp only) <;> omega) (by blk_simp [idx t] <;> (try dsimp only) <;> omega)
  case piece3 => exact atValue m c t 12 x _ (by blk_simp [idx t] <;> (try dsimp only) <;> omega) (by blk_simp [idx t] <;> (try dsimp only) <;> omega)
  case piece4 => exact atValue m c t 11 x _ (by blk_simp [idx t] <;> (try dsimp only) <;> omega) (by blk_simp [idx t] <;> (try dsimp only) <;> omega)
  case piece5 => exact atValue m c t 10 x _ (by blk_simp [idx t] <;> (try dsimp only) <;> omega) (by blk_simp [idx t] <;> (try dsimp only) <;> omega)
  case piece6 => exact atValue m c t 9 x _ (by blk_simp [idx t] <;> (try dsimp only) <;> omega) (by blk_simp [idx t] <;> (try dsimp only) <;> omega)
  case piece7 => exact atValue m c t 8 x _ (by blk_simp [idx t] <;> (try dsimp only) <;> omega) (by blk_simp [idx t] <;> (try dsimp only) <;> omega)
  case piece8 => exact atValue m c t 7 x _ (by blk_simp [idx t] <;> (try dsimp only) <;> omega) (by blk_simp [idx t] <;> (try dsimp only) <;> omega)
  case piece9 => exact atValue m c t 6 x _ (by blk_simp [idx t] <;> (try dsimp only) <;> omega) (by blk_simp [idx t] <;> (try dsimp only) <;> omega)
  case piece10 => exact atValue m c t 5 x _ (by blk_simp [idx t] <;> (try dsimp only) <;> omega) (by blk_simp [idx t] <;> (try dsimp only) <;> omega)
  case piece11 => exact atValue m c t 4 x _ (by blk_simp [idx t] <;> (try dsimp only) <;> omega) (by blk_simp [idx t] <;> (try dsimp only) <;> omega)
  case piece12 => exact atValue m c t 3 x _ (by blk_simp [idx t] <;> (try dsimp only) <;> omega) (by blk_simp [idx t] <;> (try dsimp only) <;> omega)
  case piece13 => exact atValue m c t 2 x _ (by blk_simp [idx t] <;> (try dsimp only) <;> omega) (by blk_simp [idx t] <;> (try dsimp only) <;> omega)
  case piece14 => exact atValue m c t 1 x _ (by blk_simp [idx t] <;> (try dsimp only) <;> omega) (by blk_simp [idx t] <;> (try dsimp only) <;> omega)
  case piece15 => exact atValue m c t 0 x _ (by blk_simp [idx t] <;> (try dsimp only) <;> omega) (by blk_simp [idx t] <;> (try dsimp only) <;> omega)
  case piece16 => exact atKey m c t 7 x _ (by blk_simp [idx t] <;> (try dsimp only) <;> omega) (by blk_simp [idx t] <;> (try dsimp only) <;> omega)
  case piece17 => exact atKey m c t 6 x _ (by blk_simp [idx t] <;> (try dsimp only) <;> omega) (by blk_simp [idx t] <;> (try dsimp only) <;> omega)
  case piece18 => exact atKey m c t 5 x _ (by blk_simp [idx t] <;> (try dsimp only) <;> omega) (by blk_simp [idx t] <;> (try dsimp only) <;> omega)
  case piece19 => exact atKey m c t 4 x _ (by blk_simp [idx t] <;> (try dsimp only) <;> omega) (by blk_simp [idx t] <;> (try dsimp only) <;> omega)
  case piece20 => exact atKey m c t 3 x _ (by blk_simp [idx t] <;> (try dsimp only) <;> omega) (by blk_simp [idx t] <;> (try dsimp only) <;> omega)
  case piece21 => exact atKey m c t 2 x _ (by blk_simp [idx t] <;> (try dsimp only) <;> omega) (by blk_simp [idx t] <;> (try dsimp only) <;> omega)
  case piece22 => exact atKey m c t 1 x _ (by blk_simp [idx t] <;> (try dsimp only) <;> omega) (by blk_simp [idx t] <;> (try dsimp only) <;> omega)
  case piece23 => exact atKey m c t 0 x _ (by blk_simp [idx t] <;> (try dsimp only) <;> omega) (by blk_simp [idx t] <;> (try dsimp only) <;> omega)
  case piece24 => exact atQuery m c t 7 x _ (by blk_simp [idx t] <;> (try dsimp only) <;> omega) (by blk_simp [idx t] <;> (try dsimp only) <;> omega)
  case piece25 => exact atQuery m c t 6 x _ (by blk_simp [idx t] <;> (try dsimp only) <;> omega) (by blk_simp [idx t] <;> (try dsimp only) <;> omega)
  case piece26 => exact atQuery m c t 5 x _ (by blk_simp [idx t] <;> (try dsimp only) <;> omega) (by blk_simp [idx t] <;> (try dsimp only) <;> omega)
  case piece27 => exact atQuery m c t 4 x _ (by blk_simp [idx t] <;> (try dsimp only) <;> omega) (by blk_simp [idx t] <;> (try dsimp only) <;> omega)
  case piece28 => exact atQuery m c t 3 x _ (by blk_simp [idx t] <;> (try dsimp only) <;> omega) (by blk_simp [idx t] <;> (try dsimp only) <;> omega)
  case piece29 => exact atQuery m c t 2 x _ (by blk_simp [idx t] <;> (try dsimp only) <;> omega) (by blk_simp [idx t] <;> (try dsimp only) <;> omega)
  case piece30 => exact atQuery m c t 1 x _ (by blk_simp [idx t] <;> (try dsimp only) <;> omega) (by blk_simp [idx t] <;> (try dsimp only) <;> omega)
  case piece31 => exact atQuery m c t 0 x _ (by blk_simp [idx t] <;> (try dsimp only) <;> omega) (by blk_simp [idx t] <;> (try dsimp only) <;> omega)

end Cert.ConvPreIdeal.Total

namespace Cert.ConvPreProof

theorem frame : Cert.quiescent_ConvPre := fun m ρ _ => Cert.ConvPre.Gen.frame m ρ

theorem frame_ideal : Cert.quiescent_ConvPreIdeal := fun m ρ _ => Cert.ConvPreIdeal.Gen.frame m ρ

theorem frame_ref_ideal : Cert.quiescent_ConvPreRefIdeal := fun m ρ _ =>
  (θ_run Cert.ConvPreRefIdeal.defs _ _).mono (fun r h => ⟨fun c => (h c).2, sem_eq_zero_of_no_sems (by decide) r.2⟩)
    (Cert.ConvPreRefIdeal.Value.run (F := Ideal) m ρ)

theorem preserves : Cert.preserves_ConvPre_ConvPreIdeal := trivial

theorem algebraic : Cert.algebraic_ConvPreIdeal_ConvPreRefIdeal := by
  intro m ρ m' ρ' _ hagree
  refine ⟨_, Cert.ConvPreIdeal.Value.run_blocks (F := Ideal) m ρ, ?_⟩
  refine (θ_run Cert.ConvPreRefIdeal.defs _ _).mono (fun _ h c => ?_) (Cert.ConvPreRefIdeal.Value.run (F := Ideal) m' ρ')
  obtain ⟨a0, a1, a2, a3, a4⟩ := hagree c
  obtain ⟨h0, kept⟩ := h c
  rw [Cert.ConvPreRefIdeal.Total.value, a0, a1, a2, a3, a4] at h0
  exact ⟨h0.trans (Cert.ConvPreIdeal.Total.final m c).symm, kept⟩

end Cert.ConvPreProof

end
-- ==== Proof.PairClaim.lean ====
/-
The sum of a pair's two parts of a gradient. The kernel picks the plane of the received parts by a number that it reads
before the grid starts, the core's own; the reference chooses between the two planes.
-/
module

public import proofs.«01_k».proof.Defs
public import proofs.«01_k».proof.Proof.Gen.PairIn.Frame
public import proofs.«01_k».proof.Proof.Gen.PairInIdeal.Frame
public import proofs.«01_k».proof.Proof.Gen.PairInRefIdeal.Run
public import proofs.«01_k».proof.Proof.Gen.PairGate.Frame
public import proofs.«01_k».proof.Proof.Gen.PairGateIdeal.Frame
public import proofs.«01_k».proof.Proof.Gen.PairGateRefIdeal.Run
public import proofs.«01_k».proof.Proof.Gen.PairDown.Frame
public import proofs.«01_k».proof.Proof.Gen.PairDownIdeal.Frame
public import proofs.«01_k».proof.Proof.Gen.PairDownRefIdeal.Run
public import proofs.«01_k».proof.Proof.Gen.PairOut.Frame
public import proofs.«01_k».proof.Proof.Gen.PairOutIdeal.Frame
public import proofs.«01_k».proof.Proof.Gen.PairOutRefIdeal.Run
public import Idealize.ShloMosaic.Lib.Pipeline.ValueKit
public import proofs.«01_k».proof.Proof.Gen.Pre_a_core
public import proofs.«01_k».proof.Proof.Gen.Pre_a_core_down
public import proofs.«01_k».proof.Proof.Gen.Pre_a_core_gate
public import proofs.«01_k».proof.Proof.Gen.Pre_a_core_in
public import Idealize.ShloMosaic.Lib.StableHlo.Predicate
public import Idealize.ShloMosaic.Lib.Quiescent

@[expose] public section

set_option maxRecDepth 16384

noncomputable section

open Idealize.ShloMosaic Idealize.ShloMosaic.TcCoe Idealize.SL.Sem

namespace Cert.PairOutProof

/-- A number from 0 to 1, read signed, is a plane's. -/
theorem plane_of_bounds {v : BitVec 32} (h : IntOp.andi (IntOp.cmpi .sge v 0#32) (IntOp.cmpi .sle v 1#32) = 1#1) :
    ∃ q : Fin 2, v.toNat = q := by
  have andi_one (a b : BitVec 1) : IntOp.andi a b = 1#1 ↔ a = 1#1 ∧ b = 1#1 := by revert a b; decide
  obtain ⟨h0, h1⟩ := (andi_one _ _).mp h
  have b0 : (0#32).sle v = true := (StableHlo.Predicate.ofBool_eq_one_iff _).mp h0
  have b1 : v.sle 1#32 = true := (StableHlo.Predicate.ofBool_eq_one_iff _).mp h1
  simp only [BitVec.sle, decide_eq_true_eq] at b0 b1
  have e := BitVec.toInt_eq_toNat_cond v
  have hv := v.isLt
  have z0 : (0#32 : BitVec 32).toInt = 0 := by decide
  have z1 : (1#32 : BitVec 32).toInt = 1 := by decide
  exact ⟨⟨v.toNat, by split at e <;> omega⟩, rfl⟩

end Cert.PairOutProof

namespace Cert.PairOutRefIdeal.Total

open Cert.PairOutRefIdeal Cert.PairOutRefIdeal.Gen

/-- One of the two planes. -/
abbrev plane0 (G : FVec Ideal S4x2x256x2048 .bf16) : FVec Ideal S4x256x2048 .f32 :=
  extf .f32 (shapeCast S4x256x2048 (extractStridedSlice S4x1x256x2048 ![0, 0, 0, 0] G slices_S4x2x256x2048_S4x1x256x2048_0_0_0_0) shapeCasts_S4x1x256x2048_S4x256x2048) bitsLt_bf16_f32

abbrev plane1 (G : FVec Ideal S4x2x256x2048 .bf16) : FVec Ideal S4x256x2048 .f32 :=
  extf .f32 (shapeCast S4x256x2048 (extractStridedSlice S4x1x256x2048 ![0, 1, 0, 0] G slices_S4x2x256x2048_S4x1x256x2048_0_1_0_0) shapeCasts_S4x1x256x2048_S4x256x2048) bitsLt_bf16_f32

/-- The chosen plane and the other core's part, added. -/
abbrev total (C : IVec S1 32) (G : FVec Ideal S4x2x256x2048 .bf16) (R : FVec Ideal S4x256x2048 .bf16) : FVec Ideal S4x256x2048 .bf16 :=
  truncf .bf16 (addf (select (broadcastInDim S4x256x2048 ![] bcast_S_S4x256x2048 (cmpi .eq (shapeCast S_ C shapeCasts_S1_S_) (constantI S_ 32 0#32)))
    (plane0 G) (plane1 G)) (extf .f32 R bitsLt_bf16_f32)) bitsLt_bf16_f32

theorem total_apply (C : IVec S1 32) (G : FVec Ideal S4x2x256x2048 .bf16) (R : FVec Ideal S4x256x2048 .bf16) (j : S4x256x2048.Idx) (q : Fin 2)
    (hq : (C (ix1 0)).toNat = q) : total C G R j = G (ix4 (j 0) q (j 1) (j 2)) + R j := by
  pointwise [total, plane0, plane1]
  have h : q = 0 ∨ q = 1 := by omega
  rcases h with rfl | rfl
  · rw [show C (ix1 0) = 0#32 from BitVec.eq_of_toNat_eq hq]; rfl
  · rw [show C (ix1 0) = 1#32 from BitVec.eq_of_toNat_eq hq]; rfl

end Cert.PairOutRefIdeal.Total

namespace Cert.PairOutIdeal.Total

open Cert.PairOutIdeal Cert.PairOutIdeal.Gen

section

variable {F : FTy → Type} [FloatOps F] (m : (ℓ : Loc nD τ sig) → Buf (Elt F) ℓ)

theorem lone (i j : S1.Idx) : i = j :=
  funext fun a => match a with | ⟨0, _⟩ => Subsingleton.elim (α := Fin 1) _ _

/-- The number read before the grid starts. -/
theorem word (c : Dev nD) : Pipeline.Prefetch.Contents.at (tbl m) 0 (Rect.unit (s := S1) ![0] S1.size inb_S1_S1_0) numel1_S1
    = m ((c : Thread nD τ).loc main_arg0) (ix1 0) := by
  obtain rfl : c = 0 := Subsingleton.elim _ _
  exact congrArg (m (((0 : Dev nD) : Thread nD τ).loc main_arg0)) (lone _ _)

theorem ok (q : Fin 2) (hq : (m (((0 : Dev nD) : Thread nD τ).loc main_arg0) (ix1 0)).toNat = q) : Ok m := by
  intro i
  refine ⟨fun a => ?_, .inr (Affine.block_words_dvd (of_decide_eq_true rfl) (by decide))⟩
  match a with
  | ⟨0, _⟩ => exact hinb0_2 i 0
  | ⟨1, _⟩ =>
    have h : cc0_transform_0 inb_S1_S1_0 numel1_S1 (tbl m) i 1 = q := (congrArg BitVec.toNat (word m 0)).trans hq
    show (cc0_transform_0 inb_S1_S1_0 numel1_S1 (tbl m) i 1 + 1) * 1 ≤ 2
    rw [h]
    omega
  | ⟨2, _⟩ => exact hinb0_2 i 1
  | ⟨3, _⟩ => exact hinb0_2 i 2

end

variable (m : (ℓ : Loc nD τ sig) → Buf (Elt Ideal) ℓ)

theorem lead (y : S1x256x2048.Idx) : (y 0 : ℕ) = 0 := Nat.lt_one_iff.mp (y 0).isLt

theorem pay (x0 : FVec Ideal S1x1x256x2048 .bf16) (x1 : FVec Ideal S1x256x2048 .bf16) (y : S1x256x2048.Idx) :
    k0_pay1 x0 x1 y = x0 (ix4 0 0 (y 1) (y 2)) + x1 y := by
  pointwise [k0_pay1]

theorem out (c : Dev nD) (i : grid0.Coords) (b3 : Memref sig .tc .vmem S1x1x256x2048 .bf16) (h3 : b3.IsWhole)
    (b4 : Memref sig .tc .vmem S1x256x2048 .bf16) (h4 : b4.IsWhole) (b5 : Memref sig .tc .vmem S1x256x2048 .bf16) (h5 : b5.IsWhole)
    (x0 : FVec Ideal S1x1x256x2048 .bf16) (x1 : FVec Ideal S1x256x2048 .bf16) (z : TbBuf0 (F := Ideal) c tbM0_0) :
    out0_A_2 c i b3 h3 b4 h4 b5 h5 x0 x1 z = k0_pay1 (F := Ideal) x0 x1 := by
  frame_out

theorem covers (a : (pcfg0 (F := Ideal)).Adm) : ((cfg0 a).win 2).Covers := of_decide_eq_true (by sl_kernel_rfl)

theorem place0 (hO : Ok m) (t : Fin (cfgM m hO).N) (y : S1x1x256x2048.Idx) (a : Fin 4) :
    (((((cfgM m hO).win 0).blk t).view.emb y a : Fin _) : ℕ)
      = (cc0_transform_0 inb_S1_S1_0 numel1_S1 (tbl m) (grid0.coords t) a) * S1x1x256x2048.size a + y a :=
  Pipeline.Window.rect_emb_val ((cfgM m hO).win 0) t y a rfl

theorem place1 (hO : Ok m) (t : Fin (cfgM m hO).N) (y : S1x256x2048.Idx) (a : Fin 3) :
    (((((cfgM m hO).win 1).blk t).view.emb y a : Fin _) : ℕ)
      = (cc0_transform_1 (grid0.coords t) a) * S1x256x2048.size a + y a :=
  Pipeline.Window.rect_emb_val ((cfgM m hO).win 1) t y a rfl

theorem place2 (hO : Ok m) (t : Fin (cfgM m hO).N) (y : S1x256x2048.Idx) (a : Fin 3) :
    (((((cfgM m hO).win 2).blk t).view.emb y a : Fin _) : ℕ)
      = (cc0_transform_2 (grid0.coords t) a) * S1x256x2048.size a + y a :=
  Pipeline.Window.rect_emb_val ((cfgM m hO).win 2) t y a rfl

theorem final (hO : Ok m) (c : Dev nD) (q : Fin 2) (hq : (m ((c : Thread nD τ).loc main_arg0) (ix1 0)).toNat = q) :
    (dats m hO 0 c).arrAt 2 (cfgM m hO).N
      = Cert.PairOutRefIdeal.Total.total (m ((c : Thread nD τ).loc main_arg0)) (m ((c : Thread nD τ).loc main_arg1)) (m ((c : Thread nD τ).loc main_arg2)) := by
  refine (dats m hO 0 c).arrAt_eq_of_covers 2 _ (covers _) fun t hf y => ?_
  blk_simp
  rw [after0_2]
  unfold outsAt0
  refine (congrFun (out c _ _ _ _ _ _ _ (iblk m hO c 0 t) (iblk m hO c 1 t) _) y).trans ?_
  refine (pay (iblk m hO c 0 t) (iblk m hO c 1 t) y).trans ?_
  refine .trans ?_ (Cert.PairOutRefIdeal.Total.total_apply _ _ _ _ q hq).symm
  refine congrArg₂ (· + ·) (congrArg (m ((c : Thread nD τ).loc main_arg1)) (funext fun a => Fin.ext ?_))
    (congrArg (m ((c : Thread nD τ).loc main_arg2)) (funext fun a => Fin.ext ?_))
  · refine (place0 m hO t _ a).trans ?_
    match a with
    | ⟨0, _⟩ =>
      refine .trans ?_ (place2 m hO t y 0).symm
      exact congrArg (_ + ·) (lead y).symm
    | ⟨1, _⟩ =>
      refine .trans ?_ hq
      exact (Nat.mul_one _).trans (congrArg BitVec.toNat (word m c))
    | ⟨2, _⟩ => exact (place2 m hO t y 1).symm
    | ⟨3, _⟩ => exact (place2 m hO t y 2).symm
  · refine (place1 m hO t _ a).trans (place2 m hO t _ a).symm

/-- After the run the result is what the blocks make it, and the arguments are as launched. -/
theorem run_blocks (ρ : Dev nD → PrngReg) (hO : Ok m) : θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 2, h.2 c⟩)
    (θ_run_and (run_main m ρ hO) (unchanged m ρ hO))

end Cert.PairOutIdeal.Total

namespace Cert.PairOutProof

/-- The precondition says that the number is a plane's. -/
theorem named {F : FTy → Type} [FloatOps F] (C : IVec Cert.Pre_a_core.S1 32) (G : FVec F Cert.Pre_a_core.S4x2x256x2048 .bf16)
    (R : FVec F Cert.Pre_a_core.S4x256x2048 .bf16) (h : Cert.Pre_a_core.fn C G R = fun _ => 1#1) : ∃ q : Fin 2, (C (ix1 0)).toNat = q := by
  have e := congrFun h (ix1 0)
  simp only [Cert.Pre_a_core.fn, cmpi, andi, broadcastInDim, constantI] at e
  exact plane_of_bounds e

theorem ok (m : (ℓ : Loc Cert.PairOut.nD Cert.PairOut.τ Cert.PairOut.sig) → Buf (Elt Bits) ℓ)
    (h : Cert.Pre_PairOut m) : Cert.PairOut.Gen.Ok m := by
  obtain ⟨q, hq⟩ := named _ _ _ (h 0)
  exact Cert.PairOutIdeal.Total.ok (F := Bits) m q hq

theorem ok_ideal (m : (ℓ : Loc Cert.PairOutIdeal.nD Cert.PairOutIdeal.τ Cert.PairOutIdeal.sig) → Buf (Elt Ideal) ℓ)
    (h : Cert.Pre_PairOutIdeal m) : Cert.PairOutIdeal.Gen.Ok m := by
  obtain ⟨q, hq⟩ := named _ _ _ (h 0)
  exact Cert.PairOutIdeal.Total.ok m q hq

theorem frame : Cert.quiescent_PairOut := fun m ρ h => Cert.PairOut.Gen.frame m ρ (ok m h)

theorem frame_ideal : Cert.quiescent_PairOutIdeal := fun m ρ h => Cert.PairOutIdeal.Gen.frame m ρ (ok_ideal m h)

theorem frame_ref_ideal : Cert.quiescent_PairOutRefIdeal := fun m ρ _ =>
  (θ_run Cert.PairOutRefIdeal.defs _ _).mono (fun r h => ⟨fun c => (h c).2, sem_eq_zero_of_no_sems (by decide) r.2⟩)
    (Cert.PairOutRefIdeal.Value.run (F := Ideal) m ρ)

theorem frame_ref_ideal_pre : Cert.quiescent_PairOutRefIdeal_pre_a_core := fun m ρ _ => frame_ref_ideal m ρ trivial

theorem preserves : Cert.preserves_PairOut_PairOutIdeal := trivial

theorem algebraic : Cert.algebraic_PairOutIdeal_PairOutRefIdeal := by
  intro m ρ m' ρ' hpre hagree
  have hO := ok_ideal m hpre
  refine ⟨_, Cert.PairOutIdeal.Total.run_blocks m ρ hO, ?_⟩
  refine (θ_run Cert.PairOutRefIdeal.defs _ _).mono (fun _ h c => ?_) (Cert.PairOutRefIdeal.Value.run (F := Ideal) m' ρ')
  obtain ⟨q, hq⟩ := named _ _ _ (hpre c)
  obtain ⟨a0, a1, a2⟩ := hagree c
  obtain ⟨h0, kept⟩ := h c
  simp only [a0, a1, a2] at h0
  exact ⟨h0.trans (Cert.PairOutIdeal.Total.final m hO c q hq).symm, kept⟩

end Cert.PairOutProof

namespace Cert.PairInRefIdeal.Total

open Cert.PairInRefIdeal Cert.PairInRefIdeal.Gen

/-- One of the two planes. -/
abbrev plane0 (G : FVec Ideal S4x2x1024x4100 .bf16) : FVec Ideal S4x1024x4100 .f32 :=
  extf .f32 (shapeCast S4x1024x4100 (extractStridedSlice S4x1x1024x4100 ![0, 0, 0, 0] G slices_S4x2x1024x4100_S4x1x1024x4100_0_0_0_0) shapeCasts_S4x1x1024x4100_S4x1024x4100) bitsLt_bf16_f32

abbrev plane1 (G : FVec Ideal S4x2x1024x4100 .bf16) : FVec Ideal S4x1024x4100 .f32 :=
  extf .f32 (shapeCast S4x1024x4100 (extractStridedSlice S4x1x1024x4100 ![0, 1, 0, 0] G slices_S4x2x1024x4100_S4x1x1024x4100_0_1_0_0) shapeCasts_S4x1x1024x4100_S4x1024x4100) bitsLt_bf16_f32

/-- The chosen plane and the other core's part, added. -/
abbrev total (C : IVec S1 32) (G : FVec Ideal S4x2x1024x4100 .bf16) (R : FVec Ideal S4x1024x4100 .bf16) : FVec Ideal S4x1024x4100 .bf16 :=
  truncf .bf16 (addf (select (broadcastInDim S4x1024x4100 ![] bcast_S_S4x1024x4100 (cmpi .eq (shapeCast S_ C shapeCasts_S1_S_) (constantI S_ 32 0#32)))
    (plane0 G) (plane1 G)) (extf .f32 R bitsLt_bf16_f32)) bitsLt_bf16_f32

theorem total_apply (C : IVec S1 32) (G : FVec Ideal S4x2x1024x4100 .bf16) (R : FVec Ideal S4x1024x4100 .bf16) (j : S4x1024x4100.Idx) (q : Fin 2)
    (hq : (C (ix1 0)).toNat = q) : total C G R j = G (ix4 (j 0) q (j 1) (j 2)) + R j := by
  pointwise [total, plane0, plane1]
  have h : q = 0 ∨ q = 1 := by omega
  rcases h with rfl | rfl
  · rw [show C (ix1 0) = 0#32 from BitVec.eq_of_toNat_eq hq]; rfl
  · rw [show C (ix1 0) = 1#32 from BitVec.eq_of_toNat_eq hq]; rfl

end Cert.PairInRefIdeal.Total

namespace Cert.PairInIdeal.Total

open Cert.PairInIdeal Cert.PairInIdeal.Gen

section

variable {F : FTy → Type} [FloatOps F] (m : (ℓ : Loc nD τ sig) → Buf (Elt F) ℓ)

theorem lone (i j : S1.Idx) : i = j :=
  funext fun a => match a with | ⟨0, _⟩ => Subsingleton.elim (α := Fin 1) _ _

/-- The number read before the grid starts. -/
theorem word (c : Dev nD) : Pipeline.Prefetch.Contents.at (tbl m) 0 (Rect.unit (s := S1) ![0] S1.size inb_S1_S1_0) numel1_S1
    = m ((c : Thread nD τ).loc main_arg0) (ix1 0) := by
  obtain rfl : c = 0 := Subsingleton.elim _ _
  exact congrArg (m (((0 : Dev nD) : Thread nD τ).loc main_arg0)) (lone _ _)

theorem ok (q : Fin 2) (hq : (m (((0 : Dev nD) : Thread nD τ).loc main_arg0) (ix1 0)).toNat = q) : Ok m := by
  intro i
  refine ⟨fun a => ?_, .inr (Affine.block_words_dvd (of_decide_eq_true rfl) (by decide))⟩
  match a with
  | ⟨0, _⟩ => exact hinb0_2 i 0
  | ⟨1, _⟩ =>
    have h : cc0_transform_0 inb_S1_S1_0 numel1_S1 (tbl m) i 1 = q := (congrArg BitVec.toNat (word m 0)).trans hq
    show (cc0_transform_0 inb_S1_S1_0 numel1_S1 (tbl m) i 1 + 1) * 1 ≤ 2
    rw [h]
    omega
  | ⟨2, _⟩ => exact hinb0_2 i 1
  | ⟨3, _⟩ => exact hinb0_2 i 2

end

variable (m : (ℓ : Loc nD τ sig) → Buf (Elt Ideal) ℓ)

theorem lead (y : S1x64x4100.Idx) : (y 0 : ℕ) = 0 := Nat.lt_one_iff.mp (y 0).isLt

theorem pay (x0 : FVec Ideal S1x1x64x4100 .bf16) (x1 : FVec Ideal S1x64x4100 .bf16) (y : S1x64x4100.Idx) :
    k0_pay1 x0 x1 y = x0 (ix4 0 0 (y 1) (y 2)) + x1 y := by
  pointwise [k0_pay1]

theorem out (c : Dev nD) (i : grid0.Coords) (b3 : Memref sig .tc .vmem S1x1x64x4100 .bf16) (h3 : b3.IsWhole)
    (b4 : Memref sig .tc .vmem S1x64x4100 .bf16) (h4 : b4.IsWhole) (b5 : Memref sig .tc .vmem S1x64x4100 .bf16) (h5 : b5.IsWhole)
    (x0 : FVec Ideal S1x1x64x4100 .bf16) (x1 : FVec Ideal S1x64x4100 .bf16) (z : TbBuf0 (F := Ideal) c tbM0_0) :
    out0_A_2 c i b3 h3 b4 h4 b5 h5 x0 x1 z = k0_pay1 (F := Ideal) x0 x1 := by
  frame_out

theorem covers (a : (pcfg0 (F := Ideal)).Adm) : ((cfg0 a).win 2).Covers := of_decide_eq_true (by sl_kernel_rfl)

theorem place0 (hO : Ok m) (t : Fin (cfgM m hO).N) (y : S1x1x64x4100.Idx) (a : Fin 4) :
    (((((cfgM m hO).win 0).blk t).view.emb y a : Fin _) : ℕ)
      = (cc0_transform_0 inb_S1_S1_0 numel1_S1 (tbl m) (grid0.coords t) a) * S1x1x64x4100.size a + y a :=
  Pipeline.Window.rect_emb_val ((cfgM m hO).win 0) t y a rfl

theorem place1 (hO : Ok m) (t : Fin (cfgM m hO).N) (y : S1x64x4100.Idx) (a : Fin 3) :
    (((((cfgM m hO).win 1).blk t).view.emb y a : Fin _) : ℕ)
      = (cc0_transform_1 (grid0.coords t) a) * S1x64x4100.size a + y a :=
  Pipeline.Window.rect_emb_val ((cfgM m hO).win 1) t y a rfl

theorem place2 (hO : Ok m) (t : Fin (cfgM m hO).N) (y : S1x64x4100.Idx) (a : Fin 3) :
    (((((cfgM m hO).win 2).blk t).view.emb y a : Fin _) : ℕ)
      = (cc0_transform_2 (grid0.coords t) a) * S1x64x4100.size a + y a :=
  Pipeline.Window.rect_emb_val ((cfgM m hO).win 2) t y a rfl

theorem final (hO : Ok m) (c : Dev nD) (q : Fin 2) (hq : (m ((c : Thread nD τ).loc main_arg0) (ix1 0)).toNat = q) :
    (dats m hO 0 c).arrAt 2 (cfgM m hO).N
      = Cert.PairInRefIdeal.Total.total (m ((c : Thread nD τ).loc main_arg0)) (m ((c : Thread nD τ).loc main_arg1)) (m ((c : Thread nD τ).loc main_arg2)) := by
  refine (dats m hO 0 c).arrAt_eq_of_covers 2 _ (covers _) fun t hf y => ?_
  blk_simp
  rw [after0_2]
  unfold outsAt0
  refine (congrFun (out c _ _ _ _ _ _ _ (iblk m hO c 0 t) (iblk m hO c 1 t) _) y).trans ?_
  refine (pay (iblk m hO c 0 t) (iblk m hO c 1 t) y).trans ?_
  refine .trans ?_ (Cert.PairInRefIdeal.Total.total_apply _ _ _ _ q hq).symm
  refine congrArg₂ (· + ·) (congrArg (m ((c : Thread nD τ).loc main_arg1)) (funext fun a => Fin.ext ?_))
    (congrArg (m ((c : Thread nD τ).loc main_arg2)) (funext fun a => Fin.ext ?_))
  · refine (place0 m hO t _ a).trans ?_
    match a with
    | ⟨0, _⟩ =>
      refine .trans ?_ (place2 m hO t y 0).symm
      exact congrArg (_ + ·) (lead y).symm
    | ⟨1, _⟩ =>
      refine .trans ?_ hq
      exact (Nat.mul_one _).trans (congrArg BitVec.toNat (word m c))
    | ⟨2, _⟩ => exact (place2 m hO t y 1).symm
    | ⟨3, _⟩ => exact (place2 m hO t y 2).symm
  · refine (place1 m hO t _ a).trans (place2 m hO t _ a).symm

/-- After the run the result is what the blocks make it, and the arguments are as launched. -/
theorem run_blocks (ρ : Dev nD → PrngReg) (hO : Ok m) : θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 2, h.2 c⟩)
    (θ_run_and (run_main m ρ hO) (unchanged m ρ hO))

end Cert.PairInIdeal.Total

namespace Cert.PairInProof

/-- The precondition says that the number is a plane's. -/
theorem named {F : FTy → Type} [FloatOps F] (C : IVec Cert.Pre_a_core_in.S1 32) (G : FVec F Cert.Pre_a_core_in.S4x2x1024x4100 .bf16)
    (R : FVec F Cert.Pre_a_core_in.S4x1024x4100 .bf16) (h : Cert.Pre_a_core_in.fn C G R = fun _ => 1#1) : ∃ q : Fin 2, (C (ix1 0)).toNat = q := by
  have e := congrFun h (ix1 0)
  simp only [Cert.Pre_a_core_in.fn, cmpi, andi, broadcastInDim, constantI] at e
  exact PairOutProof.plane_of_bounds e

theorem ok (m : (ℓ : Loc Cert.PairIn.nD Cert.PairIn.τ Cert.PairIn.sig) → Buf (Elt Bits) ℓ)
    (h : Cert.Pre_PairIn m) : Cert.PairIn.Gen.Ok m := by
  obtain ⟨q, hq⟩ := named _ _ _ (h 0)
  exact Cert.PairInIdeal.Total.ok (F := Bits) m q hq

theorem ok_ideal (m : (ℓ : Loc Cert.PairInIdeal.nD Cert.PairInIdeal.τ Cert.PairInIdeal.sig) → Buf (Elt Ideal) ℓ)
    (h : Cert.Pre_PairInIdeal m) : Cert.PairInIdeal.Gen.Ok m := by
  obtain ⟨q, hq⟩ := named _ _ _ (h 0)
  exact Cert.PairInIdeal.Total.ok m q hq

theorem frame : Cert.quiescent_PairIn := fun m ρ h => Cert.PairIn.Gen.frame m ρ (ok m h)

theorem frame_ideal : Cert.quiescent_PairInIdeal := fun m ρ h => Cert.PairInIdeal.Gen.frame m ρ (ok_ideal m h)

theorem frame_ref_ideal : Cert.quiescent_PairInRefIdeal := fun m ρ _ =>
  (θ_run Cert.PairInRefIdeal.defs _ _).mono (fun r h => ⟨fun c => (h c).2, sem_eq_zero_of_no_sems (by decide) r.2⟩)
    (Cert.PairInRefIdeal.Value.run (F := Ideal) m ρ)

theorem frame_ref_ideal_pre : Cert.quiescent_PairInRefIdeal_pre_a_core_in := fun m ρ _ => frame_ref_ideal m ρ trivial

theorem preserves : Cert.preserves_PairIn_PairInIdeal := trivial

theorem algebraic : Cert.algebraic_PairInIdeal_PairInRefIdeal := by
  intro m ρ m' ρ' hpre hagree
  have hO := ok_ideal m hpre
  refine ⟨_, Cert.PairInIdeal.Total.run_blocks m ρ hO, ?_⟩
  refine (θ_run Cert.PairInRefIdeal.defs _ _).mono (fun _ h c => ?_) (Cert.PairInRefIdeal.Value.run (F := Ideal) m' ρ')
  obtain ⟨q, hq⟩ := named _ _ _ (hpre c)
  obtain ⟨a0, a1, a2⟩ := hagree c
  obtain ⟨h0, kept⟩ := h c
  simp only [a0, a1, a2] at h0
  exact ⟨h0.trans (Cert.PairInIdeal.Total.final m hO c q hq).symm, kept⟩

end Cert.PairInProof

namespace Cert.PairGateRefIdeal.Total

open Cert.PairGateRefIdeal Cert.PairGateRefIdeal.Gen

/-- One of the two planes. -/
abbrev plane0 (G : FVec Ideal S4x2x1024x1408 .bf16) : FVec Ideal S4x1024x1408 .f32 :=
  extf .f32 (shapeCast S4x1024x1408 (extractStridedSlice S4x1x1024x1408 ![0, 0, 0, 0] G slices_S4x2x1024x1408_S4x1x1024x1408_0_0_0_0) shapeCasts_S4x1x1024x1408_S4x1024x1408) bitsLt_bf16_f32

abbrev plane1 (G : FVec Ideal S4x2x1024x1408 .bf16) : FVec Ideal S4x1024x1408 .f32 :=
  extf .f32 (shapeCast S4x1024x1408 (extractStridedSlice S4x1x1024x1408 ![0, 1, 0, 0] G slices_S4x2x1024x1408_S4x1x1024x1408_0_1_0_0) shapeCasts_S4x1x1024x1408_S4x1024x1408) bitsLt_bf16_f32

/-- The chosen plane and the other core's part, added. -/
abbrev total (C : IVec S1 32) (G : FVec Ideal S4x2x1024x1408 .bf16) (R : FVec Ideal S4x1024x1408 .bf16) : FVec Ideal S4x1024x1408 .bf16 :=
  truncf .bf16 (addf (select (broadcastInDim S4x1024x1408 ![] bcast_S_S4x1024x1408 (cmpi .eq (shapeCast S_ C shapeCasts_S1_S_) (constantI S_ 32 0#32)))
    (plane0 G) (plane1 G)) (extf .f32 R bitsLt_bf16_f32)) bitsLt_bf16_f32

theorem total_apply (C : IVec S1 32) (G : FVec Ideal S4x2x1024x1408 .bf16) (R : FVec Ideal S4x1024x1408 .bf16) (j : S4x1024x1408.Idx) (q : Fin 2)
    (hq : (C (ix1 0)).toNat = q) : total C G R j = G (ix4 (j 0) q (j 1) (j 2)) + R j := by
  pointwise [total, plane0, plane1]
  have h : q = 0 ∨ q = 1 := by omega
  rcases h with rfl | rfl
  · rw [show C (ix1 0) = 0#32 from BitVec.eq_of_toNat_eq hq]; rfl
  · rw [show C (ix1 0) = 1#32 from BitVec.eq_of_toNat_eq hq]; rfl

end Cert.PairGateRefIdeal.Total

namespace Cert.PairGateIdeal.Total

open Cert.PairGateIdeal Cert.PairGateIdeal.Gen

section

variable {F : FTy → Type} [FloatOps F] (m : (ℓ : Loc nD τ sig) → Buf (Elt F) ℓ)

theorem lone (i j : S1.Idx) : i = j :=
  funext fun a => match a with | ⟨0, _⟩ => Subsingleton.elim (α := Fin 1) _ _

/-- The number read before the grid starts. -/
theorem word (c : Dev nD) : Pipeline.Prefetch.Contents.at (tbl m) 0 (Rect.unit (s := S1) ![0] S1.size inb_S1_S1_0) numel1_S1
    = m ((c : Thread nD τ).loc main_arg0) (ix1 0) := by
  obtain rfl : c = 0 := Subsingleton.elim _ _
  exact congrArg (m (((0 : Dev nD) : Thread nD τ).loc main_arg0)) (lone _ _)

theorem ok (q : Fin 2) (hq : (m (((0 : Dev nD) : Thread nD τ).loc main_arg0) (ix1 0)).toNat = q) : Ok m := by
  intro i
  refine ⟨fun a => ?_, .inr (Affine.block_words_dvd (of_decide_eq_true rfl) (by decide))⟩
  match a with
  | ⟨0, _⟩ => exact hinb0_2 i 0
  | ⟨1, _⟩ =>
    have h : cc0_transform_0 inb_S1_S1_0 numel1_S1 (tbl m) i 1 = q := (congrArg BitVec.toNat (word m 0)).trans hq
    show (cc0_transform_0 inb_S1_S1_0 numel1_S1 (tbl m) i 1 + 1) * 1 ≤ 2
    rw [h]
    omega
  | ⟨2, _⟩ => exact hinb0_2 i 1
  | ⟨3, _⟩ => exact hinb0_2 i 2

end

variable (m : (ℓ : Loc nD τ sig) → Buf (Elt Ideal) ℓ)

theorem lead (y : S1x256x1408.Idx) : (y 0 : ℕ) = 0 := Nat.lt_one_iff.mp (y 0).isLt

theorem pay (x0 : FVec Ideal S1x1x256x1408 .bf16) (x1 : FVec Ideal S1x256x1408 .bf16) (y : S1x256x1408.Idx) :
    k0_pay1 x0 x1 y = x0 (ix4 0 0 (y 1) (y 2)) + x1 y := by
  pointwise [k0_pay1]

theorem out (c : Dev nD) (i : grid0.Coords) (b3 : Memref sig .tc .vmem S1x1x256x1408 .bf16) (h3 : b3.IsWhole)
    (b4 : Memref sig .tc .vmem S1x256x1408 .bf16) (h4 : b4.IsWhole) (b5 : Memref sig .tc .vmem S1x256x1408 .bf16) (h5 : b5.IsWhole)
    (x0 : FVec Ideal S1x1x256x1408 .bf16) (x1 : FVec Ideal S1x256x1408 .bf16) (z : TbBuf0 (F := Ideal) c tbM0_0) :
    out0_A_2 c i b3 h3 b4 h4 b5 h5 x0 x1 z = k0_pay1 (F := Ideal) x0 x1 := by
  frame_out

theorem covers (a : (pcfg0 (F := Ideal)).Adm) : ((cfg0 a).win 2).Covers := of_decide_eq_true (by sl_kernel_rfl)

theorem place0 (hO : Ok m) (t : Fin (cfgM m hO).N) (y : S1x1x256x1408.Idx) (a : Fin 4) :
    (((((cfgM m hO).win 0).blk t).view.emb y a : Fin _) : ℕ)
      = (cc0_transform_0 inb_S1_S1_0 numel1_S1 (tbl m) (grid0.coords t) a) * S1x1x256x1408.size a + y a :=
  Pipeline.Window.rect_emb_val ((cfgM m hO).win 0) t y a rfl

theorem place1 (hO : Ok m) (t : Fin (cfgM m hO).N) (y : S1x256x1408.Idx) (a : Fin 3) :
    (((((cfgM m hO).win 1).blk t).view.emb y a : Fin _) : ℕ)
      = (cc0_transform_1 (grid0.coords t) a) * S1x256x1408.size a + y a :=
  Pipeline.Window.rect_emb_val ((cfgM m hO).win 1) t y a rfl

theorem place2 (hO : Ok m) (t : Fin (cfgM m hO).N) (y : S1x256x1408.Idx) (a : Fin 3) :
    (((((cfgM m hO).win 2).blk t).view.emb y a : Fin _) : ℕ)
      = (cc0_transform_2 (grid0.coords t) a) * S1x256x1408.size a + y a :=
  Pipeline.Window.rect_emb_val ((cfgM m hO).win 2) t y a rfl

theorem final (hO : Ok m) (c : Dev nD) (q : Fin 2) (hq : (m ((c : Thread nD τ).loc main_arg0) (ix1 0)).toNat = q) :
    (dats m hO 0 c).arrAt 2 (cfgM m hO).N
      = Cert.PairGateRefIdeal.Total.total (m ((c : Thread nD τ).loc main_arg0)) (m ((c : Thread nD τ).loc main_arg1)) (m ((c : Thread nD τ).loc main_arg2)) := by
  refine (dats m hO 0 c).arrAt_eq_of_covers 2 _ (covers _) fun t hf y => ?_
  blk_simp
  rw [after0_2]
  unfold outsAt0
  refine (congrFun (out c _ _ _ _ _ _ _ (iblk m hO c 0 t) (iblk m hO c 1 t) _) y).trans ?_
  refine (pay (iblk m hO c 0 t) (iblk m hO c 1 t) y).trans ?_
  refine .trans ?_ (Cert.PairGateRefIdeal.Total.total_apply _ _ _ _ q hq).symm
  refine congrArg₂ (· + ·) (congrArg (m ((c : Thread nD τ).loc main_arg1)) (funext fun a => Fin.ext ?_))
    (congrArg (m ((c : Thread nD τ).loc main_arg2)) (funext fun a => Fin.ext ?_))
  · refine (place0 m hO t _ a).trans ?_
    match a with
    | ⟨0, _⟩ =>
      refine .trans ?_ (place2 m hO t y 0).symm
      exact congrArg (_ + ·) (lead y).symm
    | ⟨1, _⟩ =>
      refine .trans ?_ hq
      exact (Nat.mul_one _).trans (congrArg BitVec.toNat (word m c))
    | ⟨2, _⟩ => exact (place2 m hO t y 1).symm
    | ⟨3, _⟩ => exact (place2 m hO t y 2).symm
  · refine (place1 m hO t _ a).trans (place2 m hO t _ a).symm

/-- After the run the result is what the blocks make it, and the arguments are as launched. -/
theorem run_blocks (ρ : Dev nD → PrngReg) (hO : Ok m) : θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 2, h.2 c⟩)
    (θ_run_and (run_main m ρ hO) (unchanged m ρ hO))

end Cert.PairGateIdeal.Total

namespace Cert.PairGateProof

/-- The precondition says that the number is a plane's. -/
theorem named {F : FTy → Type} [FloatOps F] (C : IVec Cert.Pre_a_core_gate.S1 32) (G : FVec F Cert.Pre_a_core_gate.S4x2x1024x1408 .bf16)
    (R : FVec F Cert.Pre_a_core_gate.S4x1024x1408 .bf16) (h : Cert.Pre_a_core_gate.fn C G R = fun _ => 1#1) : ∃ q : Fin 2, (C (ix1 0)).toNat = q := by
  have e := congrFun h (ix1 0)
  simp only [Cert.Pre_a_core_gate.fn, cmpi, andi, broadcastInDim, constantI] at e
  exact PairOutProof.plane_of_bounds e

theorem ok (m : (ℓ : Loc Cert.PairGate.nD Cert.PairGate.τ Cert.PairGate.sig) → Buf (Elt Bits) ℓ)
    (h : Cert.Pre_PairGate m) : Cert.PairGate.Gen.Ok m := by
  obtain ⟨q, hq⟩ := named _ _ _ (h 0)
  exact Cert.PairGateIdeal.Total.ok (F := Bits) m q hq

theorem ok_ideal (m : (ℓ : Loc Cert.PairGateIdeal.nD Cert.PairGateIdeal.τ Cert.PairGateIdeal.sig) → Buf (Elt Ideal) ℓ)
    (h : Cert.Pre_PairGateIdeal m) : Cert.PairGateIdeal.Gen.Ok m := by
  obtain ⟨q, hq⟩ := named _ _ _ (h 0)
  exact Cert.PairGateIdeal.Total.ok m q hq

theorem frame : Cert.quiescent_PairGate := fun m ρ h => Cert.PairGate.Gen.frame m ρ (ok m h)

theorem frame_ideal : Cert.quiescent_PairGateIdeal := fun m ρ h => Cert.PairGateIdeal.Gen.frame m ρ (ok_ideal m h)

theorem frame_ref_ideal : Cert.quiescent_PairGateRefIdeal := fun m ρ _ =>
  (θ_run Cert.PairGateRefIdeal.defs _ _).mono (fun r h => ⟨fun c => (h c).2, sem_eq_zero_of_no_sems (by decide) r.2⟩)
    (Cert.PairGateRefIdeal.Value.run (F := Ideal) m ρ)

theorem frame_ref_ideal_pre : Cert.quiescent_PairGateRefIdeal_pre_a_core_gate := fun m ρ _ => frame_ref_ideal m ρ trivial

theorem preserves : Cert.preserves_PairGate_PairGateIdeal := trivial

theorem algebraic : Cert.algebraic_PairGateIdeal_PairGateRefIdeal := by
  intro m ρ m' ρ' hpre hagree
  have hO := ok_ideal m hpre
  refine ⟨_, Cert.PairGateIdeal.Total.run_blocks m ρ hO, ?_⟩
  refine (θ_run Cert.PairGateRefIdeal.defs _ _).mono (fun _ h c => ?_) (Cert.PairGateRefIdeal.Value.run (F := Ideal) m' ρ')
  obtain ⟨q, hq⟩ := named _ _ _ (hpre c)
  obtain ⟨a0, a1, a2⟩ := hagree c
  obtain ⟨h0, kept⟩ := h c
  simp only [a0, a1, a2] at h0
  exact ⟨h0.trans (Cert.PairGateIdeal.Total.final m hO c q hq).symm, kept⟩

end Cert.PairGateProof

namespace Cert.PairDownRefIdeal.Total

open Cert.PairDownRefIdeal Cert.PairDownRefIdeal.Gen

/-- One of the two planes. -/
abbrev plane0 (G : FVec Ideal S4x2x704x2048 .bf16) : FVec Ideal S4x704x2048 .f32 :=
  extf .f32 (shapeCast S4x704x2048 (extractStridedSlice S4x1x704x2048 ![0, 0, 0, 0] G slices_S4x2x704x2048_S4x1x704x2048_0_0_0_0) shapeCasts_S4x1x704x2048_S4x704x2048) bitsLt_bf16_f32

abbrev plane1 (G : FVec Ideal S4x2x704x2048 .bf16) : FVec Ideal S4x704x2048 .f32 :=
  extf .f32 (shapeCast S4x704x2048 (extractStridedSlice S4x1x704x2048 ![0, 1, 0, 0] G slices_S4x2x704x2048_S4x1x704x2048_0_1_0_0) shapeCasts_S4x1x704x2048_S4x704x2048) bitsLt_bf16_f32

/-- The chosen plane and the other core's part, added. -/
abbrev total (C : IVec S1 32) (G : FVec Ideal S4x2x704x2048 .bf16) (R : FVec Ideal S4x704x2048 .bf16) : FVec Ideal S4x704x2048 .bf16 :=
  truncf .bf16 (addf (select (broadcastInDim S4x704x2048 ![] bcast_S_S4x704x2048 (cmpi .eq (shapeCast S_ C shapeCasts_S1_S_) (constantI S_ 32 0#32)))
    (plane0 G) (plane1 G)) (extf .f32 R bitsLt_bf16_f32)) bitsLt_bf16_f32

theorem total_apply (C : IVec S1 32) (G : FVec Ideal S4x2x704x2048 .bf16) (R : FVec Ideal S4x704x2048 .bf16) (j : S4x704x2048.Idx) (q : Fin 2)
    (hq : (C (ix1 0)).toNat = q) : total C G R j = G (ix4 (j 0) q (j 1) (j 2)) + R j := by
  pointwise [total, plane0, plane1]
  have h : q = 0 ∨ q = 1 := by omega
  rcases h with rfl | rfl
  · rw [show C (ix1 0) = 0#32 from BitVec.eq_of_toNat_eq hq]; rfl
  · rw [show C (ix1 0) = 1#32 from BitVec.eq_of_toNat_eq hq]; rfl

end Cert.PairDownRefIdeal.Total

namespace Cert.PairDownIdeal.Total

open Cert.PairDownIdeal Cert.PairDownIdeal.Gen

section

variable {F : FTy → Type} [FloatOps F] (m : (ℓ : Loc nD τ sig) → Buf (Elt F) ℓ)

theorem lone (i j : S1.Idx) : i = j :=
  funext fun a => match a with | ⟨0, _⟩ => Subsingleton.elim (α := Fin 1) _ _

/-- The number read before the grid starts. -/
theorem word (c : Dev nD) : Pipeline.Prefetch.Contents.at (tbl m) 0 (Rect.unit (s := S1) ![0] S1.size inb_S1_S1_0) numel1_S1
    = m ((c : Thread nD τ).loc main_arg0) (ix1 0) := by
  obtain rfl : c = 0 := Subsingleton.elim _ _
  exact congrArg (m (((0 : Dev nD) : Thread nD τ).loc main_arg0)) (lone _ _)

theorem ok (q : Fin 2) (hq : (m (((0 : Dev nD) : Thread nD τ).loc main_arg0) (ix1 0)).toNat = q) : Ok m := by
  intro i
  refine ⟨fun a => ?_, .inr (Affine.block_words_dvd (of_decide_eq_true rfl) (by decide))⟩
  match a with
  | ⟨0, _⟩ => exact hinb0_2 i 0
  | ⟨1, _⟩ =>
    have h : cc0_transform_0 inb_S1_S1_0 numel1_S1 (tbl m) i 1 = q := (congrArg BitVec.toNat (word m 0)).trans hq
    show (cc0_transform_0 inb_S1_S1_0 numel1_S1 (tbl m) i 1 + 1) * 1 ≤ 2
    rw [h]
    omega
  | ⟨2, _⟩ => exact hinb0_2 i 1
  | ⟨3, _⟩ => exact hinb0_2 i 2

end

variable (m : (ℓ : Loc nD τ sig) → Buf (Elt Ideal) ℓ)

theorem lead (y : S1x64x2048.Idx) : (y 0 : ℕ) = 0 := Nat.lt_one_iff.mp (y 0).isLt

theorem pay (x0 : FVec Ideal S1x1x64x2048 .bf16) (x1 : FVec Ideal S1x64x2048 .bf16) (y : S1x64x2048.Idx) :
    k0_pay1 x0 x1 y = x0 (ix4 0 0 (y 1) (y 2)) + x1 y := by
  pointwise [k0_pay1]

theorem out (c : Dev nD) (i : grid0.Coords) (b3 : Memref sig .tc .vmem S1x1x64x2048 .bf16) (h3 : b3.IsWhole)
    (b4 : Memref sig .tc .vmem S1x64x2048 .bf16) (h4 : b4.IsWhole) (b5 : Memref sig .tc .vmem S1x64x2048 .bf16) (h5 : b5.IsWhole)
    (x0 : FVec Ideal S1x1x64x2048 .bf16) (x1 : FVec Ideal S1x64x2048 .bf16) (z : TbBuf0 (F := Ideal) c tbM0_0) :
    out0_A_2 c i b3 h3 b4 h4 b5 h5 x0 x1 z = k0_pay1 (F := Ideal) x0 x1 := by
  frame_out

theorem covers (a : (pcfg0 (F := Ideal)).Adm) : ((cfg0 a).win 2).Covers := of_decide_eq_true (by sl_kernel_rfl)

theorem place0 (hO : Ok m) (t : Fin (cfgM m hO).N) (y : S1x1x64x2048.Idx) (a : Fin 4) :
    (((((cfgM m hO).win 0).blk t).view.emb y a : Fin _) : ℕ)
      = (cc0_transform_0 inb_S1_S1_0 numel1_S1 (tbl m) (grid0.coords t) a) * S1x1x64x2048.size a + y a :=
  Pipeline.Window.rect_emb_val ((cfgM m hO).win 0) t y a rfl

theorem place1 (hO : Ok m) (t : Fin (cfgM m hO).N) (y : S1x64x2048.Idx) (a : Fin 3) :
    (((((cfgM m hO).win 1).blk t).view.emb y a : Fin _) : ℕ)
      = (cc0_transform_1 (grid0.coords t) a) * S1x64x2048.size a + y a :=
  Pipeline.Window.rect_emb_val ((cfgM m hO).win 1) t y a rfl

theorem place2 (hO : Ok m) (t : Fin (cfgM m hO).N) (y : S1x64x2048.Idx) (a : Fin 3) :
    (((((cfgM m hO).win 2).blk t).view.emb y a : Fin _) : ℕ)
      = (cc0_transform_2 (grid0.coords t) a) * S1x64x2048.size a + y a :=
  Pipeline.Window.rect_emb_val ((cfgM m hO).win 2) t y a rfl

theorem final (hO : Ok m) (c : Dev nD) (q : Fin 2) (hq : (m ((c : Thread nD τ).loc main_arg0) (ix1 0)).toNat = q) :
    (dats m hO 0 c).arrAt 2 (cfgM m hO).N
      = Cert.PairDownRefIdeal.Total.total (m ((c : Thread nD τ).loc main_arg0)) (m ((c : Thread nD τ).loc main_arg1)) (m ((c : Thread nD τ).loc main_arg2)) := by
  refine (dats m hO 0 c).arrAt_eq_of_covers 2 _ (covers _) fun t hf y => ?_
  blk_simp
  rw [after0_2]
  unfold outsAt0
  refine (congrFun (out c _ _ _ _ _ _ _ (iblk m hO c 0 t) (iblk m hO c 1 t) _) y).trans ?_
  refine (pay (iblk m hO c 0 t) (iblk m hO c 1 t) y).trans ?_
  refine .trans ?_ (Cert.PairDownRefIdeal.Total.total_apply _ _ _ _ q hq).symm
  refine congrArg₂ (· + ·) (congrArg (m ((c : Thread nD τ).loc main_arg1)) (funext fun a => Fin.ext ?_))
    (congrArg (m ((c : Thread nD τ).loc main_arg2)) (funext fun a => Fin.ext ?_))
  · refine (place0 m hO t _ a).trans ?_
    match a with
    | ⟨0, _⟩ =>
      refine .trans ?_ (place2 m hO t y 0).symm
      exact congrArg (_ + ·) (lead y).symm
    | ⟨1, _⟩ =>
      refine .trans ?_ hq
      exact (Nat.mul_one _).trans (congrArg BitVec.toNat (word m c))
    | ⟨2, _⟩ => exact (place2 m hO t y 1).symm
    | ⟨3, _⟩ => exact (place2 m hO t y 2).symm
  · refine (place1 m hO t _ a).trans (place2 m hO t _ a).symm

/-- After the run the result is what the blocks make it, and the arguments are as launched. -/
theorem run_blocks (ρ : Dev nD → PrngReg) (hO : Ok m) : θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 2, h.2 c⟩)
    (θ_run_and (run_main m ρ hO) (unchanged m ρ hO))

end Cert.PairDownIdeal.Total

namespace Cert.PairDownProof

/-- The precondition says that the number is a plane's. -/
theorem named {F : FTy → Type} [FloatOps F] (C : IVec Cert.Pre_a_core_down.S1 32) (G : FVec F Cert.Pre_a_core_down.S4x2x704x2048 .bf16)
    (R : FVec F Cert.Pre_a_core_down.S4x704x2048 .bf16) (h : Cert.Pre_a_core_down.fn C G R = fun _ => 1#1) : ∃ q : Fin 2, (C (ix1 0)).toNat = q := by
  have e := congrFun h (ix1 0)
  simp only [Cert.Pre_a_core_down.fn, cmpi, andi, broadcastInDim, constantI] at e
  exact PairOutProof.plane_of_bounds e

theorem ok (m : (ℓ : Loc Cert.PairDown.nD Cert.PairDown.τ Cert.PairDown.sig) → Buf (Elt Bits) ℓ)
    (h : Cert.Pre_PairDown m) : Cert.PairDown.Gen.Ok m := by
  obtain ⟨q, hq⟩ := named _ _ _ (h 0)
  exact Cert.PairDownIdeal.Total.ok (F := Bits) m q hq

theorem ok_ideal (m : (ℓ : Loc Cert.PairDownIdeal.nD Cert.PairDownIdeal.τ Cert.PairDownIdeal.sig) → Buf (Elt Ideal) ℓ)
    (h : Cert.Pre_PairDownIdeal m) : Cert.PairDownIdeal.Gen.Ok m := by
  obtain ⟨q, hq⟩ := named _ _ _ (h 0)
  exact Cert.PairDownIdeal.Total.ok m q hq

theorem frame : Cert.quiescent_PairDown := fun m ρ h => Cert.PairDown.Gen.frame m ρ (ok m h)

theorem frame_ideal : Cert.quiescent_PairDownIdeal := fun m ρ h => Cert.PairDownIdeal.Gen.frame m ρ (ok_ideal m h)

theorem frame_ref_ideal : Cert.quiescent_PairDownRefIdeal := fun m ρ _ =>
  (θ_run Cert.PairDownRefIdeal.defs _ _).mono (fun r h => ⟨fun c => (h c).2, sem_eq_zero_of_no_sems (by decide) r.2⟩)
    (Cert.PairDownRefIdeal.Value.run (F := Ideal) m ρ)

theorem frame_ref_ideal_pre : Cert.quiescent_PairDownRefIdeal_pre_a_core_down := fun m ρ _ => frame_ref_ideal m ρ trivial

theorem preserves : Cert.preserves_PairDown_PairDownIdeal := trivial

theorem algebraic : Cert.algebraic_PairDownIdeal_PairDownRefIdeal := by
  intro m ρ m' ρ' hpre hagree
  have hO := ok_ideal m hpre
  refine ⟨_, Cert.PairDownIdeal.Total.run_blocks m ρ hO, ?_⟩
  refine (θ_run Cert.PairDownRefIdeal.defs _ _).mono (fun _ h c => ?_) (Cert.PairDownRefIdeal.Value.run (F := Ideal) m' ρ')
  obtain ⟨q, hq⟩ := named _ _ _ (hpre c)
  obtain ⟨a0, a1, a2⟩ := hagree c
  obtain ⟨h0, kept⟩ := h c
  simp only [a0, a1, a2] at h0
  exact ⟨h0.trans (Cert.PairDownIdeal.Total.final m hO c q hq).symm, kept⟩

end Cert.PairDownProof

end
-- ==== Proof.lean ====
/-
The claims of this certificate, put together: the exchange of gradient halves between the cores of a chip; the exchange of
gradient parts between chips; the sharing of the reduced halves between the cores of a chip; the gathering of the weights;
the optimizer's update, the sums of the reduce-scatter, SwiGLU, the products, the norms, the loss, the gates, the
convolution and its derivative before the taps, and the merge of the two mixers, on one device.
Each call's proof is in the modules named after it.
-/
module

public import proofs.«01_k».proof.Defs
public import proofs.«01_k».proof.Proof.ExchangeClaim
public import proofs.«01_k».proof.Proof.ScatterClaim
public import proofs.«01_k».proof.Proof.ShareClaim
public import proofs.«01_k».proof.Proof.GatherClaim
public import proofs.«01_k».proof.Proof.UpdateClaim
public import proofs.«01_k».proof.Proof.SumClaim
public import proofs.«01_k».proof.Proof.SwigluClaim
public import proofs.«01_k».proof.Proof.ProductClaim
public import proofs.«01_k».proof.Proof.ProductAddClaim
public import proofs.«01_k».proof.Proof.ProductOnceClaim
public import proofs.«01_k».proof.Proof.ProductBackClaim
public import proofs.«01_k».proof.Proof.ProductWeightClaim
public import proofs.«01_k».proof.Proof.NormClaim
public import proofs.«01_k».proof.Proof.LossClaim
public import proofs.«01_k».proof.Proof.GatesClaim
public import proofs.«01_k».proof.Proof.MergeClaim
public import proofs.«01_k».proof.Proof.MergeBackClaim
public import proofs.«01_k».proof.Proof.ConvClaim
public import proofs.«01_k».proof.Proof.ConvPreClaim
public import proofs.«01_k».proof.Proof.PairClaim
public import proofs.«01_k».proof.Proof.Gen.Pre_a_core
public import proofs.«01_k».proof.Proof.Gen.Pre_a_core_in
public import proofs.«01_k».proof.Proof.Gen.Pre_a_core_gate
public import proofs.«01_k».proof.Proof.Gen.Pre_a_core_down
public import proofs.«01_k».proof.Proof.Gen.Exchange
public import proofs.«01_k».proof.Proof.Gen.ExchangeIdeal
public import proofs.«01_k».proof.Proof.Gen.ExchangeRefIdeal
public import proofs.«01_k».proof.Proof.Gen.Scatter
public import proofs.«01_k».proof.Proof.Gen.ScatterIdeal
public import proofs.«01_k».proof.Proof.Gen.ScatterRefIdeal
public import proofs.«01_k».proof.Proof.Gen.Share
public import proofs.«01_k».proof.Proof.Gen.ShareIdeal
public import proofs.«01_k».proof.Proof.Gen.ShareRefIdeal
public import proofs.«01_k».proof.Proof.Gen.Gather
public import proofs.«01_k».proof.Proof.Gen.GatherIdeal
public import proofs.«01_k».proof.Proof.Gen.GatherRefIdeal
public import proofs.«01_k».proof.Proof.Gen.UpdateIn
public import proofs.«01_k».proof.Proof.Gen.UpdateInIdeal
public import proofs.«01_k».proof.Proof.Gen.UpdateInRefIdeal
public import proofs.«01_k».proof.Proof.Gen.UpdateOut
public import proofs.«01_k».proof.Proof.Gen.UpdateOutIdeal
public import proofs.«01_k».proof.Proof.Gen.UpdateOutRefIdeal
public import proofs.«01_k».proof.Proof.Gen.UpdateGate
public import proofs.«01_k».proof.Proof.Gen.UpdateGateIdeal
public import proofs.«01_k».proof.Proof.Gen.UpdateGateRefIdeal
public import proofs.«01_k».proof.Proof.Gen.UpdateDown
public import proofs.«01_k».proof.Proof.Gen.UpdateDownIdeal
public import proofs.«01_k».proof.Proof.Gen.UpdateDownRefIdeal
public import proofs.«01_k».proof.Proof.Gen.UpdateNorm
public import proofs.«01_k».proof.Proof.Gen.UpdateNormIdeal
public import proofs.«01_k».proof.Proof.Gen.UpdateNormRefIdeal
public import proofs.«01_k».proof.Proof.Gen.UpdateConv
public import proofs.«01_k».proof.Proof.Gen.UpdateConvIdeal
public import proofs.«01_k».proof.Proof.Gen.UpdateConvRefIdeal
public import proofs.«01_k».proof.Proof.Gen.UpdateGdn
public import proofs.«01_k».proof.Proof.Gen.UpdateGdnIdeal
public import proofs.«01_k».proof.Proof.Gen.UpdateGdnRefIdeal
public import proofs.«01_k».proof.Proof.Gen.UpdateHeads
public import proofs.«01_k».proof.Proof.Gen.UpdateHeadsIdeal
public import proofs.«01_k».proof.Proof.Gen.UpdateHeadsRefIdeal
public import proofs.«01_k».proof.Proof.Gen.SumIn
public import proofs.«01_k».proof.Proof.Gen.SumInIdeal
public import proofs.«01_k».proof.Proof.Gen.SumInRefIdeal
public import proofs.«01_k».proof.Proof.Gen.SumOut
public import proofs.«01_k».proof.Proof.Gen.SumOutIdeal
public import proofs.«01_k».proof.Proof.Gen.SumOutRefIdeal
public import proofs.«01_k».proof.Proof.Gen.SumGate
public import proofs.«01_k».proof.Proof.Gen.SumGateIdeal
public import proofs.«01_k».proof.Proof.Gen.SumGateRefIdeal
public import proofs.«01_k».proof.Proof.Gen.SumDown
public import proofs.«01_k».proof.Proof.Gen.SumDownIdeal
public import proofs.«01_k».proof.Proof.Gen.SumDownRefIdeal
public import proofs.«01_k».proof.Proof.Gen.Swiglu
public import proofs.«01_k».proof.Proof.Gen.SwigluIdeal
public import proofs.«01_k».proof.Proof.Gen.SwigluRefIdeal
public import proofs.«01_k».proof.Proof.Gen.SwigluBack
public import proofs.«01_k».proof.Proof.Gen.SwigluBackIdeal
public import proofs.«01_k».proof.Proof.Gen.SwigluBackRefIdeal
public import proofs.«01_k».proof.Proof.Gen.MmProj
public import proofs.«01_k».proof.Proof.Gen.MmProjIdeal
public import proofs.«01_k».proof.Proof.Gen.MmProjRefIdeal
public import proofs.«01_k».proof.Proof.Gen.MmProjSmall
public import proofs.«01_k».proof.Proof.Gen.MmProjSmallIdeal
public import proofs.«01_k».proof.Proof.Gen.MmProjSmallRefIdeal
public import proofs.«01_k».proof.Proof.Gen.MmGate
public import proofs.«01_k».proof.Proof.Gen.MmGateIdeal
public import proofs.«01_k».proof.Proof.Gen.MmGateRefIdeal
public import proofs.«01_k».proof.Proof.Gen.MmOut
public import proofs.«01_k».proof.Proof.Gen.MmOutIdeal
public import proofs.«01_k».proof.Proof.Gen.MmOutRefIdeal
public import proofs.«01_k».proof.Proof.Gen.MmDown
public import proofs.«01_k».proof.Proof.Gen.MmDownIdeal
public import proofs.«01_k».proof.Proof.Gen.MmDownRefIdeal
public import proofs.«01_k».proof.Proof.Gen.MmDact
public import proofs.«01_k».proof.Proof.Gen.MmDactIdeal
public import proofs.«01_k».proof.Proof.Gen.MmDactRefIdeal
public import proofs.«01_k».proof.Proof.Gen.MmHnGate
public import proofs.«01_k».proof.Proof.Gen.MmHnGateIdeal
public import proofs.«01_k».proof.Proof.Gen.MmHnGateRefIdeal
public import proofs.«01_k».proof.Proof.Gen.MmMix
public import proofs.«01_k».proof.Proof.Gen.MmMixIdeal
public import proofs.«01_k».proof.Proof.Gen.MmMixRefIdeal
public import proofs.«01_k».proof.Proof.Gen.MmDu
public import proofs.«01_k».proof.Proof.Gen.MmDuIdeal
public import proofs.«01_k».proof.Proof.Gen.MmDuRefIdeal
public import proofs.«01_k».proof.Proof.Gen.MmHnUp
public import proofs.«01_k».proof.Proof.Gen.MmHnUpIdeal
public import proofs.«01_k».proof.Proof.Gen.MmHnUpRefIdeal
public import proofs.«01_k».proof.Proof.Gen.MmDuSmall
public import proofs.«01_k».proof.Proof.Gen.MmDuSmallIdeal
public import proofs.«01_k».proof.Proof.Gen.MmDuSmallRefIdeal
public import proofs.«01_k».proof.Proof.Gen.DwDown
public import proofs.«01_k».proof.Proof.Gen.DwDownIdeal
public import proofs.«01_k».proof.Proof.Gen.DwDownRefIdeal
public import proofs.«01_k».proof.Proof.Gen.DwGate
public import proofs.«01_k».proof.Proof.Gen.DwGateIdeal
public import proofs.«01_k».proof.Proof.Gen.DwGateRefIdeal
public import proofs.«01_k».proof.Proof.Gen.DwOut
public import proofs.«01_k».proof.Proof.Gen.DwOutIdeal
public import proofs.«01_k».proof.Proof.Gen.DwOutRefIdeal
public import proofs.«01_k».proof.Proof.Gen.DwIn
public import proofs.«01_k».proof.Proof.Gen.DwInIdeal
public import proofs.«01_k».proof.Proof.Gen.DwInRefIdeal
public import proofs.«01_k».proof.Proof.Gen.DwInSmall
public import proofs.«01_k».proof.Proof.Gen.DwInSmallIdeal
public import proofs.«01_k».proof.Proof.Gen.DwInSmallRefIdeal
public import proofs.«01_k».proof.Proof.Gen.Rms
public import proofs.«01_k».proof.Proof.Gen.RmsIdeal
public import proofs.«01_k».proof.Proof.Gen.RmsRefIdeal
public import proofs.«01_k».proof.Proof.Gen.RmsBack
public import proofs.«01_k».proof.Proof.Gen.RmsBackIdeal
public import proofs.«01_k».proof.Proof.Gen.RmsBackRefIdeal
public import proofs.«01_k».proof.Proof.Gen.Loss
public import proofs.«01_k».proof.Proof.Gen.LossIdeal
public import proofs.«01_k».proof.Proof.Gen.LossRefIdeal
public import proofs.«01_k».proof.Proof.Gen.Gates
public import proofs.«01_k».proof.Proof.Gen.GatesIdeal
public import proofs.«01_k».proof.Proof.Gen.GatesRefIdeal
public import proofs.«01_k».proof.Proof.Gen.GatesBack
public import proofs.«01_k».proof.Proof.Gen.GatesBackIdeal
public import proofs.«01_k».proof.Proof.Gen.GatesBackRefIdeal
public import proofs.«01_k».proof.Proof.Gen.Merge
public import proofs.«01_k».proof.Proof.Gen.MergeIdeal
public import proofs.«01_k».proof.Proof.Gen.MergeRefIdeal
public import proofs.«01_k».proof.Proof.Gen.MergeBack
public import proofs.«01_k».proof.Proof.Gen.MergeBackIdeal
public import proofs.«01_k».proof.Proof.Gen.MergeBackRefIdeal
public import proofs.«01_k».proof.Proof.Gen.ConvPre
public import proofs.«01_k».proof.Proof.Gen.ConvPreIdeal
public import proofs.«01_k».proof.Proof.Gen.ConvPreRefIdeal
public import proofs.«01_k».proof.Proof.Gen.Conv
public import proofs.«01_k».proof.Proof.Gen.ConvIdeal
public import proofs.«01_k».proof.Proof.Gen.ConvRefIdeal
public import proofs.«01_k».proof.Proof.Gen.PairOut
public import proofs.«01_k».proof.Proof.Gen.PairOutIdeal
public import proofs.«01_k».proof.Proof.Gen.PairOutRefIdeal
public import proofs.«01_k».proof.Proof.Gen.PairIn
public import proofs.«01_k».proof.Proof.Gen.PairInIdeal
public import proofs.«01_k».proof.Proof.Gen.PairInRefIdeal
public import proofs.«01_k».proof.Proof.Gen.PairGate
public import proofs.«01_k».proof.Proof.Gen.PairGateIdeal
public import proofs.«01_k».proof.Proof.Gen.PairGateRefIdeal
public import proofs.«01_k».proof.Proof.Gen.PairDown
public import proofs.«01_k».proof.Proof.Gen.PairDownIdeal
public import proofs.«01_k».proof.Proof.Gen.PairDownRefIdeal
public import proofs.«01_k».proof.Proof.Gen.ExchangeRef
public import proofs.«01_k».proof.Proof.Gen.ScatterRef
public import proofs.«01_k».proof.Proof.Gen.ShareRef
public import proofs.«01_k».proof.Proof.Gen.GatherRef

@[expose] public section

noncomputable section

namespace Cert.Proof

theorem claim : Cert.Claim :=
  ⟨Cert.Exchange.Gen.facts,
    Cert.ExchangeIdeal.Gen.facts,
    Cert.ExchangeRefIdeal.Gen.facts,
    Cert.ExchangeRef.Gen.facts,
    Cert.Scatter.Gen.facts,
    Cert.ScatterIdeal.Gen.facts,
    Cert.ScatterRefIdeal.Gen.facts,
    Cert.ScatterRef.Gen.facts,
    Cert.Share.Gen.facts,
    Cert.ShareIdeal.Gen.facts,
    Cert.ShareRefIdeal.Gen.facts,
    Cert.ShareRef.Gen.facts,
    Cert.Gather.Gen.facts,
    Cert.GatherIdeal.Gen.facts,
    Cert.GatherRefIdeal.Gen.facts,
    Cert.GatherRef.Gen.facts,
    Cert.UpdateIn.Gen.facts,
    Cert.UpdateInIdeal.Gen.facts,
    Cert.UpdateInRefIdeal.Gen.facts,
    Cert.UpdateOut.Gen.facts,
    Cert.UpdateOutIdeal.Gen.facts,
    Cert.UpdateOutRefIdeal.Gen.facts,
    Cert.UpdateGate.Gen.facts,
    Cert.UpdateGateIdeal.Gen.facts,
    Cert.UpdateGateRefIdeal.Gen.facts,
    Cert.UpdateDown.Gen.facts,
    Cert.UpdateDownIdeal.Gen.facts,
    Cert.UpdateDownRefIdeal.Gen.facts,
    Cert.UpdateNorm.Gen.facts,
    Cert.UpdateNormIdeal.Gen.facts,
    Cert.UpdateNormRefIdeal.Gen.facts,
    Cert.UpdateConv.Gen.facts,
    Cert.UpdateConvIdeal.Gen.facts,
    Cert.UpdateConvRefIdeal.Gen.facts,
    Cert.UpdateGdn.Gen.facts,
    Cert.UpdateGdnIdeal.Gen.facts,
    Cert.UpdateGdnRefIdeal.Gen.facts,
    Cert.UpdateHeads.Gen.facts,
    Cert.UpdateHeadsIdeal.Gen.facts,
    Cert.UpdateHeadsRefIdeal.Gen.facts,
    Cert.SumIn.Gen.facts,
    Cert.SumInIdeal.Gen.facts,
    Cert.SumInRefIdeal.Gen.facts,
    Cert.SumOut.Gen.facts,
    Cert.SumOutIdeal.Gen.facts,
    Cert.SumOutRefIdeal.Gen.facts,
    Cert.SumGate.Gen.facts,
    Cert.SumGateIdeal.Gen.facts,
    Cert.SumGateRefIdeal.Gen.facts,
    Cert.SumDown.Gen.facts,
    Cert.SumDownIdeal.Gen.facts,
    Cert.SumDownRefIdeal.Gen.facts,
    Cert.Swiglu.Gen.facts,
    Cert.SwigluIdeal.Gen.facts,
    Cert.SwigluRefIdeal.Gen.facts,
    Cert.SwigluBack.Gen.facts,
    Cert.SwigluBackIdeal.Gen.facts,
    Cert.SwigluBackRefIdeal.Gen.facts,
    Cert.MmProj.Gen.facts,
    Cert.MmProjIdeal.Gen.facts,
    Cert.MmProjRefIdeal.Gen.facts,
    Cert.MmProjSmall.Gen.facts,
    Cert.MmProjSmallIdeal.Gen.facts,
    Cert.MmProjSmallRefIdeal.Gen.facts,
    Cert.MmGate.Gen.facts,
    Cert.MmGateIdeal.Gen.facts,
    Cert.MmGateRefIdeal.Gen.facts,
    Cert.MmOut.Gen.facts,
    Cert.MmOutIdeal.Gen.facts,
    Cert.MmOutRefIdeal.Gen.facts,
    Cert.MmDown.Gen.facts,
    Cert.MmDownIdeal.Gen.facts,
    Cert.MmDownRefIdeal.Gen.facts,
    Cert.MmDact.Gen.facts,
    Cert.MmDactIdeal.Gen.facts,
    Cert.MmDactRefIdeal.Gen.facts,
    Cert.MmHnGate.Gen.facts,
    Cert.MmHnGateIdeal.Gen.facts,
    Cert.MmHnGateRefIdeal.Gen.facts,
    Cert.MmMix.Gen.facts,
    Cert.MmMixIdeal.Gen.facts,
    Cert.MmMixRefIdeal.Gen.facts,
    Cert.MmDu.Gen.facts,
    Cert.MmDuIdeal.Gen.facts,
    Cert.MmDuRefIdeal.Gen.facts,
    Cert.MmHnUp.Gen.facts,
    Cert.MmHnUpIdeal.Gen.facts,
    Cert.MmHnUpRefIdeal.Gen.facts,
    Cert.MmDuSmall.Gen.facts,
    Cert.MmDuSmallIdeal.Gen.facts,
    Cert.MmDuSmallRefIdeal.Gen.facts,
    Cert.DwDown.Gen.facts,
    Cert.DwDownIdeal.Gen.facts,
    Cert.DwDownRefIdeal.Gen.facts,
    Cert.DwGate.Gen.facts,
    Cert.DwGateIdeal.Gen.facts,
    Cert.DwGateRefIdeal.Gen.facts,
    Cert.DwOut.Gen.facts,
    Cert.DwOutIdeal.Gen.facts,
    Cert.DwOutRefIdeal.Gen.facts,
    Cert.DwIn.Gen.facts,
    Cert.DwInIdeal.Gen.facts,
    Cert.DwInRefIdeal.Gen.facts,
    Cert.DwInSmall.Gen.facts,
    Cert.DwInSmallIdeal.Gen.facts,
    Cert.DwInSmallRefIdeal.Gen.facts,
    Cert.Rms.Gen.facts,
    Cert.RmsIdeal.Gen.facts,
    Cert.RmsRefIdeal.Gen.facts,
    Cert.RmsBack.Gen.facts,
    Cert.RmsBackIdeal.Gen.facts,
    Cert.RmsBackRefIdeal.Gen.facts,
    Cert.Loss.Gen.facts,
    Cert.LossIdeal.Gen.facts,
    Cert.LossRefIdeal.Gen.facts,
    Cert.Gates.Gen.facts,
    Cert.GatesIdeal.Gen.facts,
    Cert.GatesRefIdeal.Gen.facts,
    Cert.GatesBack.Gen.facts,
    Cert.GatesBackIdeal.Gen.facts,
    Cert.GatesBackRefIdeal.Gen.facts,
    Cert.Merge.Gen.facts,
    Cert.MergeIdeal.Gen.facts,
    Cert.MergeRefIdeal.Gen.facts,
    Cert.MergeBack.Gen.facts,
    Cert.MergeBackIdeal.Gen.facts,
    Cert.MergeBackRefIdeal.Gen.facts,
    Cert.ConvPre.Gen.facts,
    Cert.ConvPreIdeal.Gen.facts,
    Cert.ConvPreRefIdeal.Gen.facts,
    Cert.Conv.Gen.facts,
    Cert.ConvIdeal.Gen.facts,
    Cert.ConvRefIdeal.Gen.facts,
    Cert.PairOut.Gen.facts,
    Cert.PairOutIdeal.Gen.facts,
    Cert.PairOutRefIdeal.Gen.facts,
    Cert.PairIn.Gen.facts,
    Cert.PairInIdeal.Gen.facts,
    Cert.PairInRefIdeal.Gen.facts,
    Cert.PairGate.Gen.facts,
    Cert.PairGateIdeal.Gen.facts,
    Cert.PairGateRefIdeal.Gen.facts,
    Cert.PairDown.Gen.facts,
    Cert.PairDownIdeal.Gen.facts,
    Cert.PairDownRefIdeal.Gen.facts,
    Cert.Pre_a_core.Gen.facts,
    Cert.Pre_a_core_in.Gen.facts,
    Cert.Pre_a_core_gate.Gen.facts,
    Cert.Pre_a_core_down.Gen.facts,
    ExchangeProof.frame, ExchangeProof.frame_ideal, ExchangeProof.frame_ref_ideal, ExchangeProof.frame_ref,
    ScatterProof.frame, ScatterProof.frame_ideal, ScatterProof.frame_ref_ideal, ScatterProof.frame_ref,
    ShareProof.frame, ShareProof.frame_ideal, ShareProof.frame_ref_ideal, ShareProof.frame_ref,
    GatherProof.frame, GatherProof.frame_ideal, GatherProof.frame_ref_ideal, GatherProof.frame_ref,
    UpdateInProof.frame, UpdateInProof.frame_ideal, UpdateInProof.frame_ref_ideal,
    UpdateOutProof.frame, UpdateOutProof.frame_ideal, UpdateOutProof.frame_ref_ideal,
    UpdateGateProof.frame, UpdateGateProof.frame_ideal, UpdateGateProof.frame_ref_ideal,
    UpdateDownProof.frame, UpdateDownProof.frame_ideal, UpdateDownProof.frame_ref_ideal,
    UpdateNormProof.frame, UpdateNormProof.frame_ideal, UpdateNormProof.frame_ref_ideal,
    UpdateConvProof.frame, UpdateConvProof.frame_ideal, UpdateConvProof.frame_ref_ideal,
    UpdateGdnProof.frame, UpdateGdnProof.frame_ideal, UpdateGdnProof.frame_ref_ideal,
    UpdateHeadsProof.frame, UpdateHeadsProof.frame_ideal, UpdateHeadsProof.frame_ref_ideal,
    SumInProof.frame, SumInProof.frame_ideal, SumInProof.frame_ref_ideal,
    SumOutProof.frame, SumOutProof.frame_ideal, SumOutProof.frame_ref_ideal,
    SumGateProof.frame, SumGateProof.frame_ideal, SumGateProof.frame_ref_ideal,
    SumDownProof.frame, SumDownProof.frame_ideal, SumDownProof.frame_ref_ideal,
    SwigluProof.frame, SwigluProof.frame_ideal, SwigluProof.frame_ref_ideal,
    SwigluBackProof.frame, SwigluBackProof.frame_ideal, SwigluBackProof.frame_ref_ideal,
    MmProjProof.frame, MmProjProof.frame_ideal, MmProjProof.frame_ref_ideal,
    MmProjSmallProof.frame, MmProjSmallProof.frame_ideal, MmProjSmallProof.frame_ref_ideal,
    MmGateProof.frame, MmGateProof.frame_ideal, MmGateProof.frame_ref_ideal,
    MmOutProof.frame, MmOutProof.frame_ideal, MmOutProof.frame_ref_ideal,
    MmDownProof.frame, MmDownProof.frame_ideal, MmDownProof.frame_ref_ideal,
    MmDactProof.frame, MmDactProof.frame_ideal, MmDactProof.frame_ref_ideal,
    MmHnGateProof.frame, MmHnGateProof.frame_ideal, MmHnGateProof.frame_ref_ideal,
    MmMixProof.frame, MmMixProof.frame_ideal, MmMixProof.frame_ref_ideal,
    MmDuProof.frame, MmDuProof.frame_ideal, MmDuProof.frame_ref_ideal,
    MmHnUpProof.frame, MmHnUpProof.frame_ideal, MmHnUpProof.frame_ref_ideal,
    MmDuSmallProof.frame, MmDuSmallProof.frame_ideal, MmDuSmallProof.frame_ref_ideal,
    DwDownProof.frame, DwDownProof.frame_ideal, DwDownProof.frame_ref_ideal,
    DwGateProof.frame, DwGateProof.frame_ideal, DwGateProof.frame_ref_ideal,
    DwOutProof.frame, DwOutProof.frame_ideal, DwOutProof.frame_ref_ideal,
    DwInProof.frame, DwInProof.frame_ideal, DwInProof.frame_ref_ideal,
    DwInSmallProof.frame, DwInSmallProof.frame_ideal, DwInSmallProof.frame_ref_ideal,
    RmsProof.frame, RmsProof.frame_ideal, RmsProof.frame_ref_ideal,
    RmsBackProof.frame, RmsBackProof.frame_ideal, RmsBackProof.frame_ref_ideal,
    LossProof.frame, LossProof.frame_ideal, LossProof.frame_ref_ideal,
    GatesProof.frame, GatesProof.frame_ideal, GatesProof.frame_ref_ideal,
    GatesBackProof.frame, GatesBackProof.frame_ideal, GatesBackProof.frame_ref_ideal,
    MergeProof.frame, MergeProof.frame_ideal, MergeProof.frame_ref_ideal,
    MergeBackProof.frame, MergeBackProof.frame_ideal, MergeBackProof.frame_ref_ideal,
    ConvPreProof.frame, ConvPreProof.frame_ideal, ConvPreProof.frame_ref_ideal,
    ConvProof.frame, ConvProof.frame_ideal, ConvProof.frame_ref_ideal,
    PairOutProof.frame, PairOutProof.frame_ideal, PairOutProof.frame_ref_ideal, PairOutProof.frame_ref_ideal_pre,
    PairInProof.frame, PairInProof.frame_ideal, PairInProof.frame_ref_ideal, PairInProof.frame_ref_ideal_pre,
    PairGateProof.frame, PairGateProof.frame_ideal, PairGateProof.frame_ref_ideal, PairGateProof.frame_ref_ideal_pre,
    PairDownProof.frame, PairDownProof.frame_ideal, PairDownProof.frame_ref_ideal, PairDownProof.frame_ref_ideal_pre,
    ExchangeProof.preserves, ExchangeProof.bitexact, ExchangeProof.algebraic,
    ScatterProof.preserves, ScatterProof.bitexact, ScatterProof.algebraic,
    ShareProof.preserves, ShareProof.bitexact, ShareProof.algebraic,
    GatherProof.preserves, GatherProof.bitexact, GatherProof.algebraic,
    UpdateInProof.preserves, UpdateInProof.algebraic,
    UpdateOutProof.preserves, UpdateOutProof.algebraic,
    UpdateGateProof.preserves, UpdateGateProof.algebraic,
    UpdateDownProof.preserves, UpdateDownProof.algebraic,
    UpdateNormProof.preserves, UpdateNormProof.algebraic,
    UpdateConvProof.preserves, UpdateConvProof.algebraic,
    UpdateGdnProof.preserves, UpdateGdnProof.algebraic,
    UpdateHeadsProof.preserves, UpdateHeadsProof.algebraic,
    SumInProof.preserves, SumInProof.algebraic,
    SumOutProof.preserves, SumOutProof.algebraic,
    SumGateProof.preserves, SumGateProof.algebraic,
    SumDownProof.preserves, SumDownProof.algebraic,
    SwigluProof.preserves, SwigluProof.algebraic,
    SwigluBackProof.preserves, SwigluBackProof.algebraic,
    MmProjProof.preserves, MmProjProof.algebraic,
    MmProjSmallProof.preserves, MmProjSmallProof.algebraic,
    MmGateProof.preserves, MmGateProof.algebraic,
    MmOutProof.preserves, MmOutProof.algebraic,
    MmDownProof.preserves, MmDownProof.algebraic,
    MmDactProof.preserves, MmDactProof.algebraic,
    MmHnGateProof.preserves, MmHnGateProof.algebraic,
    MmMixProof.preserves, MmMixProof.algebraic,
    MmDuProof.preserves, MmDuProof.algebraic,
    MmHnUpProof.preserves, MmHnUpProof.algebraic,
    MmDuSmallProof.preserves, MmDuSmallProof.algebraic,
    DwDownProof.preserves, DwDownProof.algebraic,
    DwGateProof.preserves, DwGateProof.algebraic,
    DwOutProof.preserves, DwOutProof.algebraic,
    DwInProof.preserves, DwInProof.algebraic,
    DwInSmallProof.preserves, DwInSmallProof.algebraic,
    RmsProof.preserves, RmsProof.algebraic,
    RmsBackProof.preserves, RmsBackProof.algebraic,
    LossProof.preserves, LossProof.algebraic,
    GatesProof.preserves, GatesProof.algebraic,
    GatesBackProof.preserves, GatesBackProof.algebraic,
    MergeProof.preserves, MergeProof.algebraic,
    MergeBackProof.preserves, MergeBackProof.algebraic,
    ConvPreProof.preserves, ConvPreProof.algebraic,
    ConvProof.preserves, ConvProof.algebraic,
    PairOutProof.preserves, PairOutProof.algebraic,
    PairInProof.preserves, PairInProof.algebraic,
    PairGateProof.preserves, PairGateProof.algebraic,
    PairDownProof.preserves, PairDownProof.algebraic⟩

end Cert.Proof

end
